-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherReferenceIdeal (m : (ℓ : Loc Cert.GatherReferenceIdeal.nD Cert.GatherReferenceIdeal.τ Cert.GatherReferenceIdeal.sig) → Buf (Elt Ideal) ℓ) : Prop :=
  True

def Pre_GatherReference (m : (ℓ : Loc Cert.GatherReference.nD Cert.GatherReference.τ Cert.GatherReference.sig) → Buf (Elt Bits) ℓ) : Prop :=
  True

def Pre_UpdateAda (m : (ℓ : Loc Cert.UpdateAda.nD Cert.UpdateAda.τ Cert.UpdateAda.sig) → Buf (Elt Bits) ℓ) : Prop :=
  True

def Pre_UpdateAdaIdeal (m : (ℓ : Loc Cert.UpdateAdaIdeal.nD Cert.UpdateAdaIdeal.τ Cert.UpdateAdaIdeal.sig) → Buf (Elt Ideal) ℓ) : Prop :=
  True

def Pre_UpdatedAdaIdeal (m : (ℓ : Loc Cert.UpdatedAdaIdeal.nD Cert.UpdatedAdaIdeal.τ Cert.UpdatedAdaIdeal.sig) → Buf (Elt Ideal) ℓ) : Prop :=
  True

def Pre_UpdateSmall (m : (ℓ : Loc Cert.UpdateSmall.nD Cert.UpdateSmall.τ Cert.UpdateSmall.sig) → Buf (Elt Bits) ℓ) : Prop :=
  True

def Pre_UpdateSmallIdeal (m : (ℓ : Loc Cert.UpdateSmallIdeal.nD Cert.UpdateSmallIdeal.τ Cert.UpdateSmallIdeal.sig) → Buf (Elt Ideal) ℓ) : Prop :=
  True

def Pre_UpdatedSmallIdeal (m : (ℓ : Loc Cert.UpdatedSmallIdeal.nD Cert.UpdatedSmallIdeal.τ Cert.UpdatedSmallIdeal.sig) → Buf (Elt Ideal) ℓ) : Prop :=
  True

def Pre_UpdateIn (m : (ℓ : Loc Cert.UpdateIn.nD Cert.UpdateIn.τ Cert.UpdateIn.sig) → Buf (Elt Bits) ℓ) : Prop :=
  True

def Pre_UpdateInIdeal (m : (ℓ : Loc Cert.UpdateInIdeal.nD Cert.UpdateInIdeal.τ Cert.UpdateInIdeal.sig) → Buf (Elt Ideal) ℓ) : Prop :=
  True

def Pre_UpdatedInIdeal (m : (ℓ : Loc Cert.UpdatedInIdeal.nD Cert.UpdatedInIdeal.τ Cert.UpdatedInIdeal.sig) → Buf (Elt Ideal) ℓ) : Prop :=
  True

def Pre_UpdateBranch (m : (ℓ : Loc Cert.UpdateBranch.nD Cert.UpdateBranch.τ Cert.UpdateBranch.sig) → Buf (Elt Bits) ℓ) : Prop :=
  True

def Pre_UpdateBranchIdeal (m : (ℓ : Loc Cert.UpdateBranchIdeal.nD Cert.UpdateBranchIdeal.τ Cert.UpdateBranchIdeal.sig) → Buf (Elt Ideal) ℓ) : Prop :=
  True

def Pre_UpdatedBranchIdeal (m : (ℓ : Loc Cert.UpdatedBranchIdeal.nD Cert.UpdatedBranchIdeal.τ Cert.UpdatedBranchIdeal.sig) → Buf (Elt Ideal) ℓ) : Prop :=
  True

def Pre_UpdateOut (m : (ℓ : Loc Cert.UpdateOut.nD Cert.UpdateOut.τ Cert.UpdateOut.sig) → Buf (Elt Bits) ℓ) : Prop :=
  True

def Pre_UpdateOutIdeal (m : (ℓ : Loc Cert.UpdateOutIdeal.nD Cert.UpdateOutIdeal.τ Cert.UpdateOutIdeal.sig) → Buf (Elt Ideal) ℓ) : Prop :=
  True

def Pre_UpdatedOutIdeal (m : (ℓ : Loc Cert.UpdatedOutIdeal.nD Cert.UpdatedOutIdeal.τ Cert.UpdatedOutIdeal.sig) → Buf (Elt Ideal) ℓ) : Prop :=
  True

def Pre_UpdateFfnIn (m : (ℓ : Loc Cert.UpdateFfnIn.nD Cert.UpdateFfnIn.τ Cert.UpdateFfnIn.sig) → Buf (Elt Bits) ℓ) : Prop :=
  True

def Pre_UpdateFfnInIdeal (m : (ℓ : Loc Cert.UpdateFfnInIdeal.nD Cert.UpdateFfnInIdeal.τ Cert.UpdateFfnInIdeal.sig) → Buf (Elt Ideal) ℓ) : Prop :=
  True

def Pre_UpdatedFfnInIdeal (m : (ℓ : Loc Cert.UpdatedFfnInIdeal.nD Cert.UpdatedFfnInIdeal.τ Cert.UpdatedFfnInIdeal.sig) → Buf (Elt Ideal) ℓ) : Prop :=
  True

def Pre_UpdateFfnOut (m : (ℓ : Loc Cert.UpdateFfnOut.nD Cert.UpdateFfnOut.τ Cert.UpdateFfnOut.sig) → Buf (Elt Bits) ℓ) : Prop :=
  True

def Pre_UpdateFfnOutIdeal (m : (ℓ : Loc Cert.UpdateFfnOutIdeal.nD Cert.UpdateFfnOutIdeal.τ Cert.UpdateFfnOutIdeal.sig) → Buf (Elt Ideal) ℓ) : Prop :=
  True

def Pre_UpdatedFfnOutIdeal (m : (ℓ : Loc Cert.UpdatedFfnOutIdeal.nD Cert.UpdatedFfnOutIdeal.τ Cert.UpdatedFfnOutIdeal.sig) → Buf (Elt Ideal) ℓ) : Prop :=
  True

def Pre_Prenorm (m : (ℓ : Loc Cert.Prenorm.nD Cert.Prenorm.τ Cert.Prenorm.sig) → Buf (Elt Bits) ℓ) : Prop :=
  True

def Pre_PrenormIdeal (m : (ℓ : Loc Cert.PrenormIdeal.nD Cert.PrenormIdeal.τ Cert.PrenormIdeal.sig) → Buf (Elt Ideal) ℓ) : Prop :=
  True

def Pre_PrenormedIdeal (m : (ℓ : Loc Cert.PrenormedIdeal.nD Cert.PrenormedIdeal.τ Cert.PrenormedIdeal.sig) → Buf (Elt Ideal) ℓ) : Prop :=
  True

def Pre_PrenormFwd (m : (ℓ : Loc Cert.PrenormFwd.nD Cert.PrenormFwd.τ Cert.PrenormFwd.sig) → Buf (Elt Bits) ℓ) : Prop :=
  True

def Pre_PrenormFwdIdeal (m : (ℓ : Loc Cert.PrenormFwdIdeal.nD Cert.PrenormFwdIdeal.τ Cert.PrenormFwdIdeal.sig) → Buf (Elt Ideal) ℓ) : Prop :=
  True

def Pre_PrenormedFwdIdeal (m : (ℓ : Loc Cert.PrenormedFwdIdeal.nD Cert.PrenormedFwdIdeal.τ Cert.PrenormedFwdIdeal.sig) → Buf (Elt Ideal) ℓ) : Prop :=
  True

def Pre_Postnorm (m : (ℓ : Loc Cert.Postnorm.nD Cert.Postnorm.τ Cert.Postnorm.sig) → Buf (Elt Bits) ℓ) : Prop :=
  True

def Pre_PostnormIdeal (m : (ℓ : Loc Cert.PostnormIdeal.nD Cert.PostnormIdeal.τ Cert.PostnormIdeal.sig) → Buf (Elt Ideal) ℓ) : Prop :=
  True

def Pre_PostnormedIdeal (m : (ℓ : Loc Cert.PostnormedIdeal.nD Cert.PostnormedIdeal.τ Cert.PostnormedIdeal.sig) → Buf (Elt Ideal) ℓ) : Prop :=
  True

def Pre_PostnormBwd (m : (ℓ : Loc Cert.PostnormBwd.nD Cert.PostnormBwd.τ Cert.PostnormBwd.sig) → Buf (Elt Bits) ℓ) : Prop :=
  True

def Pre_PostnormBwdIdeal (m : (ℓ : Loc Cert.PostnormBwdIdeal.nD Cert.PostnormBwdIdeal.τ Cert.PostnormBwdIdeal.sig) → Buf (Elt Ideal) ℓ) : Prop :=
  True

def Pre_PostnormedBwdIdeal (m : (ℓ : Loc Cert.PostnormedBwdIdeal.nD Cert.PostnormedBwdIdeal.τ Cert.PostnormedBwdIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LostIdeal (m : (ℓ : Loc Cert.LostIdeal.nD Cert.LostIdeal.τ Cert.LostIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnedIdeal (m : (ℓ : Loc Cert.FfnedIdeal.nD Cert.FfnedIdeal.τ Cert.FfnedIdeal.sig) → Buf (Elt Ideal) ℓ) : Prop :=
  True

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnedBwdIdeal (m : (ℓ : Loc Cert.FfnedBwdIdeal.nD Cert.FfnedBwdIdeal.τ Cert.FfnedBwdIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixedIdeal (m : (ℓ : Loc Cert.MixedIdeal.nD Cert.MixedIdeal.τ Cert.MixedIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjectedIdeal (m : (ℓ : Loc Cert.ProjectedIdeal.nD Cert.ProjectedIdeal.τ Cert.ProjectedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2)
      ∧ r.2.mem ((c.tc : Thread Cert.Gather.nD Cert.Gather.τ).loc Cert.Gather.main_arg3) = m ((c.tc : Thread Cert.Gather.nD Cert.Gather.τ).loc Cert.Gather.main_arg3)
      ∧ r.2.mem ((c.tc : Thread Cert.Gather.nD Cert.Gather.τ).loc Cert.Gather.main_arg4) = m ((c.tc : Thread Cert.Gather.nD Cert.Gather.τ).loc Cert.Gather.main_arg4)
      ∧ r.2.mem ((c.tc : Thread Cert.Gather.nD Cert.Gather.τ).loc Cert.Gather.main_arg5) = m ((c.tc : Thread Cert.Gather.nD Cert.Gather.τ).loc Cert.Gather.main_arg5))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
      ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
      ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4)
      ∧ r.2.mem ((c.tc : Thread Cert.GatherIdeal.nD Cert.GatherIdeal.τ).loc Cert.GatherIdeal.main_arg5) = m ((c.tc : Thread Cert.GatherIdeal.nD Cert.GatherIdeal.τ).loc Cert.GatherIdeal.main_arg5))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1)
      ∧ r.2.mem ((c.tc : Thread Cert.GatherReferenceIdeal.nD Cert.GatherReferenceIdeal.τ).loc Cert.GatherReferenceIdeal.main_arg2) = m ((c.tc : Thread Cert.GatherReferenceIdeal.nD Cert.GatherReferenceIdeal.τ).loc Cert.GatherReferenceIdeal.main_arg2)
      ∧ r.2.mem ((c.tc : Thread Cert.GatherReferenceIdeal.nD Cert.GatherReferenceIdeal.τ).loc Cert.GatherReferenceIdeal.main_arg3) = m ((c.tc : Thread Cert.GatherReferenceIdeal.nD Cert.GatherReferenceIdeal.τ).loc Cert.GatherReferenceIdeal.main_arg3)
      ∧ r.2.mem ((c.tc : Thread Cert.GatherReferenceIdeal.nD Cert.GatherReferenceIdeal.τ).loc Cert.GatherReferenceIdeal.main_arg4) = m ((c.tc : Thread Cert.GatherReferenceIdeal.nD Cert.GatherReferenceIdeal.τ).loc Cert.GatherReferenceIdeal.main_arg4)
      ∧ r.2.mem ((c.tc : Thread Cert.GatherReferenceIdeal.nD Cert.GatherReferenceIdeal.τ).loc Cert.GatherReferenceIdeal.main_arg5) = m ((c.tc : Thread Cert.GatherReferenceIdeal.nD Cert.GatherReferenceIdeal.τ).loc Cert.GatherReferenceIdeal.main_arg5))
      ∧ r.2.sem = fun _ => 0)

def quiescent_GatherReference [hGatherReference : Cert.GatherReference.Facts] : Prop :=
  ∀ (m : (ℓ : Loc Cert.GatherReference.nD Cert.GatherReference.τ Cert.GatherReference.sig) → Buf (Elt Bits) ℓ) (g : Dev Cert.GatherReference.nD → PrngReg), Pre_GatherReference m →
    θ_run (Cert.GatherReference.defs (F := Bits)) (onTc (τ := Cert.GatherReference.τ) (Cert.GatherReference.main (F := Bits))) ⟨m, fun _ => 0, g⟩ (fun r => (∀ c : Dev Cert.GatherReference.nD,
      r.2.mem ((c.tc : Thread Cert.GatherReference.nD Cert.GatherReference.τ).loc Cert.GatherReference.main_arg0) = m ((c.tc : Thread Cert.GatherReference.nD Cert.GatherReference.τ).loc Cert.GatherReference.main_arg0)
      ∧ r.2.mem ((c.tc : Thread Cert.GatherReference.nD Cert.GatherReference.τ).loc Cert.GatherReference.main_arg1) = m ((c.tc : Thread Cert.GatherReference.nD Cert.GatherReference.τ).loc Cert.GatherReference.main_arg1)
      ∧ r.2.mem ((c.tc : Thread Cert.GatherReference.nD Cert.GatherReference.τ).loc Cert.GatherReference.main_arg2) = m ((c.tc : Thread Cert.GatherReference.nD Cert.GatherReference.τ).loc Cert.GatherReference.main_arg2)
      ∧ r.2.mem ((c.tc : Thread Cert.GatherReference.nD Cert.GatherReference.τ).loc Cert.GatherReference.main_arg3) = m ((c.tc : Thread Cert.GatherReference.nD Cert.GatherReference.τ).loc Cert.GatherReference.main_arg3)
      ∧ r.2.mem ((c.tc : Thread Cert.GatherReference.nD Cert.GatherReference.τ).loc Cert.GatherReference.main_arg4) = m ((c.tc : Thread Cert.GatherReference.nD Cert.GatherReference.τ).loc Cert.GatherReference.main_arg4)
      ∧ r.2.mem ((c.tc : Thread Cert.GatherReference.nD Cert.GatherReference.τ).loc Cert.GatherReference.main_arg5) = m ((c.tc : Thread Cert.GatherReference.nD Cert.GatherReference.τ).loc Cert.GatherReference.main_arg5))
      ∧ r.2.sem = fun _ => 0)

def quiescent_UpdateAda [hUpdateAda : Cert.UpdateAda.Facts] : Prop :=
  ∀ (m : (ℓ : Loc Cert.UpdateAda.nD Cert.UpdateAda.τ Cert.UpdateAda.sig) → Buf (Elt Bits) ℓ) (g : Dev Cert.UpdateAda.nD → PrngReg), Pre_UpdateAda m →
    θ_run (Cert.UpdateAda.defs (F := Bits)) (onTc (τ := Cert.UpdateAda.τ) (Cert.UpdateAda.main (F := Bits))) ⟨m, fun _ => 0, g⟩ (fun r => (∀ c : Dev Cert.UpdateAda.nD,
      r.2.mem ((c.tc : Thread Cert.UpdateAda.nD Cert.UpdateAda.τ).loc Cert.UpdateAda.main_arg0) = m ((c.tc : Thread Cert.UpdateAda.nD Cert.UpdateAda.τ).loc Cert.UpdateAda.main_arg0)
      ∧ r.2.mem ((c.tc : Thread Cert.UpdateAda.nD Cert.UpdateAda.τ).loc Cert.UpdateAda.main_arg1) = m ((c.tc : Thread Cert.UpdateAda.nD Cert.UpdateAda.τ).loc Cert.UpdateAda.main_arg1)
      ∧ r.2.mem ((c.tc : Thread Cert.UpdateAda.nD Cert.UpdateAda.τ).loc Cert.UpdateAda.main_arg2) = m ((c.tc : Thread Cert.UpdateAda.nD Cert.UpdateAda.τ).loc Cert.UpdateAda.main_arg2)
      ∧ r.2.mem ((c.tc : Thread Cert.UpdateAda.nD Cert.UpdateAda.τ).loc Cert.UpdateAda.main_arg3) = m ((c.tc : Thread Cert.UpdateAda.nD Cert.UpdateAda.τ).loc Cert.UpdateAda.main_arg3))
      ∧ r.2.sem = fun _ => 0)

def quiescent_UpdateAdaIdeal [hUpdateAdaIdeal : Cert.UpdateAdaIdeal.Facts] : Prop :=
  ∀ (m : (ℓ : Loc Cert.UpdateAdaIdeal.nD Cert.UpdateAdaIdeal.τ Cert.UpdateAdaIdeal.sig) → Buf (Elt Ideal) ℓ) (g : Dev Cert.UpdateAdaIdeal.nD → PrngReg), Pre_UpdateAdaIdeal m →
    θ_run (Cert.UpdateAdaIdeal.defs (F := Ideal)) (onTc (τ := Cert.UpdateAdaIdeal.τ) (Cert.UpdateAdaIdeal.main (F := Ideal))) ⟨m, fun _ => 0, g⟩ (fun r => (∀ c : Dev Cert.UpdateAdaIdeal.nD,
      r.2.mem ((c.tc : Thread Cert.UpdateAdaIdeal.nD Cert.UpdateAdaIdeal.τ).loc Cert.UpdateAdaIdeal.main_arg0) = m ((c.tc : Thread Cert.UpdateAdaIdeal.nD Cert.UpdateAdaIdeal.τ).loc Cert.UpdateAdaIdeal.main_arg0)
      ∧ r.2.mem ((c.tc : Thread Cert.UpdateAdaIdeal.nD Cert.UpdateAdaIdeal.τ).loc Cert.UpdateAdaIdeal.main_arg1) = m ((c.tc : Thread Cert.UpdateAdaIdeal.nD Cert.UpdateAdaIdeal.τ).loc Cert.UpdateAdaIdeal.main_arg1)
      ∧ r.2.mem ((c.tc : Thread Cert.UpdateAdaIdeal.nD Cert.UpdateAdaIdeal.τ).loc Cert.UpdateAdaIdeal.main_arg2) = m ((c.tc : Thread Cert.UpdateAdaIdeal.nD Cert.UpdateAdaIdeal.τ).loc Cert.UpdateAdaIdeal.main_arg2)
      ∧ r.2.mem ((c.tc : Thread Cert.UpdateAdaIdeal.nD Cert.UpdateAdaIdeal.τ).loc Cert.UpdateAdaIdeal.main_arg3) = m ((c.tc : Thread Cert.UpdateAdaIdeal.nD Cert.UpdateAdaIdeal.τ).loc Cert.UpdateAdaIdeal.main_arg3))
      ∧ r.2.sem = fun _ => 0)

def quiescent_UpdatedAdaIdeal [hUpdatedAdaIdeal : Cert.UpdatedAdaIdeal.Facts] : Prop :=
  ∀ (m : (ℓ : Loc Cert.UpdatedAdaIdeal.nD Cert.UpdatedAdaIdeal.τ Cert.UpdatedAdaIdeal.sig) → Buf (Elt Ideal) ℓ) (g : Dev Cert.UpdatedAdaIdeal.nD → PrngReg), Pre_UpdatedAdaIdeal m →
    θ_run (Cert.UpdatedAdaIdeal.defs (F := Ideal)) (onTc (τ := Cert.UpdatedAdaIdeal.τ) (Cert.UpdatedAdaIdeal.main (F := Ideal))) ⟨m, fun _ => 0, g⟩ (fun r => (∀ c : Dev Cert.UpdatedAdaIdeal.nD,
      r.2.mem ((c.tc : Thread Cert.UpdatedAdaIdeal.nD Cert.UpdatedAdaIdeal.τ).loc Cert.UpdatedAdaIdeal.main_arg0) = m ((c.tc : Thread Cert.UpdatedAdaIdeal.nD Cert.UpdatedAdaIdeal.τ).loc Cert.UpdatedAdaIdeal.main_arg0)
      ∧ r.2.mem ((c.tc : Thread Cert.UpdatedAdaIdeal.nD Cert.UpdatedAdaIdeal.τ).loc Cert.UpdatedAdaIdeal.main_arg1) = m ((c.tc : Thread Cert.UpdatedAdaIdeal.nD Cert.UpdatedAdaIdeal.τ).loc Cert.UpdatedAdaIdeal.main_arg1)
      ∧ r.2.mem ((c.tc : Thread Cert.UpdatedAdaIdeal.nD Cert.UpdatedAdaIdeal.τ).loc Cert.UpdatedAdaIdeal.main_arg2) = m ((c.tc : Thread Cert.UpdatedAdaIdeal.nD Cert.UpdatedAdaIdeal.τ).loc Cert.UpdatedAdaIdeal.main_arg2)
      ∧ r.2.mem ((c.tc : Thread Cert.UpdatedAdaIdeal.nD Cert.UpdatedAdaIdeal.τ).loc Cert.UpdatedAdaIdeal.main_arg3) = m ((c.tc : Thread Cert.UpdatedAdaIdeal.nD Cert.UpdatedAdaIdeal.τ).loc Cert.UpdatedAdaIdeal.main_arg3))
      ∧ r.2.sem = fun _ => 0)

def quiescent_UpdateSmall [hUpdateSmall : Cert.UpdateSmall.Facts] : Prop :=
  ∀ (m : (ℓ : Loc Cert.UpdateSmall.nD Cert.UpdateSmall.τ Cert.UpdateSmall.sig) → Buf (Elt Bits) ℓ) (g : Dev Cert.UpdateSmall.nD → PrngReg), Pre_UpdateSmall m →
    θ_run (Cert.UpdateSmall.defs (F := Bits)) (onTc (τ := Cert.UpdateSmall.τ) (Cert.UpdateSmall.main (F := Bits))) ⟨m, fun _ => 0, g⟩ (fun r => (∀ c : Dev Cert.UpdateSmall.nD,
      r.2.mem ((c.tc : Thread Cert.UpdateSmall.nD Cert.UpdateSmall.τ).loc Cert.UpdateSmall.main_arg0) = m ((c.tc : Thread Cert.UpdateSmall.nD Cert.UpdateSmall.τ).loc Cert.UpdateSmall.main_arg0)
      ∧ r.2.mem ((c.tc : Thread Cert.UpdateSmall.nD Cert.UpdateSmall.τ).loc Cert.UpdateSmall.main_arg1) = m ((c.tc : Thread Cert.UpdateSmall.nD Cert.UpdateSmall.τ).loc Cert.UpdateSmall.main_arg1)
      ∧ r.2.mem ((c.tc : Thread Cert.UpdateSmall.nD Cert.UpdateSmall.τ).loc Cert.UpdateSmall.main_arg2) = m ((c.tc : Thread Cert.UpdateSmall.nD Cert.UpdateSmall.τ).loc Cert.UpdateSmall.main_arg2)
      ∧ r.2.mem ((c.tc : Thread Cert.UpdateSmall.nD Cert.UpdateSmall.τ).loc Cert.UpdateSmall.main_arg3) = m ((c.tc : Thread Cert.UpdateSmall.nD Cert.UpdateSmall.τ).loc Cert.UpdateSmall.main_arg3))
      ∧ r.2.sem = fun _ => 0)

def quiescent_UpdateSmallIdeal [hUpdateSmallIdeal : Cert.UpdateSmallIdeal.Facts] : Prop :=
  ∀ (m : (ℓ : Loc Cert.UpdateSmallIdeal.nD Cert.UpdateSmallIdeal.τ Cert.UpdateSmallIdeal.sig) → Buf (Elt Ideal) ℓ) (g : Dev Cert.UpdateSmallIdeal.nD → PrngReg), Pre_UpdateSmallIdeal m →
    θ_run (Cert.UpdateSmallIdeal.defs (F := Ideal)) (onTc (τ := Cert.UpdateSmallIdeal.τ) (Cert.UpdateSmallIdeal.main (F := Ideal))) ⟨m, fun _ => 0, g⟩ (fun r => (∀ c : Dev Cert.UpdateSmallIdeal.nD,
      r.2.mem ((c.tc : Thread Cert.UpdateSmallIdeal.nD Cert.UpdateSmallIdeal.τ).loc Cert.UpdateSmallIdeal.main_arg0) = m ((c.tc : Thread Cert.UpdateSmallIdeal.nD Cert.UpdateSmallIdeal.τ).loc Cert.UpdateSmallIdeal.main_arg0)
      ∧ r.2.mem ((c.tc : Thread Cert.UpdateSmallIdeal.nD Cert.UpdateSmallIdeal.τ).loc Cert.UpdateSmallIdeal.main_arg1) = m ((c.tc : Thread Cert.UpdateSmallIdeal.nD Cert.UpdateSmallIdeal.τ).loc Cert.UpdateSmallIdeal.main_arg1)
      ∧ r.2.mem ((c.tc : Thread Cert.UpdateSmallIdeal.nD Cert.UpdateSmallIdeal.τ).loc Cert.UpdateSmallIdeal.main_arg2) = m ((c.tc : Thread Cert.UpdateSmallIdeal.nD Cert.UpdateSmallIdeal.τ).loc Cert.UpdateSmallIdeal.main_arg2)
      ∧ r.2.mem ((c.tc : Thread Cert.UpdateSmallIdeal.nD Cert.UpdateSmallIdeal.τ).loc Cert.UpdateSmallIdeal.main_arg3) = m ((c.tc : Thread Cert.UpdateSmallIdeal.nD Cert.UpdateSmallIdeal.τ).loc Cert.UpdateSmallIdeal.main_arg3))
      ∧ r.2.sem = fun _ => 0)

def quiescent_UpdatedSmallIdeal [hUpdatedSmallIdeal : Cert.UpdatedSmallIdeal.Facts] : Prop :=
  ∀ (m : (ℓ : Loc Cert.UpdatedSmallIdeal.nD Cert.UpdatedSmallIdeal.τ Cert.UpdatedSmallIdeal.sig) → Buf (Elt Ideal) ℓ) (g : Dev Cert.UpdatedSmallIdeal.nD → PrngReg), Pre_UpdatedSmallIdeal m →
    θ_run (Cert.UpdatedSmallIdeal.defs (F := Ideal)) (onTc (τ := Cert.UpdatedSmallIdeal.τ) (Cert.UpdatedSmallIdeal.main (F := Ideal))) ⟨m, fun _ => 0, g⟩ (fun r => (∀ c : Dev Cert.UpdatedSmallIdeal.nD,
      r.2.mem ((c.tc : Thread Cert.UpdatedSmallIdeal.nD Cert.UpdatedSmallIdeal.τ).loc Cert.UpdatedSmallIdeal.main_arg0) = m ((c.tc : Thread Cert.UpdatedSmallIdeal.nD Cert.UpdatedSmallIdeal.τ).loc Cert.UpdatedSmallIdeal.main_arg0)
      ∧ r.2.mem ((c.tc : Thread Cert.UpdatedSmallIdeal.nD Cert.UpdatedSmallIdeal.τ).loc Cert.UpdatedSmallIdeal.main_arg1) = m ((c.tc : Thread Cert.UpdatedSmallIdeal.nD Cert.UpdatedSmallIdeal.τ).loc Cert.UpdatedSmallIdeal.main_arg1)
      ∧ r.2.mem ((c.tc : Thread Cert.UpdatedSmallIdeal.nD Cert.UpdatedSmallIdeal.τ).loc Cert.UpdatedSmallIdeal.main_arg2) = m ((c.tc : Thread Cert.UpdatedSmallIdeal.nD Cert.UpdatedSmallIdeal.τ).loc Cert.UpdatedSmallIdeal.main_arg2)
      ∧ r.2.mem ((c.tc : Thread Cert.UpdatedSmallIdeal.nD Cert.UpdatedSmallIdeal.τ).loc Cert.UpdatedSmallIdeal.main_arg3) = m ((c.tc : Thread Cert.UpdatedSmallIdeal.nD Cert.UpdatedSmallIdeal.τ).loc Cert.UpdatedSmallIdeal.main_arg3))
      ∧ r.2.sem = fun _ => 0)

def quiescent_UpdateIn [hUpdateIn : Cert.UpdateIn.Facts] : Prop :=
  ∀ (m : (ℓ : Loc Cert.UpdateIn.nD Cert.UpdateIn.τ Cert.UpdateIn.sig) → Buf (Elt Bits) ℓ) (g : Dev Cert.UpdateIn.nD → PrngReg), Pre_UpdateIn m →
    θ_run (Cert.UpdateIn.defs (F := Bits)) (onTc (τ := Cert.UpdateIn.τ) (Cert.UpdateIn.main (F := Bits))) ⟨m, fun _ => 0, g⟩ (fun r => (∀ c : Dev Cert.UpdateIn.nD,
      r.2.mem ((c.tc : Thread Cert.UpdateIn.nD Cert.UpdateIn.τ).loc Cert.UpdateIn.main_arg0) = m ((c.tc : Thread Cert.UpdateIn.nD Cert.UpdateIn.τ).loc Cert.UpdateIn.main_arg0)
      ∧ r.2.mem ((c.tc : Thread Cert.UpdateIn.nD Cert.UpdateIn.τ).loc Cert.UpdateIn.main_arg1) = m ((c.tc : Thread Cert.UpdateIn.nD Cert.UpdateIn.τ).loc Cert.UpdateIn.main_arg1)
      ∧ r.2.mem ((c.tc : Thread Cert.UpdateIn.nD Cert.UpdateIn.τ).loc Cert.UpdateIn.main_arg2) = m ((c.tc : Thread Cert.UpdateIn.nD Cert.UpdateIn.τ).loc Cert.UpdateIn.main_arg2)
      ∧ r.2.mem ((c.tc : Thread Cert.UpdateIn.nD Cert.UpdateIn.τ).loc Cert.UpdateIn.main_arg3) = m ((c.tc : Thread Cert.UpdateIn.nD Cert.UpdateIn.τ).loc Cert.UpdateIn.main_arg3))
      ∧ r.2.sem = fun _ => 0)

def quiescent_UpdateInIdeal [hUpdateInIdeal : Cert.UpdateInIdeal.Facts] : Prop :=
  ∀ (m : (ℓ : Loc Cert.UpdateInIdeal.nD Cert.UpdateInIdeal.τ Cert.UpdateInIdeal.sig) → Buf (Elt Ideal) ℓ) (g : Dev Cert.UpdateInIdeal.nD → PrngReg), Pre_UpdateInIdeal m →
    θ_run (Cert.UpdateInIdeal.defs (F := Ideal)) (onTc (τ := Cert.UpdateInIdeal.τ) (Cert.UpdateInIdeal.main (F := Ideal))) ⟨m, fun _ => 0, g⟩ (fun r => (∀ c : Dev Cert.UpdateInIdeal.nD,
      r.2.mem ((c.tc : Thread Cert.UpdateInIdeal.nD Cert.UpdateInIdeal.τ).loc Cert.UpdateInIdeal.main_arg0) = m ((c.tc : Thread Cert.UpdateInIdeal.nD Cert.UpdateInIdeal.τ).loc Cert.UpdateInIdeal.main_arg0)
      ∧ r.2.mem ((c.tc : Thread Cert.UpdateInIdeal.nD Cert.UpdateInIdeal.τ).loc Cert.UpdateInIdeal.main_arg1) = m ((c.tc : Thread Cert.UpdateInIdeal.nD Cert.UpdateInIdeal.τ).loc Cert.UpdateInIdeal.main_arg1)
      ∧ r.2.mem ((c.tc : Thread Cert.UpdateInIdeal.nD Cert.UpdateInIdeal.τ).loc Cert.UpdateInIdeal.main_arg2) = m ((c.tc : Thread Cert.UpdateInIdeal.nD Cert.UpdateInIdeal.τ).loc Cert.UpdateInIdeal.main_arg2)
      ∧ r.2.mem ((c.tc : Thread Cert.UpdateInIdeal.nD Cert.UpdateInIdeal.τ).loc Cert.UpdateInIdeal.main_arg3) = m ((c.tc : Thread Cert.UpdateInIdeal.nD Cert.UpdateInIdeal.τ).loc Cert.UpdateInIdeal.main_arg3))
      ∧ r.2.sem = fun _ => 0)

def quiescent_UpdatedInIdeal [hUpdatedInIdeal : Cert.UpdatedInIdeal.Facts] : Prop :=
  ∀ (m : (ℓ : Loc Cert.UpdatedInIdeal.nD Cert.UpdatedInIdeal.τ Cert.UpdatedInIdeal.sig) → Buf (Elt Ideal) ℓ) (g : Dev Cert.UpdatedInIdeal.nD → PrngReg), Pre_UpdatedInIdeal m →
    θ_run (Cert.UpdatedInIdeal.defs (F := Ideal)) (onTc (τ := Cert.UpdatedInIdeal.τ) (Cert.UpdatedInIdeal.main (F := Ideal))) ⟨m, fun _ => 0, g⟩ (fun r => (∀ c : Dev Cert.UpdatedInIdeal.nD,
      r.2.mem ((c.tc : Thread Cert.UpdatedInIdeal.nD Cert.UpdatedInIdeal.τ).loc Cert.UpdatedInIdeal.main_arg0) = m ((c.tc : Thread Cert.UpdatedInIdeal.nD Cert.UpdatedInIdeal.τ).loc Cert.UpdatedInIdeal.main_arg0)
      ∧ r.2.mem ((c.tc : Thread Cert.UpdatedInIdeal.nD Cert.UpdatedInIdeal.τ).loc Cert.UpdatedInIdeal.main_arg1) = m ((c.tc : Thread Cert.UpdatedInIdeal.nD Cert.UpdatedInIdeal.τ).loc Cert.UpdatedInIdeal.main_arg1)
      ∧ r.2.mem ((c.tc : Thread Cert.UpdatedInIdeal.nD Cert.UpdatedInIdeal.τ).loc Cert.UpdatedInIdeal.main_arg2) = m ((c.tc : Thread Cert.UpdatedInIdeal.nD Cert.UpdatedInIdeal.τ).loc Cert.UpdatedInIdeal.main_arg2)
      ∧ r.2.mem ((c.tc : Thread Cert.UpdatedInIdeal.nD Cert.UpdatedInIdeal.τ).loc Cert.UpdatedInIdeal.main_arg3) = m ((c.tc : Thread Cert.UpdatedInIdeal.nD Cert.UpdatedInIdeal.τ).loc Cert.UpdatedInIdeal.main_arg3))
      ∧ r.2.sem = fun _ => 0)

def quiescent_UpdateBranch [hUpdateBranch : Cert.UpdateBranch.Facts] : Prop :=
  ∀ (m : (ℓ : Loc Cert.UpdateBranch.nD Cert.UpdateBranch.τ Cert.UpdateBranch.sig) → Buf (Elt Bits) ℓ) (g : Dev Cert.UpdateBranch.nD → PrngReg), Pre_UpdateBranch m →
    θ_run (Cert.UpdateBranch.defs (F := Bits)) (onTc (τ := Cert.UpdateBranch.τ) (Cert.UpdateBranch.main (F := Bits))) ⟨m, fun _ => 0, g⟩ (fun r => (∀ c : Dev Cert.UpdateBranch.nD,
      r.2.mem ((c.tc : Thread Cert.UpdateBranch.nD Cert.UpdateBranch.τ).loc Cert.UpdateBranch.main_arg0) = m ((c.tc : Thread Cert.UpdateBranch.nD Cert.UpdateBranch.τ).loc Cert.UpdateBranch.main_arg0)
      ∧ r.2.mem ((c.tc : Thread Cert.UpdateBranch.nD Cert.UpdateBranch.τ).loc Cert.UpdateBranch.main_arg1) = m ((c.tc : Thread Cert.UpdateBranch.nD Cert.UpdateBranch.τ).loc Cert.UpdateBranch.main_arg1)
      ∧ r.2.mem ((c.tc : Thread Cert.UpdateBranch.nD Cert.UpdateBranch.τ).loc Cert.UpdateBranch.main_arg2) = m ((c.tc : Thread Cert.UpdateBranch.nD Cert.UpdateBranch.τ).loc Cert.UpdateBranch.main_arg2)
      ∧ r.2.mem ((c.tc : Thread Cert.UpdateBranch.nD Cert.UpdateBranch.τ).loc Cert.UpdateBranch.main_arg3) = m ((c.tc : Thread Cert.UpdateBranch.nD Cert.UpdateBranch.τ).loc Cert.UpdateBranch.main_arg3))
      ∧ r.2.sem = fun _ => 0)

def quiescent_UpdateBranchIdeal [hUpdateBranchIdeal : Cert.UpdateBranchIdeal.Facts] : Prop :=
  ∀ (m : (ℓ : Loc Cert.UpdateBranchIdeal.nD Cert.UpdateBranchIdeal.τ Cert.UpdateBranchIdeal.sig) → Buf (Elt Ideal) ℓ) (g : Dev Cert.UpdateBranchIdeal.nD → PrngReg), Pre_UpdateBranchIdeal m →
    θ_run (Cert.UpdateBranchIdeal.defs (F := Ideal)) (onTc (τ := Cert.UpdateBranchIdeal.τ) (Cert.UpdateBranchIdeal.main (F := Ideal))) ⟨m, fun _ => 0, g⟩ (fun r => (∀ c : Dev Cert.UpdateBranchIdeal.nD,
      r.2.mem ((c.tc : Thread Cert.UpdateBranchIdeal.nD Cert.UpdateBranchIdeal.τ).loc Cert.UpdateBranchIdeal.main_arg0) = m ((c.tc : Thread Cert.UpdateBranchIdeal.nD Cert.UpdateBranchIdeal.τ).loc Cert.UpdateBranchIdeal.main_arg0)
      ∧ r.2.mem ((c.tc : Thread Cert.UpdateBranchIdeal.nD Cert.UpdateBranchIdeal.τ).loc Cert.UpdateBranchIdeal.main_arg1) = m ((c.tc : Thread Cert.UpdateBranchIdeal.nD Cert.UpdateBranchIdeal.τ).loc Cert.UpdateBranchIdeal.main_arg1)
      ∧ r.2.mem ((c.tc : Thread Cert.UpdateBranchIdeal.nD Cert.UpdateBranchIdeal.τ).loc Cert.UpdateBranchIdeal.main_arg2) = m ((c.tc : Thread Cert.UpdateBranchIdeal.nD Cert.UpdateBranchIdeal.τ).loc Cert.UpdateBranchIdeal.main_arg2)
      ∧ r.2.mem ((c.tc : Thread Cert.UpdateBranchIdeal.nD Cert.UpdateBranchIdeal.τ).loc Cert.UpdateBranchIdeal.main_arg3) = m ((c.tc : Thread Cert.UpdateBranchIdeal.nD Cert.UpdateBranchIdeal.τ).loc Cert.UpdateBranchIdeal.main_arg3))
      ∧ r.2.sem = fun _ => 0)

def quiescent_UpdatedBranchIdeal [hUpdatedBranchIdeal : Cert.UpdatedBranchIdeal.Facts] : Prop :=
  ∀ (m : (ℓ : Loc Cert.UpdatedBranchIdeal.nD Cert.UpdatedBranchIdeal.τ Cert.UpdatedBranchIdeal.sig) → Buf (Elt Ideal) ℓ) (g : Dev Cert.UpdatedBranchIdeal.nD → PrngReg), Pre_UpdatedBranchIdeal m →
    θ_run (Cert.UpdatedBranchIdeal.defs (F := Ideal)) (onTc (τ := Cert.UpdatedBranchIdeal.τ) (Cert.UpdatedBranchIdeal.main (F := Ideal))) ⟨m, fun _ => 0, g⟩ (fun r => (∀ c : Dev Cert.UpdatedBranchIdeal.nD,
      r.2.mem ((c.tc : Thread Cert.UpdatedBranchIdeal.nD Cert.UpdatedBranchIdeal.τ).loc Cert.UpdatedBranchIdeal.main_arg0) = m ((c.tc : Thread Cert.UpdatedBranchIdeal.nD Cert.UpdatedBranchIdeal.τ).loc Cert.UpdatedBranchIdeal.main_arg0)
      ∧ r.2.mem ((c.tc : Thread Cert.UpdatedBranchIdeal.nD Cert.UpdatedBranchIdeal.τ).loc Cert.UpdatedBranchIdeal.main_arg1) = m ((c.tc : Thread Cert.UpdatedBranchIdeal.nD Cert.UpdatedBranchIdeal.τ).loc Cert.UpdatedBranchIdeal.main_arg1)
      ∧ r.2.mem ((c.tc : Thread Cert.UpdatedBranchIdeal.nD Cert.UpdatedBranchIdeal.τ).loc Cert.UpdatedBranchIdeal.main_arg2) = m ((c.tc : Thread Cert.UpdatedBranchIdeal.nD Cert.UpdatedBranchIdeal.τ).loc Cert.UpdatedBranchIdeal.main_arg2)
      ∧ r.2.mem ((c.tc : Thread Cert.UpdatedBranchIdeal.nD Cert.UpdatedBranchIdeal.τ).loc Cert.UpdatedBranchIdeal.main_arg3) = m ((c.tc : Thread Cert.UpdatedBranchIdeal.nD Cert.UpdatedBranchIdeal.τ).loc Cert.UpdatedBranchIdeal.main_arg3))
      ∧ r.2.sem = fun _ => 0)

def quiescent_UpdateOut [hUpdateOut : Cert.UpdateOut.Facts] : Prop :=
  ∀ (m : (ℓ : Loc Cert.UpdateOut.nD Cert.UpdateOut.τ Cert.UpdateOut.sig) → Buf (Elt Bits) ℓ) (g : Dev Cert.UpdateOut.nD → PrngReg), Pre_UpdateOut m →
    θ_run (Cert.UpdateOut.defs (F := Bits)) (onTc (τ := Cert.UpdateOut.τ) (Cert.UpdateOut.main (F := Bits))) ⟨m, fun _ => 0, g⟩ (fun r => (∀ c : Dev Cert.UpdateOut.nD,
      r.2.mem ((c.tc : Thread Cert.UpdateOut.nD Cert.UpdateOut.τ).loc Cert.UpdateOut.main_arg0) = m ((c.tc : Thread Cert.UpdateOut.nD Cert.UpdateOut.τ).loc Cert.UpdateOut.main_arg0)
      ∧ r.2.mem ((c.tc : Thread Cert.UpdateOut.nD Cert.UpdateOut.τ).loc Cert.UpdateOut.main_arg1) = m ((c.tc : Thread Cert.UpdateOut.nD Cert.UpdateOut.τ).loc Cert.UpdateOut.main_arg1)
      ∧ r.2.mem ((c.tc : Thread Cert.UpdateOut.nD Cert.UpdateOut.τ).loc Cert.UpdateOut.main_arg2) = m ((c.tc : Thread Cert.UpdateOut.nD Cert.UpdateOut.τ).loc Cert.UpdateOut.main_arg2)
      ∧ r.2.mem ((c.tc : Thread Cert.UpdateOut.nD Cert.UpdateOut.τ).loc Cert.UpdateOut.main_arg3) = m ((c.tc : Thread Cert.UpdateOut.nD Cert.UpdateOut.τ).loc Cert.UpdateOut.main_arg3))
      ∧ r.2.sem = fun _ => 0)

def quiescent_UpdateOutIdeal [hUpdateOutIdeal : Cert.UpdateOutIdeal.Facts] : Prop :=
  ∀ (m : (ℓ : Loc Cert.UpdateOutIdeal.nD Cert.UpdateOutIdeal.τ Cert.UpdateOutIdeal.sig) → Buf (Elt Ideal) ℓ) (g : Dev Cert.UpdateOutIdeal.nD → PrngReg), Pre_UpdateOutIdeal m →
    θ_run (Cert.UpdateOutIdeal.defs (F := Ideal)) (onTc (τ := Cert.UpdateOutIdeal.τ) (Cert.UpdateOutIdeal.main (F := Ideal))) ⟨m, fun _ => 0, g⟩ (fun r => (∀ c : Dev Cert.UpdateOutIdeal.nD,
      r.2.mem ((c.tc : Thread Cert.UpdateOutIdeal.nD Cert.UpdateOutIdeal.τ).loc Cert.UpdateOutIdeal.main_arg0) = m ((c.tc : Thread Cert.UpdateOutIdeal.nD Cert.UpdateOutIdeal.τ).loc Cert.UpdateOutIdeal.main_arg0)
      ∧ r.2.mem ((c.tc : Thread Cert.UpdateOutIdeal.nD Cert.UpdateOutIdeal.τ).loc Cert.UpdateOutIdeal.main_arg1) = m ((c.tc : Thread Cert.UpdateOutIdeal.nD Cert.UpdateOutIdeal.τ).loc Cert.UpdateOutIdeal.main_arg1)
      ∧ r.2.mem ((c.tc : Thread Cert.UpdateOutIdeal.nD Cert.UpdateOutIdeal.τ).loc Cert.UpdateOutIdeal.main_arg2) = m ((c.tc : Thread Cert.UpdateOutIdeal.nD Cert.UpdateOutIdeal.τ).loc Cert.UpdateOutIdeal.main_arg2)
      ∧ r.2.mem ((c.tc : Thread Cert.UpdateOutIdeal.nD Cert.UpdateOutIdeal.τ).loc Cert.UpdateOutIdeal.main_arg3) = m ((c.tc : Thread Cert.UpdateOutIdeal.nD Cert.UpdateOutIdeal.τ).loc Cert.UpdateOutIdeal.main_arg3))
      ∧ r.2.sem = fun _ => 0)

def quiescent_UpdatedOutIdeal [hUpdatedOutIdeal : Cert.UpdatedOutIdeal.Facts] : Prop :=
  ∀ (m : (ℓ : Loc Cert.UpdatedOutIdeal.nD Cert.UpdatedOutIdeal.τ Cert.UpdatedOutIdeal.sig) → Buf (Elt Ideal) ℓ) (g : Dev Cert.UpdatedOutIdeal.nD → PrngReg), Pre_UpdatedOutIdeal m →
    θ_run (Cert.UpdatedOutIdeal.defs (F := Ideal)) (onTc (τ := Cert.UpdatedOutIdeal.τ) (Cert.UpdatedOutIdeal.main (F := Ideal))) ⟨m, fun _ => 0, g⟩ (fun r => (∀ c : Dev Cert.UpdatedOutIdeal.nD,
      r.2.mem ((c.tc : Thread Cert.UpdatedOutIdeal.nD Cert.UpdatedOutIdeal.τ).loc Cert.UpdatedOutIdeal.main_arg0) = m ((c.tc : Thread Cert.UpdatedOutIdeal.nD Cert.UpdatedOutIdeal.τ).loc Cert.UpdatedOutIdeal.main_arg0)
      ∧ r.2.mem ((c.tc : Thread Cert.UpdatedOutIdeal.nD Cert.UpdatedOutIdeal.τ).loc Cert.UpdatedOutIdeal.main_arg1) = m ((c.tc : Thread Cert.UpdatedOutIdeal.nD Cert.UpdatedOutIdeal.τ).loc Cert.UpdatedOutIdeal.main_arg1)
      ∧ r.2.mem ((c.tc : Thread Cert.UpdatedOutIdeal.nD Cert.UpdatedOutIdeal.τ).loc Cert.UpdatedOutIdeal.main_arg2) = m ((c.tc : Thread Cert.UpdatedOutIdeal.nD Cert.UpdatedOutIdeal.τ).loc Cert.UpdatedOutIdeal.main_arg2)
      ∧ r.2.mem ((c.tc : Thread Cert.UpdatedOutIdeal.nD Cert.UpdatedOutIdeal.τ).loc Cert.UpdatedOutIdeal.main_arg3) = m ((c.tc : Thread Cert.UpdatedOutIdeal.nD Cert.UpdatedOutIdeal.τ).loc Cert.UpdatedOutIdeal.main_arg3))
      ∧ r.2.sem = fun _ => 0)

def quiescent_UpdateFfnIn [hUpdateFfnIn : Cert.UpdateFfnIn.Facts] : Prop :=
  ∀ (m : (ℓ : Loc Cert.UpdateFfnIn.nD Cert.UpdateFfnIn.τ Cert.UpdateFfnIn.sig) → Buf (Elt Bits) ℓ) (g : Dev Cert.UpdateFfnIn.nD → PrngReg), Pre_UpdateFfnIn m →
    θ_run (Cert.UpdateFfnIn.defs (F := Bits)) (onTc (τ := Cert.UpdateFfnIn.τ) (Cert.UpdateFfnIn.main (F := Bits))) ⟨m, fun _ => 0, g⟩ (fun r => (∀ c : Dev Cert.UpdateFfnIn.nD,
      r.2.mem ((c.tc : Thread Cert.UpdateFfnIn.nD Cert.UpdateFfnIn.τ).loc Cert.UpdateFfnIn.main_arg0) = m ((c.tc : Thread Cert.UpdateFfnIn.nD Cert.UpdateFfnIn.τ).loc Cert.UpdateFfnIn.main_arg0)
      ∧ r.2.mem ((c.tc : Thread Cert.UpdateFfnIn.nD Cert.UpdateFfnIn.τ).loc Cert.UpdateFfnIn.main_arg1) = m ((c.tc : Thread Cert.UpdateFfnIn.nD Cert.UpdateFfnIn.τ).loc Cert.UpdateFfnIn.main_arg1)
      ∧ r.2.mem ((c.tc : Thread Cert.UpdateFfnIn.nD Cert.UpdateFfnIn.τ).loc Cert.UpdateFfnIn.main_arg2) = m ((c.tc : Thread Cert.UpdateFfnIn.nD Cert.UpdateFfnIn.τ).loc Cert.UpdateFfnIn.main_arg2)
      ∧ r.2.mem ((c.tc : Thread Cert.UpdateFfnIn.nD Cert.UpdateFfnIn.τ).loc Cert.UpdateFfnIn.main_arg3) = m ((c.tc : Thread Cert.UpdateFfnIn.nD Cert.UpdateFfnIn.τ).loc Cert.UpdateFfnIn.main_arg3))
      ∧ r.2.sem = fun _ => 0)

def quiescent_UpdateFfnInIdeal [hUpdateFfnInIdeal : Cert.UpdateFfnInIdeal.Facts] : Prop :=
  ∀ (m : (ℓ : Loc Cert.UpdateFfnInIdeal.nD Cert.UpdateFfnInIdeal.τ Cert.UpdateFfnInIdeal.sig) → Buf (Elt Ideal) ℓ) (g : Dev Cert.UpdateFfnInIdeal.nD → PrngReg), Pre_UpdateFfnInIdeal m →
    θ_run (Cert.UpdateFfnInIdeal.defs (F := Ideal)) (onTc (τ := Cert.UpdateFfnInIdeal.τ) (Cert.UpdateFfnInIdeal.main (F := Ideal))) ⟨m, fun _ => 0, g⟩ (fun r => (∀ c : Dev Cert.UpdateFfnInIdeal.nD,
      r.2.mem ((c.tc : Thread Cert.UpdateFfnInIdeal.nD Cert.UpdateFfnInIdeal.τ).loc Cert.UpdateFfnInIdeal.main_arg0) = m ((c.tc : Thread Cert.UpdateFfnInIdeal.nD Cert.UpdateFfnInIdeal.τ).loc Cert.UpdateFfnInIdeal.main_arg0)
      ∧ r.2.mem ((c.tc : Thread Cert.UpdateFfnInIdeal.nD Cert.UpdateFfnInIdeal.τ).loc Cert.UpdateFfnInIdeal.main_arg1) = m ((c.tc : Thread Cert.UpdateFfnInIdeal.nD Cert.UpdateFfnInIdeal.τ).loc Cert.UpdateFfnInIdeal.main_arg1)
      ∧ r.2.mem ((c.tc : Thread Cert.UpdateFfnInIdeal.nD Cert.UpdateFfnInIdeal.τ).loc Cert.UpdateFfnInIdeal.main_arg2) = m ((c.tc : Thread Cert.UpdateFfnInIdeal.nD Cert.UpdateFfnInIdeal.τ).loc Cert.UpdateFfnInIdeal.main_arg2)
      ∧ r.2.mem ((c.tc : Thread Cert.UpdateFfnInIdeal.nD Cert.UpdateFfnInIdeal.τ).loc Cert.UpdateFfnInIdeal.main_arg3) = m ((c.tc : Thread Cert.UpdateFfnInIdeal.nD Cert.UpdateFfnInIdeal.τ).loc Cert.UpdateFfnInIdeal.main_arg3))
      ∧ r.2.sem = fun _ => 0)

def quiescent_UpdatedFfnInIdeal [hUpdatedFfnInIdeal : Cert.UpdatedFfnInIdeal.Facts] : Prop :=
  ∀ (m : (ℓ : Loc Cert.UpdatedFfnInIdeal.nD Cert.UpdatedFfnInIdeal.τ Cert.UpdatedFfnInIdeal.sig) → Buf (Elt Ideal) ℓ) (g : Dev Cert.UpdatedFfnInIdeal.nD → PrngReg), Pre_UpdatedFfnInIdeal m →
    θ_run (Cert.UpdatedFfnInIdeal.defs (F := Ideal)) (onTc (τ := Cert.UpdatedFfnInIdeal.τ) (Cert.UpdatedFfnInIdeal.main (F := Ideal))) ⟨m, fun _ => 0, g⟩ (fun r => (∀ c : Dev Cert.UpdatedFfnInIdeal.nD,
      r.2.mem ((c.tc : Thread Cert.UpdatedFfnInIdeal.nD Cert.UpdatedFfnInIdeal.τ).loc Cert.UpdatedFfnInIdeal.main_arg0) = m ((c.tc : Thread Cert.UpdatedFfnInIdeal.nD Cert.UpdatedFfnInIdeal.τ).loc Cert.UpdatedFfnInIdeal.main_arg0)
      ∧ r.2.mem ((c.tc : Thread Cert.UpdatedFfnInIdeal.nD Cert.UpdatedFfnInIdeal.τ).loc Cert.UpdatedFfnInIdeal.main_arg1) = m ((c.tc : Thread Cert.UpdatedFfnInIdeal.nD Cert.UpdatedFfnInIdeal.τ).loc Cert.UpdatedFfnInIdeal.main_arg1)
      ∧ r.2.mem ((c.tc : Thread Cert.UpdatedFfnInIdeal.nD Cert.UpdatedFfnInIdeal.τ).loc Cert.UpdatedFfnInIdeal.main_arg2) = m ((c.tc : Thread Cert.UpdatedFfnInIdeal.nD Cert.UpdatedFfnInIdeal.τ).loc Cert.UpdatedFfnInIdeal.main_arg2)
      ∧ r.2.mem ((c.tc : Thread Cert.UpdatedFfnInIdeal.nD Cert.UpdatedFfnInIdeal.τ).loc Cert.UpdatedFfnInIdeal.main_arg3) = m ((c.tc : Thread Cert.UpdatedFfnInIdeal.nD Cert.UpdatedFfnInIdeal.τ).loc Cert.UpdatedFfnInIdeal.main_arg3))
      ∧ r.2.sem = fun _ => 0)

def quiescent_UpdateFfnOut [hUpdateFfnOut : Cert.UpdateFfnOut.Facts] : Prop :=
  ∀ (m : (ℓ : Loc Cert.UpdateFfnOut.nD Cert.UpdateFfnOut.τ Cert.UpdateFfnOut.sig) → Buf (Elt Bits) ℓ) (g : Dev Cert.UpdateFfnOut.nD → PrngReg), Pre_UpdateFfnOut m →
    θ_run (Cert.UpdateFfnOut.defs (F := Bits)) (onTc (τ := Cert.UpdateFfnOut.τ) (Cert.UpdateFfnOut.main (F := Bits))) ⟨m, fun _ => 0, g⟩ (fun r => (∀ c : Dev Cert.UpdateFfnOut.nD,
      r.2.mem ((c.tc : Thread Cert.UpdateFfnOut.nD Cert.UpdateFfnOut.τ).loc Cert.UpdateFfnOut.main_arg0) = m ((c.tc : Thread Cert.UpdateFfnOut.nD Cert.UpdateFfnOut.τ).loc Cert.UpdateFfnOut.main_arg0)
      ∧ r.2.mem ((c.tc : Thread Cert.UpdateFfnOut.nD Cert.UpdateFfnOut.τ).loc Cert.UpdateFfnOut.main_arg1) = m ((c.tc : Thread Cert.UpdateFfnOut.nD Cert.UpdateFfnOut.τ).loc Cert.UpdateFfnOut.main_arg1)
      ∧ r.2.mem ((c.tc : Thread Cert.UpdateFfnOut.nD Cert.UpdateFfnOut.τ).loc Cert.UpdateFfnOut.main_arg2) = m ((c.tc : Thread Cert.UpdateFfnOut.nD Cert.UpdateFfnOut.τ).loc Cert.UpdateFfnOut.main_arg2)
      ∧ r.2.mem ((c.tc : Thread Cert.UpdateFfnOut.nD Cert.UpdateFfnOut.τ).loc Cert.UpdateFfnOut.main_arg3) = m ((c.tc : Thread Cert.UpdateFfnOut.nD Cert.UpdateFfnOut.τ).loc Cert.UpdateFfnOut.main_arg3))
      ∧ r.2.sem = fun _ => 0)

def quiescent_UpdateFfnOutIdeal [hUpdateFfnOutIdeal : Cert.UpdateFfnOutIdeal.Facts] : Prop :=
  ∀ (m : (ℓ : Loc Cert.UpdateFfnOutIdeal.nD Cert.UpdateFfnOutIdeal.τ Cert.UpdateFfnOutIdeal.sig) → Buf (Elt Ideal) ℓ) (g : Dev Cert.UpdateFfnOutIdeal.nD → PrngReg), Pre_UpdateFfnOutIdeal m →
    θ_run (Cert.UpdateFfnOutIdeal.defs (F := Ideal)) (onTc (τ := Cert.UpdateFfnOutIdeal.τ) (Cert.UpdateFfnOutIdeal.main (F := Ideal))) ⟨m, fun _ => 0, g⟩ (fun r => (∀ c : Dev Cert.UpdateFfnOutIdeal.nD,
      r.2.mem ((c.tc : Thread Cert.UpdateFfnOutIdeal.nD Cert.UpdateFfnOutIdeal.τ).loc Cert.UpdateFfnOutIdeal.main_arg0) = m ((c.tc : Thread Cert.UpdateFfnOutIdeal.nD Cert.UpdateFfnOutIdeal.τ).loc Cert.UpdateFfnOutIdeal.main_arg0)
      ∧ r.2.mem ((c.tc : Thread Cert.UpdateFfnOutIdeal.nD Cert.UpdateFfnOutIdeal.τ).loc Cert.UpdateFfnOutIdeal.main_arg1) = m ((c.tc : Thread Cert.UpdateFfnOutIdeal.nD Cert.UpdateFfnOutIdeal.τ).loc Cert.UpdateFfnOutIdeal.main_arg1)
      ∧ r.2.mem ((c.tc : Thread Cert.UpdateFfnOutIdeal.nD Cert.UpdateFfnOutIdeal.τ).loc Cert.UpdateFfnOutIdeal.main_arg2) = m ((c.tc : Thread Cert.UpdateFfnOutIdeal.nD Cert.UpdateFfnOutIdeal.τ).loc Cert.UpdateFfnOutIdeal.main_arg2)
      ∧ r.2.mem ((c.tc : Thread Cert.UpdateFfnOutIdeal.nD Cert.UpdateFfnOutIdeal.τ).loc Cert.UpdateFfnOutIdeal.main_arg3) = m ((c.tc : Thread Cert.UpdateFfnOutIdeal.nD Cert.UpdateFfnOutIdeal.τ).loc Cert.UpdateFfnOutIdeal.main_arg3))
      ∧ r.2.sem = fun _ => 0)

def quiescent_UpdatedFfnOutIdeal [hUpdatedFfnOutIdeal : Cert.UpdatedFfnOutIdeal.Facts] : Prop :=
  ∀ (m : (ℓ : Loc Cert.UpdatedFfnOutIdeal.nD Cert.UpdatedFfnOutIdeal.τ Cert.UpdatedFfnOutIdeal.sig) → Buf (Elt Ideal) ℓ) (g : Dev Cert.UpdatedFfnOutIdeal.nD → PrngReg), Pre_UpdatedFfnOutIdeal m →
    θ_run (Cert.UpdatedFfnOutIdeal.defs (F := Ideal)) (onTc (τ := Cert.UpdatedFfnOutIdeal.τ) (Cert.UpdatedFfnOutIdeal.main (F := Ideal))) ⟨m, fun _ => 0, g⟩ (fun r => (∀ c : Dev Cert.UpdatedFfnOutIdeal.nD,
      r.2.mem ((c.tc : Thread Cert.UpdatedFfnOutIdeal.nD Cert.UpdatedFfnOutIdeal.τ).loc Cert.UpdatedFfnOutIdeal.main_arg0) = m ((c.tc : Thread Cert.UpdatedFfnOutIdeal.nD Cert.UpdatedFfnOutIdeal.τ).loc Cert.UpdatedFfnOutIdeal.main_arg0)
      ∧ r.2.mem ((c.tc : Thread Cert.UpdatedFfnOutIdeal.nD Cert.UpdatedFfnOutIdeal.τ).loc Cert.UpdatedFfnOutIdeal.main_arg1) = m ((c.tc : Thread Cert.UpdatedFfnOutIdeal.nD Cert.UpdatedFfnOutIdeal.τ).loc Cert.UpdatedFfnOutIdeal.main_arg1)
      ∧ r.2.mem ((c.tc : Thread Cert.UpdatedFfnOutIdeal.nD Cert.UpdatedFfnOutIdeal.τ).loc Cert.UpdatedFfnOutIdeal.main_arg2) = m ((c.tc : Thread Cert.UpdatedFfnOutIdeal.nD Cert.UpdatedFfnOutIdeal.τ).loc Cert.UpdatedFfnOutIdeal.main_arg2)
      ∧ r.2.mem ((c.tc : Thread Cert.UpdatedFfnOutIdeal.nD Cert.UpdatedFfnOutIdeal.τ).loc Cert.UpdatedFfnOutIdeal.main_arg3) = m ((c.tc : Thread Cert.UpdatedFfnOutIdeal.nD Cert.UpdatedFfnOutIdeal.τ).loc Cert.UpdatedFfnOutIdeal.main_arg3))
      ∧ r.2.sem = fun _ => 0)

def quiescent_Prenorm [hPrenorm : Cert.Prenorm.Facts] : Prop :=
  ∀ (m : (ℓ : Loc Cert.Prenorm.nD Cert.Prenorm.τ Cert.Prenorm.sig) → Buf (Elt Bits) ℓ) (g : Dev Cert.Prenorm.nD → PrngReg), Pre_Prenorm m →
    θ_run (Cert.Prenorm.defs (F := Bits)) (onTc (τ := Cert.Prenorm.τ) (Cert.Prenorm.main (F := Bits))) ⟨m, fun _ => 0, g⟩ (fun r => (∀ c : Dev Cert.Prenorm.nD,
      r.2.mem ((c.tc : Thread Cert.Prenorm.nD Cert.Prenorm.τ).loc Cert.Prenorm.main_arg0) = m ((c.tc : Thread Cert.Prenorm.nD Cert.Prenorm.τ).loc Cert.Prenorm.main_arg0)
      ∧ r.2.mem ((c.tc : Thread Cert.Prenorm.nD Cert.Prenorm.τ).loc Cert.Prenorm.main_arg1) = m ((c.tc : Thread Cert.Prenorm.nD Cert.Prenorm.τ).loc Cert.Prenorm.main_arg1)
      ∧ r.2.mem ((c.tc : Thread Cert.Prenorm.nD Cert.Prenorm.τ).loc Cert.Prenorm.main_arg2) = m ((c.tc : Thread Cert.Prenorm.nD Cert.Prenorm.τ).loc Cert.Prenorm.main_arg2)
      ∧ r.2.mem ((c.tc : Thread Cert.Prenorm.nD Cert.Prenorm.τ).loc Cert.Prenorm.main_arg3) = m ((c.tc : Thread Cert.Prenorm.nD Cert.Prenorm.τ).loc Cert.Prenorm.main_arg3)
      ∧ r.2.mem ((c.tc : Thread Cert.Prenorm.nD Cert.Prenorm.τ).loc Cert.Prenorm.main_arg4) = m ((c.tc : Thread Cert.Prenorm.nD Cert.Prenorm.τ).loc Cert.Prenorm.main_arg4))
      ∧ r.2.sem = fun _ => 0)

def quiescent_PrenormIdeal [hPrenormIdeal : Cert.PrenormIdeal.Facts] : Prop :=
  ∀ (m : (ℓ : Loc Cert.PrenormIdeal.nD Cert.PrenormIdeal.τ Cert.PrenormIdeal.sig) → Buf (Elt Ideal) ℓ) (g : Dev Cert.PrenormIdeal.nD → PrngReg), Pre_PrenormIdeal m →
    θ_run (Cert.PrenormIdeal.defs (F := Ideal)) (onTc (τ := Cert.PrenormIdeal.τ) (Cert.PrenormIdeal.main (F := Ideal))) ⟨m, fun _ => 0, g⟩ (fun r => (∀ c : Dev Cert.PrenormIdeal.nD,
      r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
      ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
      ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2)
      ∧ r.2.mem ((c.tc : Thread Cert.PrenormIdeal.nD Cert.PrenormIdeal.τ).loc Cert.PrenormIdeal.main_arg3) = m ((c.tc : Thread Cert.PrenormIdeal.nD Cert.PrenormIdeal.τ).loc Cert.PrenormIdeal.main_arg3)
      ∧ r.2.mem ((c.tc : Thread Cert.PrenormIdeal.nD Cert.PrenormIdeal.τ).loc Cert.PrenormIdeal.main_arg4) = m ((c.tc : Thread Cert.PrenormIdeal.nD Cert.PrenormIdeal.τ).loc Cert.PrenormIdeal.main_arg4))
      ∧ r.2.sem = fun _ => 0)

def quiescent_PrenormedIdeal [hPrenormedIdeal : Cert.PrenormedIdeal.Facts] : Prop :=
  ∀ (m : (ℓ : Loc Cert.PrenormedIdeal.nD Cert.PrenormedIdeal.τ Cert.PrenormedIdeal.sig) → Buf (Elt Ideal) ℓ) (g : Dev Cert.PrenormedIdeal.nD → PrngReg), Pre_PrenormedIdeal m →
    θ_run (Cert.PrenormedIdeal.defs (F := Ideal)) (onTc (τ := Cert.PrenormedIdeal.τ) (Cert.PrenormedIdeal.main (F := Ideal))) ⟨m, fun _ => 0, g⟩ (fun r => (∀ c : Dev Cert.PrenormedIdeal.nD,
      r.2.mem ((c.tc : Thread Cert.PrenormedIdeal.nD Cert.PrenormedIdeal.τ).loc Cert.PrenormedIdeal.main_arg0) = m ((c.tc : Thread Cert.PrenormedIdeal.nD Cert.PrenormedIdeal.τ).loc Cert.PrenormedIdeal.main_arg0)
      ∧ r.2.mem ((c.tc : Thread Cert.PrenormedIdeal.nD Cert.PrenormedIdeal.τ).loc Cert.PrenormedIdeal.main_arg1) = m ((c.tc : Thread Cert.PrenormedIdeal.nD Cert.PrenormedIdeal.τ).loc Cert.PrenormedIdeal.main_arg1)
      ∧ r.2.mem ((c.tc : Thread Cert.PrenormedIdeal.nD Cert.PrenormedIdeal.τ).loc Cert.PrenormedIdeal.main_arg2) = m ((c.tc : Thread Cert.PrenormedIdeal.nD Cert.PrenormedIdeal.τ).loc Cert.PrenormedIdeal.main_arg2)
      ∧ r.2.mem ((c.tc : Thread Cert.PrenormedIdeal.nD Cert.PrenormedIdeal.τ).loc Cert.PrenormedIdeal.main_arg3) = m ((c.tc : Thread Cert.PrenormedIdeal.nD Cert.PrenormedIdeal.τ).loc Cert.PrenormedIdeal.main_arg3)
      ∧ r.2.mem ((c.tc : Thread Cert.PrenormedIdeal.nD Cert.PrenormedIdeal.τ).loc Cert.PrenormedIdeal.main_arg4) = m ((c.tc : Thread Cert.PrenormedIdeal.nD Cert.PrenormedIdeal.τ).loc Cert.PrenormedIdeal.main_arg4))
      ∧ r.2.sem = fun _ => 0)

def quiescent_PrenormFwd [hPrenormFwd : Cert.PrenormFwd.Facts] : Prop :=
  ∀ (m : (ℓ : Loc Cert.PrenormFwd.nD Cert.PrenormFwd.τ Cert.PrenormFwd.sig) → Buf (Elt Bits) ℓ) (g : Dev Cert.PrenormFwd.nD → PrngReg), Pre_PrenormFwd m →
    θ_run (Cert.PrenormFwd.defs (F := Bits)) (onTc (τ := Cert.PrenormFwd.τ) (Cert.PrenormFwd.main (F := Bits))) ⟨m, fun _ => 0, g⟩ (fun r => (∀ c : Dev Cert.PrenormFwd.nD,
      r.2.mem ((c.tc : Thread Cert.PrenormFwd.nD Cert.PrenormFwd.τ).loc Cert.PrenormFwd.main_arg0) = m ((c.tc : Thread Cert.PrenormFwd.nD Cert.PrenormFwd.τ).loc Cert.PrenormFwd.main_arg0)
      ∧ r.2.mem ((c.tc : Thread Cert.PrenormFwd.nD Cert.PrenormFwd.τ).loc Cert.PrenormFwd.main_arg1) = m ((c.tc : Thread Cert.PrenormFwd.nD Cert.PrenormFwd.τ).loc Cert.PrenormFwd.main_arg1)
      ∧ r.2.mem ((c.tc : Thread Cert.PrenormFwd.nD Cert.PrenormFwd.τ).loc Cert.PrenormFwd.main_arg2) = m ((c.tc : Thread Cert.PrenormFwd.nD Cert.PrenormFwd.τ).loc Cert.PrenormFwd.main_arg2)
      ∧ r.2.mem ((c.tc : Thread Cert.PrenormFwd.nD Cert.PrenormFwd.τ).loc Cert.PrenormFwd.main_arg3) = m ((c.tc : Thread Cert.PrenormFwd.nD Cert.PrenormFwd.τ).loc Cert.PrenormFwd.main_arg3))
      ∧ r.2.sem = fun _ => 0)

def quiescent_PrenormFwdIdeal [hPrenormFwdIdeal : Cert.PrenormFwdIdeal.Facts] : Prop :=
  ∀ (m : (ℓ : Loc Cert.PrenormFwdIdeal.nD Cert.PrenormFwdIdeal.τ Cert.PrenormFwdIdeal.sig) → Buf (Elt Ideal) ℓ) (g : Dev Cert.PrenormFwdIdeal.nD → PrngReg), Pre_PrenormFwdIdeal m →
    θ_run (Cert.PrenormFwdIdeal.defs (F := Ideal)) (onTc (τ := Cert.PrenormFwdIdeal.τ) (Cert.PrenormFwdIdeal.main (F := Ideal))) ⟨m, fun _ => 0, g⟩ (fun r => (∀ c : Dev Cert.PrenormFwdIdeal.nD,
      r.2.mem ((c.tc : Thread Cert.PrenormFwdIdeal.nD Cert.PrenormFwdIdeal.τ).loc Cert.PrenormFwdIdeal.main_arg0) = m ((c.tc : Thread Cert.PrenormFwdIdeal.nD Cert.PrenormFwdIdeal.τ).loc Cert.PrenormFwdIdeal.main_arg0)
      ∧ r.2.mem ((c.tc : Thread Cert.PrenormFwdIdeal.nD Cert.PrenormFwdIdeal.τ).loc Cert.PrenormFwdIdeal.main_arg1) = m ((c.tc : Thread Cert.PrenormFwdIdeal.nD Cert.PrenormFwdIdeal.τ).loc Cert.PrenormFwdIdeal.main_arg1)
      ∧ r.2.mem ((c.tc : Thread Cert.PrenormFwdIdeal.nD Cert.PrenormFwdIdeal.τ).loc Cert.PrenormFwdIdeal.main_arg2) = m ((c.tc : Thread Cert.PrenormFwdIdeal.nD Cert.PrenormFwdIdeal.τ).loc Cert.PrenormFwdIdeal.main_arg2)
      ∧ r.2.mem ((c.tc : Thread Cert.PrenormFwdIdeal.nD Cert.PrenormFwdIdeal.τ).loc Cert.PrenormFwdIdeal.main_arg3) = m ((c.tc : Thread Cert.PrenormFwdIdeal.nD Cert.PrenormFwdIdeal.τ).loc Cert.PrenormFwdIdeal.main_arg3))
      ∧ r.2.sem = fun _ => 0)

def quiescent_PrenormedFwdIdeal [hPrenormedFwdIdeal : Cert.PrenormedFwdIdeal.Facts] : Prop :=
  ∀ (m : (ℓ : Loc Cert.PrenormedFwdIdeal.nD Cert.PrenormedFwdIdeal.τ Cert.PrenormedFwdIdeal.sig) → Buf (Elt Ideal) ℓ) (g : Dev Cert.PrenormedFwdIdeal.nD → PrngReg), Pre_PrenormedFwdIdeal m →
    θ_run (Cert.PrenormedFwdIdeal.defs (F := Ideal)) (onTc (τ := Cert.PrenormedFwdIdeal.τ) (Cert.PrenormedFwdIdeal.main (F := Ideal))) ⟨m, fun _ => 0, g⟩ (fun r => (∀ c : Dev Cert.PrenormedFwdIdeal.nD,
      r.2.mem ((c.tc : Thread Cert.PrenormedFwdIdeal.nD Cert.PrenormedFwdIdeal.τ).loc Cert.PrenormedFwdIdeal.main_arg0) = m ((c.tc : Thread Cert.PrenormedFwdIdeal.nD Cert.PrenormedFwdIdeal.τ).loc Cert.PrenormedFwdIdeal.main_arg0)
      ∧ r.2.mem ((c.tc : Thread Cert.PrenormedFwdIdeal.nD Cert.PrenormedFwdIdeal.τ).loc Cert.PrenormedFwdIdeal.main_arg1) = m ((c.tc : Thread Cert.PrenormedFwdIdeal.nD Cert.PrenormedFwdIdeal.τ).loc Cert.PrenormedFwdIdeal.main_arg1)
      ∧ r.2.mem ((c.tc : Thread Cert.PrenormedFwdIdeal.nD Cert.PrenormedFwdIdeal.τ).loc Cert.PrenormedFwdIdeal.main_arg2) = m ((c.tc : Thread Cert.PrenormedFwdIdeal.nD Cert.PrenormedFwdIdeal.τ).loc Cert.PrenormedFwdIdeal.main_arg2)
      ∧ r.2.mem ((c.tc : Thread Cert.PrenormedFwdIdeal.nD Cert.PrenormedFwdIdeal.τ).loc Cert.PrenormedFwdIdeal.main_arg3) = m ((c.tc : Thread Cert.PrenormedFwdIdeal.nD Cert.PrenormedFwdIdeal.τ).loc Cert.PrenormedFwdIdeal.main_arg3))
      ∧ r.2.sem = fun _ => 0)

def quiescent_Postnorm [hPostnorm : Cert.Postnorm.Facts] : Prop :=
  ∀ (m : (ℓ : Loc Cert.Postnorm.nD Cert.Postnorm.τ Cert.Postnorm.sig) → Buf (Elt Bits) ℓ) (g : Dev Cert.Postnorm.nD → PrngReg), Pre_Postnorm m →
    θ_run (Cert.Postnorm.defs (F := Bits)) (onTc (τ := Cert.Postnorm.τ) (Cert.Postnorm.main (F := Bits))) ⟨m, fun _ => 0, g⟩ (fun r => (∀ c : Dev Cert.Postnorm.nD,
      r.2.mem ((c.tc : Thread Cert.Postnorm.nD Cert.Postnorm.τ).loc Cert.Postnorm.main_arg0) = m ((c.tc : Thread Cert.Postnorm.nD Cert.Postnorm.τ).loc Cert.Postnorm.main_arg0)
      ∧ r.2.mem ((c.tc : Thread Cert.Postnorm.nD Cert.Postnorm.τ).loc Cert.Postnorm.main_arg1) = m ((c.tc : Thread Cert.Postnorm.nD Cert.Postnorm.τ).loc Cert.Postnorm.main_arg1)
      ∧ r.2.mem ((c.tc : Thread Cert.Postnorm.nD Cert.Postnorm.τ).loc Cert.Postnorm.main_arg2) = m ((c.tc : Thread Cert.Postnorm.nD Cert.Postnorm.τ).loc Cert.Postnorm.main_arg2)
      ∧ r.2.mem ((c.tc : Thread Cert.Postnorm.nD Cert.Postnorm.τ).loc Cert.Postnorm.main_arg3) = m ((c.tc : Thread Cert.Postnorm.nD Cert.Postnorm.τ).loc Cert.Postnorm.main_arg3))
      ∧ r.2.sem = fun _ => 0)

def quiescent_PostnormIdeal [hPostnormIdeal : Cert.PostnormIdeal.Facts] : Prop :=
  ∀ (m : (ℓ : Loc Cert.PostnormIdeal.nD Cert.PostnormIdeal.τ Cert.PostnormIdeal.sig) → Buf (Elt Ideal) ℓ) (g : Dev Cert.PostnormIdeal.nD → PrngReg), Pre_PostnormIdeal m →
    θ_run (Cert.PostnormIdeal.defs (F := Ideal)) (onTc (τ := Cert.PostnormIdeal.τ) (Cert.PostnormIdeal.main (F := Ideal))) ⟨m, fun _ => 0, g⟩ (fun r => (∀ c : Dev Cert.PostnormIdeal.nD,
      r.2.mem ((c.tc : Thread Cert.PostnormIdeal.nD Cert.PostnormIdeal.τ).loc Cert.PostnormIdeal.main_arg0) = m ((c.tc : Thread Cert.PostnormIdeal.nD Cert.PostnormIdeal.τ).loc Cert.PostnormIdeal.main_arg0)
      ∧ r.2.mem ((c.tc : Thread Cert.PostnormIdeal.nD Cert.PostnormIdeal.τ).loc Cert.PostnormIdeal.main_arg1) = m ((c.tc : Thread Cert.PostnormIdeal.nD Cert.PostnormIdeal.τ).loc Cert.PostnormIdeal.main_arg1)
      ∧ r.2.mem ((c.tc : Thread Cert.PostnormIdeal.nD Cert.PostnormIdeal.τ).loc Cert.PostnormIdeal.main_arg2) = m ((c.tc : Thread Cert.PostnormIdeal.nD Cert.PostnormIdeal.τ).loc Cert.PostnormIdeal.main_arg2)
      ∧ r.2.mem ((c.tc : Thread Cert.PostnormIdeal.nD Cert.PostnormIdeal.τ).loc Cert.PostnormIdeal.main_arg3) = m ((c.tc : Thread Cert.PostnormIdeal.nD Cert.PostnormIdeal.τ).loc Cert.PostnormIdeal.main_arg3))
      ∧ r.2.sem = fun _ => 0)

def quiescent_PostnormedIdeal [hPostnormedIdeal : Cert.PostnormedIdeal.Facts] : Prop :=
  ∀ (m : (ℓ : Loc Cert.PostnormedIdeal.nD Cert.PostnormedIdeal.τ Cert.PostnormedIdeal.sig) → Buf (Elt Ideal) ℓ) (g : Dev Cert.PostnormedIdeal.nD → PrngReg), Pre_PostnormedIdeal m →
    θ_run (Cert.PostnormedIdeal.defs (F := Ideal)) (onTc (τ := Cert.PostnormedIdeal.τ) (Cert.PostnormedIdeal.main (F := Ideal))) ⟨m, fun _ => 0, g⟩ (fun r => (∀ c : Dev Cert.PostnormedIdeal.nD,
      r.2.mem ((c.tc : Thread Cert.PostnormedIdeal.nD Cert.PostnormedIdeal.τ).loc Cert.PostnormedIdeal.main_arg0) = m ((c.tc : Thread Cert.PostnormedIdeal.nD Cert.PostnormedIdeal.τ).loc Cert.PostnormedIdeal.main_arg0)
      ∧ r.2.mem ((c.tc : Thread Cert.PostnormedIdeal.nD Cert.PostnormedIdeal.τ).loc Cert.PostnormedIdeal.main_arg1) = m ((c.tc : Thread Cert.PostnormedIdeal.nD Cert.PostnormedIdeal.τ).loc Cert.PostnormedIdeal.main_arg1)
      ∧ r.2.mem ((c.tc : Thread Cert.PostnormedIdeal.nD Cert.PostnormedIdeal.τ).loc Cert.PostnormedIdeal.main_arg2) = m ((c.tc : Thread Cert.PostnormedIdeal.nD Cert.PostnormedIdeal.τ).loc Cert.PostnormedIdeal.main_arg2)
      ∧ r.2.mem ((c.tc : Thread Cert.PostnormedIdeal.nD Cert.PostnormedIdeal.τ).loc Cert.PostnormedIdeal.main_arg3) = m ((c.tc : Thread Cert.PostnormedIdeal.nD Cert.PostnormedIdeal.τ).loc Cert.PostnormedIdeal.main_arg3))
      ∧ r.2.sem = fun _ => 0)

def quiescent_PostnormBwd [hPostnormBwd : Cert.PostnormBwd.Facts] : Prop :=
  ∀ (m : (ℓ : Loc Cert.PostnormBwd.nD Cert.PostnormBwd.τ Cert.PostnormBwd.sig) → Buf (Elt Bits) ℓ) (g : Dev Cert.PostnormBwd.nD → PrngReg), Pre_PostnormBwd m →
    θ_run (Cert.PostnormBwd.defs (F := Bits)) (onTc (τ := Cert.PostnormBwd.τ) (Cert.PostnormBwd.main (F := Bits))) ⟨m, fun _ => 0, g⟩ (fun r => (∀ c : Dev Cert.PostnormBwd.nD,
      r.2.mem ((c.tc : Thread Cert.PostnormBwd.nD Cert.PostnormBwd.τ).loc Cert.PostnormBwd.main_arg0) = m ((c.tc : Thread Cert.PostnormBwd.nD Cert.PostnormBwd.τ).loc Cert.PostnormBwd.main_arg0)
      ∧ r.2.mem ((c.tc : Thread Cert.PostnormBwd.nD Cert.PostnormBwd.τ).loc Cert.PostnormBwd.main_arg1) = m ((c.tc : Thread Cert.PostnormBwd.nD Cert.PostnormBwd.τ).loc Cert.PostnormBwd.main_arg1)
      ∧ r.2.mem ((c.tc : Thread Cert.PostnormBwd.nD Cert.PostnormBwd.τ).loc Cert.PostnormBwd.main_arg2) = m ((c.tc : Thread Cert.PostnormBwd.nD Cert.PostnormBwd.τ).loc Cert.PostnormBwd.main_arg2)
      ∧ r.2.mem ((c.tc : Thread Cert.PostnormBwd.nD Cert.PostnormBwd.τ).loc Cert.PostnormBwd.main_arg3) = m ((c.tc : Thread Cert.PostnormBwd.nD Cert.PostnormBwd.τ).loc Cert.PostnormBwd.main_arg3))
      ∧ r.2.sem = fun _ => 0)

def quiescent_PostnormBwdIdeal [hPostnormBwdIdeal : Cert.PostnormBwdIdeal.Facts] : Prop :=
  ∀ (m : (ℓ : Loc Cert.PostnormBwdIdeal.nD Cert.PostnormBwdIdeal.τ Cert.PostnormBwdIdeal.sig) → Buf (Elt Ideal) ℓ) (g : Dev Cert.PostnormBwdIdeal.nD → PrngReg), Pre_PostnormBwdIdeal m →
    θ_run (Cert.PostnormBwdIdeal.defs (F := Ideal)) (onTc (τ := Cert.PostnormBwdIdeal.τ) (Cert.PostnormBwdIdeal.main (F := Ideal))) ⟨m, fun _ => 0, g⟩ (fun r => (∀ c : Dev Cert.PostnormBwdIdeal.nD,
      r.2.mem ((c.tc : Thread Cert.PostnormBwdIdeal.nD Cert.PostnormBwdIdeal.τ).loc Cert.PostnormBwdIdeal.main_arg0) = m ((c.tc : Thread Cert.PostnormBwdIdeal.nD Cert.PostnormBwdIdeal.τ).loc Cert.PostnormBwdIdeal.main_arg0)
      ∧ r.2.mem ((c.tc : Thread Cert.PostnormBwdIdeal.nD Cert.PostnormBwdIdeal.τ).loc Cert.PostnormBwdIdeal.main_arg1) = m ((c.tc : Thread Cert.PostnormBwdIdeal.nD Cert.PostnormBwdIdeal.τ).loc Cert.PostnormBwdIdeal.main_arg1)
      ∧ r.2.mem ((c.tc : Thread Cert.PostnormBwdIdeal.nD Cert.PostnormBwdIdeal.τ).loc Cert.PostnormBwdIdeal.main_arg2) = m ((c.tc : Thread Cert.PostnormBwdIdeal.nD Cert.PostnormBwdIdeal.τ).loc Cert.PostnormBwdIdeal.main_arg2)
      ∧ r.2.mem ((c.tc : Thread Cert.PostnormBwdIdeal.nD Cert.PostnormBwdIdeal.τ).loc Cert.PostnormBwdIdeal.main_arg3) = m ((c.tc : Thread Cert.PostnormBwdIdeal.nD Cert.PostnormBwdIdeal.τ).loc Cert.PostnormBwdIdeal.main_arg3))
      ∧ r.2.sem = fun _ => 0)

def quiescent_PostnormedBwdIdeal [hPostnormedBwdIdeal : Cert.PostnormedBwdIdeal.Facts] : Prop :=
  ∀ (m : (ℓ : Loc Cert.PostnormedBwdIdeal.nD Cert.PostnormedBwdIdeal.τ Cert.PostnormedBwdIdeal.sig) → Buf (Elt Ideal) ℓ) (g : Dev Cert.PostnormedBwdIdeal.nD → PrngReg), Pre_PostnormedBwdIdeal m →
    θ_run (Cert.PostnormedBwdIdeal.defs (F := Ideal)) (onTc (τ := Cert.PostnormedBwdIdeal.τ) (Cert.PostnormedBwdIdeal.main (F := Ideal))) ⟨m, fun _ => 0, g⟩ (fun r => (∀ c : Dev Cert.PostnormedBwdIdeal.nD,
      r.2.mem ((c.tc : Thread Cert.PostnormedBwdIdeal.nD Cert.PostnormedBwdIdeal.τ).loc Cert.PostnormedBwdIdeal.main_arg0) = m ((c.tc : Thread Cert.PostnormedBwdIdeal.nD Cert.PostnormedBwdIdeal.τ).loc Cert.PostnormedBwdIdeal.main_arg0)
      ∧ r.2.mem ((c.tc : Thread Cert.PostnormedBwdIdeal.nD Cert.PostnormedBwdIdeal.τ).loc Cert.PostnormedBwdIdeal.main_arg1) = m ((c.tc : Thread Cert.PostnormedBwdIdeal.nD Cert.PostnormedBwdIdeal.τ).loc Cert.PostnormedBwdIdeal.main_arg1)
      ∧ r.2.mem ((c.tc : Thread Cert.PostnormedBwdIdeal.nD Cert.PostnormedBwdIdeal.τ).loc Cert.PostnormedBwdIdeal.main_arg2) = m ((c.tc : Thread Cert.PostnormedBwdIdeal.nD Cert.PostnormedBwdIdeal.τ).loc Cert.PostnormedBwdIdeal.main_arg2)
      ∧ r.2.mem ((c.tc : Thread Cert.PostnormedBwdIdeal.nD Cert.PostnormedBwdIdeal.τ).loc Cert.PostnormedBwdIdeal.main_arg3) = m ((c.tc : Thread Cert.PostnormedBwdIdeal.nD Cert.PostnormedBwdIdeal.τ).loc Cert.PostnormedBwdIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LostIdeal [hLostIdeal : Cert.LostIdeal.Facts] : Prop :=
  ∀ (m : (ℓ : Loc Cert.LostIdeal.nD Cert.LostIdeal.τ Cert.LostIdeal.sig) → Buf (Elt Ideal) ℓ) (g : Dev Cert.LostIdeal.nD → PrngReg), Pre_LostIdeal m →
    θ_run (Cert.LostIdeal.defs (F := Ideal)) (onTc (τ := Cert.LostIdeal.τ) (Cert.LostIdeal.main (F := Ideal))) ⟨m, fun _ => 0, g⟩ (fun r => (∀ c : Dev Cert.LostIdeal.nD,
      r.2.mem ((c.tc : Thread Cert.LostIdeal.nD Cert.LostIdeal.τ).loc Cert.LostIdeal.main_arg0) = m ((c.tc : Thread Cert.LostIdeal.nD Cert.LostIdeal.τ).loc Cert.LostIdeal.main_arg0)
      ∧ r.2.mem ((c.tc : Thread Cert.LostIdeal.nD Cert.LostIdeal.τ).loc Cert.LostIdeal.main_arg1) = m ((c.tc : Thread Cert.LostIdeal.nD Cert.LostIdeal.τ).loc Cert.LostIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnedIdeal [hFfnedIdeal : Cert.FfnedIdeal.Facts] : Prop :=
  ∀ (m : (ℓ : Loc Cert.FfnedIdeal.nD Cert.FfnedIdeal.τ Cert.FfnedIdeal.sig) → Buf (Elt Ideal) ℓ) (g : Dev Cert.FfnedIdeal.nD → PrngReg), Pre_FfnedIdeal m →
    θ_run (Cert.FfnedIdeal.defs (F := Ideal)) (onTc (τ := Cert.FfnedIdeal.τ) (Cert.FfnedIdeal.main (F := Ideal))) ⟨m, fun _ => 0, g⟩ (fun r => (∀ c : Dev Cert.FfnedIdeal.nD,
      r.2.mem ((c.tc : Thread Cert.FfnedIdeal.nD Cert.FfnedIdeal.τ).loc Cert.FfnedIdeal.main_arg0) = m ((c.tc : Thread Cert.FfnedIdeal.nD Cert.FfnedIdeal.τ).loc Cert.FfnedIdeal.main_arg0)
      ∧ r.2.mem ((c.tc : Thread Cert.FfnedIdeal.nD Cert.FfnedIdeal.τ).loc Cert.FfnedIdeal.main_arg1) = m ((c.tc : Thread Cert.FfnedIdeal.nD Cert.FfnedIdeal.τ).loc Cert.FfnedIdeal.main_arg1)
      ∧ r.2.mem ((c.tc : Thread Cert.FfnedIdeal.nD Cert.FfnedIdeal.τ).loc Cert.FfnedIdeal.main_arg2) = m ((c.tc : Thread Cert.FfnedIdeal.nD Cert.FfnedIdeal.τ).loc Cert.FfnedIdeal.main_arg2)
      ∧ r.2.mem ((c.tc : Thread Cert.FfnedIdeal.nD Cert.FfnedIdeal.τ).loc Cert.FfnedIdeal.main_arg3) = m ((c.tc : Thread Cert.FfnedIdeal.nD Cert.FfnedIdeal.τ).loc Cert.FfnedIdeal.main_arg3)
      ∧ r.2.mem ((c.tc : Thread Cert.FfnedIdeal.nD Cert.FfnedIdeal.τ).loc Cert.FfnedIdeal.main_arg4) = m ((c.tc : Thread Cert.FfnedIdeal.nD Cert.FfnedIdeal.τ).loc Cert.FfnedIdeal.main_arg4)
      ∧ r.2.mem ((c.tc : Thread Cert.FfnedIdeal.nD Cert.FfnedIdeal.τ).loc Cert.FfnedIdeal.main_arg5) = m ((c.tc : Thread Cert.FfnedIdeal.nD Cert.FfnedIdeal.τ).loc Cert.FfnedIdeal.main_arg5)
      ∧ r.2.mem ((c.tc : Thread Cert.FfnedIdeal.nD Cert.FfnedIdeal.τ).loc Cert.FfnedIdeal.main_arg6) = m ((c.tc : Thread Cert.FfnedIdeal.nD Cert.FfnedIdeal.τ).loc Cert.FfnedIdeal.main_arg6)
      ∧ r.2.mem ((c.tc : Thread Cert.FfnedIdeal.nD Cert.FfnedIdeal.τ).loc Cert.FfnedIdeal.main_arg7) = m ((c.tc : Thread Cert.FfnedIdeal.nD Cert.FfnedIdeal.τ).loc Cert.FfnedIdeal.main_arg7)
      ∧ r.2.mem ((c.tc : Thread Cert.FfnedIdeal.nD Cert.FfnedIdeal.τ).loc Cert.FfnedIdeal.main_arg8) = m ((c.tc : Thread Cert.FfnedIdeal.nD Cert.FfnedIdeal.τ).loc Cert.FfnedIdeal.main_arg8))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5)
      ∧ r.2.mem ((c.tc : Thread Cert.FfnBwd.nD Cert.FfnBwd.τ).loc Cert.FfnBwd.main_arg6) = m ((c.tc : Thread Cert.FfnBwd.nD Cert.FfnBwd.τ).loc Cert.FfnBwd.main_arg6)
      ∧ r.2.mem ((c.tc : Thread Cert.FfnBwd.nD Cert.FfnBwd.τ).loc Cert.FfnBwd.main_arg7) = m ((c.tc : Thread Cert.FfnBwd.nD Cert.FfnBwd.τ).loc Cert.FfnBwd.main_arg7))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
      ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6)
      ∧ r.2.mem ((c.tc : Thread Cert.FfnBwdIdeal.nD Cert.FfnBwdIdeal.τ).loc Cert.FfnBwdIdeal.main_arg7) = m ((c.tc : Thread Cert.FfnBwdIdeal.nD Cert.FfnBwdIdeal.τ).loc Cert.FfnBwdIdeal.main_arg7))
      ∧ r.2.sem = fun _ => 0)

def quiescent_FfnedBwdIdeal [hFfnedBwdIdeal : Cert.FfnedBwdIdeal.Facts] : Prop :=
  ∀ (m : (ℓ : Loc Cert.FfnedBwdIdeal.nD Cert.FfnedBwdIdeal.τ Cert.FfnedBwdIdeal.sig) → Buf (Elt Ideal) ℓ) (g : Dev Cert.FfnedBwdIdeal.nD → PrngReg), Pre_FfnedBwdIdeal m →
    θ_run (Cert.FfnedBwdIdeal.defs (F := Ideal)) (onTc (τ := Cert.FfnedBwdIdeal.τ) (Cert.FfnedBwdIdeal.main (F := Ideal))) ⟨m, fun _ => 0, g⟩ (fun r => (∀ c : Dev Cert.FfnedBwdIdeal.nD,
      r.2.mem ((c.tc : Thread Cert.FfnedBwdIdeal.nD Cert.FfnedBwdIdeal.τ).loc Cert.FfnedBwdIdeal.main_arg0) = m ((c.tc : Thread Cert.FfnedBwdIdeal.nD Cert.FfnedBwdIdeal.τ).loc Cert.FfnedBwdIdeal.main_arg0)
      ∧ r.2.mem ((c.tc : Thread Cert.FfnedBwdIdeal.nD Cert.FfnedBwdIdeal.τ).loc Cert.FfnedBwdIdeal.main_arg1) = m ((c.tc : Thread Cert.FfnedBwdIdeal.nD Cert.FfnedBwdIdeal.τ).loc Cert.FfnedBwdIdeal.main_arg1)
      ∧ r.2.mem ((c.tc : Thread Cert.FfnedBwdIdeal.nD Cert.FfnedBwdIdeal.τ).loc Cert.FfnedBwdIdeal.main_arg2) = m ((c.tc : Thread Cert.FfnedBwdIdeal.nD Cert.FfnedBwdIdeal.τ).loc Cert.FfnedBwdIdeal.main_arg2)
      ∧ r.2.mem ((c.tc : Thread Cert.FfnedBwdIdeal.nD Cert.FfnedBwdIdeal.τ).loc Cert.FfnedBwdIdeal.main_arg3) = m ((c.tc : Thread Cert.FfnedBwdIdeal.nD Cert.FfnedBwdIdeal.τ).loc Cert.FfnedBwdIdeal.main_arg3)
      ∧ r.2.mem ((c.tc : Thread Cert.FfnedBwdIdeal.nD Cert.FfnedBwdIdeal.τ).loc Cert.FfnedBwdIdeal.main_arg4) = m ((c.tc : Thread Cert.FfnedBwdIdeal.nD Cert.FfnedBwdIdeal.τ).loc Cert.FfnedBwdIdeal.main_arg4)
      ∧ r.2.mem ((c.tc : Thread Cert.FfnedBwdIdeal.nD Cert.FfnedBwdIdeal.τ).loc Cert.FfnedBwdIdeal.main_arg5) = m ((c.tc : Thread Cert.FfnedBwdIdeal.nD Cert.FfnedBwdIdeal.τ).loc Cert.FfnedBwdIdeal.main_arg5)
      ∧ r.2.mem ((c.tc : Thread Cert.FfnedBwdIdeal.nD Cert.FfnedBwdIdeal.τ).loc Cert.FfnedBwdIdeal.main_arg6) = m ((c.tc : Thread Cert.FfnedBwdIdeal.nD Cert.FfnedBwdIdeal.τ).loc Cert.FfnedBwdIdeal.main_arg6)
      ∧ r.2.mem ((c.tc : Thread Cert.FfnedBwdIdeal.nD Cert.FfnedBwdIdeal.τ).loc Cert.FfnedBwdIdeal.main_arg7) = m ((c.tc : Thread Cert.FfnedBwdIdeal.nD Cert.FfnedBwdIdeal.τ).loc Cert.FfnedBwdIdeal.main_arg7))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixedIdeal [hMixedIdeal : Cert.MixedIdeal.Facts] : Prop :=
  ∀ (m : (ℓ : Loc Cert.MixedIdeal.nD Cert.MixedIdeal.τ Cert.MixedIdeal.sig) → Buf (Elt Ideal) ℓ) (g : Dev Cert.MixedIdeal.nD → PrngReg), Pre_MixedIdeal m →
    θ_run (Cert.MixedIdeal.defs (F := Ideal)) (onTc (τ := Cert.MixedIdeal.τ) (Cert.MixedIdeal.main (F := Ideal))) ⟨m, fun _ => 0, g⟩ (fun r => (∀ c : Dev Cert.MixedIdeal.nD,
      r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
      ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1)
      ∧ r.2.mem ((c.tc : Thread Cert.MixedIdeal.nD Cert.MixedIdeal.τ).loc Cert.MixedIdeal.main_arg2) = m ((c.tc : Thread Cert.MixedIdeal.nD Cert.MixedIdeal.τ).loc Cert.MixedIdeal.main_arg2)
      ∧ r.2.mem ((c.tc : Thread Cert.MixedIdeal.nD Cert.MixedIdeal.τ).loc Cert.MixedIdeal.main_arg3) = m ((c.tc : Thread Cert.MixedIdeal.nD Cert.MixedIdeal.τ).loc Cert.MixedIdeal.main_arg3)
      ∧ r.2.mem ((c.tc : Thread Cert.MixedIdeal.nD Cert.MixedIdeal.τ).loc Cert.MixedIdeal.main_arg4) = m ((c.tc : Thread Cert.MixedIdeal.nD Cert.MixedIdeal.τ).loc Cert.MixedIdeal.main_arg4)
      ∧ r.2.mem ((c.tc : Thread Cert.MixedIdeal.nD Cert.MixedIdeal.τ).loc Cert.MixedIdeal.main_arg5) = m ((c.tc : Thread Cert.MixedIdeal.nD Cert.MixedIdeal.τ).loc Cert.MixedIdeal.main_arg5)
      ∧ r.2.mem ((c.tc : Thread Cert.MixedIdeal.nD Cert.MixedIdeal.τ).loc Cert.MixedIdeal.main_arg6) = m ((c.tc : Thread Cert.MixedIdeal.nD Cert.MixedIdeal.τ).loc Cert.MixedIdeal.main_arg6)
      ∧ r.2.mem ((c.tc : Thread Cert.MixedIdeal.nD Cert.MixedIdeal.τ).loc Cert.MixedIdeal.main_arg7) = m ((c.tc : Thread Cert.MixedIdeal.nD Cert.MixedIdeal.τ).loc Cert.MixedIdeal.main_arg7)
      ∧ r.2.mem ((c.tc : Thread Cert.MixedIdeal.nD Cert.MixedIdeal.τ).loc Cert.MixedIdeal.main_arg8) = m ((c.tc : Thread Cert.MixedIdeal.nD Cert.MixedIdeal.τ).loc Cert.MixedIdeal.main_arg8)
      ∧ r.2.mem ((c.tc : Thread Cert.MixedIdeal.nD Cert.MixedIdeal.τ).loc Cert.MixedIdeal.main_arg9) = m ((c.tc : Thread Cert.MixedIdeal.nD Cert.MixedIdeal.τ).loc Cert.MixedIdeal.main_arg9))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9))
      ∧ r.2.sem = fun _ => 0)

def quiescent_ProjectedIdeal [hProjectedIdeal : Cert.ProjectedIdeal.Facts] : Prop :=
  ∀ (m : (ℓ : Loc Cert.ProjectedIdeal.nD Cert.ProjectedIdeal.τ Cert.ProjectedIdeal.sig) → Buf (Elt Ideal) ℓ) (g : Dev Cert.ProjectedIdeal.nD → PrngReg), Pre_ProjectedIdeal m →
    θ_run (Cert.ProjectedIdeal.defs (F := Ideal)) (onTc (τ := Cert.ProjectedIdeal.τ) (Cert.ProjectedIdeal.main (F := Ideal))) ⟨m, fun _ => 0, g⟩ (fun r => (∀ c : Dev Cert.ProjectedIdeal.nD,
      r.2.mem ((c.tc : Thread Cert.ProjectedIdeal.nD Cert.ProjectedIdeal.τ).loc Cert.ProjectedIdeal.main_arg0) = m ((c.tc : Thread Cert.ProjectedIdeal.nD Cert.ProjectedIdeal.τ).loc Cert.ProjectedIdeal.main_arg0)
      ∧ r.2.mem ((c.tc : Thread Cert.ProjectedIdeal.nD Cert.ProjectedIdeal.τ).loc Cert.ProjectedIdeal.main_arg1) = m ((c.tc : Thread Cert.ProjectedIdeal.nD Cert.ProjectedIdeal.τ).loc Cert.ProjectedIdeal.main_arg1)
      ∧ r.2.mem ((c.tc : Thread Cert.ProjectedIdeal.nD Cert.ProjectedIdeal.τ).loc Cert.ProjectedIdeal.main_arg2) = m ((c.tc : Thread Cert.ProjectedIdeal.nD Cert.ProjectedIdeal.τ).loc Cert.ProjectedIdeal.main_arg2)
      ∧ r.2.mem ((c.tc : Thread Cert.ProjectedIdeal.nD Cert.ProjectedIdeal.τ).loc Cert.ProjectedIdeal.main_arg3) = m ((c.tc : Thread Cert.ProjectedIdeal.nD Cert.ProjectedIdeal.τ).loc Cert.ProjectedIdeal.main_arg3)
      ∧ r.2.mem ((c.tc : Thread Cert.ProjectedIdeal.nD Cert.ProjectedIdeal.τ).loc Cert.ProjectedIdeal.main_arg4) = m ((c.tc : Thread Cert.ProjectedIdeal.nD Cert.ProjectedIdeal.τ).loc Cert.ProjectedIdeal.main_arg4)
      ∧ r.2.mem ((c.tc : Thread Cert.ProjectedIdeal.nD Cert.ProjectedIdeal.τ).loc Cert.ProjectedIdeal.main_arg5) = m ((c.tc : Thread Cert.ProjectedIdeal.nD Cert.ProjectedIdeal.τ).loc Cert.ProjectedIdeal.main_arg5)
      ∧ r.2.mem ((c.tc : Thread Cert.ProjectedIdeal.nD Cert.ProjectedIdeal.τ).loc Cert.ProjectedIdeal.main_arg6) = m ((c.tc : Thread Cert.ProjectedIdeal.nD Cert.ProjectedIdeal.τ).loc Cert.ProjectedIdeal.main_arg6)
      ∧ r.2.mem ((c.tc : Thread Cert.ProjectedIdeal.nD Cert.ProjectedIdeal.τ).loc Cert.ProjectedIdeal.main_arg7) = m ((c.tc : Thread Cert.ProjectedIdeal.nD Cert.ProjectedIdeal.τ).loc Cert.ProjectedIdeal.main_arg7)
      ∧ r.2.mem ((c.tc : Thread Cert.ProjectedIdeal.nD Cert.ProjectedIdeal.τ).loc Cert.ProjectedIdeal.main_arg8) = m ((c.tc : Thread Cert.ProjectedIdeal.nD Cert.ProjectedIdeal.τ).loc Cert.ProjectedIdeal.main_arg8)
      ∧ r.2.mem ((c.tc : Thread Cert.ProjectedIdeal.nD Cert.ProjectedIdeal.τ).loc Cert.ProjectedIdeal.main_arg9) = m ((c.tc : Thread Cert.ProjectedIdeal.nD Cert.ProjectedIdeal.τ).loc Cert.ProjectedIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![8, 1024, 545]⟩ ⟨3, ![64, 1024, 545]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨3, ![8, 512, 128]⟩ ⟨3, ![64, 512, 128]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨3, ![8, 512, 128]⟩ ⟨3, ![64, 512, 128]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![8, 128, 1024]⟩ ⟨3, ![64, 128, 1024]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨3, ![8, 1024, 704]⟩ ⟨3, ![64, 1024, 704]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨3, ![8, 352, 1024]⟩ ⟨3, ![64, 352, 1024]⟩ 0 8 c (m' (((0 : Dev Cert.ReferenceIdeal.nD).tc : Thread Cert.ReferenceIdeal.nD Cert.ReferenceIdeal.τ).loc Cert.ReferenceIdeal.main_arg5))) →
    ∃ (v0 : Buf (Elt Ideal) (((0 : Dev Cert.ReferenceIdeal.nD).tc : Thread Cert.ReferenceIdeal.nD Cert.ReferenceIdeal.τ).loc Cert.ReferenceIdeal.main_v2)) (v1 : Buf (Elt Ideal) (((0 : Dev Cert.ReferenceIdeal.nD).tc : Thread Cert.ReferenceIdeal.nD Cert.ReferenceIdeal.τ).loc Cert.ReferenceIdeal.main_v5)) (v2 : Buf (Elt Ideal) (((0 : Dev Cert.ReferenceIdeal.nD).tc : Thread Cert.ReferenceIdeal.nD Cert.ReferenceIdeal.τ).loc Cert.ReferenceIdeal.main_v8)) (v3 : Buf (Elt Ideal) (((0 : Dev Cert.ReferenceIdeal.nD).tc : Thread Cert.ReferenceIdeal.nD Cert.ReferenceIdeal.τ).loc Cert.ReferenceIdeal.main_v11)) (v4 : Buf (Elt Ideal) (((0 : Dev Cert.ReferenceIdeal.nD).tc : Thread Cert.ReferenceIdeal.nD Cert.ReferenceIdeal.τ).loc Cert.ReferenceIdeal.main_v14)) (v5 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨3, ![8, 1024, 545]⟩ ⟨3, ![64, 1024, 545]⟩ 0 8 c v0
          ∧ r.2.mem ((c.tc : Thread Cert.KernelIdeal.nD Cert.KernelIdeal.τ).loc Cert.KernelIdeal.main_v1_1) = Layout.block ⟨3, ![8, 512, 128]⟩ ⟨3, ![64, 512, 128]⟩ 0 8 c v1
          ∧ r.2.mem ((c.tc : Thread Cert.KernelIdeal.nD Cert.KernelIdeal.τ).loc Cert.KernelIdeal.main_v1_2) = Layout.block ⟨3, ![8, 512, 128]⟩ ⟨3, ![64, 512, 128]⟩ 0 8 c v2
          ∧ r.2.mem ((c.tc : Thread Cert.KernelIdeal.nD Cert.KernelIdeal.τ).loc Cert.KernelIdeal.main_v1_3) = Layout.block ⟨3, ![8, 128, 1024]⟩ ⟨3, ![64, 128, 1024]⟩ 0 8 c v3
          ∧ r.2.mem ((c.tc : Thread Cert.KernelIdeal.nD Cert.KernelIdeal.τ).loc Cert.KernelIdeal.main_v1_4) = Layout.block ⟨3, ![8, 1024, 704]⟩ ⟨3, ![64, 1024, 704]⟩ 0 8 c v4
          ∧ r.2.mem ((c.tc : Thread Cert.KernelIdeal.nD Cert.KernelIdeal.τ).loc Cert.KernelIdeal.main_v1_5) = Layout.block ⟨3, ![8, 352, 1024]⟩ ⟨3, ![64, 352, 1024]⟩ 0 8 c v5
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_v5) = v1
          ∧ r.2.mem (((0 : Dev Cert.ReferenceIdeal.nD).tc : Thread Cert.ReferenceIdeal.nD Cert.ReferenceIdeal.τ).loc Cert.ReferenceIdeal.main_v8) = v2
          ∧ r.2.mem (((0 : Dev Cert.ReferenceIdeal.nD).tc : Thread Cert.ReferenceIdeal.nD Cert.ReferenceIdeal.τ).loc Cert.ReferenceIdeal.main_v11) = v3
          ∧ r.2.mem (((0 : Dev Cert.ReferenceIdeal.nD).tc : Thread Cert.ReferenceIdeal.nD Cert.ReferenceIdeal.τ).loc Cert.ReferenceIdeal.main_v14) = v4
          ∧ r.2.mem (((0 : Dev Cert.ReferenceIdeal.nD).tc : Thread Cert.ReferenceIdeal.nD Cert.ReferenceIdeal.τ).loc Cert.ReferenceIdeal.main_v17) = v5
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.block ⟨3, ![8, 1024, 545]⟩ ⟨3, ![64, 1024, 545]⟩ 0 8 c (m' (((0 : Dev Cert.Reference.nD).tc : Thread Cert.Reference.nD Cert.Reference.τ).loc Cert.Reference.main_arg0))
      ∧ m ((c.tc : Thread Cert.Kernel.nD Cert.Kernel.τ).loc Cert.Kernel.main_arg1) = Layout.block ⟨3, ![8, 512, 128]⟩ ⟨3, ![64, 512, 128]⟩ 0 8 c (m' (((0 : Dev Cert.Reference.nD).tc : Thread Cert.Reference.nD Cert.Reference.τ).loc Cert.Reference.main_arg1))
      ∧ m ((c.tc : Thread Cert.Kernel.nD Cert.Kernel.τ).loc Cert.Kernel.main_arg2) = Layout.block ⟨3, ![8, 512, 128]⟩ ⟨3, ![64, 512, 128]⟩ 0 8 c (m' (((0 : Dev Cert.Reference.nD).tc : Thread Cert.Reference.nD Cert.Reference.τ).loc Cert.Reference.main_arg2))
      ∧ m ((c.tc : Thread Cert.Kernel.nD Cert.Kernel.τ).loc Cert.Kernel.main_arg3) = Layout.block ⟨3, ![8, 128, 1024]⟩ ⟨3, ![64, 128, 1024]⟩ 0 8 c (m' (((0 : Dev Cert.Reference.nD).tc : Thread Cert.Reference.nD Cert.Reference.τ).loc Cert.Reference.main_arg3))
      ∧ m ((c.tc : Thread Cert.Kernel.nD Cert.Kernel.τ).loc Cert.Kernel.main_arg4) = Layout.block ⟨3, ![8, 1024, 704]⟩ ⟨3, ![64, 1024, 704]⟩ 0 8 c (m' (((0 : Dev Cert.Reference.nD).tc : Thread Cert.Reference.nD Cert.Reference.τ).loc Cert.Reference.main_arg4))
      ∧ m ((c.tc : Thread Cert.Kernel.nD Cert.Kernel.τ).loc Cert.Kernel.main_arg5) = Layout.block ⟨3, ![8, 352, 1024]⟩ ⟨3, ![64, 352, 1024]⟩ 0 8 c (m' (((0 : Dev Cert.Reference.nD).tc : Thread Cert.Reference.nD Cert.Reference.τ).loc Cert.Reference.main_arg5))) →
    ∃ (v0 : Buf (Elt Bits) (((0 : Dev Cert.Reference.nD).tc : Thread Cert.Reference.nD Cert.Reference.τ).loc Cert.Reference.main_v2)) (v1 : Buf (Elt Bits) (((0 : Dev Cert.Reference.nD).tc : Thread Cert.Reference.nD Cert.Reference.τ).loc Cert.Reference.main_v5)) (v2 : Buf (Elt Bits) (((0 : Dev Cert.Reference.nD).tc : Thread Cert.Reference.nD Cert.Reference.τ).loc Cert.Reference.main_v8)) (v3 : Buf (Elt Bits) (((0 : Dev Cert.Reference.nD).tc : Thread Cert.Reference.nD Cert.Reference.τ).loc Cert.Reference.main_v11)) (v4 : Buf (Elt Bits) (((0 : Dev Cert.Reference.nD).tc : Thread Cert.Reference.nD Cert.Reference.τ).loc Cert.Reference.main_v14)) (v5 : Buf (Elt Bits) (((0 : Dev Cert.Reference.nD).tc : Thread Cert.Reference.nD Cert.Reference.τ).loc Cert.Reference.main_v17)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1_0) = Layout.block ⟨3, ![8, 1024, 545]⟩ ⟨3, ![64, 1024, 545]⟩ 0 8 c v0
          ∧ r.2.mem ((c.tc : Thread Cert.Kernel.nD Cert.Kernel.τ).loc Cert.Kernel.main_v1_1) = Layout.block ⟨3, ![8, 512, 128]⟩ ⟨3, ![64, 512, 128]⟩ 0 8 c v1
          ∧ r.2.mem ((c.tc : Thread Cert.Kernel.nD Cert.Kernel.τ).loc Cert.Kernel.main_v1_2) = Layout.block ⟨3, ![8, 512, 128]⟩ ⟨3, ![64, 512, 128]⟩ 0 8 c v2
          ∧ r.2.mem ((c.tc : Thread Cert.Kernel.nD Cert.Kernel.τ).loc Cert.Kernel.main_v1_3) = Layout.block ⟨3, ![8, 128, 1024]⟩ ⟨3, ![64, 128, 1024]⟩ 0 8 c v3
          ∧ r.2.mem ((c.tc : Thread Cert.Kernel.nD Cert.Kernel.τ).loc Cert.Kernel.main_v1_4) = Layout.block ⟨3, ![8, 1024, 704]⟩ ⟨3, ![64, 1024, 704]⟩ 0 8 c v4
          ∧ r.2.mem ((c.tc : Thread Cert.Kernel.nD Cert.Kernel.τ).loc Cert.Kernel.main_v1_5) = Layout.block ⟨3, ![8, 352, 1024]⟩ ⟨3, ![64, 352, 1024]⟩ 0 8 c v5
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4)
          ∧ r.2.mem ((c.tc : Thread Cert.Kernel.nD Cert.Kernel.τ).loc Cert.Kernel.main_arg5) = m ((c.tc : Thread Cert.Kernel.nD Cert.Kernel.τ).loc Cert.Kernel.main_arg5))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v2) = v0
          ∧ r.2.mem (((0 : Dev Cert.Reference.nD).tc : Thread Cert.Reference.nD Cert.Reference.τ).loc Cert.Reference.main_v5) = v1
          ∧ r.2.mem (((0 : Dev Cert.Reference.nD).tc : Thread Cert.Reference.nD Cert.Reference.τ).loc Cert.Reference.main_v8) = v2
          ∧ r.2.mem (((0 : Dev Cert.Reference.nD).tc : Thread Cert.Reference.nD Cert.Reference.τ).loc Cert.Reference.main_v11) = v3
          ∧ r.2.mem (((0 : Dev Cert.Reference.nD).tc : Thread Cert.Reference.nD Cert.Reference.τ).loc Cert.Reference.main_v14) = v4
          ∧ r.2.mem (((0 : Dev Cert.Reference.nD).tc : Thread Cert.Reference.nD Cert.Reference.τ).loc Cert.Reference.main_v17) = v5
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1)
          ∧ r.2.mem (((0 : Dev Cert.Reference.nD).tc : Thread Cert.Reference.nD Cert.Reference.τ).loc Cert.Reference.main_arg2) = m' (((0 : Dev Cert.Reference.nD).tc : Thread Cert.Reference.nD Cert.Reference.τ).loc Cert.Reference.main_arg2)
          ∧ r.2.mem (((0 : Dev Cert.Reference.nD).tc : Thread Cert.Reference.nD Cert.Reference.τ).loc Cert.Reference.main_arg3) = m' (((0 : Dev Cert.Reference.nD).tc : Thread Cert.Reference.nD Cert.Reference.τ).loc Cert.Reference.main_arg3)
          ∧ r.2.mem (((0 : Dev Cert.Reference.nD).tc : Thread Cert.Reference.nD Cert.Reference.τ).loc Cert.Reference.main_arg4) = m' (((0 : Dev Cert.Reference.nD).tc : Thread Cert.Reference.nD Cert.Reference.τ).loc Cert.Reference.main_arg4)
          ∧ r.2.mem (((0 : Dev Cert.Reference.nD).tc : Thread Cert.Reference.nD Cert.Reference.τ).loc Cert.Reference.main_arg5) = m' (((0 : Dev Cert.Reference.nD).tc : Thread Cert.Reference.nD Cert.Reference.τ).loc Cert.Reference.main_arg5))

def preserves_Gather_GatherIdeal : Prop :=
  True

def algebraic_GatherIdeal_GatherReferenceIdeal [hGatherIdeal : Cert.GatherIdeal.Facts] [hGatherReferenceIdeal : Cert.GatherReferenceIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m ((c.tc : Thread Cert.GatherIdeal.nD Cert.GatherIdeal.τ).loc Cert.GatherIdeal.main_arg0) = Layout.block ⟨2, ![1024, 545]⟩ ⟨2, ![1024, 4360]⟩ 1 8 c (m' (((0 : Dev Cert.GatherReferenceIdeal.nD).tc : Thread Cert.GatherReferenceIdeal.nD Cert.GatherReferenceIdeal.τ).loc Cert.GatherReferenceIdeal.main_arg0))
      ∧ m ((c.tc : Thread Cert.GatherIdeal.nD Cert.GatherIdeal.τ).loc Cert.GatherIdeal.main_arg1) = Layout.block ⟨2, ![512, 128]⟩ ⟨2, ![512, 1024]⟩ 1 8 c (m' (((0 : Dev Cert.GatherReferenceIdeal.nD).tc : Thread Cert.GatherReferenceIdeal.nD Cert.GatherReferenceIdeal.τ).loc Cert.GatherReferenceIdeal.main_arg1))
      ∧ m ((c.tc : Thread Cert.GatherIdeal.nD Cert.GatherIdeal.τ).loc Cert.GatherIdeal.main_arg2) = Layout.block ⟨2, ![512, 128]⟩ ⟨2, ![512, 1024]⟩ 1 8 c (m' (((0 : Dev Cert.GatherReferenceIdeal.nD).tc : Thread Cert.GatherReferenceIdeal.nD Cert.GatherReferenceIdeal.τ).loc Cert.GatherReferenceIdeal.main_arg2))
      ∧ m ((c.tc : Thread Cert.GatherIdeal.nD Cert.GatherIdeal.τ).loc Cert.GatherIdeal.main_arg3) = Layout.block ⟨2, ![128, 1024]⟩ ⟨2, ![1024, 1024]⟩ 0 8 c (m' (((0 : Dev Cert.GatherReferenceIdeal.nD).tc : Thread Cert.GatherReferenceIdeal.nD Cert.GatherReferenceIdeal.τ).loc Cert.GatherReferenceIdeal.main_arg3))
      ∧ m ((c.tc : Thread Cert.GatherIdeal.nD Cert.GatherIdeal.τ).loc Cert.GatherIdeal.main_arg4) = Layout.block ⟨2, ![1024, 704]⟩ ⟨2, ![1024, 5632]⟩ 1 8 c (m' (((0 : Dev Cert.GatherReferenceIdeal.nD).tc : Thread Cert.GatherReferenceIdeal.nD Cert.GatherReferenceIdeal.τ).loc Cert.GatherReferenceIdeal.main_arg4))
      ∧ m ((c.tc : Thread Cert.GatherIdeal.nD Cert.GatherIdeal.τ).loc Cert.GatherIdeal.main_arg5) = Layout.block ⟨2, ![352, 1024]⟩ ⟨2, ![2816, 1024]⟩ 0 8 c (m' (((0 : Dev Cert.GatherReferenceIdeal.nD).tc : Thread Cert.GatherReferenceIdeal.nD Cert.GatherReferenceIdeal.τ).loc Cert.GatherReferenceIdeal.main_arg5))) →
    ∃ (v0 : Buf (Elt Ideal) (((0 : Dev Cert.GatherReferenceIdeal.nD).tc : Thread Cert.GatherReferenceIdeal.nD Cert.GatherReferenceIdeal.τ).loc Cert.GatherReferenceIdeal.main_v1)) (v1 : Buf (Elt Ideal) (((0 : Dev Cert.GatherReferenceIdeal.nD).tc : Thread Cert.GatherReferenceIdeal.nD Cert.GatherReferenceIdeal.τ).loc Cert.GatherReferenceIdeal.main_v3)) (v2 : Buf (Elt Ideal) (((0 : Dev Cert.GatherReferenceIdeal.nD).tc : Thread Cert.GatherReferenceIdeal.nD Cert.GatherReferenceIdeal.τ).loc Cert.GatherReferenceIdeal.main_v5)) (v3 : Buf (Elt Ideal) (((0 : Dev Cert.GatherReferenceIdeal.nD).tc : Thread Cert.GatherReferenceIdeal.nD Cert.GatherReferenceIdeal.τ).loc Cert.GatherReferenceIdeal.main_v6)) (v4 : Buf (Elt Ideal) (((0 : Dev Cert.GatherReferenceIdeal.nD).tc : Thread Cert.GatherReferenceIdeal.nD Cert.GatherReferenceIdeal.τ).loc Cert.GatherReferenceIdeal.main_v8)) (v5 : Buf (Elt Ideal) (((0 : Dev Cert.GatherReferenceIdeal.nD).tc : Thread Cert.GatherReferenceIdeal.nD Cert.GatherReferenceIdeal.τ).loc Cert.GatherReferenceIdeal.main_v9)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1_0) = v0
          ∧ r.2.mem ((c.tc : Thread Cert.GatherIdeal.nD Cert.GatherIdeal.τ).loc Cert.GatherIdeal.main_v1_1) = v1
          ∧ r.2.mem ((c.tc : Thread Cert.GatherIdeal.nD Cert.GatherIdeal.τ).loc Cert.GatherIdeal.main_v1_2) = v2
          ∧ r.2.mem ((c.tc : Thread Cert.GatherIdeal.nD Cert.GatherIdeal.τ).loc Cert.GatherIdeal.main_v1_3) = v3
          ∧ r.2.mem ((c.tc : Thread Cert.GatherIdeal.nD Cert.GatherIdeal.τ).loc Cert.GatherIdeal.main_v1_4) = v4
          ∧ r.2.mem ((c.tc : Thread Cert.GatherIdeal.nD Cert.GatherIdeal.τ).loc Cert.GatherIdeal.main_v1_5) = v5
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
          ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
          ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4)
          ∧ r.2.mem ((c.tc : Thread Cert.GatherIdeal.nD Cert.GatherIdeal.τ).loc Cert.GatherIdeal.main_arg5) = m ((c.tc : Thread Cert.GatherIdeal.nD Cert.GatherIdeal.τ).loc Cert.GatherIdeal.main_arg5))
      ∧ θ_run (Cert.GatherReferenceIdeal.defs (F := Ideal)) (onTc (τ := Cert.GatherReferenceIdeal.τ) (Cert.GatherReferenceIdeal.main (F := Ideal))) ⟨m', fun _ => 0, g'⟩ (fun r =>
          r.2.mem (((0 : Dev Cert.GatherReferenceIdeal.nD).tc : Thread Cert.GatherReferenceIdeal.nD Cert.GatherReferenceIdeal.τ).loc Cert.GatherReferenceIdeal.main_v1) = v0
          ∧ r.2.mem (((0 : Dev Cert.GatherReferenceIdeal.nD).tc : Thread Cert.GatherReferenceIdeal.nD Cert.GatherReferenceIdeal.τ).loc Cert.GatherReferenceIdeal.main_v3) = v1
          ∧ r.2.mem (((0 : Dev Cert.GatherReferenceIdeal.nD).tc : Thread Cert.GatherReferenceIdeal.nD Cert.GatherReferenceIdeal.τ).loc Cert.GatherReferenceIdeal.main_v5) = v2
          ∧ r.2.mem (((0 : Dev Cert.GatherReferenceIdeal.nD).tc : Thread Cert.GatherReferenceIdeal.nD Cert.GatherReferenceIdeal.τ).loc Cert.GatherReferenceIdeal.main_v6) = v3
          ∧ r.2.mem (((0 : Dev Cert.GatherReferenceIdeal.nD).tc : Thread Cert.GatherReferenceIdeal.nD Cert.GatherReferenceIdeal.τ).loc Cert.GatherReferenceIdeal.main_v8) = v4
          ∧ r.2.mem (((0 : Dev Cert.GatherReferenceIdeal.nD).tc : Thread Cert.GatherReferenceIdeal.nD Cert.GatherReferenceIdeal.τ).loc Cert.GatherReferenceIdeal.main_v9) = v5
          ∧ r.2.mem (((0 : Dev Cert.GatherReferenceIdeal.nD).tc : Thread Cert.GatherReferenceIdeal.nD Cert.GatherReferenceIdeal.τ).loc Cert.GatherReferenceIdeal.main_arg0) = m' (((0 : Dev Cert.GatherReferenceIdeal.nD).tc : Thread Cert.GatherReferenceIdeal.nD Cert.GatherReferenceIdeal.τ).loc Cert.GatherReferenceIdeal.main_arg0)
          ∧ r.2.mem (((0 : Dev Cert.GatherReferenceIdeal.nD).tc : Thread Cert.GatherReferenceIdeal.nD Cert.GatherReferenceIdeal.τ).loc Cert.GatherReferenceIdeal.main_arg1) = m' (((0 : Dev Cert.GatherReferenceIdeal.nD).tc : Thread Cert.GatherReferenceIdeal.nD Cert.GatherReferenceIdeal.τ).loc Cert.GatherReferenceIdeal.main_arg1)
          ∧ r.2.mem (((0 : Dev Cert.GatherReferenceIdeal.nD).tc : Thread Cert.GatherReferenceIdeal.nD Cert.GatherReferenceIdeal.τ).loc Cert.GatherReferenceIdeal.main_arg2) = m' (((0 : Dev Cert.GatherReferenceIdeal.nD).tc : Thread Cert.GatherReferenceIdeal.nD Cert.GatherReferenceIdeal.τ).loc Cert.GatherReferenceIdeal.main_arg2)
          ∧ r.2.mem (((0 : Dev Cert.GatherReferenceIdeal.nD).tc : Thread Cert.GatherReferenceIdeal.nD Cert.GatherReferenceIdeal.τ).loc Cert.GatherReferenceIdeal.main_arg3) = m' (((0 : Dev Cert.GatherReferenceIdeal.nD).tc : Thread Cert.GatherReferenceIdeal.nD Cert.GatherReferenceIdeal.τ).loc Cert.GatherReferenceIdeal.main_arg3)
          ∧ r.2.mem (((0 : Dev Cert.GatherReferenceIdeal.nD).tc : Thread Cert.GatherReferenceIdeal.nD Cert.GatherReferenceIdeal.τ).loc Cert.GatherReferenceIdeal.main_arg4) = m' (((0 : Dev Cert.GatherReferenceIdeal.nD).tc : Thread Cert.GatherReferenceIdeal.nD Cert.GatherReferenceIdeal.τ).loc Cert.GatherReferenceIdeal.main_arg4)
          ∧ r.2.mem (((0 : Dev Cert.GatherReferenceIdeal.nD).tc : Thread Cert.GatherReferenceIdeal.nD Cert.GatherReferenceIdeal.τ).loc Cert.GatherReferenceIdeal.main_arg5) = m' (((0 : Dev Cert.GatherReferenceIdeal.nD).tc : Thread Cert.GatherReferenceIdeal.nD Cert.GatherReferenceIdeal.τ).loc Cert.GatherReferenceIdeal.main_arg5))

def bitexact_Gather_GatherReference [hGather : Cert.Gather.Facts] [hGatherReference : Cert.GatherReference.Facts] : Prop :=
  ∀ (m : (ℓ : Loc Cert.Gather.nD Cert.Gather.τ Cert.Gather.sig) → Buf (Elt Bits) ℓ) (g : Dev Cert.Gather.nD → PrngReg)
    (m' : (ℓ : Loc Cert.GatherReference.nD Cert.GatherReference.τ Cert.GatherReference.sig) → Buf (Elt Bits) ℓ) (g' : Dev Cert.GatherReference.nD → PrngReg), Pre_Gather m →
    (∀ c : Dev Cert.Gather.nD,
      m ((c.tc : Thread Cert.Gather.nD Cert.Gather.τ).loc Cert.Gather.main_arg0) = Layout.block ⟨2, ![1024, 545]⟩ ⟨2, ![1024, 4360]⟩ 1 8 c (m' (((0 : Dev Cert.GatherReference.nD).tc : Thread Cert.GatherReference.nD Cert.GatherReference.τ).loc Cert.GatherReference.main_arg0))
      ∧ m ((c.tc : Thread Cert.Gather.nD Cert.Gather.τ).loc Cert.Gather.main_arg1) = Layout.block ⟨2, ![512, 128]⟩ ⟨2, ![512, 1024]⟩ 1 8 c (m' (((0 : Dev Cert.GatherReference.nD).tc : Thread Cert.GatherReference.nD Cert.GatherReference.τ).loc Cert.GatherReference.main_arg1))
      ∧ m ((c.tc : Thread Cert.Gather.nD Cert.Gather.τ).loc Cert.Gather.main_arg2) = Layout.block ⟨2, ![512, 128]⟩ ⟨2, ![512, 1024]⟩ 1 8 c (m' (((0 : Dev Cert.GatherReference.nD).tc : Thread Cert.GatherReference.nD Cert.GatherReference.τ).loc Cert.GatherReference.main_arg2))
      ∧ m ((c.tc : Thread Cert.Gather.nD Cert.Gather.τ).loc Cert.Gather.main_arg3) = Layout.block ⟨2, ![128, 1024]⟩ ⟨2, ![1024, 1024]⟩ 0 8 c (m' (((0 : Dev Cert.GatherReference.nD).tc : Thread Cert.GatherReference.nD Cert.GatherReference.τ).loc Cert.GatherReference.main_arg3))
      ∧ m ((c.tc : Thread Cert.Gather.nD Cert.Gather.τ).loc Cert.Gather.main_arg4) = Layout.block ⟨2, ![1024, 704]⟩ ⟨2, ![1024, 5632]⟩ 1 8 c (m' (((0 : Dev Cert.GatherReference.nD).tc : Thread Cert.GatherReference.nD Cert.GatherReference.τ).loc Cert.GatherReference.main_arg4))
      ∧ m ((c.tc : Thread Cert.Gather.nD Cert.Gather.τ).loc Cert.Gather.main_arg5) = Layout.block ⟨2, ![352, 1024]⟩ ⟨2, ![2816, 1024]⟩ 0 8 c (m' (((0 : Dev Cert.GatherReference.nD).tc : Thread Cert.GatherReference.nD Cert.GatherReference.τ).loc Cert.GatherReference.main_arg5))) →
    ∃ (v0 : Buf (Elt Bits) (((0 : Dev Cert.GatherReference.nD).tc : Thread Cert.GatherReference.nD Cert.GatherReference.τ).loc Cert.GatherReference.main_v1)) (v1 : Buf (Elt Bits) (((0 : Dev Cert.GatherReference.nD).tc : Thread Cert.GatherReference.nD Cert.GatherReference.τ).loc Cert.GatherReference.main_v3)) (v2 : Buf (Elt Bits) (((0 : Dev Cert.GatherReference.nD).tc : Thread Cert.GatherReference.nD Cert.GatherReference.τ).loc Cert.GatherReference.main_v5)) (v3 : Buf (Elt Bits) (((0 : Dev Cert.GatherReference.nD).tc : Thread Cert.GatherReference.nD Cert.GatherReference.τ).loc Cert.GatherReference.main_v6)) (v4 : Buf (Elt Bits) (((0 : Dev Cert.GatherReference.nD).tc : Thread Cert.GatherReference.nD Cert.GatherReference.τ).loc Cert.GatherReference.main_v8)) (v5 : Buf (Elt Bits) (((0 : Dev Cert.GatherReference.nD).tc : Thread Cert.GatherReference.nD Cert.GatherReference.τ).loc Cert.GatherReference.main_v9)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1_0) = v0
          ∧ r.2.mem ((c.tc : Thread Cert.Gather.nD Cert.Gather.τ).loc Cert.Gather.main_v1_1) = v1
          ∧ r.2.mem ((c.tc : Thread Cert.Gather.nD Cert.Gather.τ).loc Cert.Gather.main_v1_2) = v2
          ∧ r.2.mem ((c.tc : Thread Cert.Gather.nD Cert.Gather.τ).loc Cert.Gather.main_v1_3) = v3
          ∧ r.2.mem ((c.tc : Thread Cert.Gather.nD Cert.Gather.τ).loc Cert.Gather.main_v1_4) = v4
          ∧ r.2.mem ((c.tc : Thread Cert.Gather.nD Cert.Gather.τ).loc Cert.Gather.main_v1_5) = v5
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1)
          ∧ r.2.mem ((c.tc : Thread Cert.Gather.nD Cert.Gather.τ).loc Cert.Gather.main_arg2) = m ((c.tc : Thread Cert.Gather.nD Cert.Gather.τ).loc Cert.Gather.main_arg2)
          ∧ r.2.mem ((c.tc : Thread Cert.Gather.nD Cert.Gather.τ).loc Cert.Gather.main_arg3) = m ((c.tc : Thread Cert.Gather.nD Cert.Gather.τ).loc Cert.Gather.main_arg3)
          ∧ r.2.mem ((c.tc : Thread Cert.Gather.nD Cert.Gather.τ).loc Cert.Gather.main_arg4) = m ((c.tc : Thread Cert.Gather.nD Cert.Gather.τ).loc Cert.Gather.main_arg4)
          ∧ r.2.mem ((c.tc : Thread Cert.Gather.nD Cert.Gather.τ).loc Cert.Gather.main_arg5) = m ((c.tc : Thread Cert.Gather.nD Cert.Gather.τ).loc Cert.Gather.main_arg5))
      ∧ θ_run (Cert.GatherReference.defs (F := Bits)) (onTc (τ := Cert.GatherReference.τ) (Cert.GatherReference.main (F := Bits))) ⟨m', fun _ => 0, g'⟩ (fun r =>
          r.2.mem (((0 : Dev Cert.GatherReference.nD).tc : Thread Cert.GatherReference.nD Cert.GatherReference.τ).loc Cert.GatherReference.main_v1) = v0
          ∧ r.2.mem (((0 : Dev Cert.GatherReference.nD).tc : Thread Cert.GatherReference.nD Cert.GatherReference.τ).loc Cert.GatherReference.main_v3) = v1
          ∧ r.2.mem (((0 : Dev Cert.GatherReference.nD).tc : Thread Cert.GatherReference.nD Cert.GatherReference.τ).loc Cert.GatherReference.main_v5) = v2
          ∧ r.2.mem (((0 : Dev Cert.GatherReference.nD).tc : Thread Cert.GatherReference.nD Cert.GatherReference.τ).loc Cert.GatherReference.main_v6) = v3
          ∧ r.2.mem (((0 : Dev Cert.GatherReference.nD).tc : Thread Cert.GatherReference.nD Cert.GatherReference.τ).loc Cert.GatherReference.main_v8) = v4
          ∧ r.2.mem (((0 : Dev Cert.GatherReference.nD).tc : Thread Cert.GatherReference.nD Cert.GatherReference.τ).loc Cert.GatherReference.main_v9) = v5
          ∧ r.2.mem (((0 : Dev Cert.GatherReference.nD).tc : Thread Cert.GatherReference.nD Cert.GatherReference.τ).loc Cert.GatherReference.main_arg0) = m' (((0 : Dev Cert.GatherReference.nD).tc : Thread Cert.GatherReference.nD Cert.GatherReference.τ).loc Cert.GatherReference.main_arg0)
          ∧ r.2.mem (((0 : Dev Cert.GatherReference.nD).tc : Thread Cert.GatherReference.nD Cert.GatherReference.τ).loc Cert.GatherReference.main_arg1) = m' (((0 : Dev Cert.GatherReference.nD).tc : Thread Cert.GatherReference.nD Cert.GatherReference.τ).loc Cert.GatherReference.main_arg1)
          ∧ r.2.mem (((0 : Dev Cert.GatherReference.nD).tc : Thread Cert.GatherReference.nD Cert.GatherReference.τ).loc Cert.GatherReference.main_arg2) = m' (((0 : Dev Cert.GatherReference.nD).tc : Thread Cert.GatherReference.nD Cert.GatherReference.τ).loc Cert.GatherReference.main_arg2)
          ∧ r.2.mem (((0 : Dev Cert.GatherReference.nD).tc : Thread Cert.GatherReference.nD Cert.GatherReference.τ).loc Cert.GatherReference.main_arg3) = m' (((0 : Dev Cert.GatherReference.nD).tc : Thread Cert.GatherReference.nD Cert.GatherReference.τ).loc Cert.GatherReference.main_arg3)
          ∧ r.2.mem (((0 : Dev Cert.GatherReference.nD).tc : Thread Cert.GatherReference.nD Cert.GatherReference.τ).loc Cert.GatherReference.main_arg4) = m' (((0 : Dev Cert.GatherReference.nD).tc : Thread Cert.GatherReference.nD Cert.GatherReference.τ).loc Cert.GatherReference.main_arg4)
          ∧ r.2.mem (((0 : Dev Cert.GatherReference.nD).tc : Thread Cert.GatherReference.nD Cert.GatherReference.τ).loc Cert.GatherReference.main_arg5) = m' (((0 : Dev Cert.GatherReference.nD).tc : Thread Cert.GatherReference.nD Cert.GatherReference.τ).loc Cert.GatherReference.main_arg5))

def preserves_UpdateAda_UpdateAdaIdeal : Prop :=
  True

def algebraic_UpdateAdaIdeal_UpdatedAdaIdeal [hUpdateAdaIdeal : Cert.UpdateAdaIdeal.Facts] [hUpdatedAdaIdeal : Cert.UpdatedAdaIdeal.Facts] : Prop :=
  ∀ (m : (ℓ : Loc Cert.UpdateAdaIdeal.nD Cert.UpdateAdaIdeal.τ Cert.UpdateAdaIdeal.sig) → Buf (Elt Ideal) ℓ) (g : Dev Cert.UpdateAdaIdeal.nD → PrngReg)
    (m' : (ℓ : Loc Cert.UpdatedAdaIdeal.nD Cert.UpdatedAdaIdeal.τ Cert.UpdatedAdaIdeal.sig) → Buf (Elt Ideal) ℓ) (g' : Dev Cert.UpdatedAdaIdeal.nD → PrngReg), Pre_UpdateAdaIdeal m →
    (∀ c : Dev Cert.UpdateAdaIdeal.nD,
      m' ((c.tc : Thread Cert.UpdatedAdaIdeal.nD Cert.UpdatedAdaIdeal.τ).loc Cert.UpdatedAdaIdeal.main_arg0) = m ((c.tc : Thread Cert.UpdateAdaIdeal.nD Cert.UpdateAdaIdeal.τ).loc Cert.UpdateAdaIdeal.main_arg0)
      ∧ m' ((c.tc : Thread Cert.UpdatedAdaIdeal.nD Cert.UpdatedAdaIdeal.τ).loc Cert.UpdatedAdaIdeal.main_arg1) = m ((c.tc : Thread Cert.UpdateAdaIdeal.nD Cert.UpdateAdaIdeal.τ).loc Cert.UpdateAdaIdeal.main_arg1)
      ∧ m' ((c.tc : Thread Cert.UpdatedAdaIdeal.nD Cert.UpdatedAdaIdeal.τ).loc Cert.UpdatedAdaIdeal.main_arg2) = m ((c.tc : Thread Cert.UpdateAdaIdeal.nD Cert.UpdateAdaIdeal.τ).loc Cert.UpdateAdaIdeal.main_arg2)
      ∧ m' ((c.tc : Thread Cert.UpdatedAdaIdeal.nD Cert.UpdatedAdaIdeal.τ).loc Cert.UpdatedAdaIdeal.main_arg3) = m ((c.tc : Thread Cert.UpdateAdaIdeal.nD Cert.UpdateAdaIdeal.τ).loc Cert.UpdateAdaIdeal.main_arg3)) →
    ∃ (v0 : (c : Dev Cert.UpdateAdaIdeal.nD) → Buf (Elt Ideal) ((c.tc : Thread Cert.UpdateAdaIdeal.nD Cert.UpdateAdaIdeal.τ).loc Cert.UpdateAdaIdeal.main_v0_0)) (v1 : (c : Dev Cert.UpdateAdaIdeal.nD) → Buf (Elt Ideal) ((c.tc : Thread Cert.UpdateAdaIdeal.nD Cert.UpdateAdaIdeal.τ).loc Cert.UpdateAdaIdeal.main_v0_1)) (v2 : (c : Dev Cert.UpdateAdaIdeal.nD) → Buf (Elt Ideal) ((c.tc : Thread Cert.UpdateAdaIdeal.nD Cert.UpdateAdaIdeal.τ).loc Cert.UpdateAdaIdeal.main_v0_2)) (v3 : (c : Dev Cert.UpdateAdaIdeal.nD) → Buf (Elt Ideal) ((c.tc : Thread Cert.UpdateAdaIdeal.nD Cert.UpdateAdaIdeal.τ).loc Cert.UpdateAdaIdeal.main_v0_3)),
      θ_run (Cert.UpdateAdaIdeal.defs (F := Ideal)) (onTc (τ := Cert.UpdateAdaIdeal.τ) (Cert.UpdateAdaIdeal.main (F := Ideal))) ⟨m, fun _ => 0, g⟩ (fun r => ∀ c : Dev Cert.UpdateAdaIdeal.nD,
          r.2.mem ((c.tc : Thread Cert.UpdateAdaIdeal.nD Cert.UpdateAdaIdeal.τ).loc Cert.UpdateAdaIdeal.main_v0_0) = v0 c
          ∧ r.2.mem ((c.tc : Thread Cert.UpdateAdaIdeal.nD Cert.UpdateAdaIdeal.τ).loc Cert.UpdateAdaIdeal.main_v0_1) = v1 c
          ∧ r.2.mem ((c.tc : Thread Cert.UpdateAdaIdeal.nD Cert.UpdateAdaIdeal.τ).loc Cert.UpdateAdaIdeal.main_v0_2) = v2 c
          ∧ r.2.mem ((c.tc : Thread Cert.UpdateAdaIdeal.nD Cert.UpdateAdaIdeal.τ).loc Cert.UpdateAdaIdeal.main_v0_3) = v3 c
          ∧ r.2.mem ((c.tc : Thread Cert.UpdateAdaIdeal.nD Cert.UpdateAdaIdeal.τ).loc Cert.UpdateAdaIdeal.main_arg0) = m ((c.tc : Thread Cert.UpdateAdaIdeal.nD Cert.UpdateAdaIdeal.τ).loc Cert.UpdateAdaIdeal.main_arg0)
          ∧ r.2.mem ((c.tc : Thread Cert.UpdateAdaIdeal.nD Cert.UpdateAdaIdeal.τ).loc Cert.UpdateAdaIdeal.main_arg1) = m ((c.tc : Thread Cert.UpdateAdaIdeal.nD Cert.UpdateAdaIdeal.τ).loc Cert.UpdateAdaIdeal.main_arg1)
          ∧ r.2.mem ((c.tc : Thread Cert.UpdateAdaIdeal.nD Cert.UpdateAdaIdeal.τ).loc Cert.UpdateAdaIdeal.main_arg2) = m ((c.tc : Thread Cert.UpdateAdaIdeal.nD Cert.UpdateAdaIdeal.τ).loc Cert.UpdateAdaIdeal.main_arg2)
          ∧ r.2.mem ((c.tc : Thread Cert.UpdateAdaIdeal.nD Cert.UpdateAdaIdeal.τ).loc Cert.UpdateAdaIdeal.main_arg3) = m ((c.tc : Thread Cert.UpdateAdaIdeal.nD Cert.UpdateAdaIdeal.τ).loc Cert.UpdateAdaIdeal.main_arg3))
      ∧ θ_run (Cert.UpdatedAdaIdeal.defs (F := Ideal)) (onTc (τ := Cert.UpdatedAdaIdeal.τ) (Cert.UpdatedAdaIdeal.main (F := Ideal))) ⟨m', fun _ => 0, g'⟩ (fun r => ∀ c : Dev Cert.UpdatedAdaIdeal.nD,
          r.2.mem ((c.tc : Thread Cert.UpdatedAdaIdeal.nD Cert.UpdatedAdaIdeal.τ).loc Cert.UpdatedAdaIdeal.main_v0) = v0 c
          ∧ r.2.mem ((c.tc : Thread Cert.UpdatedAdaIdeal.nD Cert.UpdatedAdaIdeal.τ).loc Cert.UpdatedAdaIdeal.main_v24) = v1 c
          ∧ r.2.mem ((c.tc : Thread Cert.UpdatedAdaIdeal.nD Cert.UpdatedAdaIdeal.τ).loc Cert.UpdatedAdaIdeal.main_v5) = v2 c
          ∧ r.2.mem ((c.tc : Thread Cert.UpdatedAdaIdeal.nD Cert.UpdatedAdaIdeal.τ).loc Cert.UpdatedAdaIdeal.main_v11) = v3 c
          ∧ r.2.mem ((c.tc : Thread Cert.UpdatedAdaIdeal.nD Cert.UpdatedAdaIdeal.τ).loc Cert.UpdatedAdaIdeal.main_arg0) = m' ((c.tc : Thread Cert.UpdatedAdaIdeal.nD Cert.UpdatedAdaIdeal.τ).loc Cert.UpdatedAdaIdeal.main_arg0)
          ∧ r.2.mem ((c.tc : Thread Cert.UpdatedAdaIdeal.nD Cert.UpdatedAdaIdeal.τ).loc Cert.UpdatedAdaIdeal.main_arg1) = m' ((c.tc : Thread Cert.UpdatedAdaIdeal.nD Cert.UpdatedAdaIdeal.τ).loc Cert.UpdatedAdaIdeal.main_arg1)
          ∧ r.2.mem ((c.tc : Thread Cert.UpdatedAdaIdeal.nD Cert.UpdatedAdaIdeal.τ).loc Cert.UpdatedAdaIdeal.main_arg2) = m' ((c.tc : Thread Cert.UpdatedAdaIdeal.nD Cert.UpdatedAdaIdeal.τ).loc Cert.UpdatedAdaIdeal.main_arg2)
          ∧ r.2.mem ((c.tc : Thread Cert.UpdatedAdaIdeal.nD Cert.UpdatedAdaIdeal.τ).loc Cert.UpdatedAdaIdeal.main_arg3) = m' ((c.tc : Thread Cert.UpdatedAdaIdeal.nD Cert.UpdatedAdaIdeal.τ).loc Cert.UpdatedAdaIdeal.main_arg3))

def preserves_UpdateSmall_UpdateSmallIdeal : Prop :=
  True

def algebraic_UpdateSmallIdeal_UpdatedSmallIdeal [hUpdateSmallIdeal : Cert.UpdateSmallIdeal.Facts] [hUpdatedSmallIdeal : Cert.UpdatedSmallIdeal.Facts] : Prop :=
  ∀ (m : (ℓ : Loc Cert.UpdateSmallIdeal.nD Cert.UpdateSmallIdeal.τ Cert.UpdateSmallIdeal.sig) → Buf (Elt Ideal) ℓ) (g : Dev Cert.UpdateSmallIdeal.nD → PrngReg)
    (m' : (ℓ : Loc Cert.UpdatedSmallIdeal.nD Cert.UpdatedSmallIdeal.τ Cert.UpdatedSmallIdeal.sig) → Buf (Elt Ideal) ℓ) (g' : Dev Cert.UpdatedSmallIdeal.nD → PrngReg), Pre_UpdateSmallIdeal m →
    (∀ c : Dev Cert.UpdateSmallIdeal.nD,
      m' ((c.tc : Thread Cert.UpdatedSmallIdeal.nD Cert.UpdatedSmallIdeal.τ).loc Cert.UpdatedSmallIdeal.main_arg0) = m ((c.tc : Thread Cert.UpdateSmallIdeal.nD Cert.UpdateSmallIdeal.τ).loc Cert.UpdateSmallIdeal.main_arg0)
      ∧ m' ((c.tc : Thread Cert.UpdatedSmallIdeal.nD Cert.UpdatedSmallIdeal.τ).loc Cert.UpdatedSmallIdeal.main_arg1) = m ((c.tc : Thread Cert.UpdateSmallIdeal.nD Cert.UpdateSmallIdeal.τ).loc Cert.UpdateSmallIdeal.main_arg1)
      ∧ m' ((c.tc : Thread Cert.UpdatedSmallIdeal.nD Cert.UpdatedSmallIdeal.τ).loc Cert.UpdatedSmallIdeal.main_arg2) = m ((c.tc : Thread Cert.UpdateSmallIdeal.nD Cert.UpdateSmallIdeal.τ).loc Cert.UpdateSmallIdeal.main_arg2)
      ∧ m' ((c.tc : Thread Cert.UpdatedSmallIdeal.nD Cert.UpdatedSmallIdeal.τ).loc Cert.UpdatedSmallIdeal.main_arg3) = m ((c.tc : Thread Cert.UpdateSmallIdeal.nD Cert.UpdateSmallIdeal.τ).loc Cert.UpdateSmallIdeal.main_arg3)) →
    ∃ (v0 : (c : Dev Cert.UpdateSmallIdeal.nD) → Buf (Elt Ideal) ((c.tc : Thread Cert.UpdateSmallIdeal.nD Cert.UpdateSmallIdeal.τ).loc Cert.UpdateSmallIdeal.main_v0_0)) (v1 : (c : Dev Cert.UpdateSmallIdeal.nD) → Buf (Elt Ideal) ((c.tc : Thread Cert.UpdateSmallIdeal.nD Cert.UpdateSmallIdeal.τ).loc Cert.UpdateSmallIdeal.main_v0_1)) (v2 : (c : Dev Cert.UpdateSmallIdeal.nD) → Buf (Elt Ideal) ((c.tc : Thread Cert.UpdateSmallIdeal.nD Cert.UpdateSmallIdeal.τ).loc Cert.UpdateSmallIdeal.main_v0_2)) (v3 : (c : Dev Cert.UpdateSmallIdeal.nD) → Buf (Elt Ideal) ((c.tc : Thread Cert.UpdateSmallIdeal.nD Cert.UpdateSmallIdeal.τ).loc Cert.UpdateSmallIdeal.main_v0_3)),
      θ_run (Cert.UpdateSmallIdeal.defs (F := Ideal)) (onTc (τ := Cert.UpdateSmallIdeal.τ) (Cert.UpdateSmallIdeal.main (F := Ideal))) ⟨m, fun _ => 0, g⟩ (fun r => ∀ c : Dev Cert.UpdateSmallIdeal.nD,
          r.2.mem ((c.tc : Thread Cert.UpdateSmallIdeal.nD Cert.UpdateSmallIdeal.τ).loc Cert.UpdateSmallIdeal.main_v0_0) = v0 c
          ∧ r.2.mem ((c.tc : Thread Cert.UpdateSmallIdeal.nD Cert.UpdateSmallIdeal.τ).loc Cert.UpdateSmallIdeal.main_v0_1) = v1 c
          ∧ r.2.mem ((c.tc : Thread Cert.UpdateSmallIdeal.nD Cert.UpdateSmallIdeal.τ).loc Cert.UpdateSmallIdeal.main_v0_2) = v2 c
          ∧ r.2.mem ((c.tc : Thread Cert.UpdateSmallIdeal.nD Cert.UpdateSmallIdeal.τ).loc Cert.UpdateSmallIdeal.main_v0_3) = v3 c
          ∧ r.2.mem ((c.tc : Thread Cert.UpdateSmallIdeal.nD Cert.UpdateSmallIdeal.τ).loc Cert.UpdateSmallIdeal.main_arg0) = m ((c.tc : Thread Cert.UpdateSmallIdeal.nD Cert.UpdateSmallIdeal.τ).loc Cert.UpdateSmallIdeal.main_arg0)
          ∧ r.2.mem ((c.tc : Thread Cert.UpdateSmallIdeal.nD Cert.UpdateSmallIdeal.τ).loc Cert.UpdateSmallIdeal.main_arg1) = m ((c.tc : Thread Cert.UpdateSmallIdeal.nD Cert.UpdateSmallIdeal.τ).loc Cert.UpdateSmallIdeal.main_arg1)
          ∧ r.2.mem ((c.tc : Thread Cert.UpdateSmallIdeal.nD Cert.UpdateSmallIdeal.τ).loc Cert.UpdateSmallIdeal.main_arg2) = m ((c.tc : Thread Cert.UpdateSmallIdeal.nD Cert.UpdateSmallIdeal.τ).loc Cert.UpdateSmallIdeal.main_arg2)
          ∧ r.2.mem ((c.tc : Thread Cert.UpdateSmallIdeal.nD Cert.UpdateSmallIdeal.τ).loc Cert.UpdateSmallIdeal.main_arg3) = m ((c.tc : Thread Cert.UpdateSmallIdeal.nD Cert.UpdateSmallIdeal.τ).loc Cert.UpdateSmallIdeal.main_arg3))
      ∧ θ_run (Cert.UpdatedSmallIdeal.defs (F := Ideal)) (onTc (τ := Cert.UpdatedSmallIdeal.τ) (Cert.UpdatedSmallIdeal.main (F := Ideal))) ⟨m', fun _ => 0, g'⟩ (fun r => ∀ c : Dev Cert.UpdatedSmallIdeal.nD,
          r.2.mem ((c.tc : Thread Cert.UpdatedSmallIdeal.nD Cert.UpdatedSmallIdeal.τ).loc Cert.UpdatedSmallIdeal.main_v0) = v0 c
          ∧ r.2.mem ((c.tc : Thread Cert.UpdatedSmallIdeal.nD Cert.UpdatedSmallIdeal.τ).loc Cert.UpdatedSmallIdeal.main_v24) = v1 c
          ∧ r.2.mem ((c.tc : Thread Cert.UpdatedSmallIdeal.nD Cert.UpdatedSmallIdeal.τ).loc Cert.UpdatedSmallIdeal.main_v5) = v2 c
          ∧ r.2.mem ((c.tc : Thread Cert.UpdatedSmallIdeal.nD Cert.UpdatedSmallIdeal.τ).loc Cert.UpdatedSmallIdeal.main_v11) = v3 c
          ∧ r.2.mem ((c.tc : Thread Cert.UpdatedSmallIdeal.nD Cert.UpdatedSmallIdeal.τ).loc Cert.UpdatedSmallIdeal.main_arg0) = m' ((c.tc : Thread Cert.UpdatedSmallIdeal.nD Cert.UpdatedSmallIdeal.τ).loc Cert.UpdatedSmallIdeal.main_arg0)
          ∧ r.2.mem ((c.tc : Thread Cert.UpdatedSmallIdeal.nD Cert.UpdatedSmallIdeal.τ).loc Cert.UpdatedSmallIdeal.main_arg1) = m' ((c.tc : Thread Cert.UpdatedSmallIdeal.nD Cert.UpdatedSmallIdeal.τ).loc Cert.UpdatedSmallIdeal.main_arg1)
          ∧ r.2.mem ((c.tc : Thread Cert.UpdatedSmallIdeal.nD Cert.UpdatedSmallIdeal.τ).loc Cert.UpdatedSmallIdeal.main_arg2) = m' ((c.tc : Thread Cert.UpdatedSmallIdeal.nD Cert.UpdatedSmallIdeal.τ).loc Cert.UpdatedSmallIdeal.main_arg2)
          ∧ r.2.mem ((c.tc : Thread Cert.UpdatedSmallIdeal.nD Cert.UpdatedSmallIdeal.τ).loc Cert.UpdatedSmallIdeal.main_arg3) = m' ((c.tc : Thread Cert.UpdatedSmallIdeal.nD Cert.UpdatedSmallIdeal.τ).loc Cert.UpdatedSmallIdeal.main_arg3))

def preserves_UpdateIn_UpdateInIdeal : Prop :=
  True

def algebraic_UpdateInIdeal_UpdatedInIdeal [hUpdateInIdeal : Cert.UpdateInIdeal.Facts] [hUpdatedInIdeal : Cert.UpdatedInIdeal.Facts] : Prop :=
  ∀ (m : (ℓ : Loc Cert.UpdateInIdeal.nD Cert.UpdateInIdeal.τ Cert.UpdateInIdeal.sig) → Buf (Elt Ideal) ℓ) (g : Dev Cert.UpdateInIdeal.nD → PrngReg)
    (m' : (ℓ : Loc Cert.UpdatedInIdeal.nD Cert.UpdatedInIdeal.τ Cert.UpdatedInIdeal.sig) → Buf (Elt Ideal) ℓ) (g' : Dev Cert.UpdatedInIdeal.nD → PrngReg), Pre_UpdateInIdeal m →
    (∀ c : Dev Cert.UpdateInIdeal.nD,
      m' ((c.tc : Thread Cert.UpdatedInIdeal.nD Cert.UpdatedInIdeal.τ).loc Cert.UpdatedInIdeal.main_arg0) = m ((c.tc : Thread Cert.UpdateInIdeal.nD Cert.UpdateInIdeal.τ).loc Cert.UpdateInIdeal.main_arg0)
      ∧ m' ((c.tc : Thread Cert.UpdatedInIdeal.nD Cert.UpdatedInIdeal.τ).loc Cert.UpdatedInIdeal.main_arg1) = m ((c.tc : Thread Cert.UpdateInIdeal.nD Cert.UpdateInIdeal.τ).loc Cert.UpdateInIdeal.main_arg1)
      ∧ m' ((c.tc : Thread Cert.UpdatedInIdeal.nD Cert.UpdatedInIdeal.τ).loc Cert.UpdatedInIdeal.main_arg2) = m ((c.tc : Thread Cert.UpdateInIdeal.nD Cert.UpdateInIdeal.τ).loc Cert.UpdateInIdeal.main_arg2)
      ∧ m' ((c.tc : Thread Cert.UpdatedInIdeal.nD Cert.UpdatedInIdeal.τ).loc Cert.UpdatedInIdeal.main_arg3) = m ((c.tc : Thread Cert.UpdateInIdeal.nD Cert.UpdateInIdeal.τ).loc Cert.UpdateInIdeal.main_arg3)) →
    ∃ (v0 : (c : Dev Cert.UpdateInIdeal.nD) → Buf (Elt Ideal) ((c.tc : Thread Cert.UpdateInIdeal.nD Cert.UpdateInIdeal.τ).loc Cert.UpdateInIdeal.main_v0_0)) (v1 : (c : Dev Cert.UpdateInIdeal.nD) → Buf (Elt Ideal) ((c.tc : Thread Cert.UpdateInIdeal.nD Cert.UpdateInIdeal.τ).loc Cert.UpdateInIdeal.main_v0_1)) (v2 : (c : Dev Cert.UpdateInIdeal.nD) → Buf (Elt Ideal) ((c.tc : Thread Cert.UpdateInIdeal.nD Cert.UpdateInIdeal.τ).loc Cert.UpdateInIdeal.main_v0_2)) (v3 : (c : Dev Cert.UpdateInIdeal.nD) → Buf (Elt Ideal) ((c.tc : Thread Cert.UpdateInIdeal.nD Cert.UpdateInIdeal.τ).loc Cert.UpdateInIdeal.main_v0_3)),
      θ_run (Cert.UpdateInIdeal.defs (F := Ideal)) (onTc (τ := Cert.UpdateInIdeal.τ) (Cert.UpdateInIdeal.main (F := Ideal))) ⟨m, fun _ => 0, g⟩ (fun r => ∀ c : Dev Cert.UpdateInIdeal.nD,
          r.2.mem ((c.tc : Thread Cert.UpdateInIdeal.nD Cert.UpdateInIdeal.τ).loc Cert.UpdateInIdeal.main_v0_0) = v0 c
          ∧ r.2.mem ((c.tc : Thread Cert.UpdateInIdeal.nD Cert.UpdateInIdeal.τ).loc Cert.UpdateInIdeal.main_v0_1) = v1 c
          ∧ r.2.mem ((c.tc : Thread Cert.UpdateInIdeal.nD Cert.UpdateInIdeal.τ).loc Cert.UpdateInIdeal.main_v0_2) = v2 c
          ∧ r.2.mem ((c.tc : Thread Cert.UpdateInIdeal.nD Cert.UpdateInIdeal.τ).loc Cert.UpdateInIdeal.main_v0_3) = v3 c
          ∧ r.2.mem ((c.tc : Thread Cert.UpdateInIdeal.nD Cert.UpdateInIdeal.τ).loc Cert.UpdateInIdeal.main_arg0) = m ((c.tc : Thread Cert.UpdateInIdeal.nD Cert.UpdateInIdeal.τ).loc Cert.UpdateInIdeal.main_arg0)
          ∧ r.2.mem ((c.tc : Thread Cert.UpdateInIdeal.nD Cert.UpdateInIdeal.τ).loc Cert.UpdateInIdeal.main_arg1) = m ((c.tc : Thread Cert.UpdateInIdeal.nD Cert.UpdateInIdeal.τ).loc Cert.UpdateInIdeal.main_arg1)
          ∧ r.2.mem ((c.tc : Thread Cert.UpdateInIdeal.nD Cert.UpdateInIdeal.τ).loc Cert.UpdateInIdeal.main_arg2) = m ((c.tc : Thread Cert.UpdateInIdeal.nD Cert.UpdateInIdeal.τ).loc Cert.UpdateInIdeal.main_arg2)
          ∧ r.2.mem ((c.tc : Thread Cert.UpdateInIdeal.nD Cert.UpdateInIdeal.τ).loc Cert.UpdateInIdeal.main_arg3) = m ((c.tc : Thread Cert.UpdateInIdeal.nD Cert.UpdateInIdeal.τ).loc Cert.UpdateInIdeal.main_arg3))
      ∧ θ_run (Cert.UpdatedInIdeal.defs (F := Ideal)) (onTc (τ := Cert.UpdatedInIdeal.τ) (Cert.UpdatedInIdeal.main (F := Ideal))) ⟨m', fun _ => 0, g'⟩ (fun r => ∀ c : Dev Cert.UpdatedInIdeal.nD,
          r.2.mem ((c.tc : Thread Cert.UpdatedInIdeal.nD Cert.UpdatedInIdeal.τ).loc Cert.UpdatedInIdeal.main_v1) = v0 c
          ∧ r.2.mem ((c.tc : Thread Cert.UpdatedInIdeal.nD Cert.UpdatedInIdeal.τ).loc Cert.UpdatedInIdeal.main_v25) = v1 c
          ∧ r.2.mem ((c.tc : Thread Cert.UpdatedInIdeal.nD Cert.UpdatedInIdeal.τ).loc Cert.UpdatedInIdeal.main_v6) = v2 c
          ∧ r.2.mem ((c.tc : Thread Cert.UpdatedInIdeal.nD Cert.UpdatedInIdeal.τ).loc Cert.UpdatedInIdeal.main_v12) = v3 c
          ∧ r.2.mem ((c.tc : Thread Cert.UpdatedInIdeal.nD Cert.UpdatedInIdeal.τ).loc Cert.UpdatedInIdeal.main_arg0) = m' ((c.tc : Thread Cert.UpdatedInIdeal.nD Cert.UpdatedInIdeal.τ).loc Cert.UpdatedInIdeal.main_arg0)
          ∧ r.2.mem ((c.tc : Thread Cert.UpdatedInIdeal.nD Cert.UpdatedInIdeal.τ).loc Cert.UpdatedInIdeal.main_arg1) = m' ((c.tc : Thread Cert.UpdatedInIdeal.nD Cert.UpdatedInIdeal.τ).loc Cert.UpdatedInIdeal.main_arg1)
          ∧ r.2.mem ((c.tc : Thread Cert.UpdatedInIdeal.nD Cert.UpdatedInIdeal.τ).loc Cert.UpdatedInIdeal.main_arg2) = m' ((c.tc : Thread Cert.UpdatedInIdeal.nD Cert.UpdatedInIdeal.τ).loc Cert.UpdatedInIdeal.main_arg2)
          ∧ r.2.mem ((c.tc : Thread Cert.UpdatedInIdeal.nD Cert.UpdatedInIdeal.τ).loc Cert.UpdatedInIdeal.main_arg3) = m' ((c.tc : Thread Cert.UpdatedInIdeal.nD Cert.UpdatedInIdeal.τ).loc Cert.UpdatedInIdeal.main_arg3))

def preserves_UpdateBranch_UpdateBranchIdeal : Prop :=
  True

def algebraic_UpdateBranchIdeal_UpdatedBranchIdeal [hUpdateBranchIdeal : Cert.UpdateBranchIdeal.Facts] [hUpdatedBranchIdeal : Cert.UpdatedBranchIdeal.Facts] : Prop :=
  ∀ (m : (ℓ : Loc Cert.UpdateBranchIdeal.nD Cert.UpdateBranchIdeal.τ Cert.UpdateBranchIdeal.sig) → Buf (Elt Ideal) ℓ) (g : Dev Cert.UpdateBranchIdeal.nD → PrngReg)
    (m' : (ℓ : Loc Cert.UpdatedBranchIdeal.nD Cert.UpdatedBranchIdeal.τ Cert.UpdatedBranchIdeal.sig) → Buf (Elt Ideal) ℓ) (g' : Dev Cert.UpdatedBranchIdeal.nD → PrngReg), Pre_UpdateBranchIdeal m →
    (∀ c : Dev Cert.UpdateBranchIdeal.nD,
      m' ((c.tc : Thread Cert.UpdatedBranchIdeal.nD Cert.UpdatedBranchIdeal.τ).loc Cert.UpdatedBranchIdeal.main_arg0) = m ((c.tc : Thread Cert.UpdateBranchIdeal.nD Cert.UpdateBranchIdeal.τ).loc Cert.UpdateBranchIdeal.main_arg0)
      ∧ m' ((c.tc : Thread Cert.UpdatedBranchIdeal.nD Cert.UpdatedBranchIdeal.τ).loc Cert.UpdatedBranchIdeal.main_arg1) = m ((c.tc : Thread Cert.UpdateBranchIdeal.nD Cert.UpdateBranchIdeal.τ).loc Cert.UpdateBranchIdeal.main_arg1)
      ∧ m' ((c.tc : Thread Cert.UpdatedBranchIdeal.nD Cert.UpdatedBranchIdeal.τ).loc Cert.UpdatedBranchIdeal.main_arg2) = m ((c.tc : Thread Cert.UpdateBranchIdeal.nD Cert.UpdateBranchIdeal.τ).loc Cert.UpdateBranchIdeal.main_arg2)
      ∧ m' ((c.tc : Thread Cert.UpdatedBranchIdeal.nD Cert.UpdatedBranchIdeal.τ).loc Cert.UpdatedBranchIdeal.main_arg3) = m ((c.tc : Thread Cert.UpdateBranchIdeal.nD Cert.UpdateBranchIdeal.τ).loc Cert.UpdateBranchIdeal.main_arg3)) →
    ∃ (v0 : (c : Dev Cert.UpdateBranchIdeal.nD) → Buf (Elt Ideal) ((c.tc : Thread Cert.UpdateBranchIdeal.nD Cert.UpdateBranchIdeal.τ).loc Cert.UpdateBranchIdeal.main_v0_0)) (v1 : (c : Dev Cert.UpdateBranchIdeal.nD) → Buf (Elt Ideal) ((c.tc : Thread Cert.UpdateBranchIdeal.nD Cert.UpdateBranchIdeal.τ).loc Cert.UpdateBranchIdeal.main_v0_1)) (v2 : (c : Dev Cert.UpdateBranchIdeal.nD) → Buf (Elt Ideal) ((c.tc : Thread Cert.UpdateBranchIdeal.nD Cert.UpdateBranchIdeal.τ).loc Cert.UpdateBranchIdeal.main_v0_2)) (v3 : (c : Dev Cert.UpdateBranchIdeal.nD) → Buf (Elt Ideal) ((c.tc : Thread Cert.UpdateBranchIdeal.nD Cert.UpdateBranchIdeal.τ).loc Cert.UpdateBranchIdeal.main_v0_3)),
      θ_run (Cert.UpdateBranchIdeal.defs (F := Ideal)) (onTc (τ := Cert.UpdateBranchIdeal.τ) (Cert.UpdateBranchIdeal.main (F := Ideal))) ⟨m, fun _ => 0, g⟩ (fun r => ∀ c : Dev Cert.UpdateBranchIdeal.nD,
          r.2.mem ((c.tc : Thread Cert.UpdateBranchIdeal.nD Cert.UpdateBranchIdeal.τ).loc Cert.UpdateBranchIdeal.main_v0_0) = v0 c
          ∧ r.2.mem ((c.tc : Thread Cert.UpdateBranchIdeal.nD Cert.UpdateBranchIdeal.τ).loc Cert.UpdateBranchIdeal.main_v0_1) = v1 c
          ∧ r.2.mem ((c.tc : Thread Cert.UpdateBranchIdeal.nD Cert.UpdateBranchIdeal.τ).loc Cert.UpdateBranchIdeal.main_v0_2) = v2 c
          ∧ r.2.mem ((c.tc : Thread Cert.UpdateBranchIdeal.nD Cert.UpdateBranchIdeal.τ).loc Cert.UpdateBranchIdeal.main_v0_3) = v3 c
          ∧ r.2.mem ((c.tc : Thread Cert.UpdateBranchIdeal.nD Cert.UpdateBranchIdeal.τ).loc Cert.UpdateBranchIdeal.main_arg0) = m ((c.tc : Thread Cert.UpdateBranchIdeal.nD Cert.UpdateBranchIdeal.τ).loc Cert.UpdateBranchIdeal.main_arg0)
          ∧ r.2.mem ((c.tc : Thread Cert.UpdateBranchIdeal.nD Cert.UpdateBranchIdeal.τ).loc Cert.UpdateBranchIdeal.main_arg1) = m ((c.tc : Thread Cert.UpdateBranchIdeal.nD Cert.UpdateBranchIdeal.τ).loc Cert.UpdateBranchIdeal.main_arg1)
          ∧ r.2.mem ((c.tc : Thread Cert.UpdateBranchIdeal.nD Cert.UpdateBranchIdeal.τ).loc Cert.UpdateBranchIdeal.main_arg2) = m ((c.tc : Thread Cert.UpdateBranchIdeal.nD Cert.UpdateBranchIdeal.τ).loc Cert.UpdateBranchIdeal.main_arg2)
          ∧ r.2.mem ((c.tc : Thread Cert.UpdateBranchIdeal.nD Cert.UpdateBranchIdeal.τ).loc Cert.UpdateBranchIdeal.main_arg3) = m ((c.tc : Thread Cert.UpdateBranchIdeal.nD Cert.UpdateBranchIdeal.τ).loc Cert.UpdateBranchIdeal.main_arg3))
      ∧ θ_run (Cert.UpdatedBranchIdeal.defs (F := Ideal)) (onTc (τ := Cert.UpdatedBranchIdeal.τ) (Cert.UpdatedBranchIdeal.main (F := Ideal))) ⟨m', fun _ => 0, g'⟩ (fun r => ∀ c : Dev Cert.UpdatedBranchIdeal.nD,
          r.2.mem ((c.tc : Thread Cert.UpdatedBranchIdeal.nD Cert.UpdatedBranchIdeal.τ).loc Cert.UpdatedBranchIdeal.main_v1) = v0 c
          ∧ r.2.mem ((c.tc : Thread Cert.UpdatedBranchIdeal.nD Cert.UpdatedBranchIdeal.τ).loc Cert.UpdatedBranchIdeal.main_v25) = v1 c
          ∧ r.2.mem ((c.tc : Thread Cert.UpdatedBranchIdeal.nD Cert.UpdatedBranchIdeal.τ).loc Cert.UpdatedBranchIdeal.main_v6) = v2 c
          ∧ r.2.mem ((c.tc : Thread Cert.UpdatedBranchIdeal.nD Cert.UpdatedBranchIdeal.τ).loc Cert.UpdatedBranchIdeal.main_v12) = v3 c
          ∧ r.2.mem ((c.tc : Thread Cert.UpdatedBranchIdeal.nD Cert.UpdatedBranchIdeal.τ).loc Cert.UpdatedBranchIdeal.main_arg0) = m' ((c.tc : Thread Cert.UpdatedBranchIdeal.nD Cert.UpdatedBranchIdeal.τ).loc Cert.UpdatedBranchIdeal.main_arg0)
          ∧ r.2.mem ((c.tc : Thread Cert.UpdatedBranchIdeal.nD Cert.UpdatedBranchIdeal.τ).loc Cert.UpdatedBranchIdeal.main_arg1) = m' ((c.tc : Thread Cert.UpdatedBranchIdeal.nD Cert.UpdatedBranchIdeal.τ).loc Cert.UpdatedBranchIdeal.main_arg1)
          ∧ r.2.mem ((c.tc : Thread Cert.UpdatedBranchIdeal.nD Cert.UpdatedBranchIdeal.τ).loc Cert.UpdatedBranchIdeal.main_arg2) = m' ((c.tc : Thread Cert.UpdatedBranchIdeal.nD Cert.UpdatedBranchIdeal.τ).loc Cert.UpdatedBranchIdeal.main_arg2)
          ∧ r.2.mem ((c.tc : Thread Cert.UpdatedBranchIdeal.nD Cert.UpdatedBranchIdeal.τ).loc Cert.UpdatedBranchIdeal.main_arg3) = m' ((c.tc : Thread Cert.UpdatedBranchIdeal.nD Cert.UpdatedBranchIdeal.τ).loc Cert.UpdatedBranchIdeal.main_arg3))

def preserves_UpdateOut_UpdateOutIdeal : Prop :=
  True

def algebraic_UpdateOutIdeal_UpdatedOutIdeal [hUpdateOutIdeal : Cert.UpdateOutIdeal.Facts] [hUpdatedOutIdeal : Cert.UpdatedOutIdeal.Facts] : Prop :=
  ∀ (m : (ℓ : Loc Cert.UpdateOutIdeal.nD Cert.UpdateOutIdeal.τ Cert.UpdateOutIdeal.sig) → Buf (Elt Ideal) ℓ) (g : Dev Cert.UpdateOutIdeal.nD → PrngReg)
    (m' : (ℓ : Loc Cert.UpdatedOutIdeal.nD Cert.UpdatedOutIdeal.τ Cert.UpdatedOutIdeal.sig) → Buf (Elt Ideal) ℓ) (g' : Dev Cert.UpdatedOutIdeal.nD → PrngReg), Pre_UpdateOutIdeal m →
    (∀ c : Dev Cert.UpdateOutIdeal.nD,
      m' ((c.tc : Thread Cert.UpdatedOutIdeal.nD Cert.UpdatedOutIdeal.τ).loc Cert.UpdatedOutIdeal.main_arg0) = m ((c.tc : Thread Cert.UpdateOutIdeal.nD Cert.UpdateOutIdeal.τ).loc Cert.UpdateOutIdeal.main_arg0)
      ∧ m' ((c.tc : Thread Cert.UpdatedOutIdeal.nD Cert.UpdatedOutIdeal.τ).loc Cert.UpdatedOutIdeal.main_arg1) = m ((c.tc : Thread Cert.UpdateOutIdeal.nD Cert.UpdateOutIdeal.τ).loc Cert.UpdateOutIdeal.main_arg1)
      ∧ m' ((c.tc : Thread Cert.UpdatedOutIdeal.nD Cert.UpdatedOutIdeal.τ).loc Cert.UpdatedOutIdeal.main_arg2) = m ((c.tc : Thread Cert.UpdateOutIdeal.nD Cert.UpdateOutIdeal.τ).loc Cert.UpdateOutIdeal.main_arg2)
      ∧ m' ((c.tc : Thread Cert.UpdatedOutIdeal.nD Cert.UpdatedOutIdeal.τ).loc Cert.UpdatedOutIdeal.main_arg3) = m ((c.tc : Thread Cert.UpdateOutIdeal.nD Cert.UpdateOutIdeal.τ).loc Cert.UpdateOutIdeal.main_arg3)) →
    ∃ (v0 : (c : Dev Cert.UpdateOutIdeal.nD) → Buf (Elt Ideal) ((c.tc : Thread Cert.UpdateOutIdeal.nD Cert.UpdateOutIdeal.τ).loc Cert.UpdateOutIdeal.main_v0_0)) (v1 : (c : Dev Cert.UpdateOutIdeal.nD) → Buf (Elt Ideal) ((c.tc : Thread Cert.UpdateOutIdeal.nD Cert.UpdateOutIdeal.τ).loc Cert.UpdateOutIdeal.main_v0_1)) (v2 : (c : Dev Cert.UpdateOutIdeal.nD) → Buf (Elt Ideal) ((c.tc : Thread Cert.UpdateOutIdeal.nD Cert.UpdateOutIdeal.τ).loc Cert.UpdateOutIdeal.main_v0_2)) (v3 : (c : Dev Cert.UpdateOutIdeal.nD) → Buf (Elt Ideal) ((c.tc : Thread Cert.UpdateOutIdeal.nD Cert.UpdateOutIdeal.τ).loc Cert.UpdateOutIdeal.main_v0_3)),
      θ_run (Cert.UpdateOutIdeal.defs (F := Ideal)) (onTc (τ := Cert.UpdateOutIdeal.τ) (Cert.UpdateOutIdeal.main (F := Ideal))) ⟨m, fun _ => 0, g⟩ (fun r => ∀ c : Dev Cert.UpdateOutIdeal.nD,
          r.2.mem ((c.tc : Thread Cert.UpdateOutIdeal.nD Cert.UpdateOutIdeal.τ).loc Cert.UpdateOutIdeal.main_v0_0) = v0 c
          ∧ r.2.mem ((c.tc : Thread Cert.UpdateOutIdeal.nD Cert.UpdateOutIdeal.τ).loc Cert.UpdateOutIdeal.main_v0_1) = v1 c
          ∧ r.2.mem ((c.tc : Thread Cert.UpdateOutIdeal.nD Cert.UpdateOutIdeal.τ).loc Cert.UpdateOutIdeal.main_v0_2) = v2 c
          ∧ r.2.mem ((c.tc : Thread Cert.UpdateOutIdeal.nD Cert.UpdateOutIdeal.τ).loc Cert.UpdateOutIdeal.main_v0_3) = v3 c
          ∧ r.2.mem ((c.tc : Thread Cert.UpdateOutIdeal.nD Cert.UpdateOutIdeal.τ).loc Cert.UpdateOutIdeal.main_arg0) = m ((c.tc : Thread Cert.UpdateOutIdeal.nD Cert.UpdateOutIdeal.τ).loc Cert.UpdateOutIdeal.main_arg0)
          ∧ r.2.mem ((c.tc : Thread Cert.UpdateOutIdeal.nD Cert.UpdateOutIdeal.τ).loc Cert.UpdateOutIdeal.main_arg1) = m ((c.tc : Thread Cert.UpdateOutIdeal.nD Cert.UpdateOutIdeal.τ).loc Cert.UpdateOutIdeal.main_arg1)
          ∧ r.2.mem ((c.tc : Thread Cert.UpdateOutIdeal.nD Cert.UpdateOutIdeal.τ).loc Cert.UpdateOutIdeal.main_arg2) = m ((c.tc : Thread Cert.UpdateOutIdeal.nD Cert.UpdateOutIdeal.τ).loc Cert.UpdateOutIdeal.main_arg2)
          ∧ r.2.mem ((c.tc : Thread Cert.UpdateOutIdeal.nD Cert.UpdateOutIdeal.τ).loc Cert.UpdateOutIdeal.main_arg3) = m ((c.tc : Thread Cert.UpdateOutIdeal.nD Cert.UpdateOutIdeal.τ).loc Cert.UpdateOutIdeal.main_arg3))
      ∧ θ_run (Cert.UpdatedOutIdeal.defs (F := Ideal)) (onTc (τ := Cert.UpdatedOutIdeal.τ) (Cert.UpdatedOutIdeal.main (F := Ideal))) ⟨m', fun _ => 0, g'⟩ (fun r => ∀ c : Dev Cert.UpdatedOutIdeal.nD,
          r.2.mem ((c.tc : Thread Cert.UpdatedOutIdeal.nD Cert.UpdatedOutIdeal.τ).loc Cert.UpdatedOutIdeal.main_v1) = v0 c
          ∧ r.2.mem ((c.tc : Thread Cert.UpdatedOutIdeal.nD Cert.UpdatedOutIdeal.τ).loc Cert.UpdatedOutIdeal.main_v25) = v1 c
          ∧ r.2.mem ((c.tc : Thread Cert.UpdatedOutIdeal.nD Cert.UpdatedOutIdeal.τ).loc Cert.UpdatedOutIdeal.main_v6) = v2 c
          ∧ r.2.mem ((c.tc : Thread Cert.UpdatedOutIdeal.nD Cert.UpdatedOutIdeal.τ).loc Cert.UpdatedOutIdeal.main_v12) = v3 c
          ∧ r.2.mem ((c.tc : Thread Cert.UpdatedOutIdeal.nD Cert.UpdatedOutIdeal.τ).loc Cert.UpdatedOutIdeal.main_arg0) = m' ((c.tc : Thread Cert.UpdatedOutIdeal.nD Cert.UpdatedOutIdeal.τ).loc Cert.UpdatedOutIdeal.main_arg0)
          ∧ r.2.mem ((c.tc : Thread Cert.UpdatedOutIdeal.nD Cert.UpdatedOutIdeal.τ).loc Cert.UpdatedOutIdeal.main_arg1) = m' ((c.tc : Thread Cert.UpdatedOutIdeal.nD Cert.UpdatedOutIdeal.τ).loc Cert.UpdatedOutIdeal.main_arg1)
          ∧ r.2.mem ((c.tc : Thread Cert.UpdatedOutIdeal.nD Cert.UpdatedOutIdeal.τ).loc Cert.UpdatedOutIdeal.main_arg2) = m' ((c.tc : Thread Cert.UpdatedOutIdeal.nD Cert.UpdatedOutIdeal.τ).loc Cert.UpdatedOutIdeal.main_arg2)
          ∧ r.2.mem ((c.tc : Thread Cert.UpdatedOutIdeal.nD Cert.UpdatedOutIdeal.τ).loc Cert.UpdatedOutIdeal.main_arg3) = m' ((c.tc : Thread Cert.UpdatedOutIdeal.nD Cert.UpdatedOutIdeal.τ).loc Cert.UpdatedOutIdeal.main_arg3))

def preserves_UpdateFfnIn_UpdateFfnInIdeal : Prop :=
  True

def algebraic_UpdateFfnInIdeal_UpdatedFfnInIdeal [hUpdateFfnInIdeal : Cert.UpdateFfnInIdeal.Facts] [hUpdatedFfnInIdeal : Cert.UpdatedFfnInIdeal.Facts] : Prop :=
  ∀ (m : (ℓ : Loc Cert.UpdateFfnInIdeal.nD Cert.UpdateFfnInIdeal.τ Cert.UpdateFfnInIdeal.sig) → Buf (Elt Ideal) ℓ) (g : Dev Cert.UpdateFfnInIdeal.nD → PrngReg)
    (m' : (ℓ : Loc Cert.UpdatedFfnInIdeal.nD Cert.UpdatedFfnInIdeal.τ Cert.UpdatedFfnInIdeal.sig) → Buf (Elt Ideal) ℓ) (g' : Dev Cert.UpdatedFfnInIdeal.nD → PrngReg), Pre_UpdateFfnInIdeal m →
    (∀ c : Dev Cert.UpdateFfnInIdeal.nD,
      m' ((c.tc : Thread Cert.UpdatedFfnInIdeal.nD Cert.UpdatedFfnInIdeal.τ).loc Cert.UpdatedFfnInIdeal.main_arg0) = m ((c.tc : Thread Cert.UpdateFfnInIdeal.nD Cert.UpdateFfnInIdeal.τ).loc Cert.UpdateFfnInIdeal.main_arg0)
      ∧ m' ((c.tc : Thread Cert.UpdatedFfnInIdeal.nD Cert.UpdatedFfnInIdeal.τ).loc Cert.UpdatedFfnInIdeal.main_arg1) = m ((c.tc : Thread Cert.UpdateFfnInIdeal.nD Cert.UpdateFfnInIdeal.τ).loc Cert.UpdateFfnInIdeal.main_arg1)
      ∧ m' ((c.tc : Thread Cert.UpdatedFfnInIdeal.nD Cert.UpdatedFfnInIdeal.τ).loc Cert.UpdatedFfnInIdeal.main_arg2) = m ((c.tc : Thread Cert.UpdateFfnInIdeal.nD Cert.UpdateFfnInIdeal.τ).loc Cert.UpdateFfnInIdeal.main_arg2)
      ∧ m' ((c.tc : Thread Cert.UpdatedFfnInIdeal.nD Cert.UpdatedFfnInIdeal.τ).loc Cert.UpdatedFfnInIdeal.main_arg3) = m ((c.tc : Thread Cert.UpdateFfnInIdeal.nD Cert.UpdateFfnInIdeal.τ).loc Cert.UpdateFfnInIdeal.main_arg3)) →
    ∃ (v0 : (c : Dev Cert.UpdateFfnInIdeal.nD) → Buf (Elt Ideal) ((c.tc : Thread Cert.UpdateFfnInIdeal.nD Cert.UpdateFfnInIdeal.τ).loc Cert.UpdateFfnInIdeal.main_v0_0)) (v1 : (c : Dev Cert.UpdateFfnInIdeal.nD) → Buf (Elt Ideal) ((c.tc : Thread Cert.UpdateFfnInIdeal.nD Cert.UpdateFfnInIdeal.τ).loc Cert.UpdateFfnInIdeal.main_v0_1)) (v2 : (c : Dev Cert.UpdateFfnInIdeal.nD) → Buf (Elt Ideal) ((c.tc : Thread Cert.UpdateFfnInIdeal.nD Cert.UpdateFfnInIdeal.τ).loc Cert.UpdateFfnInIdeal.main_v0_2)) (v3 : (c : Dev Cert.UpdateFfnInIdeal.nD) → Buf (Elt Ideal) ((c.tc : Thread Cert.UpdateFfnInIdeal.nD Cert.UpdateFfnInIdeal.τ).loc Cert.UpdateFfnInIdeal.main_v0_3)),
      θ_run (Cert.UpdateFfnInIdeal.defs (F := Ideal)) (onTc (τ := Cert.UpdateFfnInIdeal.τ) (Cert.UpdateFfnInIdeal.main (F := Ideal))) ⟨m, fun _ => 0, g⟩ (fun r => ∀ c : Dev Cert.UpdateFfnInIdeal.nD,
          r.2.mem ((c.tc : Thread Cert.UpdateFfnInIdeal.nD Cert.UpdateFfnInIdeal.τ).loc Cert.UpdateFfnInIdeal.main_v0_0) = v0 c
          ∧ r.2.mem ((c.tc : Thread Cert.UpdateFfnInIdeal.nD Cert.UpdateFfnInIdeal.τ).loc Cert.UpdateFfnInIdeal.main_v0_1) = v1 c
          ∧ r.2.mem ((c.tc : Thread Cert.UpdateFfnInIdeal.nD Cert.UpdateFfnInIdeal.τ).loc Cert.UpdateFfnInIdeal.main_v0_2) = v2 c
          ∧ r.2.mem ((c.tc : Thread Cert.UpdateFfnInIdeal.nD Cert.UpdateFfnInIdeal.τ).loc Cert.UpdateFfnInIdeal.main_v0_3) = v3 c
          ∧ r.2.mem ((c.tc : Thread Cert.UpdateFfnInIdeal.nD Cert.UpdateFfnInIdeal.τ).loc Cert.UpdateFfnInIdeal.main_arg0) = m ((c.tc : Thread Cert.UpdateFfnInIdeal.nD Cert.UpdateFfnInIdeal.τ).loc Cert.UpdateFfnInIdeal.main_arg0)
          ∧ r.2.mem ((c.tc : Thread Cert.UpdateFfnInIdeal.nD Cert.UpdateFfnInIdeal.τ).loc Cert.UpdateFfnInIdeal.main_arg1) = m ((c.tc : Thread Cert.UpdateFfnInIdeal.nD Cert.UpdateFfnInIdeal.τ).loc Cert.UpdateFfnInIdeal.main_arg1)
          ∧ r.2.mem ((c.tc : Thread Cert.UpdateFfnInIdeal.nD Cert.UpdateFfnInIdeal.τ).loc Cert.UpdateFfnInIdeal.main_arg2) = m ((c.tc : Thread Cert.UpdateFfnInIdeal.nD Cert.UpdateFfnInIdeal.τ).loc Cert.UpdateFfnInIdeal.main_arg2)
          ∧ r.2.mem ((c.tc : Thread Cert.UpdateFfnInIdeal.nD Cert.UpdateFfnInIdeal.τ).loc Cert.UpdateFfnInIdeal.main_arg3) = m ((c.tc : Thread Cert.UpdateFfnInIdeal.nD Cert.UpdateFfnInIdeal.τ).loc Cert.UpdateFfnInIdeal.main_arg3))
      ∧ θ_run (Cert.UpdatedFfnInIdeal.defs (F := Ideal)) (onTc (τ := Cert.UpdatedFfnInIdeal.τ) (Cert.UpdatedFfnInIdeal.main (F := Ideal))) ⟨m', fun _ => 0, g'⟩ (fun r => ∀ c : Dev Cert.UpdatedFfnInIdeal.nD,
          r.2.mem ((c.tc : Thread Cert.UpdatedFfnInIdeal.nD Cert.UpdatedFfnInIdeal.τ).loc Cert.UpdatedFfnInIdeal.main_v1) = v0 c
          ∧ r.2.mem ((c.tc : Thread Cert.UpdatedFfnInIdeal.nD Cert.UpdatedFfnInIdeal.τ).loc Cert.UpdatedFfnInIdeal.main_v25) = v1 c
          ∧ r.2.mem ((c.tc : Thread Cert.UpdatedFfnInIdeal.nD Cert.UpdatedFfnInIdeal.τ).loc Cert.UpdatedFfnInIdeal.main_v6) = v2 c
          ∧ r.2.mem ((c.tc : Thread Cert.UpdatedFfnInIdeal.nD Cert.UpdatedFfnInIdeal.τ).loc Cert.UpdatedFfnInIdeal.main_v12) = v3 c
          ∧ r.2.mem ((c.tc : Thread Cert.UpdatedFfnInIdeal.nD Cert.UpdatedFfnInIdeal.τ).loc Cert.UpdatedFfnInIdeal.main_arg0) = m' ((c.tc : Thread Cert.UpdatedFfnInIdeal.nD Cert.UpdatedFfnInIdeal.τ).loc Cert.UpdatedFfnInIdeal.main_arg0)
          ∧ r.2.mem ((c.tc : Thread Cert.UpdatedFfnInIdeal.nD Cert.UpdatedFfnInIdeal.τ).loc Cert.UpdatedFfnInIdeal.main_arg1) = m' ((c.tc : Thread Cert.UpdatedFfnInIdeal.nD Cert.UpdatedFfnInIdeal.τ).loc Cert.UpdatedFfnInIdeal.main_arg1)
          ∧ r.2.mem ((c.tc : Thread Cert.UpdatedFfnInIdeal.nD Cert.UpdatedFfnInIdeal.τ).loc Cert.UpdatedFfnInIdeal.main_arg2) = m' ((c.tc : Thread Cert.UpdatedFfnInIdeal.nD Cert.UpdatedFfnInIdeal.τ).loc Cert.UpdatedFfnInIdeal.main_arg2)
          ∧ r.2.mem ((c.tc : Thread Cert.UpdatedFfnInIdeal.nD Cert.UpdatedFfnInIdeal.τ).loc Cert.UpdatedFfnInIdeal.main_arg3) = m' ((c.tc : Thread Cert.UpdatedFfnInIdeal.nD Cert.UpdatedFfnInIdeal.τ).loc Cert.UpdatedFfnInIdeal.main_arg3))

def preserves_UpdateFfnOut_UpdateFfnOutIdeal : Prop :=
  True

def algebraic_UpdateFfnOutIdeal_UpdatedFfnOutIdeal [hUpdateFfnOutIdeal : Cert.UpdateFfnOutIdeal.Facts] [hUpdatedFfnOutIdeal : Cert.UpdatedFfnOutIdeal.Facts] : Prop :=
  ∀ (m : (ℓ : Loc Cert.UpdateFfnOutIdeal.nD Cert.UpdateFfnOutIdeal.τ Cert.UpdateFfnOutIdeal.sig) → Buf (Elt Ideal) ℓ) (g : Dev Cert.UpdateFfnOutIdeal.nD → PrngReg)
    (m' : (ℓ : Loc Cert.UpdatedFfnOutIdeal.nD Cert.UpdatedFfnOutIdeal.τ Cert.UpdatedFfnOutIdeal.sig) → Buf (Elt Ideal) ℓ) (g' : Dev Cert.UpdatedFfnOutIdeal.nD → PrngReg), Pre_UpdateFfnOutIdeal m →
    (∀ c : Dev Cert.UpdateFfnOutIdeal.nD,
      m' ((c.tc : Thread Cert.UpdatedFfnOutIdeal.nD Cert.UpdatedFfnOutIdeal.τ).loc Cert.UpdatedFfnOutIdeal.main_arg0) = m ((c.tc : Thread Cert.UpdateFfnOutIdeal.nD Cert.UpdateFfnOutIdeal.τ).loc Cert.UpdateFfnOutIdeal.main_arg0)
      ∧ m' ((c.tc : Thread Cert.UpdatedFfnOutIdeal.nD Cert.UpdatedFfnOutIdeal.τ).loc Cert.UpdatedFfnOutIdeal.main_arg1) = m ((c.tc : Thread Cert.UpdateFfnOutIdeal.nD Cert.UpdateFfnOutIdeal.τ).loc Cert.UpdateFfnOutIdeal.main_arg1)
      ∧ m' ((c.tc : Thread Cert.UpdatedFfnOutIdeal.nD Cert.UpdatedFfnOutIdeal.τ).loc Cert.UpdatedFfnOutIdeal.main_arg2) = m ((c.tc : Thread Cert.UpdateFfnOutIdeal.nD Cert.UpdateFfnOutIdeal.τ).loc Cert.UpdateFfnOutIdeal.main_arg2)
      ∧ m' ((c.tc : Thread Cert.UpdatedFfnOutIdeal.nD Cert.UpdatedFfnOutIdeal.τ).loc Cert.UpdatedFfnOutIdeal.main_arg3) = m ((c.tc : Thread Cert.UpdateFfnOutIdeal.nD Cert.UpdateFfnOutIdeal.τ).loc Cert.UpdateFfnOutIdeal.main_arg3)) →
    ∃ (v0 : (c : Dev Cert.UpdateFfnOutIdeal.nD) → Buf (Elt Ideal) ((c.tc : Thread Cert.UpdateFfnOutIdeal.nD Cert.UpdateFfnOutIdeal.τ).loc Cert.UpdateFfnOutIdeal.main_v0_0)) (v1 : (c : Dev Cert.UpdateFfnOutIdeal.nD) → Buf (Elt Ideal) ((c.tc : Thread Cert.UpdateFfnOutIdeal.nD Cert.UpdateFfnOutIdeal.τ).loc Cert.UpdateFfnOutIdeal.main_v0_1)) (v2 : (c : Dev Cert.UpdateFfnOutIdeal.nD) → Buf (Elt Ideal) ((c.tc : Thread Cert.UpdateFfnOutIdeal.nD Cert.UpdateFfnOutIdeal.τ).loc Cert.UpdateFfnOutIdeal.main_v0_2)) (v3 : (c : Dev Cert.UpdateFfnOutIdeal.nD) → Buf (Elt Ideal) ((c.tc : Thread Cert.UpdateFfnOutIdeal.nD Cert.UpdateFfnOutIdeal.τ).loc Cert.UpdateFfnOutIdeal.main_v0_3)),
      θ_run (Cert.UpdateFfnOutIdeal.defs (F := Ideal)) (onTc (τ := Cert.UpdateFfnOutIdeal.τ) (Cert.UpdateFfnOutIdeal.main (F := Ideal))) ⟨m, fun _ => 0, g⟩ (fun r => ∀ c : Dev Cert.UpdateFfnOutIdeal.nD,
          r.2.mem ((c.tc : Thread Cert.UpdateFfnOutIdeal.nD Cert.UpdateFfnOutIdeal.τ).loc Cert.UpdateFfnOutIdeal.main_v0_0) = v0 c
          ∧ r.2.mem ((c.tc : Thread Cert.UpdateFfnOutIdeal.nD Cert.UpdateFfnOutIdeal.τ).loc Cert.UpdateFfnOutIdeal.main_v0_1) = v1 c
          ∧ r.2.mem ((c.tc : Thread Cert.UpdateFfnOutIdeal.nD Cert.UpdateFfnOutIdeal.τ).loc Cert.UpdateFfnOutIdeal.main_v0_2) = v2 c
          ∧ r.2.mem ((c.tc : Thread Cert.UpdateFfnOutIdeal.nD Cert.UpdateFfnOutIdeal.τ).loc Cert.UpdateFfnOutIdeal.main_v0_3) = v3 c
          ∧ r.2.mem ((c.tc : Thread Cert.UpdateFfnOutIdeal.nD Cert.UpdateFfnOutIdeal.τ).loc Cert.UpdateFfnOutIdeal.main_arg0) = m ((c.tc : Thread Cert.UpdateFfnOutIdeal.nD Cert.UpdateFfnOutIdeal.τ).loc Cert.UpdateFfnOutIdeal.main_arg0)
          ∧ r.2.mem ((c.tc : Thread Cert.UpdateFfnOutIdeal.nD Cert.UpdateFfnOutIdeal.τ).loc Cert.UpdateFfnOutIdeal.main_arg1) = m ((c.tc : Thread Cert.UpdateFfnOutIdeal.nD Cert.UpdateFfnOutIdeal.τ).loc Cert.UpdateFfnOutIdeal.main_arg1)
          ∧ r.2.mem ((c.tc : Thread Cert.UpdateFfnOutIdeal.nD Cert.UpdateFfnOutIdeal.τ).loc Cert.UpdateFfnOutIdeal.main_arg2) = m ((c.tc : Thread Cert.UpdateFfnOutIdeal.nD Cert.UpdateFfnOutIdeal.τ).loc Cert.UpdateFfnOutIdeal.main_arg2)
          ∧ r.2.mem ((c.tc : Thread Cert.UpdateFfnOutIdeal.nD Cert.UpdateFfnOutIdeal.τ).loc Cert.UpdateFfnOutIdeal.main_arg3) = m ((c.tc : Thread Cert.UpdateFfnOutIdeal.nD Cert.UpdateFfnOutIdeal.τ).loc Cert.UpdateFfnOutIdeal.main_arg3))
      ∧ θ_run (Cert.UpdatedFfnOutIdeal.defs (F := Ideal)) (onTc (τ := Cert.UpdatedFfnOutIdeal.τ) (Cert.UpdatedFfnOutIdeal.main (F := Ideal))) ⟨m', fun _ => 0, g'⟩ (fun r => ∀ c : Dev Cert.UpdatedFfnOutIdeal.nD,
          r.2.mem ((c.tc : Thread Cert.UpdatedFfnOutIdeal.nD Cert.UpdatedFfnOutIdeal.τ).loc Cert.UpdatedFfnOutIdeal.main_v1) = v0 c
          ∧ r.2.mem ((c.tc : Thread Cert.UpdatedFfnOutIdeal.nD Cert.UpdatedFfnOutIdeal.τ).loc Cert.UpdatedFfnOutIdeal.main_v25) = v1 c
          ∧ r.2.mem ((c.tc : Thread Cert.UpdatedFfnOutIdeal.nD Cert.UpdatedFfnOutIdeal.τ).loc Cert.UpdatedFfnOutIdeal.main_v6) = v2 c
          ∧ r.2.mem ((c.tc : Thread Cert.UpdatedFfnOutIdeal.nD Cert.UpdatedFfnOutIdeal.τ).loc Cert.UpdatedFfnOutIdeal.main_v12) = v3 c
          ∧ r.2.mem ((c.tc : Thread Cert.UpdatedFfnOutIdeal.nD Cert.UpdatedFfnOutIdeal.τ).loc Cert.UpdatedFfnOutIdeal.main_arg0) = m' ((c.tc : Thread Cert.UpdatedFfnOutIdeal.nD Cert.UpdatedFfnOutIdeal.τ).loc Cert.UpdatedFfnOutIdeal.main_arg0)
          ∧ r.2.mem ((c.tc : Thread Cert.UpdatedFfnOutIdeal.nD Cert.UpdatedFfnOutIdeal.τ).loc Cert.UpdatedFfnOutIdeal.main_arg1) = m' ((c.tc : Thread Cert.UpdatedFfnOutIdeal.nD Cert.UpdatedFfnOutIdeal.τ).loc Cert.UpdatedFfnOutIdeal.main_arg1)
          ∧ r.2.mem ((c.tc : Thread Cert.UpdatedFfnOutIdeal.nD Cert.UpdatedFfnOutIdeal.τ).loc Cert.UpdatedFfnOutIdeal.main_arg2) = m' ((c.tc : Thread Cert.UpdatedFfnOutIdeal.nD Cert.UpdatedFfnOutIdeal.τ).loc Cert.UpdatedFfnOutIdeal.main_arg2)
          ∧ r.2.mem ((c.tc : Thread Cert.UpdatedFfnOutIdeal.nD Cert.UpdatedFfnOutIdeal.τ).loc Cert.UpdatedFfnOutIdeal.main_arg3) = m' ((c.tc : Thread Cert.UpdatedFfnOutIdeal.nD Cert.UpdatedFfnOutIdeal.τ).loc Cert.UpdatedFfnOutIdeal.main_arg3))

def preserves_Prenorm_PrenormIdeal : Prop :=
  True

def algebraic_PrenormIdeal_PrenormedIdeal [hPrenormIdeal : Cert.PrenormIdeal.Facts] [hPrenormedIdeal : Cert.PrenormedIdeal.Facts] : Prop :=
  ∀ (m : (ℓ : Loc Cert.PrenormIdeal.nD Cert.PrenormIdeal.τ Cert.PrenormIdeal.sig) → Buf (Elt Ideal) ℓ) (g : Dev Cert.PrenormIdeal.nD → PrngReg)
    (m' : (ℓ : Loc Cert.PrenormedIdeal.nD Cert.PrenormedIdeal.τ Cert.PrenormedIdeal.sig) → Buf (Elt Ideal) ℓ) (g' : Dev Cert.PrenormedIdeal.nD → PrngReg), Pre_PrenormIdeal m →
    (∀ c : Dev Cert.PrenormIdeal.nD,
      m' ((c.tc : Thread Cert.PrenormedIdeal.nD Cert.PrenormedIdeal.τ).loc Cert.PrenormedIdeal.main_arg0) = m ((c.tc : Thread Cert.PrenormIdeal.nD Cert.PrenormIdeal.τ).loc Cert.PrenormIdeal.main_arg0)
      ∧ m' ((c.tc : Thread Cert.PrenormedIdeal.nD Cert.PrenormedIdeal.τ).loc Cert.PrenormedIdeal.main_arg1) = m ((c.tc : Thread Cert.PrenormIdeal.nD Cert.PrenormIdeal.τ).loc Cert.PrenormIdeal.main_arg1)
      ∧ m' ((c.tc : Thread Cert.PrenormedIdeal.nD Cert.PrenormedIdeal.τ).loc Cert.PrenormedIdeal.main_arg2) = m ((c.tc : Thread Cert.PrenormIdeal.nD Cert.PrenormIdeal.τ).loc Cert.PrenormIdeal.main_arg2)
      ∧ m' ((c.tc : Thread Cert.PrenormedIdeal.nD Cert.PrenormedIdeal.τ).loc Cert.PrenormedIdeal.main_arg3) = m ((c.tc : Thread Cert.PrenormIdeal.nD Cert.PrenormIdeal.τ).loc Cert.PrenormIdeal.main_arg3)
      ∧ m' ((c.tc : Thread Cert.PrenormedIdeal.nD Cert.PrenormedIdeal.τ).loc Cert.PrenormedIdeal.main_arg4) = m ((c.tc : Thread Cert.PrenormIdeal.nD Cert.PrenormIdeal.τ).loc Cert.PrenormIdeal.main_arg4)) →
    ∃ (v0 : (c : Dev Cert.PrenormIdeal.nD) → Buf (Elt Ideal) ((c.tc : Thread Cert.PrenormIdeal.nD Cert.PrenormIdeal.τ).loc Cert.PrenormIdeal.main_v0_0)) (v1 : (c : Dev Cert.PrenormIdeal.nD) → Buf (Elt Ideal) ((c.tc : Thread Cert.PrenormIdeal.nD Cert.PrenormIdeal.τ).loc Cert.PrenormIdeal.main_v0_1)),
      θ_run (Cert.PrenormIdeal.defs (F := Ideal)) (onTc (τ := Cert.PrenormIdeal.τ) (Cert.PrenormIdeal.main (F := Ideal))) ⟨m, fun _ => 0, g⟩ (fun r => ∀ c : Dev Cert.PrenormIdeal.nD,
          r.2.mem ((c.tc : Thread Cert.PrenormIdeal.nD Cert.PrenormIdeal.τ).loc Cert.PrenormIdeal.main_v0_0) = v0 c
          ∧ r.2.mem ((c.tc : Thread Cert.PrenormIdeal.nD Cert.PrenormIdeal.τ).loc Cert.PrenormIdeal.main_v0_1) = v1 c
          ∧ r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
          ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
          ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2)
          ∧ r.2.mem ((c.tc : Thread Cert.PrenormIdeal.nD Cert.PrenormIdeal.τ).loc Cert.PrenormIdeal.main_arg3) = m ((c.tc : Thread Cert.PrenormIdeal.nD Cert.PrenormIdeal.τ).loc Cert.PrenormIdeal.main_arg3)
          ∧ r.2.mem ((c.tc : Thread Cert.PrenormIdeal.nD Cert.PrenormIdeal.τ).loc Cert.PrenormIdeal.main_arg4) = m ((c.tc : Thread Cert.PrenormIdeal.nD Cert.PrenormIdeal.τ).loc Cert.PrenormIdeal.main_arg4))
      ∧ θ_run (Cert.PrenormedIdeal.defs (F := Ideal)) (onTc (τ := Cert.PrenormedIdeal.τ) (Cert.PrenormedIdeal.main (F := Ideal))) ⟨m', fun _ => 0, g'⟩ (fun r => ∀ c : Dev Cert.PrenormedIdeal.nD,
          r.2.mem ((c.tc : Thread Cert.PrenormedIdeal.nD Cert.PrenormedIdeal.τ).loc Cert.PrenormedIdeal.main_v49) = v0 c
          ∧ r.2.mem ((c.tc : Thread Cert.PrenormedIdeal.nD Cert.PrenormedIdeal.τ).loc Cert.PrenormedIdeal.main_v51) = v1 c
          ∧ r.2.mem ((c.tc : Thread Cert.PrenormedIdeal.nD Cert.PrenormedIdeal.τ).loc Cert.PrenormedIdeal.main_arg0) = m' ((c.tc : Thread Cert.PrenormedIdeal.nD Cert.PrenormedIdeal.τ).loc Cert.PrenormedIdeal.main_arg0)
          ∧ r.2.mem ((c.tc : Thread Cert.PrenormedIdeal.nD Cert.PrenormedIdeal.τ).loc Cert.PrenormedIdeal.main_arg1) = m' ((c.tc : Thread Cert.PrenormedIdeal.nD Cert.PrenormedIdeal.τ).loc Cert.PrenormedIdeal.main_arg1)
          ∧ r.2.mem ((c.tc : Thread Cert.PrenormedIdeal.nD Cert.PrenormedIdeal.τ).loc Cert.PrenormedIdeal.main_arg2) = m' ((c.tc : Thread Cert.PrenormedIdeal.nD Cert.PrenormedIdeal.τ).loc Cert.PrenormedIdeal.main_arg2)
          ∧ r.2.mem ((c.tc : Thread Cert.PrenormedIdeal.nD Cert.PrenormedIdeal.τ).loc Cert.PrenormedIdeal.main_arg3) = m' ((c.tc : Thread Cert.PrenormedIdeal.nD Cert.PrenormedIdeal.τ).loc Cert.PrenormedIdeal.main_arg3)
          ∧ r.2.mem ((c.tc : Thread Cert.PrenormedIdeal.nD Cert.PrenormedIdeal.τ).loc Cert.PrenormedIdeal.main_arg4) = m' ((c.tc : Thread Cert.PrenormedIdeal.nD Cert.PrenormedIdeal.τ).loc Cert.PrenormedIdeal.main_arg4))

def preserves_PrenormFwd_PrenormFwdIdeal : Prop :=
  True

def algebraic_PrenormFwdIdeal_PrenormedFwdIdeal [hPrenormFwdIdeal : Cert.PrenormFwdIdeal.Facts] [hPrenormedFwdIdeal : Cert.PrenormedFwdIdeal.Facts] : Prop :=
  ∀ (m : (ℓ : Loc Cert.PrenormFwdIdeal.nD Cert.PrenormFwdIdeal.τ Cert.PrenormFwdIdeal.sig) → Buf (Elt Ideal) ℓ) (g : Dev Cert.PrenormFwdIdeal.nD → PrngReg)
    (m' : (ℓ : Loc Cert.PrenormedFwdIdeal.nD Cert.PrenormedFwdIdeal.τ Cert.PrenormedFwdIdeal.sig) → Buf (Elt Ideal) ℓ) (g' : Dev Cert.PrenormedFwdIdeal.nD → PrngReg), Pre_PrenormFwdIdeal m →
    (∀ c : Dev Cert.PrenormFwdIdeal.nD,
      m' ((c.tc : Thread Cert.PrenormedFwdIdeal.nD Cert.PrenormedFwdIdeal.τ).loc Cert.PrenormedFwdIdeal.main_arg0) = m ((c.tc : Thread Cert.PrenormFwdIdeal.nD Cert.PrenormFwdIdeal.τ).loc Cert.PrenormFwdIdeal.main_arg0)
      ∧ m' ((c.tc : Thread Cert.PrenormedFwdIdeal.nD Cert.PrenormedFwdIdeal.τ).loc Cert.PrenormedFwdIdeal.main_arg1) = m ((c.tc : Thread Cert.PrenormFwdIdeal.nD Cert.PrenormFwdIdeal.τ).loc Cert.PrenormFwdIdeal.main_arg1)
      ∧ m' ((c.tc : Thread Cert.PrenormedFwdIdeal.nD Cert.PrenormedFwdIdeal.τ).loc Cert.PrenormedFwdIdeal.main_arg2) = m ((c.tc : Thread Cert.PrenormFwdIdeal.nD Cert.PrenormFwdIdeal.τ).loc Cert.PrenormFwdIdeal.main_arg2)
      ∧ m' ((c.tc : Thread Cert.PrenormedFwdIdeal.nD Cert.PrenormedFwdIdeal.τ).loc Cert.PrenormedFwdIdeal.main_arg3) = m ((c.tc : Thread Cert.PrenormFwdIdeal.nD Cert.PrenormFwdIdeal.τ).loc Cert.PrenormFwdIdeal.main_arg3)) →
    ∃ (v0 : (c : Dev Cert.PrenormFwdIdeal.nD) → Buf (Elt Ideal) ((c.tc : Thread Cert.PrenormFwdIdeal.nD Cert.PrenormFwdIdeal.τ).loc Cert.PrenormFwdIdeal.main_v0)),
      θ_run (Cert.PrenormFwdIdeal.defs (F := Ideal)) (onTc (τ := Cert.PrenormFwdIdeal.τ) (Cert.PrenormFwdIdeal.main (F := Ideal))) ⟨m, fun _ => 0, g⟩ (fun r => ∀ c : Dev Cert.PrenormFwdIdeal.nD,
          r.2.mem ((c.tc : Thread Cert.PrenormFwdIdeal.nD Cert.PrenormFwdIdeal.τ).loc Cert.PrenormFwdIdeal.main_v0) = v0 c
          ∧ r.2.mem ((c.tc : Thread Cert.PrenormFwdIdeal.nD Cert.PrenormFwdIdeal.τ).loc Cert.PrenormFwdIdeal.main_arg0) = m ((c.tc : Thread Cert.PrenormFwdIdeal.nD Cert.PrenormFwdIdeal.τ).loc Cert.PrenormFwdIdeal.main_arg0)
          ∧ r.2.mem ((c.tc : Thread Cert.PrenormFwdIdeal.nD Cert.PrenormFwdIdeal.τ).loc Cert.PrenormFwdIdeal.main_arg1) = m ((c.tc : Thread Cert.PrenormFwdIdeal.nD Cert.PrenormFwdIdeal.τ).loc Cert.PrenormFwdIdeal.main_arg1)
          ∧ r.2.mem ((c.tc : Thread Cert.PrenormFwdIdeal.nD Cert.PrenormFwdIdeal.τ).loc Cert.PrenormFwdIdeal.main_arg2) = m ((c.tc : Thread Cert.PrenormFwdIdeal.nD Cert.PrenormFwdIdeal.τ).loc Cert.PrenormFwdIdeal.main_arg2)
          ∧ r.2.mem ((c.tc : Thread Cert.PrenormFwdIdeal.nD Cert.PrenormFwdIdeal.τ).loc Cert.PrenormFwdIdeal.main_arg3) = m ((c.tc : Thread Cert.PrenormFwdIdeal.nD Cert.PrenormFwdIdeal.τ).loc Cert.PrenormFwdIdeal.main_arg3))
      ∧ θ_run (Cert.PrenormedFwdIdeal.defs (F := Ideal)) (onTc (τ := Cert.PrenormedFwdIdeal.τ) (Cert.PrenormedFwdIdeal.main (F := Ideal))) ⟨m', fun _ => 0, g'⟩ (fun r => ∀ c : Dev Cert.PrenormedFwdIdeal.nD,
          r.2.mem ((c.tc : Thread Cert.PrenormedFwdIdeal.nD Cert.PrenormedFwdIdeal.τ).loc Cert.PrenormedFwdIdeal.main_v18) = v0 c
          ∧ r.2.mem ((c.tc : Thread Cert.PrenormedFwdIdeal.nD Cert.PrenormedFwdIdeal.τ).loc Cert.PrenormedFwdIdeal.main_arg0) = m' ((c.tc : Thread Cert.PrenormedFwdIdeal.nD Cert.PrenormedFwdIdeal.τ).loc Cert.PrenormedFwdIdeal.main_arg0)
          ∧ r.2.mem ((c.tc : Thread Cert.PrenormedFwdIdeal.nD Cert.PrenormedFwdIdeal.τ).loc Cert.PrenormedFwdIdeal.main_arg1) = m' ((c.tc : Thread Cert.PrenormedFwdIdeal.nD Cert.PrenormedFwdIdeal.τ).loc Cert.PrenormedFwdIdeal.main_arg1)
          ∧ r.2.mem ((c.tc : Thread Cert.PrenormedFwdIdeal.nD Cert.PrenormedFwdIdeal.τ).loc Cert.PrenormedFwdIdeal.main_arg2) = m' ((c.tc : Thread Cert.PrenormedFwdIdeal.nD Cert.PrenormedFwdIdeal.τ).loc Cert.PrenormedFwdIdeal.main_arg2)
          ∧ r.2.mem ((c.tc : Thread Cert.PrenormedFwdIdeal.nD Cert.PrenormedFwdIdeal.τ).loc Cert.PrenormedFwdIdeal.main_arg3) = m' ((c.tc : Thread Cert.PrenormedFwdIdeal.nD Cert.PrenormedFwdIdeal.τ).loc Cert.PrenormedFwdIdeal.main_arg3))

def preserves_Postnorm_PostnormIdeal : Prop :=
  True

def algebraic_PostnormIdeal_PostnormedIdeal [hPostnormIdeal : Cert.PostnormIdeal.Facts] [hPostnormedIdeal : Cert.PostnormedIdeal.Facts] : Prop :=
  ∀ (m : (ℓ : Loc Cert.PostnormIdeal.nD Cert.PostnormIdeal.τ Cert.PostnormIdeal.sig) → Buf (Elt Ideal) ℓ) (g : Dev Cert.PostnormIdeal.nD → PrngReg)
    (m' : (ℓ : Loc Cert.PostnormedIdeal.nD Cert.PostnormedIdeal.τ Cert.PostnormedIdeal.sig) → Buf (Elt Ideal) ℓ) (g' : Dev Cert.PostnormedIdeal.nD → PrngReg), Pre_PostnormIdeal m →
    (∀ c : Dev Cert.PostnormIdeal.nD,
      m' ((c.tc : Thread Cert.PostnormedIdeal.nD Cert.PostnormedIdeal.τ).loc Cert.PostnormedIdeal.main_arg0) = m ((c.tc : Thread Cert.PostnormIdeal.nD Cert.PostnormIdeal.τ).loc Cert.PostnormIdeal.main_arg0)
      ∧ m' ((c.tc : Thread Cert.PostnormedIdeal.nD Cert.PostnormedIdeal.τ).loc Cert.PostnormedIdeal.main_arg1) = m ((c.tc : Thread Cert.PostnormIdeal.nD Cert.PostnormIdeal.τ).loc Cert.PostnormIdeal.main_arg1)
      ∧ m' ((c.tc : Thread Cert.PostnormedIdeal.nD Cert.PostnormedIdeal.τ).loc Cert.PostnormedIdeal.main_arg2) = m ((c.tc : Thread Cert.PostnormIdeal.nD Cert.PostnormIdeal.τ).loc Cert.PostnormIdeal.main_arg2)
      ∧ m' ((c.tc : Thread Cert.PostnormedIdeal.nD Cert.PostnormedIdeal.τ).loc Cert.PostnormedIdeal.main_arg3) = m ((c.tc : Thread Cert.PostnormIdeal.nD Cert.PostnormIdeal.τ).loc Cert.PostnormIdeal.main_arg3)) →
    ∃ (v0 : (c : Dev Cert.PostnormIdeal.nD) → Buf (Elt Ideal) ((c.tc : Thread Cert.PostnormIdeal.nD Cert.PostnormIdeal.τ).loc Cert.PostnormIdeal.main_v0)),
      θ_run (Cert.PostnormIdeal.defs (F := Ideal)) (onTc (τ := Cert.PostnormIdeal.τ) (Cert.PostnormIdeal.main (F := Ideal))) ⟨m, fun _ => 0, g⟩ (fun r => ∀ c : Dev Cert.PostnormIdeal.nD,
          r.2.mem ((c.tc : Thread Cert.PostnormIdeal.nD Cert.PostnormIdeal.τ).loc Cert.PostnormIdeal.main_v0) = v0 c
          ∧ r.2.mem ((c.tc : Thread Cert.PostnormIdeal.nD Cert.PostnormIdeal.τ).loc Cert.PostnormIdeal.main_arg0) = m ((c.tc : Thread Cert.PostnormIdeal.nD Cert.PostnormIdeal.τ).loc Cert.PostnormIdeal.main_arg0)
          ∧ r.2.mem ((c.tc : Thread Cert.PostnormIdeal.nD Cert.PostnormIdeal.τ).loc Cert.PostnormIdeal.main_arg1) = m ((c.tc : Thread Cert.PostnormIdeal.nD Cert.PostnormIdeal.τ).loc Cert.PostnormIdeal.main_arg1)
          ∧ r.2.mem ((c.tc : Thread Cert.PostnormIdeal.nD Cert.PostnormIdeal.τ).loc Cert.PostnormIdeal.main_arg2) = m ((c.tc : Thread Cert.PostnormIdeal.nD Cert.PostnormIdeal.τ).loc Cert.PostnormIdeal.main_arg2)
          ∧ r.2.mem ((c.tc : Thread Cert.PostnormIdeal.nD Cert.PostnormIdeal.τ).loc Cert.PostnormIdeal.main_arg3) = m ((c.tc : Thread Cert.PostnormIdeal.nD Cert.PostnormIdeal.τ).loc Cert.PostnormIdeal.main_arg3))
      ∧ θ_run (Cert.PostnormedIdeal.defs (F := Ideal)) (onTc (τ := Cert.PostnormedIdeal.τ) (Cert.PostnormedIdeal.main (F := Ideal))) ⟨m', fun _ => 0, g'⟩ (fun r => ∀ c : Dev Cert.PostnormedIdeal.nD,
          r.2.mem ((c.tc : Thread Cert.PostnormedIdeal.nD Cert.PostnormedIdeal.τ).loc Cert.PostnormedIdeal.main_v14) = v0 c
          ∧ r.2.mem ((c.tc : Thread Cert.PostnormedIdeal.nD Cert.PostnormedIdeal.τ).loc Cert.PostnormedIdeal.main_arg0) = m' ((c.tc : Thread Cert.PostnormedIdeal.nD Cert.PostnormedIdeal.τ).loc Cert.PostnormedIdeal.main_arg0)
          ∧ r.2.mem ((c.tc : Thread Cert.PostnormedIdeal.nD Cert.PostnormedIdeal.τ).loc Cert.PostnormedIdeal.main_arg1) = m' ((c.tc : Thread Cert.PostnormedIdeal.nD Cert.PostnormedIdeal.τ).loc Cert.PostnormedIdeal.main_arg1)
          ∧ r.2.mem ((c.tc : Thread Cert.PostnormedIdeal.nD Cert.PostnormedIdeal.τ).loc Cert.PostnormedIdeal.main_arg2) = m' ((c.tc : Thread Cert.PostnormedIdeal.nD Cert.PostnormedIdeal.τ).loc Cert.PostnormedIdeal.main_arg2)
          ∧ r.2.mem ((c.tc : Thread Cert.PostnormedIdeal.nD Cert.PostnormedIdeal.τ).loc Cert.PostnormedIdeal.main_arg3) = m' ((c.tc : Thread Cert.PostnormedIdeal.nD Cert.PostnormedIdeal.τ).loc Cert.PostnormedIdeal.main_arg3))

def preserves_PostnormBwd_PostnormBwdIdeal : Prop :=
  True

def algebraic_PostnormBwdIdeal_PostnormedBwdIdeal [hPostnormBwdIdeal : Cert.PostnormBwdIdeal.Facts] [hPostnormedBwdIdeal : Cert.PostnormedBwdIdeal.Facts] : Prop :=
  ∀ (m : (ℓ : Loc Cert.PostnormBwdIdeal.nD Cert.PostnormBwdIdeal.τ Cert.PostnormBwdIdeal.sig) → Buf (Elt Ideal) ℓ) (g : Dev Cert.PostnormBwdIdeal.nD → PrngReg)
    (m' : (ℓ : Loc Cert.PostnormedBwdIdeal.nD Cert.PostnormedBwdIdeal.τ Cert.PostnormedBwdIdeal.sig) → Buf (Elt Ideal) ℓ) (g' : Dev Cert.PostnormedBwdIdeal.nD → PrngReg), Pre_PostnormBwdIdeal m →
    (∀ c : Dev Cert.PostnormBwdIdeal.nD,
      m' ((c.tc : Thread Cert.PostnormedBwdIdeal.nD Cert.PostnormedBwdIdeal.τ).loc Cert.PostnormedBwdIdeal.main_arg0) = m ((c.tc : Thread Cert.PostnormBwdIdeal.nD Cert.PostnormBwdIdeal.τ).loc Cert.PostnormBwdIdeal.main_arg0)
      ∧ m' ((c.tc : Thread Cert.PostnormedBwdIdeal.nD Cert.PostnormedBwdIdeal.τ).loc Cert.PostnormedBwdIdeal.main_arg1) = m ((c.tc : Thread Cert.PostnormBwdIdeal.nD Cert.PostnormBwdIdeal.τ).loc Cert.PostnormBwdIdeal.main_arg1)
      ∧ m' ((c.tc : Thread Cert.PostnormedBwdIdeal.nD Cert.PostnormedBwdIdeal.τ).loc Cert.PostnormedBwdIdeal.main_arg2) = m ((c.tc : Thread Cert.PostnormBwdIdeal.nD Cert.PostnormBwdIdeal.τ).loc Cert.PostnormBwdIdeal.main_arg2)
      ∧ m' ((c.tc : Thread Cert.PostnormedBwdIdeal.nD Cert.PostnormedBwdIdeal.τ).loc Cert.PostnormedBwdIdeal.main_arg3) = m ((c.tc : Thread Cert.PostnormBwdIdeal.nD Cert.PostnormBwdIdeal.τ).loc Cert.PostnormBwdIdeal.main_arg3)) →
    ∃ (v0 : (c : Dev Cert.PostnormBwdIdeal.nD) → Buf (Elt Ideal) ((c.tc : Thread Cert.PostnormBwdIdeal.nD Cert.PostnormBwdIdeal.τ).loc Cert.PostnormBwdIdeal.main_v0_0)) (v1 : (c : Dev Cert.PostnormBwdIdeal.nD) → Buf (Elt Ideal) ((c.tc : Thread Cert.PostnormBwdIdeal.nD Cert.PostnormBwdIdeal.τ).loc Cert.PostnormBwdIdeal.main_v0_1)),
      θ_run (Cert.PostnormBwdIdeal.defs (F := Ideal)) (onTc (τ := Cert.PostnormBwdIdeal.τ) (Cert.PostnormBwdIdeal.main (F := Ideal))) ⟨m, fun _ => 0, g⟩ (fun r => ∀ c : Dev Cert.PostnormBwdIdeal.nD,
          r.2.mem ((c.tc : Thread Cert.PostnormBwdIdeal.nD Cert.PostnormBwdIdeal.τ).loc Cert.PostnormBwdIdeal.main_v0_0) = v0 c
          ∧ r.2.mem ((c.tc : Thread Cert.PostnormBwdIdeal.nD Cert.PostnormBwdIdeal.τ).loc Cert.PostnormBwdIdeal.main_v0_1) = v1 c
          ∧ r.2.mem ((c.tc : Thread Cert.PostnormBwdIdeal.nD Cert.PostnormBwdIdeal.τ).loc Cert.PostnormBwdIdeal.main_arg0) = m ((c.tc : Thread Cert.PostnormBwdIdeal.nD Cert.PostnormBwdIdeal.τ).loc Cert.PostnormBwdIdeal.main_arg0)
          ∧ r.2.mem ((c.tc : Thread Cert.PostnormBwdIdeal.nD Cert.PostnormBwdIdeal.τ).loc Cert.PostnormBwdIdeal.main_arg1) = m ((c.tc : Thread Cert.PostnormBwdIdeal.nD Cert.PostnormBwdIdeal.τ).loc Cert.PostnormBwdIdeal.main_arg1)
          ∧ r.2.mem ((c.tc : Thread Cert.PostnormBwdIdeal.nD Cert.PostnormBwdIdeal.τ).loc Cert.PostnormBwdIdeal.main_arg2) = m ((c.tc : Thread Cert.PostnormBwdIdeal.nD Cert.PostnormBwdIdeal.τ).loc Cert.PostnormBwdIdeal.main_arg2)
          ∧ r.2.mem ((c.tc : Thread Cert.PostnormBwdIdeal.nD Cert.PostnormBwdIdeal.τ).loc Cert.PostnormBwdIdeal.main_arg3) = m ((c.tc : Thread Cert.PostnormBwdIdeal.nD Cert.PostnormBwdIdeal.τ).loc Cert.PostnormBwdIdeal.main_arg3))
      ∧ θ_run (Cert.PostnormedBwdIdeal.defs (F := Ideal)) (onTc (τ := Cert.PostnormedBwdIdeal.τ) (Cert.PostnormedBwdIdeal.main (F := Ideal))) ⟨m', fun _ => 0, g'⟩ (fun r => ∀ c : Dev Cert.PostnormedBwdIdeal.nD,
          r.2.mem ((c.tc : Thread Cert.PostnormedBwdIdeal.nD Cert.PostnormedBwdIdeal.τ).loc Cert.PostnormedBwdIdeal.main_v41) = v0 c
          ∧ r.2.mem ((c.tc : Thread Cert.PostnormedBwdIdeal.nD Cert.PostnormedBwdIdeal.τ).loc Cert.PostnormedBwdIdeal.main_v43) = v1 c
          ∧ r.2.mem ((c.tc : Thread Cert.PostnormedBwdIdeal.nD Cert.PostnormedBwdIdeal.τ).loc Cert.PostnormedBwdIdeal.main_arg0) = m' ((c.tc : Thread Cert.PostnormedBwdIdeal.nD Cert.PostnormedBwdIdeal.τ).loc Cert.PostnormedBwdIdeal.main_arg0)
          ∧ r.2.mem ((c.tc : Thread Cert.PostnormedBwdIdeal.nD Cert.PostnormedBwdIdeal.τ).loc Cert.PostnormedBwdIdeal.main_arg1) = m' ((c.tc : Thread Cert.PostnormedBwdIdeal.nD Cert.PostnormedBwdIdeal.τ).loc Cert.PostnormedBwdIdeal.main_arg1)
          ∧ r.2.mem ((c.tc : Thread Cert.PostnormedBwdIdeal.nD Cert.PostnormedBwdIdeal.τ).loc Cert.PostnormedBwdIdeal.main_arg2) = m' ((c.tc : Thread Cert.PostnormedBwdIdeal.nD Cert.PostnormedBwdIdeal.τ).loc Cert.PostnormedBwdIdeal.main_arg2)
          ∧ r.2.mem ((c.tc : Thread Cert.PostnormedBwdIdeal.nD Cert.PostnormedBwdIdeal.τ).loc Cert.PostnormedBwdIdeal.main_arg3) = m' ((c.tc : Thread Cert.PostnormedBwdIdeal.nD Cert.PostnormedBwdIdeal.τ).loc Cert.PostnormedBwdIdeal.main_arg3))

def preserves_Loss_LossIdeal : Prop :=
  True

def algebraic_LossIdeal_LostIdeal [hLossIdeal : Cert.LossIdeal.Facts] [hLostIdeal : Cert.LostIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LostIdeal.nD Cert.LostIdeal.τ Cert.LostIdeal.sig) → Buf (Elt Ideal) ℓ) (g' : Dev Cert.LostIdeal.nD → PrngReg), Pre_LossIdeal m →
    (∀ c : Dev Cert.LossIdeal.nD,
      m' ((c.tc : Thread Cert.LostIdeal.nD Cert.LostIdeal.τ).loc Cert.LostIdeal.main_arg0) = m ((c.tc : Thread Cert.LossIdeal.nD Cert.LossIdeal.τ).loc Cert.LossIdeal.main_arg0)
      ∧ m' ((c.tc : Thread Cert.LostIdeal.nD Cert.LostIdeal.τ).loc Cert.LostIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LostIdeal.defs (F := Ideal)) (onTc (τ := Cert.LostIdeal.τ) (Cert.LostIdeal.main (F := Ideal))) ⟨m', fun _ => 0, g'⟩ (fun r => ∀ c : Dev Cert.LostIdeal.nD,
          r.2.mem ((c.tc : Thread Cert.LostIdeal.nD Cert.LostIdeal.τ).loc Cert.LostIdeal.main_v9) = v0 c
          ∧ r.2.mem ((c.tc : Thread Cert.LostIdeal.nD Cert.LostIdeal.τ).loc Cert.LostIdeal.main_v15) = v1 c
          ∧ r.2.mem ((c.tc : Thread Cert.LostIdeal.nD Cert.LostIdeal.τ).loc Cert.LostIdeal.main_arg0) = m' ((c.tc : Thread Cert.LostIdeal.nD Cert.LostIdeal.τ).loc Cert.LostIdeal.main_arg0)
          ∧ r.2.mem ((c.tc : Thread Cert.LostIdeal.nD Cert.LostIdeal.τ).loc Cert.LostIdeal.main_arg1) = m' ((c.tc : Thread Cert.LostIdeal.nD Cert.LostIdeal.τ).loc Cert.LostIdeal.main_arg1))

def preserves_Ffn_FfnIdeal : Prop :=
  True

def algebraic_FfnIdeal_FfnedIdeal [hFfnIdeal : Cert.FfnIdeal.Facts] [hFfnedIdeal : Cert.FfnedIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnedIdeal.nD Cert.FfnedIdeal.τ Cert.FfnedIdeal.sig) → Buf (Elt Ideal) ℓ) (g' : Dev Cert.FfnedIdeal.nD → PrngReg), Pre_FfnIdeal m →
    (∀ c : Dev Cert.FfnIdeal.nD,
      m' ((c.tc : Thread Cert.FfnedIdeal.nD Cert.FfnedIdeal.τ).loc Cert.FfnedIdeal.main_arg0) = m ((c.tc : Thread Cert.FfnIdeal.nD Cert.FfnIdeal.τ).loc Cert.FfnIdeal.main_arg0)
      ∧ m' ((c.tc : Thread Cert.FfnedIdeal.nD Cert.FfnedIdeal.τ).loc Cert.FfnedIdeal.main_arg1) = m ((c.tc : Thread Cert.FfnIdeal.nD Cert.FfnIdeal.τ).loc Cert.FfnIdeal.main_arg1)
      ∧ m' ((c.tc : Thread Cert.FfnedIdeal.nD Cert.FfnedIdeal.τ).loc Cert.FfnedIdeal.main_arg2) = m ((c.tc : Thread Cert.FfnIdeal.nD Cert.FfnIdeal.τ).loc Cert.FfnIdeal.main_arg2)
      ∧ m' ((c.tc : Thread Cert.FfnedIdeal.nD Cert.FfnedIdeal.τ).loc Cert.FfnedIdeal.main_arg3) = m ((c.tc : Thread Cert.FfnIdeal.nD Cert.FfnIdeal.τ).loc Cert.FfnIdeal.main_arg3)
      ∧ m' ((c.tc : Thread Cert.FfnedIdeal.nD Cert.FfnedIdeal.τ).loc Cert.FfnedIdeal.main_arg4) = m ((c.tc : Thread Cert.FfnIdeal.nD Cert.FfnIdeal.τ).loc Cert.FfnIdeal.main_arg4)
      ∧ m' ((c.tc : Thread Cert.FfnedIdeal.nD Cert.FfnedIdeal.τ).loc Cert.FfnedIdeal.main_arg5) = m ((c.tc : Thread Cert.FfnIdeal.nD Cert.FfnIdeal.τ).loc Cert.FfnIdeal.main_arg5)
      ∧ m' ((c.tc : Thread Cert.FfnedIdeal.nD Cert.FfnedIdeal.τ).loc Cert.FfnedIdeal.main_arg6) = m ((c.tc : Thread Cert.FfnIdeal.nD Cert.FfnIdeal.τ).loc Cert.FfnIdeal.main_arg6)
      ∧ m' ((c.tc : Thread Cert.FfnedIdeal.nD Cert.FfnedIdeal.τ).loc Cert.FfnedIdeal.main_arg7) = m ((c.tc : Thread Cert.FfnIdeal.nD Cert.FfnIdeal.τ).loc Cert.FfnIdeal.main_arg7)
      ∧ m' ((c.tc : Thread Cert.FfnedIdeal.nD Cert.FfnedIdeal.τ).loc Cert.FfnedIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v5_0)) (v1 : (c : Dev Cert.FfnIdeal.nD) → Buf (Elt Ideal) ((c.tc : Thread Cert.FfnIdeal.nD Cert.FfnIdeal.τ).loc Cert.FfnIdeal.main_v5_1)) (v2 : (c : Dev Cert.FfnIdeal.nD) → Buf (Elt Ideal) ((c.tc : Thread Cert.FfnIdeal.nD Cert.FfnIdeal.τ).loc Cert.FfnIdeal.main_v6_1)) (v3 : (c : Dev Cert.FfnIdeal.nD) → Buf (Elt Ideal) ((c.tc : Thread Cert.FfnIdeal.nD Cert.FfnIdeal.τ).loc Cert.FfnIdeal.main_v7)) (v4 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5_0) = v0 c
          ∧ r.2.mem ((c.tc : Thread Cert.FfnIdeal.nD Cert.FfnIdeal.τ).loc Cert.FfnIdeal.main_v5_1) = v1 c
          ∧ r.2.mem ((c.tc : Thread Cert.FfnIdeal.nD Cert.FfnIdeal.τ).loc Cert.FfnIdeal.main_v6_1) = v2 c
          ∧ r.2.mem ((c.tc : Thread Cert.FfnIdeal.nD Cert.FfnIdeal.τ).loc Cert.FfnIdeal.main_v7) = v3 c
          ∧ r.2.mem ((c.tc : Thread Cert.FfnIdeal.nD Cert.FfnIdeal.τ).loc Cert.FfnIdeal.main_v8) = v4 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.FfnedIdeal.defs (F := Ideal)) (onTc (τ := Cert.FfnedIdeal.τ) (Cert.FfnedIdeal.main (F := Ideal))) ⟨m', fun _ => 0, g'⟩ (fun r => ∀ c : Dev Cert.FfnedIdeal.nD,
          r.2.mem ((c.tc : Thread Cert.FfnedIdeal.nD Cert.FfnedIdeal.τ).loc Cert.FfnedIdeal.main_v53) = v0 c
          ∧ r.2.mem ((c.tc : Thread Cert.FfnedIdeal.nD Cert.FfnedIdeal.τ).loc Cert.FfnedIdeal.main_v59) = v1 c
          ∧ r.2.mem ((c.tc : Thread Cert.FfnedIdeal.nD Cert.FfnedIdeal.τ).loc Cert.FfnedIdeal.main_v88) = v2 c
          ∧ r.2.mem ((c.tc : Thread Cert.FfnedIdeal.nD Cert.FfnedIdeal.τ).loc Cert.FfnedIdeal.main_v84) = v3 c
          ∧ r.2.mem ((c.tc : Thread Cert.FfnedIdeal.nD Cert.FfnedIdeal.τ).loc Cert.FfnedIdeal.main_v86) = v4 c
          ∧ r.2.mem ((c.tc : Thread Cert.FfnedIdeal.nD Cert.FfnedIdeal.τ).loc Cert.FfnedIdeal.main_arg0) = m' ((c.tc : Thread Cert.FfnedIdeal.nD Cert.FfnedIdeal.τ).loc Cert.FfnedIdeal.main_arg0)
          ∧ r.2.mem ((c.tc : Thread Cert.FfnedIdeal.nD Cert.FfnedIdeal.τ).loc Cert.FfnedIdeal.main_arg1) = m' ((c.tc : Thread Cert.FfnedIdeal.nD Cert.FfnedIdeal.τ).loc Cert.FfnedIdeal.main_arg1)
          ∧ r.2.mem ((c.tc : Thread Cert.FfnedIdeal.nD Cert.FfnedIdeal.τ).loc Cert.FfnedIdeal.main_arg2) = m' ((c.tc : Thread Cert.FfnedIdeal.nD Cert.FfnedIdeal.τ).loc Cert.FfnedIdeal.main_arg2)
          ∧ r.2.mem ((c.tc : Thread Cert.FfnedIdeal.nD Cert.FfnedIdeal.τ).loc Cert.FfnedIdeal.main_arg3) = m' ((c.tc : Thread Cert.FfnedIdeal.nD Cert.FfnedIdeal.τ).loc Cert.FfnedIdeal.main_arg3)
          ∧ r.2.mem ((c.tc : Thread Cert.FfnedIdeal.nD Cert.FfnedIdeal.τ).loc Cert.FfnedIdeal.main_arg4) = m' ((c.tc : Thread Cert.FfnedIdeal.nD Cert.FfnedIdeal.τ).loc Cert.FfnedIdeal.main_arg4)
          ∧ r.2.mem ((c.tc : Thread Cert.FfnedIdeal.nD Cert.FfnedIdeal.τ).loc Cert.FfnedIdeal.main_arg5) = m' ((c.tc : Thread Cert.FfnedIdeal.nD Cert.FfnedIdeal.τ).loc Cert.FfnedIdeal.main_arg5)
          ∧ r.2.mem ((c.tc : Thread Cert.FfnedIdeal.nD Cert.FfnedIdeal.τ).loc Cert.FfnedIdeal.main_arg6) = m' ((c.tc : Thread Cert.FfnedIdeal.nD Cert.FfnedIdeal.τ).loc Cert.FfnedIdeal.main_arg6)
          ∧ r.2.mem ((c.tc : Thread Cert.FfnedIdeal.nD Cert.FfnedIdeal.τ).loc Cert.FfnedIdeal.main_arg7) = m' ((c.tc : Thread Cert.FfnedIdeal.nD Cert.FfnedIdeal.τ).loc Cert.FfnedIdeal.main_arg7)
          ∧ r.2.mem ((c.tc : Thread Cert.FfnedIdeal.nD Cert.FfnedIdeal.τ).loc Cert.FfnedIdeal.main_arg8) = m' ((c.tc : Thread Cert.FfnedIdeal.nD Cert.FfnedIdeal.τ).loc Cert.FfnedIdeal.main_arg8))

def preserves_FfnBwd_FfnBwdIdeal : Prop :=
  True

def algebraic_FfnBwdIdeal_FfnedBwdIdeal [hFfnBwdIdeal : Cert.FfnBwdIdeal.Facts] [hFfnedBwdIdeal : Cert.FfnedBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnedBwdIdeal.nD Cert.FfnedBwdIdeal.τ Cert.FfnedBwdIdeal.sig) → Buf (Elt Ideal) ℓ) (g' : Dev Cert.FfnedBwdIdeal.nD → PrngReg), Pre_FfnBwdIdeal m →
    (∀ c : Dev Cert.FfnBwdIdeal.nD,
      m' ((c.tc : Thread Cert.FfnedBwdIdeal.nD Cert.FfnedBwdIdeal.τ).loc Cert.FfnedBwdIdeal.main_arg0) = m ((c.tc : Thread Cert.FfnBwdIdeal.nD Cert.FfnBwdIdeal.τ).loc Cert.FfnBwdIdeal.main_arg0)
      ∧ m' ((c.tc : Thread Cert.FfnedBwdIdeal.nD Cert.FfnedBwdIdeal.τ).loc Cert.FfnedBwdIdeal.main_arg1) = m ((c.tc : Thread Cert.FfnBwdIdeal.nD Cert.FfnBwdIdeal.τ).loc Cert.FfnBwdIdeal.main_arg1)
      ∧ m' ((c.tc : Thread Cert.FfnedBwdIdeal.nD Cert.FfnedBwdIdeal.τ).loc Cert.FfnedBwdIdeal.main_arg2) = m ((c.tc : Thread Cert.FfnBwdIdeal.nD Cert.FfnBwdIdeal.τ).loc Cert.FfnBwdIdeal.main_arg2)
      ∧ m' ((c.tc : Thread Cert.FfnedBwdIdeal.nD Cert.FfnedBwdIdeal.τ).loc Cert.FfnedBwdIdeal.main_arg3) = m ((c.tc : Thread Cert.FfnBwdIdeal.nD Cert.FfnBwdIdeal.τ).loc Cert.FfnBwdIdeal.main_arg3)
      ∧ m' ((c.tc : Thread Cert.FfnedBwdIdeal.nD Cert.FfnedBwdIdeal.τ).loc Cert.FfnedBwdIdeal.main_arg4) = m ((c.tc : Thread Cert.FfnBwdIdeal.nD Cert.FfnBwdIdeal.τ).loc Cert.FfnBwdIdeal.main_arg4)
      ∧ m' ((c.tc : Thread Cert.FfnedBwdIdeal.nD Cert.FfnedBwdIdeal.τ).loc Cert.FfnedBwdIdeal.main_arg5) = m ((c.tc : Thread Cert.FfnBwdIdeal.nD Cert.FfnBwdIdeal.τ).loc Cert.FfnBwdIdeal.main_arg5)
      ∧ m' ((c.tc : Thread Cert.FfnedBwdIdeal.nD Cert.FfnedBwdIdeal.τ).loc Cert.FfnedBwdIdeal.main_arg6) = m ((c.tc : Thread Cert.FfnBwdIdeal.nD Cert.FfnBwdIdeal.τ).loc Cert.FfnBwdIdeal.main_arg6)
      ∧ m' ((c.tc : Thread Cert.FfnedBwdIdeal.nD Cert.FfnedBwdIdeal.τ).loc Cert.FfnedBwdIdeal.main_arg7) = m ((c.tc : Thread Cert.FfnBwdIdeal.nD Cert.FfnBwdIdeal.τ).loc Cert.FfnBwdIdeal.main_arg7)) →
    ∃ (v0 : (c : Dev Cert.FfnBwdIdeal.nD) → Buf (Elt Ideal) ((c.tc : Thread Cert.FfnBwdIdeal.nD Cert.FfnBwdIdeal.τ).loc Cert.FfnBwdIdeal.main_v0)) (v1 : (c : Dev Cert.FfnBwdIdeal.nD) → Buf (Elt Ideal) ((c.tc : Thread Cert.FfnBwdIdeal.nD Cert.FfnBwdIdeal.τ).loc Cert.FfnBwdIdeal.main_v1)) (v2 : (c : Dev Cert.FfnBwdIdeal.nD) → Buf (Elt Ideal) ((c.tc : Thread Cert.FfnBwdIdeal.nD Cert.FfnBwdIdeal.τ).loc Cert.FfnBwdIdeal.main_v3_0)) (v3 : (c : Dev Cert.FfnBwdIdeal.nD) → Buf (Elt Ideal) ((c.tc : Thread Cert.FfnBwdIdeal.nD Cert.FfnBwdIdeal.τ).loc Cert.FfnBwdIdeal.main_v3_1)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v0) = v0 c
          ∧ r.2.mem ((c.tc : Thread Cert.FfnBwdIdeal.nD Cert.FfnBwdIdeal.τ).loc Cert.FfnBwdIdeal.main_v1) = v1 c
          ∧ r.2.mem ((c.tc : Thread Cert.FfnBwdIdeal.nD Cert.FfnBwdIdeal.τ).loc Cert.FfnBwdIdeal.main_v3_0) = v2 c
          ∧ r.2.mem ((c.tc : Thread Cert.FfnBwdIdeal.nD Cert.FfnBwdIdeal.τ).loc Cert.FfnBwdIdeal.main_v3_1) = v3 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
          ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6)
          ∧ r.2.mem ((c.tc : Thread Cert.FfnBwdIdeal.nD Cert.FfnBwdIdeal.τ).loc Cert.FfnBwdIdeal.main_arg7) = m ((c.tc : Thread Cert.FfnBwdIdeal.nD Cert.FfnBwdIdeal.τ).loc Cert.FfnBwdIdeal.main_arg7))
      ∧ θ_run (Cert.FfnedBwdIdeal.defs (F := Ideal)) (onTc (τ := Cert.FfnedBwdIdeal.τ) (Cert.FfnedBwdIdeal.main (F := Ideal))) ⟨m', fun _ => 0, g'⟩ (fun r => ∀ c : Dev Cert.FfnedBwdIdeal.nD,
          r.2.mem ((c.tc : Thread Cert.FfnedBwdIdeal.nD Cert.FfnedBwdIdeal.τ).loc Cert.FfnedBwdIdeal.main_v8) = v0 c
          ∧ r.2.mem ((c.tc : Thread Cert.FfnedBwdIdeal.nD Cert.FfnedBwdIdeal.τ).loc Cert.FfnedBwdIdeal.main_v11) = v1 c
          ∧ r.2.mem ((c.tc : Thread Cert.FfnedBwdIdeal.nD Cert.FfnedBwdIdeal.τ).loc Cert.FfnedBwdIdeal.main_v62) = v2 c
          ∧ r.2.mem ((c.tc : Thread Cert.FfnedBwdIdeal.nD Cert.FfnedBwdIdeal.τ).loc Cert.FfnedBwdIdeal.main_v64) = v3 c
          ∧ r.2.mem ((c.tc : Thread Cert.FfnedBwdIdeal.nD Cert.FfnedBwdIdeal.τ).loc Cert.FfnedBwdIdeal.main_arg0) = m' ((c.tc : Thread Cert.FfnedBwdIdeal.nD Cert.FfnedBwdIdeal.τ).loc Cert.FfnedBwdIdeal.main_arg0)
          ∧ r.2.mem ((c.tc : Thread Cert.FfnedBwdIdeal.nD Cert.FfnedBwdIdeal.τ).loc Cert.FfnedBwdIdeal.main_arg1) = m' ((c.tc : Thread Cert.FfnedBwdIdeal.nD Cert.FfnedBwdIdeal.τ).loc Cert.FfnedBwdIdeal.main_arg1)
          ∧ r.2.mem ((c.tc : Thread Cert.FfnedBwdIdeal.nD Cert.FfnedBwdIdeal.τ).loc Cert.FfnedBwdIdeal.main_arg2) = m' ((c.tc : Thread Cert.FfnedBwdIdeal.nD Cert.FfnedBwdIdeal.τ).loc Cert.FfnedBwdIdeal.main_arg2)
          ∧ r.2.mem ((c.tc : Thread Cert.FfnedBwdIdeal.nD Cert.FfnedBwdIdeal.τ).loc Cert.FfnedBwdIdeal.main_arg3) = m' ((c.tc : Thread Cert.FfnedBwdIdeal.nD Cert.FfnedBwdIdeal.τ).loc Cert.FfnedBwdIdeal.main_arg3)
          ∧ r.2.mem ((c.tc : Thread Cert.FfnedBwdIdeal.nD Cert.FfnedBwdIdeal.τ).loc Cert.FfnedBwdIdeal.main_arg4) = m' ((c.tc : Thread Cert.FfnedBwdIdeal.nD Cert.FfnedBwdIdeal.τ).loc Cert.FfnedBwdIdeal.main_arg4)
          ∧ r.2.mem ((c.tc : Thread Cert.FfnedBwdIdeal.nD Cert.FfnedBwdIdeal.τ).loc Cert.FfnedBwdIdeal.main_arg5) = m' ((c.tc : Thread Cert.FfnedBwdIdeal.nD Cert.FfnedBwdIdeal.τ).loc Cert.FfnedBwdIdeal.main_arg5)
          ∧ r.2.mem ((c.tc : Thread Cert.FfnedBwdIdeal.nD Cert.FfnedBwdIdeal.τ).loc Cert.FfnedBwdIdeal.main_arg6) = m' ((c.tc : Thread Cert.FfnedBwdIdeal.nD Cert.FfnedBwdIdeal.τ).loc Cert.FfnedBwdIdeal.main_arg6)
          ∧ r.2.mem ((c.tc : Thread Cert.FfnedBwdIdeal.nD Cert.FfnedBwdIdeal.τ).loc Cert.FfnedBwdIdeal.main_arg7) = m' ((c.tc : Thread Cert.FfnedBwdIdeal.nD Cert.FfnedBwdIdeal.τ).loc Cert.FfnedBwdIdeal.main_arg7))

def preserves_Mix_MixIdeal : Prop :=
  True

def algebraic_MixIdeal_MixedIdeal [hMixIdeal : Cert.MixIdeal.Facts] [hMixedIdeal : Cert.MixedIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixedIdeal.nD Cert.MixedIdeal.τ Cert.MixedIdeal.sig) → Buf (Elt Ideal) ℓ) (g' : Dev Cert.MixedIdeal.nD → PrngReg), Pre_MixIdeal m →
    (∀ c : Dev Cert.MixIdeal.nD,
      m' ((c.tc : Thread Cert.MixedIdeal.nD Cert.MixedIdeal.τ).loc Cert.MixedIdeal.main_arg0) = m ((c.tc : Thread Cert.MixIdeal.nD Cert.MixIdeal.τ).loc Cert.MixIdeal.main_arg0)
      ∧ m' ((c.tc : Thread Cert.MixedIdeal.nD Cert.MixedIdeal.τ).loc Cert.MixedIdeal.main_arg1) = m ((c.tc : Thread Cert.MixIdeal.nD Cert.MixIdeal.τ).loc Cert.MixIdeal.main_arg1)
      ∧ m' ((c.tc : Thread Cert.MixedIdeal.nD Cert.MixedIdeal.τ).loc Cert.MixedIdeal.main_arg2) = m ((c.tc : Thread Cert.MixIdeal.nD Cert.MixIdeal.τ).loc Cert.MixIdeal.main_arg2)
      ∧ m' ((c.tc : Thread Cert.MixedIdeal.nD Cert.MixedIdeal.τ).loc Cert.MixedIdeal.main_arg3) = m ((c.tc : Thread Cert.MixIdeal.nD Cert.MixIdeal.τ).loc Cert.MixIdeal.main_arg3)
      ∧ m' ((c.tc : Thread Cert.MixedIdeal.nD Cert.MixedIdeal.τ).loc Cert.MixedIdeal.main_arg4) = m ((c.tc : Thread Cert.MixIdeal.nD Cert.MixIdeal.τ).loc Cert.MixIdeal.main_arg4)
      ∧ m' ((c.tc : Thread Cert.MixedIdeal.nD Cert.MixedIdeal.τ).loc Cert.MixedIdeal.main_arg5) = m ((c.tc : Thread Cert.MixIdeal.nD Cert.MixIdeal.τ).loc Cert.MixIdeal.main_arg5)
      ∧ m' ((c.tc : Thread Cert.MixedIdeal.nD Cert.MixedIdeal.τ).loc Cert.MixedIdeal.main_arg6) = m ((c.tc : Thread Cert.MixIdeal.nD Cert.MixIdeal.τ).loc Cert.MixIdeal.main_arg6)
      ∧ m' ((c.tc : Thread Cert.MixedIdeal.nD Cert.MixedIdeal.τ).loc Cert.MixedIdeal.main_arg7) = m ((c.tc : Thread Cert.MixIdeal.nD Cert.MixIdeal.τ).loc Cert.MixIdeal.main_arg7)
      ∧ m' ((c.tc : Thread Cert.MixedIdeal.nD Cert.MixedIdeal.τ).loc Cert.MixedIdeal.main_arg8) = m ((c.tc : Thread Cert.MixIdeal.nD Cert.MixIdeal.τ).loc Cert.MixIdeal.main_arg8)
      ∧ m' ((c.tc : Thread Cert.MixedIdeal.nD Cert.MixedIdeal.τ).loc Cert.MixedIdeal.main_arg9) = m ((c.tc : Thread Cert.MixIdeal.nD Cert.MixIdeal.τ).loc Cert.MixIdeal.main_arg9)) →
    ∃ (v0 : (c : Dev Cert.MixIdeal.nD) → Buf (Elt Ideal) ((c.tc : Thread Cert.MixIdeal.nD Cert.MixIdeal.τ).loc Cert.MixIdeal.main_v4)) (v1 : (c : Dev Cert.MixIdeal.nD) → Buf (Elt Ideal) ((c.tc : Thread Cert.MixIdeal.nD Cert.MixIdeal.τ).loc Cert.MixIdeal.main_v5_1)) (v2 : (c : Dev Cert.MixIdeal.nD) → Buf (Elt Ideal) ((c.tc : Thread Cert.MixIdeal.nD Cert.MixIdeal.τ).loc Cert.MixIdeal.main_v6)) (v3 : (c : Dev Cert.MixIdeal.nD) → Buf (Elt Ideal) ((c.tc : Thread Cert.MixIdeal.nD Cert.MixIdeal.τ).loc Cert.MixIdeal.main_v8_2)) (v4 : (c : Dev Cert.MixIdeal.nD) → Buf (Elt Ideal) ((c.tc : Thread Cert.MixIdeal.nD Cert.MixIdeal.τ).loc Cert.MixIdeal.main_v9)) (v5 : (c : Dev Cert.MixIdeal.nD) → Buf (Elt Ideal) ((c.tc : Thread Cert.MixIdeal.nD Cert.MixIdeal.τ).loc Cert.MixIdeal.main_v10)) (v6 : (c : Dev Cert.MixIdeal.nD) → Buf (Elt Ideal) ((c.tc : Thread Cert.MixIdeal.nD Cert.MixIdeal.τ).loc Cert.MixIdeal.main_v11)) (v7 : (c : Dev Cert.MixIdeal.nD) → Buf (Elt Ideal) ((c.tc : Thread Cert.MixIdeal.nD Cert.MixIdeal.τ).loc Cert.MixIdeal.main_v12)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v4) = v0 c
          ∧ r.2.mem ((c.tc : Thread Cert.MixIdeal.nD Cert.MixIdeal.τ).loc Cert.MixIdeal.main_v5_1) = v1 c
          ∧ r.2.mem ((c.tc : Thread Cert.MixIdeal.nD Cert.MixIdeal.τ).loc Cert.MixIdeal.main_v6) = v2 c
          ∧ r.2.mem ((c.tc : Thread Cert.MixIdeal.nD Cert.MixIdeal.τ).loc Cert.MixIdeal.main_v8_2) = v3 c
          ∧ r.2.mem ((c.tc : Thread Cert.MixIdeal.nD Cert.MixIdeal.τ).loc Cert.MixIdeal.main_v9) = v4 c
          ∧ r.2.mem ((c.tc : Thread Cert.MixIdeal.nD Cert.MixIdeal.τ).loc Cert.MixIdeal.main_v10) = v5 c
          ∧ r.2.mem ((c.tc : Thread Cert.MixIdeal.nD Cert.MixIdeal.τ).loc Cert.MixIdeal.main_v11) = v6 c
          ∧ r.2.mem ((c.tc : Thread Cert.MixIdeal.nD Cert.MixIdeal.τ).loc Cert.MixIdeal.main_v12) = v7 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ θ_run (Cert.MixedIdeal.defs (F := Ideal)) (onTc (τ := Cert.MixedIdeal.τ) (Cert.MixedIdeal.main (F := Ideal))) ⟨m', fun _ => 0, g'⟩ (fun r => ∀ c : Dev Cert.MixedIdeal.nD,
          r.2.mem ((c.tc : Thread Cert.MixedIdeal.nD Cert.MixedIdeal.τ).loc Cert.MixedIdeal.main_v47) = v0 c
          ∧ r.2.mem ((c.tc : Thread Cert.MixedIdeal.nD Cert.MixedIdeal.τ).loc Cert.MixedIdeal.main_v79) = v1 c
          ∧ r.2.mem ((c.tc : Thread Cert.MixedIdeal.nD Cert.MixedIdeal.τ).loc Cert.MixedIdeal.main_v91) = v2 c
          ∧ r.2.mem ((c.tc : Thread Cert.MixedIdeal.nD Cert.MixedIdeal.τ).loc Cert.MixedIdeal.main_v92) = v3 c
          ∧ r.2.mem ((c.tc : Thread Cert.MixedIdeal.nD Cert.MixedIdeal.τ).loc Cert.MixedIdeal.main_v93) = v4 c
          ∧ r.2.mem ((c.tc : Thread Cert.MixedIdeal.nD Cert.MixedIdeal.τ).loc Cert.MixedIdeal.main_v94) = v5 c
          ∧ r.2.mem ((c.tc : Thread Cert.MixedIdeal.nD Cert.MixedIdeal.τ).loc Cert.MixedIdeal.main_v95) = v6 c
          ∧ r.2.mem ((c.tc : Thread Cert.MixedIdeal.nD Cert.MixedIdeal.τ).loc Cert.MixedIdeal.main_v96) = v7 c
          ∧ r.2.mem ((c.tc : Thread Cert.MixedIdeal.nD Cert.MixedIdeal.τ).loc Cert.MixedIdeal.main_arg0) = m' ((c.tc : Thread Cert.MixedIdeal.nD Cert.MixedIdeal.τ).loc Cert.MixedIdeal.main_arg0)
          ∧ r.2.mem ((c.tc : Thread Cert.MixedIdeal.nD Cert.MixedIdeal.τ).loc Cert.MixedIdeal.main_arg1) = m' ((c.tc : Thread Cert.MixedIdeal.nD Cert.MixedIdeal.τ).loc Cert.MixedIdeal.main_arg1)
          ∧ r.2.mem ((c.tc : Thread Cert.MixedIdeal.nD Cert.MixedIdeal.τ).loc Cert.MixedIdeal.main_arg2) = m' ((c.tc : Thread Cert.MixedIdeal.nD Cert.MixedIdeal.τ).loc Cert.MixedIdeal.main_arg2)
          ∧ r.2.mem ((c.tc : Thread Cert.MixedIdeal.nD Cert.MixedIdeal.τ).loc Cert.MixedIdeal.main_arg3) = m' ((c.tc : Thread Cert.MixedIdeal.nD Cert.MixedIdeal.τ).loc Cert.MixedIdeal.main_arg3)
          ∧ r.2.mem ((c.tc : Thread Cert.MixedIdeal.nD Cert.MixedIdeal.τ).loc Cert.MixedIdeal.main_arg4) = m' ((c.tc : Thread Cert.MixedIdeal.nD Cert.MixedIdeal.τ).loc Cert.MixedIdeal.main_arg4)
          ∧ r.2.mem ((c.tc : Thread Cert.MixedIdeal.nD Cert.MixedIdeal.τ).loc Cert.MixedIdeal.main_arg5) = m' ((c.tc : Thread Cert.MixedIdeal.nD Cert.MixedIdeal.τ).loc Cert.MixedIdeal.main_arg5)
          ∧ r.2.mem ((c.tc : Thread Cert.MixedIdeal.nD Cert.MixedIdeal.τ).loc Cert.MixedIdeal.main_arg6) = m' ((c.tc : Thread Cert.MixedIdeal.nD Cert.MixedIdeal.τ).loc Cert.MixedIdeal.main_arg6)
          ∧ r.2.mem ((c.tc : Thread Cert.MixedIdeal.nD Cert.MixedIdeal.τ).loc Cert.MixedIdeal.main_arg7) = m' ((c.tc : Thread Cert.MixedIdeal.nD Cert.MixedIdeal.τ).loc Cert.MixedIdeal.main_arg7)
          ∧ r.2.mem ((c.tc : Thread Cert.MixedIdeal.nD Cert.MixedIdeal.τ).loc Cert.MixedIdeal.main_arg8) = m' ((c.tc : Thread Cert.MixedIdeal.nD Cert.MixedIdeal.τ).loc Cert.MixedIdeal.main_arg8)
          ∧ r.2.mem ((c.tc : Thread Cert.MixedIdeal.nD Cert.MixedIdeal.τ).loc Cert.MixedIdeal.main_arg9) = m' ((c.tc : Thread Cert.MixedIdeal.nD Cert.MixedIdeal.τ).loc Cert.MixedIdeal.main_arg9))

def preserves_Proj_ProjIdeal : Prop :=
  True

def algebraic_ProjIdeal_ProjectedIdeal [hProjIdeal : Cert.ProjIdeal.Facts] [hProjectedIdeal : Cert.ProjectedIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjectedIdeal.nD Cert.ProjectedIdeal.τ Cert.ProjectedIdeal.sig) → Buf (Elt Ideal) ℓ) (g' : Dev Cert.ProjectedIdeal.nD → PrngReg), Pre_ProjIdeal m →
    (∀ c : Dev Cert.ProjIdeal.nD,
      m' ((c.tc : Thread Cert.ProjectedIdeal.nD Cert.ProjectedIdeal.τ).loc Cert.ProjectedIdeal.main_arg0) = m ((c.tc : Thread Cert.ProjIdeal.nD Cert.ProjIdeal.τ).loc Cert.ProjIdeal.main_arg0)
      ∧ m' ((c.tc : Thread Cert.ProjectedIdeal.nD Cert.ProjectedIdeal.τ).loc Cert.ProjectedIdeal.main_arg1) = m ((c.tc : Thread Cert.ProjIdeal.nD Cert.ProjIdeal.τ).loc Cert.ProjIdeal.main_arg1)
      ∧ m' ((c.tc : Thread Cert.ProjectedIdeal.nD Cert.ProjectedIdeal.τ).loc Cert.ProjectedIdeal.main_arg2) = m ((c.tc : Thread Cert.ProjIdeal.nD Cert.ProjIdeal.τ).loc Cert.ProjIdeal.main_arg2)
      ∧ m' ((c.tc : Thread Cert.ProjectedIdeal.nD Cert.ProjectedIdeal.τ).loc Cert.ProjectedIdeal.main_arg3) = m ((c.tc : Thread Cert.ProjIdeal.nD Cert.ProjIdeal.τ).loc Cert.ProjIdeal.main_arg3)
      ∧ m' ((c.tc : Thread Cert.ProjectedIdeal.nD Cert.ProjectedIdeal.τ).loc Cert.ProjectedIdeal.main_arg4) = m ((c.tc : Thread Cert.ProjIdeal.nD Cert.ProjIdeal.τ).loc Cert.ProjIdeal.main_arg4)
      ∧ m' ((c.tc : Thread Cert.ProjectedIdeal.nD Cert.ProjectedIdeal.τ).loc Cert.ProjectedIdeal.main_arg5) = m ((c.tc : Thread Cert.ProjIdeal.nD Cert.ProjIdeal.τ).loc Cert.ProjIdeal.main_arg5)
      ∧ m' ((c.tc : Thread Cert.ProjectedIdeal.nD Cert.ProjectedIdeal.τ).loc Cert.ProjectedIdeal.main_arg6) = m ((c.tc : Thread Cert.ProjIdeal.nD Cert.ProjIdeal.τ).loc Cert.ProjIdeal.main_arg6)
      ∧ m' ((c.tc : Thread Cert.ProjectedIdeal.nD Cert.ProjectedIdeal.τ).loc Cert.ProjectedIdeal.main_arg7) = m ((c.tc : Thread Cert.ProjIdeal.nD Cert.ProjIdeal.τ).loc Cert.ProjIdeal.main_arg7)
      ∧ m' ((c.tc : Thread Cert.ProjectedIdeal.nD Cert.ProjectedIdeal.τ).loc Cert.ProjectedIdeal.main_arg8) = m ((c.tc : Thread Cert.ProjIdeal.nD Cert.ProjIdeal.τ).loc Cert.ProjIdeal.main_arg8)
      ∧ m' ((c.tc : Thread Cert.ProjectedIdeal.nD Cert.ProjectedIdeal.τ).loc Cert.ProjectedIdeal.main_arg9) = m ((c.tc : Thread Cert.ProjIdeal.nD Cert.ProjIdeal.τ).loc Cert.ProjIdeal.main_arg9)) →
    ∃ (v0 : (c : Dev Cert.ProjIdeal.nD) → Buf (Elt Ideal) ((c.tc : Thread Cert.ProjIdeal.nD Cert.ProjIdeal.τ).loc Cert.ProjIdeal.main_v1)) (v1 : (c : Dev Cert.ProjIdeal.nD) → Buf (Elt Ideal) ((c.tc : Thread Cert.ProjIdeal.nD Cert.ProjIdeal.τ).loc Cert.ProjIdeal.main_v2)) (v2 : (c : Dev Cert.ProjIdeal.nD) → Buf (Elt Ideal) ((c.tc : Thread Cert.ProjIdeal.nD Cert.ProjIdeal.τ).loc Cert.ProjIdeal.main_v3)) (v3 : (c : Dev Cert.ProjIdeal.nD) → Buf (Elt Ideal) ((c.tc : Thread Cert.ProjIdeal.nD Cert.ProjIdeal.τ).loc Cert.ProjIdeal.main_v4)) (v4 : (c : Dev Cert.ProjIdeal.nD) → Buf (Elt Ideal) ((c.tc : Thread Cert.ProjIdeal.nD Cert.ProjIdeal.τ).loc Cert.ProjIdeal.main_v6_0)) (v5 : (c : Dev Cert.ProjIdeal.nD) → Buf (Elt Ideal) ((c.tc : Thread Cert.ProjIdeal.nD Cert.ProjIdeal.τ).loc Cert.ProjIdeal.main_v6_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1) = v0 c
          ∧ r.2.mem ((c.tc : Thread Cert.ProjIdeal.nD Cert.ProjIdeal.τ).loc Cert.ProjIdeal.main_v2) = v1 c
          ∧ r.2.mem ((c.tc : Thread Cert.ProjIdeal.nD Cert.ProjIdeal.τ).loc Cert.ProjIdeal.main_v3) = v2 c
          ∧ r.2.mem ((c.tc : Thread Cert.ProjIdeal.nD Cert.ProjIdeal.τ).loc Cert.ProjIdeal.main_v4) = v3 c
          ∧ r.2.mem ((c.tc : Thread Cert.ProjIdeal.nD Cert.ProjIdeal.τ).loc Cert.ProjIdeal.main_v6_0) = v4 c
          ∧ r.2.mem ((c.tc : Thread Cert.ProjIdeal.nD Cert.ProjIdeal.τ).loc Cert.ProjIdeal.main_v6_1) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9))
      ∧ θ_run (Cert.ProjectedIdeal.defs (F := Ideal)) (onTc (τ := Cert.ProjectedIdeal.τ) (Cert.ProjectedIdeal.main (F := Ideal))) ⟨m', fun _ => 0, g'⟩ (fun r => ∀ c : Dev Cert.ProjectedIdeal.nD,
          r.2.mem ((c.tc : Thread Cert.ProjectedIdeal.nD Cert.ProjectedIdeal.τ).loc Cert.ProjectedIdeal.main_v19) = v0 c
          ∧ r.2.mem ((c.tc : Thread Cert.ProjectedIdeal.nD Cert.ProjectedIdeal.τ).loc Cert.ProjectedIdeal.main_v20) = v1 c
          ∧ r.2.mem ((c.tc : Thread Cert.ProjectedIdeal.nD Cert.ProjectedIdeal.τ).loc Cert.ProjectedIdeal.main_v21) = v2 c
          ∧ r.2.mem ((c.tc : Thread Cert.ProjectedIdeal.nD Cert.ProjectedIdeal.τ).loc Cert.ProjectedIdeal.main_v24) = v3 c
          ∧ r.2.mem ((c.tc : Thread Cert.ProjectedIdeal.nD Cert.ProjectedIdeal.τ).loc Cert.ProjectedIdeal.main_v75) = v4 c
          ∧ r.2.mem ((c.tc : Thread Cert.ProjectedIdeal.nD Cert.ProjectedIdeal.τ).loc Cert.ProjectedIdeal.main_v77) = v5 c
          ∧ r.2.mem ((c.tc : Thread Cert.ProjectedIdeal.nD Cert.ProjectedIdeal.τ).loc Cert.ProjectedIdeal.main_arg0) = m' ((c.tc : Thread Cert.ProjectedIdeal.nD Cert.ProjectedIdeal.τ).loc Cert.ProjectedIdeal.main_arg0)
          ∧ r.2.mem ((c.tc : Thread Cert.ProjectedIdeal.nD Cert.ProjectedIdeal.τ).loc Cert.ProjectedIdeal.main_arg1) = m' ((c.tc : Thread Cert.ProjectedIdeal.nD Cert.ProjectedIdeal.τ).loc Cert.ProjectedIdeal.main_arg1)
          ∧ r.2.mem ((c.tc : Thread Cert.ProjectedIdeal.nD Cert.ProjectedIdeal.τ).loc Cert.ProjectedIdeal.main_arg2) = m' ((c.tc : Thread Cert.ProjectedIdeal.nD Cert.ProjectedIdeal.τ).loc Cert.ProjectedIdeal.main_arg2)
          ∧ r.2.mem ((c.tc : Thread Cert.ProjectedIdeal.nD Cert.ProjectedIdeal.τ).loc Cert.ProjectedIdeal.main_arg3) = m' ((c.tc : Thread Cert.ProjectedIdeal.nD Cert.ProjectedIdeal.τ).loc Cert.ProjectedIdeal.main_arg3)
          ∧ r.2.mem ((c.tc : Thread Cert.ProjectedIdeal.nD Cert.ProjectedIdeal.τ).loc Cert.ProjectedIdeal.main_arg4) = m' ((c.tc : Thread Cert.ProjectedIdeal.nD Cert.ProjectedIdeal.τ).loc Cert.ProjectedIdeal.main_arg4)
          ∧ r.2.mem ((c.tc : Thread Cert.ProjectedIdeal.nD Cert.ProjectedIdeal.τ).loc Cert.ProjectedIdeal.main_arg5) = m' ((c.tc : Thread Cert.ProjectedIdeal.nD Cert.ProjectedIdeal.τ).loc Cert.ProjectedIdeal.main_arg5)
          ∧ r.2.mem ((c.tc : Thread Cert.ProjectedIdeal.nD Cert.ProjectedIdeal.τ).loc Cert.ProjectedIdeal.main_arg6) = m' ((c.tc : Thread Cert.ProjectedIdeal.nD Cert.ProjectedIdeal.τ).loc Cert.ProjectedIdeal.main_arg6)
          ∧ r.2.mem ((c.tc : Thread Cert.ProjectedIdeal.nD Cert.ProjectedIdeal.τ).loc Cert.ProjectedIdeal.main_arg7) = m' ((c.tc : Thread Cert.ProjectedIdeal.nD Cert.ProjectedIdeal.τ).loc Cert.ProjectedIdeal.main_arg7)
          ∧ r.2.mem ((c.tc : Thread Cert.ProjectedIdeal.nD Cert.ProjectedIdeal.τ).loc Cert.ProjectedIdeal.main_arg8) = m' ((c.tc : Thread Cert.ProjectedIdeal.nD Cert.ProjectedIdeal.τ).loc Cert.ProjectedIdeal.main_arg8)
          ∧ r.2.mem ((c.tc : Thread Cert.ProjectedIdeal.nD Cert.ProjectedIdeal.τ).loc Cert.ProjectedIdeal.main_arg9) = m' ((c.tc : Thread Cert.ProjectedIdeal.nD Cert.ProjectedIdeal.τ).loc Cert.ProjectedIdeal.main_arg9))

def Claim : Prop :=
  ∃ (hKernel : Cert.Kernel.Facts) (hKernelIdeal : Cert.KernelIdeal.Facts) (hReferenceIdeal : Cert.ReferenceIdeal.Facts) (hReference : Cert.Reference.Facts) (hGather : Cert.Gather.Facts) (hGatherIdeal : Cert.GatherIdeal.Facts) (hGatherReferenceIdeal : Cert.GatherReferenceIdeal.Facts) (hGatherReference : Cert.GatherReference.Facts) (hUpdateAda : Cert.UpdateAda.Facts) (hUpdateAdaIdeal : Cert.UpdateAdaIdeal.Facts) (hUpdatedAdaIdeal : Cert.UpdatedAdaIdeal.Facts) (hUpdateSmall : Cert.UpdateSmall.Facts) (hUpdateSmallIdeal : Cert.UpdateSmallIdeal.Facts) (hUpdatedSmallIdeal : Cert.UpdatedSmallIdeal.Facts) (hUpdateIn : Cert.UpdateIn.Facts) (hUpdateInIdeal : Cert.UpdateInIdeal.Facts) (hUpdatedInIdeal : Cert.UpdatedInIdeal.Facts) (hUpdateBranch : Cert.UpdateBranch.Facts) (hUpdateBranchIdeal : Cert.UpdateBranchIdeal.Facts) (hUpdatedBranchIdeal : Cert.UpdatedBranchIdeal.Facts) (hUpdateOut : Cert.UpdateOut.Facts) (hUpdateOutIdeal : Cert.UpdateOutIdeal.Facts) (hUpdatedOutIdeal : Cert.UpdatedOutIdeal.Facts) (hUpdateFfnIn : Cert.UpdateFfnIn.Facts) (hUpdateFfnInIdeal : Cert.UpdateFfnInIdeal.Facts) (hUpdatedFfnInIdeal : Cert.UpdatedFfnInIdeal.Facts) (hUpdateFfnOut : Cert.UpdateFfnOut.Facts) (hUpdateFfnOutIdeal : Cert.UpdateFfnOutIdeal.Facts) (hUpdatedFfnOutIdeal : Cert.UpdatedFfnOutIdeal.Facts) (hPrenorm : Cert.Prenorm.Facts) (hPrenormIdeal : Cert.PrenormIdeal.Facts) (hPrenormedIdeal : Cert.PrenormedIdeal.Facts) (hPrenormFwd : Cert.PrenormFwd.Facts) (hPrenormFwdIdeal : Cert.PrenormFwdIdeal.Facts) (hPrenormedFwdIdeal : Cert.PrenormedFwdIdeal.Facts) (hPostnorm : Cert.Postnorm.Facts) (hPostnormIdeal : Cert.PostnormIdeal.Facts) (hPostnormedIdeal : Cert.PostnormedIdeal.Facts) (hPostnormBwd : Cert.PostnormBwd.Facts) (hPostnormBwdIdeal : Cert.PostnormBwdIdeal.Facts) (hPostnormedBwdIdeal : Cert.PostnormedBwdIdeal.Facts) (hLoss : Cert.Loss.Facts) (hLossIdeal : Cert.LossIdeal.Facts) (hLostIdeal : Cert.LostIdeal.Facts) (hFfn : Cert.Ffn.Facts) (hFfnIdeal : Cert.FfnIdeal.Facts) (hFfnedIdeal : Cert.FfnedIdeal.Facts) (hFfnBwd : Cert.FfnBwd.Facts) (hFfnBwdIdeal : Cert.FfnBwdIdeal.Facts) (hFfnedBwdIdeal : Cert.FfnedBwdIdeal.Facts) (hMix : Cert.Mix.Facts) (hMixIdeal : Cert.MixIdeal.Facts) (hMixedIdeal : Cert.MixedIdeal.Facts) (hProj : Cert.Proj.Facts) (hProjIdeal : Cert.ProjIdeal.Facts) (hProjectedIdeal : Cert.ProjectedIdeal.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_Gather (hGather := hGather)
    ∧ quiescent_GatherIdeal (hGatherIdeal := hGatherIdeal)
    ∧ quiescent_GatherReferenceIdeal (hGatherReferenceIdeal := hGatherReferenceIdeal)
    ∧ quiescent_GatherReference (hGatherReference := hGatherReference)
    ∧ quiescent_UpdateAda (hUpdateAda := hUpdateAda)
    ∧ quiescent_UpdateAdaIdeal (hUpdateAdaIdeal := hUpdateAdaIdeal)
    ∧ quiescent_UpdatedAdaIdeal (hUpdatedAdaIdeal := hUpdatedAdaIdeal)
    ∧ quiescent_UpdateSmall (hUpdateSmall := hUpdateSmall)
    ∧ quiescent_UpdateSmallIdeal (hUpdateSmallIdeal := hUpdateSmallIdeal)
    ∧ quiescent_UpdatedSmallIdeal (hUpdatedSmallIdeal := hUpdatedSmallIdeal)
    ∧ quiescent_UpdateIn (hUpdateIn := hUpdateIn)
    ∧ quiescent_UpdateInIdeal (hUpdateInIdeal := hUpdateInIdeal)
    ∧ quiescent_UpdatedInIdeal (hUpdatedInIdeal := hUpdatedInIdeal)
    ∧ quiescent_UpdateBranch (hUpdateBranch := hUpdateBranch)
    ∧ quiescent_UpdateBranchIdeal (hUpdateBranchIdeal := hUpdateBranchIdeal)
    ∧ quiescent_UpdatedBranchIdeal (hUpdatedBranchIdeal := hUpdatedBranchIdeal)
    ∧ quiescent_UpdateOut (hUpdateOut := hUpdateOut)
    ∧ quiescent_UpdateOutIdeal (hUpdateOutIdeal := hUpdateOutIdeal)
    ∧ quiescent_UpdatedOutIdeal (hUpdatedOutIdeal := hUpdatedOutIdeal)
    ∧ quiescent_UpdateFfnIn (hUpdateFfnIn := hUpdateFfnIn)
    ∧ quiescent_UpdateFfnInIdeal (hUpdateFfnInIdeal := hUpdateFfnInIdeal)
    ∧ quiescent_UpdatedFfnInIdeal (hUpdatedFfnInIdeal := hUpdatedFfnInIdeal)
    ∧ quiescent_UpdateFfnOut (hUpdateFfnOut := hUpdateFfnOut)
    ∧ quiescent_UpdateFfnOutIdeal (hUpdateFfnOutIdeal := hUpdateFfnOutIdeal)
    ∧ quiescent_UpdatedFfnOutIdeal (hUpdatedFfnOutIdeal := hUpdatedFfnOutIdeal)
    ∧ quiescent_Prenorm (hPrenorm := hPrenorm)
    ∧ quiescent_PrenormIdeal (hPrenormIdeal := hPrenormIdeal)
    ∧ quiescent_PrenormedIdeal (hPrenormedIdeal := hPrenormedIdeal)
    ∧ quiescent_PrenormFwd (hPrenormFwd := hPrenormFwd)
    ∧ quiescent_PrenormFwdIdeal (hPrenormFwdIdeal := hPrenormFwdIdeal)
    ∧ quiescent_PrenormedFwdIdeal (hPrenormedFwdIdeal := hPrenormedFwdIdeal)
    ∧ quiescent_Postnorm (hPostnorm := hPostnorm)
    ∧ quiescent_PostnormIdeal (hPostnormIdeal := hPostnormIdeal)
    ∧ quiescent_PostnormedIdeal (hPostnormedIdeal := hPostnormedIdeal)
    ∧ quiescent_PostnormBwd (hPostnormBwd := hPostnormBwd)
    ∧ quiescent_PostnormBwdIdeal (hPostnormBwdIdeal := hPostnormBwdIdeal)
    ∧ quiescent_PostnormedBwdIdeal (hPostnormedBwdIdeal := hPostnormedBwdIdeal)
    ∧ quiescent_Loss (hLoss := hLoss)
    ∧ quiescent_LossIdeal (hLossIdeal := hLossIdeal)
    ∧ quiescent_LostIdeal (hLostIdeal := hLostIdeal)
    ∧ quiescent_Ffn (hFfn := hFfn)
    ∧ quiescent_FfnIdeal (hFfnIdeal := hFfnIdeal)
    ∧ quiescent_FfnedIdeal (hFfnedIdeal := hFfnedIdeal)
    ∧ quiescent_FfnBwd (hFfnBwd := hFfnBwd)
    ∧ quiescent_FfnBwdIdeal (hFfnBwdIdeal := hFfnBwdIdeal)
    ∧ quiescent_FfnedBwdIdeal (hFfnedBwdIdeal := hFfnedBwdIdeal)
    ∧ quiescent_Mix (hMix := hMix)
    ∧ quiescent_MixIdeal (hMixIdeal := hMixIdeal)
    ∧ quiescent_MixedIdeal (hMixedIdeal := hMixedIdeal)
    ∧ quiescent_Proj (hProj := hProj)
    ∧ quiescent_ProjIdeal (hProjIdeal := hProjIdeal)
    ∧ quiescent_ProjectedIdeal (hProjectedIdeal := hProjectedIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_Gather_GatherIdeal
    ∧ algebraic_GatherIdeal_GatherReferenceIdeal (hGatherIdeal := hGatherIdeal) (hGatherReferenceIdeal := hGatherReferenceIdeal)
    ∧ bitexact_Gather_GatherReference (hGather := hGather) (hGatherReference := hGatherReference)
    ∧ preserves_UpdateAda_UpdateAdaIdeal
    ∧ algebraic_UpdateAdaIdeal_UpdatedAdaIdeal (hUpdateAdaIdeal := hUpdateAdaIdeal) (hUpdatedAdaIdeal := hUpdatedAdaIdeal)
    ∧ preserves_UpdateSmall_UpdateSmallIdeal
    ∧ algebraic_UpdateSmallIdeal_UpdatedSmallIdeal (hUpdateSmallIdeal := hUpdateSmallIdeal) (hUpdatedSmallIdeal := hUpdatedSmallIdeal)
    ∧ preserves_UpdateIn_UpdateInIdeal
    ∧ algebraic_UpdateInIdeal_UpdatedInIdeal (hUpdateInIdeal := hUpdateInIdeal) (hUpdatedInIdeal := hUpdatedInIdeal)
    ∧ preserves_UpdateBranch_UpdateBranchIdeal
    ∧ algebraic_UpdateBranchIdeal_UpdatedBranchIdeal (hUpdateBranchIdeal := hUpdateBranchIdeal) (hUpdatedBranchIdeal := hUpdatedBranchIdeal)
    ∧ preserves_UpdateOut_UpdateOutIdeal
    ∧ algebraic_UpdateOutIdeal_UpdatedOutIdeal (hUpdateOutIdeal := hUpdateOutIdeal) (hUpdatedOutIdeal := hUpdatedOutIdeal)
    ∧ preserves_UpdateFfnIn_UpdateFfnInIdeal
    ∧ algebraic_UpdateFfnInIdeal_UpdatedFfnInIdeal (hUpdateFfnInIdeal := hUpdateFfnInIdeal) (hUpdatedFfnInIdeal := hUpdatedFfnInIdeal)
    ∧ preserves_UpdateFfnOut_UpdateFfnOutIdeal
    ∧ algebraic_UpdateFfnOutIdeal_UpdatedFfnOutIdeal (hUpdateFfnOutIdeal := hUpdateFfnOutIdeal) (hUpdatedFfnOutIdeal := hUpdatedFfnOutIdeal)
    ∧ preserves_Prenorm_PrenormIdeal
    ∧ algebraic_PrenormIdeal_PrenormedIdeal (hPrenormIdeal := hPrenormIdeal) (hPrenormedIdeal := hPrenormedIdeal)
    ∧ preserves_PrenormFwd_PrenormFwdIdeal
    ∧ algebraic_PrenormFwdIdeal_PrenormedFwdIdeal (hPrenormFwdIdeal := hPrenormFwdIdeal) (hPrenormedFwdIdeal := hPrenormedFwdIdeal)
    ∧ preserves_Postnorm_PostnormIdeal
    ∧ algebraic_PostnormIdeal_PostnormedIdeal (hPostnormIdeal := hPostnormIdeal) (hPostnormedIdeal := hPostnormedIdeal)
    ∧ preserves_PostnormBwd_PostnormBwdIdeal
    ∧ algebraic_PostnormBwdIdeal_PostnormedBwdIdeal (hPostnormBwdIdeal := hPostnormBwdIdeal) (hPostnormedBwdIdeal := hPostnormedBwdIdeal)
    ∧ preserves_Loss_LossIdeal
    ∧ algebraic_LossIdeal_LostIdeal (hLossIdeal := hLossIdeal) (hLostIdeal := hLostIdeal)
    ∧ preserves_Ffn_FfnIdeal
    ∧ algebraic_FfnIdeal_FfnedIdeal (hFfnIdeal := hFfnIdeal) (hFfnedIdeal := hFfnedIdeal)
    ∧ preserves_FfnBwd_FfnBwdIdeal
    ∧ algebraic_FfnBwdIdeal_FfnedBwdIdeal (hFfnBwdIdeal := hFfnBwdIdeal) (hFfnedBwdIdeal := hFfnedBwdIdeal)
    ∧ preserves_Mix_MixIdeal
    ∧ algebraic_MixIdeal_MixedIdeal (hMixIdeal := hMixIdeal) (hMixedIdeal := hMixedIdeal)
    ∧ preserves_Proj_ProjIdeal
    ∧ algebraic_ProjIdeal_ProjectedIdeal (hProjIdeal := hProjIdeal) (hProjectedIdeal := hProjectedIdeal)
-- ==== Kernel.lean ====
abbrev S8x1024x545 : Shape := ⟨3, ![8, 1024, 545]⟩
abbrev S8x512x128 : Shape := ⟨3, ![8, 512, 128]⟩
abbrev S8x128x1024 : Shape := ⟨3, ![8, 128, 1024]⟩
abbrev S8x1024x704 : Shape := ⟨3, ![8, 1024, 704]⟩
abbrev S8x352x1024 : Shape := ⟨3, ![8, 352, 1024]⟩
abbrev S6x7 : Shape := ⟨2, ![6, 7]⟩
abbrev S6 : Shape := ⟨1, ![6]⟩
abbrev S1 : Shape := ⟨1, ![1]⟩
abbrev S_ : Shape := ⟨0, ![]⟩
abbrev S1x1024x545 : Shape := ⟨3, ![1, 1024, 545]⟩
abbrev S1024x545 : Shape := ⟨2, ![1024, 545]⟩
abbrev S1x512x128 : Shape := ⟨3, ![1, 512, 128]⟩
abbrev S512x128 : Shape := ⟨2, ![512, 128]⟩
abbrev S1x128x1024 : Shape := ⟨3, ![1, 128, 1024]⟩
abbrev S128x1024 : Shape := ⟨2, ![128, 1024]⟩
abbrev S1x1024x704 : Shape := ⟨3, ![1, 1024, 704]⟩
abbrev S1024x704 : Shape := ⟨2, ![1024, 704]⟩
abbrev S1x352x1024 : Shape := ⟨3, ![1, 352, 1024]⟩
abbrev S352x1024 : Shape := ⟨2, ![352, 1024]⟩
abbrev S1x1 : Shape := ⟨2, ![1, 1]⟩

abbrev nBuf : Space → Nat
  | .hbm => 12
  | .vmem => 0
  | .smem => 0
  | _ => 0

abbrev bufTy : (tb : Table) → Fin (tcTables nBuf tb) → BufTy
  | .hbm, ⟨0, _⟩ => ⟨S8x1024x545, .bf16⟩
  | .hbm, ⟨1, _⟩ => ⟨S8x512x128, .bf16⟩
  | .hbm, ⟨2, _⟩ => ⟨S8x512x128, .bf16⟩
  | .hbm, ⟨3, _⟩ => ⟨S8x128x1024, .bf16⟩
  | .hbm, ⟨4, _⟩ => ⟨S8x1024x704, .bf16⟩
  | .hbm, ⟨5, _⟩ => ⟨S8x352x1024, .bf16⟩
  | .hbm, ⟨6, _⟩ => ⟨S8x1024x545, .bf16⟩
  | .hbm, ⟨7, _⟩ => ⟨S8x512x128, .bf16⟩
  | .hbm, ⟨8, _⟩ => ⟨S8x512x128, .bf16⟩
  | .hbm, ⟨9, _⟩ => ⟨S8x128x1024, .bf16⟩
  | .hbm, ⟨10, _⟩ => ⟨S8x1024x704, .bf16⟩
  | .hbm, ⟨11, _⟩ => ⟨S8x352x1024, .bf16⟩
  | _, _ => ⟨S8x1024x545, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_110 : BitVec 32 := 0#32
  let c0_i32_111 : BitVec 32 := 0#32
  ![v12.toNat, 0, 0]
def k0_off2 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_115 : BitVec 32 := 0#32
  let c0_i32_116 : BitVec 32 := 0#32
  ![v12.toNat, 0, 0]
def k0_off3 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_124 : BitVec 32 := 0#32
  let c0_i32_125 : BitVec 32 := 0#32
  ![v12.toNat, 0, 0]
def k0_off4 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_129 : BitVec 32 := 0#32
  let c0_i32_130 : BitVec 32 := 0#32
  ![v12.toNat, 0, 0]
def k0_off5 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_133 : BitVec 32 := 0#32
  let c0_i32_134 : BitVec 32 := 0#32
  ![v12.toNat, 0, 0]
def k0_off6 (d0 : Dev nD) (c0_i32 : BitVec 32) (c0_i32_5 : BitVec 32) (c1_i32_6 : BitVec 32) : Fin 3 → Nat :=
  let c4_i32_25 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.xori v2 c0_i32
  let v34 : BitVec 32 := Scalar.muli c4_i32_25 v13
  let c2_i32_26 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.xori v5 c0_i32_5
  let v35 : BitVec 32 := Scalar.muli c2_i32_26 v14
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.xori v8 c1_i32_6
  let v37 : BitVec 32 := Scalar.addi v36 v15
  let c0_i32_147 : BitVec 32 := 0#32
  let c0_i32_148 : BitVec 32 := 0#32
  ![v37.toNat, 0, 0]
def k0_off6_at (r : Fin 7) : BitVec 32 × BitVec 32 × BitVec 32 :=
  if r.val < 3 then
    if r.val < 1 then
      (0#32, 0#32, 1#32)
    else
      if r.val < 2 then
        (1#32, 0#32, 0#32)
      else
        (0#32, 1#32, 0#32)
  else
    if r.val < 5 then
      if r.val < 4 then
        (1#32, 1#32, 0#32)
      else
        (1#32, 0#32, 1#32)
    else
      if r.val < 6 then
        (0#32, 1#32, 1#32)
      else
        (1#32, 1#32, 1#32)
def k0_dev1 (d0 : Dev nD) : Nat :=
  let c0_i32_142 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.xori v2 c0_i32
  let c4_i32_141 : BitVec 32 := 4#32
  let v238 : BitVec 32 := Scalar.muli v13 c4_i32_141
  let v239 : BitVec 32 := Scalar.addi c0_i32_142 v238
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_5 : BitVec 32 := 0#32
  let v14 : BitVec 32 := Scalar.xori v5 c0_i32_5
  let c2_i32_143 : BitVec 32 := 2#32
  let v240 : BitVec 32 := Scalar.muli v14 c2_i32_143
  let v241 : BitVec 32 := Scalar.addi v239 v240
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_6 : BitVec 32 := 1#32
  let v15 : BitVec 32 := Scalar.xori v8 c1_i32_6
  let c1_i32_144 : BitVec 32 := 1#32
  let v242 : BitVec 32 := Scalar.muli v15 c1_i32_144
  let v243 : BitVec 32 := Scalar.addi v241 v242
  v243.toNat
def k0_off7 (d0 : Dev nD) (c0_i32 : BitVec 32) (c0_i32_5 : BitVec 32) (c1_i32_6 : BitVec 32) : Fin 3 → Nat :=
  let c4_i32_27 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.xori v2 c0_i32
  let v38 : BitVec 32 := Scalar.muli c4_i32_27 v13
  let c2_i32_28 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.xori v5 c0_i32_5
  let v39 : BitVec 32 := Scalar.muli c2_i32_28 v14
  let v40 : BitVec 32 := Scalar.addi v38 v39
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.xori v8 c1_i32_6
  let v41 : BitVec 32 := Scalar.addi v40 v15
  let c0_i32_159 : BitVec 32 := 0#32
  let c0_i32_160 : BitVec 32 := 0#32
  ![v41.toNat, 0, 0]
def k0_off7_at (r : Fin 7) : BitVec 32 × BitVec 32 × BitVec 32 :=
  if r.val < 3 then
    if r.val < 1 then
      (0#32, 0#32, 1#32)
    else
      if r.val < 2 then
        (1#32, 0#32, 0#32)
      else
        (0#32, 1#32, 0#32)
  else
    if r.val < 5 then
      if r.val < 4 then
        (1#32, 1#32, 0#32)
      else
        (1#32, 0#32, 1#32)
    else
      if r.val < 6 then
        (0#32, 1#32, 1#32)
      else
        (1#32, 1#32, 1#32)
def k0_dev2 (d0 : Dev nD) : Nat :=
  let c0_i32_154 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.xori v2 c0_i32
  let c4_i32_153 : BitVec 32 := 4#32
  let v252 : BitVec 32 := Scalar.muli v13 c4_i32_153
  let v253 : BitVec 32 := Scalar.addi c0_i32_154 v252
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_5 : BitVec 32 := 0#32
  let v14 : BitVec 32 := Scalar.xori v5 c0_i32_5
  let c2_i32_155 : BitVec 32 := 2#32
  let v254 : BitVec 32 := Scalar.muli v14 c2_i32_155
  let v255 : BitVec 32 := Scalar.addi v253 v254
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_6 : BitVec 32 := 1#32
  let v15 : BitVec 32 := Scalar.xori v8 c1_i32_6
  let c1_i32_156 : BitVec 32 := 1#32
  let v256 : BitVec 32 := Scalar.muli v15 c1_i32_156
  let v257 : BitVec 32 := Scalar.addi v255 v256
  v257.toNat
def k0_dev3 (d0 : Dev nD) : Nat :=
  let c0_i32_166 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.xori v2 c0_i32
  let c4_i32_165 : BitVec 32 := 4#32
  let v266 : BitVec 32 := Scalar.muli v13 c4_i32_165
  let v267 : BitVec 32 := Scalar.addi c0_i32_166 v266
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_5 : BitVec 32 := 0#32
  let v14 : BitVec 32 := Scalar.xori v5 c0_i32_5
  let c2_i32_167 : BitVec 32 := 2#32
  let v268 : BitVec 32 := Scalar.muli v14 c2_i32_167
  let v269 : BitVec 32 := Scalar.addi v267 v268
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_6 : BitVec 32 := 1#32
  let v15 : BitVec 32 := Scalar.xori v8 c1_i32_6
  let c1_i32_168 : BitVec 32 := 1#32
  let v270 : BitVec 32 := Scalar.muli v15 c1_i32_168
  let v271 : BitVec 32 := Scalar.addi v269 v270
  v271.toNat
def k0_off8 (d0 : Dev nD) (c0_i32 : BitVec 32) (c0_i32_5 : BitVec 32) (c1_i32_6 : BitVec 32) : Fin 3 → Nat :=
  let c4_i32_31 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.xori v2 c0_i32
  let v46 : BitVec 32 := Scalar.muli c4_i32_31 v13
  let c2_i32_32 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.xori v5 c0_i32_5
  let v47 : BitVec 32 := Scalar.muli c2_i32_32 v14
  let v48 : BitVec 32 := Scalar.addi v46 v47
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.xori v8 c1_i32_6
  let v49 : BitVec 32 := Scalar.addi v48 v15
  let c0_i32_183 : BitVec 32 := 0#32
  let c0_i32_184 : BitVec 32 := 0#32
  ![v49.toNat, 0, 0]
def k0_off8_at (r : Fin 7) : BitVec 32 × BitVec 32 × BitVec 32 :=
  if r.val < 3 then
    if r.val < 1 then
      (0#32, 0#32, 1#32)
    else
      if r.val < 2 then
        (1#32, 0#32, 0#32)
      else
        (0#32, 1#32, 0#32)
  else
    if r.val < 5 then
      if r.val < 4 then
        (1#32, 1#32, 0#32)
      else
        (1#32, 0#32, 1#32)
    else
      if r.val < 6 then
        (0#32, 1#32, 1#32)
      else
        (1#32, 1#32, 1#32)
def k0_dev4 (d0 : Dev nD) : Nat :=
  let c0_i32_178 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.xori v2 c0_i32
  let c4_i32_177 : BitVec 32 := 4#32
  let v280 : BitVec 32 := Scalar.muli v13 c4_i32_177
  let v281 : BitVec 32 := Scalar.addi c0_i32_178 v280
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_5 : BitVec 32 := 0#32
  let v14 : BitVec 32 := Scalar.xori v5 c0_i32_5
  let c2_i32_179 : BitVec 32 := 2#32
  let v282 : BitVec 32 := Scalar.muli v14 c2_i32_179
  let v283 : BitVec 32 := Scalar.addi v281 v282
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_6 : BitVec 32 := 1#32
  let v15 : BitVec 32 := Scalar.xori v8 c1_i32_6
  let c1_i32_180 : BitVec 32 := 1#32
  let v284 : BitVec 32 := Scalar.muli v15 c1_i32_180
  let v285 : BitVec 32 := Scalar.addi v283 v284
  v285.toNat
def k0_off9 (d0 : Dev nD) (c0_i32 : BitVec 32) (c0_i32_5 : BitVec 32) (c1_i32_6 : BitVec 32) : Fin 3 → Nat :=
  let c4_i32_33 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.xori v2 c0_i32
  let v50 : BitVec 32 := Scalar.muli c4_i32_33 v13
  let c2_i32_34 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.xori v5 c0_i32_5
  let v51 : BitVec 32 := Scalar.muli c2_i32_34 v14
  let v52 : BitVec 32 := Scalar.addi v50 v51
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.xori v8 c1_i32_6
  let v53 : BitVec 32 := Scalar.addi v52 v15
  let c0_i32_195 : BitVec 32 := 0#32
  let c0_i32_196 : BitVec 32 := 0#32
  ![v53.toNat, 0, 0]
def k0_off9_at (r : Fin 7) : BitVec 32 × BitVec 32 × BitVec 32 :=
  if r.val < 3 then
    if r.val < 1 then
      (0#32, 0#32, 1#32)
    else
      if r.val < 2 then
        (1#32, 0#32, 0#32)
      else
        (0#32, 1#32, 0#32)
  else
    if r.val < 5 then
      if r.val < 4 then
        (1#32, 1#32, 0#32)
      else
        (1#32, 0#32, 1#32)
    else
      if r.val < 6 then
        (0#32, 1#32, 1#32)
      else
        (1#32, 1#32, 1#32)
def k0_dev5 (d0 : Dev nD) : Nat :=
  let c0_i32_190 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.xori v2 c0_i32
  let c4_i32_189 : BitVec 32 := 4#32
  let v294 : BitVec 32 := Scalar.muli v13 c4_i32_189
  let v295 : BitVec 32 := Scalar.addi c0_i32_190 v294
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_5 : BitVec 32 := 0#32
  let v14 : BitVec 32 := Scalar.xori v5 c0_i32_5
  let c2_i32_191 : BitVec 32 := 2#32
  let v296 : BitVec 32 := Scalar.muli v14 c2_i32_191
  let v297 : BitVec 32 := Scalar.addi v295 v296
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_6 : BitVec 32 := 1#32
  let v15 : BitVec 32 := Scalar.xori v8 c1_i32_6
  let c1_i32_192 : BitVec 32 := 1#32
  let v298 : BitVec 32 := Scalar.muli v15 c1_i32_192
  let v299 : BitVec 32 := Scalar.addi v297 v298
  v299.toNat
def k0_off10 (d0 : Dev nD) (c0_i32 : BitVec 32) (c0_i32_5 : BitVec 32) (c1_i32_6 : BitVec 32) : Fin 3 → Nat :=
  let c4_i32_35 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.xori v2 c0_i32
  let v54 : BitVec 32 := Scalar.muli c4_i32_35 v13
  let c2_i32_36 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.xori v5 c0_i32_5
  let v55 : BitVec 32 := Scalar.muli c2_i32_36 v14
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.xori v8 c1_i32_6
  let v57 : BitVec 32 := Scalar.addi v56 v15
  let c0_i32_207 : BitVec 32 := 0#32
  let c0_i32_208 : BitVec 32 := 0#32
  ![v57.toNat, 0, 0]
def k0_off10_at (r : Fin 7) : BitVec 32 × BitVec 32 × BitVec 32 :=
  if r.val < 3 then
    if r.val < 1 then
      (0#32, 0#32, 1#32)
    else
      if r.val < 2 then
        (1#32, 0#32, 0#32)
      else
        (0#32, 1#32, 0#32)
  else
    if r.val < 5 then
      if r.val < 4 then
        (1#32, 1#32, 0#32)
      else
        (1#32, 0#32, 1#32)
    else
      if r.val < 6 then
        (0#32, 1#32, 1#32)
      else
        (1#32, 1#32, 1#32)
def k0_dev6 (d0 : Dev nD) : Nat :=
  let c0_i32_202 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.xori v2 c0_i32
  let c4_i32_201 : BitVec 32 := 4#32
  let v308 : BitVec 32 := Scalar.muli v13 c4_i32_201
  let v309 : BitVec 32 := Scalar.addi c0_i32_202 v308
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_5 : BitVec 32 := 0#32
  let v14 : BitVec 32 := Scalar.xori v5 c0_i32_5
  let c2_i32_203 : BitVec 32 := 2#32
  let v310 : BitVec 32 := Scalar.muli v14 c2_i32_203
  let v311 : BitVec 32 := Scalar.addi v309 v310
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_6 : BitVec 32 := 1#32
  let v15 : BitVec 32 := Scalar.xori v8 c1_i32_6
  let c1_i32_204 : BitVec 32 := 1#32
  let v312 : BitVec 32 := Scalar.muli v15 c1_i32_204
  let v313 : BitVec 32 := Scalar.addi v311 v312
  v313.toNat
def k0_dev7 (d0 : Dev nD) : Nat :=
  let c0_i32_214 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_7 : BitVec 32 := 1#32
  let v16 : BitVec 32 := Scalar.xori v2 c1_i32_7
  let c4_i32_213 : BitVec 32 := 4#32
  let v322 : BitVec 32 := Scalar.muli v16 c4_i32_213
  let v323 : BitVec 32 := Scalar.addi c0_i32_214 v322
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_8 : BitVec 32 := 0#32
  let v17 : BitVec 32 := Scalar.xori v5 c0_i32_8
  let c2_i32_215 : BitVec 32 := 2#32
  let v324 : BitVec 32 := Scalar.muli v17 c2_i32_215
  let v325 : BitVec 32 := Scalar.addi v323 v324
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_9 : BitVec 32 := 0#32
  let v18 : BitVec 32 := Scalar.xori v8 c0_i32_9
  let c1_i32_216 : BitVec 32 := 1#32
  let v326 : BitVec 32 := Scalar.muli v18 c1_i32_216
  let v327 : BitVec 32 := Scalar.addi v325 v326
  v327.toNat
def k0_dev8 (d0 : Dev nD) : Nat :=
  let c0_i32_226 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_7 : BitVec 32 := 1#32
  let v16 : BitVec 32 := Scalar.xori v2 c1_i32_7
  let c4_i32_225 : BitVec 32 := 4#32
  let v336 : BitVec 32 := Scalar.muli v16 c4_i32_225
  let v337 : BitVec 32 := Scalar.addi c0_i32_226 v336
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_8 : BitVec 32 := 0#32
  let v17 : BitVec 32 := Scalar.xori v5 c0_i32_8
  let c2_i32_227 : BitVec 32 := 2#32
  let v338 : BitVec 32 := Scalar.muli v17 c2_i32_227
  let v339 : BitVec 32 := Scalar.addi v337 v338
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_9 : BitVec 32 := 0#32
  let v18 : BitVec 32 := Scalar.xori v8 c0_i32_9
  let c1_i32_228 : BitVec 32 := 1#32
  let v340 : BitVec 32 := Scalar.muli v18 c1_i32_228
  let v341 : BitVec 32 := Scalar.addi v339 v340
  v341.toNat
def k0_dev9 (d0 : Dev nD) : Nat :=
  let c0_i32_238 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_7 : BitVec 32 := 1#32
  let v16 : BitVec 32 := Scalar.xori v2 c1_i32_7
  let c4_i32_237 : BitVec 32 := 4#32
  let v350 : BitVec 32 := Scalar.muli v16 c4_i32_237
  let v351 : BitVec 32 := Scalar.addi c0_i32_238 v350
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_8 : BitVec 32 := 0#32
  let v17 : BitVec 32 := Scalar.xori v5 c0_i32_8
  let c2_i32_239 : BitVec 32 := 2#32
  let v352 : BitVec 32 := Scalar.muli v17 c2_i32_239
  let v353 : BitVec 32 := Scalar.addi v351 v352
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_9 : BitVec 32 := 0#32
  let v18 : BitVec 32 := Scalar.xori v8 c0_i32_9
  let c1_i32_240 : BitVec 32 := 1#32
  let v354 : BitVec 32 := Scalar.muli v18 c1_i32_240
  let v355 : BitVec 32 := Scalar.addi v353 v354
  v355.toNat
def k0_dev10 (d0 : Dev nD) : Nat :=
  let c0_i32_250 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_7 : BitVec 32 := 1#32
  let v16 : BitVec 32 := Scalar.xori v2 c1_i32_7
  let c4_i32_249 : BitVec 32 := 4#32
  let v364 : BitVec 32 := Scalar.muli v16 c4_i32_249
  let v365 : BitVec 32 := Scalar.addi c0_i32_250 v364
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_8 : BitVec 32 := 0#32
  let v17 : BitVec 32 := Scalar.xori v5 c0_i32_8
  let c2_i32_251 : BitVec 32 := 2#32
  let v366 : BitVec 32 := Scalar.muli v17 c2_i32_251
  let v367 : BitVec 32 := Scalar.addi v365 v366
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_9 : BitVec 32 := 0#32
  let v18 : BitVec 32 := Scalar.xori v8 c0_i32_9
  let c1_i32_252 : BitVec 32 := 1#32
  let v368 : BitVec 32 := Scalar.muli v18 c1_i32_252
  let v369 : BitVec 32 := Scalar.addi v367 v368
  v369.toNat
def k0_dev11 (d0 : Dev nD) : Nat :=
  let c0_i32_262 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_7 : BitVec 32 := 1#32
  let v16 : BitVec 32 := Scalar.xori v2 c1_i32_7
  let c4_i32_261 : BitVec 32 := 4#32
  let v378 : BitVec 32 := Scalar.muli v16 c4_i32_261
  let v379 : BitVec 32 := Scalar.addi c0_i32_262 v378
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_8 : BitVec 32 := 0#32
  let v17 : BitVec 32 := Scalar.xori v5 c0_i32_8
  let c2_i32_263 : BitVec 32 := 2#32
  let v380 : BitVec 32 := Scalar.muli v17 c2_i32_263
  let v381 : BitVec 32 := Scalar.addi v379 v380
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_9 : BitVec 32 := 0#32
  let v18 : BitVec 32 := Scalar.xori v8 c0_i32_9
  let c1_i32_264 : BitVec 32 := 1#32
  let v382 : BitVec 32 := Scalar.muli v18 c1_i32_264
  let v383 : BitVec 32 := Scalar.addi v381 v382
  v383.toNat
def k0_dev12 (d0 : Dev nD) : Nat :=
  let c0_i32_274 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_7 : BitVec 32 := 1#32
  let v16 : BitVec 32 := Scalar.xori v2 c1_i32_7
  let c4_i32_273 : BitVec 32 := 4#32
  let v392 : BitVec 32 := Scalar.muli v16 c4_i32_273
  let v393 : BitVec 32 := Scalar.addi c0_i32_274 v392
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_8 : BitVec 32 := 0#32
  let v17 : BitVec 32 := Scalar.xori v5 c0_i32_8
  let c2_i32_275 : BitVec 32 := 2#32
  let v394 : BitVec 32 := Scalar.muli v17 c2_i32_275
  let v395 : BitVec 32 := Scalar.addi v393 v394
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_9 : BitVec 32 := 0#32
  let v18 : BitVec 32 := Scalar.xori v8 c0_i32_9
  let c1_i32_276 : BitVec 32 := 1#32
  let v396 : BitVec 32 := Scalar.muli v18 c1_i32_276
  let v397 : BitVec 32 := Scalar.addi v395 v396
  v397.toNat
def k0_dev13 (d0 : Dev nD) : Nat :=
  let c0_i32_286 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_10 : BitVec 32 := 0#32
  let v19 : BitVec 32 := Scalar.xori v2 c0_i32_10
  let c4_i32_285 : BitVec 32 := 4#32
  let v406 : BitVec 32 := Scalar.muli v19 c4_i32_285
  let v407 : BitVec 32 := Scalar.addi c0_i32_286 v406
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_11 : BitVec 32 := 1#32
  let v20 : BitVec 32 := Scalar.xori v5 c1_i32_11
  let c2_i32_287 : BitVec 32 := 2#32
  let v408 : BitVec 32 := Scalar.muli v20 c2_i32_287
  let v409 : BitVec 32 := Scalar.addi v407 v408
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_12 : BitVec 32 := 0#32
  let v21 : BitVec 32 := Scalar.xori v8 c0_i32_12
  let c1_i32_288 : BitVec 32 := 1#32
  let v410 : BitVec 32 := Scalar.muli v21 c1_i32_288
  let v411 : BitVec 32 := Scalar.addi v409 v410
  v411.toNat
def k0_dev14 (d0 : Dev nD) : Nat :=
  let c0_i32_298 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_10 : BitVec 32 := 0#32
  let v19 : BitVec 32 := Scalar.xori v2 c0_i32_10
  let c4_i32_297 : BitVec 32 := 4#32
  let v420 : BitVec 32 := Scalar.muli v19 c4_i32_297
  let v421 : BitVec 32 := Scalar.addi c0_i32_298 v420
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_11 : BitVec 32 := 1#32
  let v20 : BitVec 32 := Scalar.xori v5 c1_i32_11
  let c2_i32_299 : BitVec 32 := 2#32
  let v422 : BitVec 32 := Scalar.muli v20 c2_i32_299
  let v423 : BitVec 32 := Scalar.addi v421 v422
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_12 : BitVec 32 := 0#32
  let v21 : BitVec 32 := Scalar.xori v8 c0_i32_12
  let c1_i32_300 : BitVec 32 := 1#32
  let v424 : BitVec 32 := Scalar.muli v21 c1_i32_300
  let v425 : BitVec 32 := Scalar.addi v423 v424
  v425.toNat
def k0_dev15 (d0 : Dev nD) : Nat :=
  let c0_i32_310 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_10 : BitVec 32 := 0#32
  let v19 : BitVec 32 := Scalar.xori v2 c0_i32_10
  let c4_i32_309 : BitVec 32 := 4#32
  let v434 : BitVec 32 := Scalar.muli v19 c4_i32_309
  let v435 : BitVec 32 := Scalar.addi c0_i32_310 v434
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_11 : BitVec 32 := 1#32
  let v20 : BitVec 32 := Scalar.xori v5 c1_i32_11
  let c2_i32_311 : BitVec 32 := 2#32
  let v436 : BitVec 32 := Scalar.muli v20 c2_i32_311
  let v437 : BitVec 32 := Scalar.addi v435 v436
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_12 : BitVec 32 := 0#32
  let v21 : BitVec 32 := Scalar.xori v8 c0_i32_12
  let c1_i32_312 : BitVec 32 := 1#32
  let v438 : BitVec 32 := Scalar.muli v21 c1_i32_312
  let v439 : BitVec 32 := Scalar.addi v437 v438
  v439.toNat
def k0_dev16 (d0 : Dev nD) : Nat :=
  let c0_i32_322 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_10 : BitVec 32 := 0#32
  let v19 : BitVec 32 := Scalar.xori v2 c0_i32_10
  let c4_i32_321 : BitVec 32 := 4#32
  let v448 : BitVec 32 := Scalar.muli v19 c4_i32_321
  let v449 : BitVec 32 := Scalar.addi c0_i32_322 v448
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_11 : BitVec 32 := 1#32
  let v20 : BitVec 32 := Scalar.xori v5 c1_i32_11
  let c2_i32_323 : BitVec 32 := 2#32
  let v450 : BitVec 32 := Scalar.muli v20 c2_i32_323
  let v451 : BitVec 32 := Scalar.addi v449 v450
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_12 : BitVec 32 := 0#32
  let v21 : BitVec 32 := Scalar.xori v8 c0_i32_12
  let c1_i32_324 : BitVec 32 := 1#32
  let v452 : BitVec 32 := Scalar.muli v21 c1_i32_324
  let v453 : BitVec 32 := Scalar.addi v451 v452
  v453.toNat
def k0_dev17 (d0 : Dev nD) : Nat :=
  let c0_i32_334 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_10 : BitVec 32 := 0#32
  let v19 : BitVec 32 := Scalar.xori v2 c0_i32_10
  let c4_i32_333 : BitVec 32 := 4#32
  let v462 : BitVec 32 := Scalar.muli v19 c4_i32_333
  let v463 : BitVec 32 := Scalar.addi c0_i32_334 v462
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_11 : BitVec 32 := 1#32
  let v20 : BitVec 32 := Scalar.xori v5 c1_i32_11
  let c2_i32_335 : BitVec 32 := 2#32
  let v464 : BitVec 32 := Scalar.muli v20 c2_i32_335
  let v465 : BitVec 32 := Scalar.addi v463 v464
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_12 : BitVec 32 := 0#32
  let v21 : BitVec 32 := Scalar.xori v8 c0_i32_12
  let c1_i32_336 : BitVec 32 := 1#32
  let v466 : BitVec 32 := Scalar.muli v21 c1_i32_336
  let v467 : BitVec 32 := Scalar.addi v465 v466
  v467.toNat
def k0_dev18 (d0 : Dev nD) : Nat :=
  let c0_i32_346 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_10 : BitVec 32 := 0#32
  let v19 : BitVec 32 := Scalar.xori v2 c0_i32_10
  let c4_i32_345 : BitVec 32 := 4#32
  let v476 : BitVec 32 := Scalar.muli v19 c4_i32_345
  let v477 : BitVec 32 := Scalar.addi c0_i32_346 v476
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_11 : BitVec 32 := 1#32
  let v20 : BitVec 32 := Scalar.xori v5 c1_i32_11
  let c2_i32_347 : BitVec 32 := 2#32
  let v478 : BitVec 32 := Scalar.muli v20 c2_i32_347
  let v479 : BitVec 32 := Scalar.addi v477 v478
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_12 : BitVec 32 := 0#32
  let v21 : BitVec 32 := Scalar.xori v8 c0_i32_12
  let c1_i32_348 : BitVec 32 := 1#32
  let v480 : BitVec 32 := Scalar.muli v21 c1_i32_348
  let v481 : BitVec 32 := Scalar.addi v479 v480
  v481.toNat
def k0_dev19 (d0 : Dev nD) : Nat :=
  let c0_i32_358 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_13 : BitVec 32 := 1#32
  let v22 : BitVec 32 := Scalar.xori v2 c1_i32_13
  let c4_i32_357 : BitVec 32 := 4#32
  let v490 : BitVec 32 := Scalar.muli v22 c4_i32_357
  let v491 : BitVec 32 := Scalar.addi c0_i32_358 v490
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_14 : BitVec 32 := 1#32
  let v23 : BitVec 32 := Scalar.xori v5 c1_i32_14
  let c2_i32_359 : BitVec 32 := 2#32
  let v492 : BitVec 32 := Scalar.muli v23 c2_i32_359
  let v493 : BitVec 32 := Scalar.addi v491 v492
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_15 : BitVec 32 := 0#32
  let v24 : BitVec 32 := Scalar.xori v8 c0_i32_15
  let c1_i32_360 : BitVec 32 := 1#32
  let v494 : BitVec 32 := Scalar.muli v24 c1_i32_360
  let v495 : BitVec 32 := Scalar.addi v493 v494
  v495.toNat
def k0_dev20 (d0 : Dev nD) : Nat :=
  let c0_i32_370 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_13 : BitVec 32 := 1#32
  let v22 : BitVec 32 := Scalar.xori v2 c1_i32_13
  let c4_i32_369 : BitVec 32 := 4#32
  let v504 : BitVec 32 := Scalar.muli v22 c4_i32_369
  let v505 : BitVec 32 := Scalar.addi c0_i32_370 v504
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_14 : BitVec 32 := 1#32
  let v23 : BitVec 32 := Scalar.xori v5 c1_i32_14
  let c2_i32_371 : BitVec 32 := 2#32
  let v506 : BitVec 32 := Scalar.muli v23 c2_i32_371
  let v507 : BitVec 32 := Scalar.addi v505 v506
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_15 : BitVec 32 := 0#32
  let v24 : BitVec 32 := Scalar.xori v8 c0_i32_15
  let c1_i32_372 : BitVec 32 := 1#32
  let v508 : BitVec 32 := Scalar.muli v24 c1_i32_372
  let v509 : BitVec 32 := Scalar.addi v507 v508
  v509.toNat
def k0_dev21 (d0 : Dev nD) : Nat :=
  let c0_i32_382 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_13 : BitVec 32 := 1#32
  let v22 : BitVec 32 := Scalar.xori v2 c1_i32_13
  let c4_i32_381 : BitVec 32 := 4#32
  let v518 : BitVec 32 := Scalar.muli v22 c4_i32_381
  let v519 : BitVec 32 := Scalar.addi c0_i32_382 v518
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_14 : BitVec 32 := 1#32
  let v23 : BitVec 32 := Scalar.xori v5 c1_i32_14
  let c2_i32_383 : BitVec 32 := 2#32
  let v520 : BitVec 32 := Scalar.muli v23 c2_i32_383
  let v521 : BitVec 32 := Scalar.addi v519 v520
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_15 : BitVec 32 := 0#32
  let v24 : BitVec 32 := Scalar.xori v8 c0_i32_15
  let c1_i32_384 : BitVec 32 := 1#32
  let v522 : BitVec 32 := Scalar.muli v24 c1_i32_384
  let v523 : BitVec 32 := Scalar.addi v521 v522
  v523.toNat
def k0_dev22 (d0 : Dev nD) : Nat :=
  let c0_i32_394 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_13 : BitVec 32 := 1#32
  let v22 : BitVec 32 := Scalar.xori v2 c1_i32_13
  let c4_i32_393 : BitVec 32 := 4#32
  let v532 : BitVec 32 := Scalar.muli v22 c4_i32_393
  let v533 : BitVec 32 := Scalar.addi c0_i32_394 v532
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_14 : BitVec 32 := 1#32
  let v23 : BitVec 32 := Scalar.xori v5 c1_i32_14
  let c2_i32_395 : BitVec 32 := 2#32
  let v534 : BitVec 32 := Scalar.muli v23 c2_i32_395
  let v535 : BitVec 32 := Scalar.addi v533 v534
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_15 : BitVec 32 := 0#32
  let v24 : BitVec 32 := Scalar.xori v8 c0_i32_15
  let c1_i32_396 : BitVec 32 := 1#32
  let v536 : BitVec 32 := Scalar.muli v24 c1_i32_396
  let v537 : BitVec 32 := Scalar.addi v535 v536
  v537.toNat
def k0_dev23 (d0 : Dev nD) : Nat :=
  let c0_i32_406 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_13 : BitVec 32 := 1#32
  let v22 : BitVec 32 := Scalar.xori v2 c1_i32_13
  let c4_i32_405 : BitVec 32 := 4#32
  let v546 : BitVec 32 := Scalar.muli v22 c4_i32_405
  let v547 : BitVec 32 := Scalar.addi c0_i32_406 v546
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_14 : BitVec 32 := 1#32
  let v23 : BitVec 32 := Scalar.xori v5 c1_i32_14
  let c2_i32_407 : BitVec 32 := 2#32
  let v548 : BitVec 32 := Scalar.muli v23 c2_i32_407
  let v549 : BitVec 32 := Scalar.addi v547 v548
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_15 : BitVec 32 := 0#32
  let v24 : BitVec 32 := Scalar.xori v8 c0_i32_15
  let c1_i32_408 : BitVec 32 := 1#32
  let v550 : BitVec 32 := Scalar.muli v24 c1_i32_408
  let v551 : BitVec 32 := Scalar.addi v549 v550
  v551.toNat
def k0_dev24 (d0 : Dev nD) : Nat :=
  let c0_i32_418 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_13 : BitVec 32 := 1#32
  let v22 : BitVec 32 := Scalar.xori v2 c1_i32_13
  let c4_i32_417 : BitVec 32 := 4#32
  let v560 : BitVec 32 := Scalar.muli v22 c4_i32_417
  let v561 : BitVec 32 := Scalar.addi c0_i32_418 v560
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_14 : BitVec 32 := 1#32
  let v23 : BitVec 32 := Scalar.xori v5 c1_i32_14
  let c2_i32_419 : BitVec 32 := 2#32
  let v562 : BitVec 32 := Scalar.muli v23 c2_i32_419
  let v563 : BitVec 32 := Scalar.addi v561 v562
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_15 : BitVec 32 := 0#32
  let v24 : BitVec 32 := Scalar.xori v8 c0_i32_15
  let c1_i32_420 : BitVec 32 := 1#32
  let v564 : BitVec 32 := Scalar.muli v24 c1_i32_420
  let v565 : BitVec 32 := Scalar.addi v563 v564
  v565.toNat
def k0_dev25 (d0 : Dev nD) : Nat :=
  let c0_i32_430 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_16 : BitVec 32 := 1#32
  let v25 : BitVec 32 := Scalar.xori v2 c1_i32_16
  let c4_i32_429 : BitVec 32 := 4#32
  let v574 : BitVec 32 := Scalar.muli v25 c4_i32_429
  let v575 : BitVec 32 := Scalar.addi c0_i32_430 v574
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_17 : BitVec 32 := 0#32
  let v26 : BitVec 32 := Scalar.xori v5 c0_i32_17
  let c2_i32_431 : BitVec 32 := 2#32
  let v576 : BitVec 32 := Scalar.muli v26 c2_i32_431
  let v577 : BitVec 32 := Scalar.addi v575 v576
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v27 : BitVec 32 := Scalar.xori v8 c1_i32_18
  let c1_i32_432 : BitVec 32 := 1#32
  let v578 : BitVec 32 := Scalar.muli v27 c1_i32_432
  let v579 : BitVec 32 := Scalar.addi v577 v578
  v579.toNat
def k0_dev26 (d0 : Dev nD) : Nat :=
  let c0_i32_442 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_16 : BitVec 32 := 1#32
  let v25 : BitVec 32 := Scalar.xori v2 c1_i32_16
  let c4_i32_441 : BitVec 32 := 4#32
  let v588 : BitVec 32 := Scalar.muli v25 c4_i32_441
  let v589 : BitVec 32 := Scalar.addi c0_i32_442 v588
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_17 : BitVec 32 := 0#32
  let v26 : BitVec 32 := Scalar.xori v5 c0_i32_17
  let c2_i32_443 : BitVec 32 := 2#32
  let v590 : BitVec 32 := Scalar.muli v26 c2_i32_443
  let v591 : BitVec 32 := Scalar.addi v589 v590
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v27 : BitVec 32 := Scalar.xori v8 c1_i32_18
  let c1_i32_444 : BitVec 32 := 1#32
  let v592 : BitVec 32 := Scalar.muli v27 c1_i32_444
  let v593 : BitVec 32 := Scalar.addi v591 v592
  v593.toNat
def k0_dev27 (d0 : Dev nD) : Nat :=
  let c0_i32_454 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_16 : BitVec 32 := 1#32
  let v25 : BitVec 32 := Scalar.xori v2 c1_i32_16
  let c4_i32_453 : BitVec 32 := 4#32
  let v602 : BitVec 32 := Scalar.muli v25 c4_i32_453
  let v603 : BitVec 32 := Scalar.addi c0_i32_454 v602
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_17 : BitVec 32 := 0#32
  let v26 : BitVec 32 := Scalar.xori v5 c0_i32_17
  let c2_i32_455 : BitVec 32 := 2#32
  let v604 : BitVec 32 := Scalar.muli v26 c2_i32_455
  let v605 : BitVec 32 := Scalar.addi v603 v604
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v27 : BitVec 32 := Scalar.xori v8 c1_i32_18
  let c1_i32_456 : BitVec 32 := 1#32
  let v606 : BitVec 32 := Scalar.muli v27 c1_i32_456
  let v607 : BitVec 32 := Scalar.addi v605 v606
  v607.toNat
def k0_dev28 (d0 : Dev nD) : Nat :=
  let c0_i32_466 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_16 : BitVec 32 := 1#32
  let v25 : BitVec 32 := Scalar.xori v2 c1_i32_16
  let c4_i32_465 : BitVec 32 := 4#32
  let v616 : BitVec 32 := Scalar.muli v25 c4_i32_465
  let v617 : BitVec 32 := Scalar.addi c0_i32_466 v616
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_17 : BitVec 32 := 0#32
  let v26 : BitVec 32 := Scalar.xori v5 c0_i32_17
  let c2_i32_467 : BitVec 32 := 2#32
  let v618 : BitVec 32 := Scalar.muli v26 c2_i32_467
  let v619 : BitVec 32 := Scalar.addi v617 v618
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v27 : BitVec 32 := Scalar.xori v8 c1_i32_18
  let c1_i32_468 : BitVec 32 := 1#32
  let v620 : BitVec 32 := Scalar.muli v27 c1_i32_468
  let v621 : BitVec 32 := Scalar.addi v619 v620
  v621.toNat
def k0_dev29 (d0 : Dev nD) : Nat :=
  let c0_i32_478 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_16 : BitVec 32 := 1#32
  let v25 : BitVec 32 := Scalar.xori v2 c1_i32_16
  let c4_i32_477 : BitVec 32 := 4#32
  let v630 : BitVec 32 := Scalar.muli v25 c4_i32_477
  let v631 : BitVec 32 := Scalar.addi c0_i32_478 v630
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_17 : BitVec 32 := 0#32
  let v26 : BitVec 32 := Scalar.xori v5 c0_i32_17
  let c2_i32_479 : BitVec 32 := 2#32
  let v632 : BitVec 32 := Scalar.muli v26 c2_i32_479
  let v633 : BitVec 32 := Scalar.addi v631 v632
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v27 : BitVec 32 := Scalar.xori v8 c1_i32_18
  let c1_i32_480 : BitVec 32 := 1#32
  let v634 : BitVec 32 := Scalar.muli v27 c1_i32_480
  let v635 : BitVec 32 := Scalar.addi v633 v634
  v635.toNat
def k0_dev30 (d0 : Dev nD) : Nat :=
  let c0_i32_490 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_16 : BitVec 32 := 1#32
  let v25 : BitVec 32 := Scalar.xori v2 c1_i32_16
  let c4_i32_489 : BitVec 32 := 4#32
  let v644 : BitVec 32 := Scalar.muli v25 c4_i32_489
  let v645 : BitVec 32 := Scalar.addi c0_i32_490 v644
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_17 : BitVec 32 := 0#32
  let v26 : BitVec 32 := Scalar.xori v5 c0_i32_17
  let c2_i32_491 : BitVec 32 := 2#32
  let v646 : BitVec 32 := Scalar.muli v26 c2_i32_491
  let v647 : BitVec 32 := Scalar.addi v645 v646
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v27 : BitVec 32 := Scalar.xori v8 c1_i32_18
  let c1_i32_492 : BitVec 32 := 1#32
  let v648 : BitVec 32 := Scalar.muli v27 c1_i32_492
  let v649 : BitVec 32 := Scalar.addi v647 v648
  v649.toNat
def k0_dev31 (d0 : Dev nD) : Nat :=
  let c0_i32_502 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_19 : BitVec 32 := 0#32
  let v28 : BitVec 32 := Scalar.xori v2 c0_i32_19
  let c4_i32_501 : BitVec 32 := 4#32
  let v658 : BitVec 32 := Scalar.muli v28 c4_i32_501
  let v659 : BitVec 32 := Scalar.addi c0_i32_502 v658
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_20 : BitVec 32 := 1#32
  let v29 : BitVec 32 := Scalar.xori v5 c1_i32_20
  let c2_i32_503 : BitVec 32 := 2#32
  let v660 : BitVec 32 := Scalar.muli v29 c2_i32_503
  let v661 : BitVec 32 := Scalar.addi v659 v660
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_21 : BitVec 32 := 1#32
  let v30 : BitVec 32 := Scalar.xori v8 c1_i32_21
  let c1_i32_504 : BitVec 32 := 1#32
  let v662 : BitVec 32 := Scalar.muli v30 c1_i32_504
  let v663 : BitVec 32 := Scalar.addi v661 v662
  v663.toNat
def k0_dev32 (d0 : Dev nD) : Nat :=
  let c0_i32_514 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_19 : BitVec 32 := 0#32
  let v28 : BitVec 32 := Scalar.xori v2 c0_i32_19
  let c4_i32_513 : BitVec 32 := 4#32
  let v672 : BitVec 32 := Scalar.muli v28 c4_i32_513
  let v673 : BitVec 32 := Scalar.addi c0_i32_514 v672
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_20 : BitVec 32 := 1#32
  let v29 : BitVec 32 := Scalar.xori v5 c1_i32_20
  let c2_i32_515 : BitVec 32 := 2#32
  let v674 : BitVec 32 := Scalar.muli v29 c2_i32_515
  let v675 : BitVec 32 := Scalar.addi v673 v674
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_21 : BitVec 32 := 1#32
  let v30 : BitVec 32 := Scalar.xori v8 c1_i32_21
  let c1_i32_516 : BitVec 32 := 1#32
  let v676 : BitVec 32 := Scalar.muli v30 c1_i32_516
  let v677 : BitVec 32 := Scalar.addi v675 v676
  v677.toNat
def k0_dev33 (d0 : Dev nD) : Nat :=
  let c0_i32_526 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_19 : BitVec 32 := 0#32
  let v28 : BitVec 32 := Scalar.xori v2 c0_i32_19
  let c4_i32_525 : BitVec 32 := 4#32
  let v686 : BitVec 32 := Scalar.muli v28 c4_i32_525
  let v687 : BitVec 32 := Scalar.addi c0_i32_526 v686
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_20 : BitVec 32 := 1#32
  let v29 : BitVec 32 := Scalar.xori v5 c1_i32_20
  let c2_i32_527 : BitVec 32 := 2#32
  let v688 : BitVec 32 := Scalar.muli v29 c2_i32_527
  let v689 : BitVec 32 := Scalar.addi v687 v688
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_21 : BitVec 32 := 1#32
  let v30 : BitVec 32 := Scalar.xori v8 c1_i32_21
  let c1_i32_528 : BitVec 32 := 1#32
  let v690 : BitVec 32 := Scalar.muli v30 c1_i32_528
  let v691 : BitVec 32 := Scalar.addi v689 v690
  v691.toNat
def k0_dev34 (d0 : Dev nD) : Nat :=
  let c0_i32_538 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_19 : BitVec 32 := 0#32
  let v28 : BitVec 32 := Scalar.xori v2 c0_i32_19
  let c4_i32_537 : BitVec 32 := 4#32
  let v700 : BitVec 32 := Scalar.muli v28 c4_i32_537
  let v701 : BitVec 32 := Scalar.addi c0_i32_538 v700
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_20 : BitVec 32 := 1#32
  let v29 : BitVec 32 := Scalar.xori v5 c1_i32_20
  let c2_i32_539 : BitVec 32 := 2#32
  let v702 : BitVec 32 := Scalar.muli v29 c2_i32_539
  let v703 : BitVec 32 := Scalar.addi v701 v702
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_21 : BitVec 32 := 1#32
  let v30 : BitVec 32 := Scalar.xori v8 c1_i32_21
  let c1_i32_540 : BitVec 32 := 1#32
  let v704 : BitVec 32 := Scalar.muli v30 c1_i32_540
  let v705 : BitVec 32 := Scalar.addi v703 v704
  v705.toNat
def k0_dev35 (d0 : Dev nD) : Nat :=
  let c0_i32_550 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_19 : BitVec 32 := 0#32
  let v28 : BitVec 32 := Scalar.xori v2 c0_i32_19
  let c4_i32_549 : BitVec 32 := 4#32
  let v714 : BitVec 32 := Scalar.muli v28 c4_i32_549
  let v715 : BitVec 32 := Scalar.addi c0_i32_550 v714
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_20 : BitVec 32 := 1#32
  let v29 : BitVec 32 := Scalar.xori v5 c1_i32_20
  let c2_i32_551 : BitVec 32 := 2#32
  let v716 : BitVec 32 := Scalar.muli v29 c2_i32_551
  let v717 : BitVec 32 := Scalar.addi v715 v716
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_21 : BitVec 32 := 1#32
  let v30 : BitVec 32 := Scalar.xori v8 c1_i32_21
  let c1_i32_552 : BitVec 32 := 1#32
  let v718 : BitVec 32 := Scalar.muli v30 c1_i32_552
  let v719 : BitVec 32 := Scalar.addi v717 v718
  v719.toNat
def k0_dev36 (d0 : Dev nD) : Nat :=
  let c0_i32_562 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_19 : BitVec 32 := 0#32
  let v28 : BitVec 32 := Scalar.xori v2 c0_i32_19
  let c4_i32_561 : BitVec 32 := 4#32
  let v728 : BitVec 32 := Scalar.muli v28 c4_i32_561
  let v729 : BitVec 32 := Scalar.addi c0_i32_562 v728
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_20 : BitVec 32 := 1#32
  let v29 : BitVec 32 := Scalar.xori v5 c1_i32_20
  let c2_i32_563 : BitVec 32 := 2#32
  let v730 : BitVec 32 := Scalar.muli v29 c2_i32_563
  let v731 : BitVec 32 := Scalar.addi v729 v730
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_21 : BitVec 32 := 1#32
  let v30 : BitVec 32 := Scalar.xori v8 c1_i32_21
  let c1_i32_564 : BitVec 32 := 1#32
  let v732 : BitVec 32 := Scalar.muli v30 c1_i32_564
  let v733 : BitVec 32 := Scalar.addi v731 v732
  v733.toNat
def k0_dev37 (d0 : Dev nD) : Nat :=
  let c0_i32_573 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_22 : BitVec 32 := 1#32
  let v31 : BitVec 32 := Scalar.xori v2 c1_i32_22
  let c4_i32_572 : BitVec 32 := 4#32
  let v742 : BitVec 32 := Scalar.muli v31 c4_i32_572
  let v743 : BitVec 32 := Scalar.addi c0_i32_573 v742
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_23 : BitVec 32 := 1#32
  let v32 : BitVec 32 := Scalar.xori v5 c1_i32_23
  let c2_i32_574 : BitVec 32 := 2#32
  let v744 : BitVec 32 := Scalar.muli v32 c2_i32_574
  let v745 : BitVec 32 := Scalar.addi v743 v744
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v33 : BitVec 32 := Scalar.xori v8 c1_i32_24
  let c1_i32_575 : BitVec 32 := 1#32
  let v746 : BitVec 32 := Scalar.muli v33 c1_i32_575
  let v747 : BitVec 32 := Scalar.addi v745 v746
  v747.toNat
def k0_dev38 (d0 : Dev nD) : Nat :=
  let c0_i32_585 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_22 : BitVec 32 := 1#32
  let v31 : BitVec 32 := Scalar.xori v2 c1_i32_22
  let c4_i32_584 : BitVec 32 := 4#32
  let v756 : BitVec 32 := Scalar.muli v31 c4_i32_584
  let v757 : BitVec 32 := Scalar.addi c0_i32_585 v756
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_23 : BitVec 32 := 1#32
  let v32 : BitVec 32 := Scalar.xori v5 c1_i32_23
  let c2_i32_586 : BitVec 32 := 2#32
  let v758 : BitVec 32 := Scalar.muli v32 c2_i32_586
  let v759 : BitVec 32 := Scalar.addi v757 v758
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v33 : BitVec 32 := Scalar.xori v8 c1_i32_24
  let c1_i32_587 : BitVec 32 := 1#32
  let v760 : BitVec 32 := Scalar.muli v33 c1_i32_587
  let v761 : BitVec 32 := Scalar.addi v759 v760
  v761.toNat
def k0_dev39 (d0 : Dev nD) : Nat :=
  let c0_i32_597 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_22 : BitVec 32 := 1#32
  let v31 : BitVec 32 := Scalar.xori v2 c1_i32_22
  let c4_i32_596 : BitVec 32 := 4#32
  let v770 : BitVec 32 := Scalar.muli v31 c4_i32_596
  let v771 : BitVec 32 := Scalar.addi c0_i32_597 v770
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_23 : BitVec 32 := 1#32
  let v32 : BitVec 32 := Scalar.xori v5 c1_i32_23
  let c2_i32_598 : BitVec 32 := 2#32
  let v772 : BitVec 32 := Scalar.muli v32 c2_i32_598
  let v773 : BitVec 32 := Scalar.addi v771 v772
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v33 : BitVec 32 := Scalar.xori v8 c1_i32_24
  let c1_i32_599 : BitVec 32 := 1#32
  let v774 : BitVec 32 := Scalar.muli v33 c1_i32_599
  let v775 : BitVec 32 := Scalar.addi v773 v774
  v775.toNat
def k0_dev40 (d0 : Dev nD) : Nat :=
  let c0_i32_609 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_22 : BitVec 32 := 1#32
  let v31 : BitVec 32 := Scalar.xori v2 c1_i32_22
  let c4_i32_608 : BitVec 32 := 4#32
  let v784 : BitVec 32 := Scalar.muli v31 c4_i32_608
  let v785 : BitVec 32 := Scalar.addi c0_i32_609 v784
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_23 : BitVec 32 := 1#32
  let v32 : BitVec 32 := Scalar.xori v5 c1_i32_23
  let c2_i32_610 : BitVec 32 := 2#32
  let v786 : BitVec 32 := Scalar.muli v32 c2_i32_610
  let v787 : BitVec 32 := Scalar.addi v785 v786
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v33 : BitVec 32 := Scalar.xori v8 c1_i32_24
  let c1_i32_611 : BitVec 32 := 1#32
  let v788 : BitVec 32 := Scalar.muli v33 c1_i32_611
  let v789 : BitVec 32 := Scalar.addi v787 v788
  v789.toNat
def k0_dev41 (d0 : Dev nD) : Nat :=
  let c0_i32_621 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_22 : BitVec 32 := 1#32
  let v31 : BitVec 32 := Scalar.xori v2 c1_i32_22
  let c4_i32_620 : BitVec 32 := 4#32
  let v798 : BitVec 32 := Scalar.muli v31 c4_i32_620
  let v799 : BitVec 32 := Scalar.addi c0_i32_621 v798
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_23 : BitVec 32 := 1#32
  let v32 : BitVec 32 := Scalar.xori v5 c1_i32_23
  let c2_i32_622 : BitVec 32 := 2#32
  let v800 : BitVec 32 := Scalar.muli v32 c2_i32_622
  let v801 : BitVec 32 := Scalar.addi v799 v800
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v33 : BitVec 32 := Scalar.xori v8 c1_i32_24
  let c1_i32_623 : BitVec 32 := 1#32
  let v802 : BitVec 32 := Scalar.muli v33 c1_i32_623
  let v803 : BitVec 32 := Scalar.addi v801 v802
  v803.toNat
def k0_dev42 (d0 : Dev nD) : Nat :=
  let c0_i32_633 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_22 : BitVec 32 := 1#32
  let v31 : BitVec 32 := Scalar.xori v2 c1_i32_22
  let c4_i32_632 : BitVec 32 := 4#32
  let v812 : BitVec 32 := Scalar.muli v31 c4_i32_632
  let v813 : BitVec 32 := Scalar.addi c0_i32_633 v812
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_23 : BitVec 32 := 1#32
  let v32 : BitVec 32 := Scalar.xori v5 c1_i32_23
  let c2_i32_634 : BitVec 32 := 2#32
  let v814 : BitVec 32 := Scalar.muli v32 c2_i32_634
  let v815 : BitVec 32 := Scalar.addi v813 v814
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v33 : BitVec 32 := Scalar.xori v8 c1_i32_24
  let c1_i32_635 : BitVec 32 := 1#32
  let v816 : BitVec 32 := Scalar.muli v33 c1_i32_635
  let v817 : BitVec 32 := Scalar.addi v815 v816
  v817.toNat
-- ==== Reference.lean ====
abbrev S64x1024x545 : Shape := ⟨3, ![64, 1024, 545]⟩
abbrev S64x512x128 : Shape := ⟨3, ![64, 512, 128]⟩
abbrev S64x128x1024 : Shape := ⟨3, ![64, 128, 1024]⟩
abbrev S64x1024x704 : Shape := ⟨3, ![64, 1024, 704]⟩
abbrev S64x352x1024 : Shape := ⟨3, ![64, 352, 1024]⟩
abbrev S8x8x1024x545 : Shape := ⟨4, ![8, 8, 1024, 545]⟩
abbrev S8x8x512x128 : Shape := ⟨4, ![8, 8, 512, 128]⟩
abbrev S8x8x128x1024 : Shape := ⟨4, ![8, 8, 128, 1024]⟩
abbrev S8x8x1024x704 : Shape := ⟨4, ![8, 8, 1024, 704]⟩
abbrev S8x8x352x1024 : Shape := ⟨4, ![8, 8, 352, 1024]⟩

abbrev nBuf : Space → Nat
  | .hbm => 24
  | .vmem => 0
  | .smem => 0
  | _ => 0

abbrev bufTy : (tb : Table) → Fin (tcTables nBuf tb) → BufTy
  | .hbm, ⟨0, _⟩ => ⟨S64x1024x545, .bf16⟩
  | .hbm, ⟨1, _⟩ => ⟨S64x512x128, .bf16⟩
  | .hbm, ⟨2, _⟩ => ⟨S64x512x128, .bf16⟩
  | .hbm, ⟨3, _⟩ => ⟨S64x128x1024, .bf16⟩
  | .hbm, ⟨4, _⟩ => ⟨S64x1024x704, .bf16⟩
  | .hbm, ⟨5, _⟩ => ⟨S64x352x1024, .bf16⟩
  | .hbm, ⟨6, _⟩ => ⟨S8x8x1024x545, .bf16⟩
  | .hbm, ⟨7, _⟩ => ⟨S8x8x1024x545, .bf16⟩
  | .hbm, ⟨8, _⟩ => ⟨S64x1024x545, .bf16⟩
  | .hbm, ⟨9, _⟩ => ⟨S8x8x512x128, .bf16⟩
  | .hbm, ⟨10, _⟩ => ⟨S8x8x512x128, .bf16⟩
  | .hbm, ⟨11, _⟩ => ⟨S64x512x128, .bf16⟩
  | .hbm, ⟨12, _⟩ => ⟨S8x8x512x128, .bf16⟩
  | .hbm, ⟨13, _⟩ => ⟨S8x8x512x128, .bf16⟩
  | .hbm, ⟨14, _⟩ => ⟨S64x512x128, .bf16⟩
  | .hbm, ⟨15, _⟩ => ⟨S8x8x128x1024, .bf16⟩
  | .hbm, ⟨16, _⟩ => ⟨S8x8x128x1024, .bf16⟩
  | .hbm, ⟨17, _⟩ => ⟨S64x128x1024, .bf16⟩
  | .hbm, ⟨18, _⟩ => ⟨S8x8x1024x704, .bf16⟩
  | .hbm, ⟨19, _⟩ => ⟨S8x8x1024x704, .bf16⟩
  | .hbm, ⟨20, _⟩ => ⟨S64x1024x704, .bf16⟩
  | .hbm, ⟨21, _⟩ => ⟨S8x8x352x1024, .bf16⟩
  | .hbm, ⟨22, _⟩ => ⟨S8x8x352x1024, .bf16⟩
  | .hbm, ⟨23, _⟩ => ⟨S64x352x1024, .bf16⟩
  | _, _ => ⟨S64x1024x545, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Gather.lean ====
abbrev S1024x545 : Shape := ⟨2, ![1024, 545]⟩
abbrev S512x128 : Shape := ⟨2, ![512, 128]⟩
abbrev S128x1024 : Shape := ⟨2, ![128, 1024]⟩
abbrev S1024x704 : Shape := ⟨2, ![1024, 704]⟩
abbrev S352x1024 : Shape := ⟨2, ![352, 1024]⟩
abbrev S8x1024x545 : Shape := ⟨3, ![8, 1024, 545]⟩
abbrev S8x512x128 : Shape := ⟨3, ![8, 512, 128]⟩
abbrev S8x128x1024 : Shape := ⟨3, ![8, 128, 1024]⟩
abbrev S8x1024x704 : Shape := ⟨3, ![8, 1024, 704]⟩
abbrev S8x352x1024 : Shape := ⟨3, ![8, 352, 1024]⟩
abbrev S6x7 : Shape := ⟨2, ![6, 7]⟩
abbrev S6 : Shape := ⟨1, ![6]⟩
abbrev S1 : Shape := ⟨1, ![1]⟩
abbrev S_ : Shape := ⟨0, ![]⟩
abbrev S1x1024x545 : Shape := ⟨3, ![1, 1024, 545]⟩
abbrev S1x512x128 : Shape := ⟨3, ![1, 512, 128]⟩
abbrev S1x128x1024 : Shape := ⟨3, ![1, 128, 1024]⟩
abbrev S1x1024x704 : Shape := ⟨3, ![1, 1024, 704]⟩
abbrev S1x352x1024 : Shape := ⟨3, ![1, 352, 1024]⟩
abbrev S1x1 : Shape := ⟨2, ![1, 1]⟩

abbrev nBuf : Space → Nat
  | .hbm => 12
  | .vmem => 0
  | .smem => 0
  | _ => 0

abbrev bufTy : (tb : Table) → Fin (tcTables nBuf tb) → BufTy
  | .hbm, ⟨0, _⟩ => ⟨S1024x545, .bf16⟩
  | .hbm, ⟨1, _⟩ => ⟨S512x128, .bf16⟩
  | .hbm, ⟨2, _⟩ => ⟨S512x128, .bf16⟩
  | .hbm, ⟨3, _⟩ => ⟨S128x1024, .bf16⟩
  | .hbm, ⟨4, _⟩ => ⟨S1024x704, .bf16⟩
  | .hbm, ⟨5, _⟩ => ⟨S352x1024, .bf16⟩
  | .hbm, ⟨6, _⟩ => ⟨S8x1024x545, .bf16⟩
  | .hbm, ⟨7, _⟩ => ⟨S8x512x128, .bf16⟩
  | .hbm, ⟨8, _⟩ => ⟨S8x512x128, .bf16⟩
  | .hbm, ⟨9, _⟩ => ⟨S8x128x1024, .bf16⟩
  | .hbm, ⟨10, _⟩ => ⟨S8x1024x704, .bf16⟩
  | .hbm, ⟨11, _⟩ => ⟨S8x352x1024, .bf16⟩
  | _, _ => ⟨S1024x545, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32_20 : BitVec 32 := 0#32
  let c0_i32_21 : BitVec 32 := 0#32
  ![v17.toNat, 0, 0]
def k0_off2 (d0 : Dev nD) : Fin 3 → Nat :=
  let c4_i32_10 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.muli c4_i32_10 v2
  let c2_i32_11 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.muli c2_i32_11 v5
  let v20 : BitVec 32 := Scalar.addi v18 v19
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.addi v20 v8
  let c0_i32_23 : BitVec 32 := 0#32
  let c0_i32_24 : BitVec 32 := 0#32
  ![v21.toNat, 0, 0]
def k0_off3 (d0 : Dev nD) : Fin 3 → Nat :=
  let c4_i32_14 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v26 : BitVec 32 := Scalar.muli c4_i32_14 v2
  let c2_i32_15 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.muli c2_i32_15 v5
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v29 : BitVec 32 := Scalar.addi v28 v8
  let c0_i32_28 : BitVec 32 := 0#32
  let c0_i32_29 : BitVec 32 := 0#32
  ![v29.toNat, 0, 0]
def k0_off4 (d0 : Dev nD) : Fin 3 → Nat :=
  let c4_i32_16 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v30 : BitVec 32 := Scalar.muli c4_i32_16 v2
  let c2_i32_17 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_17 v5
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v33 : BitVec 32 := Scalar.addi v32 v8
  let c0_i32_31 : BitVec 32 := 0#32
  let c0_i32_32 : BitVec 32 := 0#32
  ![v33.toNat, 0, 0]
def k0_off5 (d0 : Dev nD) : Fin 3 → Nat :=
  let c4_i32_18 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.muli c4_i32_18 v2
  let c2_i32_19 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v35 : BitVec 32 := Scalar.muli c2_i32_19 v5
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.addi v36 v8
  let c0_i32_33 : BitVec 32 := 0#32
  let c0_i32_34 : BitVec 32 := 0#32
  ![v37.toNat, 0, 0]
def k0_dev1 (d0 : Dev nD) : Nat :=
  let c0_i32_88 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_87 : BitVec 32 := 4#32
  let v158 : BitVec 32 := Scalar.muli v2 c4_i32_87
  let v159 : BitVec 32 := Scalar.addi c0_i32_88 v158
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_89 : BitVec 32 := 2#32
  let v160 : BitVec 32 := Scalar.muli v5 c2_i32_89
  let v161 : BitVec 32 := Scalar.addi v159 v160
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_90 : BitVec 32 := 1#32
  let v162 : BitVec 32 := Scalar.muli v9 c1_i32_90
  let v163 : BitVec 32 := Scalar.addi v161 v162
  v163.toNat
def k0_dev2 (d0 : Dev nD) : Nat :=
  let c0_i32_98 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_97 : BitVec 32 := 4#32
  let v170 : BitVec 32 := Scalar.muli v10 c4_i32_97
  let v171 : BitVec 32 := Scalar.addi c0_i32_98 v170
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_99 : BitVec 32 := 2#32
  let v172 : BitVec 32 := Scalar.muli v5 c2_i32_99
  let v173 : BitVec 32 := Scalar.addi v171 v172
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_100 : BitVec 32 := 1#32
  let v174 : BitVec 32 := Scalar.muli v8 c1_i32_100
  let v175 : BitVec 32 := Scalar.addi v173 v174
  v175.toNat
def k0_dev3 (d0 : Dev nD) : Nat :=
  let c0_i32_108 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_107 : BitVec 32 := 4#32
  let v182 : BitVec 32 := Scalar.muli v2 c4_i32_107
  let v183 : BitVec 32 := Scalar.addi c0_i32_108 v182
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_109 : BitVec 32 := 2#32
  let v184 : BitVec 32 := Scalar.muli v11 c2_i32_109
  let v185 : BitVec 32 := Scalar.addi v183 v184
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_110 : BitVec 32 := 1#32
  let v186 : BitVec 32 := Scalar.muli v8 c1_i32_110
  let v187 : BitVec 32 := Scalar.addi v185 v186
  v187.toNat
def k0_dev4 (d0 : Dev nD) : Nat :=
  let c0_i32_118 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_117 : BitVec 32 := 4#32
  let v194 : BitVec 32 := Scalar.muli v12 c4_i32_117
  let v195 : BitVec 32 := Scalar.addi c0_i32_118 v194
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_119 : BitVec 32 := 2#32
  let v196 : BitVec 32 := Scalar.muli v13 c2_i32_119
  let v197 : BitVec 32 := Scalar.addi v195 v196
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_120 : BitVec 32 := 1#32
  let v198 : BitVec 32 := Scalar.muli v8 c1_i32_120
  let v199 : BitVec 32 := Scalar.addi v197 v198
  v199.toNat
def k0_dev5 (d0 : Dev nD) : Nat :=
  let c0_i32_128 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_127 : BitVec 32 := 4#32
  let v206 : BitVec 32 := Scalar.muli v2 c4_i32_127
  let v207 : BitVec 32 := Scalar.addi c0_i32_128 v206
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_129 : BitVec 32 := 2#32
  let v208 : BitVec 32 := Scalar.muli v5 c2_i32_129
  let v209 : BitVec 32 := Scalar.addi v207 v208
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_130 : BitVec 32 := 1#32
  let v210 : BitVec 32 := Scalar.muli v9 c1_i32_130
  let v211 : BitVec 32 := Scalar.addi v209 v210
  v211.toNat
def k0_dev6 (d0 : Dev nD) : Nat :=
  let c0_i32_138 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_137 : BitVec 32 := 4#32
  let v218 : BitVec 32 := Scalar.muli v10 c4_i32_137
  let v219 : BitVec 32 := Scalar.addi c0_i32_138 v218
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_139 : BitVec 32 := 2#32
  let v220 : BitVec 32 := Scalar.muli v5 c2_i32_139
  let v221 : BitVec 32 := Scalar.addi v219 v220
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_140 : BitVec 32 := 1#32
  let v222 : BitVec 32 := Scalar.muli v8 c1_i32_140
  let v223 : BitVec 32 := Scalar.addi v221 v222
  v223.toNat
def k0_dev7 (d0 : Dev nD) : Nat :=
  let c0_i32_148 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_147 : BitVec 32 := 4#32
  let v230 : BitVec 32 := Scalar.muli v2 c4_i32_147
  let v231 : BitVec 32 := Scalar.addi c0_i32_148 v230
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_149 : BitVec 32 := 2#32
  let v232 : BitVec 32 := Scalar.muli v11 c2_i32_149
  let v233 : BitVec 32 := Scalar.addi v231 v232
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_150 : BitVec 32 := 1#32
  let v234 : BitVec 32 := Scalar.muli v8 c1_i32_150
  let v235 : BitVec 32 := Scalar.addi v233 v234
  v235.toNat
def k0_dev8 (d0 : Dev nD) : Nat :=
  let c0_i32_158 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_157 : BitVec 32 := 4#32
  let v242 : BitVec 32 := Scalar.muli v12 c4_i32_157
  let v243 : BitVec 32 := Scalar.addi c0_i32_158 v242
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_159 : BitVec 32 := 2#32
  let v244 : BitVec 32 := Scalar.muli v13 c2_i32_159
  let v245 : BitVec 32 := Scalar.addi v243 v244
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_160 : BitVec 32 := 1#32
  let v246 : BitVec 32 := Scalar.muli v8 c1_i32_160
  let v247 : BitVec 32 := Scalar.addi v245 v246
  v247.toNat
def k0_dev9 (d0 : Dev nD) : Nat :=
  let c0_i32_168 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_167 : BitVec 32 := 4#32
  let v254 : BitVec 32 := Scalar.muli v2 c4_i32_167
  let v255 : BitVec 32 := Scalar.addi c0_i32_168 v254
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_169 : BitVec 32 := 2#32
  let v256 : BitVec 32 := Scalar.muli v5 c2_i32_169
  let v257 : BitVec 32 := Scalar.addi v255 v256
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_170 : BitVec 32 := 1#32
  let v258 : BitVec 32 := Scalar.muli v9 c1_i32_170
  let v259 : BitVec 32 := Scalar.addi v257 v258
  v259.toNat
def k0_dev10 (d0 : Dev nD) : Nat :=
  let c0_i32_178 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_177 : BitVec 32 := 4#32
  let v266 : BitVec 32 := Scalar.muli v10 c4_i32_177
  let v267 : BitVec 32 := Scalar.addi c0_i32_178 v266
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_179 : BitVec 32 := 2#32
  let v268 : BitVec 32 := Scalar.muli v5 c2_i32_179
  let v269 : BitVec 32 := Scalar.addi v267 v268
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_180 : BitVec 32 := 1#32
  let v270 : BitVec 32 := Scalar.muli v8 c1_i32_180
  let v271 : BitVec 32 := Scalar.addi v269 v270
  v271.toNat
def k0_dev11 (d0 : Dev nD) : Nat :=
  let c0_i32_188 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_187 : BitVec 32 := 4#32
  let v278 : BitVec 32 := Scalar.muli v2 c4_i32_187
  let v279 : BitVec 32 := Scalar.addi c0_i32_188 v278
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_189 : BitVec 32 := 2#32
  let v280 : BitVec 32 := Scalar.muli v11 c2_i32_189
  let v281 : BitVec 32 := Scalar.addi v279 v280
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_190 : BitVec 32 := 1#32
  let v282 : BitVec 32 := Scalar.muli v8 c1_i32_190
  let v283 : BitVec 32 := Scalar.addi v281 v282
  v283.toNat
def k0_dev12 (d0 : Dev nD) : Nat :=
  let c0_i32_198 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_197 : BitVec 32 := 4#32
  let v290 : BitVec 32 := Scalar.muli v12 c4_i32_197
  let v291 : BitVec 32 := Scalar.addi c0_i32_198 v290
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_199 : BitVec 32 := 2#32
  let v292 : BitVec 32 := Scalar.muli v13 c2_i32_199
  let v293 : BitVec 32 := Scalar.addi v291 v292
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_200 : BitVec 32 := 1#32
  let v294 : BitVec 32 := Scalar.muli v8 c1_i32_200
  let v295 : BitVec 32 := Scalar.addi v293 v294
  v295.toNat
def k0_dev13 (d0 : Dev nD) : Nat :=
  let c0_i32_208 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_207 : BitVec 32 := 4#32
  let v302 : BitVec 32 := Scalar.muli v2 c4_i32_207
  let v303 : BitVec 32 := Scalar.addi c0_i32_208 v302
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_209 : BitVec 32 := 2#32
  let v304 : BitVec 32 := Scalar.muli v5 c2_i32_209
  let v305 : BitVec 32 := Scalar.addi v303 v304
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_210 : BitVec 32 := 1#32
  let v306 : BitVec 32 := Scalar.muli v9 c1_i32_210
  let v307 : BitVec 32 := Scalar.addi v305 v306
  v307.toNat
def k0_dev14 (d0 : Dev nD) : Nat :=
  let c0_i32_218 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_217 : BitVec 32 := 4#32
  let v314 : BitVec 32 := Scalar.muli v10 c4_i32_217
  let v315 : BitVec 32 := Scalar.addi c0_i32_218 v314
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_219 : BitVec 32 := 2#32
  let v316 : BitVec 32 := Scalar.muli v5 c2_i32_219
  let v317 : BitVec 32 := Scalar.addi v315 v316
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_220 : BitVec 32 := 1#32
  let v318 : BitVec 32 := Scalar.muli v8 c1_i32_220
  let v319 : BitVec 32 := Scalar.addi v317 v318
  v319.toNat
def k0_dev15 (d0 : Dev nD) : Nat :=
  let c0_i32_228 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_227 : BitVec 32 := 4#32
  let v326 : BitVec 32 := Scalar.muli v2 c4_i32_227
  let v327 : BitVec 32 := Scalar.addi c0_i32_228 v326
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_229 : BitVec 32 := 2#32
  let v328 : BitVec 32 := Scalar.muli v11 c2_i32_229
  let v329 : BitVec 32 := Scalar.addi v327 v328
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_230 : BitVec 32 := 1#32
  let v330 : BitVec 32 := Scalar.muli v8 c1_i32_230
  let v331 : BitVec 32 := Scalar.addi v329 v330
  v331.toNat
def k0_dev16 (d0 : Dev nD) : Nat :=
  let c0_i32_238 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_237 : BitVec 32 := 4#32
  let v338 : BitVec 32 := Scalar.muli v12 c4_i32_237
  let v339 : BitVec 32 := Scalar.addi c0_i32_238 v338
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_239 : BitVec 32 := 2#32
  let v340 : BitVec 32 := Scalar.muli v13 c2_i32_239
  let v341 : BitVec 32 := Scalar.addi v339 v340
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_240 : BitVec 32 := 1#32
  let v342 : BitVec 32 := Scalar.muli v8 c1_i32_240
  let v343 : BitVec 32 := Scalar.addi v341 v342
  v343.toNat
def k0_dev17 (d0 : Dev nD) : Nat :=
  let c0_i32_248 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_247 : BitVec 32 := 4#32
  let v350 : BitVec 32 := Scalar.muli v2 c4_i32_247
  let v351 : BitVec 32 := Scalar.addi c0_i32_248 v350
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_249 : BitVec 32 := 2#32
  let v352 : BitVec 32 := Scalar.muli v5 c2_i32_249
  let v353 : BitVec 32 := Scalar.addi v351 v352
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_250 : BitVec 32 := 1#32
  let v354 : BitVec 32 := Scalar.muli v9 c1_i32_250
  let v355 : BitVec 32 := Scalar.addi v353 v354
  v355.toNat
def k0_dev18 (d0 : Dev nD) : Nat :=
  let c0_i32_258 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_257 : BitVec 32 := 4#32
  let v362 : BitVec 32 := Scalar.muli v10 c4_i32_257
  let v363 : BitVec 32 := Scalar.addi c0_i32_258 v362
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_259 : BitVec 32 := 2#32
  let v364 : BitVec 32 := Scalar.muli v5 c2_i32_259
  let v365 : BitVec 32 := Scalar.addi v363 v364
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_260 : BitVec 32 := 1#32
  let v366 : BitVec 32 := Scalar.muli v8 c1_i32_260
  let v367 : BitVec 32 := Scalar.addi v365 v366
  v367.toNat
def k0_dev19 (d0 : Dev nD) : Nat :=
  let c0_i32_268 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_267 : BitVec 32 := 4#32
  let v374 : BitVec 32 := Scalar.muli v2 c4_i32_267
  let v375 : BitVec 32 := Scalar.addi c0_i32_268 v374
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_269 : BitVec 32 := 2#32
  let v376 : BitVec 32 := Scalar.muli v11 c2_i32_269
  let v377 : BitVec 32 := Scalar.addi v375 v376
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_270 : BitVec 32 := 1#32
  let v378 : BitVec 32 := Scalar.muli v8 c1_i32_270
  let v379 : BitVec 32 := Scalar.addi v377 v378
  v379.toNat
def k0_dev20 (d0 : Dev nD) : Nat :=
  let c0_i32_278 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_277 : BitVec 32 := 4#32
  let v386 : BitVec 32 := Scalar.muli v12 c4_i32_277
  let v387 : BitVec 32 := Scalar.addi c0_i32_278 v386
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_279 : BitVec 32 := 2#32
  let v388 : BitVec 32 := Scalar.muli v13 c2_i32_279
  let v389 : BitVec 32 := Scalar.addi v387 v388
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_280 : BitVec 32 := 1#32
  let v390 : BitVec 32 := Scalar.muli v8 c1_i32_280
  let v391 : BitVec 32 := Scalar.addi v389 v390
  v391.toNat
def k0_dev21 (d0 : Dev nD) : Nat :=
  let c0_i32_288 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_287 : BitVec 32 := 4#32
  let v398 : BitVec 32 := Scalar.muli v2 c4_i32_287
  let v399 : BitVec 32 := Scalar.addi c0_i32_288 v398
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_289 : BitVec 32 := 2#32
  let v400 : BitVec 32 := Scalar.muli v5 c2_i32_289
  let v401 : BitVec 32 := Scalar.addi v399 v400
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_290 : BitVec 32 := 1#32
  let v402 : BitVec 32 := Scalar.muli v9 c1_i32_290
  let v403 : BitVec 32 := Scalar.addi v401 v402
  v403.toNat
def k0_dev22 (d0 : Dev nD) : Nat :=
  let c0_i32_298 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_297 : BitVec 32 := 4#32
  let v410 : BitVec 32 := Scalar.muli v10 c4_i32_297
  let v411 : BitVec 32 := Scalar.addi c0_i32_298 v410
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_299 : BitVec 32 := 2#32
  let v412 : BitVec 32 := Scalar.muli v5 c2_i32_299
  let v413 : BitVec 32 := Scalar.addi v411 v412
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_300 : BitVec 32 := 1#32
  let v414 : BitVec 32 := Scalar.muli v8 c1_i32_300
  let v415 : BitVec 32 := Scalar.addi v413 v414
  v415.toNat
def k0_dev23 (d0 : Dev nD) : Nat :=
  let c0_i32_308 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_307 : BitVec 32 := 4#32
  let v422 : BitVec 32 := Scalar.muli v2 c4_i32_307
  let v423 : BitVec 32 := Scalar.addi c0_i32_308 v422
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_309 : BitVec 32 := 2#32
  let v424 : BitVec 32 := Scalar.muli v11 c2_i32_309
  let v425 : BitVec 32 := Scalar.addi v423 v424
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_310 : BitVec 32 := 1#32
  let v426 : BitVec 32 := Scalar.muli v8 c1_i32_310
  let v427 : BitVec 32 := Scalar.addi v425 v426
  v427.toNat
def k0_dev24 (d0 : Dev nD) : Nat :=
  let c0_i32_318 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_317 : BitVec 32 := 4#32
  let v434 : BitVec 32 := Scalar.muli v12 c4_i32_317
  let v435 : BitVec 32 := Scalar.addi c0_i32_318 v434
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_319 : BitVec 32 := 2#32
  let v436 : BitVec 32 := Scalar.muli v13 c2_i32_319
  let v437 : BitVec 32 := Scalar.addi v435 v436
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_320 : BitVec 32 := 1#32
  let v438 : BitVec 32 := Scalar.muli v8 c1_i32_320
  let v439 : BitVec 32 := Scalar.addi v437 v438
  v439.toNat
def k0_off6 (d0 : Dev nD) : Fin 3 → Nat :=
  let c4_i32_325 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v450 : BitVec 32 := Scalar.muli c4_i32_325 v10
  let c2_i32_326 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v451 : BitVec 32 := Scalar.muli c2_i32_326 v5
  let v452 : BitVec 32 := Scalar.addi v450 v451
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v453 : BitVec 32 := Scalar.addi v452 v8
  let c0_i32_335 : BitVec 32 := 0#32
  let c0_i32_336 : BitVec 32 := 0#32
  ![v453.toNat, 0, 0]
def k0_dev25 (d0 : Dev nD) : Nat :=
  let c0_i32_348 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_347 : BitVec 32 := 4#32
  let v474 : BitVec 32 := Scalar.muli v2 c4_i32_347
  let v475 : BitVec 32 := Scalar.addi c0_i32_348 v474
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_349 : BitVec 32 := 2#32
  let v476 : BitVec 32 := Scalar.muli v5 c2_i32_349
  let v477 : BitVec 32 := Scalar.addi v475 v476
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_350 : BitVec 32 := 1#32
  let v478 : BitVec 32 := Scalar.muli v9 c1_i32_350
  let v479 : BitVec 32 := Scalar.addi v477 v478
  v479.toNat
def k0_off7 (d0 : Dev nD) : Fin 3 → Nat :=
  let c4_i32_357 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v492 : BitVec 32 := Scalar.muli c4_i32_357 v10
  let c2_i32_358 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v493 : BitVec 32 := Scalar.muli c2_i32_358 v5
  let v494 : BitVec 32 := Scalar.addi v492 v493
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v495 : BitVec 32 := Scalar.addi v494 v8
  let c0_i32_367 : BitVec 32 := 0#32
  let c0_i32_368 : BitVec 32 := 0#32
  ![v495.toNat, 0, 0]
def k0_dev26 (d0 : Dev nD) : Nat :=
  let c0_i32_380 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_379 : BitVec 32 := 4#32
  let v516 : BitVec 32 := Scalar.muli v2 c4_i32_379
  let v517 : BitVec 32 := Scalar.addi c0_i32_380 v516
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_381 : BitVec 32 := 2#32
  let v518 : BitVec 32 := Scalar.muli v5 c2_i32_381
  let v519 : BitVec 32 := Scalar.addi v517 v518
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_382 : BitVec 32 := 1#32
  let v520 : BitVec 32 := Scalar.muli v9 c1_i32_382
  let v521 : BitVec 32 := Scalar.addi v519 v520
  v521.toNat
def k0_dev27 (d0 : Dev nD) : Nat :=
  let c0_i32_412 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_411 : BitVec 32 := 4#32
  let v558 : BitVec 32 := Scalar.muli v2 c4_i32_411
  let v559 : BitVec 32 := Scalar.addi c0_i32_412 v558
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_413 : BitVec 32 := 2#32
  let v560 : BitVec 32 := Scalar.muli v5 c2_i32_413
  let v561 : BitVec 32 := Scalar.addi v559 v560
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_414 : BitVec 32 := 1#32
  let v562 : BitVec 32 := Scalar.muli v9 c1_i32_414
  let v563 : BitVec 32 := Scalar.addi v561 v562
  v563.toNat
def k0_off8 (d0 : Dev nD) : Fin 3 → Nat :=
  let c4_i32_421 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v576 : BitVec 32 := Scalar.muli c4_i32_421 v10
  let c2_i32_422 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v577 : BitVec 32 := Scalar.muli c2_i32_422 v5
  let v578 : BitVec 32 := Scalar.addi v576 v577
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v579 : BitVec 32 := Scalar.addi v578 v8
  let c0_i32_431 : BitVec 32 := 0#32
  let c0_i32_432 : BitVec 32 := 0#32
  ![v579.toNat, 0, 0]
def k0_dev28 (d0 : Dev nD) : Nat :=
  let c0_i32_444 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_443 : BitVec 32 := 4#32
  let v600 : BitVec 32 := Scalar.muli v2 c4_i32_443
  let v601 : BitVec 32 := Scalar.addi c0_i32_444 v600
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_445 : BitVec 32 := 2#32
  let v602 : BitVec 32 := Scalar.muli v5 c2_i32_445
  let v603 : BitVec 32 := Scalar.addi v601 v602
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_446 : BitVec 32 := 1#32
  let v604 : BitVec 32 := Scalar.muli v9 c1_i32_446
  let v605 : BitVec 32 := Scalar.addi v603 v604
  v605.toNat
def k0_off9 (d0 : Dev nD) : Fin 3 → Nat :=
  let c4_i32_453 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v618 : BitVec 32 := Scalar.muli c4_i32_453 v10
  let c2_i32_454 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v619 : BitVec 32 := Scalar.muli c2_i32_454 v5
  let v620 : BitVec 32 := Scalar.addi v618 v619
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v621 : BitVec 32 := Scalar.addi v620 v8
  let c0_i32_463 : BitVec 32 := 0#32
  let c0_i32_464 : BitVec 32 := 0#32
  ![v621.toNat, 0, 0]
def k0_dev29 (d0 : Dev nD) : Nat :=
  let c0_i32_476 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_475 : BitVec 32 := 4#32
  let v642 : BitVec 32 := Scalar.muli v2 c4_i32_475
  let v643 : BitVec 32 := Scalar.addi c0_i32_476 v642
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_477 : BitVec 32 := 2#32
  let v644 : BitVec 32 := Scalar.muli v5 c2_i32_477
  let v645 : BitVec 32 := Scalar.addi v643 v644
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_478 : BitVec 32 := 1#32
  let v646 : BitVec 32 := Scalar.muli v9 c1_i32_478
  let v647 : BitVec 32 := Scalar.addi v645 v646
  v647.toNat
def k0_off10 (d0 : Dev nD) : Fin 3 → Nat :=
  let c4_i32_485 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v660 : BitVec 32 := Scalar.muli c4_i32_485 v10
  let c2_i32_486 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v661 : BitVec 32 := Scalar.muli c2_i32_486 v5
  let v662 : BitVec 32 := Scalar.addi v660 v661
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v663 : BitVec 32 := Scalar.addi v662 v8
  let c0_i32_495 : BitVec 32 := 0#32
  let c0_i32_496 : BitVec 32 := 0#32
  ![v663.toNat, 0, 0]
def k0_dev30 (d0 : Dev nD) : Nat :=
  let c0_i32_508 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_507 : BitVec 32 := 4#32
  let v684 : BitVec 32 := Scalar.muli v2 c4_i32_507
  let v685 : BitVec 32 := Scalar.addi c0_i32_508 v684
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_509 : BitVec 32 := 2#32
  let v686 : BitVec 32 := Scalar.muli v5 c2_i32_509
  let v687 : BitVec 32 := Scalar.addi v685 v686
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_510 : BitVec 32 := 1#32
  let v688 : BitVec 32 := Scalar.muli v9 c1_i32_510
  let v689 : BitVec 32 := Scalar.addi v687 v688
  v689.toNat
def k0_off11 (d0 : Dev nD) : Fin 3 → Nat :=
  let c4_i32_517 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v702 : BitVec 32 := Scalar.muli c4_i32_517 v2
  let c2_i32_518 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v703 : BitVec 32 := Scalar.muli c2_i32_518 v11
  let v704 : BitVec 32 := Scalar.addi v702 v703
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v705 : BitVec 32 := Scalar.addi v704 v8
  let c0_i32_527 : BitVec 32 := 0#32
  let c0_i32_528 : BitVec 32 := 0#32
  ![v705.toNat, 0, 0]
def k0_dev31 (d0 : Dev nD) : Nat :=
  let c0_i32_540 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_539 : BitVec 32 := 4#32
  let v726 : BitVec 32 := Scalar.muli v2 c4_i32_539
  let v727 : BitVec 32 := Scalar.addi c0_i32_540 v726
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_541 : BitVec 32 := 2#32
  let v728 : BitVec 32 := Scalar.muli v5 c2_i32_541
  let v729 : BitVec 32 := Scalar.addi v727 v728
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_542 : BitVec 32 := 1#32
  let v730 : BitVec 32 := Scalar.muli v9 c1_i32_542
  let v731 : BitVec 32 := Scalar.addi v729 v730
  v731.toNat
def k0_off12 (d0 : Dev nD) : Fin 3 → Nat :=
  let c4_i32_549 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v744 : BitVec 32 := Scalar.muli c4_i32_549 v2
  let c2_i32_550 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v745 : BitVec 32 := Scalar.muli c2_i32_550 v11
  let v746 : BitVec 32 := Scalar.addi v744 v745
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v747 : BitVec 32 := Scalar.addi v746 v8
  let c0_i32_559 : BitVec 32 := 0#32
  let c0_i32_560 : BitVec 32 := 0#32
  ![v747.toNat, 0, 0]
def k0_dev32 (d0 : Dev nD) : Nat :=
  let c0_i32_572 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_571 : BitVec 32 := 4#32
  let v768 : BitVec 32 := Scalar.muli v2 c4_i32_571
  let v769 : BitVec 32 := Scalar.addi c0_i32_572 v768
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_573 : BitVec 32 := 2#32
  let v770 : BitVec 32 := Scalar.muli v5 c2_i32_573
  let v771 : BitVec 32 := Scalar.addi v769 v770
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_574 : BitVec 32 := 1#32
  let v772 : BitVec 32 := Scalar.muli v9 c1_i32_574
  let v773 : BitVec 32 := Scalar.addi v771 v772
  v773.toNat
def k0_dev33 (d0 : Dev nD) : Nat :=
  let c0_i32_604 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_603 : BitVec 32 := 4#32
  let v810 : BitVec 32 := Scalar.muli v2 c4_i32_603
  let v811 : BitVec 32 := Scalar.addi c0_i32_604 v810
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_605 : BitVec 32 := 2#32
  let v812 : BitVec 32 := Scalar.muli v5 c2_i32_605
  let v813 : BitVec 32 := Scalar.addi v811 v812
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_606 : BitVec 32 := 1#32
  let v814 : BitVec 32 := Scalar.muli v9 c1_i32_606
  let v815 : BitVec 32 := Scalar.addi v813 v814
  v815.toNat
def k0_off13 (d0 : Dev nD) : Fin 3 → Nat :=
  let c4_i32_613 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v828 : BitVec 32 := Scalar.muli c4_i32_613 v2
  let c2_i32_614 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v829 : BitVec 32 := Scalar.muli c2_i32_614 v11
  let v830 : BitVec 32 := Scalar.addi v828 v829
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v831 : BitVec 32 := Scalar.addi v830 v8
  let c0_i32_623 : BitVec 32 := 0#32
  let c0_i32_624 : BitVec 32 := 0#32
  ![v831.toNat, 0, 0]
def k0_dev34 (d0 : Dev nD) : Nat :=
  let c0_i32_636 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_635 : BitVec 32 := 4#32
  let v852 : BitVec 32 := Scalar.muli v2 c4_i32_635
  let v853 : BitVec 32 := Scalar.addi c0_i32_636 v852
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_637 : BitVec 32 := 2#32
  let v854 : BitVec 32 := Scalar.muli v5 c2_i32_637
  let v855 : BitVec 32 := Scalar.addi v853 v854
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_638 : BitVec 32 := 1#32
  let v856 : BitVec 32 := Scalar.muli v9 c1_i32_638
  let v857 : BitVec 32 := Scalar.addi v855 v856
  v857.toNat
def k0_off14 (d0 : Dev nD) : Fin 3 → Nat :=
  let c4_i32_645 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v870 : BitVec 32 := Scalar.muli c4_i32_645 v2
  let c2_i32_646 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v871 : BitVec 32 := Scalar.muli c2_i32_646 v11
  let v872 : BitVec 32 := Scalar.addi v870 v871
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v873 : BitVec 32 := Scalar.addi v872 v8
  let c0_i32_655 : BitVec 32 := 0#32
  let c0_i32_656 : BitVec 32 := 0#32
  ![v873.toNat, 0, 0]
def k0_dev35 (d0 : Dev nD) : Nat :=
  let c0_i32_668 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_667 : BitVec 32 := 4#32
  let v894 : BitVec 32 := Scalar.muli v2 c4_i32_667
  let v895 : BitVec 32 := Scalar.addi c0_i32_668 v894
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_669 : BitVec 32 := 2#32
  let v896 : BitVec 32 := Scalar.muli v5 c2_i32_669
  let v897 : BitVec 32 := Scalar.addi v895 v896
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_670 : BitVec 32 := 1#32
  let v898 : BitVec 32 := Scalar.muli v9 c1_i32_670
  let v899 : BitVec 32 := Scalar.addi v897 v898
  v899.toNat
def k0_off15 (d0 : Dev nD) : Fin 3 → Nat :=
  let c4_i32_677 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v912 : BitVec 32 := Scalar.muli c4_i32_677 v2
  let c2_i32_678 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v913 : BitVec 32 := Scalar.muli c2_i32_678 v11
  let v914 : BitVec 32 := Scalar.addi v912 v913
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v915 : BitVec 32 := Scalar.addi v914 v8
  let c0_i32_687 : BitVec 32 := 0#32
  let c0_i32_688 : BitVec 32 := 0#32
  ![v915.toNat, 0, 0]
def k0_dev36 (d0 : Dev nD) : Nat :=
  let c0_i32_700 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_699 : BitVec 32 := 4#32
  let v936 : BitVec 32 := Scalar.muli v2 c4_i32_699
  let v937 : BitVec 32 := Scalar.addi c0_i32_700 v936
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_701 : BitVec 32 := 2#32
  let v938 : BitVec 32 := Scalar.muli v5 c2_i32_701
  let v939 : BitVec 32 := Scalar.addi v937 v938
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_702 : BitVec 32 := 1#32
  let v940 : BitVec 32 := Scalar.muli v9 c1_i32_702
  let v941 : BitVec 32 := Scalar.addi v939 v940
  v941.toNat
def k0_off16 (d0 : Dev nD) : Fin 3 → Nat :=
  let c4_i32_709 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v954 : BitVec 32 := Scalar.muli c4_i32_709 v12
  let c2_i32_710 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v955 : BitVec 32 := Scalar.muli c2_i32_710 v13
  let v956 : BitVec 32 := Scalar.addi v954 v955
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v957 : BitVec 32 := Scalar.addi v956 v8
  let c0_i32_719 : BitVec 32 := 0#32
  let c0_i32_720 : BitVec 32 := 0#32
  ![v957.toNat, 0, 0]
def k0_dev37 (d0 : Dev nD) : Nat :=
  let c0_i32_731 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_730 : BitVec 32 := 4#32
  let v978 : BitVec 32 := Scalar.muli v2 c4_i32_730
  let v979 : BitVec 32 := Scalar.addi c0_i32_731 v978
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_732 : BitVec 32 := 2#32
  let v980 : BitVec 32 := Scalar.muli v5 c2_i32_732
  let v981 : BitVec 32 := Scalar.addi v979 v980
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_733 : BitVec 32 := 1#32
  let v982 : BitVec 32 := Scalar.muli v9 c1_i32_733
  let v983 : BitVec 32 := Scalar.addi v981 v982
  v983.toNat
def k0_off17 (d0 : Dev nD) : Fin 3 → Nat :=
  let c4_i32_740 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v996 : BitVec 32 := Scalar.muli c4_i32_740 v12
  let c2_i32_741 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v997 : BitVec 32 := Scalar.muli c2_i32_741 v13
  let v998 : BitVec 32 := Scalar.addi v996 v997
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v999 : BitVec 32 := Scalar.addi v998 v8
  let c0_i32_750 : BitVec 32 := 0#32
  let c0_i32_751 : BitVec 32 := 0#32
  ![v999.toNat, 0, 0]
def k0_dev38 (d0 : Dev nD) : Nat :=
  let c0_i32_763 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_762 : BitVec 32 := 4#32
  let v1020 : BitVec 32 := Scalar.muli v2 c4_i32_762
  let v1021 : BitVec 32 := Scalar.addi c0_i32_763 v1020
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_764 : BitVec 32 := 2#32
  let v1022 : BitVec 32 := Scalar.muli v5 c2_i32_764
  let v1023 : BitVec 32 := Scalar.addi v1021 v1022
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_765 : BitVec 32 := 1#32
  let v1024 : BitVec 32 := Scalar.muli v9 c1_i32_765
  let v1025 : BitVec 32 := Scalar.addi v1023 v1024
  v1025.toNat
def k0_dev39 (d0 : Dev nD) : Nat :=
  let c0_i32_795 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_794 : BitVec 32 := 4#32
  let v1062 : BitVec 32 := Scalar.muli v2 c4_i32_794
  let v1063 : BitVec 32 := Scalar.addi c0_i32_795 v1062
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_796 : BitVec 32 := 2#32
  let v1064 : BitVec 32 := Scalar.muli v5 c2_i32_796
  let v1065 : BitVec 32 := Scalar.addi v1063 v1064
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_797 : BitVec 32 := 1#32
  let v1066 : BitVec 32 := Scalar.muli v9 c1_i32_797
  let v1067 : BitVec 32 := Scalar.addi v1065 v1066
  v1067.toNat
def k0_off18 (d0 : Dev nD) : Fin 3 → Nat :=
  let c4_i32_804 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1080 : BitVec 32 := Scalar.muli c4_i32_804 v12
  let c2_i32_805 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1081 : BitVec 32 := Scalar.muli c2_i32_805 v13
  let v1082 : BitVec 32 := Scalar.addi v1080 v1081
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1083 : BitVec 32 := Scalar.addi v1082 v8
  let c0_i32_814 : BitVec 32 := 0#32
  let c0_i32_815 : BitVec 32 := 0#32
  ![v1083.toNat, 0, 0]
def k0_dev40 (d0 : Dev nD) : Nat :=
  let c0_i32_827 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_826 : BitVec 32 := 4#32
  let v1104 : BitVec 32 := Scalar.muli v2 c4_i32_826
  let v1105 : BitVec 32 := Scalar.addi c0_i32_827 v1104
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_828 : BitVec 32 := 2#32
  let v1106 : BitVec 32 := Scalar.muli v5 c2_i32_828
  let v1107 : BitVec 32 := Scalar.addi v1105 v1106
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_829 : BitVec 32 := 1#32
  let v1108 : BitVec 32 := Scalar.muli v9 c1_i32_829
  let v1109 : BitVec 32 := Scalar.addi v1107 v1108
  v1109.toNat
def k0_off19 (d0 : Dev nD) : Fin 3 → Nat :=
  let c4_i32_836 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1122 : BitVec 32 := Scalar.muli c4_i32_836 v12
  let c2_i32_837 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1123 : BitVec 32 := Scalar.muli c2_i32_837 v13
  let v1124 : BitVec 32 := Scalar.addi v1122 v1123
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1125 : BitVec 32 := Scalar.addi v1124 v8
  let c0_i32_846 : BitVec 32 := 0#32
  let c0_i32_847 : BitVec 32 := 0#32
  ![v1125.toNat, 0, 0]
def k0_dev41 (d0 : Dev nD) : Nat :=
  let c0_i32_859 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_858 : BitVec 32 := 4#32
  let v1146 : BitVec 32 := Scalar.muli v2 c4_i32_858
  let v1147 : BitVec 32 := Scalar.addi c0_i32_859 v1146
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_860 : BitVec 32 := 2#32
  let v1148 : BitVec 32 := Scalar.muli v5 c2_i32_860
  let v1149 : BitVec 32 := Scalar.addi v1147 v1148
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_861 : BitVec 32 := 1#32
  let v1150 : BitVec 32 := Scalar.muli v9 c1_i32_861
  let v1151 : BitVec 32 := Scalar.addi v1149 v1150
  v1151.toNat
def k0_off20 (d0 : Dev nD) : Fin 3 → Nat :=
  let c4_i32_868 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1164 : BitVec 32 := Scalar.muli c4_i32_868 v12
  let c2_i32_869 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1165 : BitVec 32 := Scalar.muli c2_i32_869 v13
  let v1166 : BitVec 32 := Scalar.addi v1164 v1165
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1167 : BitVec 32 := Scalar.addi v1166 v8
  let c0_i32_878 : BitVec 32 := 0#32
  let c0_i32_879 : BitVec 32 := 0#32
  ![v1167.toNat, 0, 0]
def k0_dev42 (d0 : Dev nD) : Nat :=
  let c0_i32_891 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_890 : BitVec 32 := 4#32
  let v1188 : BitVec 32 := Scalar.muli v2 c4_i32_890
  let v1189 : BitVec 32 := Scalar.addi c0_i32_891 v1188
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_892 : BitVec 32 := 2#32
  let v1190 : BitVec 32 := Scalar.muli v5 c2_i32_892
  let v1191 : BitVec 32 := Scalar.addi v1189 v1190
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_893 : BitVec 32 := 1#32
  let v1192 : BitVec 32 := Scalar.muli v9 c1_i32_893
  let v1193 : BitVec 32 := Scalar.addi v1191 v1192
  v1193.toNat
def k0_off21 (d0 : Dev nD) : Fin 3 → Nat :=
  let c4_i32_900 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1206 : BitVec 32 := Scalar.muli c4_i32_900 v2
  let c2_i32_901 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1207 : BitVec 32 := Scalar.muli c2_i32_901 v5
  let v1208 : BitVec 32 := Scalar.addi v1206 v1207
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1209 : BitVec 32 := Scalar.addi v1208 v9
  let c0_i32_910 : BitVec 32 := 0#32
  let c0_i32_911 : BitVec 32 := 0#32
  ![v1209.toNat, 0, 0]
def k0_off22 (d0 : Dev nD) : Fin 3 → Nat :=
  let c4_i32_917 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1227 : BitVec 32 := Scalar.muli c4_i32_917 v10
  let c2_i32_918 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1228 : BitVec 32 := Scalar.muli c2_i32_918 v5
  let v1229 : BitVec 32 := Scalar.addi v1227 v1228
  let c1_i32_914 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1222 : BitVec 32 := Scalar.subi c1_i32_914 v8
  let v1230 : BitVec 32 := Scalar.addi v1229 v1222
  let c0_i32_927 : BitVec 32 := 0#32
  let c0_i32_928 : BitVec 32 := 0#32
  ![v1230.toNat, 0, 0]
def k0_off23 (d0 : Dev nD) : Fin 3 → Nat :=
  let c4_i32_934 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1248 : BitVec 32 := Scalar.muli c4_i32_934 v2
  let c2_i32_935 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1249 : BitVec 32 := Scalar.muli c2_i32_935 v11
  let v1250 : BitVec 32 := Scalar.addi v1248 v1249
  let c1_i32_931 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1243 : BitVec 32 := Scalar.subi c1_i32_931 v8
  let v1251 : BitVec 32 := Scalar.addi v1250 v1243
  let c0_i32_944 : BitVec 32 := 0#32
  let c0_i32_945 : BitVec 32 := 0#32
  ![v1251.toNat, 0, 0]
def k0_off24 (d0 : Dev nD) : Fin 3 → Nat :=
  let c4_i32_951 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1269 : BitVec 32 := Scalar.muli c4_i32_951 v12
  let c2_i32_952 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1270 : BitVec 32 := Scalar.muli c2_i32_952 v13
  let v1271 : BitVec 32 := Scalar.addi v1269 v1270
  let c1_i32_948 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1264 : BitVec 32 := Scalar.subi c1_i32_948 v8
  let v1272 : BitVec 32 := Scalar.addi v1271 v1264
  let c0_i32_961 : BitVec 32 := 0#32
  let c0_i32_962 : BitVec 32 := 0#32
  ![v1272.toNat, 0, 0]
def k0_off25 (d0 : Dev nD) : Fin 3 → Nat :=
  let c4_i32_967 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1289 : BitVec 32 := Scalar.muli c4_i32_967 v2
  let c2_i32_968 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1290 : BitVec 32 := Scalar.muli c2_i32_968 v5
  let v1291 : BitVec 32 := Scalar.addi v1289 v1290
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1292 : BitVec 32 := Scalar.addi v1291 v9
  let c0_i32_977 : BitVec 32 := 0#32
  let c0_i32_978 : BitVec 32 := 0#32
  ![v1292.toNat, 0, 0]
def k0_off26 (d0 : Dev nD) : Fin 3 → Nat :=
  let c4_i32_984 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1310 : BitVec 32 := Scalar.muli c4_i32_984 v10
  let c2_i32_985 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1311 : BitVec 32 := Scalar.muli c2_i32_985 v5
  let v1312 : BitVec 32 := Scalar.addi v1310 v1311
  let c1_i32_981 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1305 : BitVec 32 := Scalar.subi c1_i32_981 v8
  let v1313 : BitVec 32 := Scalar.addi v1312 v1305
  let c0_i32_994 : BitVec 32 := 0#32
  let c0_i32_995 : BitVec 32 := 0#32
  ![v1313.toNat, 0, 0]
def k0_off27 (d0 : Dev nD) : Fin 3 → Nat :=
  let c4_i32_1001 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1331 : BitVec 32 := Scalar.muli c4_i32_1001 v2
  let c2_i32_1002 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1332 : BitVec 32 := Scalar.muli c2_i32_1002 v11
  let v1333 : BitVec 32 := Scalar.addi v1331 v1332
  let c1_i32_998 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1326 : BitVec 32 := Scalar.subi c1_i32_998 v8
  let v1334 : BitVec 32 := Scalar.addi v1333 v1326
  let c0_i32_1011 : BitVec 32 := 0#32
  let c0_i32_1012 : BitVec 32 := 0#32
  ![v1334.toNat, 0, 0]
def k0_off28 (d0 : Dev nD) : Fin 3 → Nat :=
  let c4_i32_1018 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1352 : BitVec 32 := Scalar.muli c4_i32_1018 v12
  let c2_i32_1019 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1353 : BitVec 32 := Scalar.muli c2_i32_1019 v13
  let v1354 : BitVec 32 := Scalar.addi v1352 v1353
  let c1_i32_1015 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1347 : BitVec 32 := Scalar.subi c1_i32_1015 v8
  let v1355 : BitVec 32 := Scalar.addi v1354 v1347
  let c0_i32_1028 : BitVec 32 := 0#32
  let c0_i32_1029 : BitVec 32 := 0#32
  ![v1355.toNat, 0, 0]
def k0_off29 (d0 : Dev nD) : Fin 3 → Nat :=
  let c4_i32_1101 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1455 : BitVec 32 := Scalar.muli c4_i32_1101 v2
  let c2_i32_1102 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1456 : BitVec 32 := Scalar.muli c2_i32_1102 v5
  let v1457 : BitVec 32 := Scalar.addi v1455 v1456
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1458 : BitVec 32 := Scalar.addi v1457 v9
  let c0_i32_1111 : BitVec 32 := 0#32
  let c0_i32_1112 : BitVec 32 := 0#32
  ![v1458.toNat, 0, 0]
def k0_off30 (d0 : Dev nD) : Fin 3 → Nat :=
  let c4_i32_1118 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1476 : BitVec 32 := Scalar.muli c4_i32_1118 v10
  let c2_i32_1119 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1477 : BitVec 32 := Scalar.muli c2_i32_1119 v5
  let v1478 : BitVec 32 := Scalar.addi v1476 v1477
  let c1_i32_1115 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1471 : BitVec 32 := Scalar.subi c1_i32_1115 v8
  let v1479 : BitVec 32 := Scalar.addi v1478 v1471
  let c0_i32_1128 : BitVec 32 := 0#32
  let c0_i32_1129 : BitVec 32 := 0#32
  ![v1479.toNat, 0, 0]
def k0_off31 (d0 : Dev nD) : Fin 3 → Nat :=
  let c4_i32_1135 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1497 : BitVec 32 := Scalar.muli c4_i32_1135 v2
  let c2_i32_1136 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1498 : BitVec 32 := Scalar.muli c2_i32_1136 v11
  let v1499 : BitVec 32 := Scalar.addi v1497 v1498
  let c1_i32_1132 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1492 : BitVec 32 := Scalar.subi c1_i32_1132 v8
  let v1500 : BitVec 32 := Scalar.addi v1499 v1492
  let c0_i32_1145 : BitVec 32 := 0#32
  let c0_i32_1146 : BitVec 32 := 0#32
  ![v1500.toNat, 0, 0]
def k0_off32 (d0 : Dev nD) : Fin 3 → Nat :=
  let c4_i32_1152 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1518 : BitVec 32 := Scalar.muli c4_i32_1152 v12
  let c2_i32_1153 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1519 : BitVec 32 := Scalar.muli c2_i32_1153 v13
  let v1520 : BitVec 32 := Scalar.addi v1518 v1519
  let c1_i32_1149 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1513 : BitVec 32 := Scalar.subi c1_i32_1149 v8
  let v1521 : BitVec 32 := Scalar.addi v1520 v1513
  let c0_i32_1162 : BitVec 32 := 0#32
  let c0_i32_1163 : BitVec 32 := 0#32
  ![v1521.toNat, 0, 0]
def k0_off33 (d0 : Dev nD) : Fin 3 → Nat :=
  let c4_i32_1168 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1538 : BitVec 32 := Scalar.muli c4_i32_1168 v2
  let c2_i32_1169 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1539 : BitVec 32 := Scalar.muli c2_i32_1169 v5
  let v1540 : BitVec 32 := Scalar.addi v1538 v1539
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1541 : BitVec 32 := Scalar.addi v1540 v9
  let c0_i32_1178 : BitVec 32 := 0#32
  let c0_i32_1179 : BitVec 32 := 0#32
  ![v1541.toNat, 0, 0]
def k0_off34 (d0 : Dev nD) : Fin 3 → Nat :=
  let c4_i32_1185 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1559 : BitVec 32 := Scalar.muli c4_i32_1185 v10
  let c2_i32_1186 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1560 : BitVec 32 := Scalar.muli c2_i32_1186 v5
  let v1561 : BitVec 32 := Scalar.addi v1559 v1560
  let c1_i32_1182 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1554 : BitVec 32 := Scalar.subi c1_i32_1182 v8
  let v1562 : BitVec 32 := Scalar.addi v1561 v1554
  let c0_i32_1195 : BitVec 32 := 0#32
  let c0_i32_1196 : BitVec 32 := 0#32
  ![v1562.toNat, 0, 0]
def k0_off35 (d0 : Dev nD) : Fin 3 → Nat :=
  let c4_i32_1202 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1580 : BitVec 32 := Scalar.muli c4_i32_1202 v2
  let c2_i32_1203 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1581 : BitVec 32 := Scalar.muli c2_i32_1203 v11
  let v1582 : BitVec 32 := Scalar.addi v1580 v1581
  let c1_i32_1199 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1575 : BitVec 32 := Scalar.subi c1_i32_1199 v8
  let v1583 : BitVec 32 := Scalar.addi v1582 v1575
  let c0_i32_1212 : BitVec 32 := 0#32
  let c0_i32_1213 : BitVec 32 := 0#32
  ![v1583.toNat, 0, 0]
def k0_off36 (d0 : Dev nD) : Fin 3 → Nat :=
  let c4_i32_1219 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1601 : BitVec 32 := Scalar.muli c4_i32_1219 v12
  let c2_i32_1220 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1602 : BitVec 32 := Scalar.muli c2_i32_1220 v13
  let v1603 : BitVec 32 := Scalar.addi v1601 v1602
  let c1_i32_1216 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1596 : BitVec 32 := Scalar.subi c1_i32_1216 v8
  let v1604 : BitVec 32 := Scalar.addi v1603 v1596
  let c0_i32_1229 : BitVec 32 := 0#32
  let c0_i32_1230 : BitVec 32 := 0#32
  ![v1604.toNat, 0, 0]
def k0_off37 (d0 : Dev nD) : Fin 3 → Nat :=
  let c4_i32_1235 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1621 : BitVec 32 := Scalar.muli c4_i32_1235 v2
  let c2_i32_1236 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1622 : BitVec 32 := Scalar.muli c2_i32_1236 v5
  let v1623 : BitVec 32 := Scalar.addi v1621 v1622
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1624 : BitVec 32 := Scalar.addi v1623 v9
  let c0_i32_1245 : BitVec 32 := 0#32
  let c0_i32_1246 : BitVec 32 := 0#32
  ![v1624.toNat, 0, 0]
def k0_off38 (d0 : Dev nD) : Fin 3 → Nat :=
  let c4_i32_1252 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1642 : BitVec 32 := Scalar.muli c4_i32_1252 v10
  let c2_i32_1253 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1643 : BitVec 32 := Scalar.muli c2_i32_1253 v5
  let v1644 : BitVec 32 := Scalar.addi v1642 v1643
  let c1_i32_1249 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1637 : BitVec 32 := Scalar.subi c1_i32_1249 v8
  let v1645 : BitVec 32 := Scalar.addi v1644 v1637
  let c0_i32_1262 : BitVec 32 := 0#32
  let c0_i32_1263 : BitVec 32 := 0#32
  ![v1645.toNat, 0, 0]
def k0_off39 (d0 : Dev nD) : Fin 3 → Nat :=
  let c4_i32_1269 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1663 : BitVec 32 := Scalar.muli c4_i32_1269 v2
  let c2_i32_1270 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1664 : BitVec 32 := Scalar.muli c2_i32_1270 v11
  let v1665 : BitVec 32 := Scalar.addi v1663 v1664
  let c1_i32_1266 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1658 : BitVec 32 := Scalar.subi c1_i32_1266 v8
  let v1666 : BitVec 32 := Scalar.addi v1665 v1658
  let c0_i32_1279 : BitVec 32 := 0#32
  let c0_i32_1280 : BitVec 32 := 0#32
  ![v1666.toNat, 0, 0]
def k0_off40 (d0 : Dev nD) : Fin 3 → Nat :=
  let c4_i32_1286 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1684 : BitVec 32 := Scalar.muli c4_i32_1286 v12
  let c2_i32_1287 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1685 : BitVec 32 := Scalar.muli c2_i32_1287 v13
  let v1686 : BitVec 32 := Scalar.addi v1684 v1685
  let c1_i32_1283 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1679 : BitVec 32 := Scalar.subi c1_i32_1283 v8
  let v1687 : BitVec 32 := Scalar.addi v1686 v1679
  let c0_i32_1296 : BitVec 32 := 0#32
  let c0_i32_1297 : BitVec 32 := 0#32
  ![v1687.toNat, 0, 0]
-- ==== GatherReference.lean ====
abbrev S1024x4360 : Shape := ⟨2, ![1024, 4360]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩
abbrev S1024x8x545 : Shape := ⟨3, ![1024, 8, 545]⟩
abbrev S8x1024x545 : Shape := ⟨3, ![8, 1024, 545]⟩
abbrev S512x8x128 : Shape := ⟨3, ![512, 8, 128]⟩
abbrev S8x512x128 : Shape := ⟨3, ![8, 512, 128]⟩
abbrev S8x128x1024 : Shape := ⟨3, ![8, 128, 1024]⟩
abbrev S1024x8x704 : Shape := ⟨3, ![1024, 8, 704]⟩
abbrev S8x1024x704 : Shape := ⟨3, ![8, 1024, 704]⟩
abbrev S8x352x1024 : Shape := ⟨3, ![8, 352, 1024]⟩

abbrev nBuf : Space → Nat
  | .hbm => 16
  | .vmem => 0
  | .smem => 0
  | _ => 0

abbrev bufTy : (tb : Table) → Fin (tcTables nBuf tb) → BufTy
  | .hbm, ⟨0, _⟩ => ⟨S1024x4360, .bf16⟩
  | .hbm, ⟨1, _⟩ => ⟨S512x1024, .bf16⟩
  | .hbm, ⟨2, _⟩ => ⟨S512x1024, .bf16⟩
  | .hbm, ⟨3, _⟩ => ⟨S1024x1024, .bf16⟩
  | .hbm, ⟨4, _⟩ => ⟨S1024x5632, .bf16⟩
  | .hbm, ⟨5, _⟩ => ⟨S2816x1024, .bf16⟩
  | .hbm, ⟨6, _⟩ => ⟨S1024x8x545, .bf16⟩
  | .hbm, ⟨7, _⟩ => ⟨S8x1024x545, .bf16⟩
  | .hbm, ⟨8, _⟩ => ⟨S512x8x128, .bf16⟩
  | .hbm, ⟨9, _⟩ => ⟨S8x512x128, .bf16⟩
  | .hbm, ⟨10, _⟩ => ⟨S512x8x128, .bf16⟩
  | .hbm, ⟨11, _⟩ => ⟨S8x512x128, .bf16⟩
  | .hbm, ⟨12, _⟩ => ⟨S8x128x1024, .bf16⟩
  | .hbm, ⟨13, _⟩ => ⟨S1024x8x704, .bf16⟩
  | .hbm, ⟨14, _⟩ => ⟨S8x1024x704, .bf16⟩
  | .hbm, ⟨15, _⟩ => ⟨S8x352x1024, .bf16⟩
  | _, _ => ⟨S1024x4360, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== UpdateAda.lean ====
abbrev S1x1024x768 : Shape := ⟨3, ![1, 1024, 768]⟩
abbrev S1024x768 : Shape := ⟨2, ![1024, 768]⟩
abbrev S1x256x768 : Shape := ⟨3, ![1, 256, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .local _ .vmem, ⟨0, _⟩ => ⟨S1x256x768, .f32⟩
  | .local _ .vmem, ⟨1, _⟩ => ⟨S1x256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdatedAdaIdeal.lean ====
abbrev S1x1024x768 : Shape := ⟨3, ![1, 1024, 768]⟩
abbrev S1024x768 : Shape := ⟨2, ![1024, 768]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S_, .f32⟩
  | .hbm, ⟨5, _⟩ => ⟨S1024x768, .f32⟩
  | .hbm, ⟨6, _⟩ => ⟨S_, .f32⟩
  | .hbm, ⟨7, _⟩ => ⟨S1024x768, .f32⟩
  | .hbm, ⟨8, _⟩ => ⟨S1024x768, .f32⟩
  | .hbm, ⟨9, _⟩ => ⟨S_, .f32⟩
  | .hbm, ⟨10, _⟩ => ⟨S1024x768, .f32⟩
  | .hbm, ⟨11, _⟩ => ⟨S1024x768, .f32⟩
  | .hbm, ⟨12, _⟩ => ⟨S1024x768, .f32⟩
  | .hbm, ⟨13, _⟩ => ⟨S_, .f32⟩
  | .hbm, ⟨14, _⟩ => ⟨S1024x768, .f32⟩
  | .hbm, ⟨15, _⟩ => ⟨S1024x768, .f32⟩
  | .hbm, ⟨16, _⟩ => ⟨S1024x768, .f32⟩
  | .hbm, ⟨17, _⟩ => ⟨S_, .f32⟩
  | .hbm, ⟨18, _⟩ => ⟨S1024x768, .f32⟩
  | .hbm, ⟨19, _⟩ => ⟨S1024x768, .f32⟩
  | .hbm, ⟨20, _⟩ => ⟨S1024x768, .f32⟩
  | .hbm, ⟨21, _⟩ => ⟨S_, .f32⟩
  | .hbm, ⟨22, _⟩ => ⟨S1024x768, .f32⟩
  | .hbm, ⟨23, _⟩ => ⟨S1024x768, .f32⟩
  | .hbm, ⟨24, _⟩ => ⟨S_, .f32⟩
  | .hbm, ⟨25, _⟩ => ⟨S1024x768, .f32⟩
  | .hbm, ⟨26, _⟩ => ⟨S1024x768, .f32⟩
  | .hbm, ⟨27, _⟩ => ⟨S1024x768, .f32⟩
  | .hbm, ⟨28, _⟩ => ⟨S_, .f32⟩
  | .hbm, ⟨29, _⟩ => ⟨S1024x768, .f32⟩
  | .hbm, ⟨30, _⟩ => ⟨S1024x768, .f32⟩
  | .hbm, ⟨31, _⟩ => ⟨S1024x768, .f32⟩
  | .hbm, ⟨32, _⟩ => ⟨S_, .f32⟩
  | .hbm, ⟨33, _⟩ => ⟨S1024x768, .f32⟩
  | .hbm, ⟨34, _⟩ => ⟨S1024x768, .f32⟩
  | .hbm, ⟨35, _⟩ => ⟨S1024x768, .f32⟩
  | .hbm, ⟨36, _⟩ => ⟨S_, .f32⟩
  | .hbm, ⟨37, _⟩ => ⟨S1024x768, .f32⟩
  | .hbm, ⟨38, _⟩ => ⟨S1024x768, .f32⟩
  | _, _ => ⟨S1x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== UpdateSmall.lean ====
abbrev S8x88x128 : Shape := ⟨3, ![8, 88, 128]⟩
abbrev S88x128 : Shape := ⟨2, ![88, 128]⟩
abbrev S1x88x128 : Shape := ⟨3, ![1, 88, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x88x128, .f32⟩
  | .hbm, ⟨1, _⟩ => ⟨S88x128, .f32⟩
  | .hbm, ⟨2, _⟩ => ⟨S88x128, .f32⟩
  | .hbm, ⟨3, _⟩ => ⟨S88x128, .f32⟩
  | .hbm, ⟨4, _⟩ => ⟨S88x128, .f32⟩
  | .hbm, ⟨5, _⟩ => ⟨S88x128, .f32⟩
  | .hbm, ⟨6, _⟩ => ⟨S88x128, .f32⟩
  | .hbm, ⟨7, _⟩ => ⟨S88x128, .f32⟩
  | .local _ .vmem, ⟨0, _⟩ => ⟨S8x88x128, .f32⟩
  | .local _ .vmem, ⟨1, _⟩ => ⟨S88x128, .f32⟩
  | .local _ .vmem, ⟨2, _⟩ => ⟨S88x128, .f32⟩
  | .local _ .vmem, ⟨3, _⟩ => ⟨S88x128, .f32⟩
  | .local _ .vmem, ⟨4, _⟩ => ⟨S88x128, .f32⟩
  | .local _ .vmem, ⟨5, _⟩ => ⟨S88x128, .f32⟩
  | .local _ .vmem, ⟨6, _⟩ => ⟨S88x128, .f32⟩
  | .local _ .vmem, ⟨7, _⟩ => ⟨S88x128, .f32⟩
  | _, _ => ⟨S8x88x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x88x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S88x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S88x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S88x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S88x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S88x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S88x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S88x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== UpdatedSmallIdeal.lean ====
abbrev S8x88x128 : Shape := ⟨3, ![8, 88, 128]⟩
abbrev S88x128 : Shape := ⟨2, ![88, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x88x128, .f32⟩
  | .hbm, ⟨1, _⟩ => ⟨S88x128, .f32⟩
  | .hbm, ⟨2, _⟩ => ⟨S88x128, .f32⟩
  | .hbm, ⟨3, _⟩ => ⟨S88x128, .f32⟩
  | .hbm, ⟨4, _⟩ => ⟨S_, .f32⟩
  | .hbm, ⟨5, _⟩ => ⟨S88x128, .f32⟩
  | .hbm, ⟨6, _⟩ => ⟨S_, .f32⟩
  | .hbm, ⟨7, _⟩ => ⟨S88x128, .f32⟩
  | .hbm, ⟨8, _⟩ => ⟨S88x128, .f32⟩
  | .hbm, ⟨9, _⟩ => ⟨S_, .f32⟩
  | .hbm, ⟨10, _⟩ => ⟨S88x128, .f32⟩
  | .hbm, ⟨11, _⟩ => ⟨S88x128, .f32⟩
  | .hbm, ⟨12, _⟩ => ⟨S88x128, .f32⟩
  | .hbm, ⟨13, _⟩ => ⟨S_, .f32⟩
  | .hbm, ⟨14, _⟩ => ⟨S88x128, .f32⟩
  | .hbm, ⟨15, _⟩ => ⟨S88x128, .f32⟩
  | .hbm, ⟨16, _⟩ => ⟨S88x128, .f32⟩
  | .hbm, ⟨17, _⟩ => ⟨S_, .f32⟩
  | .hbm, ⟨18, _⟩ => ⟨S88x128, .f32⟩
  | .hbm, ⟨19, _⟩ => ⟨S88x128, .f32⟩
  | .hbm, ⟨20, _⟩ => ⟨S88x128, .f32⟩
  | .hbm, ⟨21, _⟩ => ⟨S_, .f32⟩
  | .hbm, ⟨22, _⟩ => ⟨S88x128, .f32⟩
  | .hbm, ⟨23, _⟩ => ⟨S88x128, .f32⟩
  | .hbm, ⟨24, _⟩ => ⟨S_, .f32⟩
  | .hbm, ⟨25, _⟩ => ⟨S88x128, .f32⟩
  | .hbm, ⟨26, _⟩ => ⟨S88x128, .f32⟩
  | .hbm, ⟨27, _⟩ => ⟨S88x128, .f32⟩
  | .hbm, ⟨28, _⟩ => ⟨S_, .f32⟩
  | .hbm, ⟨29, _⟩ => ⟨S88x128, .f32⟩
  | .hbm, ⟨30, _⟩ => ⟨S88x128, .f32⟩
  | .hbm, ⟨31, _⟩ => ⟨S88x128, .f32⟩
  | .hbm, ⟨32, _⟩ => ⟨S_, .f32⟩
  | .hbm, ⟨33, _⟩ => ⟨S88x128, .f32⟩
  | .hbm, ⟨34, _⟩ => ⟨S88x128, .f32⟩
  | .hbm, ⟨35, _⟩ => ⟨S88x128, .f32⟩
  | .hbm, ⟨36, _⟩ => ⟨S_, .f32⟩
  | .hbm, ⟨37, _⟩ => ⟨S88x128, .f32⟩
  | .hbm, ⟨38, _⟩ => ⟨S88x128, .f32⟩
  | _, _ => ⟨S8x88x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== UpdateIn.lean ====
abbrev S8x1024x545 : Shape := ⟨3, ![8, 1024, 545]⟩
abbrev S1024x545 : Shape := ⟨2, ![1024, 545]⟩
abbrev S8x256x545 : Shape := ⟨3, ![8, 256, 545]⟩
abbrev S256x545 : Shape := ⟨2, ![256, 545]⟩
abbrev S1x256x545 : Shape := ⟨3, ![1, 256, 545]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x545, .bf16⟩
  | .hbm, ⟨1, _⟩ => ⟨S1024x545, .f32⟩
  | .hbm, ⟨2, _⟩ => ⟨S1024x545, .f32⟩
  | .hbm, ⟨3, _⟩ => ⟨S1024x545, .f32⟩
  | .hbm, ⟨4, _⟩ => ⟨S1024x545, .f32⟩
  | .hbm, ⟨5, _⟩ => ⟨S1024x545, .f32⟩
  | .hbm, ⟨6, _⟩ => ⟨S1024x545, .f32⟩
  | .hbm, ⟨7, _⟩ => ⟨S1024x545, .f32⟩
  | .local _ .vmem, ⟨0, _⟩ => ⟨S8x256x545, .bf16⟩
  | .local _ .vmem, ⟨1, _⟩ => ⟨S8x256x545, .bf16⟩
  | .local _ .vmem, ⟨2, _⟩ => ⟨S256x545, .f32⟩
  | .local _ .vmem, ⟨3, _⟩ => ⟨S256x545, .f32⟩
  | .local _ .vmem, ⟨4, _⟩ => ⟨S256x545, .f32⟩
  | .local _ .vmem, ⟨5, _⟩ => ⟨S256x545, .f32⟩
  | .local _ .vmem, ⟨6, _⟩ => ⟨S256x545, .f32⟩
  | .local _ .vmem, ⟨7, _⟩ => ⟨S256x545, .f32⟩
  | .local _ .vmem, ⟨8, _⟩ => ⟨S256x545, .f32⟩
  | .local _ .vmem, ⟨9, _⟩ => ⟨S256x545, .f32⟩
  | .local _ .vmem, ⟨10, _⟩ => ⟨S256x545, .f32⟩
  | .local _ .vmem, ⟨11, _⟩ => ⟨S256x545, .f32⟩
  | .local _ .vmem, ⟨12, _⟩ => ⟨S256x545, .f32⟩
  | .local _ .vmem, ⟨13, _⟩ => ⟨S256x545, .f32⟩
  | .local _ .vmem, ⟨14, _⟩ => ⟨S256x545, .f32⟩
  | .local _ .vmem, ⟨15, _⟩ => ⟨S256x545, .f32⟩
  | _, _ => ⟨S8x1024x545, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x545 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x545 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x545 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x545 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x545 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x545 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x545 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x545 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdatedInIdeal.lean ====
abbrev S8x1024x545 : Shape := ⟨3, ![8, 1024, 545]⟩
abbrev S1024x545 : Shape := ⟨2, ![1024, 545]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x545, .bf16⟩
  | .hbm, ⟨1, _⟩ => ⟨S1024x545, .f32⟩
  | .hbm, ⟨2, _⟩ => ⟨S1024x545, .f32⟩
  | .hbm, ⟨3, _⟩ => ⟨S1024x545, .f32⟩
  | .hbm, ⟨4, _⟩ => ⟨S8x1024x545, .f32⟩
  | .hbm, ⟨5, _⟩ => ⟨S_, .f32⟩
  | .hbm, ⟨6, _⟩ => ⟨S1024x545, .f32⟩
  | .hbm, ⟨7, _⟩ => ⟨S_, .f32⟩
  | .hbm, ⟨8, _⟩ => ⟨S1024x545, .f32⟩
  | .hbm, ⟨9, _⟩ => ⟨S1024x545, .f32⟩
  | .hbm, ⟨10, _⟩ => ⟨S_, .f32⟩
  | .hbm, ⟨11, _⟩ => ⟨S1024x545, .f32⟩
  | .hbm, ⟨12, _⟩ => ⟨S1024x545, .f32⟩
  | .hbm, ⟨13, _⟩ => ⟨S1024x545, .f32⟩
  | .hbm, ⟨14, _⟩ => ⟨S_, .f32⟩
  | .hbm, ⟨15, _⟩ => ⟨S1024x545, .f32⟩
  | .hbm, ⟨16, _⟩ => ⟨S1024x545, .f32⟩
  | .hbm, ⟨17, _⟩ => ⟨S1024x545, .f32⟩
  | .hbm, ⟨18, _⟩ => ⟨S_, .f32⟩
  | .hbm, ⟨19, _⟩ => ⟨S1024x545, .f32⟩
  | .hbm, ⟨20, _⟩ => ⟨S1024x545, .f32⟩
  | .hbm, ⟨21, _⟩ => ⟨S1024x545, .f32⟩
  | .hbm, ⟨22, _⟩ => ⟨S_, .f32⟩
  | .hbm, ⟨23, _⟩ => ⟨S1024x545, .f32⟩
  | .hbm, ⟨24, _⟩ => ⟨S1024x545, .f32⟩
  | .hbm, ⟨25, _⟩ => ⟨S_, .f32⟩
  | .hbm, ⟨26, _⟩ => ⟨S1024x545, .f32⟩
  | .hbm, ⟨27, _⟩ => ⟨S1024x545, .f32⟩
  | .hbm, ⟨28, _⟩ => ⟨S1024x545, .f32⟩
  | .hbm, ⟨29, _⟩ => ⟨S_, .f32⟩
  | .hbm, ⟨30, _⟩ => ⟨S1024x545, .f32⟩
  | .hbm, ⟨31, _⟩ => ⟨S1024x545, .f32⟩
  | .hbm, ⟨32, _⟩ => ⟨S1024x545, .f32⟩
  | .hbm, ⟨33, _⟩ => ⟨S_, .f32⟩
  | .hbm, ⟨34, _⟩ => ⟨S1024x545, .f32⟩
  | .hbm, ⟨35, _⟩ => ⟨S1024x545, .f32⟩
  | .hbm, ⟨36, _⟩ => ⟨S1024x545, .f32⟩
  | .hbm, ⟨37, _⟩ => ⟨S_, .f32⟩
  | .hbm, ⟨38, _⟩ => ⟨S1024x545, .f32⟩
  | .hbm, ⟨39, _⟩ => ⟨S1024x545, .f32⟩
  | _, _ => ⟨S8x1024x545, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== UpdateBranch.lean ====
abbrev S8x512x128 : Shape := ⟨3, ![8, 512, 128]⟩
abbrev S512x128 : Shape := ⟨2, ![512, 128]⟩
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x512x128, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S8x256x128, .bf16⟩
  | .local _ .vmem, ⟨1, _⟩ => ⟨S8x256x128, .bf16⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S8x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdatedBranchIdeal.lean ====
abbrev S8x512x128 : Shape := ⟨3, ![8, 512, 128]⟩
abbrev S512x128 : Shape := ⟨2, ![512, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x512x128, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S8x512x128, .f32⟩
  | .hbm, ⟨5, _⟩ => ⟨S_, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S_, .f32⟩
  | .hbm, ⟨11, _⟩ => ⟨S512x128, .f32⟩
  | .hbm, ⟨12, _⟩ => ⟨S512x128, .f32⟩
  | .hbm, ⟨13, _⟩ => ⟨S512x128, .f32⟩
  | .hbm, ⟨14, _⟩ => ⟨S_, .f32⟩
  | .hbm, ⟨15, _⟩ => ⟨S512x128, .f32⟩
  | .hbm, ⟨16, _⟩ => ⟨S512x128, .f32⟩
  | .hbm, ⟨17, _⟩ => ⟨S512x128, .f32⟩
  | .hbm, ⟨18, _⟩ => ⟨S_, .f32⟩
  | .hbm, ⟨19, _⟩ => ⟨S512x128, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S_, .f32⟩
  | .hbm, ⟨26, _⟩ => ⟨S512x128, .f32⟩
  | .hbm, ⟨27, _⟩ => ⟨S512x128, .f32⟩
  | .hbm, ⟨28, _⟩ => ⟨S512x128, .f32⟩
  | .hbm, ⟨29, _⟩ => ⟨S_, .f32⟩
  | .hbm, ⟨30, _⟩ => ⟨S512x128, .f32⟩
  | .hbm, ⟨31, _⟩ => ⟨S512x128, .f32⟩
  | .hbm, ⟨32, _⟩ => ⟨S512x128, .f32⟩
  | .hbm, ⟨33, _⟩ => ⟨S_, .f32⟩
  | .hbm, ⟨34, _⟩ => ⟨S512x128, .f32⟩
  | .hbm, ⟨35, _⟩ => ⟨S512x128, .f32⟩
  | .hbm, ⟨36, _⟩ => ⟨S512x128, .f32⟩
  | .hbm, ⟨37, _⟩ => ⟨S_, .f32⟩
  | .hbm, ⟨38, _⟩ => ⟨S512x128, .f32⟩
  | .hbm, ⟨39, _⟩ => ⟨S512x128, .f32⟩
  | _, _ => ⟨S8x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== UpdateOut.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== UpdatedOutIdeal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== UpdateFfnIn.lean ====
abbrev S8x1024x704 : Shape := ⟨3, ![8, 1024, 704]⟩
abbrev S1024x704 : Shape := ⟨2, ![1024, 704]⟩
abbrev S8x256x704 : Shape := ⟨3, ![8, 256, 704]⟩
abbrev S256x704 : Shape := ⟨2, ![256, 704]⟩
abbrev S1x256x704 : Shape := ⟨3, ![1, 256, 704]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x704, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .local _ .vmem, ⟨0, _⟩ => ⟨S8x256x704, .bf16⟩
  | .local _ .vmem, ⟨1, _⟩ => ⟨S8x256x704, .bf16⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdatedFfnInIdeal.lean ====
abbrev S8x1024x704 : Shape := ⟨3, ![8, 1024, 704]⟩
abbrev S1024x704 : Shape := ⟨2, ![1024, 704]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x704, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S8x1024x704, .f32⟩
  | .hbm, ⟨5, _⟩ => ⟨S_, .f32⟩
  | .hbm, ⟨6, _⟩ => ⟨S1024x704, .f32⟩
  | .hbm, ⟨7, _⟩ => ⟨S_, .f32⟩
  | .hbm, ⟨8, _⟩ => ⟨S1024x704, .f32⟩
  | .hbm, ⟨9, _⟩ => ⟨S1024x704, .f32⟩
  | .hbm, ⟨10, _⟩ => ⟨S_, .f32⟩
  | .hbm, ⟨11, _⟩ => ⟨S1024x704, .f32⟩
  | .hbm, ⟨12, _⟩ => ⟨S1024x704, .f32⟩
  | .hbm, ⟨13, _⟩ => ⟨S1024x704, .f32⟩
  | .hbm, ⟨14, _⟩ => ⟨S_, .f32⟩
  | .hbm, ⟨15, _⟩ => ⟨S1024x704, .f32⟩
  | .hbm, ⟨16, _⟩ => ⟨S1024x704, .f32⟩
  | .hbm, ⟨17, _⟩ => ⟨S1024x704, .f32⟩
  | .hbm, ⟨18, _⟩ => ⟨S_, .f32⟩
  | .hbm, ⟨19, _⟩ => ⟨S1024x704, .f32⟩
  | .hbm, ⟨20, _⟩ => ⟨S1024x704, .f32⟩
  | .hbm, ⟨21, _⟩ => ⟨S1024x704, .f32⟩
  | .hbm, ⟨22, _⟩ => ⟨S_, .f32⟩
  | .hbm, ⟨23, _⟩ => ⟨S1024x704, .f32⟩
  | .hbm, ⟨24, _⟩ => ⟨S1024x704, .f32⟩
  | .hbm, ⟨25, _⟩ => ⟨S_, .f32⟩
  | .hbm, ⟨26, _⟩ => ⟨S1024x704, .f32⟩
  | .hbm, ⟨27, _⟩ => ⟨S1024x704, .f32⟩
  | .hbm, ⟨28, _⟩ => ⟨S1024x704, .f32⟩
  | .hbm, ⟨29, _⟩ => ⟨S_, .f32⟩
  | .hbm, ⟨30, _⟩ => ⟨S1024x704, .f32⟩
  | .hbm, ⟨31, _⟩ => ⟨S1024x704, .f32⟩
  | .hbm, ⟨32, _⟩ => ⟨S1024x704, .f32⟩
  | .hbm, ⟨33, _⟩ => ⟨S_, .f32⟩
  | .hbm, ⟨34, _⟩ => ⟨S1024x704, .f32⟩
  | .hbm, ⟨35, _⟩ => ⟨S1024x704, .f32⟩
  | .hbm, ⟨36, _⟩ => ⟨S1024x704, .f32⟩
  | .hbm, ⟨37, _⟩ => ⟨S_, .f32⟩
  | .hbm, ⟨38, _⟩ => ⟨S1024x704, .f32⟩
  | .hbm, ⟨39, _⟩ => ⟨S1024x704, .f32⟩
  | _, _ => ⟨S8x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== UpdateFfnOut.lean ====
abbrev S8x352x1024 : Shape := ⟨3, ![8, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdatedFfnOutIdeal.lean ====
abbrev S8x352x1024 : Shape := ⟨3, ![8, 352, 1024]⟩
abbrev S352x1024 : Shape := ⟨2, ![352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Prenorm.lean ====
abbrev S4096x1024 : Shape := ⟨2, ![4096, 1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PrenormedIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 70
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S1x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S5x1024, .f32⟩
  | .hbm, ⟨69, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_11 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== PrenormFwd.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PrenormedFwdIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Postnorm.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PostnormedIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== PostnormBwd.lean ====
abbrev S4096x1024 : Shape := ⟨2, ![4096, 1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .bf16⟩
  | .hbm, ⟨5, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== PostnormedBwdIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S6x1024 : Shape := ⟨2, ![6, 1024]⟩
abbrev S8x1024 : Shape := ⟨2, ![8, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .bf16⟩
  | .hbm, ⟨55, _⟩ => ⟨S_, .f32⟩
  | .hbm, ⟨56, _⟩ => ⟨S6x1024, .f32⟩
  | .hbm, ⟨57, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_8 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Loss.lean ====
abbrev S4096x1024 : Shape := ⟨2, ![4096, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x128, .f32⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x128, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LostIdeal.lean ====
abbrev S4096x1024 : Shape := ⟨2, ![4096, 1024]⟩
abbrev S_ : Shape := ⟨0, ![]⟩
abbrev S4096 : Shape := ⟨1, ![4096]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096x1024, .f32⟩
  | .hbm, ⟨25, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Ffn.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S4096x5632 : Shape := ⟨2, ![4096, 5632]⟩
abbrev S1024x1024 : Shape := ⟨2, ![1024, 1024]⟩
abbrev S1024x512 : Shape := ⟨2, ![1024, 512]⟩
abbrev S4096x2816 : Shape := ⟨2, ![4096, 2816]⟩
abbrev S256x5632 : Shape := ⟨2, ![256, 5632]⟩
abbrev S256x2816 : Shape := ⟨2, ![256, 2816]⟩
abbrev S1024x2816 : Shape := ⟨2, ![1024, 2816]⟩
abbrev S2816x512 : Shape := ⟨2, ![2816, 512]⟩
abbrev S1x128 : Shape := ⟨2, ![1, 128]⟩
abbrev S1 : Shape := ⟨1, ![1]⟩
abbrev S1x1 : Shape := ⟨2, ![1, 1]⟩
abbrev S8x1024 : Shape := ⟨2, ![8, 1024]⟩
abbrev S1024 : Shape := ⟨1, ![1024]⟩
abbrev S4096x256 : Shape := ⟨2, ![4096, 256]⟩
abbrev S4096x512 : Shape := ⟨2, ![4096, 512]⟩
abbrev S256x512 : Shape := ⟨2, ![256, 512]⟩
abbrev S256x1024 : Shape := ⟨2, ![256, 1024]⟩
abbrev S512x256 : Shape := ⟨2, ![512, 256]⟩

abbrev nBuf : Space → Nat
  | .hbm => 20
  | .vmem => 59
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5632, .bf16⟩
  | .hbm, ⟨5, _⟩ => ⟨S2816x1024, .bf16⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x1024, .bf16⟩
  | .hbm, ⟨10, _⟩ => ⟨S4096x5632, .f32⟩
  | .hbm, ⟨11, _⟩ => ⟨S4096x2816, .bf16⟩
  | .hbm, ⟨12, _⟩ => ⟨S4096x1024, .f32⟩
  | .hbm, ⟨13, _⟩ => ⟨S4096x1024, .f32⟩
  | .hbm, ⟨14, _⟩ => ⟨S1x128, .f32⟩
  | .hbm, ⟨15, _⟩ => ⟨S4096x1024, .f32⟩
  | .hbm, ⟨16, _⟩ => ⟨S4096x1024, .bf16⟩
  | .hbm, ⟨17, _⟩ => ⟨S8x1024, .f32⟩
  | .hbm, ⟨18, _⟩ => ⟨S2816x1024, .bf16⟩
  | .hbm, ⟨19, _⟩ => ⟨S4096x2816, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .f32⟩
  | .local _ .vmem, ⟨12, _⟩ => ⟨S1024x512, .f32⟩
  | .local _ .vmem, ⟨13, _⟩ => ⟨S256x5632, .f32⟩
  | .local _ .vmem, ⟨14, _⟩ => ⟨S256x5632, .f32⟩
  | .local _ .vmem, ⟨15, _⟩ => ⟨S256x2816, .bf16⟩
  | .local _ .vmem, ⟨16, _⟩ => ⟨S256x2816, .bf16⟩
  | .local _ .vmem, ⟨17, _⟩ => ⟨S1024x2816, .bf16⟩
  | .local _ .vmem, ⟨18, _⟩ => ⟨S1024x2816, .bf16⟩
  | .local _ .vmem, ⟨19, _⟩ => ⟨S2816x512, .bf16⟩
  | .local _ .vmem, ⟨20, _⟩ => ⟨S2816x512, .bf16⟩
  | .local _ .vmem, ⟨21, _⟩ => ⟨S1024x512, .f32⟩
  | .local _ .vmem, ⟨22, _⟩ => ⟨S1024x512, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S1x1024, .f32⟩
  | .local _ .vmem, ⟨28, _⟩ => ⟨S1x1024, .f32⟩
  | .local _ .vmem, ⟨29, _⟩ => ⟨S512x1024, .f32⟩
  | .local _ .vmem, ⟨30, _⟩ => ⟨S512x1024, .f32⟩
  | .local _ .vmem, ⟨31, _⟩ => ⟨S512x1024, .f32⟩
  | .local _ .vmem, ⟨32, _⟩ => ⟨S512x1024, .f32⟩
  | .local _ .vmem, ⟨33, _⟩ => ⟨S512x1024, .f32⟩
  | .local _ .vmem, ⟨34, _⟩ => ⟨S512x1024, .f32⟩
  | .local _ .vmem, ⟨35, _⟩ => ⟨S1x128, .f32⟩
  | .local _ .vmem, ⟨36, _⟩ => ⟨S512x1024, .f32⟩
  | .local _ .vmem, ⟨37, _⟩ => ⟨S512x1024, .f32⟩
  | .local _ .vmem, ⟨38, _⟩ => ⟨S512x1024, .f32⟩
  | .local _ .vmem, ⟨39, _⟩ => ⟨S512x1024, .f32⟩
  | .local _ .vmem, ⟨40, _⟩ => ⟨S512x1024, .f32⟩
  | .local _ .vmem, ⟨41, _⟩ => ⟨S512x1024, .f32⟩
  | .local _ .vmem, ⟨42, _⟩ => ⟨S1x1024, .f32⟩
  | .local _ .vmem, ⟨43, _⟩ => ⟨S1x1024, .f32⟩
  | .local _ .vmem, ⟨44, _⟩ => ⟨S512x1024, .bf16⟩
  | .local _ .vmem, ⟨45, _⟩ => ⟨S512x1024, .bf16⟩
  | .local _ .vmem, ⟨46, _⟩ => ⟨S8x1024, .f32⟩
  | .local _ .vmem, ⟨47, _⟩ => ⟨S4096x256, .bf16⟩
  | .local _ .vmem, ⟨48, _⟩ => ⟨S4096x256, .bf16⟩
  | .local _ .vmem, ⟨49, _⟩ => ⟨S4096x512, .bf16⟩
  | .local _ .vmem, ⟨50, _⟩ => ⟨S4096x512, .bf16⟩
  | .local _ .vmem, ⟨51, _⟩ => ⟨S256x512, .bf16⟩
  | .local _ .vmem, ⟨52, _⟩ => ⟨S256x512, .bf16⟩
  | .local _ .vmem, ⟨53, _⟩ => ⟨S512x1024, .bf16⟩
  | .local _ .vmem, ⟨54, _⟩ => ⟨S512x1024, .bf16⟩
  | .local _ .vmem, ⟨55, _⟩ => ⟨S256x1024, .bf16⟩
  | .local _ .vmem, ⟨56, _⟩ => ⟨S256x1024, .bf16⟩
  | .local _ .vmem, ⟨57, _⟩ => ⟨S512x256, .f32⟩
  | .local _ .vmem, ⟨58, _⟩ => ⟨S512x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v6_0 : Ref sig .tc := ⟨.hbm, 16, rfl⟩
abbrev main_v6_1 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg4_0 : Ref sig .tc := ⟨.vmem, 29, rfl⟩
abbrev cc4_stg4_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg3_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg1_1 : Ref sig .tc := ⟨.vmem, 41, rfl⟩
abbrev cc6_stg2_0 : Ref sig .tc := ⟨.vmem, 42, rfl⟩
abbrev cc6_stg3_0 : Ref sig .tc := ⟨.vmem, 43, rfl⟩
abbrev cc6_stg4_0 : Ref sig .tc := ⟨.vmem, 44, rfl⟩
abbrev cc6_stg4_1 : Ref sig .tc := ⟨.vmem, 45, rfl⟩
abbrev cc6_stg5_0 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg1_1 : Ref sig .tc := ⟨.vmem, 50, rfl⟩
abbrev cc7_stg2_0 : Ref sig .tc := ⟨.vmem, 51, rfl⟩
abbrev cc7_stg2_1 : Ref sig .tc := ⟨.vmem, 52, rfl⟩
abbrev cc8_stg0_0 : Ref sig .tc := ⟨.vmem, 53, rfl⟩
abbrev cc8_stg0_1 : Ref sig .tc := ⟨.vmem, 54, rfl⟩
abbrev cc8_stg1_0 : Ref sig .tc := ⟨.vmem, 55, rfl⟩
abbrev cc8_stg1_1 : Ref sig .tc := ⟨.vmem, 56, rfl⟩
abbrev cc8_stg2_0 : Ref sig .tc := ⟨.vmem, 57, rfl⟩
abbrev cc8_stg2_1 : Ref sig .tc := ⟨.vmem, 58, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc4_sem3_0 : DmaSem sig := 28
abbrev cc4_sem4_0 : DmaSem sig := 29
abbrev cc4_sem4_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem3_0 : DmaSem sig := 36
abbrev cc5_sem3_1 : DmaSem sig := 37
abbrev cc6_sem0_0 : DmaSem sig := 38
abbrev cc6_sem0_1 : DmaSem sig := 39
abbrev cc6_sem1_0 : DmaSem sig := 40
abbrev cc6_sem1_1 : DmaSem sig := 41
abbrev cc6_sem2_0 : DmaSem sig := 42
abbrev cc6_sem3_0 : DmaSem sig := 43
abbrev cc6_sem4_0 : DmaSem sig := 44
abbrev cc6_sem4_1 : DmaSem sig := 45
abbrev cc6_sem5_0 : DmaSem sig := 46
abbrev cc7_sem0_0 : DmaSem sig := 47
abbrev cc7_sem0_1 : DmaSem sig := 48
abbrev cc7_sem1_0 : DmaSem sig := 49
abbrev cc7_sem1_1 : DmaSem sig := 50
abbrev cc7_sem2_0 : DmaSem sig := 51
abbrev cc7_sem2_1 : DmaSem sig := 52
abbrev cc8_sem0_0 : DmaSem sig := 53
abbrev cc8_sem0_1 : DmaSem sig := 54
abbrev cc8_sem1_0 : DmaSem sig := 55
abbrev cc8_sem1_1 : DmaSem sig := 56
abbrev cc8_sem2_0 : DmaSem sig := 57
abbrev cc8_sem2_1 : DmaSem sig := 58

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![4, 11], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x5632 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x2816 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨2, ![4, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x2816 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2816x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S512x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x1024 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S512x1024 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S512x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S512x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S512x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S512x1024 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x1024 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x1024 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S512x1024 .bf16 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 1 → Memref sig .tc .vmem S8x1024 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev grid7 : Pipeline.Grid := ⟨2, ![11, 2], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S4096x256 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S4096x512 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S256x512 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev grid8 : Pipeline.Grid := ⟨2, ![8, 11], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 2 → Memref sig .tc .vmem S512x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false]

abbrev stage8_1 : Fin 2 → Memref sig .tc .vmem S256x1024 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S512x256 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]
-- ==== FfnedIdeal.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S1x128 : Shape := ⟨2, ![1, 128]⟩
abbrev S1024 : Shape := ⟨1, ![1024]⟩
abbrev S2816x4096 : Shape := ⟨2, ![2816, 4096]⟩
abbrev S1024x2816 : Shape := ⟨2, ![1024, 2816]⟩
abbrev S6x1024 : Shape := ⟨2, ![6, 1024]⟩
abbrev S8x1024 : Shape := ⟨2, ![8, 1024]⟩

abbrev nBuf : Space → Nat
  | .hbm => 129
  | .vmem => 0
  | .smem => 0
  | _ => 0

abbrev hbmTy0_0 (i : Nat) : BufTy := match i % 128 with
  | 0 => ⟨S4096x1024, .f32⟩
  | 1 => ⟨S1x1024, .f32⟩
  | 2 => ⟨S1x1024, .f32⟩
  | 3 => ⟨S1x1024, .f32⟩
  | 4 => ⟨S1024x5632, .bf16⟩
  | 5 => ⟨S2816x1024, .bf16⟩
  | 6 => ⟨S1x1024, .f32⟩
  | 7 => ⟨S1x1024, .f32⟩
  | 8 => ⟨S4096x1024, .f32⟩
  | 9 => ⟨S4096x1024, .f32⟩
  | 10 => ⟨S_, .f32⟩
  | 11 => ⟨S4096, .f32⟩
  | 12 => ⟨S4096x1, .f32⟩
  | 13 => ⟨S_, .f32⟩
  | 14 => ⟨S4096x1, .f32⟩
  | 15 => ⟨S4096x1, .f32⟩
  | 16 => ⟨S_, .f32⟩
  | 17 => ⟨S4096x1, .f32⟩
  | 18 => ⟨S4096x1, .f32⟩
  | 19 => ⟨S4096x1, .f32⟩
  | 20 => ⟨S4096x1024, .f32⟩
  | 21 => ⟨S4096x1024, .f32⟩
  | 22 => ⟨S4096x1024, .f32⟩
  | 23 => ⟨S4096x1024, .f32⟩
  | 24 => ⟨S_, .f32⟩
  | 25 => ⟨S1x1024, .f32⟩
  | 26 => ⟨S1x1024, .f32⟩
  | 27 => ⟨S4096x1024, .f32⟩
  | 28 => ⟨S4096x1024, .f32⟩
  | 29 => ⟨S4096x1024, .f32⟩
  | 30 => ⟨S4096x1024, .f32⟩
  | 31 => ⟨S4096x5632, .f32⟩
  | 32 => ⟨S4096x2816, .f32⟩
  | 33 => ⟨S4096x2816, .f32⟩
  | 34 => ⟨S4096x2816, .f32⟩
  | 35 => ⟨S_, .f32⟩
  | 36 => ⟨S4096x2816, .f32⟩
  | 37 => ⟨S4096x2816, .f32⟩
  | 38 => ⟨S_, .f32⟩
  | 39 => ⟨S4096x2816, .f32⟩
  | 40 => ⟨S4096x2816, .f32⟩
  | 41 => ⟨S4096x2816, .f32⟩
  | 42 => ⟨S4096x2816, .f32⟩
  | 43 => ⟨S4096x2816, .f32⟩
  | 44 => ⟨S4096x1024, .f32⟩
  | 45 => ⟨S4096x1024, .f32⟩
  | 46 => ⟨S_, .f32⟩
  | 47 => ⟨S4096x1024, .f32⟩
  | 48 => ⟨S4096x1024, .f32⟩
  | 49 => ⟨S_, .f32⟩
  | 50 => ⟨S4096, .f32⟩
  | 51 => ⟨S4096x1, .f32⟩
  | 52 => ⟨S_, .f32⟩
  | 53 => ⟨S4096x1, .f32⟩
  | 54 => ⟨S4096x1, .f32⟩
  | 55 => ⟨S_, .f32⟩
  | 56 => ⟨S4096x1, .f32⟩
  | 57 => ⟨S4096x1, .f32⟩
  | 58 => ⟨S4096x1, .f32⟩
  | 59 => ⟨S4096x1, .f32⟩
  | 60 => ⟨S_, .f32⟩
  | 61 => ⟨S4096x1, .f32⟩
  | 62 => ⟨S4096x1, .f32⟩
  | 63 => ⟨S4096x1024, .f32⟩
  | 64 => ⟨S4096x1024, .f32⟩
  | 65 => ⟨S4096x1024, .f32⟩
  | 66 => ⟨S4096x1024, .f32⟩
  | 67 => ⟨S4096x1024, .f32⟩
  | 68 => ⟨S4096x1024, .f32⟩
  | 69 => ⟨S4096x1024, .f32⟩
  | 70 => ⟨S4096x1024, .f32⟩
  | 71 => ⟨S4096x1024, .f32⟩
  | 72 => ⟨S_, .f32⟩
  | 73 => ⟨S4096x1024, .f32⟩
  | 74 => ⟨S4096x1024, .f32⟩
  | 75 => ⟨S_, .f32⟩
  | 76 => ⟨S4096, .f32⟩
  | 77 => ⟨S_, .f32⟩
  | 78 => ⟨S4096, .f32⟩
  | 79 => ⟨S4096, .f32⟩
  | 80 => ⟨S_, .f32⟩
  | 81 => ⟨S_, .f32⟩
  | 82 => ⟨S_, .f32⟩
  | 83 => ⟨S_, .f32⟩
  | 84 => ⟨S1x128, .f32⟩
  | 85 => ⟨S_, .f32⟩
  | 86 => ⟨S_, .f32⟩
  | 87 => ⟨S_, .f32⟩
  | 88 => ⟨S4096, .f32⟩
  | 89 => ⟨S_, .f32⟩
  | 90 => ⟨S4096, .f32⟩
  | 91 => ⟨S4096, .f32⟩
  | 92 => ⟨S4096x1024, .f32⟩
  | 93 => ⟨S4096x1024, .f32⟩
  | 94 => ⟨S4096x1024, .f32⟩
  | 95 => ⟨S4096x1024, .f32⟩
  | 96 => ⟨S4096x1024, .f32⟩
  | 97 => ⟨S_, .f32⟩
  | 98 => ⟨S1024, .f32⟩
  | 99 => ⟨S1x1024, .f32⟩
  | 100 => ⟨S4096x1024, .f32⟩
  | 101 => ⟨S_, .f32⟩
  | 102 => ⟨S1024, .f32⟩
  | 103 => ⟨S1x1024, .f32⟩
  | 104 => ⟨S4096x1024, .f32⟩
  | 105 => ⟨S4096x1024, .f32⟩
  | 106 => ⟨S4096x1024, .f32⟩
  | 107 => ⟨S_, .f32⟩
  | 108 => ⟨S4096, .f32⟩
  | 109 => ⟨S4096x1, .f32⟩
  | 110 => ⟨S4096x1024, .f32⟩
  | 111 => ⟨S4096x1024, .f32⟩
  | 112 => ⟨S4096x1, .f32⟩
  | 113 => ⟨S_, .f32⟩
  | 114 => ⟨S4096x1, .f32⟩
  | 115 => ⟨S4096x1, .f32⟩
  | 116 => ⟨S_, .f32⟩
  | 117 => ⟨S4096, .f32⟩
  | 118 => ⟨S4096x1024, .f32⟩
  | 119 => ⟨S4096x1024, .f32⟩
  | 120 => ⟨S4096x1024, .f32⟩
  | 121 => ⟨S2816x4096, .f32⟩
  | 122 => ⟨S2816x1024, .f32⟩
  | 123 => ⟨S2816x1024, .bf16⟩
  | 124 => ⟨S1024x2816, .bf16⟩
  | 125 => ⟨S4096x2816, .f32⟩
  | 126 => ⟨S_, .f32⟩
  | 127 => ⟨S6x1024, .f32⟩
  | _ => ⟨S4096x1024, .f32⟩

abbrev hbmTy0_1 (i : Nat) : BufTy := match i % 128 with
  | 0 => ⟨S8x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_cst_4 : Ref sig .tc := ⟨.hbm, 49, rfl⟩
abbrev main_v27 : Ref sig .tc := ⟨.hbm, 50, rfl⟩
abbrev main_v28 : Ref sig .tc := ⟨.hbm, 51, rfl⟩
abbrev main_cst_5 : Ref sig .tc := ⟨.hbm, 52, rfl⟩
abbrev main_v29 : Ref sig .tc := ⟨.hbm, 53, rfl⟩
abbrev main_v30 : Ref sig .tc := ⟨.hbm, 54, rfl⟩
abbrev main_cst_6 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_7 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_8 : Ref sig .tc := ⟨.hbm, 72, rfl⟩
abbrev main_v46 : Ref sig .tc := ⟨.hbm, 73, rfl⟩
abbrev main_v47 : Ref sig .tc := ⟨.hbm, 74, rfl⟩
abbrev main_cst_9 : Ref sig .tc := ⟨.hbm, 75, rfl⟩
abbrev main_v48 : Ref sig .tc := ⟨.hbm, 76, rfl⟩
abbrev main_cst_10 : Ref sig .tc := ⟨.hbm, 77, rfl⟩
abbrev main_v49 : Ref sig .tc := ⟨.hbm, 78, rfl⟩
abbrev main_v50 : Ref sig .tc := ⟨.hbm, 79, rfl⟩
abbrev main_cst_11 : Ref sig .tc := ⟨.hbm, 80, rfl⟩
abbrev main_v51 : Ref sig .tc := ⟨.hbm, 81, rfl⟩
abbrev main_cst_12 : Ref sig .tc := ⟨.hbm, 82, rfl⟩
abbrev main_v52 : Ref sig .tc := ⟨.hbm, 83, rfl⟩
abbrev main_v53 : Ref sig .tc := ⟨.hbm, 84, rfl⟩
abbrev main_cst_13 : Ref sig .tc := ⟨.hbm, 85, rfl⟩
abbrev main_cst_14 : Ref sig .tc := ⟨.hbm, 86, rfl⟩
abbrev main_v54 : Ref sig .tc := ⟨.hbm, 87, rfl⟩
abbrev main_v55 : Ref sig .tc := ⟨.hbm, 88, rfl⟩
abbrev main_cst_15 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_16 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_17 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_18 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_19 : Ref sig .tc := ⟨.hbm, 113, rfl⟩
abbrev main_v76 : Ref sig .tc := ⟨.hbm, 114, rfl⟩
abbrev main_v77 : Ref sig .tc := ⟨.hbm, 115, rfl⟩
abbrev main_cst_20 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_21 : Ref sig .tc := ⟨.hbm, 126, rfl⟩
abbrev main_v87 : Ref sig .tc := ⟨.hbm, 127, rfl⟩
abbrev main_v88 : Ref sig .tc := ⟨.hbm, 128, rfl⟩

abbrev nD : Nat := 1
abbrev τ : Topo := Topo.v7x

variable {F : FTy → Type} [FloatOps F]
-- ==== FfnBwd.lean ====
abbrev S4096x2816 : Shape := ⟨2, ![4096, 2816]⟩
abbrev S4096x5632 : Shape := ⟨2, ![4096, 5632]⟩
abbrev S4096x1024 : Shape := ⟨2, ![4096, 1024]⟩
abbrev S1024x5632 : Shape := ⟨2, ![1024, 5632]⟩
abbrev S1x1024 : Shape := ⟨2, ![1, 1024]⟩
abbrev S256x2816 : Shape := ⟨2, ![256, 2816]⟩
abbrev S256x5632 : Shape := ⟨2, ![256, 5632]⟩
abbrev S4096x256 : Shape := ⟨2, ![4096, 256]⟩
abbrev S4096x512 : Shape := ⟨2, ![4096, 512]⟩
abbrev S256x512 : Shape := ⟨2, ![256, 512]⟩
abbrev S512x5632 : Shape := ⟨2, ![512, 5632]⟩
abbrev S512x512 : Shape := ⟨2, ![512, 512]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 13
  | .vmem => 29
  | .smem => 0
  | _ => 0

abbrev bufTy : (tb : Table) → Fin (tcTables nBuf tb) → BufTy
  | .hbm, ⟨0, _⟩ => ⟨S4096x2816, .f32⟩
  | .hbm, ⟨1, _⟩ => ⟨S4096x5632, .f32⟩
  | .hbm, ⟨2, _⟩ => ⟨S4096x1024, .bf16⟩
  | .hbm, ⟨3, _⟩ => ⟨S1024x5632, .bf16⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x5632, .bf16⟩
  | .hbm, ⟨9, _⟩ => ⟨S1024x5632, .bf16⟩
  | .hbm, ⟨10, _⟩ => ⟨S4096x1024, .f32⟩
  | .hbm, ⟨11, _⟩ => ⟨S4096x1024, .f32⟩
  | .hbm, ⟨12, _⟩ => ⟨S8x1024, .f32⟩
  | .local _ .vmem, ⟨0, _⟩ => ⟨S256x2816, .f32⟩
  | .local _ .vmem, ⟨1, _⟩ => ⟨S256x2816, .f32⟩
  | .local _ .vmem, ⟨2, _⟩ => ⟨S256x5632, .f32⟩
  | .local _ .vmem, ⟨3, _⟩ => ⟨S256x5632, .f32⟩
  | .local _ .vmem, ⟨4, _⟩ => ⟨S256x5632, .bf16⟩
  | .local _ .vmem, ⟨5, _⟩ => ⟨S256x5632, .bf16⟩
  | .local _ .vmem, ⟨6, _⟩ => ⟨S4096x256, .bf16⟩
  | .local _ .vmem, ⟨7, _⟩ => ⟨S4096x256, .bf16⟩
  | .local _ .vmem, ⟨8, _⟩ => ⟨S4096x512, .bf16⟩
  | .local _ .vmem, ⟨9, _⟩ => ⟨S4096x512, .bf16⟩
  | .local _ .vmem, ⟨10, _⟩ => ⟨S256x512, .bf16⟩
  | .local _ .vmem, ⟨11, _⟩ => ⟨S256x512, .bf16⟩
  | .local _ .vmem, ⟨12, _⟩ => ⟨S512x5632, .bf16⟩
  | .local _ .vmem, ⟨13, _⟩ => ⟨S512x5632, .bf16⟩
  | .local _ .vmem, ⟨14, _⟩ => ⟨S512x5632, .bf16⟩
  | .local _ .vmem, ⟨15, _⟩ => ⟨S512x5632, .bf16⟩
  | .local _ .vmem, ⟨16, _⟩ => ⟨S512x512, .f32⟩
  | .local _ .vmem, ⟨17, _⟩ => ⟨S512x512, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | .local _ .vmem, ⟨23, _⟩ => ⟨S1x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S8x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg4_1 : Ref sig .tc := ⟨.vmem, 25, rfl⟩
abbrev cc3_stg5_0 : Ref sig .tc := ⟨.vmem, 26, rfl⟩
abbrev cc3_stg5_1 : Ref sig .tc := ⟨.vmem, 27, rfl⟩
abbrev cc3_stg6_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem3_0 : DmaSem sig := 23
abbrev cc3_sem4_0 : DmaSem sig := 24
abbrev cc3_sem4_1 : DmaSem sig := 25
abbrev cc3_sem5_0 : DmaSem sig := 26
abbrev cc3_sem5_1 : DmaSem sig := 27
abbrev cc3_sem6_0 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 11], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S4096x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![8, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x5632 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x5632 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S512x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S512x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S8x1024 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]
-- ==== FfnedBwdIdeal.lean ====
abbrev S4096x2816 : Shape := ⟨2, ![4096, 2816]⟩
abbrev S4096x5632 : Shape := ⟨2, ![4096, 5632]⟩
abbrev S4096x1024 : Shape := ⟨2, ![4096, 1024]⟩
abbrev S1024x5632 : Shape := ⟨2, ![1024, 5632]⟩
abbrev S1x1024 : Shape := ⟨2, ![1, 1024]⟩
abbrev S_ : Shape := ⟨0, ![]⟩
abbrev S1024x4096 : Shape := ⟨2, ![1024, 4096]⟩
abbrev S5632x1024 : Shape := ⟨2, ![5632, 1024]⟩
abbrev S4096 : Shape := ⟨1, ![4096]⟩
abbrev S4096x1 : Shape := ⟨2, ![4096, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 103
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x5632, .f32⟩
  | .hbm, ⟨2, _⟩ => ⟨S4096x1024, .bf16⟩
  | .hbm, ⟨3, _⟩ => ⟨S1024x5632, .bf16⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S_, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x5632, .f32⟩
  | .hbm, ⟨33, _⟩ => ⟨S4096x5632, .bf16⟩
  | .hbm, ⟨34, _⟩ => ⟨S1024x4096, .bf16⟩
  | .hbm, ⟨35, _⟩ => ⟨S1024x5632, .f32⟩
  | .hbm, ⟨36, _⟩ => ⟨S1024x5632, .bf16⟩
  | .hbm, ⟨37, _⟩ => ⟨S5632x1024, .bf16⟩
  | .hbm, ⟨38, _⟩ => ⟨S4096x1024, .f32⟩
  | .hbm, ⟨39, _⟩ => ⟨S_, .f32⟩
  | .hbm, ⟨40, _⟩ => ⟨S1x1024, .f32⟩
  | .hbm, ⟨41, _⟩ => ⟨S4096x1024, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S1x1024, .f32⟩
  | .hbm, ⟨62, _⟩ => ⟨S1x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S4096x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S_, .f32⟩
  | .hbm, ⟨78, _⟩ => ⟨S1024, .f32⟩
  | .hbm, ⟨79, _⟩ => ⟨S1x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S4096, .f32⟩
  | .hbm, ⟨85, _⟩ => ⟨S4096x1, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1, .f32⟩
  | .hbm, ⟨90, _⟩ => ⟨S_, .f32⟩
  | .hbm, ⟨91, _⟩ => ⟨S4096x1, .f32⟩
  | .hbm, ⟨92, _⟩ => ⟨S4096x1, .f32⟩
  | .hbm, ⟨93, _⟩ => ⟨S_, .f32⟩
  | .hbm, ⟨94, _⟩ => ⟨S4096, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S_, .f32⟩
  | .hbm, ⟨101, _⟩ => ⟨S5x1024, .f32⟩
  | .hbm, ⟨102, _⟩ => ⟨S8x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_v2_0 : Ref sig .tc := ⟨.hbm, 24, rfl⟩
abbrev main_call0_v11 : Ref sig .tc := ⟨.hbm, 25, rfl⟩
abbrev main_call0_v12 : Ref sig .tc := ⟨.hbm, 26, rfl⟩
abbrev main_v2_1 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_0 : Ref sig .tc := ⟨.hbm, 39, rfl⟩
abbrev main_v14 : Ref sig .tc := ⟨.hbm, 40, rfl⟩
abbrev main_v15 : Ref sig .tc := ⟨.hbm, 41, rfl⟩
abbrev main_cst_1 : Ref sig .tc := ⟨.hbm, 42, rfl⟩
abbrev main_v16 : Ref sig .tc := ⟨.hbm, 43, rfl⟩
abbrev main_v17 : Ref sig .tc := ⟨.hbm, 44, rfl⟩
abbrev main_cst_2 : Ref sig .tc := ⟨.hbm, 45, rfl⟩
abbrev main_v18 : Ref sig .tc := ⟨.hbm, 46, rfl⟩
abbrev main_v19 : Ref sig .tc := ⟨.hbm, 47, rfl⟩
abbrev main_cst_3 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_cst_4 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst_5 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_6 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_7 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_8 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_cst_9 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_10 : Ref sig .tc := ⟨.hbm, 90, rfl⟩
abbrev main_v55 : Ref sig .tc := ⟨.hbm, 91, rfl⟩
abbrev main_v56 : Ref sig .tc := ⟨.hbm, 92, rfl⟩
abbrev main_cst_11 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_cst_12 : Ref sig .tc := ⟨.hbm, 100, rfl⟩
abbrev main_v63 : Ref sig .tc := ⟨.hbm, 101, rfl⟩
abbrev main_v64 : Ref sig .tc := ⟨.hbm, 102, rfl⟩

abbrev nD : Nat := 1
abbrev τ : Topo := Topo.v7x

variable {F : FTy → Type} [FloatOps F]
-- ==== Mix.lean ====
abbrev S4096x1024 : Shape := ⟨2, ![4096, 1024]⟩
abbrev S4096x512 : Shape := ⟨2, ![4096, 512]⟩
abbrev S4096x2048 : Shape := ⟨2, ![4096, 2048]⟩
abbrev S512x1024 : Shape := ⟨2, ![512, 1024]⟩
abbrev S1024x1024 : Shape := ⟨2, ![1024, 1024]⟩
abbrev S1x1024 : Shape := ⟨2, ![1, 1024]⟩
abbrev S1024x512 : Shape := ⟨2, ![1024, 512]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩
abbrev S8x1024 : Shape := ⟨2, ![8, 1024]⟩
abbrev S1024 : Shape := ⟨1, ![1024]⟩
abbrev S4096x256 : Shape := ⟨2, ![4096, 256]⟩
abbrev S256x512 : Shape := ⟨2, ![256, 512]⟩

abbrev nBuf : Space → Nat
  | .hbm => 26
  | .vmem => 91
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S4096x512, .bf16⟩
  | .hbm, ⟨3, _⟩ => ⟨S4096x2048, .f32⟩
  | .hbm, ⟨4, _⟩ => ⟨S512x1024, .bf16⟩
  | .hbm, ⟨5, _⟩ => ⟨S512x1024, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .bf16⟩
  | .hbm, ⟨13, _⟩ => ⟨S4096x1024, .f32⟩
  | .hbm, ⟨14, _⟩ => ⟨S4096x1024, .f32⟩
  | .hbm, ⟨15, _⟩ => ⟨S4096x1024, .bf16⟩
  | .hbm, ⟨16, _⟩ => ⟨S8x1024, .f32⟩
  | .hbm, ⟨17, _⟩ => ⟨S1024x1024, .bf16⟩
  | .hbm, ⟨18, _⟩ => ⟨S4096x1024, .f32⟩
  | .hbm, ⟨19, _⟩ => ⟨S4096x1024, .bf16⟩
  | .hbm, ⟨20, _⟩ => ⟨S4096x1024, .bf16⟩
  | .hbm, ⟨21, _⟩ => ⟨S4096x2048, .bf16⟩
  | .hbm, ⟨22, _⟩ => ⟨S512x1024, .bf16⟩
  | .hbm, ⟨23, _⟩ => ⟨S512x1024, .bf16⟩
  | .hbm, ⟨24, _⟩ => ⟨S4096x512, .bf16⟩
  | .hbm, ⟨25, _⟩ => ⟨S4096x512, .bf16⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | .local _ .vmem, ⟨8, _⟩ => ⟨S512x512, .bf16⟩
  | .local _ .vmem, ⟨9, _⟩ => ⟨S512x512, .bf16⟩
  | .local _ .vmem, ⟨10, _⟩ => ⟨S1024x512, .f32⟩
  | .local _ .vmem, ⟨11, _⟩ => ⟨S1024x512, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x2048, .f32⟩
  | .local _ .vmem, ⟨17, _⟩ => ⟨S512x2048, .f32⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1024x512, .bf16⟩
  | .local _ .vmem, ⟨23, _⟩ => ⟨S1024x512, .bf16⟩
  | .local _ .vmem, ⟨24, _⟩ => ⟨S1024x512, .f32⟩
  | .local _ .vmem, ⟨25, _⟩ => ⟨S1024x512, .f32⟩
  | .local _ .vmem, ⟨26, _⟩ => ⟨S512x1024, .f32⟩
  | .local _ .vmem, ⟨27, _⟩ => ⟨S512x1024, .f32⟩
  | .local _ .vmem, ⟨28, _⟩ => ⟨S512x1024, .f32⟩
  | .local _ .vmem, ⟨29, _⟩ => ⟨S512x1024, .f32⟩
  | .local _ .vmem, ⟨30, _⟩ => ⟨S1x1024, .f32⟩
  | .local _ .vmem, ⟨31, _⟩ => ⟨S1x1024, .f32⟩
  | .local _ .vmem, ⟨32, _⟩ => ⟨S512x1024, .f32⟩
  | .local _ .vmem, ⟨33, _⟩ => ⟨S512x1024, .f32⟩
  | .local _ .vmem, ⟨34, _⟩ => ⟨S512x1024, .f32⟩
  | .local _ .vmem, ⟨35, _⟩ => ⟨S512x1024, .f32⟩
  | .local _ .vmem, ⟨36, _⟩ => ⟨S512x1024, .f32⟩
  | .local _ .vmem, ⟨37, _⟩ => ⟨S512x1024, .f32⟩
  | .local _ .vmem, ⟨38, _⟩ => ⟨S1x1024, .f32⟩
  | .local _ .vmem, ⟨39, _⟩ => ⟨S1x1024, .f32⟩
  | .local _ .vmem, ⟨40, _⟩ => ⟨S512x1024, .bf16⟩
  | .local _ .vmem, ⟨41, _⟩ => ⟨S512x1024, .bf16⟩
  | .local _ .vmem, ⟨42, _⟩ => ⟨S8x1024, .f32⟩
  | .local _ .vmem, ⟨43, _⟩ => ⟨S4096x256, .bf16⟩
  | .local _ .vmem, ⟨44, _⟩ => ⟨S4096x256, .bf16⟩
  | .local _ .vmem, ⟨45, _⟩ => ⟨S4096x512, .bf16⟩
  | .local _ .vmem, ⟨46, _⟩ => ⟨S4096x512, .bf16⟩
  | .local _ .vmem, ⟨47, _⟩ => ⟨S256x512, .bf16⟩
  | .local _ .vmem, ⟨48, _⟩ => ⟨S256x512, .bf16⟩
  | .local _ .vmem, ⟨49, _⟩ => ⟨S512x1024, .bf16⟩
  | .local _ .vmem, ⟨50, _⟩ => ⟨S512x1024, .bf16⟩
  | .local _ .vmem, ⟨51, _⟩ => ⟨S512x1024, .bf16⟩
  | .local _ .vmem, ⟨52, _⟩ => ⟨S512x1024, .bf16⟩
  | .local _ .vmem, ⟨53, _⟩ => ⟨S512x512, .f32⟩
  | .local _ .vmem, ⟨54, _⟩ => ⟨S512x512, .f32⟩
  | .local _ .vmem, ⟨55, _⟩ => ⟨S512x1024, .f32⟩
  | .local _ .vmem, ⟨56, _⟩ => ⟨S512x1024, .f32⟩
  | .local _ .vmem, ⟨57, _⟩ => ⟨S512x1024, .f32⟩
  | .local _ .vmem, ⟨58, _⟩ => ⟨S512x1024, .f32⟩
  | .local _ .vmem, ⟨59, _⟩ => ⟨S512x1024, .f32⟩
  | .local _ .vmem, ⟨60, _⟩ => ⟨S512x1024, .f32⟩
  | .local _ .vmem, ⟨61, _⟩ => ⟨S512x2048, .f32⟩
  | .local _ .vmem, ⟨62, _⟩ => ⟨S512x2048, .f32⟩
  | .local _ .vmem, ⟨63, _⟩ => ⟨S512x1024, .bf16⟩
  | .local _ .vmem, ⟨64, _⟩ => ⟨S512x1024, .bf16⟩
  | .local _ .vmem, ⟨65, _⟩ => ⟨S512x1024, .bf16⟩
  | .local _ .vmem, ⟨66, _⟩ => ⟨S512x1024, .bf16⟩
  | .local _ .vmem, ⟨67, _⟩ => ⟨S512x2048, .bf16⟩
  | .local _ .vmem, ⟨68, _⟩ => ⟨S512x2048, .bf16⟩
  | .local _ .vmem, ⟨69, _⟩ => ⟨S4096x256, .bf16⟩
  | .local _ .vmem, ⟨70, _⟩ => ⟨S4096x256, .bf16⟩
  | .local _ .vmem, ⟨71, _⟩ => ⟨S4096x512, .bf16⟩
  | .local _ .vmem, ⟨72, _⟩ => ⟨S4096x512, .bf16⟩
  | .local _ .vmem, ⟨73, _⟩ => ⟨S256x512, .bf16⟩
  | .local _ .vmem, ⟨74, _⟩ => ⟨S256x512, .bf16⟩
  | .local _ .vmem, ⟨75, _⟩ => ⟨S4096x256, .bf16⟩
  | .local _ .vmem, ⟨76, _⟩ => ⟨S4096x256, .bf16⟩
  | .local _ .vmem, ⟨77, _⟩ => ⟨S4096x512, .bf16⟩
  | .local _ .vmem, ⟨78, _⟩ => ⟨S4096x512, .bf16⟩
  | .local _ .vmem, ⟨79, _⟩ => ⟨S256x512, .bf16⟩
  | .local _ .vmem, ⟨80, _⟩ => ⟨S256x512, .bf16⟩
  | .local _ .vmem, ⟨81, _⟩ => ⟨S512x1024, .bf16⟩
  | .local _ .vmem, ⟨82, _⟩ => ⟨S512x1024, .bf16⟩
  | .local _ .vmem, ⟨83, _⟩ => ⟨S512x1024, .bf16⟩
  | .local _ .vmem, ⟨84, _⟩ => ⟨S512x512, .bf16⟩
  | .local _ .vmem, ⟨85, _⟩ => ⟨S512x512, .bf16⟩
  | .local _ .vmem, ⟨86, _⟩ => ⟨S512x1024, .bf16⟩
  | .local _ .vmem, ⟨87, _⟩ => ⟨S512x1024, .bf16⟩
  | .local _ .vmem, ⟨88, _⟩ => ⟨S512x1024, .bf16⟩
  | .local _ .vmem, ⟨89, _⟩ => ⟨S512x512, .bf16⟩
  | .local _ .vmem, ⟨90, _⟩ => ⟨S512x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | _, _ => false

abbrev semScoped : Fin 0 → Bool
  | ⟨_, h⟩ => absurd h (Nat.not_lt_zero _)

abbrev dmaSemScoped : Fin 91 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | _ => false

abbrev sig : RefSig :=
  ofTc nBuf bufTy 0 91 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg4_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc5_stg5_0 : Ref sig .tc := ⟨.vmem, 42, rfl⟩
abbrev cc6_stg0_0 : Ref sig .tc := ⟨.vmem, 43, rfl⟩
abbrev cc6_stg0_1 : Ref sig .tc := ⟨.vmem, 44, rfl⟩
abbrev cc6_stg1_0 : Ref sig .tc := ⟨.vmem, 45, rfl⟩
abbrev cc6_stg1_1 : Ref sig .tc := ⟨.vmem, 46, rfl⟩
abbrev cc6_stg2_0 : Ref sig .tc := ⟨.vmem, 47, rfl⟩
abbrev cc6_stg2_1 : Ref sig .tc := ⟨.vmem, 48, rfl⟩
abbrev cc7_stg0_0 : Ref sig .tc := ⟨.vmem, 49, rfl⟩
abbrev cc7_stg0_1 : Ref sig .tc := ⟨.vmem, 50, rfl⟩
abbrev cc7_stg1_0 : Ref sig .tc := ⟨.vmem, 51, rfl⟩
abbrev cc7_stg1_1 : Ref sig .tc := ⟨.vmem, 52, rfl⟩
abbrev cc7_stg2_0 : Ref sig .tc := ⟨.vmem, 53, rfl⟩
abbrev cc7_stg2_1 : Ref sig .tc := ⟨.vmem, 54, rfl⟩
abbrev cc8_stg0_0 : Ref sig .tc := ⟨.vmem, 55, rfl⟩
abbrev cc8_stg0_1 : Ref sig .tc := ⟨.vmem, 56, rfl⟩
abbrev cc8_stg1_0 : Ref sig .tc := ⟨.vmem, 57, rfl⟩
abbrev cc8_stg1_1 : Ref sig .tc := ⟨.vmem, 58, rfl⟩
abbrev cc8_stg2_0 : Ref sig .tc := ⟨.vmem, 59, rfl⟩
abbrev cc8_stg2_1 : Ref sig .tc := ⟨.vmem, 60, rfl⟩
abbrev cc8_stg3_0 : Ref sig .tc := ⟨.vmem, 61, rfl⟩
abbrev cc8_stg3_1 : Ref sig .tc := ⟨.vmem, 62, rfl⟩
abbrev cc8_stg4_0 : Ref sig .tc := ⟨.vmem, 63, rfl⟩
abbrev cc8_stg4_1 : Ref sig .tc := ⟨.vmem, 64, rfl⟩
abbrev cc8_stg5_0 : Ref sig .tc := ⟨.vmem, 65, rfl⟩
abbrev cc8_stg5_1 : Ref sig .tc := ⟨.vmem, 66, rfl⟩
abbrev cc8_stg6_0 : Ref sig .tc := ⟨.vmem, 67, rfl⟩
abbrev cc8_stg6_1 : Ref sig .tc := ⟨.vmem, 68, rfl⟩
abbrev cc9_stg0_0 : Ref sig .tc := ⟨.vmem, 69, rfl⟩
abbrev cc9_stg0_1 : Ref sig .tc := ⟨.vmem, 70, rfl⟩
abbrev cc9_stg1_0 : Ref sig .tc := ⟨.vmem, 71, rfl⟩
abbrev cc9_stg1_1 : Ref sig .tc := ⟨.vmem, 72, rfl⟩
abbrev cc9_stg2_0 : Ref sig .tc := ⟨.vmem, 73, rfl⟩
abbrev cc9_stg2_1 : Ref sig .tc := ⟨.vmem, 74, rfl⟩
abbrev cc10_stg0_0 : Ref sig .tc := ⟨.vmem, 75, rfl⟩
abbrev cc10_stg0_1 : Ref sig .tc := ⟨.vmem, 76, rfl⟩
abbrev cc10_stg1_0 : Ref sig .tc := ⟨.vmem, 77, rfl⟩
abbrev cc10_stg1_1 : Ref sig .tc := ⟨.vmem, 78, rfl⟩
abbrev cc10_stg2_0 : Ref sig .tc := ⟨.vmem, 79, rfl⟩
abbrev cc10_stg2_1 : Ref sig .tc := ⟨.vmem, 80, rfl⟩
abbrev cc11_stg0_0 : Ref sig .tc := ⟨.vmem, 81, rfl⟩
abbrev cc11_stg0_1 : Ref sig .tc := ⟨.vmem, 82, rfl⟩
abbrev cc11_stg1_0 : Ref sig .tc := ⟨.vmem, 83, rfl⟩
abbrev cc11_stg2_0 : Ref sig .tc := ⟨.vmem, 84, rfl⟩
abbrev cc11_stg2_1 : Ref sig .tc := ⟨.vmem, 85, rfl⟩
abbrev cc12_stg0_0 : Ref sig .tc := ⟨.vmem, 86, rfl⟩
abbrev cc12_stg0_1 : Ref sig .tc := ⟨.vmem, 87, rfl⟩
abbrev cc12_stg1_0 : Ref sig .tc := ⟨.vmem, 88, rfl⟩
abbrev cc12_stg2_0 : Ref sig .tc := ⟨.vmem, 89, rfl⟩
abbrev cc12_stg2_1 : Ref sig .tc := ⟨.vmem, 90, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem3_0 : DmaSem sig := 31
abbrev cc4_sem4_0 : DmaSem sig := 32
abbrev cc4_sem4_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem3_0 : DmaSem sig := 39
abbrev cc5_sem4_0 : DmaSem sig := 40
abbrev cc5_sem4_1 : DmaSem sig := 41
abbrev cc5_sem5_0 : DmaSem sig := 42
abbrev cc6_sem0_0 : DmaSem sig := 43
abbrev cc6_sem0_1 : DmaSem sig := 44
abbrev cc6_sem1_0 : DmaSem sig := 45
abbrev cc6_sem1_1 : DmaSem sig := 46
abbrev cc6_sem2_0 : DmaSem sig := 47
abbrev cc6_sem2_1 : DmaSem sig := 48
abbrev cc7_sem0_0 : DmaSem sig := 49
abbrev cc7_sem0_1 : DmaSem sig := 50
abbrev cc7_sem1_0 : DmaSem sig := 51
abbrev cc7_sem1_1 : DmaSem sig := 52
abbrev cc7_sem2_0 : DmaSem sig := 53
abbrev cc7_sem2_1 : DmaSem sig := 54
abbrev cc8_sem0_0 : DmaSem sig := 55
abbrev cc8_sem0_1 : DmaSem sig := 56
abbrev cc8_sem1_0 : DmaSem sig := 57
abbrev cc8_sem1_1 : DmaSem sig := 58
abbrev cc8_sem2_0 : DmaSem sig := 59
abbrev cc8_sem2_1 : DmaSem sig := 60
abbrev cc8_sem3_0 : DmaSem sig := 61
abbrev cc8_sem3_1 : DmaSem sig := 62
abbrev cc8_sem4_0 : DmaSem sig := 63
abbrev cc8_sem4_1 : DmaSem sig := 64
abbrev cc8_sem5_0 : DmaSem sig := 65
abbrev cc8_sem5_1 : DmaSem sig := 66
abbrev cc8_sem6_0 : DmaSem sig := 67
abbrev cc8_sem6_1 : DmaSem sig := 68
abbrev cc9_sem0_0 : DmaSem sig := 69
abbrev cc9_sem0_1 : DmaSem sig := 70
abbrev cc9_sem1_0 : DmaSem sig := 71
abbrev cc9_sem1_1 : DmaSem sig := 72
abbrev cc9_sem2_0 : DmaSem sig := 73
abbrev cc9_sem2_1 : DmaSem sig := 74
abbrev cc10_sem0_0 : DmaSem sig := 75
abbrev cc10_sem0_1 : DmaSem sig := 76
abbrev cc10_sem1_0 : DmaSem sig := 77
abbrev cc10_sem1_1 : DmaSem sig := 78
abbrev cc10_sem2_0 : DmaSem sig := 79
abbrev cc10_sem2_1 : DmaSem sig := 80
abbrev cc11_sem0_0 : DmaSem sig := 81
abbrev cc11_sem0_1 : DmaSem sig := 82
abbrev cc11_sem1_0 : DmaSem sig := 83
abbrev cc11_sem2_0 : DmaSem sig := 84
abbrev cc11_sem2_1 : DmaSem sig := 85
abbrev cc12_sem0_0 : DmaSem sig := 86
abbrev cc12_sem0_1 : DmaSem sig := 87
abbrev cc12_sem1_0 : DmaSem sig := 88
abbrev cc12_sem2_0 : DmaSem sig := 89
abbrev cc12_sem2_1 : DmaSem sig := 90

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![4, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S512x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x1024 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S512x1024 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S512x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S512x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x1024 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S512x1024 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 1 → Memref sig .tc .vmem S8x1024 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev grid6 : Pipeline.Grid := ⟨2, ![4, 2], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S4096x256 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S4096x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S256x512 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨2, ![8, 2], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S512x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S512x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S512x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev grid8 : Pipeline.Grid := ⟨1, ![8], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S512x1024 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S512x1024 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S512x1024 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S512x2048 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S512x1024 .bf16 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 2 → Memref sig .tc .vmem S512x1024 .bf16 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 2 → Memref sig .tc .vmem S512x2048 .bf16 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨2, ![2, 2], ![false, false]⟩

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage9_0 : Fin 2 → Memref sig .tc .vmem S4096x256 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false]

abbrev stage9_1 : Fin 2 → Memref sig .tc .vmem S4096x512 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true]

abbrev stage9_2 : Fin 2 → Memref sig .tc .vmem S256x512 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true]

abbrev grid10 : Pipeline.Grid := ⟨2, ![2, 2], ![false, false]⟩

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage10_0 : Fin 2 → Memref sig .tc .vmem S4096x256 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false]

abbrev stage10_1 : Fin 2 → Memref sig .tc .vmem S4096x512 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true]

abbrev stage10_2 : Fin 2 → Memref sig .tc .vmem S256x512 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true]

abbrev grid11 : Pipeline.Grid := ⟨2, ![8, 1], ![false, false]⟩

def cc11_transform_0 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage11_0 : Fin 2 → Memref sig .tc .vmem S512x1024 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, false]

abbrev stage11_1 : Fin 1 → Memref sig .tc .vmem S512x1024 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false, true]

abbrev stage11_2 : Fin 2 → Memref sig .tc .vmem S512x512 .bf16 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, true]

abbrev grid12 : Pipeline.Grid := ⟨2, ![8, 1], ![false, false]⟩

def cc12_transform_0 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc12_transform_2 (i : grid12.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage12_0 : Fin 2 → Memref sig .tc .vmem S512x1024 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true, false]

abbrev stage12_1 : Fin 1 → Memref sig .tc .vmem S512x1024 .bf16 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false, true]

abbrev stage12_2 : Fin 2 → Memref sig .tc .vmem S512x512 .bf16 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true, true]
-- ==== MixedIdeal.lean ====
abbrev S4096x1024 : Shape := ⟨2, ![4096, 1024]⟩
abbrev S4096x512 : Shape := ⟨2, ![4096, 512]⟩
abbrev S4096x2048 : Shape := ⟨2, ![4096, 2048]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S6x1024 : Shape := ⟨2, ![6, 1024]⟩
abbrev S8x1024 : Shape := ⟨2, ![8, 1024]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 124
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S4096x512, .bf16⟩
  | .hbm, ⟨3, _⟩ => ⟨S4096x2048, .f32⟩
  | .hbm, ⟨4, _⟩ => ⟨S512x1024, .bf16⟩
  | .hbm, ⟨5, _⟩ => ⟨S512x1024, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x512, .f32⟩
  | .hbm, ⟨11, _⟩ => ⟨S4096x512, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S4096x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S4096, .f32⟩
  | .hbm, ⟨84, _⟩ => ⟨S4096x1, .f32⟩
  | .hbm, ⟨85, _⟩ => ⟨S4096x1024, .f32⟩
  | .hbm, ⟨86, _⟩ => ⟨S4096x1024, .f32⟩
  | .hbm, ⟨87, _⟩ => ⟨S4096x1, .f32⟩
  | .hbm, ⟨88, _⟩ => ⟨S_, .f32⟩
  | .hbm, ⟨89, _⟩ => ⟨S4096x1, .f32⟩
  | .hbm, ⟨90, _⟩ => ⟨S4096x1, .f32⟩
  | .hbm, ⟨91, _⟩ => ⟨S_, .f32⟩
  | .hbm, ⟨92, _⟩ => ⟨S4096, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S1024x1024, .bf16⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S_, .f32⟩
  | .hbm, ⟨105, _⟩ => ⟨S6x1024, .f32⟩
  | .hbm, ⟨106, _⟩ => ⟨S8x1024, .f32⟩
  | .hbm, ⟨107, _⟩ => ⟨S4096x2048, .f32⟩
  | .hbm, ⟨108, _⟩ => ⟨S1024x4096, .f32⟩
  | .hbm, ⟨109, _⟩ => ⟨S1024x1024, .f32⟩
  | .hbm, ⟨110, _⟩ => ⟨S512x4096, .f32⟩
  | .hbm, ⟨111, _⟩ => ⟨S512x1024, .f32⟩
  | .hbm, ⟨112, _⟩ => ⟨S512x4096, .f32⟩
  | .hbm, ⟨113, _⟩ => ⟨S512x1024, .f32⟩
  | .hbm, ⟨114, _⟩ => ⟨S1024x512, .bf16⟩
  | .hbm, ⟨115, _⟩ => ⟨S4096x512, .f32⟩
  | .hbm, ⟨116, _⟩ => ⟨S1024x512, .bf16⟩
  | .hbm, ⟨117, _⟩ => ⟨S4096x512, .f32⟩
  | .hbm, ⟨118, _⟩ => ⟨S1024x1024, .bf16⟩
  | .hbm, ⟨119, _⟩ => ⟨S4096x2048, .bf16⟩
  | .hbm, ⟨120, _⟩ => ⟨S512x1024, .bf16⟩
  | .hbm, ⟨121, _⟩ => ⟨S512x1024, .bf16⟩
  | .hbm, ⟨122, _⟩ => ⟨S4096x512, .bf16⟩
  | .hbm, ⟨123, _⟩ => ⟨S4096x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_13 : Ref sig .tc := ⟨.hbm, 88, rfl⟩
abbrev main_v64 : Ref sig .tc := ⟨.hbm, 89, rfl⟩
abbrev main_v65 : Ref sig .tc := ⟨.hbm, 90, rfl⟩
abbrev main_cst_14 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_15 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩

abbrev nD : Nat := 1
abbrev τ : Topo := Topo.v7x

variable {F : FTy → Type} [FloatOps F]
-- ==== Proj.lean ====
abbrev S4096x1024 : Shape := ⟨2, ![4096, 1024]⟩
abbrev S1x1024 : Shape := ⟨2, ![1, 1024]⟩
abbrev S1024x2048 : Shape := ⟨2, ![1024, 2048]⟩
abbrev S1024x2304 : Shape := ⟨2, ![1024, 2304]⟩
abbrev S1024x128 : Shape := ⟨2, ![1024, 128]⟩
abbrev S4096x4480 : Shape := ⟨2, ![4096, 4480]⟩
abbrev S1024x4480 : Shape := ⟨2, ![1024, 4480]⟩
abbrev S512x1024 : Shape := ⟨2, ![512, 1024]⟩
abbrev S512 : Shape := ⟨1, ![512]⟩
abbrev S512x1 : Shape := ⟨2, ![512, 1]⟩
abbrev S4096x2048 : Shape := ⟨2, ![4096, 2048]⟩
abbrev S1024x1024 : Shape := ⟨2, ![1024, 1024]⟩
abbrev S1024x512 : Shape := ⟨2, ![1024, 512]⟩
abbrev S4096x2304 : Shape := ⟨2, ![4096, 2304]⟩
abbrev S1024x768 : Shape := ⟨2, ![1024, 768]⟩
abbrev S4096x128 : Shape := ⟨2, ![4096, 128]⟩
abbrev S4096x256 : Shape := ⟨2, ![4096, 256]⟩
abbrev S4096x640 : Shape := ⟨2, ![4096, 640]⟩
abbrev S256x640 : Shape := ⟨2, ![256, 640]⟩
abbrev S512x4480 : Shape := ⟨2, ![512, 4480]⟩
abbrev S512x512 : Shape := ⟨2, ![512, 512]⟩
abbrev S8x1024 : Shape := ⟨2, ![8, 1024]⟩
abbrev S1024 : Shape := ⟨1, ![1024]⟩

abbrev nBuf : Space → Nat
  | .hbm => 18
  | .vmem => 47
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2048, .bf16⟩
  | .hbm, ⟨5, _⟩ => ⟨S1024x2304, .bf16⟩
  | .hbm, ⟨6, _⟩ => ⟨S1024x128, .bf16⟩
  | .hbm, ⟨7, _⟩ => ⟨S4096x4480, .bf16⟩
  | .hbm, ⟨8, _⟩ => ⟨S1024x4480, .bf16⟩
  | .hbm, ⟨9, _⟩ => ⟨S4096x1024, .f32⟩
  | .hbm, ⟨10, _⟩ => ⟨S4096x1024, .bf16⟩
  | .hbm, ⟨11, _⟩ => ⟨S4096x2048, .f32⟩
  | .hbm, ⟨12, _⟩ => ⟨S4096x2304, .f32⟩
  | .hbm, ⟨13, _⟩ => ⟨S4096x128, .f32⟩
  | .hbm, ⟨14, _⟩ => ⟨S1024x4480, .bf16⟩
  | .hbm, ⟨15, _⟩ => ⟨S4096x1024, .f32⟩
  | .hbm, ⟨16, _⟩ => ⟨S4096x1024, .f32⟩
  | .hbm, ⟨17, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .f32⟩
  | .local _ .vmem, ⟨12, _⟩ => ⟨S1024x512, .f32⟩
  | .local _ .vmem, ⟨13, _⟩ => ⟨S1024x1024, .bf16⟩
  | .local _ .vmem, ⟨14, _⟩ => ⟨S1024x1024, .bf16⟩
  | .local _ .vmem, ⟨15, _⟩ => ⟨S1024x768, .bf16⟩
  | .local _ .vmem, ⟨16, _⟩ => ⟨S1024x768, .bf16⟩
  | .local _ .vmem, ⟨17, _⟩ => ⟨S1024x768, .f32⟩
  | .local _ .vmem, ⟨18, _⟩ => ⟨S1024x768, .f32⟩
  | .local _ .vmem, ⟨19, _⟩ => ⟨S1024x1024, .bf16⟩
  | .local _ .vmem, ⟨20, _⟩ => ⟨S1024x1024, .bf16⟩
  | .local _ .vmem, ⟨21, _⟩ => ⟨S1024x128, .bf16⟩
  | .local _ .vmem, ⟨22, _⟩ => ⟨S1024x128, .f32⟩
  | .local _ .vmem, ⟨23, _⟩ => ⟨S1024x128, .f32⟩
  | .local _ .vmem, ⟨24, _⟩ => ⟨S4096x256, .bf16⟩
  | .local _ .vmem, ⟨25, _⟩ => ⟨S4096x256, .bf16⟩
  | .local _ .vmem, ⟨26, _⟩ => ⟨S4096x640, .bf16⟩
  | .local _ .vmem, ⟨27, _⟩ => ⟨S4096x640, .bf16⟩
  | .local _ .vmem, ⟨28, _⟩ => ⟨S256x640, .bf16⟩
  | .local _ .vmem, ⟨29, _⟩ => ⟨S256x640, .bf16⟩
  | .local _ .vmem, ⟨30, _⟩ => ⟨S512x4480, .bf16⟩
  | .local _ .vmem, ⟨31, _⟩ => ⟨S512x4480, .bf16⟩
  | .local _ .vmem, ⟨32, _⟩ => ⟨S512x4480, .bf16⟩
  | .local _ .vmem, ⟨33, _⟩ => ⟨S512x4480, .bf16⟩
  | .local _ .vmem, ⟨34, _⟩ => ⟨S512x512, .f32⟩
  | .local _ .vmem, ⟨35, _⟩ => ⟨S512x512, .f32⟩
  | .local _ .vmem, ⟨36, _⟩ => ⟨S512x1024, .f32⟩
  | .local _ .vmem, ⟨37, _⟩ => ⟨S512x1024, .f32⟩
  | .local _ .vmem, ⟨38, _⟩ => ⟨S512x1024, .f32⟩
  | .local _ .vmem, ⟨39, _⟩ => ⟨S512x1024, .f32⟩
  | .local _ .vmem, ⟨40, _⟩ => ⟨S1x1024, .f32⟩
  | .local _ .vmem, ⟨41, _⟩ => ⟨S1x1024, .f32⟩
  | .local _ .vmem, ⟨42, _⟩ => ⟨S512x1024, .f32⟩
  | .local _ .vmem, ⟨43, _⟩ => ⟨S512x1024, .f32⟩
  | .local _ .vmem, ⟨44, _⟩ => ⟨S512x1024, .f32⟩
  | .local _ .vmem, ⟨45, _⟩ => ⟨S512x1024, .f32⟩
  | .local _ .vmem, ⟨46, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_stg3_0 : Ref sig .tc := ⟨.vmem, 41, rfl⟩
abbrev cc6_stg4_0 : Ref sig .tc := ⟨.vmem, 42, rfl⟩
abbrev cc6_stg4_1 : Ref sig .tc := ⟨.vmem, 43, rfl⟩
abbrev cc6_stg5_0 : Ref sig .tc := ⟨.vmem, 44, rfl⟩
abbrev cc6_stg5_1 : Ref sig .tc := ⟨.vmem, 45, rfl⟩
abbrev cc6_stg6_0 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem3_0 : DmaSem sig := 41
abbrev cc6_sem4_0 : DmaSem sig := 42
abbrev cc6_sem4_1 : DmaSem sig := 43
abbrev cc6_sem5_0 : DmaSem sig := 44
abbrev cc6_sem5_1 : DmaSem sig := 45
abbrev cc6_sem6_0 : DmaSem sig := 46

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![4, 3], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x768 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x768 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![4, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S1024x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S1024x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![4, 7], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S4096x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S4096x640 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S256x640 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![8, 2], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S512x4480 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S512x4480 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S512x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S512x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S512x1024 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x1024 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x1024 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S512x1024 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S512x1024 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 1 → Memref sig .tc .vmem S8x1024 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]
-- ==== ProjectedIdeal.lean ====
abbrev S4096x1024 : Shape := ⟨2, ![4096, 1024]⟩
abbrev S1x1024 : Shape := ⟨2, ![1, 1024]⟩
abbrev S1024x2048 : Shape := ⟨2, ![1024, 2048]⟩
abbrev S1024x2304 : Shape := ⟨2, ![1024, 2304]⟩
abbrev S1024x128 : Shape := ⟨2, ![1024, 128]⟩
abbrev S4096x4480 : Shape := ⟨2, ![4096, 4480]⟩
abbrev S1024x4480 : Shape := ⟨2, ![1024, 4480]⟩
abbrev S_ : Shape := ⟨0, ![]⟩
abbrev S4096 : Shape := ⟨1, ![4096]⟩
abbrev S4096x1 : Shape := ⟨2, ![4096, 1]⟩
abbrev S4096x2048 : Shape := ⟨2, ![4096, 2048]⟩
abbrev S4096x2304 : Shape := ⟨2, ![4096, 2304]⟩
abbrev S4096x128 : Shape := ⟨2, ![4096, 128]⟩
abbrev S1024x4096 : Shape := ⟨2, ![1024, 4096]⟩
abbrev S4480x1024 : Shape := ⟨2, ![4480, 1024]⟩
abbrev S1024 : Shape := ⟨1, ![1024]⟩
abbrev S5x1024 : Shape := ⟨2, ![5, 1024]⟩
abbrev S8x1024 : Shape := ⟨2, ![8, 1024]⟩

abbrev nBuf : Space → Nat
  | .hbm => 105
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2048, .bf16⟩
  | .hbm, ⟨5, _⟩ => ⟨S1024x2304, .bf16⟩
  | .hbm, ⟨6, _⟩ => ⟨S1024x128, .bf16⟩
  | .hbm, ⟨7, _⟩ => ⟨S4096x4480, .bf16⟩
  | .hbm, ⟨8, _⟩ => ⟨S1024x4480, .bf16⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x4480, .f32⟩
  | .hbm, ⟨33, _⟩ => ⟨S4096x2048, .f32⟩
  | .hbm, ⟨34, _⟩ => ⟨S4096x2304, .f32⟩
  | .hbm, ⟨35, _⟩ => ⟨S4096x128, .f32⟩
  | .hbm, ⟨36, _⟩ => ⟨S1024x4096, .f32⟩
  | .hbm, ⟨37, _⟩ => ⟨S1024x4480, .f32⟩
  | .hbm, ⟨38, _⟩ => ⟨S1024x4480, .bf16⟩
  | .hbm, ⟨39, _⟩ => ⟨S4480x1024, .bf16⟩
  | .hbm, ⟨40, _⟩ => ⟨S4096x1024, .f32⟩
  | .hbm, ⟨41, _⟩ => ⟨S_, .f32⟩
  | .hbm, ⟨42, _⟩ => ⟨S1x1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S1x1024, .f32⟩
  | .hbm, ⟨64, _⟩ => ⟨S1x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S4096x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S_, .f32⟩
  | .hbm, ⟨86, _⟩ => ⟨S4096, .f32⟩
  | .hbm, ⟨87, _⟩ => ⟨S4096x1, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1, .f32⟩
  | .hbm, ⟨92, _⟩ => ⟨S_, .f32⟩
  | .hbm, ⟨93, _⟩ => ⟨S4096x1, .f32⟩
  | .hbm, ⟨94, _⟩ => ⟨S4096x1, .f32⟩
  | .hbm, ⟨95, _⟩ => ⟨S_, .f32⟩
  | .hbm, ⟨96, _⟩ => ⟨S4096, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S_, .f32⟩
  | .hbm, ⟨103, _⟩ => ⟨S5x1024, .f32⟩
  | .hbm, ⟨104, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_12 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_13 : Ref sig .tc := ⟨.hbm, 92, rfl⟩
abbrev main_v68 : Ref sig .tc := ⟨.hbm, 93, rfl⟩
abbrev main_v69 : Ref sig .tc := ⟨.hbm, 94, rfl⟩
abbrev main_cst_14 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_15 : Ref sig .tc := ⟨.hbm, 102, rfl⟩
abbrev main_v76 : Ref sig .tc := ⟨.hbm, 103, rfl⟩
abbrev main_v77 : Ref sig .tc := ⟨.hbm, 104, rfl⟩

abbrev nD : Nat := 1
abbrev τ : Topo := Topo.v7x

variable {F : FTy → Type} [FloatOps F]
-- ==== Proof.Rowed.lean ====
/-
# Arrays of eight rows

Both calls of this proof move arrays between eight devices, each array being eight rows, one for each device. Here are the
six arrays' shapes and their rows, a row as a memref of any program, `whole_rows` (a whole array held is its rows held),
and the seven peers of a device.
-/
module

public import Idealize.ShloMosaic.Lib.Pipeline.Kit
public import Idealize.ShloMosaic.Lib.Pipeline.Launch
public import Idealize.ShloMosaic.Lib.Pipeline.Regions
public import Idealize.ShloMosaic.Lib.Pipeline.BigSepL
public import Idealize.ShloMosaic.Lib.Tactic

@[expose] public section

noncomputable section

namespace Cert.Rowed

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {sig : RefSig} {F : FTy → Type} [FloatOps F]

local notation "𝕄" => MT 8 Topo.v7x sig Unit (Elt F) ℕ (UR sig 8 Topo.v7x × UR sig 8 Topo.v7x) ℕ

/-! ## The shapes -/

/-- The rows of array `a` and the elements of a row. -/
def p (a : Fin 6) : ℕ := ![1024, 512, 512, 128, 1024, 352] a
def q (a : Fin 6) : ℕ := ![545, 128, 128, 1024, 704, 1024] a

/-- Array `a`: eight rows, one for each device. -/
abbrev SA (a : Fin 6) : Shape := ⟨3, ![8, p a, q a]⟩
/-- One row of array `a`, as a slice and with its leading dimension dropped. -/
abbrev SR1 (a : Fin 6) : Shape := ⟨3, ![1, p a, q a]⟩
abbrev SR (a : Fin 6) : Shape := ⟨2, ![p a, q a]⟩

theorem squeezes_row (a : Fin 6) : (SR1 a).Squeezes (SR a) := by revert a; decide

/-- Row `off` of a memref of array `a`: the rectangle of one row at `off`, its leading dimension dropped. -/
abbrev row (a : Fin 6) (M : Memref sig .tc .hbm (SA a) .bf16) (off : Fin 3 → ℕ) (h : ∀ i, off i + (SR1 a).size i ≤ (SA a).size i) :
    Memref sig .tc .hbm (SR a) .bf16 :=
  (M.slice (Rect.unit (s := SA a) off (SR1 a).size h) (fun _ => rfl)).squeeze (SR a) (squeezes_row a)

/-- A row of a whole array is whole words. -/
theorem row_wordExact (a : Fin 6) {M : Memref sig .tc .hbm (SA a) .bf16} (hM : M.IsWhole) (off : Fin 3 → ℕ)
    (h : ∀ i, off i + (SR1 a).size i ≤ (SA a).size i) (h1 : off 1 = 0) : (row a M off h).view.WordExact :=
  (hM.wordExact_slice rfl _ (Or.inr ⟨(show 2 ≤ 3 from by decide), rfl, h1, rfl⟩)).reshape _ _

theorem inb_row (a : Fin 6) (r : Dev 8) : ∀ i, (![r.val, 0, 0] : Fin 3 → ℕ) i + (SR1 a).size i ≤ (SA a).size i := by
  intro i
  have := r.isLt
  fin_cases i
  · show r.val + 1 ≤ 8; omega
  · show 0 + p a ≤ p a; omega
  · show 0 + q a ≤ q a; omega

/-- Row `r` of array `a`, of the operand and of the result. -/
abbrev rect (a : Fin 6) (r : Dev 8) : Rect (SA a) := Rect.unit (s := SA a) ![r.val, 0, 0] (SR1 a).size (inb_row a r)
abbrev rowAt (a : Fin 6) (M : Memref sig .tc .hbm (SA a) .bf16) (r : Dev 8) : Memref sig .tc .hbm (SR a) .bf16 :=
  row a M ![r.val, 0, 0] (inb_row a r)

/-- An index moved to row `r`. -/
def toRow {a : Fin 6} (r : Dev 8) (i : (SA a).Idx) : (SA a).Idx := Function.update i (0 : Fin 3) ⟨r.val, r.isLt⟩

/-- The row an index is in. -/
def rowOf {a : Fin 6} (i : (SA a).Idx) : Dev 8 := ⟨(i (0 : Fin 3)).val, (i (0 : Fin 3)).isLt⟩

theorem rowOf_emb (a : Fin 6) (r : Dev 8) (y : (rect a r).shape.Idx) : rowOf ((rect a r).emb y) = r := by
  have h : (y (0 : Fin 3)).val < 1 := (y (0 : Fin 3)).isLt
  refine Fin.ext ?_
  show r.val + 1 * (y (0 : Fin 3)).val = r.val
  omega

theorem toRow_emb (a : Fin 6) (r c : Dev 8) (y : (SR1 a).Idx) :
    toRow c ((rect a r).emb (y : (rect a r).shape.Idx)) = (rect a c).emb (y : (rect a c).shape.Idx) := by
  have h : (y (0 : Fin 3)).val < 1 := (y (0 : Fin 3)).isLt
  funext b
  fin_cases b
  · refine Fin.ext ?_
    show c.val = c.val + 1 * (y (0 : Fin 3)).val
    omega
  · rfl
  · rfl

/-- Every index is in its row. -/
theorem emb_rowOf (a : Fin 6) (i : (SA a).Idx) : ∃ y, (rect a (rowOf i)).emb y = i := by
  refine ⟨fun b => ?_, ?_⟩
  · exact match b with
      | ⟨0, _⟩ => (⟨0, Nat.one_pos⟩ : Fin 1)
      | ⟨1, _⟩ => i (1 : Fin 3)
      | ⟨2, _⟩ => i (2 : Fin 3)
  · funext b
    fin_cases b
    · refine Fin.ext ?_
      show (i (0 : Fin 3)).val + 1 * 0 = (i (0 : Fin 3)).val
      omega
    · refine Fin.ext ?_
      show 0 + 1 * (i (1 : Fin 3)).val = (i (1 : Fin 3)).val
      omega
    · refine Fin.ext ?_
      show 0 + 1 * (i (2 : Fin 3)).val = (i (2 : Fin 3)).val
      omega

theorem rowAt_set (a : Fin 6) (M : Memref sig .tc .hbm (SA a) .bf16) (r : Dev 8) : (rowAt a M r).view.set = (M.view.slice (rect a r)).set :=
  View.set_reshape (M.view.slice (rect a r)) _

/-- A whole array's elements are its rows'. -/
theorem set_rows (a : Fin 6) (M : Memref sig .tc .hbm (SA a) .bf16) : M.view.set = Finset.univ.biUnion fun r => (rowAt a M r).view.set := by
  ext i
  rw [show (fun r => (rowAt a M r).view.set) = fun r => (M.view.slice (rect a r)).set from funext fun r => rowAt_set a M r]
  simp only [View.set, Finset.mem_biUnion, Finset.mem_map, Finset.mem_univ, true_and]
  constructor
  · rintro ⟨x, rfl⟩
    obtain ⟨y, hy⟩ := emb_rowOf a x
    exact ⟨rowOf x, y, congrArg M.view.emb hy⟩
  · rintro ⟨r, y, rfl⟩
    exact ⟨(rect a r).emb y, rfl⟩

theorem disjoint_rows (a : Fin 6) (M : Memref sig .tc .hbm (SA a) .bf16) {r r' : Dev 8} (h : r ≠ r') :
    Disjoint (rowAt a M r).view.set (rowAt a M r').view.set := by
  rw [rowAt_set, rowAt_set]
  refine Finset.disjoint_left.mpr fun i hi hi' => h ?_
  simp only [View.set, Finset.mem_map, Finset.mem_univ, true_and] at hi hi'
  obtain ⟨y, rfl⟩ := hi
  obtain ⟨y', hy'⟩ := hi'
  have := congrArg rowOf (M.view.emb.injective hy')
  rw [rowOf_emb, rowOf_emb] at this
  exact this.symm

/-- Device `c` holds row `r` of a memref of array `a`, at contents `f`. -/
def rowPts (a : Fin 6) (M : Memref sig .tc .hbm (SA a) .bf16) (c r : Dev 8) (f : Buf (Elt F) (M.view.loc (c : Thread 8 Topo.v7x))) : sProp 𝕄 :=
  (rowAt a M r).view.loc (c : Thread 8 Topo.v7x) ↦[(rowAt a M r).view.set]{fullShare} f

instance (a : Fin 6) (M : Memref sig .tc .hbm (SA a) .bf16) (c r : Dev 8) (f : Buf (Elt F) (M.view.loc (c : Thread 8 Topo.v7x))) :
    BI.Storable (upEmb : UEmb _ (MT 8 Topo.v7x sig Unit (Elt F) ℕ (UR sig 8 Topo.v7x × UR sig 8 Topo.v7x) ℕ)) (rowPts a M c r f) := by
  unfold rowPts; infer_instance

/-- A whole array held is its rows held. -/
theorem whole_rows (a : Fin 6) (M : Memref sig .tc .hbm (SA a) .bf16) (c : Dev 8) (f : Buf (Elt F) (M.view.loc (c : Thread 8 Topo.v7x))) :
    (M.view.loc (c : Thread 8 Topo.v7x) ↦[M.view.set]{fullShare} f : sProp 𝕄) = bigSep Finset.univ fun r => rowPts a M c r f := by
  rw [set_rows a M]
  exact pointsTo_biUnion Finset.univ _ fun r _ r' _ h => disjoint_rows a M h

/-! ## The peers -/

/-- The same flips as numbers, the device's id being `4 x + 2 y + c`. -/
def mask (k : Fin 7) : ℕ := ![1, 4, 2, 6, 5, 3, 7] k

/-- The device across flip `k`. -/
def peer (k : Fin 7) (c : Dev 8) : Dev 8 :=
  ⟨c.val ^^^ mask k, by revert c; revert k; decide⟩

theorem peer_peer (k : Fin 7) (c : Dev 8) : peer k (peer k c) = c := by revert k c; decide

/-- Exchanging with peer `k` permutes the devices. -/
def peerEquiv (k : Fin 7) : Dev 8 ≃ Dev 8 := ⟨peer k, peer k, peer_peer k, peer_peer k⟩

/-- The arrays, and the pairs of a peer and an array with the peer outermost. -/
def six : List (Fin 6) := [0, 1, 2, 3, 4, 5]
def pairs : List (Fin 7 × Fin 6) := [0, 1, 2, 3, 4, 5, 6].flatMap fun k => six.map fun a => (k, a)

theorem all_pairs (Φ : Fin 7 × Fin 6 → sProp 𝕄) : bigSep Finset.univ Φ = bigSepL pairs Φ :=
  bigSep_univ_eq_bigSepL pairs (by decide) (by decide) Φ
theorem all_six (Φ : Fin 6 → sProp 𝕄) : bigSep Finset.univ Φ = bigSepL six Φ :=
  bigSep_univ_eq_bigSepL six (by decide) (by decide) Φ

/-- A device and its seven peers are all the devices. -/
theorem rows_peers (c : Dev 8) (Φ : Dev 8 → sProp 𝕄) :
    bigSep Finset.univ Φ = iprop(Φ c ∗ bigSep Finset.univ fun k : Fin 7 => Φ (peer k c)) := by
  have hinj : Function.Injective fun k : Fin 7 => peer k c := by revert c; decide
  have hset : (Finset.univ.erase c : Finset (Dev 8)) = Finset.univ.map ⟨fun k : Fin 7 => peer k c, hinj⟩ := by
    ext d; revert c; revert d; decide
  rw [BI.bigSep_univ_at Φ c, hset, BI.bigSep_map]; rfl

/-- Two families of indices, either first. -/
theorem comm2 {I I' : Type} [Fintype I] [Fintype I'] [DecidableEq I] [DecidableEq I'] (Φ : I → I' → sProp 𝕄) :
    (bigSep Finset.univ fun i => bigSep Finset.univ fun j => Φ i j) = bigSep Finset.univ fun j => bigSep Finset.univ fun i => Φ i j := by
  rw [← BI.bigSep_univ_prod (fun x : I × I' => Φ x.1 x.2), ← BI.bigSep_univ_prod (fun x : I' × I => Φ x.2 x.1)]
  exact BI.bigSep_univ_equiv (Equiv.prodComm I' I) fun x : I × I' => Φ x.1 x.2

theorem prod_swap {I I' : Type} [Fintype I] [Fintype I'] [DecidableEq I] [DecidableEq I'] (Φ : I → I' → sProp 𝕄) :
    (bigSep Finset.univ fun x : I × I' => Φ x.1 x.2) = bigSep Finset.univ fun a : I' => bigSep Finset.univ fun k : I => Φ k a := by
  rw [BI.bigSep_univ_prod]
  exact comm2 Φ

theorem bigSep_sep3 {I : Type} [DecidableEq I] {S : Finset I} {Φ Ψ Θ : I → sProp 𝕄} :
    (bigSep S fun i => iprop(Φ i ∗ Ψ i ∗ Θ i)) = iprop(bigSep S Φ ∗ bigSep S Ψ ∗ bigSep S Θ) := by
  rw [bigSep_sep', bigSep_sep']

/-! ## Three kinds of semaphores -/

/-- A family over the semaphores of a device's copies out, of the copies to it and of the copies on it, by kind. -/
theorem by_kind {A B : Type} [Fintype A] [Fintype B] [DecidableEq A] [DecidableEq B] (Φ : A ⊕ A ⊕ B → sProp 𝕄) :
    bigSep Finset.univ Φ = iprop((bigSep Finset.univ fun x => Φ (.inl x))
      ∗ (bigSep Finset.univ fun x => Φ (.inr (.inl x))) ∗ bigSep Finset.univ fun a => Φ (.inr (.inr a))) := by
  rw [BI.bigSep_univ_sum, BI.bigSep_univ_sum]; rfl

theorem all_kinds {A B : Type} [Fintype A] [Fintype B] [DecidableEq A] [DecidableEq B] (Φ : Dev 8 → A ⊕ A ⊕ B → sProp 𝕄) :
    (bigSep Finset.univ fun x : Dev 8 × (A ⊕ A ⊕ B) => Φ x.1 x.2)
    = iprop((bigSep Finset.univ fun c => bigSep Finset.univ fun x => Φ c (.inl x)) ∗ (bigSep Finset.univ fun c => bigSep Finset.univ fun x => Φ c (.inr (.inl x)))
      ∗ bigSep Finset.univ fun c => bigSep Finset.univ fun a => Φ c (.inr (.inr a))) := by
  rw [BI.bigSep_univ_prod, BI.bigSep_congr fun c _ => by_kind (Φ c), bigSep_sep3]

end Cert.Rowed

end
-- ==== Proof.Ops.lean ====
/-
# The exchange's body as a list of copies and waits

The printed body is a straight line: six copies on the device, forty-two copies to its seven peers, and a wait for each.
Here it is written as lists over the arrays `a : Fin 6` and the peers `k : Fin 7`, each item one operation on the row of
an array, and shown to be the printed body.
-/
module

public import proofs.«01_k».proof.Proof.Rowed
public import proofs.«01_k».proof.Proof.Gen.KernelIdeal
public import proofs.«01_k».proof.Proof.Gen.KernelIdeal.Points
public import Idealize.ShloMosaic.Lib.Pipeline.Regions

@[expose] public section

noncomputable section

namespace Cert.Exchange

open Cert.KernelIdeal Cert.KernelIdeal.Gen Cert.Rowed
open Idealize.ShloMosaic Idealize.ShloMosaic.TcCoe
open Idealize.SL Idealize.SL.Sem

variable {F : FTy → Type} [FloatOps F]

/-! ## The arrays -/

/-- Array `a` as the kernel's operand, and its result. -/
def inRef (a : Fin 6) : Ref sig .tc :=
  match a with
  | 0 => main_arg0 | 1 => main_arg1 | 2 => main_arg2 | 3 => main_arg3 | 4 => main_arg4 | 5 => main_arg5
def outRef (a : Fin 6) : Ref sig .tc :=
  match a with
  | 0 => main_v1_0 | 1 => main_v1_1 | 2 => main_v1_2 | 3 => main_v1_3 | 4 => main_v1_4 | 5 => main_v1_5

def inM (a : Fin 6) : Memref sig .tc .hbm (SA a) .bf16 :=
  match a with
  | 0 => Memref.whole main_arg0 | 1 => Memref.whole main_arg1 | 2 => Memref.whole main_arg2
  | 3 => Memref.whole main_arg3 | 4 => Memref.whole main_arg4 | 5 => Memref.whole main_arg5
def outM (a : Fin 6) : Memref sig .tc .hbm (SA a) .bf16 :=
  match a with
  | 0 => Memref.whole main_v1_0 | 1 => Memref.whole main_v1_1 | 2 => Memref.whole main_v1_2
  | 3 => Memref.whole main_v1_3 | 4 => Memref.whole main_v1_4 | 5 => Memref.whole main_v1_5

theorem inM_whole (a : Fin 6) : (inM a).IsWhole := by
  fin_cases a <;> exact Memref.isWhole_whole _
theorem outM_whole (a : Fin 6) : (outM a).IsWhole := by
  fin_cases a <;> exact Memref.isWhole_whole _

/-! ## The semaphores -/

theorem inb_pair (a : Fin 6) (k : Fin 7) : ∀ i, (![a.val, k.val] : Fin 2 → ℕ) i + S1x1.size i ≤ S6x7.size i := by
  revert a k; decide
theorem inb_one (a : Fin 6) : ∀ i, (![a.val] : Fin 1 → ℕ) i + S1.size i ≤ S6.size i := by
  revert a; decide

/-- The semaphore of a pair (array, peer) of a `6 × 7` array of semaphores, and of an array of a row of six. -/
def pairSem (A : DmaSems sig S6x7) (a : Fin 6) (k : Fin 7) : DmaSem sig :=
  ((A.slice (Rect.unit (s := S6x7) ![a.val, k.val] S1x1.size (inb_pair a k))).squeeze S_ squeezes_S1x1_S_).sem
def oneSem (A : DmaSems sig S6) (a : Fin 6) : DmaSem sig :=
  ((A.slice (Rect.unit (s := S6) ![a.val] S1.size (inb_one a))).squeeze S_ squeezes_S1_S_).sem

abbrev sendS (a : Fin 6) (k : Fin 7) : DmaSem sig := pairSem cc0_scratch0 a k
abbrev recvS (a : Fin 6) (k : Fin 7) : DmaSem sig := pairSem cc0_scratch1 a k
abbrev locS (a : Fin 6) : DmaSem sig := oneSem cc0_scratch2 a

theorem sendS_val (a : Fin 6) (k : Fin 7) : (sendS a k).val = 7 * a.val + k.val := by revert a k; decide +kernel
theorem recvS_val (a : Fin 6) (k : Fin 7) : (recvS a k).val = 42 + 7 * a.val + k.val := by revert a k; decide +kernel
theorem locS_val (a : Fin 6) : (locS a).val = 84 + a.val := by revert a; decide +kernel

/-! ## The peers -/

/-- The flips of the three mesh coordinates, in the kernel's order. -/
def flip (k : Fin 7) : BitVec 32 × BitVec 32 × BitVec 32 :=
  match k with
  | 0 => (0#32, 0#32, 1#32) | 1 => (1#32, 0#32, 0#32) | 2 => (0#32, 1#32, 0#32) | 3 => (1#32, 1#32, 0#32)
  | 4 => (1#32, 0#32, 1#32) | 5 => (0#32, 1#32, 1#32) | 6 => (1#32, 1#32, 1#32)

/-- A device's own row and its peer's, as the kernel computes them. -/
abbrev offM (d : Dev nD) : Fin 3 → ℕ := k0_off1 d
abbrev offP (d : Dev nD) (k : Fin 7) : Fin 3 → ℕ := k0_off6 d (flip k).1 (flip k).2.1 (flip k).2.2

theorem offM_eq (d : Dev nD) : offM d = ![d.val, 0, 0] := by revert d; decide +kernel
theorem offP_eq (d : Dev nD) (k : Fin 7) : offP d k = ![(peer k d).val, 0, 0] := by revert d k; decide +kernel

/-- Peer `k` of device `d`, as the kernel computes its id. -/
def devP (d : Dev nD) (k : Fin 7) : ℕ :=
  match k with
  | 0 => k0_dev1 d | 1 => k0_dev7 d | 2 => k0_dev13 d | 3 => k0_dev19 d | 4 => k0_dev25 d | 5 => k0_dev31 d | 6 => k0_dev37 d

theorem devP_eq (d : Dev nD) (k : Fin 7) : devP d k = (peer k d).val := by revert d k; decide +kernel

theorem inb_M (a : Fin 6) (d : Dev nD) : ∀ i, offM d i + (SR1 a).size i ≤ (SA a).size i := by rw [offM_eq]; exact inb_row a d
theorem inb_P (a : Fin 6) (d : Dev nD) (k : Fin 7) : ∀ i, offP d k i + (SR1 a).size i ≤ (SA a).size i := by
  rw [offP_eq]; exact inb_row a (peer k d)
theorem devP_lt (d : Dev nD) (k : Fin 7) : devP d k < nD := by rw [devP_eq]; exact (peer k d).isLt

theorem offM_one (d : Dev nD) : offM d 1 = 0 := by rw [offM_eq]; rfl
theorem offP_one (d : Dev nD) (k : Fin 7) : offP d k 1 = 0 := by rw [offP_eq]; rfl

/-! ## The operations -/

abbrev E (F : FTy → Type) : Type → Type := TpuEff nD τ sig (Elt F) Λ₀ .tc

/-- The copy of array `a`'s own row on the device. -/
def localOp (d : Dev nD) (a : Fin 6) : Prog (E F) PUnit :=
  Prog.lift (.enqueueDma (row a (inM a) (offM d) (inb_M a d)) (.here (row a (outM a) (offM d) (inb_M a d))) (.dma (locS a))
    (row_wordExact a (inM_whole a) _ _ (offM_one d)) (row_wordExact a (outM_whole a) _ _ (offM_one d)) ⟨Or.inl rfl, trivial⟩)

/-- The copy of array `a`'s row for peer `k` into the peer's result, at the device's own row. -/
def sendOp (d : Dev nD) (k : Fin 7) (a : Fin 6) : Prog (E F) PUnit :=
  Prog.lift (.enqueueDma (row a (inM a) (offP d k) (inb_P a d k))
    (.remote (Dev.tc (⟨devP d k, devP_lt d k⟩ : Dev nD)) (row a (outM a) (offM d) (inb_M a d)) (.dma (sendS a k)) (by fin_cases a <;> rfl)) (.dma (recvS a k))
    (row_wordExact a (inM_whole a) _ _ (offP_one d k)) (row_wordExact a (outM_whole a) _ _ (offM_one d)) ⟨⟨rfl, Or.inl rfl⟩, trivial⟩)

/-- The wait for array `a`'s row from peer `k`. -/
def recvOp (d : Dev nD) (k : Fin 7) (a : Fin 6) : Prog (E F) PUnit :=
  Prog.lift (.waitDma2 (recvS a k) (row a (inM a) (offM d) (inb_M a d)) (row a (outM a) (offP d k) (inb_P a d k))
    (row_wordExact a (inM_whole a) _ _ (offM_one d)) (row_wordExact a (outM_whole a) _ _ (offP_one d k)))

/-- The wait for the copy to peer `k` to have left. -/
def sentOp (d : Dev nD) (k : Fin 7) (a : Fin 6) : Prog (E F) PUnit :=
  Prog.lift (.waitDma2 (sendS a k) (row a (outM a) (offM d) (inb_M a d)) (row a (inM a) (offP d k) (inb_P a d k))
    (row_wordExact a (outM_whole a) _ _ (offM_one d)) (row_wordExact a (inM_whole a) _ _ (offP_one d k)))

/-- The wait for the copy on the device. -/
def keptOp (d : Dev nD) (a : Fin 6) : Prog (E F) PUnit :=
  Prog.lift (.waitDma2 (locS a) (row a (inM a) (offM d) (inb_M a d)) (row a (outM a) (offM d) (inb_M a d))
    (row_wordExact a (inM_whole a) _ _ (offM_one d)) (row_wordExact a (outM_whole a) _ _ (offM_one d)))

/-! ## The body -/

/-- The body after the device's id is read. -/
def ops (d : Dev nD) : List (Prog (E F) PUnit) :=
  six.map (localOp d) ++ (pairs.map (fun x => sendOp d x.1 x.2) ++ (pairs.map (fun x => recvOp d x.1 x.2)
    ++ (pairs.map (fun x => sentOp d x.1 x.2) ++ six.map (keptOp d))))

set_option maxRecDepth 100000 in
/-- The printed body is the list. -/
theorem body_eq (t : Fin cfg0.N) :
    bodyAt0 (F := F) t = (Prog.lift .deviceId >>= fun d => Pipeline.chain (ops d)) := by
  chain_rfl

end Cert.Exchange

end
-- ==== Proof.Rows.lean ====
/-
# The rows of the arrays and what is in them

An array of the exchange is eight rows, one for each device. `whole_rows` splits a whole array held into its rows,
`landed` is what a device's result holds after the exchange — row `r` is what device `r` had for it —, and `lands` says
that a copy of that row makes it so.
-/
module

public import proofs.«01_k».proof.Proof.Ops
public import Idealize.ShloMosaic.Lib.Pipeline.Kit
public import Idealize.ShloMosaic.Lib.Tactic

@[expose] public section

noncomputable section

namespace Cert.Exchange

open Cert.KernelIdeal Cert.KernelIdeal.Gen Cert.Rowed
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ × UR sig nD τ) ℕ

abbrev rIn (a : Fin 6) (r : Dev nD) : Memref sig .tc .hbm (SR a) .bf16 := rowAt a (inM a) r
abbrev rOut (a : Fin 6) (r : Dev nD) : Memref sig .tc .hbm (SR a) .bf16 := rowAt a (outM a) r

/-! ## The contents -/

variable (m : (ℓ : Loc nD τ sig) → Buf (Elt F) ℓ)

/-- What device `c` has of array `a` at the launch. -/
abbrev inB (c : Dev nD) (a : Fin 6) : Buf (Elt F) ((inM a).view.loc (c : Thread nD τ)) := m _
abbrev outB (c : Dev nD) (a : Fin 6) : Buf (Elt F) ((outM a).view.loc (c : Thread nD τ)) := m _
abbrev X (c : Dev nD) (a : Fin 6) : (SA a).Idx → Elt F .bf16 := (inM a).view.read (Elt F) (inB m c a)

/-- Row `r` of device `c`'s result is row `c` of device `r`'s operand. -/
def gathered (c : Dev nD) (a : Fin 6) : (SA a).Idx → Elt F .bf16 := fun i => X m (rowOf i) a (toRow c i)

/-- Device `c`'s result `a` after the exchange. -/
def landed (c : Dev nD) (a : Fin 6) : Buf (Elt F) ((outM a).view.loc (c : Thread nD τ)) :=
  (outM a).view.write (Elt F) (outB m c a) (gathered m c a) Finset.univ

/-- Row `c` of device `r`'s operand copied to row `r` of device `c`'s result. -/
theorem lands (c r : Dev nD) (a : Fin 6) (fd : Buf (Elt F) ((rOut a r).view.loc (c : Thread nD τ))) :
    ((rOut a r).view.loc (c : Thread nD τ) ↦[(rOut a r).view.set]{fullShare}
        ((rOut a r).view.write (Elt F) fd ((rIn a c).view.read (Elt F) (inB m r a)) Finset.univ) : sProp 𝕄)
      ⊢ rowPts a (outM a) c r (landed m c a) := by
  refine Entails.of_eq (pointsTo_congr fun i hi => ?_)
  obtain ⟨x, -, rfl⟩ := Finset.mem_map.mp hi
  rw [View.write_emb_of_mem (Val := Elt F) (v := (rOut a r).view) fd _ (M := Finset.univ) (Finset.mem_univ x)]
  unfold landed
  have h2 := View.write_emb_of_mem (Val := Elt F) (v := (outM a).view) (outB m c a) (gathered m c a) (M := Finset.univ)
    (Finset.mem_univ ((rect a r).emb (Shape.reshapeEquiv (squeezes_row a).numel_eq x)))
  refine Eq.trans ?_ h2.symm
  refine congrArg _ ?_
  show X m r a ((rect a c).emb _) = X m (rowOf ((rect a r).emb _)) a (toRow c ((rect a r).emb _))
  rw [rowOf_emb, toRow_emb]
  rfl

end Cert.Exchange

end
-- ==== Proof.Once.lean ====
/-
# Semaphores that are credited once

Each semaphore of the exchange is credited by one copy and waited for once. A `Plan` names, for each semaphore `j` of a
device, how much the copy credits and what the copy hands over with it; the plan's schedule has one round with one duty
at every such cell. The rules below are those of a copy on the device, of a copy to another device and of a wait, and the
launch's and the end's steps for the whole family. `chain_step` walks a list of operations, one rule for all of them.
-/
module

public import Idealize.ShloMosaic.Lib.Pipeline.Launch
public import Idealize.ShloMosaic.Lib.Pipeline.Kit
public import Idealize.ShloMosaic.Lib.Pipeline.Regions
public import Idealize.ShloMosaic.Lib.Pipeline.BigSepL
public import Idealize.ShloMosaic.Lib.Tactic

@[expose] public section

noncomputable section

namespace Cert.Once

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type}

/-- The ghost state: the pipeline library's and this family's. -/
abbrev UU (nD : Nat) (τ : Topo) (sig : RefSig) : Type := UR sig nD τ × UR sig nD τ

local notation "𝕄" => MT nD τ sig Unit Val ℕ (UU nD τ sig) ℕ

variable (nD τ sig Val) in
abbrev EP : Emb (UR sig nD τ) (MT nD τ sig Unit Val ℕ (UU nD τ sig) ℕ) := embL
variable (nD τ sig Val) in
abbrev ER : Emb (UR sig nD τ) (MT nD τ sig Unit Val ℕ (UU nD τ sig) ℕ) := embR

local notation "ℰ" => ER nD τ sig Val

/-! ## The plan -/

variable {J : Type} [Fintype J] [DecidableEq J]

variable (nD τ sig Val J) in
/-- Semaphore `j` of a device: where it is, how much is credited to it, and what comes with the credit. -/
structure Plan where
  sem : J → SemLoc sig
  inj : Function.Injective sem
  amt : J → ℕ
  pos : ∀ j, 0 < amt j
  pay : Dev nD → J → sProp (MT nD τ sig Unit Val ℕ (UU nD τ sig) ℕ)
  store : ∀ c j, BI.Storable (upEmb : UEmb _ (MT nD τ sig Unit Val ℕ (UU nD τ sig) ℕ)) (pay c j)

variable (P : Plan nD τ sig Val J)

namespace Plan

/-- Cell `j` of device `c`. -/
abbrev cell (x : Dev nD × J) : GSem nD τ sig := ((x.1 : Thread nD τ), P.sem x.2)

theorem cell_inj : Function.Injective P.cell := by
  rintro ⟨c, j⟩ ⟨c', j'⟩ h
  have h1 : (c : Thread nD τ) = (c' : Thread nD τ) := congrArg Prod.fst h
  have h2 : P.sem j = P.sem j' := congrArg Prod.snd h
  have h3 : c = c' := congrArg Prod.fst h1
  exact Prod.ext h3 (P.inj h2)

open Classical in
/-- One round, one duty, at every cell of the family. -/
def Rd : Schedule (GSem nD τ sig) Unit 𝕄 where
  duties g r := if r = 0 ∧ ∃ x, P.cell x = g then {()} else ∅
  unitless _ := False
  amount g _ _ := if h : ∃ x, P.cell x = g then P.amt h.choose.2 else 1
  payload g _ _ := if h : ∃ x, P.cell x = g then P.pay h.choose.1 h.choose.2 else iprop(emp)
  amount_pos g r d _ := by
    show 0 < dite _ _ _
    split
    · exact P.pos _
    · exact Nat.one_pos

instance Rd_storable (g : GSem nD τ sig) (r : ℕ) (d : Unit) :
    BI.Storable (upEmb : UEmb _ (MT nD τ sig Unit Val ℕ (UU nD τ sig) ℕ)) (P.Rd.payload g r d) := by
  show BI.Storable _ (dite _ _ _)
  split
  · exact P.store _ _
  · infer_instance

theorem choose_cell (x : Dev nD × J) (h : ∃ y, P.cell y = P.cell x) : h.choose = x := P.cell_inj h.choose_spec

theorem duties_cell (x : Dev nD × J) : P.Rd.duties (P.cell x) 0 = {()} := if_pos ⟨rfl, x, rfl⟩
theorem duties_later (g : GSem nD τ sig) : ∀ r, 0 + 1 ≤ r → P.Rd.duties g r = ∅ :=
  fun r hr => if_neg fun h => by have := h.1; omega
theorem amount_cell (x : Dev nD × J) : P.Rd.amount (P.cell x) 0 () = P.amt x.2 := by
  show dite _ _ _ = _
  rw [dif_pos ⟨x, rfl⟩, P.choose_cell]
theorem payload_cell (x : Dev nD × J) : P.Rd.payload (P.cell x) 0 () = P.pay x.1 x.2 := by
  show dite _ _ _ = _
  rw [dif_pos ⟨x, rfl⟩, P.choose_cell]
theorem expect_cell (x : Dev nD × J) : P.Rd.expect (P.cell x) 0 = P.amt x.2 := by
  unfold Schedule.expect Schedule.amountOf
  rw [P.duties_cell, Finset.sum_singleton, P.amount_cell]
theorem rest_cell (x : Dev nD × J) :
    bigSep (P.Rd.duties (P.cell x) 0 \ ∅) (fun d => P.Rd.payload (P.cell x) 0 d) = P.pay x.1 x.2 := by
  rw [Finset.sdiff_empty, P.duties_cell, BI.bigSep_singleton, P.payload_cell]

/-! ## What is known of the cells, and what is held of one -/

/-- Every cell of the family is on record, at its first round. -/
def Known : sProp 𝕄 :=
  iprop(∃ κ : Dev nD × J → ℕ, (bigSep Finset.univ fun x => cellInv ℰ P.Rd (κ x) (P.cell x))
    ∗ bigSep Finset.univ fun x => reached ℰ (P.cell x) 0)
instance Known_persistent : BI.Persistent P.Known := by unfold Known; infer_instance

/-- The right to credit a cell, the owner's place at it before its wait and after. -/
abbrev tok (c : Dev nD) (j : J) : sProp 𝕄 := dutyTok ℰ (P.cell (c, j)) 0 ()
abbrev wait (c : Dev nD) (j : J) : sProp 𝕄 := atPos ℰ (P.cell (c, j)) 0 ∅ 0
abbrev done (c : Dev nD) (j : J) : sProp 𝕄 := atPos ℰ (P.cell (c, j)) (0 + 1) ∅ 0

theorem known_at (x : Dev nD × J) : P.Known ⊢ iprop(∃ κ : ℕ, cellInv ℰ P.Rd κ (P.cell x) ∗ reached ℰ (P.cell x) 0) := by
  unfold Known
  iintro ⟨%κ, H, Hr⟩
  ihave H' := (show (bigSep Finset.univ fun x => (cellInv ℰ P.Rd (κ x) (P.cell x) : sProp 𝕄)) ⊢ cellInv ℰ P.Rd (κ x) (P.cell x)
    from BI.bigSep_elim (Finset.mem_univ x)) $$ H
  ihave Hr' := (show (bigSep Finset.univ fun x => (reached ℰ (P.cell x) 0 : sProp 𝕄)) ⊢ reached ℰ (P.cell x) 0
    from BI.bigSep_elim (Finset.mem_univ x)) $$ Hr
  iexists κ x
  isplitl [H'] <;> iassumption

/-! ## The rules -/

abbrev 𝒱₀ : Variants := Variants.none

variable {Λ : Labels} [∀ e, Nonempty (Val e)] {defs : Defs nD τ sig Val Λ} {α : Type} {Q : α → sProp (MT nD τ sig Unit Val ℕ (UU nD τ sig) ℕ)}
variable {sp sp' : Space} {s : Shape} {e : EltTy}

/-- A copy on the device. -/
theorem copy_step {c : Dev nD} {j : J} {src : Memref sig .tc sp s e} {dst : Memref sig .tc sp' s e} {sem : SemLoc sig}
    {hsrc : src.view.WordExact} {hdst : dst.view.WordExact} {hsem : DmaTarget.Typed (nD := nD) (τ := τ) (p := .tc) sp sem (.here dst)}
    {k : PUnit → Prog (TpuEff nD τ sig Val Λ .tc) α} {q : PosShare TreeShare}
    {fs : Buf Val (src.view.loc (c : Thread nD τ))} {fd : Buf Val (dst.view.loc (c : Thread nD τ))}
    (hs : P.sem j = sem) (hN : dst.view.amount sem = P.amt j)
    (hpay : iprop((dst.view.loc (c : Thread nD τ) ↦[dst.view.set]{fullShare} (dst.view.write Val fd (src.view.read Val fs) Finset.univ))
              ∗ (src.view.loc (c : Thread nD τ) ↦[src.view.set]{q} fs)) ⊢ P.pay c j) :
    iprop(P.Known ∗ (src.view.loc (c : Thread nD τ) ↦[src.view.set]{q} fs)
        ∗ (dst.view.loc (c : Thread nD τ) ↦[dst.view.set]{fullShare} fd) ∗ P.tok c j)
      ⊢ iprop((cred (tallyAt (P.cell (c, j)) () (P.amt j)) -∗ wp frame (wpE defs 𝒱₀ (c : Thread nD τ) none) Set.univ (k ⟨⟩) Q)
          -∗ wp frame (wpE defs 𝒱₀ (c : Thread nD τ) none) Set.univ (.op (.enqueueDma src (.here dst) sem hsrc hdst hsem) k) Q) := by
  subst hs
  iintro ⟨HK, Hs, Hd, Ht⟩
  ihave HK' := (P.known_at (c, j)) $$ HK
  icases HK' with ⟨%κ, Hi, Hr⟩
  iapply (wp_copy_pointsTo 𝒱₀ ℰ P.Rd (c : Thread nD τ) none (κ := κ) (r := 0) (d := ()) (fs := fs) (fd := fd)
    (by rw [show (((c : Thread nD τ), P.sem j) : GSem nD τ sig) = P.cell (c, j) from rfl, P.duties_cell]; exact Finset.mem_singleton_self _)
    () (P.amt j) hN (P.amount_cell (c, j)) (hpay.trans (Entails.of_eq (P.payload_cell (c, j)).symm)))
  isplitl [Hi]; · iexact Hi
  isplitl [Hs]; · iexact Hs
  isplitl [Hd]; · iexact Hd
  isplitl [Ht]; · iexact Ht
  iexact Hr

/-- A copy to device `c'`, crediting `j` at the sender and `j'` there. -/
theorem send_step {c c' : Dev nD} {j j' : J} {src : Memref sig .tc sp s e} {dst : Memref sig .tc sp' s e}
    {hsc : dst.view.ref.isScScratch = false} {sS sem : SemLoc sig}
    {hsrc : src.view.WordExact} {hdst : dst.view.WordExact} {hsem : DmaTarget.Typed (nD := nD) (τ := τ) (p := .tc) sp sem (.remote (c' : Thread nD τ) dst sS hsc)}
    {k : PUnit → Prog (TpuEff nD τ sig Val Λ .tc) α} {q : PosShare TreeShare}
    {fs : Buf Val (src.view.loc (c : Thread nD τ))} {fd : Buf Val (dst.view.loc (c' : Thread nD τ))}
    (hs : P.sem j = sS) (hs' : P.sem j' = sem) (hN : dst.view.amount sem = P.amt j) (hN' : P.amt j' = P.amt j)
    {O₀ : CellTallies nD τ sig Unit} (O : CellTallies nD τ sig Unit) (hO : O₀ = O + tallyAt (P.cell (c', j')) () (P.amt j)) {W : Waits sig Unit}
    (hpay : (src.view.loc (c : Thread nD τ) ↦[src.view.set]{q} fs) ⊢ P.pay c j)
    (hpay' : (dst.view.loc (c' : Thread nD τ) ↦[dst.view.set]{fullShare} (dst.view.write Val fd (src.view.read Val fs) Finset.univ)) ⊢ P.pay c' j')
    (hr : τ.routes (c : Thread nD τ) (c' : Thread nD τ) = true) :
    iprop(P.Known ∗ (src.view.loc (c : Thread nD τ) ↦[src.view.set]{q} fs)
        ∗ (dst.view.loc (c' : Thread nD τ) ↦[dst.view.set]{fullShare} fd) ∗ P.tok c j ∗ P.tok c' j' ∗ owes (c : Thread nD τ) O₀ W)
      ⊢ iprop(((cred (tallyAt (P.cell (c, j)) () (P.amt j)) ∗ owes (c : Thread nD τ) O W)
            -∗ wp frame (wpE defs 𝒱₀ (c : Thread nD τ) none) Set.univ (k ⟨⟩) Q)
          -∗ wp frame (wpE defs 𝒱₀ (c : Thread nD τ) none) Set.univ
            (.op (.enqueueDma src (.remote (c' : Thread nD τ) dst sS hsc) sem hsrc hdst hsem) k) Q) := by
  subst hs; subst hs'
  iintro ⟨#HK, Hs, Hd, Ht, Ht', Ho⟩
  ihave HK₁ := (P.known_at (c, j)) $$ HK
  icases HK₁ with ⟨%κ₁, Hi₁, Hr₁⟩
  ihave HK₂ := (P.known_at (c', j')) $$ HK
  icases HK₂ with ⟨%κ₂, Hi₂, Hr₂⟩
  iapply (wp_send_pointsTo 𝒱₀ ℰ P.Rd (c : Thread nD τ) none (κ₁ := κ₁) (κ₂ := κ₂) (r₁ := 0) (r₂ := 0) (d₁ := ()) (d₂ := ()) (fs := fs) (fd := fd)
    (by rw [show (((c : Thread nD τ), P.sem j) : GSem nD τ sig) = P.cell (c, j) from rfl, P.duties_cell]; exact Finset.mem_singleton_self _)
    (by rw [show (((c' : Thread nD τ), P.sem j') : GSem nD τ sig) = P.cell (c', j') from rfl, P.duties_cell]; exact Finset.mem_singleton_self _)
    () () (P.amt j) hN (P.amount_cell (c, j)) ((P.amount_cell (c', j')).trans hN') O hO (W := W)
    (hpay.trans (Entails.of_eq (P.payload_cell (c, j)).symm)) (hpay'.trans (Entails.of_eq (P.payload_cell (c', j')).symm)) hr)
  isplitl [Hi₁]; · iexact Hi₁
  isplitl [Hi₂]; · iexact Hi₂
  isplitl [Hs]; · iexact Hs
  isplitl [Hd]; · iexact Hd
  isplitl [Ho]; · iexact Ho
  isplitl [Ht]; · iexact Ht
  isplitl [Hr₁]; · iexact Hr₁
  isplitl [Ht']; · iexact Ht'
  iexact Hr₂

/-- The one wait at a cell. -/
theorem wait_step {c : Dev nD} {j : J} {src : Memref sig .tc sp s e} {dst : Memref sig .tc sp' s e} {sem : DmaSem sig}
    {hsrc : src.view.WordExact} {hdst : dst.view.WordExact} {k : PUnit → Prog (TpuEff nD τ sig Val Λ .tc) α}
    (hs : P.sem j = .dma sem) (hN : dst.view.dmaCredit = P.amt j) {O : CellTallies nD τ sig Unit} {W : Waits sig Unit} :
    iprop(P.Known ∗ cred (tallyAt (P.cell (c, j)) () (P.amt j)) ∗ P.wait c j ∗ owes (c : Thread nD τ) O W ∗ MayWait (c : Thread nD τ) (P.sem j) () O)
      ⊢ iprop(((P.pay c j ∗ P.done c j ∗ ∃ W', owes (c : Thread nD τ) O W')
            -∗ wp frame (wpE defs 𝒱₀ (c : Thread nD τ) none) Set.univ (k ⟨⟩) Q)
          -∗ wp frame (wpE defs 𝒱₀ (c : Thread nD τ) none) Set.univ (.op (.waitDma2 sem src dst hsrc hdst) k) Q) := by
  iintro ⟨HK, Hc, Hw, Ho, Hm⟩ Hk
  ihave HK' := (P.known_at (c, j)) $$ HK
  icases HK' with ⟨%κ, Hi, Hr⟩
  iapply (wp_wait_rest_token 𝒱₀ ℰ P.Rd (c : Thread nD τ) none (κ := κ) (sm := P.sem j) (k' := P.amt j)
      (by rw [hs, ← hN]; exact wpE_waitDma2_eq 𝒱₀ (c : Thread nD τ) none Set.univ) (Set.mem_univ _) () (O := O) (W := W) (R := 0) (m := 0) (T := ∅)
      (by rw [Nat.zero_add]; exact (P.expect_cell (c, j)).symm)) $$ [Hi Hc Hw Ho Hm] [Hk]
  · isplitl [Hi]; · iexact Hi
    isplitl [Hc]; · iexact Hc
    isplitl [Ho]; · iexact Ho
    isplitl [Hm]; · iexact Hm
    iexact Hw
  · iintro ⟨Ho, Hd, -, Hp⟩
    iapply Hk
    isplitl [Hp]
    · ihave Hp' := (Entails.of_eq (P.rest_cell (c, j))) $$ Hp
      iexact Hp'
    isplitl [Hd]; · iexact Hd
    iexists (insert (P.sem j, ()) W)
    iexact Ho

/-! ## The launch and the end -/

/-- The family's cells and rights, for its ghost state. -/
def cells : Finset (GSem nD τ sig) := Finset.univ.map ⟨P.cell, P.cell_inj⟩
def toks : Finset (GSem nD τ sig × ℕ × Unit) :=
  Finset.univ.map ⟨fun x => (P.cell x, 0, ()), fun x y h => P.cell_inj (congrArg Prod.fst h)⟩

/-- The ghost state of the launch, its counters at zero: the cells go on record, each with its owner's place and the
    right to credit it. -/
theorem fund : iprop((bigSep Finset.univ fun x : Dev nD × J => semVal (P.cell x) 0) ∗ BI.own (ℰ (initOf P.cells P.toks)))
    ⊢ |={Set.univ}=> iprop(P.Known ∗ (bigSep Finset.univ fun x : Dev nD × J => P.wait x.1 x.2) ∗ bigSep Finset.univ fun x : Dev nD × J => P.tok x.1 x.2) := by
  have hX (Φ : GSem nD τ sig → sProp 𝕄) : bigSep P.cells Φ = bigSep Finset.univ fun x => Φ (P.cell x) := by
    unfold cells; rw [BI.bigSep_map]; rfl
  have hT : bigSep P.toks (fun x => (dutyTok ℰ x.1 x.2.1 x.2.2 : sProp 𝕄)) = bigSep Finset.univ fun x : Dev nD × J => P.tok x.1 x.2 := by
    unfold toks; rw [BI.bigSep_map]; rfl
  iintro ⟨Hv, HX⟩
  imod (Rounds.fund ℰ P.Rd P.cells P.toks) $$ HX with ⟨Hst, Hr, Hat, Htok⟩
  ihave Hst' := (Entails.of_eq (hX fun g => roundState ℰ P.Rd g 0)) $$ Hst
  ihave Hat' := (Entails.of_eq (hX fun g => atPos ℰ g 0 ∅ 0)) $$ Hat
  ihave Hr' := (Entails.of_eq (hX fun g => reached ℰ g 0)) $$ Hr
  ihave Htok' := (Entails.of_eq hT) $$ Htok
  imod (show iprop((bigSep Finset.univ fun x : Dev nD × J => semVal (P.cell x) 0) ∗ bigSep Finset.univ fun x => roundState ℰ P.Rd (P.cell x) 0)
      ⊢ (|={Set.univ}=> bigSep Finset.univ fun x => iprop(∃ κ : ℕ, cellInv ℰ P.Rd κ (P.cell x)) : sProp 𝕄) from by
        rw [← bigSep_sep']
        exact (bigSep_mono fun x _ => (Rounds.body_intro ℰ P.Rd (P.cell x)).trans inv_alloc).trans (bigSep_fupd _ _)) $$ [Hv Hst'] with Hinv
  · isplitl [Hv] <;> iassumption
  imodintro
  ihave Hinv' := (BI.bigSep_exists_pi Finset.univ fun (x : Dev nD × J) (κ : ℕ) => cellInv ℰ P.Rd κ (P.cell x)) $$ Hinv
  icases Hinv' with ⟨%κ, Hinv'⟩
  isplitl [Hinv' Hr']
  · unfold Known
    iexists κ
    isplitl [Hinv'] <;> iassumption
  isplitl [Hat'] <;> iassumption

/-- All waits of a device done, its counters are at zero again. -/
theorem close (c : Dev nD) : iprop(P.Known ∗ bigSep Finset.univ fun j => P.done c j) ⊢ |={Set.univ}=> bigSep Finset.univ fun j => semVal (P.cell (c, j)) 0 := by
  have h (j : J) : iprop(P.Known ∗ P.done c j) ⊢ |={Set.univ}=> semVal (P.cell (c, j)) 0 := by
    iintro ⟨HK, Hd⟩
    ihave HK' := (P.known_at (c, j)) $$ HK
    icases HK' with ⟨%κ, Hi, -⟩
    iapply (Rounds.cell_close ℰ P.Rd (κ := κ) (Set.mem_univ _) (fun h => h) (R := 0 + 1) (P.duties_later _))
    isplitl [Hi]; · iexact Hi
    iexact Hd
  refine (sep_mono_left (BI.bigSep_of_persistent (Finset.univ : Finset J) P.Known)).trans ?_
  rw [← bigSep_sep']
  exact (bigSep_mono fun j _ => h j).trans (bigSep_fupd _ _)

/-! ## A list of operations -/

/-- A list of operations, each taking `A i` to `B i` and moving `I` on past `i`, takes all of `A` to all of `B`. -/
theorem chain_step {ι : Type} (c : Dev nD) (R : sProp 𝕄) [BI.Persistent R] (op : ι → Prog (TpuEff nD τ sig Val Λ .tc) PUnit)
    (A B : ι → sProp 𝕄) (I : List ι → sProp 𝕄) (rest : List (Prog (TpuEff nD τ sig Val Λ .tc) PUnit)) (Q : PUnit → sProp 𝕄)
    (h : ∀ (i : ι) (l : List ι) (k : PUnit → Prog (TpuEff nD τ sig Val Λ .tc) PUnit),
      iprop(R ∗ A i ∗ I (i :: l)) ⊢ iprop(((B i ∗ I l) -∗ wp frame (wpE defs 𝒱₀ (c : Thread nD τ) none) Set.univ (k ⟨⟩) Q)
        -∗ wp frame (wpE defs 𝒱₀ (c : Thread nD τ) none) Set.univ (op i >>= k) Q)) :
    ∀ l : List ι, iprop(R ∗ bigSepL l A ∗ I l)
      ⊢ iprop(((bigSepL l B ∗ I []) -∗ wp frame (wpE defs 𝒱₀ (c : Thread nD τ) none) Set.univ (Pipeline.chain rest) Q)
        -∗ wp frame (wpE defs 𝒱₀ (c : Thread nD τ) none) Set.univ (Pipeline.chain (l.map op ++ rest)) Q)
  | [] => by
    rw [bigSepL_nil, bigSepL_nil]
    show _ ⊢ iprop(((emp ∗ I []) -∗ wp frame (wpE defs 𝒱₀ (c : Thread nD τ) none) Set.univ (Pipeline.chain rest) Q)
        -∗ wp frame (wpE defs 𝒱₀ (c : Thread nD τ) none) Set.univ (Pipeline.chain rest) Q)
    iintro ⟨-, H, HI⟩ Hk
    iapply Hk
    isplitl [H] <;> iassumption
  | i :: l => by
    rw [bigSepL_cons', bigSepL_cons']
    iintro ⟨#HR, ⟨HA, HAs⟩, HI⟩ Hk
    iapply (h i l fun _ => Pipeline.chain (l.map op ++ rest)) $$ [HA HI] [HAs Hk]
    · isplitr; · iexact HR
      isplitl [HA] <;> iassumption
    · iintro ⟨HB, HI⟩
      iapply (chain_step c R op A B I rest Q h l) $$ [HAs HI] [HB Hk]
      · isplitr; · iexact HR
        isplitl [HAs] <;> iassumption
      · iintro ⟨HBs, HI⟩
        iapply Hk
        isplitl [HB HBs]
        · isplitl [HB] <;> iassumption
        · iexact HI

end Plan

end Cert.Once

end
-- ==== Proof.Sched.lean ====
/-
# The exchange's semaphores and its operations' rules

The plan (`Once.Plan`) of the exchange: a copy on a device hands over both rows, a copy to a peer hands the source row
back to the sender and the row it filled to the peer. For each of the five kinds of operation of the body, its rule.
-/
module

public import proofs.«01_k».proof.Proof.Rows
public import proofs.«01_k».proof.Proof.Once

@[expose] public section

noncomputable section

namespace Cert.Exchange

open Cert.KernelIdeal Cert.KernelIdeal.Gen Cert.Rowed
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Once (Plan)
open Cert.Once.Plan (𝒱₀)

variable {F : FTy → Type} [FloatOps F]

local notation "𝕄" => MT nD τ sig Unit (Elt F) ℕ (UR sig nD τ × UR sig nD τ) ℕ

/-! ## The semaphores -/

/-- A device's semaphores: of the copies to its peers, of the copies from its peers, of the copies on the device. -/
abbrev J : Type := (Fin 7 × Fin 6) ⊕ (Fin 7 × Fin 6) ⊕ Fin 6

abbrev jSend (x : Fin 7 × Fin 6) : J := .inl x
abbrev jRecv (x : Fin 7 × Fin 6) : J := .inr (.inl x)
abbrev jLoc (a : Fin 6) : J := .inr (.inr a)

def semD : J → DmaSem sig
  | .inl x => sendS x.2 x.1
  | .inr (.inl x) => recvS x.2 x.1
  | .inr (.inr a) => locS a

theorem semD_val (j : J) : (semD j).val = match j with
    | .inl x => 7 * x.2.val + x.1.val
    | .inr (.inl x) => 42 + 7 * x.2.val + x.1.val
    | .inr (.inr a) => 84 + a.val := by
  rcases j with x | x | a
  · exact sendS_val _ _
  · exact recvS_val _ _
  · exact locS_val _

theorem semD_inj : Function.Injective semD := by
  intro i j h
  have h' := congrArg Fin.val h
  rw [semD_val, semD_val] at h'
  rcases i with ⟨k, a⟩ | ⟨k, a⟩ | a <;> rcases j with ⟨k', a'⟩ | ⟨k', a'⟩ | a' <;> dsimp only at h'
  all_goals first
    | (exfalso; omega)
    | (obtain ⟨h1, h2⟩ : k = k' ∧ a = a' := ⟨Fin.ext (by omega), Fin.ext (by omega)⟩; rw [h1, h2])
    | (obtain h2 : a = a' := Fin.ext (by omega); rw [h2])

/-- Every semaphore of the kernel is one of them. -/
theorem semD_surj (s : DmaSem sig) : ∃ j, semD j = s := by
  have hs : s.val < 90 := s.isLt
  by_cases h1 : s.val < 42
  · exact ⟨.inl (⟨s.val % 7, by omega⟩, ⟨s.val / 7, by omega⟩), Fin.ext (by rw [semD_val]; dsimp only; omega)⟩
  by_cases h2 : s.val < 84
  · exact ⟨.inr (.inl (⟨(s.val - 42) % 7, by omega⟩, ⟨(s.val - 42) / 7, by omega⟩)), Fin.ext (by rw [semD_val]; dsimp only; omega)⟩
  · exact ⟨.inr (.inr ⟨s.val - 84, by omega⟩), Fin.ext (by rw [semD_val]; dsimp only; omega)⟩

/-- The array of a semaphore. -/
def arr : J → Fin 6
  | .inl x => x.2
  | .inr (.inl x) => x.2
  | .inr (.inr a) => a

/-- What a row of array `a` credits. -/
def N (a : Fin 6) : ℕ := (rOut a (0 : Dev nD)).view.dmaCredit
theorem N_out (a : Fin 6) (off : Fin 3 → ℕ) (h : ∀ i, off i + (SR1 a).size i ≤ (SA a).size i) : (row a (outM a) off h).view.dmaCredit = N a := rfl
theorem N_in (a : Fin 6) (off : Fin 3 → ℕ) (h : ∀ i, off i + (SR1 a).size i ≤ (SA a).size i) : (row a (inM a) off h).view.dmaCredit = N a := by
  fin_cases a <;> rfl
theorem N_pos (a : Fin 6) : 0 < N a := View.dmaCredit_pos _ (by revert a; decide)

/-! ## The plan -/

variable (m : (ℓ : Loc nD τ sig) → Buf (Elt F) ℓ)

/-- What each semaphore's credit comes with. -/
def pay (c : Dev nD) : J → sProp 𝕄
  | .inl x => rowPts x.2 (inM x.2) c (peer x.1 c) (inB m c x.2)
  | .inr (.inl x) => rowPts x.2 (outM x.2) c (peer x.1 c) (landed m c x.2)
  | .inr (.inr a) => iprop(rowPts a (outM a) c c (landed m c a) ∗ rowPts a (inM a) c c (inB m c a))

def plan : Plan nD τ sig (Elt F) J where
  sem j := .dma (semD j)
  inj := fun i j h => semD_inj (SemLoc.dma.inj h)
  amt j := N (arr j)
  pos j := N_pos (arr j)
  pay := pay m
  store := fun c j => by
    rcases j with x | x | a
    · exact inferInstanceAs (BI.Storable _ (rowPts _ _ _ _ _))
    · exact inferInstanceAs (BI.Storable _ (rowPts _ _ _ _ _))
    · exact inferInstanceAs (BI.Storable _ (iprop(rowPts _ _ _ _ _ ∗ rowPts _ _ _ _ _)))

/-! ## The operations at the rows' own offsets -/

def localAt (a : Fin 6) (off : Fin 3 → ℕ) (h : ∀ i, off i + (SR1 a).size i ≤ (SA a).size i) (h1 : off 1 = 0) : Prog (E F) PUnit :=
  Prog.lift (.enqueueDma (row a (inM a) off h) (.here (row a (outM a) off h)) (.dma (locS a))
    (row_wordExact a (inM_whole a) _ _ h1) (row_wordExact a (outM_whole a) _ _ h1) ⟨Or.inl rfl, trivial⟩)

def sendAt (k : Fin 7) (a : Fin 6) (n : Dev nD) (off : Fin 3 → ℕ) (h : ∀ i, off i + (SR1 a).size i ≤ (SA a).size i) (h1 : off 1 = 0)
    (off' : Fin 3 → ℕ) (h' : ∀ i, off' i + (SR1 a).size i ≤ (SA a).size i) (h1' : off' 1 = 0) : Prog (E F) PUnit :=
  Prog.lift (.enqueueDma (row a (inM a) off h)
    (.remote (Dev.tc n) (row a (outM a) off' h') (.dma (sendS a k)) (by fin_cases a <;> rfl)) (.dma (recvS a k))
    (row_wordExact a (inM_whole a) _ _ h1) (row_wordExact a (outM_whole a) _ _ h1') ⟨⟨rfl, Or.inl rfl⟩, trivial⟩)

theorem localOp_eq (d : Dev nD) (a : Fin 6) : (localOp d a : Prog (E F) PUnit) = localAt a ![d.val, 0, 0] (inb_row a d) rfl := by
  have key (off off' : Fin 3 → ℕ) (e : off = off') (h h' h1 h1') : (localAt a off h h1 : Prog (E F) PUnit) = localAt a off' h' h1' := by
    subst e; rfl
  exact key _ _ (offM_eq d) (inb_M a d) _ (offM_one d) _

theorem sendOp_eq (d : Dev nD) (k : Fin 7) (a : Fin 6) : (sendOp d k a : Prog (E F) PUnit)
    = sendAt k a (peer k d) ![(peer k d).val, 0, 0] (inb_row a (peer k d)) rfl ![d.val, 0, 0] (inb_row a d) rfl := by
  have key (n n' : Dev nD) (en : n = n') (o o' : Fin 3 → ℕ) (e : o = o') (p p' : Fin 3 → ℕ) (e' : p = p') (h h' h1 h1' g g' g1 g1') :
      (sendAt k a n o h h1 p g g1 : Prog (E F) PUnit) = sendAt k a n' o' h' h1' p' g' g1' := by
    subst en e e'; rfl
  exact key ⟨devP d k, devP_lt d k⟩ _ (Fin.ext (devP_eq d k)) _ _ (offP_eq d k) _ _ (offM_eq d) (inb_P a d k) _ (offP_one d k) _ (inb_M a d) _ (offM_one d) _

/-! ## Their rules -/

variable {Q : PUnit → sProp (MT nD τ sig Unit (Elt F) ℕ (UR sig nD τ × UR sig nD τ) ℕ)}

/-- Before and after the copy of a row on the device. -/
def locA (c : Dev nD) (a : Fin 6) : sProp 𝕄 :=
  iprop((rowPts a (inM a) c c (inB m c a) ∗ rowPts a (outM a) c c (outB m c a)) ∗ (plan m).tok c (jLoc a))
def locB (c : Dev nD) (a : Fin 6) : sProp 𝕄 := cred (tallyAt ((plan m).cell (c, jLoc a)) () (N a))

theorem local_step (c : Dev nD) (a : Fin 6) (k : PUnit → Prog (E F) PUnit) :
    iprop((plan m).Known ∗ locA m c a ∗ emp) ⊢ iprop(((locB m c a ∗ emp) -∗ wp frame (wpE defs₀ 𝒱₀ (c : Thread nD τ) none) Set.univ (k ⟨⟩) Q)
      -∗ wp frame (wpE defs₀ 𝒱₀ (c : Thread nD τ) none) Set.univ (localOp c a >>= k) Q) := by
  rw [localOp_eq]
  unfold locA locB rowPts
  iintro ⟨HK, ⟨⟨Hi, Ho⟩, Ht⟩, -⟩ Hk
  iapply ((plan m).copy_step (c := c) (j := jLoc a) (src := rIn a c) (dst := rOut a c) (sem := .dma (locS a)) (fs := inB m c a) (fd := outB m c a)
    rfl (N_out a _ _) (sep_mono_left (lands m c c a _))) $$ [HK Hi Ho Ht] [Hk]
  · isplitl [HK]; · iexact HK
    isplitl [Hi]; · iexact Hi
    isplitl [Ho] <;> iassumption
  · iintro Hc
    iapply Hk
    isplitl [Hc]; · iexact Hc
    iempintro

/-- What device `c` owes for its copies to its peers. -/
def due (c : Dev nD) (x : Fin 7 × Fin 6) : CellTallies nD τ sig Unit := tallyAt ((plan m).cell (peer x.1 c, jRecv x)) () (N x.2)

/-- Before and after a copy to a peer. -/
def sendA (c : Dev nD) (x : Fin 7 × Fin 6) : sProp 𝕄 :=
  iprop((rowPts x.2 (inM x.2) c (peer x.1 c) (inB m c x.2) ∗ rowPts x.2 (outM x.2) (peer x.1 c) c (outB m (peer x.1 c) x.2))
    ∗ (plan m).tok c (jSend x) ∗ (plan m).tok (peer x.1 c) (jRecv x))
def sendB (c : Dev nD) (x : Fin 7 × Fin 6) : sProp 𝕄 := cred (tallyAt ((plan m).cell (c, jSend x)) () (N x.2))
def sendI (c : Dev nD) (l : List (Fin 7 × Fin 6)) : sProp 𝕄 := iprop(∃ W, owes (c : Thread nD τ) (l.map (due m c)).sum W)

theorem send_step (c : Dev nD) (x : Fin 7 × Fin 6) (l : List (Fin 7 × Fin 6)) (k : PUnit → Prog (E F) PUnit) :
    iprop((plan m).Known ∗ sendA m c x ∗ sendI m c (x :: l)) ⊢ iprop(((sendB m c x ∗ sendI m c l) -∗ wp frame (wpE defs₀ 𝒱₀ (c : Thread nD τ) none) Set.univ (k ⟨⟩) Q)
      -∗ wp frame (wpE defs₀ 𝒱₀ (c : Thread nD τ) none) Set.univ (sendOp c x.1 x.2 >>= k) Q) := by
  rw [sendOp_eq]
  unfold sendA sendB sendI rowPts
  iintro ⟨HK, ⟨⟨Hi, Ho⟩, Ht, Ht'⟩, ⟨%W, HO⟩⟩ Hk
  iapply ((plan m).send_step (c := c) (c' := peer x.1 c) (j := jSend x) (j' := jRecv x) (src := rIn x.2 (peer x.1 c)) (dst := rOut x.2 c)
    (sS := .dma (sendS x.2 x.1)) (sem := .dma (recvS x.2 x.1)) (fs := inB m c x.2) (fd := outB m (peer x.1 c) x.2)
    rfl rfl (N_out x.2 _ _) rfl (O₀ := ((x :: l).map (due m c)).sum) (l.map (due m c)).sum
    (by rw [List.map_cons, List.sum_cons, add_comm]; rfl) (W := W) (Entails.refl _) (by
      have h := lands m (peer x.1 c) c x.2 (outB m (peer x.1 c) x.2)
      exact h.trans (Entails.of_eq (by show _ = rowPts x.2 (outM x.2) (peer x.1 c) (peer x.1 (peer x.1 c)) (landed m (peer x.1 c) x.2); rw [peer_peer]))) (by routes)) $$ [HK Hi Ho Ht Ht' HO] [Hk]
  · isplitl [HK]; · iexact HK
    isplitl [Hi]; · iexact Hi
    isplitl [Ho]; · iexact Ho
    isplitl [Ht]; · iexact Ht
    isplitl [Ht'] <;> iassumption
  · iintro ⟨Hc, HO⟩
    iapply Hk
    isplitl [Hc]; · iexact Hc
    iexists W
    iexact HO

/-- A device that owes nothing more. -/
def free (c : Dev nD) : sProp 𝕄 := iprop(∃ W, owes (c : Thread nD τ) 0 W)

/-- Before and after the wait at a semaphore. -/
def waitA (c : Dev nD) (j : J) : sProp 𝕄 := iprop(cred (tallyAt ((plan m).cell (c, j)) () (N (arr j))) ∗ (plan m).wait c j)
def waitB (c : Dev nD) (j : J) : sProp 𝕄 := iprop((plan m).pay c j ∗ (plan m).done c j)

theorem wait_step (c : Dev nD) (j : J) {s : Shape} {src dst : Memref sig .tc .hbm s .bf16} {hsrc : src.view.WordExact} {hdst : dst.view.WordExact} (sem : DmaSem sig)
    (hs : semD j = sem) (hN : dst.view.dmaCredit = N (arr j)) (k : PUnit → Prog (E F) PUnit) :
    iprop((plan m).Known ∗ waitA m c j ∗ free c) ⊢ iprop(((waitB m c j ∗ free c) -∗ wp frame (wpE defs₀ 𝒱₀ (c : Thread nD τ) none) Set.univ (k ⟨⟩) Q)
      -∗ wp frame (wpE defs₀ 𝒱₀ (c : Thread nD τ) none) Set.univ (Prog.lift (.waitDma2 sem src dst hsrc hdst) >>= k) Q) := by
  unfold waitA waitB free
  iintro ⟨HK, ⟨Hc, Hw⟩, ⟨%W, HO⟩⟩ Hk
  iapply ((plan m).wait_step (c := c) (j := j) (sem := sem) (src := src) (dst := dst) (congrArg SemLoc.dma hs) hN (O := 0) (W := W)) $$ [HK Hc Hw HO] [Hk]
  · isplitl [HK]; · iexact HK
    isplitl [Hc]; · iexact Hc
    isplitl [Hw]; · iexact Hw
    isplitl [HO]; · iexact HO
    rw [MayWait_zero]; iempintro
  · iintro ⟨Hp, Hd, Ho⟩
    iapply Hk
    isplitl [Hp Hd]
    · isplitl [Hp]; · iexact Hp
      iexact Hd
    iexact Ho

end Cert.Exchange

end
-- ==== Proof.Walk.lean ====
/-
# One device's run through the exchange

`start` is what a device has when its body begins, `final` what it has when the body ends: its operands as they were, its
results as the exchange leaves them, its semaphores' counters at zero. `body_walk` takes the one to the other, list of
operations by list of operations.
-/
module

public import proofs.«01_k».proof.Proof.Sched
public import proofs.«01_k».proof.Proof.Gen.KernelIdeal.Launch

@[expose] public section

noncomputable section

namespace Cert.Exchange

open Cert.KernelIdeal Cert.KernelIdeal.Gen Cert.Rowed
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Once (Plan)
open Cert.Once.Plan (𝒱₀ chain_step)

variable {F : FTy → Type} [FloatOps F]

local notation "𝕄" => MT nD τ sig Unit (Elt F) ℕ (UR sig nD τ × UR sig nD τ) ℕ

variable (m : (ℓ : Loc nD τ sig) → Buf (Elt F) ℓ)

/-- What a device has when its body begins, its debt apart. -/
def start (c : Dev nD) : sProp 𝕄 :=
  iprop((plan m).Known ∗ (bigSep Finset.univ (locA m c)) ∗ (bigSep Finset.univ (sendA m c)) ∗ (bigSep Finset.univ fun x => waitA m c (jRecv x))
    ∗ (bigSep Finset.univ fun x => (plan m).wait c (jSend x)) ∗ bigSep Finset.univ fun a => (plan m).wait c (jLoc a))

/-- What it owes when its body begins. -/
def dues (c : Dev nD) : CellTallies nD τ sig Unit := (pairs.map (due m c)).sum

/-- Device `c`'s operand `a` and its result, whole, at contents. -/
def wholePts (a : Fin 6) (M : Memref sig .tc .hbm (SA a) .bf16) (c : Dev nD) (f : Buf (Elt F) (M.view.loc (c : Thread nD τ))) : sProp 𝕄 :=
  M.view.loc (c : Thread nD τ) ↦[M.view.set]{fullShare} f

/-- The operands as they were and the results of the exchange. -/
def arrays (c : Dev nD) : sProp 𝕄 :=
  bigSep Finset.univ fun a : Fin 6 => iprop(wholePts a (inM a) c (inB m c a) ∗ wholePts a (outM a) c (landed m c a))

/-- What a device has when its body ends. -/
def final (c : Dev nD) : sProp 𝕄 := iprop(arrays m c ∗ bigSep Finset.univ fun j => semVal ((plan m).cell (c, j)) 0)

/-- All the waits' payloads are the arrays. -/
theorem pays_arrays (c : Dev nD) :
    iprop((bigSep Finset.univ fun x => (plan m).pay c (jRecv x)) ∗ (bigSep Finset.univ fun x => (plan m).pay c (jSend x)) ∗ bigSep Finset.univ fun a => (plan m).pay c (jLoc a))
      ⊢ (arrays m c : sProp 𝕄) := by
  have h1 : (bigSep Finset.univ fun x => (plan m).pay c (jRecv x))
      = bigSep Finset.univ fun a : Fin 6 => bigSep Finset.univ fun k : Fin 7 => rowPts a (outM a) c (peer k c) (landed m c a) :=
    prod_swap fun k a => rowPts a (outM a) c (peer k c) (landed m c a)
  have h2 : (bigSep Finset.univ fun x => (plan m).pay c (jSend x))
      = bigSep Finset.univ fun a : Fin 6 => bigSep Finset.univ fun k : Fin 7 => rowPts a (inM a) c (peer k c) (inB m c a) :=
    prod_swap fun k a => rowPts a (inM a) c (peer k c) (inB m c a)
  rw [h1, h2, ← bigSep_sep', ← bigSep_sep']
  refine bigSep_mono fun a _ => ?_
  unfold wholePts
  rw [whole_rows a (inM a) c, whole_rows a (outM a) c, rows_peers c, rows_peers c]
  show iprop(_ ∗ _ ∗ (rowPts a (outM a) c c (landed m c a) ∗ rowPts a (inM a) c c (inB m c a))) ⊢ _
  iintro ⟨Ho, Hi, Ho', Hi'⟩
  isplitl [Hi Hi']
  · isplitl [Hi'] <;> iassumption
  · isplitl [Ho'] <;> iassumption

/-- The waits done, the counters are at zero. -/
theorem dones_close (c : Dev nD) :
    iprop((plan m).Known ∗ (bigSep Finset.univ fun x => (plan m).done c (jRecv x)) ∗ (bigSep Finset.univ fun x => (plan m).done c (jSend x))
        ∗ bigSep Finset.univ fun a => (plan m).done c (jLoc a))
      ⊢ (|={Set.univ}=> bigSep Finset.univ fun j => semVal ((plan m).cell (c, j)) 0 : sProp 𝕄) := by
  refine BIBase.Entails.trans ?_ ((plan m).close c)
  rw [by_kind]
  iintro ⟨HK, Hr, Hs, Hl⟩
  isplitl [HK]; · iexact HK
  isplitl [Hs]; · iexact Hs
  isplitl [Hr] <;> iassumption

/-- A family of waits, from what is held of each. -/
theorem sent_waits (c : Dev nD) : iprop((bigSep Finset.univ (sendB m c)) ∗ bigSep Finset.univ fun x => (plan m).wait c (jSend x))
    ⊢ (bigSep Finset.univ fun x => waitA m c (jSend x) : sProp 𝕄) := by
  rw [← bigSep_sep']; exact bigSep_mono fun x _ => Entails.refl _
theorem kept_waits (c : Dev nD) : iprop((bigSep Finset.univ (locB m c)) ∗ bigSep Finset.univ fun a => (plan m).wait c (jLoc a))
    ⊢ (bigSep Finset.univ fun a => waitA m c (jLoc a) : sProp 𝕄) := by
  rw [← bigSep_sep']; exact bigSep_mono fun x _ => Entails.refl _

/-- What a family of waits brings, apart. -/
theorem waits_split {I : Type} [Fintype I] [DecidableEq I] (c : Dev nD) (f : I → J) : (bigSep Finset.univ fun i => waitB m c (f i) : sProp 𝕄)
    = iprop((bigSep Finset.univ fun i => (plan m).pay c (f i)) ∗ bigSep Finset.univ fun i => (plan m).done c (f i)) :=
  bigSep_sep' (s := Finset.univ) (Φ := fun i => (plan m).pay c (f i)) (Ψ := fun i => (plan m).done c (f i))

/-! ## The five lists -/

theorem recv_step (c : Dev nD) (x : Fin 7 × Fin 6) (k : PUnit → Prog (E F) PUnit) {Q : PUnit → sProp (MT nD τ sig Unit (Elt F) ℕ (UR sig nD τ × UR sig nD τ) ℕ)} :
    iprop((plan m).Known ∗ waitA m c (jRecv x) ∗ free c) ⊢ iprop(((waitB m c (jRecv x) ∗ free c) -∗ wp frame (wpE defs₀ 𝒱₀ (c : Thread nD τ) none) Set.univ (k ⟨⟩) Q)
      -∗ wp frame (wpE defs₀ 𝒱₀ (c : Thread nD τ) none) Set.univ (recvOp c x.1 x.2 >>= k) Q) := by
  obtain ⟨i, a⟩ := x
  unfold recvOp
  exact wait_step m c (jRecv (i, a)) (src := row a (inM a) (offM c) (inb_M a c)) (dst := row a (outM a) (offP c i) (inb_P a c i)) (recvS a i) rfl (N_out a (offP c i) (inb_P a c i)) k

theorem sent_step (c : Dev nD) (x : Fin 7 × Fin 6) (k : PUnit → Prog (E F) PUnit) {Q : PUnit → sProp (MT nD τ sig Unit (Elt F) ℕ (UR sig nD τ × UR sig nD τ) ℕ)} :
    iprop((plan m).Known ∗ waitA m c (jSend x) ∗ free c) ⊢ iprop(((waitB m c (jSend x) ∗ free c) -∗ wp frame (wpE defs₀ 𝒱₀ (c : Thread nD τ) none) Set.univ (k ⟨⟩) Q)
      -∗ wp frame (wpE defs₀ 𝒱₀ (c : Thread nD τ) none) Set.univ (sentOp c x.1 x.2 >>= k) Q) := by
  obtain ⟨i, a⟩ := x
  unfold sentOp
  exact wait_step m c (jSend (i, a)) (src := row a (outM a) (offM c) (inb_M a c)) (dst := row a (inM a) (offP c i) (inb_P a c i)) (sendS a i) rfl (N_in a (offP c i) (inb_P a c i)) k

theorem local_phase (c : Dev nD) (l : List (Fin 6)) (rest : List (Prog (E F) PUnit)) (Q : PUnit → sProp 𝕄) :
    iprop((plan m).Known ∗ bigSepL l (locA m c) ∗ emp)
      ⊢ iprop(((bigSepL l (locB m c) ∗ emp) -∗ wp frame (wpE defs₀ 𝒱₀ (c : Thread nD τ) none) Set.univ (Pipeline.chain rest) Q)
        -∗ wp frame (wpE defs₀ 𝒱₀ (c : Thread nD τ) none) Set.univ (Pipeline.chain (l.map (localOp c) ++ rest)) Q) :=
  chain_step (defs := defs₀) c (plan m).Known (localOp c) (locA m c) (locB m c) (fun _ => iprop(emp)) rest Q (fun a l k => local_step m c a k) l

theorem send_phase (c : Dev nD) (l : List (Fin 7 × Fin 6)) (rest : List (Prog (E F) PUnit)) (Q : PUnit → sProp 𝕄) :
    iprop((plan m).Known ∗ bigSepL l (sendA m c) ∗ sendI m c l)
      ⊢ iprop(((bigSepL l (sendB m c) ∗ sendI m c []) -∗ wp frame (wpE defs₀ 𝒱₀ (c : Thread nD τ) none) Set.univ (Pipeline.chain rest) Q)
        -∗ wp frame (wpE defs₀ 𝒱₀ (c : Thread nD τ) none) Set.univ (Pipeline.chain (l.map (fun x => sendOp c x.1 x.2) ++ rest)) Q) := by
  refine chain_step (ι := Fin 7 × Fin 6) (defs := defs₀) c (plan m).Known (fun x => sendOp c x.1 x.2) (sendA m c) (sendB m c) (sendI m c) rest Q ?_ l
  intro x l k
  exact send_step m c x l k

theorem recv_phase (c : Dev nD) (l : List (Fin 7 × Fin 6)) (rest : List (Prog (E F) PUnit)) (Q : PUnit → sProp 𝕄) :
    iprop((plan m).Known ∗ bigSepL l (fun x => waitA m c (jRecv x)) ∗ free c)
      ⊢ iprop(((bigSepL l (fun x => waitB m c (jRecv x)) ∗ free c) -∗ wp frame (wpE defs₀ 𝒱₀ (c : Thread nD τ) none) Set.univ (Pipeline.chain rest) Q)
        -∗ wp frame (wpE defs₀ 𝒱₀ (c : Thread nD τ) none) Set.univ (Pipeline.chain (l.map (fun x => recvOp c x.1 x.2) ++ rest)) Q) := by
  refine chain_step (ι := Fin 7 × Fin 6) (defs := defs₀) c (plan m).Known (fun x => recvOp c x.1 x.2) (fun x => waitA m c (jRecv x)) (fun x => waitB m c (jRecv x)) (fun _ => free c) rest Q ?_ l
  intro x l k
  exact recv_step m c x k

theorem sent_phase (c : Dev nD) (l : List (Fin 7 × Fin 6)) (rest : List (Prog (E F) PUnit)) (Q : PUnit → sProp 𝕄) :
    iprop((plan m).Known ∗ bigSepL l (fun x => waitA m c (jSend x)) ∗ free c)
      ⊢ iprop(((bigSepL l (fun x => waitB m c (jSend x)) ∗ free c) -∗ wp frame (wpE defs₀ 𝒱₀ (c : Thread nD τ) none) Set.univ (Pipeline.chain rest) Q)
        -∗ wp frame (wpE defs₀ 𝒱₀ (c : Thread nD τ) none) Set.univ (Pipeline.chain (l.map (fun x => sentOp c x.1 x.2) ++ rest)) Q) := by
  refine chain_step (ι := Fin 7 × Fin 6) (defs := defs₀) c (plan m).Known (fun x => sentOp c x.1 x.2) (fun x => waitA m c (jSend x)) (fun x => waitB m c (jSend x)) (fun _ => free c) rest Q ?_ l
  intro x l k
  exact sent_step m c x k

theorem kept_phase (c : Dev nD) (l : List (Fin 6)) (rest : List (Prog (E F) PUnit)) (Q : PUnit → sProp 𝕄) :
    iprop((plan m).Known ∗ bigSepL l (fun a => waitA m c (jLoc a)) ∗ free c)
      ⊢ iprop(((bigSepL l (fun a => waitB m c (jLoc a)) ∗ free c) -∗ wp frame (wpE defs₀ 𝒱₀ (c : Thread nD τ) none) Set.univ (Pipeline.chain rest) Q)
        -∗ wp frame (wpE defs₀ 𝒱₀ (c : Thread nD τ) none) Set.univ (Pipeline.chain (l.map (keptOp c) ++ rest)) Q) :=
  chain_step (defs := defs₀) c (plan m).Known (keptOp c) (fun a => waitA m c (jLoc a)) (fun a => waitB m c (jLoc a)) (fun _ => free c) rest Q (fun a l k => wait_step m c (jLoc a) (locS a) rfl (N_out a _ _) k) l

/-- The body, from `start` to `final`. -/
theorem body_walk (c : Dev nD) (t : Fin cfg0.N) (W : Waits sig Unit) (Q : PUnit → sProp 𝕄) :
    iprop(start m c ∗ owes (c : Thread nD τ) (dues m c) W)
      ⊢ iprop(((final m c ∗ free c) -∗ Q ⟨⟩) -∗ wp frame (wpE defs₀ 𝒱₀ (c : Thread nD τ) none) Set.univ (bodyAt0 (F := F) t) Q) := by
  rw [body_eq]
  simp only [Prog.lift, Prog.bind_op, Prog.bind_ret, Prog.pure_eq_ret, wp_deviceId]
  unfold start ops dues
  rw [all_six (locA m c), all_pairs (sendA m c)]
  iintro ⟨⟨#HK, Hla, Hsa, Hra, Hsw, Hlw⟩, HO⟩ HQ
  -- the copies on the device
  iapply (local_phase m c six _ Q) $$ [Hla] [-]
  · isplitr; · iexact HK
    isplitl [Hla]; · iexact Hla
    iempintro
  iintro ⟨Hlb, -⟩
  -- the copies to the peers
  iapply (send_phase m c pairs _ Q) $$ [Hsa HO] [-]
  · isplitr; · iexact HK
    isplitl [Hsa]; · iexact Hsa
    unfold sendI
    iexists W
    iexact HO
  iintro ⟨Hsb, HO⟩
  ihave Hf := (show sendI m c [] ⊢ (free c : sProp 𝕄) from Entails.refl _) $$ HO
  -- the waits for the peers' copies
  ihave Hra' := (Entails.of_eq (all_pairs fun x => waitA m c (jRecv x))) $$ Hra
  iapply (recv_phase m c pairs _ Q) $$ [Hra' Hf] [-]
  · isplitr; · iexact HK
    isplitl [Hra']; · iexact Hra'
    iexact Hf
  iintro ⟨Hrb, Hf⟩
  -- the waits for the copies to the peers
  ihave Hsb' := (Entails.of_eq (all_pairs (sendB m c)).symm) $$ Hsb
  ihave Hsa' := (sent_waits m c) $$ [Hsb' Hsw]
  · isplitl [Hsb'] <;> iassumption
  ihave Hsa := (Entails.of_eq (all_pairs fun x => waitA m c (jSend x))) $$ Hsa'
  iapply (sent_phase m c pairs _ Q) $$ [Hsa Hf] [-]
  · isplitr; · iexact HK
    isplitl [Hsa]; · iexact Hsa
    iexact Hf
  iintro ⟨Hsb, Hf⟩
  -- the waits for the copies on the device
  ihave Hlb' := (Entails.of_eq (all_six (locB m c)).symm) $$ Hlb
  ihave Hla' := (kept_waits m c) $$ [Hlb' Hlw]
  · isplitl [Hlb'] <;> iassumption
  ihave Hla := (Entails.of_eq (all_six fun a => waitA m c (jLoc a))) $$ Hla'
  rw [← List.append_nil (six.map (keptOp c))]
  iapply (kept_phase m c six [] Q) $$ [Hla Hf] [-]
  · isplitr; · iexact HK
    isplitl [Hla]; · iexact Hla
    iexact Hf
  iintro ⟨Hlb, Hf⟩
  -- the end
  ihave Hrb' := (Entails.of_eq (all_pairs fun x => waitB m c (jRecv x)).symm) $$ Hrb
  ihave Hsb' := (Entails.of_eq (all_pairs fun x => waitB m c (jSend x)).symm) $$ Hsb
  ihave Hlb' := (Entails.of_eq (all_six fun a => waitB m c (jLoc a)).symm) $$ Hlb
  ihave Hrb := (Entails.of_eq (waits_split m c fun x => jRecv x)) $$ Hrb'
  ihave Hsb := (Entails.of_eq (waits_split m c fun x => jSend x)) $$ Hsb'
  ihave Hlb := (Entails.of_eq (waits_split m c fun a => jLoc a)) $$ Hlb'
  icases Hrb with ⟨Hrp, Hrd⟩
  icases Hsb with ⟨Hsp, Hsd⟩
  icases Hlb with ⟨Hlp, Hld⟩
  imod (dones_close m c) $$ [Hrd Hsd Hld] with Hz
  · isplitr; · iexact HK
    isplitl [Hrd]; · iexact Hrd
    isplitl [Hsd] <;> iassumption
  ihave Harr := (pays_arrays m c) $$ [Hrp Hsp Hlp]
  · isplitl [Hrp]; · iexact Hrp
    isplitl [Hsp] <;> iassumption
  rw [show Pipeline.chain ([] : List (Prog (E F) PUnit)) = .ret ⟨⟩ from rfl, wp_ret]
  imodintro
  iapply HQ
  unfold final
  isplitl [Harr Hz]
  · isplitl [Harr] <;> iassumption
  iexact Hf

end Cert.Exchange

end
-- ==== Proof.Run.lean ====
/-
# One device's run of @main

The pallas_call has no window and no grid: the pipeline library's region around the body is empty, and the body's own
run (`body_walk`) is the call's. `main_run` is @main on one device, from what it is dealt to its arrays.
-/
module

public import proofs.«01_k».proof.Proof.Walk

@[expose] public section

noncomputable section

namespace Cert.Exchange

open Cert.KernelIdeal Cert.KernelIdeal.Gen Cert.Rowed
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Once (Plan)
open Cert.Once.Plan (𝒱₀)

variable {F : FTy → Type} [FloatOps F]

local notation "𝕄" => MT nD τ sig Unit (Elt F) ℕ (UR sig nD τ × UR sig nD τ) ℕ

variable (m : (ℓ : Loc nD τ sig) → Buf (Elt F) ℓ)

/-- The call's proof data: before the body `start` and its debt, after it `final` and none. -/
def dats (_ : Fin 1) (c : Dev nD) : Dat τ (Elt F) Unit ℕ (UR sig nD τ × UR sig nD τ) ℕ cfg0 c where
  A w := w.elim0
  after w _ := w.elim0
  Φ t := match t with
    | ⟨0, _⟩ => start m c
    | ⟨_ + 1, _⟩ => final m c
  q _ := fullShare
  owed t := match t with
    | ⟨0, _⟩ => dues m c
    | ⟨_ + 1, _⟩ => 0

theorem no_window (Φ : Fin cfg0.W → sProp 𝕄) : bigSep Finset.univ Φ = iprop(emp) := by
  rw [show (Finset.univ : Finset (Fin cfg0.W)) = ∅ from rfl, BI.bigSep_empty]; rfl

theorem body_at (t : Fin cfg0.N) : (defs₀ (F := F)) .tc cfg0.body (cfg0.bodyArgs t (cfg0.slots t)) = bodyAt0 t := rfl

theorem body_obligation (c : Dev nD) : BodyObligation (dats (F := F) m 0 c) (defs₀ (F := F)) 𝒱₀ () Set.univ := fun t => by
  rw [fin_N0 t, no_window, no_window, body_at]
  generalize hb : bodyAt0 (F := F) t0_0 = b
  show iprop(start m c ∗ (dats m 0 c).owesAt () t0_0.castSucc ∗ emp) ⊢ wp frame (wpE (defs₀ (F := F)) 𝒱₀ (c : Thread nD τ) none) Set.univ
    b (fun _ => iprop(final m c ∗ (dats m 0 c).owesAt () t0_0.succ ∗ emp))
  subst hb
  unfold Dat.owesAt Pipeline.owesWithin
  rw [show (dats m 0 c).owed t0_0.castSucc = dues m c from rfl, show (dats m 0 c).owed t0_0.succ = 0 from rfl]
  iintro ⟨Hs, ⟨%W, -, HO⟩, -⟩
  iapply (body_walk m c t0_0 W fun _ => _) $$ [Hs HO] []
  · isplitl [Hs] <;> iassumption
  · iintro ⟨Hf, Ho⟩
    isplitl [Hf]; · iexact Hf
    isplitl [Ho]
    · unfold free
      icases Ho with ⟨%W', Ho⟩
      iexists W'
      isplitr
      · ipureintro; exact fun _ _ => Or.inl trivial
      iexact Ho
    iempintro

/-- A device's scoped counters are the plan's cells. -/
theorem sems_cells (c : Dev nD) : (scopedSems0 (c.tc : Thread nD τ) : sProp 𝕄) = bigSep Finset.univ fun j => semVal ((plan m).cell (c, j)) 0 := by
  have hset : (Finset.univ.filter fun sm : SemLoc sig => sm.isScoped .tc) = Finset.univ.map ⟨(plan m).sem, (plan m).inj⟩ := by
    ext sm
    simp only [Finset.mem_filter, Finset.mem_univ, true_and, Finset.mem_map, Function.Embedding.coeFn_mk]
    constructor
    · intro h
      rcases sm with s | s
      · exact absurd h (by revert s; decide)
      · obtain ⟨j, hj⟩ := semD_surj s
        exact ⟨j, congrArg SemLoc.dma hj⟩
    · rintro ⟨j, rfl⟩
      show (SemLoc.dma (semD j) : SemLoc sig).isScoped .tc = true
      generalize semD j = s
      revert s; decide
  rw [show (scopedSems0 (c.tc : Thread nD τ) : sProp 𝕄) = _ from scopedSems0_tc c, hset, BI.bigSep_map]
  rfl

/-- @main on one device. -/
theorem main_run (c : Dev nD) :
    iprop(start m c ∗ owes (c.tc : Thread nD τ) (dues m c) ∅ ∗ scopedBufs (c.tc : Thread nD τ) ∗ opIdle (c.tc : Thread nD τ))
      ⊢ wp frame (wpE (defs (F := F)) (Variants.lift 𝒱₀) (c.tc : Thread nD τ) none) Set.univ (main c)
          fun _ => iprop((arrays m c ∗ boundary (c.tc : Thread nD τ)) ∗ ∃ W, owes (c.tc : Thread nD τ) (0 : CellTallies nD τ sig Unit) W) := by
  have hsb := Pipeline.scopedBufs_split (nD := nD) (τ := τ) (Ix := Unit) (Val := Elt F) (Name := ℕ) (U := UR sig nD τ × UR sig nD τ) (Lvl := ℕ)
    cfgs 0 winFacts0.stage_scoped winFacts0.stage_inj stage_whole0 c
  have hemp : (Pipeline.cellsSems0 cfgs 0 c : sProp 𝕄) = iprop(emp) := no_window _
  have hin : iprop(start m c ∗ Pipeline.prefHeld (pcfgs (F := F) 0).pre c (fun _ => fullShare) ((cfgs 0).toPCfg_adm (Val := Elt F)).1 ∗ emp) ⊢ (dats m 0 c).Φ 0 := by
    rw [show (dats m 0 c).Φ 0 = start m c from rfl]
    iintro ⟨H, -, -⟩
    iexact H
  have hout : iprop((dats m 0 c).Φ (Fin.last cfg0.N) ∗ Pipeline.cellsSems0 cfgs 0 c ∗ Dat.staging cfg0 c ∗ emp)
      ⊢ iprop(arrays m c ∗ scopedSems0 (c.tc : Thread nD τ) ∗ scopedBufs (c.tc : Thread nD τ)) := by
    rw [show (dats m 0 c).Φ (Fin.last cfg0.N) = final m c from rfl, hsb, scopedRest0_eq, sems_cells m c]
    unfold final
    iintro ⟨⟨Ha, Hz⟩, -, Hst, -⟩
    isplitl [Ha]; · iexact Ha
    isplitl [Hz]; · iexact Hz
    isplitl [Hst]; · iexact Hst
    iempintro
  have hpref : (iprop(emp) : sProp 𝕄) ⊢ Pipeline.prefHeld (pcfgs (F := F) 0).pre c (fun _ => fullShare) ((cfgs 0).toPCfg_adm (Val := Elt F)).1 := by
    unfold Pipeline.prefHeld
    rw [show (Finset.univ : Finset (Fin (pcfgs (F := F) 0).pre.K)) = ∅ from rfl, BI.bigSep_empty]
    exact Entails.refl _
  have hpre : owes (c.tc : Thread nD τ) (dues m c) ∅ ⊢ Pipeline.EntryPre (Pipeline.pin (pcfgs (F := F)) fun p => (cfgs p).toPCfg_adm) (dats m) ()
      (Cert.Once.EP nD τ sig (Elt F)) (fun _ => 0) 0 c := by
    show _ ⊢ iprop((dats m 0 c).arrays ((dats m 0 c).arrAt · 0) ∗ (dats m 0 c).owesAt () 0 ∗ _)
    unfold Dat.owesAt Pipeline.owesWithin
    rw [show (dats m 0 c).owed 0 = dues m c from rfl]
    iintro HO
    isplitr
    · iapply (show iprop(emp) ⊢ (dats m 0 c).arrays ((dats m 0 c).arrAt · 0) by
        unfold Dat.arrays; exact Entails.of_eq (no_window _).symm)
      iempintro
    isplitl [HO]
    · iexists ∅
      isplitr; · ipureintro; rw [Finset.coe_empty]; exact Set.empty_subset _
      iexact HO
    isplitr
    · iapply (show iprop(emp) ⊢ Pipeline.PerCore.cellsWaits (fun _ => Pipeline.pin (pcfgs (F := F)) fun p => (cfgs p).toPCfg_adm) (dats m) () 0 c by
        exact Entails.of_eq (no_window _).symm)
      iempintro
    isplitr
    · iapply (show iprop(emp) ⊢ Pipeline.PerCore.cellsInit (fun _ => Pipeline.pin (pcfgs (F := F)) fun p => (cfgs p).toPCfg_adm) (dats m) (Cert.Once.EP nD τ sig (Elt F)) (fun _ => 0) 0 c by
        exact Entails.of_eq (no_window _).symm)
      iempintro
    iapply (show iprop(emp) ⊢ Pipeline.PerCore.toksInit (fun _ => Pipeline.pin (pcfgs (F := F)) fun p => (cfgs p).toPCfg_adm) (Cert.Once.EP nD τ sig (Elt F)) 0 c by
        exact Entails.of_eq (no_window _).symm)
    iempintro
  have hpost : Pipeline.EntryPost (Pipeline.pin (pcfgs (F := F)) fun p => (cfgs p).toPCfg_adm) (dats m) () 0 c
      ⊢ iprop(∃ W, owes (c.tc : Thread nD τ) (0 : CellTallies nD τ sig Unit) W) := by
    show iprop(_ ∗ (dats m 0 c).owesAt () (Fin.last cfg0.N)) ⊢ _
    unfold Dat.owesAt Pipeline.owesWithin
    rw [show (dats m 0 c).owed (Fin.last cfg0.N) = 0 from rfl]
    iintro ⟨-, ⟨%W, -, HO⟩⟩
    iexists W
    iexact HO
  have H := Pipeline.wp_customCall_entry_frame (pcfgs (F := F)) (fun p => (cfgs p).toPCfg_adm) (dats m) () (Cert.Once.EP nD τ sig (Elt F)) (fun _ => 0) cellOf_inj 0 defs₀ 𝒱₀ (fun _ => fullShare)
    c Set.univ (fun _ _ => Set.mem_univ _) (body_obligation m c).loose block_pos0 none (fun u h => nomatch h)
    (X := start m c) (Y := arrays m c) (R := iprop(emp)) (I := iprop(emp))
    (by rw [hsb, scopedRest0_eq]; exact Entails.refl _) hin hout (α := PUnit) (k := fun _ => .ret PUnit.unit)
    (Q := fun _ => iprop((arrays m c ∗ boundary (c.tc : Thread nD τ)) ∗ ∃ W, owes (c.tc : Thread nD τ) (0 : CellTallies nD τ sig Unit) W))
  rw [show main (F := F) c = .op (.customCall (Pipeline.entry 0) ()) fun _ => .ret PUnit.unit from rfl]
  iintro ⟨Hs, HO, Hb, Hi⟩
  iapply H $$ [Hs HO Hb] [Hi]
  · isplitl [HO]
    · iapply hpre
      iexact HO
    isplitr
    · iapply hpref
      iempintro
    isplitl [Hs]; · iexact Hs
    isplitr; · iempintro
    iexact Hb
  · iintro ⟨Hp, Ha, Hz, Hb⟩
    rw [wp_ret]
    imodintro
    isplitr [Hp]
    · isplitl [Ha]; · iexact Ha
      unfold boundary
      isplitl [Hb]; · iexact Hb
      isplitl [Hz] <;> iassumption
    · iapply hpost
      iexact Hp

end Cert.Exchange

end
-- ==== Proof.Start.lean ====
/-
# A launch whose first call talks without a barrier

A kernel that opens with copies into other devices' buffers needs, before any device has run, what every OTHER device
holds at the launch: the rows the copies land in, the scoped counters they credit and the credit those counters are
launched with. `run_dealt` is the launch in that form. Everything every core holds — its region boundary, its unscoped
buffers, its counters, its debt, its launch credit — is handed to ONE global step (`hdeal`), which deals the first
thread states; each core then runs @main whole (`hrun`) and ends holding its region boundary again.
-/
module

public import Idealize.ShloMosaic.Lib.Pipeline.Launch
public import Idealize.ShloMosaic.Lib.Pipeline.Regions
public import Idealize.ShloMosaic.Lib.Quiescent

@[expose] public section

set_option Elab.async false

noncomputable section

namespace Cert.Start

open Idealize.ShloMosaic Idealize.ShloMosaic.Pipeline Idealize.ShloMosaic.Rounds
open Idealize.SL Idealize.SL.RA
open Idealize.SL.BI (sProp bigSep bigSep_sep' bigSep_mono bigSep_congr bigSep_univ_prod)
open scoped Idealize.SL.BI
open Idealize.SL.BI.BIBase Idealize.SL.BI.Laws Idealize.SL.Sem Idealize.SL.ProofMode
open TcCoe

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

/-- What core `c` holds at the launch, owing `O₀ c`: all of it but the levels of its cells. -/
def holdings (O₀ : Dev nD → CellTallies nD τ sig Ix) (m : (ℓ : Loc nD τ sig) → Buf Val ℓ) (g : Dev nD → PrngReg) (c : Dev nD) : sProp 𝕄 :=
  iprop(boundary (c.tc : Thread nD τ) ∗ unscopedBufs c (fun b => m ((c.tc : Thread nD τ).loc b)) ∗ unscopedSems0 c
    ∗ owes (c.tc : Thread nD τ) (O₀ c) ∅ ∗ launchCred O₀ c ∗ prngReg c (g c))

/-- The launch's holdings, core by core: each core's `holdings` and the levels of its cells, unassigned. -/
theorem core_holdings (O₀ : Dev nD → CellTallies nD τ sig Ix) (m : (ℓ : Loc nD τ sig) → Buf Val ℓ) (g : Dev nD → PrngReg) :
    (bigSep Finset.univ fun d : Dev nD =>
        coreInit (Ix := Ix) (Name := Name) (U := U) (Lvl := Lvl) (owing O₀) 0 (⟨m, fun _ => 0, g⟩ : MemSt nD τ sig Val) (d.tc : Thread nD τ))
      ⊢ iprop((bigSep Finset.univ fun c : Dev nD => holdings (Ix := Ix) (Name := Name) (U := U) (Lvl := Lvl) O₀ m g c)
          ∗ (bigSep Finset.univ fun c : Dev nD => levels0 (Ix := Ix) (Val := Val) (Name := Name) (U := U) (Lvl := Lvl) (τ := τ) (sig := sig) c) : sProp 𝕄) := by
  rw [← bigSep_sep']
  refine bigSep_mono fun c _ => (coreInit_boundary_owing O₀ m g c).trans
    (show _ ⊢ iprop(holdings O₀ m g c ∗ levels0 c) from ?_)
  unfold holdings
  iintro ⟨Hb, Hub, Hus, HL, Hlv, Hpr, Hcr⟩
  isplitr [Hlv]
  · isplitl [Hb]; · iexact Hb
    isplitl [Hub]; · iexact Hub
    isplitl [Hus]; · iexact Hus
    isplitl [HL]; · iexact HL
    isplitl [Hcr] <;> iassumption
  · iexact Hlv

/-- Assigning the levels of every cell at once, where only TensorCore cells have any. -/
theorem assign_levels (L : GSem nD τ sig → Finset Ix) (lv : GSem nD τ sig → Ix → Lvl) (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  refine (bigSep_mono fun c _ => lev_assign_cells (c.tc : Thread nD τ) L lv).trans <| (BI.bigSep_bupd _ _).trans <| BI.bupd_mono ?_
  have hnone (d : Dev nD) (p : Proc τ) (hp : p ≠ .tc) : (coreLevAts ((d, p) : Thread nD τ) L lv : sProp 𝕄) = BI.emp := by
    unfold coreLevAts
    rw [bigSep_congr (Ψ := fun _ : SemLoc sig => (BI.emp : sProp 𝕄)) fun sm _ => by rw [hL (((d, p) : Thread nD τ), sm) hp, BI.bigSep_empty], BI.bigSep_emp_const]
  rw [show (levAts L lv : sProp 𝕄) = bigSep Finset.univ fun c : Thread nD τ => coreLevAts c L lv
      from (bigSep_univ_prod fun g : GSem nD τ sig => bigSep (L g) fun ι => levAt g ι (lv g ι)),
    bigSep_threads (fun c : Thread nD τ => coreLevAts c L lv),
    bigSep_congr (s := (Finset.univ : Finset (Dev nD)))
      (Φ := fun d => bigSep (Finset.univ.erase Proc.tc) fun p => (coreLevAts ((d, p) : Thread nD τ) L lv : sProp 𝕄))
      (Ψ := fun _ => (BI.emp : sProp 𝕄)) fun d _ =>
        (bigSep_congr (Ψ := fun _ : Proc τ => (BI.emp : sProp 𝕄)) fun p hp => hnone d p (Finset.ne_of_mem_erase hp)).trans (BI.bigSep_emp_const _),
    BI.bigSep_emp_const, bigSep_sep']
  have hdrop (A B : sProp 𝕄) : iprop(A ∗ B) ⊢ iprop(B ∗ BI.emp) := by
    iintro ⟨-, H⟩
    isplitl [H]; · iexact H
    iempintro
  exact hdrop _ _

/-- The launch of an @main that talks from its first call on: every core's holdings and the ghost resources `G` go to one
    global step, which deals the first thread states `T₀`; each core runs @main from its own to `Tₙ` with its region
    boundary and nothing owed; `Tₙ` is read against the final memory. -/
theorem run_dealt {Λ : Labels} [∀ e, Nonempty (Val e)] [Infinite Name]
    (D : Defs nD τ sig Val Λ) (𝒱 : Variants)
    (m : (ℓ : Loc nD τ sig) → Buf Val ℓ) (g : Dev nD → PrngReg)
    (main : Dev nD → Prog (TpuEff nD τ sig Val Λ .tc) PUnit)
    (O₀ : Dev nD → CellTallies nD τ sig Ix) (L : GSem nD τ sig → Finset Ix) (lv : GSem nD τ sig → Ix → Lvl)
    (hL : ∀ g : GSem nD τ sig, g.1.2 ≠ .tc → L g = ∅)
    (G : sProp 𝕄) (u₀ : U) (hu₀ : (ownU u₀ : sProp 𝕄) ⊢ |={Set.univ}=> G)
    (T₀ Tₙ : Dev nD → sProp 𝕄)
    (hdeal : iprop((bigSep Finset.univ fun c : Dev nD => holdings (Ix := Ix) (Name := Name) (U := U) (Lvl := Lvl) O₀ m g c) ∗ G ∗ levAts L lv)
      ⊢ |={Set.univ}=> bigSep Finset.univ T₀)
    (hrun : ∀ c : Dev nD, T₀ c ⊢ wp frame (wpE D 𝒱 (c.tc : Thread nD τ) none) Set.univ (main c)
      fun _ => iprop((Tₙ c ∗ boundary (c.tc : Thread nD τ)) ∗ ∃ W, owes (c.tc : Thread nD τ) (0 : CellTallies nD τ sig Ix) W))
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run D (onTc main) ⟨m, fun _ => 0, g⟩ Q := by
  classical
  let fin : Dev nD → sProp 𝕄 := fun c => iprop(Tₙ c ∗ boundary (c.tc : Thread nD τ))
  refine (θ_run D _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu D _ _ _
    (reflect_intro_fupd_tc_sems (X := Unit) 𝒱 (owing O₀) 0 (noBookings fun _ => le_rfl) (owing_of_ne O₀) u₀ (fun _ => T₀) (fun _ => fin)
      (fun _ => iprop(emp)) Set.univ ?_ (fun _ c => ?_) fun _ => ?_))
  · iintro ⟨Hcores, Hu⟩
    ihave Hc := (core_holdings O₀ m g) $$ Hcores
    icases Hc with ⟨Hh, Hlv⟩
    imod (assign_levels L lv hL) $$ Hlv with Hla
    imod hu₀ $$ Hu with HG
    imod hdeal $$ [Hh HG Hla] with HT
    · isplitl [Hh]; · iexact Hh
      isplitl [HG] <;> iassumption
    imodintro
    iexists ()
    isplitl [HT]; · iexact HT
    iempintro
  · refine (hrun c).trans (Entails.of_eq ?_)
    unfold post; simp only [liftTc_tc, fin]
  · iintro ⟨H, -, Hsc⟩ %s' HSI
    ihave %hsc := (scSems_read_zero m g s') $$ [Hsc HSI]
    · isplitl [Hsc] <;> iassumption
    imod (posts_fupd Finset.univ (fun c s' => boundary_read c s' (hfin c s')) s') $$ [H HSI] with %h
    · isplitl [H] <;> iassumption
    imodintro
    ipureintro
    exact ⟨fun c => h c (Finset.mem_univ c), hsc⟩

end Cert.Start

end
-- ==== Proof.Deal.lean ====
/-
# The launch of the exchange

Before any device has run, each device's operands and results are cut into rows and its semaphores' cells go on record.
A device is dealt its operand's rows, the row of its own result that it copies itself, and of each peer's result the row
that it will fill, with the right to credit the peer's semaphore for it. `run_main` is the whole machine's run.
-/
module

public import proofs.«01_k».proof.Proof.Run
public import proofs.«01_k».proof.Proof.Start

@[expose] public section

noncomputable section

namespace Cert.Exchange

open Cert.KernelIdeal Cert.KernelIdeal.Gen Cert.Rowed
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Once (Plan)
open Cert.Once.Plan (𝒱₀)

variable {F : FTy → Type} [FloatOps F]

local notation "𝕄" => MT nD τ sig Unit (Elt F) ℕ (UR sig nD τ × UR sig nD τ) ℕ

variable (m : (ℓ : Loc nD τ sig) → Buf (Elt F) ℓ)

/-! ## The peers, device by device -/

/-- What every device holds for each peer, held by the peer instead. -/
theorem peers_swap (Ψ : Dev nD → Fin 7 × Fin 6 → sProp 𝕄) :
    (bigSep Finset.univ fun c => bigSep Finset.univ fun x => Ψ c x) = bigSep Finset.univ fun c => bigSep Finset.univ fun x => Ψ (peer x.1 c) x := by
  rw [comm2 Ψ, comm2 fun c x => Ψ (peer x.1 c) x]
  exact BI.bigSep_congr fun x _ => (BI.bigSep_univ_equiv (peerEquiv x.1) fun c => Ψ c x)

/-! ## The credits of the launch -/

theorem due_at (d c : Dev nD) (x y : Fin 7 × Fin 6) :
    due m d x ((plan m).cell (c, jRecv y)) () = if x = y then (if d = peer y.1 c then N y.2 else 0) else 0 := by
  unfold due
  by_cases h : (peer x.1 d, jRecv x) = (c, jRecv y)
  · have hx : x = y := Sum.inl.inj (Sum.inr.inj (congrArg Prod.snd h))
    subst hx
    have hd : peer x.1 d = c := congrArg Prod.fst h
    subst hd
    rw [if_pos rfl, peer_peer, if_pos rfl, tallyAt_apply, if_pos ⟨rfl, rfl⟩]
  · rw [tallyAt_ne_cell fun e => h ((plan m).cell_inj e).symm]
    by_cases hx : x = y
    · subst hx
      rw [if_pos rfl, if_neg, Finsupp.zero_apply]
      intro hd
      subst hd
      exact h (by rw [peer_peer])
    · rw [if_neg hx, Finsupp.zero_apply]

theorem dues_at (d c : Dev nD) (y : Fin 7 × Fin 6) :
    dues m d ((plan m).cell (c, jRecv y)) () = if d = peer y.1 c then N y.2 else 0 := by
  have h : dues m d = ∑ x : Fin 7 × Fin 6, due m d x := by
    unfold dues
    rw [← List.sum_toFinset (due m d) (show pairs.Nodup by decide), show pairs.toFinset = Finset.univ by decide]
  rw [h, Finset.sum_apply, Finsupp.finsetSum_apply, Finset.sum_congr rfl fun x _ => due_at m d c x y, Finset.sum_ite_eq' Finset.univ y,
    if_pos (Finset.mem_univ _)]

theorem launch_credit (c : Dev nD) (y : Fin 7 × Fin 6) :
    tallyOn ((plan m).cell (c, jRecv y)) (launchCredit (Pipeline.owing (dues m)) 0 ((plan m).cell (c, jRecv y)))
      = (tallyAt ((plan m).cell (c, jRecv y)) () (N y.2) : CellTallies nD τ sig Unit) := by
  unfold tallyAt
  refine congrArg _ (Finsupp.ext fun u => ?_)
  cases u
  rw [Pipeline.launchCredit_owing, Finsupp.single_eq_same, Finset.sum_congr rfl fun d _ => dues_at m d c y,
    Finset.sum_ite_eq' Finset.univ (peer y.1 c) fun _ => N y.2, if_pos (Finset.mem_univ _)]

/-- A device is launched with the credit of its peers' copies. -/
theorem creds (c : Dev nD) : (Pipeline.launchCred (dues m) c : sProp 𝕄)
    ⊢ bigSep Finset.univ fun x => cred (tallyAt ((plan m).cell (c, jRecv x)) () (N x.2)) := by
  unfold Pipeline.launchCred
  refine (BI.bigSep_subset (Finset.subset_univ (Finset.univ.map ⟨fun x => (plan m).sem (jRecv x), fun x y h => Sum.inl.inj (Sum.inr.inj ((plan m).inj h))⟩))).trans ?_
  rw [BI.bigSep_map]
  exact bigSep_mono fun x _ => Entails.of_eq (congrArg cred (launch_credit m c x))

/-! ## The arrays -/

/-- A device's operands and results, whole, as the launch finds them. -/
theorem bufs_wholes (c : Dev nD) :
    (unscopedBufs c (fun b => m ((c.tc : Thread nD τ).loc b)) : sProp 𝕄)
      ⊢ bigSep Finset.univ fun a : Fin 6 => iprop(wholePts a (inM a) c (inB m c a) ∗ wholePts a (outM a) c (outB m c a)) := by
  rw [Pipeline.unscopedBufs_split cfgs 0 winFacts0.arr_unscoped winFacts0.arr_inj c, unscopedRest0_eq, all_six]
  unfold wholePts
  simp only [fun a => (inM_whole a).set_eq_univ, fun a => (outM_whole a).set_eq_univ]
  simp only [six, bigSepL_cons', bigSepL_nil]
  iintro ⟨-, H0, H1, H2, H3, H4, H5, G0, G1, G2, G3, G4, G5⟩
  isplitl [H0 G0]; · isplitl [H0]; · iexact H0
                     iexact G0
  isplitl [H1 G1]; · isplitl [H1]; · iexact H1
                     iexact G1
  isplitl [H2 G2]; · isplitl [H2]; · iexact H2
                     iexact G2
  isplitl [H3 G3]; · isplitl [H3]; · iexact H3
                     iexact G3
  isplitl [H4 G4]; · isplitl [H4]; · iexact H4
                     iexact G4
  isplitl [H5 G5]; · isplitl [H5]; · iexact H5
                     iexact G5
  iempintro

/-- Cut into the row of the device itself and, for each peer, the peer's row. -/
theorem wholes_rows (c : Dev nD) :
    (bigSep Finset.univ fun a : Fin 6 => iprop(wholePts a (inM a) c (inB m c a) ∗ wholePts a (outM a) c (outB m c a)) : sProp 𝕄)
      ⊢ iprop((bigSep Finset.univ fun a : Fin 6 => iprop(rowPts a (inM a) c c (inB m c a) ∗ rowPts a (outM a) c c (outB m c a)))
        ∗ (bigSep Finset.univ fun x : Fin 7 × Fin 6 => rowPts x.2 (inM x.2) c (peer x.1 c) (inB m c x.2))
        ∗ bigSep Finset.univ fun x : Fin 7 × Fin 6 => rowPts x.2 (outM x.2) c (peer x.1 c) (outB m c x.2)) := by
  rw [prod_swap fun k a => rowPts a (inM a) c (peer k c) (inB m c a), prod_swap fun k a => rowPts a (outM a) c (peer k c) (outB m c a),
    ← bigSep_sep', ← bigSep_sep']
  refine bigSep_mono fun a _ => ?_
  unfold wholePts
  rw [whole_rows a (inM a) c, whole_rows a (outM a) c, rows_peers c, rows_peers c]
  show iprop((_ ∗ _) ∗ (_ ∗ _)) ⊢ (iprop((_ ∗ _) ∗ (_ ∗ _)) : sProp 𝕄)
  iintro ⟨⟨H, Hs⟩, G, Gs⟩
  isplitl [H G]
  · isplitl [H] <;> iassumption
  isplitl [Hs] <;> iassumption

/-! ## The deal -/

/-- What a device is dealt, its debt and its region's holdings included. -/
def dealt (c : Dev nD) : sProp 𝕄 :=
  iprop(start m c ∗ owes (c.tc : Thread nD τ) (dues m c) ∅ ∗ scopedBufs (c.tc : Thread nD τ) ∗ opIdle (c.tc : Thread nD τ))

theorem dealt_eq : dealt m = fun c => iprop(((plan m).Known
      ∗ (bigSep Finset.univ fun a => iprop((rowPts a (inM a) c c (inB m c a) ∗ rowPts a (outM a) c c (outB m c a)) ∗ (plan m).tok c (jLoc a)))
      ∗ (bigSep Finset.univ fun x : Fin 7 × Fin 6 => iprop((rowPts x.2 (inM x.2) c (peer x.1 c) (inB m c x.2) ∗ rowPts x.2 (outM x.2) (peer x.1 c) c (outB m (peer x.1 c) x.2))
          ∗ (plan m).tok c (jSend x) ∗ (plan m).tok (peer x.1 c) (jRecv x)))
      ∗ (bigSep Finset.univ fun x => iprop(cred (tallyAt ((plan m).cell (c, jRecv x)) () (N x.2)) ∗ (plan m).wait c (jRecv x)))
      ∗ (bigSep Finset.univ fun x => (plan m).wait c (jSend x)) ∗ bigSep Finset.univ fun a => (plan m).wait c (jLoc a))
    ∗ owes (c.tc : Thread nD τ) (dues m c) ∅ ∗ scopedBufs (c.tc : Thread nD τ) ∗ opIdle (c.tc : Thread nD τ)) := rfl

/-- What a device brings, sorted. -/
theorem brings (g : Dev nD → PrngReg) (c : Dev nD) :
    (Cert.Start.holdings (dues m) m g c : sProp 𝕄)
      ⊢ iprop((owes (c.tc : Thread nD τ) (dues m c) ∅ ∗ scopedBufs (c.tc : Thread nD τ) ∗ opIdle (c.tc : Thread nD τ))
        ∗ (bigSep Finset.univ fun j => semVal ((plan m).cell (c, j)) 0)
        ∗ (bigSep Finset.univ fun x => cred (tallyAt ((plan m).cell (c, jRecv x)) () (N x.2)))
        ∗ (bigSep Finset.univ fun a : Fin 6 => iprop(rowPts a (inM a) c c (inB m c a) ∗ rowPts a (outM a) c c (outB m c a)))
        ∗ (bigSep Finset.univ fun x : Fin 7 × Fin 6 => rowPts x.2 (inM x.2) c (peer x.1 c) (inB m c x.2))
        ∗ bigSep Finset.univ fun x : Fin 7 × Fin 6 => rowPts x.2 (outM x.2) c (peer x.1 c) (outB m c x.2)) := by
  unfold Cert.Start.holdings boundary
  rw [sems_cells m c]
  iintro ⟨⟨Hb, Hz, Hi⟩, Hu, -, HO, Hc, -⟩
  isplitl [Hb Hi HO]
  · isplitl [HO]; · iexact HO
    isplitl [Hb] <;> iassumption
  isplitl [Hz]; · iexact Hz
  isplitl [Hc]
  · iapply (creds m c); iexact Hc
  iapply (wholes_rows m c)
  iapply (bufs_wholes m c)
  iexact Hu

theorem deal (g : Dev nD → PrngReg) :
    iprop((bigSep Finset.univ fun c : Dev nD => (Cert.Start.holdings (dues m) m g c : sProp 𝕄))
        ∗ BI.own (Cert.Once.ER nD τ sig (Elt F) (initOf (plan m).cells (plan m).toks)))
      ⊢ |={Set.univ}=> bigSep Finset.univ (dealt m) := by
  refine (sep_mono_left (bigSep_mono fun c _ => brings m g c)).trans ?_
  simp only [bigSep_sep']
  iintro ⟨⟨HO, Hz, Hc, Hl, Hi, Ho⟩, HX⟩
  ihave Hz' := (Entails.of_eq (BI.bigSep_univ_prod fun x : Dev nD × J => (semVal ((plan m).cell x) 0 : sProp 𝕄)).symm) $$ Hz
  imod ((plan m).fund) $$ [Hz' HX] with ⟨#HK, Hw, Ht⟩
  · isplitl [Hz'] <;> iassumption
  imodintro
  ihave Hw := (Entails.of_eq (all_kinds fun c j => (plan m).wait c j)) $$ Hw
  ihave Ht := (Entails.of_eq (all_kinds fun c j => (plan m).tok c j)) $$ Ht
  icases Hw with ⟨Hws, Hwr, Hwl⟩
  icases Ht with ⟨Hts, Htr, Htl⟩
  -- the peers' rows and rights
  ihave Ho := (Entails.of_eq (peers_swap fun c x => rowPts x.2 (outM x.2) c (peer x.1 c) (outB m c x.2))) $$ Ho
  ihave Ho' := (Entails.of_eq (show (bigSep Finset.univ fun c => bigSep Finset.univ fun x : Fin 7 × Fin 6 => (rowPts x.2 (outM x.2) (peer x.1 c) (peer x.1 (peer x.1 c)) (outB m (peer x.1 c) x.2) : sProp 𝕄))
    = bigSep Finset.univ fun c => bigSep Finset.univ fun x : Fin 7 × Fin 6 => rowPts x.2 (outM x.2) (peer x.1 c) c (outB m (peer x.1 c) x.2)
    from by simp only [peer_peer])) $$ Ho
  ihave Htr := (Entails.of_eq (peers_swap fun c x => (plan m).tok c (jRecv x))) $$ Htr
  ihave HKs := (BI.bigSep_of_persistent (Finset.univ : Finset (Dev nD)) (plan m).Known) $$ HK
  rw [dealt_eq m]
  simp only [bigSep_sep']
  icases Hl with ⟨Hl, Hl'⟩
  isplitl [HKs Hl Hl' Htl Hi Ho' Hts Htr Hc Hwr Hws Hwl]
  · isplitl [HKs]; · iexact HKs
    isplitl [Hl Hl' Htl]
    · isplitl [Hl Hl']
      · isplitl [Hl]; · iexact Hl
        iexact Hl'
      iexact Htl
    isplitl [Hi Ho' Hts Htr]
    · isplitl [Hi Ho']
      · isplitl [Hi]; · iexact Hi
        iexact Ho'
      isplitl [Hts]; · iexact Hts
      iexact Htr
    isplitl [Hc Hwr]
    · isplitl [Hc]; · iexact Hc
      iexact Hwr
    isplitl [Hws]; · iexact Hws
    iexact Hwl
  · iexact HO

/-! ## The machine's run -/

/-- What a device's memory is read to hold at the end. -/
def Ended (c : Dev nD) (s : MemSt nD τ sig (Elt F)) : Prop :=
  ∀ a : Fin 6, s.mem ((inM a).view.loc (c : Thread nD τ)) = inB m c a ∧ s.mem ((outM a).view.loc (c : Thread nD τ)) = landed m c a

theorem ended_read (c : Dev nD) (s' : Phys nD τ sig (Elt F)) :
    iprop(arrays m c ∗ SI s') ⊢ |={Set.univ}=> (iprop(⌜Ended m c s'.mem⌝ ∗ SI s') : sProp 𝕄) := by
  unfold arrays wholePts
  simp only [fun a => (inM_whole a).set_eq_univ, fun a => (outM_whole a).set_eq_univ]
  rw [bigSep_sep']
  iintro ⟨⟨Hi, Ho⟩, HS⟩
  ihave H := (pointsTo_read_all (Finset.univ : Finset (Fin 6)) (fun a => (inM a).view.loc (c : Thread nD τ)) (fun a => inB m c a) s') $$ [Hi HS]
  · isplitl [Hi] <;> iassumption
  icases H with ⟨%hi, HS⟩
  ihave H := (pointsTo_read_all (Finset.univ : Finset (Fin 6)) (fun a => (outM a).view.loc (c : Thread nD τ)) (fun a => landed m c a) s') $$ [Ho HS]
  · isplitl [Ho] <;> iassumption
  icases H with ⟨%ho, HS⟩
  imodintro
  isplitr
  · ipureintro
    exact fun a => ⟨hi a (Finset.mem_univ a), ho a (Finset.mem_univ a)⟩
  iexact HS

/-- For any float values, from any memory with zero counters: every weakly fair execution of @main on the eight devices
    terminates, with every operand as it was, every result exchanged and every counter at zero. -/
theorem run_main (g : Dev nD → PrngReg) :
    θ_run (defs (F := F)) (onTc (τ := τ) (main (F := F))) ⟨m, fun _ => 0, g⟩ fun r => (∀ c, Ended m c r.2) ∧ r.2.sem = fun _ => 0 :=
  Cert.Start.run_dealt (defs (F := F)) (Variants.lift 𝒱₀) m g main (dues m) (fun _ => ∅) (fun _ _ => 0) (fun _ _ => rfl)
    (BI.own (Cert.Once.ER nD τ sig (Elt F) (initOf (plan m).cells (plan m).toks)))
    (initOf (Pipeline.cells cfgs cellOf_inj) (Pipeline.launchToks cfgs cellOf_inj), initOf (plan m).cells (plan m).toks)
    (by
      iintro Hu
      ihave H := (ownU_pair _ _) $$ Hu
      icases H with ⟨-, HX⟩
      imodintro
      iexact HX)
    (dealt m) (arrays m)
    (by
      iintro ⟨H, HX, -⟩
      iapply (deal m g)
      isplitl [H] <;> iassumption)
    (main_run m) (Ended m) (ended_read m)
    (fun s h hs => ⟨h, sem_eq_zero_of_scoped (by decide) hs⟩)

end Cert.Exchange

end
-- ==== Proof.Value.lean ====
/-
# What the exchange computes

The reference cuts each whole array's leading dimension into eight blocks of eight rows and exchanges the two. Device
`c`'s block of that is row `c` of every device's block (`exchange_block`), which is what the run leaves it. `values` puts
the two runs together, for any float values.
-/
module

public import proofs.«01_k».proof.Proof.Deal
public import proofs.«01_k».proof.Proof.Gen.ReferenceIdeal.Run
public import Idealize.ShloMosaic.Lib.Layout
public import Idealize.ShloMosaic.Lib.Pipeline.Value

@[expose] public section

noncomputable section

namespace Cert.Exchange

open Idealize.ShloMosaic Idealize.ShloMosaic.TcCoe Idealize.SL.Sem

/-- Device `c`'s block of the exchange of the rows of a whole array: its row `r` is row `c` of block `r`. -/
theorem exchange_block {A B : ℕ} {α : Type} (X : Fin 8 → (⟨3, ![8, A, B]⟩ : Shape).Idx → α) (w : (⟨3, ![64, A, B]⟩ : Shape).Idx → α)
    (hT : Layout.Tiles ⟨3, ![8, A, B]⟩ ⟨3, ![64, A, B]⟩ 0 8) (hX : ∀ d, X d = Layout.block _ _ 0 8 d w hT) (c : Fin 8)
    (h1 : (⟨3, ![64, A, B]⟩ : Shape).ShapeCasts ⟨4, ![8, 8, A, B]⟩) (ht : (⟨4, ![8, 8, A, B]⟩ : Shape).Transposes [1, 0, 2, 3] ⟨4, ![8, 8, A, B]⟩)
    (h2 : (⟨4, ![8, 8, A, B]⟩ : Shape).ShapeCasts ⟨3, ![64, A, B]⟩) :
    (fun i : (⟨3, ![8, A, B]⟩ : Shape).Idx => X ⟨(i (0 : Fin 3)).val, (i (0 : Fin 3)).isLt⟩ (Function.update i (0 : Fin 3) ⟨c.val, c.isLt⟩))
      = Layout.block ⟨3, ![8, A, B]⟩ ⟨3, ![64, A, B]⟩ 0 8 c (shapeCast ⟨3, ![64, A, B]⟩ (transpose ⟨4, ![8, 8, A, B]⟩ [1, 0, 2, 3] (shapeCast ⟨4, ![8, 8, A, B]⟩ w h1) ht) h2) hT := by
  funext i
  rw [hX, Layout.block_apply, Layout.block_apply]
  symm
  let i0 : Fin 8 := ⟨(i (0 : Fin 3)).val, (i (0 : Fin 3)).isLt⟩
  let k2 : (⟨4, ![8, 8, A, B]⟩ : Shape).Idx := fun b => match b with
    | ⟨0, _⟩ => c | ⟨1, _⟩ => i0 | ⟨2, _⟩ => i (1 : Fin 3) | ⟨3, _⟩ => i (2 : Fin 3)
  let k1 : (⟨4, ![8, 8, A, B]⟩ : Shape).Idx := fun b => match b with
    | ⟨0, _⟩ => i0 | ⟨1, _⟩ => c | ⟨2, _⟩ => i (1 : Fin 3) | ⟨3, _⟩ => i (2 : Fin 3)
  refine (shapeCast_apply _ h2 _ k2 ?_).trans ((transpose_apply _ _ ht k2 k1 ?_).trans (shapeCast_apply _ h1 k1 _ ?_))
  · rw [Shape.rowMajor_val_three, Shape.rowMajor_val_four]
    rfl
  · intro b
    match b with
    | ⟨0, _⟩ => rfl
    | ⟨1, _⟩ => rfl
    | ⟨2, _⟩ => rfl
    | ⟨3, _⟩ => rfl
  · rw [Shape.rowMajor_val_three, Shape.rowMajor_val_four]
    rfl

variable {F : FTy → Type} [FloatOps F]

abbrev kLoc (c : Dev Cert.KernelIdeal.nD) (b : Ref Cert.KernelIdeal.sig .tc) : Loc Cert.KernelIdeal.nD Cert.KernelIdeal.τ Cert.KernelIdeal.sig :=
  (c.tc : Thread Cert.KernelIdeal.nD Cert.KernelIdeal.τ).loc b
abbrev rLoc (b : Ref Cert.ReferenceIdeal.sig .tc) : Loc Cert.ReferenceIdeal.nD Cert.ReferenceIdeal.τ Cert.ReferenceIdeal.sig :=
  ((0 : Dev Cert.ReferenceIdeal.nD).tc : Thread Cert.ReferenceIdeal.nD Cert.ReferenceIdeal.τ).loc b

/-! ## Each result, by its array's contents -/

theorem landed_0 (m : (ℓ : Loc Cert.KernelIdeal.nD Cert.KernelIdeal.τ Cert.KernelIdeal.sig) → Buf (Elt F) ℓ) (c : Dev Cert.KernelIdeal.nD) :
    landed m c 0 = fun i : (⟨3, ![8, 1024, 545]⟩ : Shape).Idx =>
      (m (kLoc ⟨(i (0 : Fin 3)).val, (i (0 : Fin 3)).isLt⟩ Cert.KernelIdeal.main_arg0) : (⟨3, ![8, 1024, 545]⟩ : Shape).Idx → Elt F .bf16)
        (Function.update i (0 : Fin 3) ⟨c.val, c.isLt⟩) :=
  View.write_whole_univ Cert.KernelIdeal.main_v1_0 _ (gathered m c 0)
theorem landed_1 (m : (ℓ : Loc Cert.KernelIdeal.nD Cert.KernelIdeal.τ Cert.KernelIdeal.sig) → Buf (Elt F) ℓ) (c : Dev Cert.KernelIdeal.nD) :
    landed m c 1 = fun i : (⟨3, ![8, 512, 128]⟩ : Shape).Idx =>
      (m (kLoc ⟨(i (0 : Fin 3)).val, (i (0 : Fin 3)).isLt⟩ Cert.KernelIdeal.main_arg1) : (⟨3, ![8, 512, 128]⟩ : Shape).Idx → Elt F .bf16)
        (Function.update i (0 : Fin 3) ⟨c.val, c.isLt⟩) :=
  View.write_whole_univ Cert.KernelIdeal.main_v1_1 _ (gathered m c 1)
theorem landed_2 (m : (ℓ : Loc Cert.KernelIdeal.nD Cert.KernelIdeal.τ Cert.KernelIdeal.sig) → Buf (Elt F) ℓ) (c : Dev Cert.KernelIdeal.nD) :
    landed m c 2 = fun i : (⟨3, ![8, 512, 128]⟩ : Shape).Idx =>
      (m (kLoc ⟨(i (0 : Fin 3)).val, (i (0 : Fin 3)).isLt⟩ Cert.KernelIdeal.main_arg2) : (⟨3, ![8, 512, 128]⟩ : Shape).Idx → Elt F .bf16)
        (Function.update i (0 : Fin 3) ⟨c.val, c.isLt⟩) :=
  View.write_whole_univ Cert.KernelIdeal.main_v1_2 _ (gathered m c 2)
theorem landed_3 (m : (ℓ : Loc Cert.KernelIdeal.nD Cert.KernelIdeal.τ Cert.KernelIdeal.sig) → Buf (Elt F) ℓ) (c : Dev Cert.KernelIdeal.nD) :
    landed m c 3 = fun i : (⟨3, ![8, 128, 1024]⟩ : Shape).Idx =>
      (m (kLoc ⟨(i (0 : Fin 3)).val, (i (0 : Fin 3)).isLt⟩ Cert.KernelIdeal.main_arg3) : (⟨3, ![8, 128, 1024]⟩ : Shape).Idx → Elt F .bf16)
        (Function.update i (0 : Fin 3) ⟨c.val, c.isLt⟩) :=
  View.write_whole_univ Cert.KernelIdeal.main_v1_3 _ (gathered m c 3)
theorem landed_4 (m : (ℓ : Loc Cert.KernelIdeal.nD Cert.KernelIdeal.τ Cert.KernelIdeal.sig) → Buf (Elt F) ℓ) (c : Dev Cert.KernelIdeal.nD) :
    landed m c 4 = fun i : (⟨3, ![8, 1024, 704]⟩ : Shape).Idx =>
      (m (kLoc ⟨(i (0 : Fin 3)).val, (i (0 : Fin 3)).isLt⟩ Cert.KernelIdeal.main_arg4) : (⟨3, ![8, 1024, 704]⟩ : Shape).Idx → Elt F .bf16)
        (Function.update i (0 : Fin 3) ⟨c.val, c.isLt⟩) :=
  View.write_whole_univ Cert.KernelIdeal.main_v1_4 _ (gathered m c 4)
theorem landed_5 (m : (ℓ : Loc Cert.KernelIdeal.nD Cert.KernelIdeal.τ Cert.KernelIdeal.sig) → Buf (Elt F) ℓ) (c : Dev Cert.KernelIdeal.nD) :
    landed m c 5 = fun i : (⟨3, ![8, 352, 1024]⟩ : Shape).Idx =>
      (m (kLoc ⟨(i (0 : Fin 3)).val, (i (0 : Fin 3)).isLt⟩ Cert.KernelIdeal.main_arg5) : (⟨3, ![8, 352, 1024]⟩ : Shape).Idx → Elt F .bf16)
        (Function.update i (0 : Fin 3) ⟨c.val, c.isLt⟩) :=
  View.write_whole_univ Cert.KernelIdeal.main_v1_5 _ (gathered m c 5)

/-- For any float values: from devices that hold their blocks of the reference's arrays, both programs run, and each
    device's results end as its blocks of the reference's. -/
theorem values (m : (ℓ : Loc Cert.KernelIdeal.nD Cert.KernelIdeal.τ Cert.KernelIdeal.sig) → Buf (Elt F) ℓ) (g : Dev Cert.KernelIdeal.nD → PrngReg)
    (m' : (ℓ : Loc Cert.ReferenceIdeal.nD Cert.ReferenceIdeal.τ Cert.ReferenceIdeal.sig) → Buf (Elt F) ℓ) (g' : Dev Cert.ReferenceIdeal.nD → PrngReg)
    (hargs : ∀ c : Dev Cert.KernelIdeal.nD,
        m (kLoc c Cert.KernelIdeal.main_arg0) = Layout.block ⟨3, ![8, 1024, 545]⟩ ⟨3, ![64, 1024, 545]⟩ 0 8 c (m' (rLoc Cert.ReferenceIdeal.main_arg0))
        ∧ m (kLoc c Cert.KernelIdeal.main_arg1) = Layout.block ⟨3, ![8, 512, 128]⟩ ⟨3, ![64, 512, 128]⟩ 0 8 c (m' (rLoc Cert.ReferenceIdeal.main_arg1))
        ∧ m (kLoc c Cert.KernelIdeal.main_arg2) = Layout.block ⟨3, ![8, 512, 128]⟩ ⟨3, ![64, 512, 128]⟩ 0 8 c (m' (rLoc Cert.ReferenceIdeal.main_arg2))
        ∧ m (kLoc c Cert.KernelIdeal.main_arg3) = Layout.block ⟨3, ![8, 128, 1024]⟩ ⟨3, ![64, 128, 1024]⟩ 0 8 c (m' (rLoc Cert.ReferenceIdeal.main_arg3))
        ∧ m (kLoc c Cert.KernelIdeal.main_arg4) = Layout.block ⟨3, ![8, 1024, 704]⟩ ⟨3, ![64, 1024, 704]⟩ 0 8 c (m' (rLoc Cert.ReferenceIdeal.main_arg4))
        ∧ m (kLoc c Cert.KernelIdeal.main_arg5) = Layout.block ⟨3, ![8, 352, 1024]⟩ ⟨3, ![64, 352, 1024]⟩ 0 8 c (m' (rLoc Cert.ReferenceIdeal.main_arg5))) :
    ∃ (v0 : Buf (Elt F) (rLoc Cert.ReferenceIdeal.main_v2)) (v1 : Buf (Elt F) (rLoc Cert.ReferenceIdeal.main_v5)) (v2 : Buf (Elt F) (rLoc Cert.ReferenceIdeal.main_v8)) (v3 : Buf (Elt F) (rLoc Cert.ReferenceIdeal.main_v11)) (v4 : Buf (Elt F) (rLoc Cert.ReferenceIdeal.main_v14)) (v5 : Buf (Elt F) (rLoc Cert.ReferenceIdeal.main_v17)),
      θ_run (Cert.KernelIdeal.defs (F := F)) (onTc (τ := Cert.KernelIdeal.τ) (Cert.KernelIdeal.main (F := F))) ⟨m, fun _ => 0, g⟩ (fun r => ∀ c : Dev Cert.KernelIdeal.nD,
          r.2.mem (kLoc c Cert.KernelIdeal.main_v1_0) = Layout.block ⟨3, ![8, 1024, 545]⟩ ⟨3, ![64, 1024, 545]⟩ 0 8 c v0
          ∧ r.2.mem (kLoc c Cert.KernelIdeal.main_v1_1) = Layout.block ⟨3, ![8, 512, 128]⟩ ⟨3, ![64, 512, 128]⟩ 0 8 c v1
          ∧ r.2.mem (kLoc c Cert.KernelIdeal.main_v1_2) = Layout.block ⟨3, ![8, 512, 128]⟩ ⟨3, ![64, 512, 128]⟩ 0 8 c v2
          ∧ r.2.mem (kLoc c Cert.KernelIdeal.main_v1_3) = Layout.block ⟨3, ![8, 128, 1024]⟩ ⟨3, ![64, 128, 1024]⟩ 0 8 c v3
          ∧ r.2.mem (kLoc c Cert.KernelIdeal.main_v1_4) = Layout.block ⟨3, ![8, 1024, 704]⟩ ⟨3, ![64, 1024, 704]⟩ 0 8 c v4
          ∧ r.2.mem (kLoc c Cert.KernelIdeal.main_v1_5) = Layout.block ⟨3, ![8, 352, 1024]⟩ ⟨3, ![64, 352, 1024]⟩ 0 8 c v5
          ∧ r.2.mem (kLoc c Cert.KernelIdeal.main_arg0) = m (kLoc c Cert.KernelIdeal.main_arg0)
          ∧ r.2.mem (kLoc c Cert.KernelIdeal.main_arg1) = m (kLoc c Cert.KernelIdeal.main_arg1)
          ∧ r.2.mem (kLoc c Cert.KernelIdeal.main_arg2) = m (kLoc c Cert.KernelIdeal.main_arg2)
          ∧ r.2.mem (kLoc c Cert.KernelIdeal.main_arg3) = m (kLoc c Cert.KernelIdeal.main_arg3)
          ∧ r.2.mem (kLoc c Cert.KernelIdeal.main_arg4) = m (kLoc c Cert.KernelIdeal.main_arg4)
          ∧ r.2.mem (kLoc c Cert.KernelIdeal.main_arg5) = m (kLoc c Cert.KernelIdeal.main_arg5))
      ∧ θ_run (Cert.ReferenceIdeal.defs (F := F)) (onTc (τ := Cert.ReferenceIdeal.τ) (Cert.ReferenceIdeal.main (F := F))) ⟨m', fun _ => 0, g'⟩ (fun r =>
          r.2.mem (rLoc Cert.ReferenceIdeal.main_v2) = v0
          ∧ r.2.mem (rLoc Cert.ReferenceIdeal.main_v5) = v1
          ∧ r.2.mem (rLoc Cert.ReferenceIdeal.main_v8) = v2
          ∧ r.2.mem (rLoc Cert.ReferenceIdeal.main_v11) = v3
          ∧ r.2.mem (rLoc Cert.ReferenceIdeal.main_v14) = v4
          ∧ r.2.mem (rLoc Cert.ReferenceIdeal.main_v17) = v5
          ∧ r.2.mem (rLoc Cert.ReferenceIdeal.main_arg0) = m' (rLoc Cert.ReferenceIdeal.main_arg0)
          ∧ r.2.mem (rLoc Cert.ReferenceIdeal.main_arg1) = m' (rLoc Cert.ReferenceIdeal.main_arg1)
          ∧ r.2.mem (rLoc Cert.ReferenceIdeal.main_arg2) = m' (rLoc Cert.ReferenceIdeal.main_arg2)
          ∧ r.2.mem (rLoc Cert.ReferenceIdeal.main_arg3) = m' (rLoc Cert.ReferenceIdeal.main_arg3)
          ∧ r.2.mem (rLoc Cert.ReferenceIdeal.main_arg4) = m' (rLoc Cert.ReferenceIdeal.main_arg4)
          ∧ r.2.mem (rLoc Cert.ReferenceIdeal.main_arg5) = m' (rLoc Cert.ReferenceIdeal.main_arg5)) :=
  ⟨_, _, _, _, _, _,
    (θ_run Cert.KernelIdeal.defs _ _).mono (fun _ ⟨h, _⟩ c => ⟨((h c 0).2.trans ((landed_0 m c).trans (exchange_block (fun d => m (kLoc d Cert.KernelIdeal.main_arg0)) _ _ (fun d => (hargs d).1) c _ _ _))),
        ((h c 1).2.trans ((landed_1 m c).trans (exchange_block (fun d => m (kLoc d Cert.KernelIdeal.main_arg1)) _ _ (fun d => (hargs d).2.1) c _ _ _))),
        ((h c 2).2.trans ((landed_2 m c).trans (exchange_block (fun d => m (kLoc d Cert.KernelIdeal.main_arg2)) _ _ (fun d => (hargs d).2.2.1) c _ _ _))),
        ((h c 3).2.trans ((landed_3 m c).trans (exchange_block (fun d => m (kLoc d Cert.KernelIdeal.main_arg3)) _ _ (fun d => (hargs d).2.2.2.1) c _ _ _))),
        ((h c 4).2.trans ((landed_4 m c).trans (exchange_block (fun d => m (kLoc d Cert.KernelIdeal.main_arg4)) _ _ (fun d => (hargs d).2.2.2.2.1) c _ _ _))),
        ((h c 5).2.trans ((landed_5 m c).trans (exchange_block (fun d => m (kLoc d Cert.KernelIdeal.main_arg5)) _ _ (fun d => (hargs d).2.2.2.2.2) c _ _ _))),
        (h c 0).1, (h c 1).1, (h c 2).1, (h c 3).1, (h c 4).1, (h c 5).1⟩) (run_main m g),
    (θ_run Cert.ReferenceIdeal.defs _ _).mono (fun _ h => h 0) (Cert.ReferenceIdeal.Value.run m' g')⟩

end Cert.Exchange

end
-- ==== Proof.GatherOps.lean ====
/-
# The gather's body as a list of copies and waits

The printed body is a straight line. A device copies each of its six operands to its own row of the result, to its
sibling (peer 0) and to the same row on the three chips next to it (peers 1, 2 and 3). As each chip's row arrives it is
forwarded to the sibling, which so receives the rows of peers 4, 5 and 6. Then come the waits for the rows still
outstanding, for the copies out to have left and for the copies on the device. Here the body is written as lists over the
arrays `a : Fin 6`, the first copies `k : Fin 4` and the forwarded rows `j : Fin 3`, and shown to be the printed body.
-/
module

public import proofs.«01_k».proof.Proof.Rowed
public import proofs.«01_k».proof.Proof.Gen.GatherIdeal
public import proofs.«01_k».proof.Proof.Gen.GatherIdeal.Points
public import Idealize.ShloMosaic.Lib.Pipeline.Regions

@[expose] public section

noncomputable section

namespace Cert.Spread

open Cert.GatherIdeal Cert.GatherIdeal.Gen Cert.Rowed
open Idealize.ShloMosaic Idealize.ShloMosaic.TcCoe
open Idealize.SL Idealize.SL.Sem

variable {F : FTy → Type} [FloatOps F]

/-! ## The arrays -/

/-- Operand `a`, one row, and its result, eight. -/
def inM (a : Fin 6) : Memref sig .tc .hbm (SR a) .bf16 :=
  match a with
  | 0 => Memref.whole main_arg0 | 1 => Memref.whole main_arg1 | 2 => Memref.whole main_arg2
  | 3 => Memref.whole main_arg3 | 4 => Memref.whole main_arg4 | 5 => Memref.whole main_arg5
def outM (a : Fin 6) : Memref sig .tc .hbm (SA a) .bf16 :=
  match a with
  | 0 => Memref.whole main_v1_0 | 1 => Memref.whole main_v1_1 | 2 => Memref.whole main_v1_2
  | 3 => Memref.whole main_v1_3 | 4 => Memref.whole main_v1_4 | 5 => Memref.whole main_v1_5

theorem inM_whole (a : Fin 6) : (inM a).IsWhole := by
  fin_cases a <;> exact Memref.isWhole_whole _
theorem outM_whole (a : Fin 6) : (outM a).IsWhole := by
  fin_cases a <;> exact Memref.isWhole_whole _

/-! ## The semaphores -/

theorem inb_pair (a : Fin 6) (k : Fin 7) : ∀ i, (![a.val, k.val] : Fin 2 → ℕ) i + S1x1.size i ≤ S6x7.size i := by
  revert a k; decide
theorem inb_one (a : Fin 6) : ∀ i, (![a.val] : Fin 1 → ℕ) i + S1.size i ≤ S6.size i := by
  revert a; decide

/-- The semaphore of a pair (array, copy) of a `6 × 7` array of semaphores, and of an array of a row of six. -/
def pairSem (A : DmaSems sig S6x7) (a : Fin 6) (k : Fin 7) : DmaSem sig :=
  ((A.slice (Rect.unit (s := S6x7) ![a.val, k.val] S1x1.size (inb_pair a k))).squeeze S_ squeezes_S1x1_S_).sem
def oneSem (A : DmaSems sig S6) (a : Fin 6) : DmaSem sig :=
  ((A.slice (Rect.unit (s := S6) ![a.val] S1.size (inb_one a))).squeeze S_ squeezes_S1_S_).sem

abbrev sendS (a : Fin 6) (k : Fin 7) : DmaSem sig := pairSem cc0_scratch0 a k
abbrev recvS (a : Fin 6) (k : Fin 7) : DmaSem sig := pairSem cc0_scratch1 a k
abbrev locS (a : Fin 6) : DmaSem sig := oneSem cc0_scratch2 a

theorem sendS_val (a : Fin 6) (k : Fin 7) : (sendS a k).val = 7 * a.val + k.val := by revert a k; decide +kernel
theorem recvS_val (a : Fin 6) (k : Fin 7) : (recvS a k).val = 42 + 7 * a.val + k.val := by revert a k; decide +kernel
theorem locS_val (a : Fin 6) : (locS a).val = 84 + a.val := by revert a; decide +kernel

/-! ## The copies and their rows -/

/-- The seven copies of an array: the four first ones, and the three that forward a chip's row to the sibling. -/
def fst (k : Fin 4) : Fin 7 := ⟨k.val, by omega⟩
def near (j : Fin 3) : Fin 7 := ⟨j.val + 1, by omega⟩
def far (j : Fin 3) : Fin 7 := ⟨j.val + 4, by omega⟩
/-- The copies a device waits for last: its sibling's own and those the sibling forwards. -/
def late (i : Fin 4) : Fin 7 := ![0, 4, 5, 6] i

/-- A device's own row of array `a`, as the kernel computes it; -/
def offM (d : Dev nD) (a : Fin 6) : Fin 3 → ℕ :=
  match a with
  | 0 => k0_off1 d | 1 => k0_off2 d | 2 => k0_off2 d | 3 => k0_off3 d | 4 => k0_off4 d | 5 => k0_off5 d
/-- the row of the chip across copy `near j`; -/
def offN (d : Dev nD) (j : Fin 3) (a : Fin 6) : Fin 3 → ℕ :=
  match j, a with
  | 0, 0 => k0_off6 d | 0, 1 => k0_off7 d | 0, 2 => k0_off7 d | 0, 3 => k0_off8 d | 0, 4 => k0_off9 d | 0, 5 => k0_off10 d
  | 1, 0 => k0_off11 d | 1, 1 => k0_off12 d | 1, 2 => k0_off12 d | 1, 3 => k0_off13 d | 1, 4 => k0_off14 d | 1, 5 => k0_off15 d
  | 2, 0 => k0_off16 d | 2, 1 => k0_off17 d | 2, 2 => k0_off17 d | 2, 3 => k0_off18 d | 2, 4 => k0_off19 d | 2, 5 => k0_off20 d
/-- and the row of the device across copy `late i`. -/
def offL (d : Dev nD) (i : Fin 4) (a : Fin 6) : Fin 3 → ℕ :=
  match a, i with
  | 0, 0 => k0_off21 d | 0, 1 => k0_off22 d | 0, 2 => k0_off23 d | 0, 3 => k0_off24 d
  | 1, 0 => k0_off25 d | 1, 1 => k0_off26 d | 1, 2 => k0_off27 d | 1, 3 => k0_off28 d
  | 2, 0 => k0_off25 d | 2, 1 => k0_off26 d | 2, 2 => k0_off27 d | 2, 3 => k0_off28 d
  | 3, 0 => k0_off29 d | 3, 1 => k0_off30 d | 3, 2 => k0_off31 d | 3, 3 => k0_off32 d
  | 4, 0 => k0_off33 d | 4, 1 => k0_off34 d | 4, 2 => k0_off35 d | 4, 3 => k0_off36 d
  | 5, 0 => k0_off37 d | 5, 1 => k0_off38 d | 5, 2 => k0_off39 d | 5, 3 => k0_off40 d

theorem offM_eq (d : Dev nD) (a : Fin 6) : offM d a = ![d.val, 0, 0] := by revert d a; decide +kernel
theorem offN_eq (d : Dev nD) (j : Fin 3) (a : Fin 6) : offN d j a = ![(peer (near j) d).val, 0, 0] := by revert d j a; decide +kernel
theorem offL_eq (d : Dev nD) (i : Fin 4) (a : Fin 6) : offL d i a = ![(peer (late i) d).val, 0, 0] := by revert d i a; decide +kernel

/-- The devices the first copies go to, and the sibling, as the kernel computes them for each copy. -/
def devF (d : Dev nD) (k : Fin 4) (a : Fin 6) : ℕ :=
  match a, k with
  | 0, 0 => k0_dev1 d | 0, 1 => k0_dev2 d | 0, 2 => k0_dev3 d | 0, 3 => k0_dev4 d
  | 1, 0 => k0_dev5 d | 1, 1 => k0_dev6 d | 1, 2 => k0_dev7 d | 1, 3 => k0_dev8 d
  | 2, 0 => k0_dev9 d | 2, 1 => k0_dev10 d | 2, 2 => k0_dev11 d | 2, 3 => k0_dev12 d
  | 3, 0 => k0_dev13 d | 3, 1 => k0_dev14 d | 3, 2 => k0_dev15 d | 3, 3 => k0_dev16 d
  | 4, 0 => k0_dev17 d | 4, 1 => k0_dev18 d | 4, 2 => k0_dev19 d | 4, 3 => k0_dev20 d
  | 5, 0 => k0_dev21 d | 5, 1 => k0_dev22 d | 5, 2 => k0_dev23 d | 5, 3 => k0_dev24 d
def devW (d : Dev nD) (j : Fin 3) (a : Fin 6) : ℕ :=
  match j, a with
  | 0, 0 => k0_dev25 d | 0, 1 => k0_dev26 d | 0, 2 => k0_dev27 d | 0, 3 => k0_dev28 d | 0, 4 => k0_dev29 d | 0, 5 => k0_dev30 d
  | 1, 0 => k0_dev31 d | 1, 1 => k0_dev32 d | 1, 2 => k0_dev33 d | 1, 3 => k0_dev34 d | 1, 4 => k0_dev35 d | 1, 5 => k0_dev36 d
  | 2, 0 => k0_dev37 d | 2, 1 => k0_dev38 d | 2, 2 => k0_dev39 d | 2, 3 => k0_dev40 d | 2, 4 => k0_dev41 d | 2, 5 => k0_dev42 d

theorem devF_eq (d : Dev nD) (k : Fin 4) (a : Fin 6) : devF d k a = (peer (fst k) d).val := by revert d k a; decide +kernel
theorem devW_eq (d : Dev nD) (j : Fin 3) (a : Fin 6) : devW d j a = (peer 0 d).val := by revert d j a; decide +kernel

theorem inb_M (d : Dev nD) (a : Fin 6) : ∀ i, offM d a i + (SR1 a).size i ≤ (SA a).size i := by rw [offM_eq]; exact inb_row a d
theorem inb_N (d : Dev nD) (j : Fin 3) (a : Fin 6) : ∀ i, offN d j a i + (SR1 a).size i ≤ (SA a).size i := by
  rw [offN_eq]; exact inb_row a _
theorem inb_L (d : Dev nD) (i : Fin 4) (a : Fin 6) : ∀ b, offL d i a b + (SR1 a).size b ≤ (SA a).size b := by
  rw [offL_eq]; exact inb_row a _
theorem devF_lt (d : Dev nD) (k : Fin 4) (a : Fin 6) : devF d k a < nD := by rw [devF_eq]; exact (peer _ d).isLt
theorem devW_lt (d : Dev nD) (j : Fin 3) (a : Fin 6) : devW d j a < nD := by rw [devW_eq]; exact (peer _ d).isLt

theorem offM_one (d : Dev nD) (a : Fin 6) : offM d a 1 = 0 := by rw [offM_eq]; rfl
theorem offN_one (d : Dev nD) (j : Fin 3) (a : Fin 6) : offN d j a 1 = 0 := by rw [offN_eq]; rfl
theorem offL_one (d : Dev nD) (i : Fin 4) (a : Fin 6) : offL d i a 1 = 0 := by rw [offL_eq]; rfl

/-! ## The operations -/

abbrev E (F : FTy → Type) : Type → Type := TpuEff nD τ sig (Elt F) Λ₀ .tc

/-- The copy of operand `a` to the device's own row of its result. -/
def localOp (d : Dev nD) (a : Fin 6) : Prog (E F) PUnit :=
  Prog.lift (.enqueueDma (inM a) (.here (row a (outM a) (offM d a) (inb_M d a))) (.dma (locS a))
    (inM_whole a).wordExact (row_wordExact a (outM_whole a) _ _ (offM_one d a)) ⟨Or.inl (by fin_cases a <;> rfl), trivial⟩)

/-- Its copy to the device's own row of another device's result. -/
def firstOp (d : Dev nD) (k : Fin 4) (a : Fin 6) : Prog (E F) PUnit :=
  Prog.lift (.enqueueDma (inM a)
    (.remote (Dev.tc (⟨devF d k a, devF_lt d k a⟩ : Dev nD)) (row a (outM a) (offM d a) (inb_M d a)) (.dma (sendS a (fst k))) (by fin_cases a <;> rfl)) (.dma (recvS a (fst k)))
    (inM_whole a).wordExact (row_wordExact a (outM_whole a) _ _ (offM_one d a)) ⟨⟨rfl, Or.inl rfl⟩, trivial⟩)

/-- The wait for a chip's row, and the copy of that row to the sibling. -/
def nearOp (d : Dev nD) (j : Fin 3) (a : Fin 6) : Prog (E F) PUnit :=
  Prog.lift (.waitDma2 (recvS a (near j)) (row a (outM a) (offN d j a) (inb_N d j a)) (row a (outM a) (offN d j a) (inb_N d j a))
    (row_wordExact a (outM_whole a) _ _ (offN_one d j a)) (row_wordExact a (outM_whole a) _ _ (offN_one d j a)))
def fwdOp (d : Dev nD) (j : Fin 3) (a : Fin 6) : Prog (E F) PUnit :=
  Prog.lift (.enqueueDma (row a (outM a) (offN d j a) (inb_N d j a))
    (.remote (Dev.tc (⟨devW d j a, devW_lt d j a⟩ : Dev nD)) (row a (outM a) (offN d j a) (inb_N d j a)) (.dma (sendS a (far j))) (by fin_cases a <;> rfl)) (.dma (recvS a (far j)))
    (row_wordExact a (outM_whole a) _ _ (offN_one d j a)) (row_wordExact a (outM_whole a) _ _ (offN_one d j a)) ⟨⟨rfl, Or.inl rfl⟩, trivial⟩)
def passOp (d : Dev nD) (y : Fin 3 × Fin 6) : Prog (E F) PUnit := nearOp d y.1 y.2 >>= fun _ => fwdOp d y.1 y.2

/-- The wait for a row that comes from the sibling. -/
def lateOp (d : Dev nD) (i : Fin 4) (a : Fin 6) : Prog (E F) PUnit :=
  Prog.lift (.waitDma2 (recvS a (late i)) (row a (outM a) (offL d i a) (inb_L d i a)) (row a (outM a) (offL d i a) (inb_L d i a))
    (row_wordExact a (outM_whole a) _ _ (offL_one d i a)) (row_wordExact a (outM_whole a) _ _ (offL_one d i a)))

/-- The waits for a first copy and for a forwarded row to have left, and for the copy on the device. -/
def sentOp (d : Dev nD) (k : Fin 4) (a : Fin 6) : Prog (E F) PUnit :=
  Prog.lift (.waitDma2 (sendS a (fst k)) (row a (outM a) (offM d a) (inb_M d a)) (inM a)
    (row_wordExact a (outM_whole a) _ _ (offM_one d a)) (inM_whole a).wordExact)
def passedOp (d : Dev nD) (j : Fin 3) (a : Fin 6) : Prog (E F) PUnit :=
  Prog.lift (.waitDma2 (sendS a (far j)) (row a (outM a) (offN d j a) (inb_N d j a)) (row a (outM a) (offN d j a) (inb_N d j a))
    (row_wordExact a (outM_whole a) _ _ (offN_one d j a)) (row_wordExact a (outM_whole a) _ _ (offN_one d j a)))
def keptOp (d : Dev nD) (a : Fin 6) : Prog (E F) PUnit :=
  Prog.lift (.waitDma2 (locS a) (inM a) (row a (outM a) (offM d a) (inb_M d a))
    (inM_whole a).wordExact (row_wordExact a (outM_whole a) _ _ (offM_one d a)))

/-! ## The body -/

/-- The first copies and the late ones, array by array, and the forwarded rows, chip by chip. -/
def fours : List (Fin 4 × Fin 6) := six.flatMap fun a => [(0, a), (1, a), (2, a), (3, a)]
def threes : List (Fin 3 × Fin 6) := [0, 1, 2].flatMap fun j => six.map fun a => (j, a)

/-- The body after the device's id is read. -/
def ops (d : Dev nD) : List (Prog (E F) PUnit) :=
  six.map (localOp d) ++ (fours.map (fun x => firstOp d x.1 x.2) ++ (threes.map (passOp d)
    ++ (fours.map (fun x => lateOp d x.1 x.2) ++ (fours.map (fun x => sentOp d x.1 x.2)
      ++ (threes.map (fun x => passedOp d x.1 x.2) ++ six.map (keptOp d))))))

set_option maxRecDepth 100000 in
/-- The printed body is the list. -/
theorem body_eq (t : Fin cfg0.N) :
    bodyAt0 (F := F) t = (Prog.lift .deviceId >>= fun d => Pipeline.chain (ops d)) := by
  chain_rfl

end Cert.Spread

end
-- ==== Proof.GatherRows.lean ====
/-
# What the gather puts in the rows

`gathered` is what every device's result holds after the gather: row `r` is device `r`'s operand. `lands` says that a
write of that operand to row `r` makes it so, and `read_landed` that a row forwarded from it is that operand again.
-/
module

public import proofs.«01_k».proof.Proof.GatherOps
public import Idealize.ShloMosaic.Lib.Transfers

@[expose] public section

noncomputable section

namespace Cert.Spread

open Cert.GatherIdeal Cert.GatherIdeal.Gen Cert.Rowed
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ × UR sig nD τ) ℕ

abbrev rOut (a : Fin 6) (r : Dev nD) : Memref sig .tc .hbm (SR a) .bf16 := rowAt a (outM a) r

/-- An index of an array, within its row. -/
def within {a : Fin 6} (i : (SA a).Idx) : (SR a).Idx := fun b => match b with
  | ⟨0, _⟩ => i (1 : Fin 3)
  | ⟨1, _⟩ => i (2 : Fin 3)

theorem within_emb (a : Fin 6) (r : Dev nD) (x : (SR a).Idx) :
    within ((rect a r).emb (Shape.reshapeEquiv (squeezes_row a).numel_eq x)) = x := by
  have h : Shape.reshapeEquiv (squeezes_row a).numel_eq x = (Fin.cons ⟨0, Nat.one_pos⟩ x : (SR1 a).Idx) :=
    Shape.reshapeEquiv_cons_one (d := ![p a, q a]) _ x
  rw [h]
  funext b
  fin_cases b
  · refine Fin.ext ?_
    show 0 + 1 * (x (0 : Fin 2)).val = (x (0 : Fin 2)).val
    omega
  · refine Fin.ext ?_
    show 0 + 1 * (x (1 : Fin 2)).val = (x (1 : Fin 2)).val
    omega

variable (m : (ℓ : Loc nD τ sig) → Buf (Elt F) ℓ)

/-- What device `c` has of array `a` at the launch. -/
abbrev inB (c : Dev nD) (a : Fin 6) : Buf (Elt F) ((inM a).view.loc (c : Thread nD τ)) := m _
abbrev outB (c : Dev nD) (a : Fin 6) : Buf (Elt F) ((outM a).view.loc (c : Thread nD τ)) := m _
abbrev X (c : Dev nD) (a : Fin 6) : (SR a).Idx → Elt F .bf16 := (inM a).view.read (Elt F) (inB m c a)

/-- Row `r` of every device's result is device `r`'s operand. -/
def gathered (a : Fin 6) : (SA a).Idx → Elt F .bf16 := fun i => X m (rowOf i) a (within i)

/-- Device `c`'s result `a` after the gather. -/
def landed (c : Dev nD) (a : Fin 6) : Buf (Elt F) ((outM a).view.loc (c : Thread nD τ)) :=
  (outM a).view.write (Elt F) (outB m c a) (gathered m a) Finset.univ

theorem gathered_emb (a : Fin 6) (r : Dev nD) (x : (SR a).Idx) :
    gathered m a ((rect a r).emb (Shape.reshapeEquiv (squeezes_row a).numel_eq x)) = X m r a x := by
  show X m (rowOf ((rect a r).emb _)) a (within ((rect a r).emb _)) = X m r a x
  rw [rowOf_emb, within_emb]

/-- Device `r`'s operand written to row `r` of device `c`'s result. -/
theorem lands (c r : Dev nD) (a : Fin 6) (fd : Buf (Elt F) ((rOut a r).view.loc (c : Thread nD τ))) (w : (SR a).Idx → Elt F .bf16) (hw : w = X m r a) :
    ((rOut a r).view.loc (c : Thread nD τ) ↦[(rOut a r).view.set]{fullShare} ((rOut a r).view.write (Elt F) fd w Finset.univ) : sProp 𝕄)
      ⊢ rowPts a (outM a) c r (landed m c a) := by
  subst hw
  refine Entails.of_eq (pointsTo_congr fun i hi => ?_)
  obtain ⟨x, -, rfl⟩ := Finset.mem_map.mp hi
  rw [View.write_emb_of_mem (Val := Elt F) (v := (rOut a r).view) fd _ (M := Finset.univ) (Finset.mem_univ x)]
  unfold landed
  have h2 := View.write_emb_of_mem (Val := Elt F) (v := (outM a).view) (outB m c a) (gathered m a) (M := Finset.univ)
    (Finset.mem_univ ((rect a r).emb (Shape.reshapeEquiv (squeezes_row a).numel_eq x)))
  refine Eq.trans ?_ h2.symm
  exact congrArg _ (gathered_emb m a r x).symm

/-- Row `r` of a device's result, gathered, is device `r`'s operand. -/
theorem read_landed (c r : Dev nD) (a : Fin 6) : (rOut a r).view.read (Elt F) (landed m c a) = X m r a := by
  funext x
  show (outM a).view.read (Elt F) (landed m c a) ((rect a r).emb (Shape.reshapeEquiv (squeezes_row a).numel_eq x)) = X m r a x
  unfold landed
  rw [View.read_write_univ, gathered_emb]

/-! ## The operands, in shares -/

/-- Device `c` holds its operand `a` in share `s`. -/
def opPts (a : Fin 6) (c : Dev nD) (s : PosShare TreeShare) : sProp 𝕄 :=
  (inM a).view.loc (c : Thread nD τ) ↦[(inM a).view.set]{s} inB m c a

instance (a : Fin 6) (c : Dev nD) (s : PosShare TreeShare) :
    BI.Storable (upEmb : UEmb _ (MT nD τ sig Unit (Elt F) ℕ (UR sig nD τ × UR sig nD τ) ℕ)) (opPts m a c s) := by
  unfold opPts; infer_instance

/-- The share of the copy on the device, and of each first copy. -/
abbrev own : PosShare TreeShare := Transfers.shareDrop fullShare 4
abbrev part (k : Fin 4) : PosShare TreeShare := Transfers.shareTok fullShare 4 k

/-- An operand held is its share for the copy on the device and those for the first copies. -/
theorem op_shares (a : Fin 6) (c : Dev nD) :
    (opPts m a c fullShare : sProp 𝕄) ⊣⊢ iprop(opPts m a c own ∗ bigSep Finset.univ fun k : Fin 4 => opPts m a c (part k)) :=
  Transfers.pointsTo_toks fullShare 4

end Cert.Spread

end
-- ==== Proof.GatherSched.lean ====
/-
# The gather's semaphores and its operations' rules

The plan (`Once.Plan`) of the gather: a first copy hands the sender its share of the operand back and the receiver the row
it filled; a forwarding copy hands back the row it was made from. The wait for a chip's row happens while the forwarding
copies are still owed, so the cells of those waits are levelled (`lev`) below all others. For each kind of operation of
the body, its rule.
-/
module

public import proofs.«01_k».proof.Proof.GatherRows
public import proofs.«01_k».proof.Proof.Once

@[expose] public section

noncomputable section

namespace Cert.Spread

open Cert.GatherIdeal Cert.GatherIdeal.Gen Cert.Rowed
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Once (Plan)
open Cert.Once.Plan (𝒱₀)

variable {F : FTy → Type} [FloatOps F]

local notation "𝕄" => MT nD τ sig Unit (Elt F) ℕ (UR sig nD τ × UR sig nD τ) ℕ

/-! ## The copies -/

/-- A device's copies to others: the first ones, and the forwarding ones. -/
abbrev K : Type := (Fin 4 × Fin 6) ⊕ (Fin 3 × Fin 6)

/-- A copy's number and its array. -/
def num : K → Fin 7
  | .inl x => fst x.1
  | .inr y => far y.1
def ar : K → Fin 6
  | .inl x => x.2
  | .inr y => y.2

/-- The device a copy goes to, and the row it fills there. -/
def tgt : K → Dev nD → Dev nD
  | .inl x => peer (fst x.1)
  | .inr _ => peer 0
def who : K → Dev nD → Dev nD
  | .inl _ => id
  | .inr y => peer (near y.1)

/-- The copy that brings a chip's row, and those waited for last. -/
def nearK (y : Fin 3 × Fin 6) : K := .inl (y.1.succ, y.2)
def lateK (x : Fin 4 × Fin 6) : K :=
  match x.1 with
  | 0 => .inl (0, x.2) | 1 => .inr (0, x.2) | 2 => .inr (1, x.2) | 3 => .inr (2, x.2)

theorem num_ar_inj {x y : K} (h : num x = num y) (h' : ar x = ar y) : x = y := by
  revert x y; decide +kernel
theorem num_ar_surj (k : Fin 7) (a : Fin 6) : ∃ x, num x = k ∧ ar x = a := by revert k a; decide +kernel
theorem tgt_tgt (x : K) (c : Dev nD) : tgt x (tgt x c) = c := by
  rcases x with x | y <;> exact peer_peer _ c
theorem peer_tgt (x : K) (c : Dev nD) : peer (num x) (tgt x c) = who x c := by revert x c; decide +kernel
theorem num_late (x : Fin 4 × Fin 6) : num (lateK x) = late x.1 := by revert x; decide
theorem ar_late (x : Fin 4 × Fin 6) : ar (lateK x) = x.2 := by revert x; decide

theorem all_fours (Φ : Fin 4 × Fin 6 → sProp 𝕄) : bigSep Finset.univ Φ = bigSepL fours Φ :=
  bigSep_univ_eq_bigSepL fours (by decide) (by decide) Φ
theorem all_threes (Φ : Fin 3 × Fin 6 → sProp 𝕄) : bigSep Finset.univ Φ = bigSepL threes Φ :=
  bigSep_univ_eq_bigSepL threes (by decide) (by decide) Φ
/-- A device's copies are the chips' and the late ones. -/
theorem all_near_late (Φ : K → sProp 𝕄) :
    bigSep Finset.univ Φ = iprop((bigSepL threes fun y => Φ (nearK y)) ∗ bigSepL fours fun x => Φ (lateK x)) := by
  rw [bigSep_univ_eq_bigSepL (threes.map nearK ++ fours.map lateK) (by decide +kernel) (by decide +kernel) Φ, bigSepL_append, bigSepL_map, bigSepL_map]

/-! ## The semaphores -/

/-- A device's semaphores: of its copies out, of the copies to it, of the copies on it. -/
abbrev J : Type := K ⊕ K ⊕ Fin 6

abbrev jSend (x : K) : J := .inl x
abbrev jRecv (x : K) : J := .inr (.inl x)
abbrev jLoc (a : Fin 6) : J := .inr (.inr a)

def semD : J → DmaSem sig
  | .inl x => sendS (ar x) (num x)
  | .inr (.inl x) => recvS (ar x) (num x)
  | .inr (.inr a) => locS a

theorem semD_val (j : J) : (semD j).val = match j with
    | .inl x => 7 * (ar x).val + (num x).val
    | .inr (.inl x) => 42 + 7 * (ar x).val + (num x).val
    | .inr (.inr a) => 84 + a.val := by
  rcases j with x | x | a
  · exact sendS_val _ _
  · exact recvS_val _ _
  · exact locS_val _

theorem semD_inj : Function.Injective semD := by
  intro i j h
  have h' := congrArg Fin.val h
  rw [semD_val, semD_val] at h'
  rcases i with x | x | a <;> rcases j with y | y | b <;> dsimp only at h'
  all_goals first
    | (exfalso; omega)
    | (obtain h2 : x = y := num_ar_inj (Fin.ext (by omega)) (Fin.ext (by omega)); rw [h2])
    | (obtain h2 : a = b := Fin.ext (by omega); rw [h2])

/-- Every semaphore of the kernel is one of them. -/
theorem semD_surj (s : DmaSem sig) : ∃ j, semD j = s := by
  have hs : s.val < 90 := s.isLt
  by_cases h1 : s.val < 42
  · obtain ⟨x, hx, hx'⟩ := num_ar_surj ⟨s.val % 7, by omega⟩ ⟨s.val / 7, by omega⟩
    exact ⟨.inl x, Fin.ext (by rw [semD_val]; dsimp only; rw [hx, hx']; dsimp only; omega)⟩
  by_cases h2 : s.val < 84
  · obtain ⟨x, hx, hx'⟩ := num_ar_surj ⟨(s.val - 42) % 7, by omega⟩ ⟨(s.val - 42) / 7, by omega⟩
    exact ⟨.inr (.inl x), Fin.ext (by rw [semD_val]; dsimp only; rw [hx, hx']; dsimp only; omega)⟩
  · exact ⟨.inr (.inr ⟨s.val - 84, by omega⟩), Fin.ext (by rw [semD_val]; dsimp only; omega)⟩

/-- The array of a semaphore. -/
def arr : J → Fin 6
  | .inl x => ar x
  | .inr (.inl x) => ar x
  | .inr (.inr a) => a

/-- What a row of array `a` credits. -/
def N (a : Fin 6) : ℕ := (rOut a (0 : Dev nD)).view.dmaCredit
theorem N_out (a : Fin 6) (off : Fin 3 → ℕ) (h : ∀ i, off i + (SR1 a).size i ≤ (SA a).size i) : (row a (outM a) off h).view.dmaCredit = N a := rfl
theorem N_in (a : Fin 6) : (inM a).view.dmaCredit = N a := by
  fin_cases a <;> rfl
theorem N_pos (a : Fin 6) : 0 < N a := View.dmaCredit_pos _ (by revert a; decide)

/-! ## The plan -/

variable (m : (ℓ : Loc nD τ sig) → Buf (Elt F) ℓ)

/-- What each semaphore's credit comes with. -/
def pay (c : Dev nD) : J → sProp 𝕄
  | .inl (.inl x) => opPts m x.2 c (part x.1)
  | .inl (.inr y) => rowPts y.2 (outM y.2) c (peer (near y.1) c) (landed m c y.2)
  | .inr (.inl x) => rowPts (ar x) (outM (ar x)) c (peer (num x) c) (landed m c (ar x))
  | .inr (.inr a) => iprop(rowPts a (outM a) c c (landed m c a) ∗ opPts m a c own)

def plan : Plan nD τ sig (Elt F) J where
  sem j := .dma (semD j)
  inj := fun i j h => semD_inj (SemLoc.dma.inj h)
  amt j := N (arr j)
  pos j := N_pos (arr j)
  pay := pay m
  store := fun c j => by
    rcases j with (x | y) | x | a
    · exact inferInstanceAs (BI.Storable _ (opPts _ _ _ _))
    · exact inferInstanceAs (BI.Storable _ (rowPts _ _ _ _ _))
    · exact inferInstanceAs (BI.Storable _ (rowPts _ _ _ _ _))
    · exact inferInstanceAs (BI.Storable _ (iprop(rowPts _ _ _ _ _ ∗ opPts _ _ _ _)))

/-! ## The levels -/

/-- Every cell of a TensorCore has a level: the cells of the chips' rows 0, all others 1. -/
def lset (g : GSem nD τ sig) : Finset Unit := if g.1.2 = .tc then {()} else ∅
open Classical in
def lev (g : GSem nD τ sig) (_ : Unit) : ℕ := if ∃ y, g.2 = .dma (semD (jRecv (nearK y))) then 0 else 1

theorem lev_near (c : Dev nD) (y : Fin 3 × Fin 6) : lev ((plan m).cell (c, jRecv (nearK y))) () = 0 := if_pos ⟨y, rfl⟩
theorem lev_fwd (c : Dev nD) (y : Fin 3 × Fin 6) : lev ((plan m).cell (c, jRecv (.inr y))) () = 1 :=
  if_neg fun ⟨_, h⟩ => nomatch Sum.inl.inj (Sum.inr.inj (semD_inj (SemLoc.dma.inj h)))

/-- What the launch knows of the levels. -/
abbrev Levels : sProp 𝕄 := levAts lset lev

/-! ## The operations at the rows' own offsets -/

def localAt (a : Fin 6) (off : Fin 3 → ℕ) (h : ∀ i, off i + (SR1 a).size i ≤ (SA a).size i) (h1 : off 1 = 0) : Prog (E F) PUnit :=
  Prog.lift (.enqueueDma (inM a) (.here (row a (outM a) off h)) (.dma (locS a))
    (inM_whole a).wordExact (row_wordExact a (outM_whole a) _ _ h1) ⟨Or.inl (by fin_cases a <;> rfl), trivial⟩)

def firstAt (k : Fin 4) (a : Fin 6) (n : Dev nD) (off : Fin 3 → ℕ) (h : ∀ i, off i + (SR1 a).size i ≤ (SA a).size i) (h1 : off 1 = 0) : Prog (E F) PUnit :=
  Prog.lift (.enqueueDma (inM a)
    (.remote (Dev.tc n) (row a (outM a) off h) (.dma (sendS a (fst k))) (by fin_cases a <;> rfl)) (.dma (recvS a (fst k)))
    (inM_whole a).wordExact (row_wordExact a (outM_whole a) _ _ h1) ⟨⟨rfl, Or.inl rfl⟩, trivial⟩)

def fwdAt (j : Fin 3) (a : Fin 6) (n : Dev nD) (off : Fin 3 → ℕ) (h : ∀ i, off i + (SR1 a).size i ≤ (SA a).size i) (h1 : off 1 = 0) : Prog (E F) PUnit :=
  Prog.lift (.enqueueDma (row a (outM a) off h)
    (.remote (Dev.tc n) (row a (outM a) off h) (.dma (sendS a (far j))) (by fin_cases a <;> rfl)) (.dma (recvS a (far j)))
    (row_wordExact a (outM_whole a) _ _ h1) (row_wordExact a (outM_whole a) _ _ h1) ⟨⟨rfl, Or.inl rfl⟩, trivial⟩)

theorem localOp_eq (d : Dev nD) (a : Fin 6) : (localOp d a : Prog (E F) PUnit) = localAt a ![d.val, 0, 0] (inb_row a d) rfl := by
  have key (off off' : Fin 3 → ℕ) (e : off = off') (h h' h1 h1') : (localAt a off h h1 : Prog (E F) PUnit) = localAt a off' h' h1' := by
    subst e; rfl
  exact key _ _ (offM_eq d a) (inb_M d a) _ (offM_one d a) _

theorem firstOp_eq (d : Dev nD) (k : Fin 4) (a : Fin 6) : (firstOp d k a : Prog (E F) PUnit)
    = firstAt k a (peer (fst k) d) ![d.val, 0, 0] (inb_row a d) rfl := by
  have key (n n' : Dev nD) (en : n = n') (o o' : Fin 3 → ℕ) (e : o = o') (h h' h1 h1') :
      (firstAt k a n o h h1 : Prog (E F) PUnit) = firstAt k a n' o' h' h1' := by
    subst en e; rfl
  exact key ⟨devF d k a, devF_lt d k a⟩ _ (Fin.ext (devF_eq d k a)) _ _ (offM_eq d a) (inb_M d a) _ (offM_one d a) _

theorem fwdOp_eq (d : Dev nD) (j : Fin 3) (a : Fin 6) : (fwdOp d j a : Prog (E F) PUnit)
    = fwdAt j a (peer 0 d) ![(peer (near j) d).val, 0, 0] (inb_row a (peer (near j) d)) rfl := by
  have key (n n' : Dev nD) (en : n = n') (o o' : Fin 3 → ℕ) (e : o = o') (h h' h1 h1') :
      (fwdAt j a n o h h1 : Prog (E F) PUnit) = fwdAt j a n' o' h' h1' := by
    subst en e; rfl
  exact key ⟨devW d j a, devW_lt d j a⟩ _ (Fin.ext (devW_eq d j a)) _ _ (offN_eq d j a) (inb_N d j a) _ (offN_one d j a) _

/-! ## Their rules -/

variable {Q : PUnit → sProp (MT nD τ sig Unit (Elt F) ℕ (UR sig nD τ × UR sig nD τ) ℕ)}

/-- Before and after the copy of an operand on the device. -/
def locA (c : Dev nD) (a : Fin 6) : sProp 𝕄 :=
  iprop((opPts m a c own ∗ rowPts a (outM a) c c (outB m c a)) ∗ (plan m).tok c (jLoc a))
def locB (c : Dev nD) (a : Fin 6) : sProp 𝕄 := cred (tallyAt ((plan m).cell (c, jLoc a)) () (N a))

theorem local_step (c : Dev nD) (a : Fin 6) (k : PUnit → Prog (E F) PUnit) :
    iprop((plan m).Known ∗ locA m c a ∗ emp) ⊢ iprop(((locB m c a ∗ emp) -∗ wp frame (wpE defs₀ 𝒱₀ (c : Thread nD τ) none) Set.univ (k ⟨⟩) Q)
      -∗ wp frame (wpE defs₀ 𝒱₀ (c : Thread nD τ) none) Set.univ (localOp c a >>= k) Q) := by
  rw [localOp_eq]
  unfold locA locB rowPts opPts
  iintro ⟨HK, ⟨⟨Hi, Ho⟩, Ht⟩, -⟩ Hk
  iapply ((plan m).copy_step (c := c) (j := jLoc a) (src := inM a) (dst := rOut a c) (sem := .dma (locS a)) (q := own) (fs := inB m c a) (fd := outB m c a)
    rfl (N_out a _ _) (sep_mono_left (lands m c c a _ _ rfl))) $$ [HK Hi Ho Ht] [Hk]
  · isplitl [HK]; · iexact HK
    isplitl [Hi]; · iexact Hi
    isplitl [Ho] <;> iassumption
  · iintro Hc
    iapply Hk
    isplitl [Hc]; · iexact Hc
    iempintro

/-- What device `c` owes for a copy. -/
def due (c : Dev nD) (x : K) : CellTallies nD τ sig Unit := tallyAt ((plan m).cell (tgt x c, jRecv x)) () (N (ar x))

/-- The row a copy fills, and its two rights; what it leaves. -/
def dst (c : Dev nD) (x : K) : sProp 𝕄 :=
  iprop(rowPts (ar x) (outM (ar x)) (tgt x c) (who x c) (outB m (tgt x c) (ar x)) ∗ (plan m).tok c (jSend x) ∗ (plan m).tok (tgt x c) (jRecv x))
def sendB (c : Dev nD) (x : K) : sProp 𝕄 := cred (tallyAt ((plan m).cell (c, jSend x)) () (N (ar x)))

/-- What a copy writes is what its receiver expects. -/
theorem lands_at (c : Dev nD) (x : K) (w : (SR (ar x)).Idx → Elt F .bf16) (hw : w = X m (who x c) (ar x)) :
    ((rOut (ar x) (who x c)).view.loc (tgt x c : Thread nD τ) ↦[(rOut (ar x) (who x c)).view.set]{fullShare}
        ((rOut (ar x) (who x c)).view.write (Elt F) (outB m (tgt x c) (ar x)) w Finset.univ) : sProp 𝕄)
      ⊢ (plan m).pay (tgt x c) (jRecv x) :=
  (lands m (tgt x c) (who x c) (ar x) _ w hw).trans (Entails.of_eq (by
    show _ = rowPts (ar x) (outM (ar x)) (tgt x c) (peer (num x) (tgt x c)) (landed m (tgt x c) (ar x))
    rw [peer_tgt]))

/-- What the forwarding copies of a list of rows owe. -/
def fwds (c : Dev nD) (l : List (Fin 3 × Fin 6)) : CellTallies nD τ sig Unit := (l.map fun y => due m c (.inr y)).sum

/-- Before a first copy, and the debt while they are made. -/
def firstA (c : Dev nD) (x : Fin 4 × Fin 6) : sProp 𝕄 := iprop(opPts m x.2 c (part x.1) ∗ dst m c (.inl x))
def firstI (c : Dev nD) (l : List (Fin 4 × Fin 6)) : sProp 𝕄 :=
  iprop(∃ W, owes (c : Thread nD τ) ((l.map fun x => due m c (.inl x)).sum + fwds m c threes) W)

theorem first_step (c : Dev nD) (x : Fin 4 × Fin 6) (l : List (Fin 4 × Fin 6)) (k : PUnit → Prog (E F) PUnit) :
    iprop((plan m).Known ∗ firstA m c x ∗ firstI m c (x :: l)) ⊢ iprop(((sendB m c (.inl x) ∗ firstI m c l) -∗ wp frame (wpE defs₀ 𝒱₀ (c : Thread nD τ) none) Set.univ (k ⟨⟩) Q)
      -∗ wp frame (wpE defs₀ 𝒱₀ (c : Thread nD τ) none) Set.univ (firstOp c x.1 x.2 >>= k) Q) := by
  rw [firstOp_eq]
  unfold firstA sendB firstI dst rowPts opPts
  iintro ⟨HK, ⟨Hi, Ho, Ht, Ht'⟩, ⟨%W, HO⟩⟩ Hk
  iapply ((plan m).send_step (c := c) (c' := peer (fst x.1) c) (j := jSend (.inl x)) (j' := jRecv (.inl x)) (src := inM x.2) (dst := rOut x.2 c)
    (sS := .dma (sendS x.2 (fst x.1))) (sem := .dma (recvS x.2 (fst x.1))) (q := part x.1) (fs := inB m c x.2) (fd := outB m (peer (fst x.1) c) x.2)
    rfl rfl (N_out x.2 _ _) rfl (O₀ := ((x :: l).map fun x => due m c (.inl x)).sum + fwds m c threes) ((l.map fun x => due m c (.inl x)).sum + fwds m c threes)
    (by rw [List.map_cons, List.sum_cons, add_assoc, add_comm]; rfl) (W := W) (Entails.refl _)
    (lands_at m c (.inl x) _ rfl) (by routes)) $$ [HK Hi Ho Ht Ht' HO] [Hk]
  · isplitl [HK]; · iexact HK
    isplitl [Hi]; · iexact Hi
    isplitl [Ho]; · iexact Ho
    isplitl [Ht]; · iexact Ht
    isplitl [Ht']; · iexact Ht'
    iexact HO
  · iintro ⟨Hc, HO⟩
    iapply Hk
    isplitl [Hc]; · iexact Hc
    iexists W
    iexact HO

/-- A device that owes nothing more. -/
def free (c : Dev nD) : sProp 𝕄 := iprop(∃ W, owes (c : Thread nD τ) 0 W)

/-- Before and after the wait at a semaphore. -/
def waitA (c : Dev nD) (j : J) : sProp 𝕄 := iprop(cred (tallyAt ((plan m).cell (c, j)) () (N (arr j))) ∗ (plan m).wait c j)
def waitB (c : Dev nD) (j : J) : sProp 𝕄 := iprop((plan m).pay c j ∗ (plan m).done c j)

theorem wait_step (c : Dev nD) (j : J) {s : Shape} {src dst : Memref sig .tc .hbm s .bf16} {hsrc : src.view.WordExact} {hdst : dst.view.WordExact} (sem : DmaSem sig)
    (hs : semD j = sem) (hN : dst.view.dmaCredit = N (arr j)) (k : PUnit → Prog (E F) PUnit) :
    iprop((plan m).Known ∗ waitA m c j ∗ free c) ⊢ iprop(((waitB m c j ∗ free c) -∗ wp frame (wpE defs₀ 𝒱₀ (c : Thread nD τ) none) Set.univ (k ⟨⟩) Q)
      -∗ wp frame (wpE defs₀ 𝒱₀ (c : Thread nD τ) none) Set.univ (Prog.lift (.waitDma2 sem src dst hsrc hdst) >>= k) Q) := by
  unfold waitA waitB free
  iintro ⟨HK, ⟨Hc, Hw⟩, ⟨%W, HO⟩⟩ Hk
  iapply ((plan m).wait_step (c := c) (j := j) (sem := sem) (src := src) (dst := dst) (congrArg SemLoc.dma hs) hN (O := 0) (W := W)) $$ [HK Hc Hw HO] [Hk]
  · isplitl [HK]; · iexact HK
    isplitl [Hc]; · iexact Hc
    isplitl [Hw]; · iexact Hw
    isplitl [HO]; · iexact HO
    rw [MayWait_zero]; iempintro
  · iintro ⟨Hp, Hd, Ho⟩
    iapply Hk
    isplitl [Hp Hd]
    · isplitl [Hp]; · iexact Hp
      iexact Hd
    iexact Ho

/-- A device may wait for a chip's row while it owes forwarding copies only. -/
theorem may_wait (c : Dev nD) (y : Fin 3 × Fin 6) (l : List (Fin 3 × Fin 6)) :
    (Levels : sProp 𝕄) ⊢ MayWait (c : Thread nD τ) ((plan m).sem (jRecv (nearK y))) () (fwds m c l) := by
  have hpos : ∀ (l : List (Fin 3 × Fin 6)) (g : GSem nD τ sig) (i : Unit), 0 < fwds m c l g i →
      ∃ z : Fin 3 × Fin 6, g = (plan m).cell (tgt (.inr z) c, jRecv (.inr z)) := by
    intro l
    induction l with
    | nil => intro g i h; exact absurd h (Nat.lt_irrefl 0)
    | cons z l ih =>
      intro g i h
      rcases Pipeline.add_pos_cases (show 0 < (due m c (.inr z) + fwds m c l) g i from h) with h | h
      · exact ⟨z, (Pipeline.tallyAt_pos h).1⟩
      · exact ih g i h
  refine Pipeline.mayWait_of_levAts (L := lset) (lev := lev) (show () ∈ lset ((plan m).cell (c, jRecv (nearK y))) by unfold lset; rw [if_pos rfl]; exact Finset.mem_singleton_self _) fun g i h => ?_
  obtain ⟨z, rfl⟩ := hpos l g i h
  refine ⟨by unfold lset; rw [if_pos rfl]; exact Finset.mem_singleton_self _, ?_⟩
  rw [lev_fwd]
  exact (lev_near m c y).trans_lt Nat.one_pos

/-- Before and after a chip's row is received and forwarded. -/
def passA (c : Dev nD) (y : Fin 3 × Fin 6) : sProp 𝕄 := iprop(waitA m c (jRecv (nearK y)) ∗ dst m c (.inr y))
def passB (c : Dev nD) (y : Fin 3 × Fin 6) : sProp 𝕄 := iprop((plan m).done c (jRecv (nearK y)) ∗ sendB m c (.inr y))
def passI (c : Dev nD) (l : List (Fin 3 × Fin 6)) : sProp 𝕄 := iprop(∃ W, owes (c : Thread nD τ) (fwds m c l) W)

theorem pass_step (c : Dev nD) (y : Fin 3 × Fin 6) (l : List (Fin 3 × Fin 6)) (k : PUnit → Prog (E F) PUnit) :
    iprop(((plan m).Known ∗ Levels) ∗ passA m c y ∗ passI m c (y :: l)) ⊢ iprop(((passB m c y ∗ passI m c l) -∗ wp frame (wpE defs₀ 𝒱₀ (c : Thread nD τ) none) Set.univ (k ⟨⟩) Q)
      -∗ wp frame (wpE defs₀ 𝒱₀ (c : Thread nD τ) none) Set.univ (passOp c y >>= k) Q) := by
  unfold passOp
  rw [fwdOp_eq]
  unfold passA passB sendB passI dst waitA
  iintro ⟨⟨#HK, HL⟩, ⟨⟨Hc, Hw⟩, Ho, Ht, Ht'⟩, ⟨%W, HO⟩⟩ Hk
  ihave Hm := (may_wait m c y (y :: l)) $$ HL
  iapply ((plan m).wait_step (defs := defs₀ (F := F)) (c := c) (j := jRecv (nearK y)) (sem := recvS y.2 (near y.1))
    (src := row y.2 (outM y.2) (offN c y.1 y.2) (inb_N c y.1 y.2)) (dst := row y.2 (outM y.2) (offN c y.1 y.2) (inb_N c y.1 y.2))
    (hsrc := row_wordExact y.2 (outM_whole y.2) _ _ (offN_one c y.1 y.2)) (hdst := row_wordExact y.2 (outM_whole y.2) _ _ (offN_one c y.1 y.2))
    (k := fun _ => fwdAt y.1 y.2 (peer 0 c) ![(peer (near y.1) c).val, 0, 0] (inb_row y.2 (peer (near y.1) c)) rfl >>= k)
    rfl (N_out y.2 _ _) (O := fwds m c (y :: l)) (W := W)) $$ [Hc Hw HO Hm] [-]
  · isplitr; · iexact HK
    isplitl [Hc]; · iexact Hc
    isplitl [Hw]; · iexact Hw
    isplitl [HO] <;> iassumption
  iintro ⟨Hp, Hd, ⟨%W', HO⟩⟩
  ihave Hp' := (show (plan m).pay c (jRecv (nearK y)) ⊢ ((rOut y.2 (peer (near y.1) c)).view.loc (c : Thread nD τ)
      ↦[(rOut y.2 (peer (near y.1) c)).view.set]{fullShare} landed m c y.2 : sProp 𝕄) from Entails.refl _) $$ Hp
  unfold rowPts
  iapply ((plan m).send_step (c := c) (c' := peer 0 c) (j := jSend (.inr y)) (j' := jRecv (.inr y)) (src := rOut y.2 (peer (near y.1) c)) (dst := rOut y.2 (peer (near y.1) c))
    (sS := .dma (sendS y.2 (far y.1))) (sem := .dma (recvS y.2 (far y.1))) (q := fullShare) (fs := landed m c y.2) (fd := outB m (peer 0 c) y.2)
    rfl rfl (N_out y.2 _ _) rfl (O₀ := fwds m c (y :: l)) (fwds m c l)
    (by unfold fwds; rw [List.map_cons, List.sum_cons, add_comm]; rfl) (W := W') (Entails.refl _)
    (lands_at m c (.inr y) _ (read_landed m c (peer (near y.1) c) y.2)) (by routes)) $$ [Hp' Ho Ht Ht' HO] [-]
  · isplitr; · iexact HK
    isplitl [Hp']; · iexact Hp'
    isplitl [Ho]; · iexact Ho
    isplitl [Ht]; · iexact Ht
    isplitl [Ht']; · iexact Ht'
    iexact HO
  · iintro ⟨Hc, HO⟩
    iapply Hk
    isplitl [Hd Hc]
    · isplitl [Hd]; · iexact Hd
      iexact Hc
    iexists W'
    iexact HO

end Cert.Spread

end
-- ==== Proof.GatherWalk.lean ====
/-
# One device's run through the gather

`start` is what a device has when its body begins, `final` what it has when the body ends: its operands as they were, its
results gathered, its semaphores' counters at zero. `body_walk` takes the one to the other, list of operations by list of
operations.
-/
module

public import proofs.«01_k».proof.Proof.GatherSched
public import proofs.«01_k».proof.Proof.Gen.GatherIdeal.Launch

@[expose] public section

noncomputable section

namespace Cert.Spread

open Cert.GatherIdeal Cert.GatherIdeal.Gen Cert.Rowed
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Once (Plan)
open Cert.Once.Plan (𝒱₀ chain_step)

variable {F : FTy → Type} [FloatOps F]

local notation "𝕄" => MT nD τ sig Unit (Elt F) ℕ (UR sig nD τ × UR sig nD τ) ℕ

variable (m : (ℓ : Loc nD τ sig) → Buf (Elt F) ℓ)

/-- What a device has when its body begins, its debt apart. -/
def start (c : Dev nD) : sProp 𝕄 :=
  iprop(((plan m).Known ∗ Levels) ∗ (bigSep Finset.univ (locA m c)) ∗ (bigSep Finset.univ fun x : Fin 4 × Fin 6 => opPts m x.2 c (part x.1))
    ∗ (bigSep Finset.univ (dst m c)) ∗ (bigSep Finset.univ fun x => waitA m c (jRecv x))
    ∗ (bigSep Finset.univ fun x => (plan m).wait c (jSend x)) ∗ bigSep Finset.univ fun a => (plan m).wait c (jLoc a))

/-- What it owes when its body begins. -/
def dues (c : Dev nD) : CellTallies nD τ sig Unit := (fours.map fun x => due m c (.inl x)).sum + fwds m c threes

/-- Device `c`'s result `a`, whole, at contents. -/
def wholePts (a : Fin 6) (c : Dev nD) (f : Buf (Elt F) ((outM a).view.loc (c : Thread nD τ))) : sProp 𝕄 :=
  (outM a).view.loc (c : Thread nD τ) ↦[(outM a).view.set]{fullShare} f

/-- The operands as they were and the results gathered. -/
def arrays (c : Dev nD) : sProp 𝕄 :=
  bigSep Finset.univ fun a : Fin 6 => iprop(opPts m a c fullShare ∗ wholePts a c (landed m c a))

/-- What a device has when its body ends. -/
def final (c : Dev nD) : sProp 𝕄 := iprop(arrays m c ∗ bigSep Finset.univ fun j => semVal ((plan m).cell (c, j)) 0)

/-- The copies are the pairs of a number and an array. -/
def copies : K ≃ Fin 7 × Fin 6 := Equiv.ofBijective (fun x => (num x, ar x))
  ⟨fun x y h => num_ar_inj (congrArg Prod.fst h) (congrArg Prod.snd h), fun y => by
    obtain ⟨x, h, h'⟩ := num_ar_surj y.1 y.2
    exact ⟨x, Prod.ext h h'⟩⟩

/-- A family over the copies, array by array. -/
theorem by_array (Φ : Fin 7 → Fin 6 → sProp 𝕄) :
    (bigSep Finset.univ fun x : K => Φ (num x) (ar x)) = bigSep Finset.univ fun a : Fin 6 => bigSep Finset.univ fun k : Fin 7 => Φ k a :=
  (BI.bigSep_univ_equiv copies fun y : Fin 7 × Fin 6 => Φ y.1 y.2).symm.trans (prod_swap Φ)

/-- The rows received, the shares of the operands and the copies on the device are the arrays. -/
theorem pays_arrays (c : Dev nD) :
    iprop((bigSep Finset.univ fun x => (plan m).pay c (jRecv x)) ∗ (bigSep Finset.univ fun x : Fin 4 × Fin 6 => (plan m).pay c (jSend (.inl x)))
        ∗ bigSep Finset.univ fun a => (plan m).pay c (jLoc a))
      ⊢ (arrays m c : sProp 𝕄) := by
  have h1 : (bigSep Finset.univ fun x => (plan m).pay c (jRecv x))
      = bigSep Finset.univ fun a : Fin 6 => bigSep Finset.univ fun k : Fin 7 => rowPts a (outM a) c (peer k c) (landed m c a) :=
    by_array fun k a => rowPts a (outM a) c (peer k c) (landed m c a)
  have h2 : (bigSep Finset.univ fun x : Fin 4 × Fin 6 => (plan m).pay c (jSend (.inl x)))
      = bigSep Finset.univ fun a : Fin 6 => bigSep Finset.univ fun k : Fin 4 => opPts m a c (part k) :=
    prod_swap fun k a => opPts m a c (part k)
  rw [h1, h2, ← bigSep_sep', ← bigSep_sep']
  refine bigSep_mono fun a _ => ?_
  unfold wholePts
  rw [whole_rows a (outM a) c, rows_peers c]
  show iprop(_ ∗ _ ∗ (rowPts a (outM a) c c (landed m c a) ∗ opPts m a c own)) ⊢ _
  iintro ⟨Ho, Hi, Ho', Hi'⟩
  isplitl [Hi Hi']
  · iapply (op_shares m a c).2
    isplitl [Hi'] <;> iassumption
  · isplitl [Ho'] <;> iassumption

/-- The waits done, the counters are at zero. -/
theorem dones_close (c : Dev nD) :
    iprop((plan m).Known ∗ (bigSep Finset.univ fun x => (plan m).done c (jRecv x)) ∗ (bigSep Finset.univ fun x => (plan m).done c (jSend x))
        ∗ bigSep Finset.univ fun a => (plan m).done c (jLoc a))
      ⊢ (|={Set.univ}=> bigSep Finset.univ fun j => semVal ((plan m).cell (c, j)) 0 : sProp 𝕄) := by
  refine BIBase.Entails.trans ?_ ((plan m).close c)
  rw [by_kind]
  iintro ⟨HK, Hr, Hs, Hl⟩
  isplitl [HK]; · iexact HK
  isplitl [Hs]; · iexact Hs
  isplitl [Hr] <;> iassumption

/-- Two families as one, over a list. -/
theorem zip_list {I : Type} (l : List I) (Φ Ψ : I → sProp 𝕄) : iprop(bigSepL l Φ ∗ bigSepL l Ψ) = bigSepL l fun i => iprop(Φ i ∗ Ψ i) := by
  induction l with
  | nil => rw [bigSepL_nil, bigSepL_nil, bigSepL_nil]; exact BI.Entails.antisymm sep_emp.1 sep_emp.2
  | cons i l ih =>
    rw [bigSepL_cons', bigSepL_cons', bigSepL_cons', ← ih]
    have h1 : iprop((Φ i ∗ bigSepL l Φ) ∗ Ψ i ∗ bigSepL l Ψ) ⊢ iprop((Φ i ∗ Ψ i) ∗ bigSepL l Φ ∗ bigSepL l Ψ) := by
      iintro ⟨⟨H, Hs⟩, G, Gs⟩
      isplitl [H G]
      · isplitl [H] <;> iassumption
      isplitl [Hs] <;> iassumption
    have h2 : iprop((Φ i ∗ Ψ i) ∗ bigSepL l Φ ∗ bigSepL l Ψ) ⊢ iprop((Φ i ∗ bigSepL l Φ) ∗ Ψ i ∗ bigSepL l Ψ) := by
      iintro ⟨⟨H, G⟩, Hs, Gs⟩
      isplitl [H Hs]
      · isplitl [H] <;> iassumption
      isplitl [G] <;> iassumption
    exact BI.Entails.antisymm h1 h2

/-- A family over the copies: the first ones, and the forwarding ones. -/
theorem by_copy (Φ : K → sProp 𝕄) : bigSep Finset.univ Φ = iprop((bigSepL fours fun x => Φ (.inl x)) ∗ bigSepL threes fun y => Φ (.inr y)) := by
  rw [← all_fours, ← all_threes, BI.bigSep_univ_sum]; rfl

/-- What a list of waits brings, apart. -/
theorem waits_split {I : Type} (c : Dev nD) (l : List I) (f : I → J) : (bigSepL l (fun i => waitB m c (f i)) : sProp 𝕄)
    ⊢ iprop((bigSepL l fun i => (plan m).pay c (f i)) ∗ bigSepL l fun i => (plan m).done c (f i)) :=
  Entails.of_eq (zip_list l (fun i => (plan m).pay c (f i)) fun i => (plan m).done c (f i)).symm

/-! ## The seven lists -/

theorem late_step (c : Dev nD) (x : Fin 4 × Fin 6) (k : PUnit → Prog (E F) PUnit) {Q : PUnit → sProp (MT nD τ sig Unit (Elt F) ℕ (UR sig nD τ × UR sig nD τ) ℕ)} :
    iprop((plan m).Known ∗ waitA m c (jRecv (lateK x)) ∗ free c) ⊢ iprop(((waitB m c (jRecv (lateK x)) ∗ free c) -∗ wp frame (wpE defs₀ 𝒱₀ (c : Thread nD τ) none) Set.univ (k ⟨⟩) Q)
      -∗ wp frame (wpE defs₀ 𝒱₀ (c : Thread nD τ) none) Set.univ (lateOp c x.1 x.2 >>= k) Q) := by
  unfold lateOp
  exact wait_step m c (jRecv (lateK x)) (src := row x.2 (outM x.2) (offL c x.1 x.2) (inb_L c x.1 x.2)) (dst := row x.2 (outM x.2) (offL c x.1 x.2) (inb_L c x.1 x.2))
    (recvS x.2 (late x.1)) (by show recvS (ar (lateK x)) (num (lateK x)) = _; rw [ar_late, num_late])
    ((N_out x.2 (offL c x.1 x.2) (inb_L c x.1 x.2)).trans (by show _ = N (ar (lateK x)); rw [ar_late])) k

theorem sent_step (c : Dev nD) (x : Fin 4 × Fin 6) (k : PUnit → Prog (E F) PUnit) {Q : PUnit → sProp (MT nD τ sig Unit (Elt F) ℕ (UR sig nD τ × UR sig nD τ) ℕ)} :
    iprop((plan m).Known ∗ waitA m c (jSend (.inl x)) ∗ free c) ⊢ iprop(((waitB m c (jSend (.inl x)) ∗ free c) -∗ wp frame (wpE defs₀ 𝒱₀ (c : Thread nD τ) none) Set.univ (k ⟨⟩) Q)
      -∗ wp frame (wpE defs₀ 𝒱₀ (c : Thread nD τ) none) Set.univ (sentOp c x.1 x.2 >>= k) Q) := by
  unfold sentOp
  exact wait_step m c (jSend (.inl x)) (src := row x.2 (outM x.2) (offM c x.2) (inb_M c x.2)) (dst := inM x.2) (sendS x.2 (fst x.1)) rfl (N_in x.2) k

theorem passed_step (c : Dev nD) (y : Fin 3 × Fin 6) (k : PUnit → Prog (E F) PUnit) {Q : PUnit → sProp (MT nD τ sig Unit (Elt F) ℕ (UR sig nD τ × UR sig nD τ) ℕ)} :
    iprop((plan m).Known ∗ waitA m c (jSend (.inr y)) ∗ free c) ⊢ iprop(((waitB m c (jSend (.inr y)) ∗ free c) -∗ wp frame (wpE defs₀ 𝒱₀ (c : Thread nD τ) none) Set.univ (k ⟨⟩) Q)
      -∗ wp frame (wpE defs₀ 𝒱₀ (c : Thread nD τ) none) Set.univ (passedOp c y.1 y.2 >>= k) Q) := by
  unfold passedOp
  exact wait_step m c (jSend (.inr y)) (src := row y.2 (outM y.2) (offN c y.1 y.2) (inb_N c y.1 y.2)) (dst := row y.2 (outM y.2) (offN c y.1 y.2) (inb_N c y.1 y.2))
    (sendS y.2 (far y.1)) rfl (N_out y.2 (offN c y.1 y.2) (inb_N c y.1 y.2)) k

theorem local_phase (c : Dev nD) (l : List (Fin 6)) (rest : List (Prog (E F) PUnit)) (Q : PUnit → sProp 𝕄) :
    iprop((plan m).Known ∗ bigSepL l (locA m c) ∗ emp)
      ⊢ iprop(((bigSepL l (locB m c) ∗ emp) -∗ wp frame (wpE defs₀ 𝒱₀ (c : Thread nD τ) none) Set.univ (Pipeline.chain rest) Q)
        -∗ wp frame (wpE defs₀ 𝒱₀ (c : Thread nD τ) none) Set.univ (Pipeline.chain (l.map (localOp c) ++ rest)) Q) := by
  refine chain_step (ι := Fin 6) (defs := defs₀) c (plan m).Known (localOp c) (locA m c) (locB m c) (fun _ => iprop(emp)) rest Q ?_ l
  intro x l k
  exact local_step m c x k

theorem first_phase (c : Dev nD) (l : List (Fin 4 × Fin 6)) (rest : List (Prog (E F) PUnit)) (Q : PUnit → sProp 𝕄) :
    iprop((plan m).Known ∗ bigSepL l (firstA m c) ∗ firstI m c l)
      ⊢ iprop(((bigSepL l (fun x => sendB m c (.inl x)) ∗ firstI m c []) -∗ wp frame (wpE defs₀ 𝒱₀ (c : Thread nD τ) none) Set.univ (Pipeline.chain rest) Q)
        -∗ wp frame (wpE defs₀ 𝒱₀ (c : Thread nD τ) none) Set.univ (Pipeline.chain (l.map (fun x => firstOp c x.1 x.2) ++ rest)) Q) := by
  refine chain_step (ι := Fin 4 × Fin 6) (defs := defs₀) c (plan m).Known (fun x => firstOp c x.1 x.2) (firstA m c) (fun x => sendB m c (.inl x)) (firstI m c) rest Q ?_ l
  intro x l k
  exact first_step m c x l k

theorem pass_phase (c : Dev nD) (l : List (Fin 3 × Fin 6)) (rest : List (Prog (E F) PUnit)) (Q : PUnit → sProp 𝕄) :
    iprop(((plan m).Known ∗ Levels) ∗ bigSepL l (passA m c) ∗ passI m c l)
      ⊢ iprop(((bigSepL l (passB m c) ∗ passI m c []) -∗ wp frame (wpE defs₀ 𝒱₀ (c : Thread nD τ) none) Set.univ (Pipeline.chain rest) Q)
        -∗ wp frame (wpE defs₀ 𝒱₀ (c : Thread nD τ) none) Set.univ (Pipeline.chain (l.map (passOp c) ++ rest)) Q) := by
  refine chain_step (ι := Fin 3 × Fin 6) (defs := defs₀) c iprop(((plan m).Known ∗ Levels)) (passOp c) (passA m c) (passB m c) (passI m c) rest Q ?_ l
  intro x l k
  exact pass_step m c x l k

theorem late_phase (c : Dev nD) (l : List (Fin 4 × Fin 6)) (rest : List (Prog (E F) PUnit)) (Q : PUnit → sProp 𝕄) :
    iprop((plan m).Known ∗ bigSepL l (fun x => waitA m c (jRecv (lateK x))) ∗ free c)
      ⊢ iprop(((bigSepL l (fun x => waitB m c (jRecv (lateK x))) ∗ free c) -∗ wp frame (wpE defs₀ 𝒱₀ (c : Thread nD τ) none) Set.univ (Pipeline.chain rest) Q)
        -∗ wp frame (wpE defs₀ 𝒱₀ (c : Thread nD τ) none) Set.univ (Pipeline.chain (l.map (fun x => lateOp c x.1 x.2) ++ rest)) Q) := by
  refine chain_step (ι := Fin 4 × Fin 6) (defs := defs₀) c (plan m).Known (fun x => lateOp c x.1 x.2) (fun x => waitA m c (jRecv (lateK x))) (fun x => waitB m c (jRecv (lateK x))) (fun _ => free c) rest Q ?_ l
  intro x l k
  exact late_step m c x k

theorem sent_phase (c : Dev nD) (l : List (Fin 4 × Fin 6)) (rest : List (Prog (E F) PUnit)) (Q : PUnit → sProp 𝕄) :
    iprop((plan m).Known ∗ bigSepL l (fun x => waitA m c (jSend (.inl x))) ∗ free c)
      ⊢ iprop(((bigSepL l (fun x => waitB m c (jSend (.inl x))) ∗ free c) -∗ wp frame (wpE defs₀ 𝒱₀ (c : Thread nD τ) none) Set.univ (Pipeline.chain rest) Q)
        -∗ wp frame (wpE defs₀ 𝒱₀ (c : Thread nD τ) none) Set.univ (Pipeline.chain (l.map (fun x => sentOp c x.1 x.2) ++ rest)) Q) := by
  refine chain_step (ι := Fin 4 × Fin 6) (defs := defs₀) c (plan m).Known (fun x => sentOp c x.1 x.2) (fun x => waitA m c (jSend (.inl x))) (fun x => waitB m c (jSend (.inl x))) (fun _ => free c) rest Q ?_ l
  intro x l k
  exact sent_step m c x k

theorem passed_phase (c : Dev nD) (l : List (Fin 3 × Fin 6)) (rest : List (Prog (E F) PUnit)) (Q : PUnit → sProp 𝕄) :
    iprop((plan m).Known ∗ bigSepL l (fun x => waitA m c (jSend (.inr x))) ∗ free c)
      ⊢ iprop(((bigSepL l (fun x => waitB m c (jSend (.inr x))) ∗ free c) -∗ wp frame (wpE defs₀ 𝒱₀ (c : Thread nD τ) none) Set.univ (Pipeline.chain rest) Q)
        -∗ wp frame (wpE defs₀ 𝒱₀ (c : Thread nD τ) none) Set.univ (Pipeline.chain (l.map (fun x => passedOp c x.1 x.2) ++ rest)) Q) := by
  refine chain_step (ι := Fin 3 × Fin 6) (defs := defs₀) c (plan m).Known (fun x => passedOp c x.1 x.2) (fun x => waitA m c (jSend (.inr x))) (fun x => waitB m c (jSend (.inr x))) (fun _ => free c) rest Q ?_ l
  intro x l k
  exact passed_step m c x k

theorem kept_phase (c : Dev nD) (l : List (Fin 6)) (rest : List (Prog (E F) PUnit)) (Q : PUnit → sProp 𝕄) :
    iprop((plan m).Known ∗ bigSepL l (fun a => waitA m c (jLoc a)) ∗ free c)
      ⊢ iprop(((bigSepL l (fun a => waitB m c (jLoc a)) ∗ free c) -∗ wp frame (wpE defs₀ 𝒱₀ (c : Thread nD τ) none) Set.univ (Pipeline.chain rest) Q)
        -∗ wp frame (wpE defs₀ 𝒱₀ (c : Thread nD τ) none) Set.univ (Pipeline.chain (l.map (keptOp c) ++ rest)) Q) := by
  refine chain_step (ι := Fin 6) (defs := defs₀) c (plan m).Known (keptOp c) (fun a => waitA m c (jLoc a)) (fun a => waitB m c (jLoc a)) (fun _ => free c) rest Q ?_ l
  intro x l k
  exact wait_step m c (jLoc x) (locS x) rfl (N_out x _ _) k

/-- The body, from `start` to `final`. -/
theorem body_walk (c : Dev nD) (t : Fin cfg0.N) (W : Waits sig Unit) (Q : PUnit → sProp 𝕄) :
    iprop(start m c ∗ owes (c : Thread nD τ) (dues m c) W)
      ⊢ iprop(((final m c ∗ free c) -∗ Q ⟨⟩) -∗ wp frame (wpE defs₀ 𝒱₀ (c : Thread nD τ) none) Set.univ (bodyAt0 (F := F) t) Q) := by
  rw [body_eq]
  simp only [Prog.lift, Prog.bind_op, Prog.bind_ret, Prog.pure_eq_ret, wp_deviceId]
  unfold start ops dues
  rw [all_six (locA m c), by_copy (dst m c), all_near_late (fun x => waitA m c (jRecv x)),
    by_copy (fun x => (plan m).wait c (jSend x))]
  rw [all_fours fun x : Fin 4 × Fin 6 => opPts m x.2 c (part x.1)]
  iintro ⟨⟨⟨#HK, #HL⟩, Hla, Hop, ⟨Hdf, Hdp⟩, ⟨Hwn, Hwl⟩, ⟨Hsf, Hsp⟩, Hlw⟩, HO⟩ HQ
  -- the copies on the device
  iapply (local_phase m c six _ Q) $$ [Hla] [-]
  · isplitr; · iexact HK
    isplitl [Hla]; · iexact Hla
    iempintro
  iintro ⟨Hlb, -⟩
  -- the first copies
  ihave Hfa := (Entails.of_eq (zip_list fours (fun x => opPts m x.2 c (part x.1)) fun x => dst m c (.inl x))) $$ [Hop Hdf]
  · isplitl [Hop] <;> iassumption
  iapply (first_phase m c fours _ Q) $$ [Hfa HO] [-]
  · isplitr; · iexact HK
    isplitl [Hfa]; · iexact Hfa
    unfold firstI
    iexists W
    iexact HO
  iintro ⟨Hfb, HO⟩
  ihave HO := (show firstI m c [] ⊢ (passI m c threes : sProp 𝕄) by
    unfold firstI passI; rw [List.map_nil, List.sum_nil, zero_add]) $$ HO
  -- the chips' rows, received and forwarded
  ihave Hpa := (Entails.of_eq (zip_list threes (fun y => waitA m c (jRecv (nearK y))) fun y => dst m c (.inr y))) $$ [Hwn Hdp]
  · isplitl [Hwn] <;> iassumption
  iapply (pass_phase m c threes _ Q) $$ [Hpa HO] [-]
  · isplitr
    · isplitr; · iexact HK
      iexact HL
    isplitl [Hpa]; · iexact Hpa
    iexact HO
  iintro ⟨Hpb, HO⟩
  ihave Hpb' := (show bigSepL threes (passB m c) ⊢ (iprop((bigSepL threes fun y => (plan m).done c (jRecv (nearK y))) ∗ bigSepL threes fun y => sendB m c (.inr y)) : sProp 𝕄)
    from Entails.of_eq (zip_list threes (fun y => (plan m).done c (jRecv (nearK y))) fun y => sendB m c (.inr y)).symm) $$ Hpb
  icases Hpb' with ⟨Hnd, Hpb⟩
  ihave Hf := (show passI m c [] ⊢ (free c : sProp 𝕄) from Entails.refl _) $$ HO
  -- the waits for the other rows
  iapply (late_phase m c fours _ Q) $$ [Hwl Hf] [-]
  · isplitr; · iexact HK
    isplitl [Hwl]; · iexact Hwl
    iexact Hf
  iintro ⟨Hlt, Hf⟩
  ihave Hlt' := (waits_split m c fours fun x => jRecv (lateK x)) $$ Hlt
  icases Hlt' with ⟨Hlp, Hld⟩
  -- the waits for the copies to have left
  ihave Hsa := (Entails.of_eq (zip_list fours (fun x => sendB m c (.inl x)) fun x => (plan m).wait c (jSend (.inl x)))) $$ [Hfb Hsf]
  · isplitl [Hfb] <;> iassumption
  iapply (sent_phase m c fours _ Q) $$ [Hsa Hf] [-]
  · isplitr; · iexact HK
    isplitl [Hsa]; · iexact Hsa
    iexact Hf
  iintro ⟨Hsb, Hf⟩
  ihave Hsb' := (waits_split m c fours fun x => jSend (.inl x)) $$ Hsb
  icases Hsb' with ⟨Hfp, Hfd⟩
  ihave Hpa := (Entails.of_eq (zip_list threes (fun y => sendB m c (.inr y)) fun y => (plan m).wait c (jSend (.inr y)))) $$ [Hpb Hsp]
  · isplitl [Hpb] <;> iassumption
  iapply (passed_phase m c threes _ Q) $$ [Hpa Hf] [-]
  · isplitr; · iexact HK
    isplitl [Hpa]; · iexact Hpa
    iexact Hf
  iintro ⟨Hpb, Hf⟩
  ihave Hpb' := (waits_split m c threes fun y => jSend (.inr y)) $$ Hpb
  icases Hpb' with ⟨Hpp, Hpd⟩
  -- the waits for the copies on the device
  ihave Hla := (Entails.of_eq (zip_list six (locB m c) fun a => (plan m).wait c (jLoc a))) $$ [Hlb Hlw]
  · isplitl [Hlb]; · iexact Hlb
    iapply (Entails.of_eq (all_six fun a => (plan m).wait c (jLoc a))); iexact Hlw
  rw [← List.append_nil (six.map (keptOp c))]
  iapply (kept_phase m c six [] Q) $$ [Hla Hf] [-]
  · isplitr; · iexact HK
    isplitl [Hla]; · iexact Hla
    iexact Hf
  iintro ⟨Hkb, Hf⟩
  ihave Hkb' := (waits_split m c six fun a => jLoc a) $$ Hkb
  icases Hkb' with ⟨Hkp, Hkd⟩
  -- the end
  imod (dones_close m c) $$ [Hnd Hld Hfd Hpd Hkd] with Hz
  · rw [all_near_late (fun x => (plan m).done c (jRecv x)), by_copy (fun x => (plan m).done c (jSend x)), all_six]
    isplitr; · iexact HK
    isplitl [Hnd Hld]
    · isplitl [Hnd]; · iexact Hnd
      iexact Hld
    isplitl [Hfd Hpd]
    · isplitl [Hfd]; · iexact Hfd
      iexact Hpd
    iexact Hkd
  ihave Harr := (pays_arrays m c) $$ [Hlp Hfp Hpp Hkp]
  · rw [all_near_late (fun x => (plan m).pay c (jRecv x)), all_fours, all_six]
    isplitl [Hpp Hlp]
    · isplitl [Hpp]; · iexact Hpp
      iexact Hlp
    isplitl [Hfp]; · iexact Hfp
    iexact Hkp
  rw [show Pipeline.chain ([] : List (Prog (E F) PUnit)) = .ret ⟨⟩ from rfl, wp_ret]
  imodintro
  iapply HQ
  unfold final
  isplitl [Harr Hz]
  · isplitl [Harr] <;> iassumption
  iexact Hf

end Cert.Spread

end
-- ==== Proof.GatherRun.lean ====
/-
# One device's run of the gather's @main

As for the exchange, the pallas_call has no window and no grid, so that the pipeline library's region around the body is
empty and the body's own run is the call's. `main_run` is @main on one device, from what it is dealt to its arrays.
-/
module

public import proofs.«01_k».proof.Proof.GatherWalk

@[expose] public section

noncomputable section

namespace Cert.Spread

open Cert.GatherIdeal Cert.GatherIdeal.Gen Cert.Rowed
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Once (Plan)
open Cert.Once.Plan (𝒱₀)

variable {F : FTy → Type} [FloatOps F]

local notation "𝕄" => MT nD τ sig Unit (Elt F) ℕ (UR sig nD τ × UR sig nD τ) ℕ

variable (m : (ℓ : Loc nD τ sig) → Buf (Elt F) ℓ)

/-- The call's proof data: before the body `start` and its debt, after it `final` and none. -/
def dats (_ : Fin 1) (c : Dev nD) : Dat τ (Elt F) Unit ℕ (UR sig nD τ × UR sig nD τ) ℕ cfg0 c where
  A w := w.elim0
  after w _ := w.elim0
  Φ t := match t with
    | ⟨0, _⟩ => start m c
    | ⟨_ + 1, _⟩ => final m c
  q _ := fullShare
  owed t := match t with
    | ⟨0, _⟩ => dues m c
    | ⟨_ + 1, _⟩ => 0

theorem no_window (Φ : Fin cfg0.W → sProp 𝕄) : bigSep Finset.univ Φ = iprop(emp) := by
  rw [show (Finset.univ : Finset (Fin cfg0.W)) = ∅ from rfl, BI.bigSep_empty]; rfl

theorem body_at (t : Fin cfg0.N) : (defs₀ (F := F)) .tc cfg0.body (cfg0.bodyArgs t (cfg0.slots t)) = bodyAt0 t := rfl

theorem body_obligation (c : Dev nD) : BodyObligation (dats (F := F) m 0 c) (defs₀ (F := F)) 𝒱₀ () Set.univ := fun t => by
  rw [fin_N0 t, no_window, no_window, body_at]
  generalize hb : bodyAt0 (F := F) t0_0 = b
  show iprop(start m c ∗ (dats m 0 c).owesAt () t0_0.castSucc ∗ emp) ⊢ wp frame (wpE (defs₀ (F := F)) 𝒱₀ (c : Thread nD τ) none) Set.univ
    b (fun _ => iprop(final m c ∗ (dats m 0 c).owesAt () t0_0.succ ∗ emp))
  subst hb
  unfold Dat.owesAt Pipeline.owesWithin
  rw [show (dats m 0 c).owed t0_0.castSucc = dues m c from rfl, show (dats m 0 c).owed t0_0.succ = 0 from rfl]
  iintro ⟨Hs, ⟨%W, -, HO⟩, -⟩
  iapply (body_walk m c t0_0 W fun _ => _) $$ [Hs HO] []
  · isplitl [Hs] <;> iassumption
  · iintro ⟨Hf, Ho⟩
    isplitl [Hf]; · iexact Hf
    isplitl [Ho]
    · unfold free
      icases Ho with ⟨%W', Ho⟩
      iexists W'
      isplitr
      · ipureintro; exact fun _ _ => Or.inl trivial
      iexact Ho
    iempintro

/-- A device's scoped counters are the plan's cells. -/
theorem sems_cells (c : Dev nD) : (scopedSems0 (c.tc : Thread nD τ) : sProp 𝕄) = bigSep Finset.univ fun j => semVal ((plan m).cell (c, j)) 0 := by
  have hset : (Finset.univ.filter fun sm : SemLoc sig => sm.isScoped .tc) = Finset.univ.map ⟨(plan m).sem, (plan m).inj⟩ := by
    ext sm
    simp only [Finset.mem_filter, Finset.mem_univ, true_and, Finset.mem_map, Function.Embedding.coeFn_mk]
    constructor
    · intro h
      rcases sm with s | s
      · exact absurd h (by revert s; decide)
      · obtain ⟨j, hj⟩ := semD_surj s
        exact ⟨j, congrArg SemLoc.dma hj⟩
    · rintro ⟨j, rfl⟩
      show (SemLoc.dma (semD j) : SemLoc sig).isScoped .tc = true
      generalize semD j = s
      revert s; decide
  rw [show (scopedSems0 (c.tc : Thread nD τ) : sProp 𝕄) = _ from scopedSems0_tc c, hset, BI.bigSep_map]
  rfl

/-- @main on one device. -/
theorem main_run (c : Dev nD) :
    iprop(start m c ∗ owes (c.tc : Thread nD τ) (dues m c) ∅ ∗ scopedBufs (c.tc : Thread nD τ) ∗ opIdle (c.tc : Thread nD τ))
      ⊢ wp frame (wpE (defs (F := F)) (Variants.lift 𝒱₀) (c.tc : Thread nD τ) none) Set.univ (main c)
          fun _ => iprop((arrays m c ∗ boundary (c.tc : Thread nD τ)) ∗ ∃ W, owes (c.tc : Thread nD τ) (0 : CellTallies nD τ sig Unit) W) := by
  have hsb := Pipeline.scopedBufs_split (nD := nD) (τ := τ) (Ix := Unit) (Val := Elt F) (Name := ℕ) (U := UR sig nD τ × UR sig nD τ) (Lvl := ℕ)
    cfgs 0 winFacts0.stage_scoped winFacts0.stage_inj stage_whole0 c
  have hemp : (Pipeline.cellsSems0 cfgs 0 c : sProp 𝕄) = iprop(emp) := no_window _
  have hin : iprop(start m c ∗ Pipeline.prefHeld (pcfgs (F := F) 0).pre c (fun _ => fullShare) ((cfgs 0).toPCfg_adm (Val := Elt F)).1 ∗ emp) ⊢ (dats m 0 c).Φ 0 := by
    rw [show (dats m 0 c).Φ 0 = start m c from rfl]
    iintro ⟨H, -, -⟩
    iexact H
  have hout : iprop((dats m 0 c).Φ (Fin.last cfg0.N) ∗ Pipeline.cellsSems0 cfgs 0 c ∗ Dat.staging cfg0 c ∗ emp)
      ⊢ iprop(arrays m c ∗ scopedSems0 (c.tc : Thread nD τ) ∗ scopedBufs (c.tc : Thread nD τ)) := by
    rw [show (dats m 0 c).Φ (Fin.last cfg0.N) = final m c from rfl, hsb, scopedRest0_eq, sems_cells m c]
    unfold final
    iintro ⟨⟨Ha, Hz⟩, -, Hst, -⟩
    isplitl [Ha]; · iexact Ha
    isplitl [Hz]; · iexact Hz
    isplitl [Hst]; · iexact Hst
    iempintro
  have hpref : (iprop(emp) : sProp 𝕄) ⊢ Pipeline.prefHeld (pcfgs (F := F) 0).pre c (fun _ => fullShare) ((cfgs 0).toPCfg_adm (Val := Elt F)).1 := by
    unfold Pipeline.prefHeld
    rw [show (Finset.univ : Finset (Fin (pcfgs (F := F) 0).pre.K)) = ∅ from rfl, BI.bigSep_empty]
    exact Entails.refl _
  have hpre : owes (c.tc : Thread nD τ) (dues m c) ∅ ⊢ Pipeline.EntryPre (Pipeline.pin (pcfgs (F := F)) fun p => (cfgs p).toPCfg_adm) (dats m) ()
      (Cert.Once.EP nD τ sig (Elt F)) (fun _ => 0) 0 c := by
    show _ ⊢ iprop((dats m 0 c).arrays ((dats m 0 c).arrAt · 0) ∗ (dats m 0 c).owesAt () 0 ∗ _)
    unfold Dat.owesAt Pipeline.owesWithin
    rw [show (dats m 0 c).owed 0 = dues m c from rfl]
    iintro HO
    isplitr
    · iapply (show iprop(emp) ⊢ (dats m 0 c).arrays ((dats m 0 c).arrAt · 0) by
        unfold Dat.arrays; exact Entails.of_eq (no_window _).symm)
      iempintro
    isplitl [HO]
    · iexists ∅
      isplitr; · ipureintro; rw [Finset.coe_empty]; exact Set.empty_subset _
      iexact HO
    isplitr
    · iapply (show iprop(emp) ⊢ Pipeline.PerCore.cellsWaits (fun _ => Pipeline.pin (pcfgs (F := F)) fun p => (cfgs p).toPCfg_adm) (dats m) () 0 c by
        exact Entails.of_eq (no_window _).symm)
      iempintro
    isplitr
    · iapply (show iprop(emp) ⊢ Pipeline.PerCore.cellsInit (fun _ => Pipeline.pin (pcfgs (F := F)) fun p => (cfgs p).toPCfg_adm) (dats m) (Cert.Once.EP nD τ sig (Elt F)) (fun _ => 0) 0 c by
        exact Entails.of_eq (no_window _).symm)
      iempintro
    iapply (show iprop(emp) ⊢ Pipeline.PerCore.toksInit (fun _ => Pipeline.pin (pcfgs (F := F)) fun p => (cfgs p).toPCfg_adm) (Cert.Once.EP nD τ sig (Elt F)) 0 c by
        exact Entails.of_eq (no_window _).symm)
    iempintro
  have hpost : Pipeline.EntryPost (Pipeline.pin (pcfgs (F := F)) fun p => (cfgs p).toPCfg_adm) (dats m) () 0 c
      ⊢ iprop(∃ W, owes (c.tc : Thread nD τ) (0 : CellTallies nD τ sig Unit) W) := by
    show iprop(_ ∗ (dats m 0 c).owesAt () (Fin.last cfg0.N)) ⊢ _
    unfold Dat.owesAt Pipeline.owesWithin
    rw [show (dats m 0 c).owed (Fin.last cfg0.N) = 0 from rfl]
    iintro ⟨-, ⟨%W, -, HO⟩⟩
    iexists W
    iexact HO
  have H := Pipeline.wp_customCall_entry_frame (pcfgs (F := F)) (fun p => (cfgs p).toPCfg_adm) (dats m) () (Cert.Once.EP nD τ sig (Elt F)) (fun _ => 0) cellOf_inj 0 defs₀ 𝒱₀ (fun _ => fullShare)
    c Set.univ (fun _ _ => Set.mem_univ _) (body_obligation m c).loose block_pos0 none (fun u h => nomatch h)
    (X := start m c) (Y := arrays m c) (R := iprop(emp)) (I := iprop(emp))
    (by rw [hsb, scopedRest0_eq]; exact Entails.refl _) hin hout (α := PUnit) (k := fun _ => .ret PUnit.unit)
    (Q := fun _ => iprop((arrays m c ∗ boundary (c.tc : Thread nD τ)) ∗ ∃ W, owes (c.tc : Thread nD τ) (0 : CellTallies nD τ sig Unit) W))
  rw [show main (F := F) c = .op (.customCall (Pipeline.entry 0) ()) fun _ => .ret PUnit.unit from rfl]
  iintro ⟨Hs, HO, Hb, Hi⟩
  iapply H $$ [Hs HO Hb] [Hi]
  · isplitl [HO]
    · iapply hpre
      iexact HO
    isplitr
    · iapply hpref
      iempintro
    isplitl [Hs]; · iexact Hs
    isplitr; · iempintro
    iexact Hb
  · iintro ⟨Hp, Ha, Hz, Hb⟩
    rw [wp_ret]
    imodintro
    isplitr [Hp]
    · isplitl [Ha]; · iexact Ha
      unfold boundary
      isplitl [Hb]; · iexact Hb
      isplitl [Hz] <;> iassumption
    · iapply hpost
      iexact Hp

end Cert.Spread

end
-- ==== Proof.GatherDeal.lean ====
/-
# The launch of the gather

Before any device has run, each device's operands are cut into shares, its results into rows, and its semaphores' cells go
on record. A device is dealt its operands' shares, the row of its own result that it copies itself, and for each copy the
row that it will fill, of the peer's result or of the sibling's, with the right to credit the semaphore there. `run_main`
is the whole machine's run.
-/
module

public import proofs.«01_k».proof.Proof.GatherRun
public import proofs.«01_k».proof.Proof.Start

@[expose] public section

noncomputable section

namespace Cert.Spread

open Cert.GatherIdeal Cert.GatherIdeal.Gen Cert.Rowed
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Once (Plan)
open Cert.Once.Plan (𝒱₀)

variable {F : FTy → Type} [FloatOps F]

local notation "𝕄" => MT nD τ sig Unit (Elt F) ℕ (UR sig nD τ × UR sig nD τ) ℕ

variable (m : (ℓ : Loc nD τ sig) → Buf (Elt F) ℓ)

/-! ## The receivers, device by device -/

/-- The receivers of a copy, over the devices. -/
def tgtEquiv (x : K) : Dev nD ≃ Dev nD := ⟨tgt x, tgt x, tgt_tgt x, tgt_tgt x⟩

/-- What every device holds for each copy to it, held by the sender instead. -/
theorem tgts_swap (Ψ : Dev nD → K → sProp 𝕄) :
    (bigSep Finset.univ fun c => bigSep Finset.univ fun x => Ψ c x) = bigSep Finset.univ fun c => bigSep Finset.univ fun x => Ψ (tgt x c) x := by
  rw [comm2 Ψ, comm2 fun c x => Ψ (tgt x c) x]
  exact BI.bigSep_congr fun x _ => (BI.bigSep_univ_equiv (tgtEquiv x) fun c => Ψ c x)

/-! ## The credits of the launch -/

theorem due_at (d c : Dev nD) (x y : K) :
    due m d x ((plan m).cell (c, jRecv y)) () = if x = y then (if d = tgt y c then N (ar y) else 0) else 0 := by
  unfold due
  by_cases h : (tgt x d, jRecv x) = (c, jRecv y)
  · have hx : x = y := Sum.inl.inj (Sum.inr.inj (congrArg Prod.snd h))
    subst hx
    have hd : tgt x d = c := congrArg Prod.fst h
    subst hd
    rw [if_pos rfl, tgt_tgt, if_pos rfl, tallyAt_apply, if_pos ⟨rfl, rfl⟩]
  · rw [tallyAt_ne_cell fun e => h ((plan m).cell_inj e).symm]
    by_cases hx : x = y
    · subst hx
      rw [if_pos rfl, if_neg, Finsupp.zero_apply]
      intro hd
      subst hd
      exact h (by rw [tgt_tgt])
    · rw [if_neg hx, Finsupp.zero_apply]

theorem dues_at (d c : Dev nD) (y : K) :
    dues m d ((plan m).cell (c, jRecv y)) () = if d = tgt y c then N (ar y) else 0 := by
  have h : dues m d = ∑ x : K, due m d x := by
    unfold dues fwds
    rw [Fintype.sum_sum_type, ← List.sum_toFinset (fun x => due m d (.inl x)) (show fours.Nodup by decide), show fours.toFinset = Finset.univ by decide,
      ← List.sum_toFinset (fun x => due m d (.inr x)) (show threes.Nodup by decide), show threes.toFinset = Finset.univ by decide]
  rw [h, Finset.sum_apply, Finsupp.finsetSum_apply, Finset.sum_congr rfl fun x _ => due_at m d c x y, Finset.sum_ite_eq' Finset.univ y,
    if_pos (Finset.mem_univ _)]

theorem launch_credit (c : Dev nD) (y : K) :
    tallyOn ((plan m).cell (c, jRecv y)) (launchCredit (Pipeline.owing (dues m)) 0 ((plan m).cell (c, jRecv y)))
      = (tallyAt ((plan m).cell (c, jRecv y)) () (N (ar y)) : CellTallies nD τ sig Unit) := by
  unfold tallyAt
  refine congrArg _ (Finsupp.ext fun u => ?_)
  cases u
  rw [Pipeline.launchCredit_owing, Finsupp.single_eq_same, Finset.sum_congr rfl fun d _ => dues_at m d c y,
    Finset.sum_ite_eq' Finset.univ (tgt y c) fun _ => N (ar y), if_pos (Finset.mem_univ _)]

/-- A device is launched with the credit of the copies to it. -/
theorem creds (c : Dev nD) : (Pipeline.launchCred (dues m) c : sProp 𝕄)
    ⊢ bigSep Finset.univ fun x => cred (tallyAt ((plan m).cell (c, jRecv x)) () (N (ar x))) := by
  unfold Pipeline.launchCred
  refine (BI.bigSep_subset (Finset.subset_univ (Finset.univ.map ⟨fun x => (plan m).sem (jRecv x), fun x y h => Sum.inl.inj (Sum.inr.inj ((plan m).inj h))⟩))).trans ?_
  rw [BI.bigSep_map]
  exact bigSep_mono fun x _ => Entails.of_eq (congrArg cred (launch_credit m c x))

/-! ## The arrays -/

/-- A device's operands and results, whole, as the launch finds them. -/
theorem bufs_wholes (c : Dev nD) :
    (unscopedBufs c (fun b => m ((c.tc : Thread nD τ).loc b)) : sProp 𝕄)
      ⊢ bigSep Finset.univ fun a : Fin 6 => iprop(opPts m a c fullShare ∗ wholePts a c (outB m c a)) := by
  rw [Pipeline.unscopedBufs_split cfgs 0 winFacts0.arr_unscoped winFacts0.arr_inj c, unscopedRest0_eq, all_six]
  unfold wholePts opPts
  simp only [fun a => (inM_whole a).set_eq_univ, fun a => (outM_whole a).set_eq_univ]
  simp only [six, bigSepL_cons', bigSepL_nil]
  iintro ⟨-, H0, H1, H2, H3, H4, H5, G0, G1, G2, G3, G4, G5⟩
  isplitl [H0 G0]; · isplitl [H0]; · iexact H0
                     iexact G0
  isplitl [H1 G1]; · isplitl [H1]; · iexact H1
                     iexact G1
  isplitl [H2 G2]; · isplitl [H2]; · iexact H2
                     iexact G2
  isplitl [H3 G3]; · isplitl [H3]; · iexact H3
                     iexact G3
  isplitl [H4 G4]; · isplitl [H4]; · iexact H4
                     iexact G4
  isplitl [H5 G5]; · isplitl [H5]; · iexact H5
                     iexact G5
  iempintro

/-- The operands cut into their shares, the results into the row of the device itself and the rows the copies fill. -/
theorem wholes_rows (c : Dev nD) :
    (bigSep Finset.univ fun a : Fin 6 => iprop(opPts m a c fullShare ∗ wholePts a c (outB m c a)) : sProp 𝕄)
      ⊢ iprop((bigSep Finset.univ fun a : Fin 6 => iprop(opPts m a c own ∗ rowPts a (outM a) c c (outB m c a)))
        ∗ (bigSep Finset.univ fun x : Fin 4 × Fin 6 => opPts m x.2 c (part x.1))
        ∗ bigSep Finset.univ fun x : K => rowPts (ar x) (outM (ar x)) c (peer (num x) c) (outB m c (ar x))) := by
  rw [prod_swap fun k a => opPts m a c (part k), by_array fun k a => rowPts a (outM a) c (peer k c) (outB m c a),
    ← bigSep_sep', ← bigSep_sep']
  refine bigSep_mono fun a _ => ?_
  unfold wholePts
  rw [whole_rows a (outM a) c, rows_peers c]
  show iprop(_ ∗ (_ ∗ _)) ⊢ (iprop((_ ∗ _) ∗ (_ ∗ _)) : sProp 𝕄)
  iintro ⟨H, G, Gs⟩
  ihave H := (op_shares m a c).1 $$ H
  icases H with ⟨H, Hs⟩
  isplitl [H G]
  · isplitl [H] <;> iassumption
  isplitl [Hs] <;> iassumption

/-! ## The deal -/

/-- What a device is dealt, its debt and its region's holdings included. -/
def dealt (c : Dev nD) : sProp 𝕄 :=
  iprop(start m c ∗ owes (c.tc : Thread nD τ) (dues m c) ∅ ∗ scopedBufs (c.tc : Thread nD τ) ∗ opIdle (c.tc : Thread nD τ))

theorem dealt_eq : dealt m = fun c => iprop((((plan m).Known ∗ Levels)
      ∗ (bigSep Finset.univ fun a => iprop((opPts m a c own ∗ rowPts a (outM a) c c (outB m c a)) ∗ (plan m).tok c (jLoc a)))
      ∗ (bigSep Finset.univ fun x : Fin 4 × Fin 6 => opPts m x.2 c (part x.1))
      ∗ (bigSep Finset.univ fun x => iprop(rowPts (ar x) (outM (ar x)) (tgt x c) (who x c) (outB m (tgt x c) (ar x))
          ∗ (plan m).tok c (jSend x) ∗ (plan m).tok (tgt x c) (jRecv x)))
      ∗ (bigSep Finset.univ fun x => iprop(cred (tallyAt ((plan m).cell (c, jRecv x)) () (N (ar x))) ∗ (plan m).wait c (jRecv x)))
      ∗ (bigSep Finset.univ fun x => (plan m).wait c (jSend x)) ∗ bigSep Finset.univ fun a => (plan m).wait c (jLoc a))
    ∗ owes (c.tc : Thread nD τ) (dues m c) ∅ ∗ scopedBufs (c.tc : Thread nD τ) ∗ opIdle (c.tc : Thread nD τ)) := rfl

/-- What a device brings, sorted. -/
theorem brings (g : Dev nD → PrngReg) (c : Dev nD) :
    (Cert.Start.holdings (dues m) m g c : sProp 𝕄)
      ⊢ iprop((owes (c.tc : Thread nD τ) (dues m c) ∅ ∗ scopedBufs (c.tc : Thread nD τ) ∗ opIdle (c.tc : Thread nD τ))
        ∗ (bigSep Finset.univ fun j => semVal ((plan m).cell (c, j)) 0)
        ∗ (bigSep Finset.univ fun x => cred (tallyAt ((plan m).cell (c, jRecv x)) () (N (ar x))))
        ∗ (bigSep Finset.univ fun a : Fin 6 => iprop(opPts m a c own ∗ rowPts a (outM a) c c (outB m c a)))
        ∗ (bigSep Finset.univ fun x : Fin 4 × Fin 6 => opPts m x.2 c (part x.1))
        ∗ bigSep Finset.univ fun x : K => rowPts (ar x) (outM (ar x)) c (peer (num x) c) (outB m c (ar x))) := by
  unfold Cert.Start.holdings boundary
  rw [sems_cells m c]
  iintro ⟨⟨Hb, Hz, Hi⟩, Hu, -, HO, Hc, -⟩
  isplitl [Hb Hi HO]
  · isplitl [HO]; · iexact HO
    isplitl [Hb] <;> iassumption
  isplitl [Hz]; · iexact Hz
  isplitl [Hc]
  · iapply (creds m c); iexact Hc
  iapply (wholes_rows m c)
  iapply (bufs_wholes m c)
  iexact Hu

theorem deal (g : Dev nD → PrngReg) :
    iprop((bigSep Finset.univ fun c : Dev nD => (Cert.Start.holdings (dues m) m g c : sProp 𝕄))
        ∗ BI.own (Cert.Once.ER nD τ sig (Elt F) (initOf (plan m).cells (plan m).toks)) ∗ Levels)
      ⊢ |={Set.univ}=> bigSep Finset.univ (dealt m) := by
  refine (sep_mono_left (bigSep_mono fun c _ => brings m g c)).trans ?_
  simp only [bigSep_sep']
  iintro ⟨⟨HO, Hz, Hc, Hl, Hi, Ho⟩, HX, #HL⟩
  ihave Hz' := (Entails.of_eq (BI.bigSep_univ_prod fun x : Dev nD × J => (semVal ((plan m).cell x) 0 : sProp 𝕄)).symm) $$ Hz
  imod ((plan m).fund) $$ [Hz' HX] with ⟨#HK, Hw, Ht⟩
  · isplitl [Hz'] <;> iassumption
  imodintro
  ihave Hw := (Entails.of_eq (all_kinds fun c j => (plan m).wait c j)) $$ Hw
  ihave Ht := (Entails.of_eq (all_kinds fun c j => (plan m).tok c j)) $$ Ht
  icases Hw with ⟨Hws, Hwr, Hwl⟩
  icases Ht with ⟨Hts, Htr, Htl⟩
  -- the receivers' rows and rights
  ihave Ho := (Entails.of_eq (tgts_swap fun c x => rowPts (ar x) (outM (ar x)) c (peer (num x) c) (outB m c (ar x)))) $$ Ho
  ihave Ho' := (Entails.of_eq (show (bigSep Finset.univ fun c => bigSep Finset.univ fun x : K => (rowPts (ar x) (outM (ar x)) (tgt x c) (peer (num x) (tgt x c)) (outB m (tgt x c) (ar x)) : sProp 𝕄))
    = bigSep Finset.univ fun c => bigSep Finset.univ fun x : K => rowPts (ar x) (outM (ar x)) (tgt x c) (who x c) (outB m (tgt x c) (ar x))
    from by simp only [peer_tgt])) $$ Ho
  ihave Htr := (Entails.of_eq (tgts_swap fun c x => (plan m).tok c (jRecv x))) $$ Htr
  ihave HKs := (BI.bigSep_of_persistent (Finset.univ : Finset (Dev nD)) (plan m).Known) $$ HK
  ihave HLs := (BI.bigSep_of_persistent (Finset.univ : Finset (Dev nD)) (Levels : sProp 𝕄)) $$ HL
  rw [dealt_eq m]
  simp only [bigSep_sep']
  icases Hl with ⟨Hl, Hl'⟩
  isplitl [HKs HLs Hl Hl' Htl Hi Ho' Hts Htr Hc Hwr Hws Hwl]
  · isplitl [HKs HLs]
    · isplitl [HKs]; · iexact HKs
      iexact HLs
    isplitl [Hl Hl' Htl]
    · isplitl [Hl Hl']
      · isplitl [Hl]; · iexact Hl
        iexact Hl'
      iexact Htl
    isplitl [Hi]; · iexact Hi
    isplitl [Ho' Hts Htr]
    · isplitl [Ho']; · iexact Ho'
      isplitl [Hts]; · iexact Hts
      iexact Htr
    isplitl [Hc Hwr]
    · isplitl [Hc]; · iexact Hc
      iexact Hwr
    isplitl [Hws]; · iexact Hws
    iexact Hwl
  · iexact HO

/-! ## The machine's run -/

/-- What a device's memory is read to hold at the end. -/
def Ended (c : Dev nD) (s : MemSt nD τ sig (Elt F)) : Prop :=
  ∀ a : Fin 6, s.mem ((inM a).view.loc (c : Thread nD τ)) = inB m c a ∧ s.mem ((outM a).view.loc (c : Thread nD τ)) = landed m c a

theorem ended_read (c : Dev nD) (s' : Phys nD τ sig (Elt F)) :
    iprop(arrays m c ∗ SI s') ⊢ |={Set.univ}=> (iprop(⌜Ended m c s'.mem⌝ ∗ SI s') : sProp 𝕄) := by
  unfold arrays wholePts opPts
  simp only [fun a => (inM_whole a).set_eq_univ, fun a => (outM_whole a).set_eq_univ]
  rw [bigSep_sep']
  iintro ⟨⟨Hi, Ho⟩, HS⟩
  ihave H := (pointsTo_read_all (Finset.univ : Finset (Fin 6)) (fun a => (inM a).view.loc (c : Thread nD τ)) (fun a => inB m c a) s') $$ [Hi HS]
  · isplitl [Hi] <;> iassumption
  icases H with ⟨%hi, HS⟩
  ihave H := (pointsTo_read_all (Finset.univ : Finset (Fin 6)) (fun a => (outM a).view.loc (c : Thread nD τ)) (fun a => landed m c a) s') $$ [Ho HS]
  · isplitl [Ho] <;> iassumption
  icases H with ⟨%ho, HS⟩
  imodintro
  isplitr
  · ipureintro
    exact fun a => ⟨hi a (Finset.mem_univ a), ho a (Finset.mem_univ a)⟩
  iexact HS

/-- For any float values, from any memory with zero counters: every weakly fair execution of @main on the eight devices
    terminates, with every operand as it was, every result gathered and every counter at zero. -/
theorem run_main (g : Dev nD → PrngReg) :
    θ_run (defs (F := F)) (onTc (τ := τ) (main (F := F))) ⟨m, fun _ => 0, g⟩ fun r => (∀ c, Ended m c r.2) ∧ r.2.sem = fun _ => 0 :=
  Cert.Start.run_dealt (defs (F := F)) (Variants.lift 𝒱₀) m g main (dues m) lset lev (fun _ h => if_neg h)
    (BI.own (Cert.Once.ER nD τ sig (Elt F) (initOf (plan m).cells (plan m).toks)))
    (initOf (Pipeline.cells cfgs cellOf_inj) (Pipeline.launchToks cfgs cellOf_inj), initOf (plan m).cells (plan m).toks)
    (by
      iintro Hu
      ihave H := (ownU_pair _ _) $$ Hu
      icases H with ⟨-, HX⟩
      imodintro
      iexact HX)
    (dealt m) (arrays m) (deal m g)
    (main_run m) (Ended m) (ended_read m)
    (fun s h hs => ⟨h, sem_eq_zero_of_scoped (by decide) hs⟩)

end Cert.Spread

end
-- ==== Proof.GatherValue.lean ====
/-
# What the gather computes

The reference cuts each whole weight into the eight devices' shards and stacks them: along its columns by a transpose
(`stack_cols`), along its rows by a reshape (`stack_rows`). The run leaves every device with all eight shards stacked.
`values` puts the two runs together, for any float values.
-/
module

public import proofs.«01_k».proof.Proof.GatherDeal
public import proofs.«01_k».proof.Proof.Gen.GatherReferenceIdeal.Run
public import Idealize.ShloMosaic.Lib.Layout
public import Idealize.ShloMosaic.Lib.Pipeline.Value

@[expose] public section

noncomputable section

namespace Cert.Spread

open Idealize.ShloMosaic Idealize.ShloMosaic.TcCoe Idealize.SL.Sem

/-! ## Shards, stacked -/

/-- The device whose shard an index of the stack is in. -/
abbrev shard {A B : ℕ} (i : (⟨3, ![8, A, B]⟩ : Shape).Idx) : Fin 8 := ⟨(i (0 : Fin 3)).val, (i (0 : Fin 3)).isLt⟩

/-- The index inside that shard. -/
def inner {A B : ℕ} (i : (⟨3, ![8, A, B]⟩ : Shape).Idx) : (⟨2, ![A, B]⟩ : Shape).Idx := fun b => match b with
  | ⟨0, _⟩ => i (1 : Fin 3) | ⟨1, _⟩ => i (2 : Fin 3)

/-- Shards along the columns: the whole array's columns cut in eight, the cut brought to the front. -/
theorem stack_cols {A B C : ℕ} {α : Type} (X : Fin 8 → (⟨2, ![A, B]⟩ : Shape).Idx → α) (w : (⟨2, ![A, C]⟩ : Shape).Idx → α) (hC : C = 8 * B)
    (hT : Layout.Tiles ⟨2, ![A, B]⟩ ⟨2, ![A, C]⟩ 1 8) (hX : ∀ d, X d = Layout.block _ _ 1 8 d w hT)
    (h1 : (⟨2, ![A, C]⟩ : Shape).ShapeCasts ⟨3, ![A, 8, B]⟩) (ht : (⟨3, ![A, 8, B]⟩ : Shape).Transposes [1, 0, 2] ⟨3, ![8, A, B]⟩) :
    (fun i : (⟨3, ![8, A, B]⟩ : Shape).Idx => X (shard i) (inner i))
      = transpose ⟨3, ![8, A, B]⟩ [1, 0, 2] (shapeCast ⟨3, ![A, 8, B]⟩ w h1) ht := by
  funext i
  rw [hX, Layout.block_apply]
  symm
  let k : (⟨3, ![A, 8, B]⟩ : Shape).Idx := fun b => match b with
    | ⟨0, _⟩ => i (1 : Fin 3) | ⟨1, _⟩ => i (0 : Fin 3) | ⟨2, _⟩ => i (2 : Fin 3)
  refine (transpose_apply _ _ ht i k ?_).trans (shapeCast_apply _ h1 k _ ?_)
  · intro b
    match b with
    | ⟨0, _⟩ => rfl
    | ⟨1, _⟩ => rfl
    | ⟨2, _⟩ => rfl
  · rw [Shape.rowMajor_val_two, Shape.rowMajor_val_three]
    subst hC
    show (i (1 : Fin 3)).val * (8 * B) + ((i (0 : Fin 3)).val * B + (i (2 : Fin 3)).val) = ((i (1 : Fin 3)).val * 8 + (i (0 : Fin 3)).val) * B + (i (2 : Fin 3)).val
    rw [Nat.add_mul, Nat.mul_assoc, Nat.add_assoc]

/-- Shards along the rows: the whole array's rows cut in eight. -/
theorem stack_rows {A B C : ℕ} {α : Type} (X : Fin 8 → (⟨2, ![A, B]⟩ : Shape).Idx → α) (w : (⟨2, ![C, B]⟩ : Shape).Idx → α)
    (hT : Layout.Tiles ⟨2, ![A, B]⟩ ⟨2, ![C, B]⟩ 0 8) (hX : ∀ d, X d = Layout.block _ _ 0 8 d w hT)
    (h1 : (⟨2, ![C, B]⟩ : Shape).ShapeCasts ⟨3, ![8, A, B]⟩) :
    (fun i : (⟨3, ![8, A, B]⟩ : Shape).Idx => X (shard i) (inner i)) = shapeCast ⟨3, ![8, A, B]⟩ w h1 := by
  funext i
  rw [hX, Layout.block_apply]
  symm
  refine shapeCast_apply _ h1 i _ ?_
  rw [Shape.rowMajor_val_two, Shape.rowMajor_val_three]
  rfl

variable {F : FTy → Type} [FloatOps F]

abbrev kLoc (c : Dev Cert.GatherIdeal.nD) (b : Ref Cert.GatherIdeal.sig .tc) : Loc Cert.GatherIdeal.nD Cert.GatherIdeal.τ Cert.GatherIdeal.sig :=
  (c.tc : Thread Cert.GatherIdeal.nD Cert.GatherIdeal.τ).loc b
abbrev rLoc (b : Ref Cert.GatherReferenceIdeal.sig .tc) : Loc Cert.GatherReferenceIdeal.nD Cert.GatherReferenceIdeal.τ Cert.GatherReferenceIdeal.sig :=
  ((0 : Dev Cert.GatherReferenceIdeal.nD).tc : Thread Cert.GatherReferenceIdeal.nD Cert.GatherReferenceIdeal.τ).loc b

/-! ## Each result, by its array's shards -/

theorem within_eq (a : Fin 6) (i : (Cert.Rowed.SA a).Idx) : within i = inner (A := Cert.Rowed.p a) (B := Cert.Rowed.q a) i := by
  funext b
  match b with
  | ⟨0, _⟩ => rfl
  | ⟨1, _⟩ => rfl

theorem landed_0 (m : (ℓ : Loc Cert.GatherIdeal.nD Cert.GatherIdeal.τ Cert.GatherIdeal.sig) → Buf (Elt F) ℓ) (c : Dev Cert.GatherIdeal.nD) :
    landed m c 0 = fun i : (⟨3, ![8, 1024, 545]⟩ : Shape).Idx =>
      (m (kLoc (shard i) Cert.GatherIdeal.main_arg0) : (⟨2, ![1024, 545]⟩ : Shape).Idx → Elt F .bf16) (inner i) :=
  (View.write_whole_univ Cert.GatherIdeal.main_v1_0 _ (gathered m 0)).trans (funext fun i => congrArg (X m (shard i) 0) (within_eq 0 i))
theorem landed_1 (m : (ℓ : Loc Cert.GatherIdeal.nD Cert.GatherIdeal.τ Cert.GatherIdeal.sig) → Buf (Elt F) ℓ) (c : Dev Cert.GatherIdeal.nD) :
    landed m c 1 = fun i : (⟨3, ![8, 512, 128]⟩ : Shape).Idx =>
      (m (kLoc (shard i) Cert.GatherIdeal.main_arg1) : (⟨2, ![512, 128]⟩ : Shape).Idx → Elt F .bf16) (inner i) :=
  (View.write_whole_univ Cert.GatherIdeal.main_v1_1 _ (gathered m 1)).trans (funext fun i => congrArg (X m (shard i) 1) (within_eq 1 i))
theorem landed_2 (m : (ℓ : Loc Cert.GatherIdeal.nD Cert.GatherIdeal.τ Cert.GatherIdeal.sig) → Buf (Elt F) ℓ) (c : Dev Cert.GatherIdeal.nD) :
    landed m c 2 = fun i : (⟨3, ![8, 512, 128]⟩ : Shape).Idx =>
      (m (kLoc (shard i) Cert.GatherIdeal.main_arg2) : (⟨2, ![512, 128]⟩ : Shape).Idx → Elt F .bf16) (inner i) :=
  (View.write_whole_univ Cert.GatherIdeal.main_v1_2 _ (gathered m 2)).trans (funext fun i => congrArg (X m (shard i) 2) (within_eq 2 i))
theorem landed_3 (m : (ℓ : Loc Cert.GatherIdeal.nD Cert.GatherIdeal.τ Cert.GatherIdeal.sig) → Buf (Elt F) ℓ) (c : Dev Cert.GatherIdeal.nD) :
    landed m c 3 = fun i : (⟨3, ![8, 128, 1024]⟩ : Shape).Idx =>
      (m (kLoc (shard i) Cert.GatherIdeal.main_arg3) : (⟨2, ![128, 1024]⟩ : Shape).Idx → Elt F .bf16) (inner i) :=
  (View.write_whole_univ Cert.GatherIdeal.main_v1_3 _ (gathered m 3)).trans (funext fun i => congrArg (X m (shard i) 3) (within_eq 3 i))
theorem landed_4 (m : (ℓ : Loc Cert.GatherIdeal.nD Cert.GatherIdeal.τ Cert.GatherIdeal.sig) → Buf (Elt F) ℓ) (c : Dev Cert.GatherIdeal.nD) :
    landed m c 4 = fun i : (⟨3, ![8, 1024, 704]⟩ : Shape).Idx =>
      (m (kLoc (shard i) Cert.GatherIdeal.main_arg4) : (⟨2, ![1024, 704]⟩ : Shape).Idx → Elt F .bf16) (inner i) :=
  (View.write_whole_univ Cert.GatherIdeal.main_v1_4 _ (gathered m 4)).trans (funext fun i => congrArg (X m (shard i) 4) (within_eq 4 i))
theorem landed_5 (m : (ℓ : Loc Cert.GatherIdeal.nD Cert.GatherIdeal.τ Cert.GatherIdeal.sig) → Buf (Elt F) ℓ) (c : Dev Cert.GatherIdeal.nD) :
    landed m c 5 = fun i : (⟨3, ![8, 352, 1024]⟩ : Shape).Idx =>
      (m (kLoc (shard i) Cert.GatherIdeal.main_arg5) : (⟨2, ![352, 1024]⟩ : Shape).Idx → Elt F .bf16) (inner i) :=
  (View.write_whole_univ Cert.GatherIdeal.main_v1_5 _ (gathered m 5)).trans (funext fun i => congrArg (X m (shard i) 5) (within_eq 5 i))

/-- For any float values: from devices that hold their shards of the reference's arrays, both programs run, and every
    device's results end as the reference's. -/
theorem values (m : (ℓ : Loc Cert.GatherIdeal.nD Cert.GatherIdeal.τ Cert.GatherIdeal.sig) → Buf (Elt F) ℓ) (g : Dev Cert.GatherIdeal.nD → PrngReg)
    (m' : (ℓ : Loc Cert.GatherReferenceIdeal.nD Cert.GatherReferenceIdeal.τ Cert.GatherReferenceIdeal.sig) → Buf (Elt F) ℓ) (g' : Dev Cert.GatherReferenceIdeal.nD → PrngReg)
    (hargs : ∀ c : Dev Cert.GatherIdeal.nD,
        m (kLoc c Cert.GatherIdeal.main_arg0) = Layout.block ⟨2, ![1024, 545]⟩ ⟨2, ![1024, 4360]⟩ 1 8 c (m' (rLoc Cert.GatherReferenceIdeal.main_arg0))
        ∧ m (kLoc c Cert.GatherIdeal.main_arg1) = Layout.block ⟨2, ![512, 128]⟩ ⟨2, ![512, 1024]⟩ 1 8 c (m' (rLoc Cert.GatherReferenceIdeal.main_arg1))
        ∧ m (kLoc c Cert.GatherIdeal.main_arg2) = Layout.block ⟨2, ![512, 128]⟩ ⟨2, ![512, 1024]⟩ 1 8 c (m' (rLoc Cert.GatherReferenceIdeal.main_arg2))
        ∧ m (kLoc c Cert.GatherIdeal.main_arg3) = Layout.block ⟨2, ![128, 1024]⟩ ⟨2, ![1024, 1024]⟩ 0 8 c (m' (rLoc Cert.GatherReferenceIdeal.main_arg3))
        ∧ m (kLoc c Cert.GatherIdeal.main_arg4) = Layout.block ⟨2, ![1024, 704]⟩ ⟨2, ![1024, 5632]⟩ 1 8 c (m' (rLoc Cert.GatherReferenceIdeal.main_arg4))
        ∧ m (kLoc c Cert.GatherIdeal.main_arg5) = Layout.block ⟨2, ![352, 1024]⟩ ⟨2, ![2816, 1024]⟩ 0 8 c (m' (rLoc Cert.GatherReferenceIdeal.main_arg5))) :
    ∃ (v0 : Buf (Elt F) (rLoc Cert.GatherReferenceIdeal.main_v1)) (v1 : Buf (Elt F) (rLoc Cert.GatherReferenceIdeal.main_v3)) (v2 : Buf (Elt F) (rLoc Cert.GatherReferenceIdeal.main_v5)) (v3 : Buf (Elt F) (rLoc Cert.GatherReferenceIdeal.main_v6)) (v4 : Buf (Elt F) (rLoc Cert.GatherReferenceIdeal.main_v8)) (v5 : Buf (Elt F) (rLoc Cert.GatherReferenceIdeal.main_v9)),
      θ_run (Cert.GatherIdeal.defs (F := F)) (onTc (τ := Cert.GatherIdeal.τ) (Cert.GatherIdeal.main (F := F))) ⟨m, fun _ => 0, g⟩ (fun r => ∀ c : Dev Cert.GatherIdeal.nD,
          r.2.mem (kLoc c Cert.GatherIdeal.main_v1_0) = v0
          ∧ r.2.mem (kLoc c Cert.GatherIdeal.main_v1_1) = v1
          ∧ r.2.mem (kLoc c Cert.GatherIdeal.main_v1_2) = v2
          ∧ r.2.mem (kLoc c Cert.GatherIdeal.main_v1_3) = v3
          ∧ r.2.mem (kLoc c Cert.GatherIdeal.main_v1_4) = v4
          ∧ r.2.mem (kLoc c Cert.GatherIdeal.main_v1_5) = v5
          ∧ r.2.mem (kLoc c Cert.GatherIdeal.main_arg0) = m (kLoc c Cert.GatherIdeal.main_arg0)
          ∧ r.2.mem (kLoc c Cert.GatherIdeal.main_arg1) = m (kLoc c Cert.GatherIdeal.main_arg1)
          ∧ r.2.mem (kLoc c Cert.GatherIdeal.main_arg2) = m (kLoc c Cert.GatherIdeal.main_arg2)
          ∧ r.2.mem (kLoc c Cert.GatherIdeal.main_arg3) = m (kLoc c Cert.GatherIdeal.main_arg3)
          ∧ r.2.mem (kLoc c Cert.GatherIdeal.main_arg4) = m (kLoc c Cert.GatherIdeal.main_arg4)
          ∧ r.2.mem (kLoc c Cert.GatherIdeal.main_arg5) = m (kLoc c Cert.GatherIdeal.main_arg5))
      ∧ θ_run (Cert.GatherReferenceIdeal.defs (F := F)) (onTc (τ := Cert.GatherReferenceIdeal.τ) (Cert.GatherReferenceIdeal.main (F := F))) ⟨m', fun _ => 0, g'⟩ (fun r =>
          r.2.mem (rLoc Cert.GatherReferenceIdeal.main_v1) = v0
          ∧ r.2.mem (rLoc Cert.GatherReferenceIdeal.main_v3) = v1
          ∧ r.2.mem (rLoc Cert.GatherReferenceIdeal.main_v5) = v2
          ∧ r.2.mem (rLoc Cert.GatherReferenceIdeal.main_v6) = v3
          ∧ r.2.mem (rLoc Cert.GatherReferenceIdeal.main_v8) = v4
          ∧ r.2.mem (rLoc Cert.GatherReferenceIdeal.main_v9) = v5
          ∧ r.2.mem (rLoc Cert.GatherReferenceIdeal.main_arg0) = m' (rLoc Cert.GatherReferenceIdeal.main_arg0)
          ∧ r.2.mem (rLoc Cert.GatherReferenceIdeal.main_arg1) = m' (rLoc Cert.GatherReferenceIdeal.main_arg1)
          ∧ r.2.mem (rLoc Cert.GatherReferenceIdeal.main_arg2) = m' (rLoc Cert.GatherReferenceIdeal.main_arg2)
          ∧ r.2.mem (rLoc Cert.GatherReferenceIdeal.main_arg3) = m' (rLoc Cert.GatherReferenceIdeal.main_arg3)
          ∧ r.2.mem (rLoc Cert.GatherReferenceIdeal.main_arg4) = m' (rLoc Cert.GatherReferenceIdeal.main_arg4)
          ∧ r.2.mem (rLoc Cert.GatherReferenceIdeal.main_arg5) = m' (rLoc Cert.GatherReferenceIdeal.main_arg5)) :=
  ⟨_, _, _, _, _, _,
    (θ_run Cert.GatherIdeal.defs _ _).mono (fun _ ⟨h, _⟩ c => ⟨(h c 0).2.trans ((landed_0 m c).trans (stack_cols (fun d => m (kLoc d Cert.GatherIdeal.main_arg0)) _ rfl _ (fun d => (hargs d).1) _ _)),
        (h c 1).2.trans ((landed_1 m c).trans (stack_cols (fun d => m (kLoc d Cert.GatherIdeal.main_arg1)) _ rfl _ (fun d => (hargs d).2.1) _ _)),
        (h c 2).2.trans ((landed_2 m c).trans (stack_cols (fun d => m (kLoc d Cert.GatherIdeal.main_arg2)) _ rfl _ (fun d => (hargs d).2.2.1) _ _)),
        (h c 3).2.trans ((landed_3 m c).trans (stack_rows (fun d => m (kLoc d Cert.GatherIdeal.main_arg3)) _ _ (fun d => (hargs d).2.2.2.1) _)),
        (h c 4).2.trans ((landed_4 m c).trans (stack_cols (fun d => m (kLoc d Cert.GatherIdeal.main_arg4)) _ rfl _ (fun d => (hargs d).2.2.2.2.1) _ _)),
        (h c 5).2.trans ((landed_5 m c).trans (stack_rows (fun d => m (kLoc d Cert.GatherIdeal.main_arg5)) _ _ (fun d => (hargs d).2.2.2.2.2) _)),
        (h c 0).1, (h c 1).1, (h c 2).1, (h c 3).1, (h c 4).1, (h c 5).1⟩) (run_main m g),
    (θ_run Cert.GatherReferenceIdeal.defs _ _).mono (fun _ h => h 0) (Cert.GatherReferenceIdeal.Value.run m' g')⟩

end Cert.Spread

end
-- ==== Proof.Adam.lean ====
/-
  One optimizer step over a whole weight, and what its pieces are read as.

  The gradient of an element is the sum of its parts over the leading axis (`grad`); the two moments and the change of the
  weight are one formula of the gradient and of the three old values at the same index (`first`, `second`, `change`). The
  kernels walk the rows of the weight in blocks, so all they compute at a block's index is this formula at the index of
  the array under it; the reference computes it on the whole arrays. The facts are stated for any number of rows and
  columns, each kernel applies them at its own.
-/
module

public import Idealize.ShloMosaic.Lib.Pointwise.Reduce
public import Idealize.ShloMosaic.Lib.Pipeline.Value
public import Idealize.ShloMosaic.Lib.IdealHost

@[expose] public section

noncomputable section

namespace Cert.Adam

open Idealize.ShloMosaic

variable {n R C : Nat}

/-- A whole face starts at offset zero on both axes. -/
theorem whole_off : (![0, 0] : Fin 2 → Nat) = fun _ => 0 := funext fun a => by fin_cases a <;> rfl

/-- `n` parts of a weight of `R` rows and `C` columns, and the weight. -/
abbrev Slab (n R C : Nat) : Shape := ⟨3, ![n, R, C]⟩
abbrev Face (R C : Nat) : Shape := ⟨2, ![R, C]⟩

/-- The gradient at an element: the sum of its parts. -/
def grad (X : (Slab n R C).Idx → EReal) (i : (Face R C).Idx) : EReal := ∑ k : Fin n, X (ix3 k (i 0) (i 1))

/-- A literal of the kernels and of the reference: the value of its word. -/
abbrev lit (b : BitVec 32) : EReal := Scalar.ofBits (F := Ideal) .f32 b

/-- The new first moment, from the gradient and the old one. -/
def first (g m : EReal) : EReal := lit 0x3F666666#32 * m + lit 0x3DCCCCCD#32 * g

/-- The new second moment. -/
def second (g v : EReal) : EReal := lit 0x3F7FBE77#32 * v + lit 0x3A83126F#32 * (g * g)

/-- The change of the weight, from the weight and the two new moments. -/
def change (w m v : EReal) : EReal :=
  lit 0xBA83126F#32 * (Ideal.div (Ideal.div m (lit 0x3F26BD02#32))
    (Ideal.sqrt (Ideal.div v (lit 0x3C231ACC#32)) + lit 0x322BCC77#32) + lit 0x3C23D70A#32 * w)

/-- The four results over a whole weight: the gradient, the change, the two new moments. -/
def changes (X : (Slab n R C).Idx → EReal) (W M V : (Face R C).Idx → EReal) (i : (Face R C).Idx) : EReal :=
  change (W i) (first (grad X i) (M i)) (second (grad X i) (V i))
def firsts (X : (Slab n R C).Idx → EReal) (M : (Face R C).Idx → EReal) (i : (Face R C).Idx) : EReal := first (grad X i) (M i)
def seconds (X : (Slab n R C).Idx → EReal) (V : (Face R C).Idx → EReal) (i : (Face R C).Idx) : EReal := second (grad X i) (V i)

/-- Four arrays are the results of a step on the parts `X` of the gradient of the weight `W` with moments `M` and `V`. -/
def Results (X : (Slab n R C).Idx → EReal) (W M V G D P Q : (Face R C).Idx → EReal) : Prop :=
  G = grad X ∧ D = changes X W M V ∧ P = firsts X M ∧ Q = seconds X V

/-- Part `k` lies inside the parts. -/
theorem part_inb (k : Fin n) (a : Fin 3) :
    (![k.val, 0, 0] : Fin 3 → Nat) a + (![1, R, C] : Fin 3 → Nat) a ≤ (![n, R, C] : Fin 3 → Nat) a := by
  match a with
  | ⟨0, _⟩ => exact k.isLt
  | ⟨1, _⟩ => exact Nat.le_of_eq (Nat.zero_add R)
  | ⟨2, _⟩ => exact Nat.le_of_eq (Nat.zero_add C)

/-- Part `k` of the parts, loaded as a block of one part and seen as a face. -/
abbrev part (X : (Slab n R C).Idx → EReal) (h : (Slab 1 R C).ShapeCasts (Face R C)) (k : Fin n) : (Face R C).Idx → EReal :=
  shapeCast (Face R C) (fun j => X ((Rect.unit (s := Slab n R C) ![k.val, 0, 0] ![1, R, C] (part_inb k)).idx j)) h

theorem part_apply (X : (Slab n R C).Idx → EReal) (h : (Slab 1 R C).ShapeCasts (Face R C)) (k : Fin n) (y : (Face R C).Idx) :
    part X h k y = X (ix3 k (y 0) (y 1)) := by
  unfold part
  rw [shapeCast_dropUnit_apply (d := ![R, C])]
  refine congrArg X (funext fun a => Fin.ext ?_)
  match a with
  | ⟨0, _⟩ => rfl
  | ⟨1, _⟩ => show 0 + 1 * (y 0).val = (y 0).val; omega
  | ⟨2, _⟩ => show 0 + 1 * (y 1).val = (y 1).val; omega

/-- Eight parts added from the left are the gradient. -/
theorem grad_eight (X : (Slab 8 R C).Idx → EReal) (h : (Slab 1 R C).ShapeCasts (Face R C)) (y : (Face R C).Idx) :
    part X h 0 y + part X h 1 y + part X h 2 y + part X h 3 y + part X h 4 y + part X h 5 y + part X h 6 y + part X h 7 y
      = grad X y := by
  simp only [part_apply]
  exact (Fin.sum_univ_eight fun k : Fin 8 => X (ix3 k (y 0) (y 1))).symm

/-- A lone part is the gradient. -/
theorem grad_one (X : (Slab 1 R C).Idx → EReal) (h : (Slab 1 R C).ShapeCasts (Face R C)) (y : (Face R C).Idx) :
    part X h 0 y = grad X y :=
  (part_apply X h 0 y).trans (Fin.sum_univ_one fun k : Fin 1 => X (ix3 k (y 0) (y 1))).symm

/-- A gradient `g` computed at a block's index, and what follows from it, are the results of the whole weight at `i`. -/
def Agree (X : (Slab n R C).Idx → EReal) (W M V : (Face R C).Idx → EReal) (i : (Face R C).Idx) (g : EReal) : Prop :=
  g = grad X i ∧ change (W i) (first g (M i)) (second g (V i)) = changes X W M V i
    ∧ first g (M i) = firsts X M i ∧ second g (V i) = seconds X V i

/-- They are when the block of parts and the block of the weight lie at the same rows. -/
theorem agree {R' : Nat} {X : (Slab n R' C).Idx → EReal} {W M V : (Face R' C).Idx → EReal}
    {e : (Slab n R C).Idx → (Slab n R' C).Idx} {y : (Face R C).Idx} {i : (Face R' C).Idx} {g : EReal}
    (he : ∀ k, e (ix3 k (y 0) (y 1)) = ix3 k (i 0) (i 1)) (hg : g = grad (fun j => X (e j)) y) : Agree X W M V i g := by
  have h : g = grad X i := hg.trans (Finset.sum_congr rfl fun k _ => congrArg X (he k))
  subst h
  exact ⟨rfl, rfl, rfl, rfl⟩

/-- The reference over the whole weight: with the host's sum over the leading axis from zero as the gradient, the four
    results. -/
theorem host (X : (Slab n R C).Idx → EReal) (W M V : (Face R C).Idx → EReal) (h : (Slab n R C).ReducesTo [0] (Face R C))
    {G : (Face R C).Idx → EReal} (hG : G = Ideal.hostReduceAdd h X (lit 0x00000000#32)) :
    Results X W M V G (fun i => change (W i) (first (G i) (M i)) (second (G i) (V i))) (fun i => first (G i) (M i))
      (fun i => second (G i) (V i)) := by
  have e : G = grad X := by
    rw [hG]
    funext y
    rw [Ideal.hostReduceAdd_r3_a0, show lit 0x00000000#32 = 0 from by simp [lit, Scalar.ofBits, Ideal.ofBits, Ideal.ieee]]
    exact zero_add _
  subst e
  exact ⟨rfl, rfl, rfl, rfl⟩

end Cert.Adam

end
-- ==== Proof.UpdateAda.lean ====
/-
  The optimizer step of w_ada: the kernel and the reference leave the same four arrays.
-/
module

public import proofs.«01_k».proof.Defs
public import proofs.«01_k».proof.Proof.Adam
public import proofs.«01_k».proof.Proof.Gen.UpdateAdaIdeal.Frame
public import proofs.«01_k».proof.Proof.Gen.UpdatedAdaIdeal.Run
public import Idealize.ShloMosaic.Lib.Pipeline.ValueKit
public import Idealize.ShloMosaic.Lib.Quiescent

@[expose] public section

noncomputable section

namespace Cert.Adam.Ada

open Idealize.ShloMosaic Idealize.ShloMosaic.TcCoe Idealize.SL.Sem
open Cert.UpdateAdaIdeal Cert.UpdateAdaIdeal.Gen

variable (m : (ℓ : Loc nD τ sig) → Buf (Elt Ideal) ℓ)

theorem at_parts : ∀ t : Fin cfg0.N, win0_0.index t = ![0, t.val, 0] := (by decide +kernel : ∀ t : Fin grid0.N, _)
theorem at_rows : ∀ t : Fin cfg0.N, win0_4.index t = ![t.val, 0] := (by decide +kernel : ∀ t : Fin grid0.N, _)

abbrev X (c : Dev nD) : (Slab 1 1024 768).Idx → EReal := m ((c : Thread nD τ).loc main_arg0)
abbrev W (c : Dev nD) : (Face 1024 768).Idx → EReal := m ((c : Thread nD τ).loc main_arg1)
abbrev M (c : Dev nD) : (Face 1024 768).Idx → EReal := m ((c : Thread nD τ).loc main_arg2)
abbrev V (c : Dev nD) : (Face 1024 768).Idx → EReal := m ((c : Thread nD τ).loc main_arg3)

/-- A point's block of the parts and its block of the weight lie at the same rows. -/
theorem same_rows (t : Fin cfg0.N) (y : S256x768.Idx) (k : Fin 1) :
    (win0_0.blk t).view.emb (ix3 (n0 := 1) (n1 := 256) (n2 := 768) k (y 0) (y 1))
      = ix3 (n0 := 1) (n1 := 1024) (n2 := 768) k ((win0_4.blk t).view.emb y 0) ((win0_4.blk t).view.emb y 1) := by
  blk_ext [at_parts, at_rows]

/-- The gradient a point computes is that of its block of the parts. -/
theorem pay_grad (x0 : Vec Ideal S1x256x768 .f32) (y : S256x768.Idx) :
    k0_pay1 (View.ld x0 r0_0) y = grad (n := 1) (R := 256) (C := 768) x0 y :=
  grad_one (R := 256) (C := 768) x0 shapeCasts_S1x256x768_S256x768 y

/-- What a point computes is its rows of the results. -/
theorem point (c : Dev nD) (t : Fin cfg0.N) (y : S256x768.Idx) :
    Agree (X m c) (W m c) (M m c) (V m c) ((win0_4.blk t).view.emb y)
      (k0_pay1 (View.ld (iblk m c 0 t) r0_0) y) :=
  agree (R := 256) (same_rows t y) (pay_grad (iblk m c 0 t) y)

/-- The four arrays after the run. -/
theorem arrays (c : Dev nD) : Results (X m c) (W m c) (M m c) (V m c)
    ((dats m 0 c).arrAt 4 cfg0.N) ((dats m 0 c).arrAt 5 cfg0.N) ((dats m 0 c).arrAt 6 cfg0.N) ((dats m 0 c).arrAt 7 cfg0.N) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  · rw [after0_4, out0_4, View.canon_unit_zero whole_off]; exact (point m c t y).1
  · rw [after0_5, out0_5, View.canon_unit_zero whole_off, View.ld_unit_zero (S := S256x768) whole_off, View.ld_unit_zero (S := S256x768) whole_off, View.ld_unit_zero (S := S256x768) whole_off]; exact (point m c t y).2.1
  · rw [after0_6, out0_6, View.canon_unit_zero whole_off, View.ld_unit_zero (S := S256x768) whole_off]; exact (point m c t y).2.2.1
  · rw [after0_7, out0_7, View.canon_unit_zero whole_off, View.ld_unit_zero (S := S256x768) whole_off]; exact (point m c t y).2.2.2

theorem values : Cert.algebraic_UpdateAdaIdeal_UpdatedAdaIdeal (hUpdateAdaIdeal := Cert.UpdateAdaIdeal.Gen.facts)
    (hUpdatedAdaIdeal := Cert.UpdatedAdaIdeal.Gen.facts) := fun m g m' g' _ hagree => by
  refine ⟨fun c => grad (X m c), fun c => changes (X m c) (W m c) (M m c) (V m c), fun c => firsts (X m c) (M m c),
    fun c => seconds (X m c) (V m c),
    (θ_run defs _ _).mono (fun r h c => ⟨((h c).1 4).trans (arrays m c).1, ((h c).1 5).trans (arrays m c).2.1,
      ((h c).1 6).trans (arrays m c).2.2.1, ((h c).1 7).trans (arrays m c).2.2.2,
      ((h c).1 0).trans ((dats m 0 c).arrAt_in 0 rfl _), ((h c).1 1).trans ((dats m 0 c).arrAt_in 1 rfl _),
      ((h c).1 2).trans ((dats m 0 c).arrAt_in 2 rfl _), ((h c).1 3).trans ((dats m 0 c).arrAt_in 3 rfl _)⟩) (run_main m g),
    (θ_run Cert.UpdatedAdaIdeal.defs _ _).mono (fun r h c => ?_) (Cert.UpdatedAdaIdeal.Value.run (F := Ideal) m' g')⟩
  obtain ⟨h0, h1, h2, h3⟩ := hagree c
  obtain ⟨hg, hd, hp, hq, hargs⟩ := h c
  have hh := host (X m c) (W m c) (M m c) (V m c) Cert.UpdatedAdaIdeal.Facts₀.reducesTo_S1x1024x768_S1024x768_d0 rfl
  rw [h0] at hg
  rw [h0, h1, h2, h3] at hd
  rw [h0, h2] at hp
  rw [h0, h3] at hq
  exact ⟨hg.trans hh.1, hd.trans hh.2.1, hp.trans hh.2.2.1, hq.trans hh.2.2.2, hargs⟩

end Cert.Adam.Ada

end
-- ==== Proof.UpdateSmall.lean ====
/-
  The optimizer step of the packed small weights: the kernel and the reference leave the same four arrays.
-/
module

public import proofs.«01_k».proof.Defs
public import proofs.«01_k».proof.Proof.Adam
public import proofs.«01_k».proof.Proof.Gen.UpdateSmallIdeal.Frame
public import proofs.«01_k».proof.Proof.Gen.UpdatedSmallIdeal.Run
public import Idealize.ShloMosaic.Lib.Pipeline.ValueKit
public import Idealize.ShloMosaic.Lib.Quiescent

@[expose] public section

noncomputable section

namespace Cert.Adam.Small

open Idealize.ShloMosaic Idealize.ShloMosaic.TcCoe Idealize.SL.Sem
open Cert.UpdateSmallIdeal Cert.UpdateSmallIdeal.Gen

variable (m : (ℓ : Loc nD τ sig) → Buf (Elt Ideal) ℓ)

theorem at_parts : ∀ t : Fin cfg0.N, win0_0.index t = ![0, t.val, 0] := (by decide +kernel : ∀ t : Fin grid0.N, _)
theorem at_rows : ∀ t : Fin cfg0.N, win0_4.index t = ![t.val, 0] := (by decide +kernel : ∀ t : Fin grid0.N, _)

abbrev X (c : Dev nD) : (Slab 8 88 128).Idx → EReal := m ((c : Thread nD τ).loc main_arg0)
abbrev W (c : Dev nD) : (Face 88 128).Idx → EReal := m ((c : Thread nD τ).loc main_arg1)
abbrev M (c : Dev nD) : (Face 88 128).Idx → EReal := m ((c : Thread nD τ).loc main_arg2)
abbrev V (c : Dev nD) : (Face 88 128).Idx → EReal := m ((c : Thread nD τ).loc main_arg3)

/-- A point's block of the parts and its block of the weight lie at the same rows. -/
theorem same_rows (t : Fin cfg0.N) (y : S88x128.Idx) (k : Fin 8) :
    (win0_0.blk t).view.emb (ix3 (n0 := 8) (n1 := 88) (n2 := 128) k (y 0) (y 1))
      = ix3 (n0 := 8) (n1 := 88) (n2 := 128) k ((win0_4.blk t).view.emb y 0) ((win0_4.blk t).view.emb y 1) := by
  blk_ext [at_parts, at_rows]

/-- The gradient a point computes is that of its block of the parts. -/
theorem pay_grad (x0 : Vec Ideal S8x88x128 .f32) (x1 x2 x3 : Vec Ideal S88x128 .f32) (y : S88x128.Idx) :
    k0_pay5 x0 x1 x2 x3 y = grad (n := 8) (R := 88) (C := 128) x0 y :=
  grad_eight (R := 88) (C := 128) x0 shapeCasts_S1x88x128_S88x128 y

/-- What a point computes is its rows of the results. -/
theorem point (c : Dev nD) (t : Fin cfg0.N) (y : S88x128.Idx) :
    Agree (X m c) (W m c) (M m c) (V m c) ((win0_4.blk t).view.emb y)
      (k0_pay5 (iblk m c 0 t) (iblk m c 1 t) (iblk m c 2 t) (iblk m c 3 t) y) :=
  agree (R := 88) (same_rows t y) (pay_grad (iblk m c 0 t) _ _ _ y)

/-- The four arrays after the run. -/
theorem arrays (c : Dev nD) : Results (X m c) (W m c) (M m c) (V m c)
    ((dats m 0 c).arrAt 4 cfg0.N) ((dats m 0 c).arrAt 5 cfg0.N) ((dats m 0 c).arrAt 6 cfg0.N) ((dats m 0 c).arrAt 7 cfg0.N) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  · rw [after0_4, out0_4, View.canon_unit_zero whole_off]; exact (point m c t y).1
  · rw [after0_5, out0_5, View.canon_unit_zero whole_off, k0_pay6, View.ld_unit_zero whole_off, View.ld_unit_zero whole_off, View.ld_unit_zero whole_off]; exact (point m c t y).2.1
  · rw [after0_6, out0_6, View.canon_unit_zero whole_off, k0_pay6, View.ld_unit_zero whole_off]; exact (point m c t y).2.2.1
  · rw [after0_7, out0_7, View.canon_unit_zero whole_off, View.ld_unit_zero whole_off]; exact (point m c t y).2.2.2

theorem values : Cert.algebraic_UpdateSmallIdeal_UpdatedSmallIdeal (hUpdateSmallIdeal := Cert.UpdateSmallIdeal.Gen.facts)
    (hUpdatedSmallIdeal := Cert.UpdatedSmallIdeal.Gen.facts) := fun m g m' g' _ hagree => by
  refine ⟨fun c => grad (X m c), fun c => changes (X m c) (W m c) (M m c) (V m c), fun c => firsts (X m c) (M m c),
    fun c => seconds (X m c) (V m c),
    (θ_run defs _ _).mono (fun r h c => ⟨((h c).1 4).trans (arrays m c).1, ((h c).1 5).trans (arrays m c).2.1,
      ((h c).1 6).trans (arrays m c).2.2.1, ((h c).1 7).trans (arrays m c).2.2.2,
      ((h c).1 0).trans ((dats m 0 c).arrAt_in 0 rfl _), ((h c).1 1).trans ((dats m 0 c).arrAt_in 1 rfl _),
      ((h c).1 2).trans ((dats m 0 c).arrAt_in 2 rfl _), ((h c).1 3).trans ((dats m 0 c).arrAt_in 3 rfl _)⟩) (run_main m g),
    (θ_run Cert.UpdatedSmallIdeal.defs _ _).mono (fun r h c => ?_) (Cert.UpdatedSmallIdeal.Value.run (F := Ideal) m' g')⟩
  obtain ⟨h0, h1, h2, h3⟩ := hagree c
  obtain ⟨hg, hd, hp, hq, hargs⟩ := h c
  have hh := host (X m c) (W m c) (M m c) (V m c) Cert.UpdatedSmallIdeal.Facts₀.reducesTo_S8x88x128_S88x128_d0 rfl
  rw [h0] at hg
  rw [h0, h1, h2, h3] at hd
  rw [h0, h2] at hp
  rw [h0, h3] at hq
  exact ⟨hg.trans hh.1, hd.trans hh.2.1, hp.trans hh.2.2.1, hq.trans hh.2.2.2, hargs⟩

end Cert.Adam.Small

end
-- ==== Proof.UpdateIn.lean ====
/-
  The optimizer step of w_in: the kernel and the reference leave the same four arrays.
-/
module

public import proofs.«01_k».proof.Defs
public import proofs.«01_k».proof.Proof.Adam
public import proofs.«01_k».proof.Proof.Gen.UpdateInIdeal.Frame
public import proofs.«01_k».proof.Proof.Gen.UpdatedInIdeal.Run
public import Idealize.ShloMosaic.Lib.Pipeline.ValueKit
public import Idealize.ShloMosaic.Lib.Quiescent

@[expose] public section

noncomputable section

namespace Cert.Adam.In

open Idealize.ShloMosaic Idealize.ShloMosaic.TcCoe Idealize.SL.Sem
open Cert.UpdateInIdeal Cert.UpdateInIdeal.Gen

variable (m : (ℓ : Loc nD τ sig) → Buf (Elt Ideal) ℓ)

theorem at_parts : ∀ t : Fin cfg0.N, win0_0.index t = ![0, t.val, 0] := (by decide +kernel : ∀ t : Fin grid0.N, _)
theorem at_rows : ∀ t : Fin cfg0.N, win0_4.index t = ![t.val, 0] := (by decide +kernel : ∀ t : Fin grid0.N, _)

abbrev X (c : Dev nD) : (Slab 8 1024 545).Idx → EReal := m ((c : Thread nD τ).loc main_arg0)
abbrev W (c : Dev nD) : (Face 1024 545).Idx → EReal := m ((c : Thread nD τ).loc main_arg1)
abbrev M (c : Dev nD) : (Face 1024 545).Idx → EReal := m ((c : Thread nD τ).loc main_arg2)
abbrev V (c : Dev nD) : (Face 1024 545).Idx → EReal := m ((c : Thread nD τ).loc main_arg3)

/-- A point's block of the parts and its block of the weight lie at the same rows. -/
theorem same_rows (t : Fin cfg0.N) (y : S256x545.Idx) (k : Fin 8) :
    (win0_0.blk t).view.emb (ix3 (n0 := 8) (n1 := 256) (n2 := 545) k (y 0) (y 1))
      = ix3 (n0 := 8) (n1 := 1024) (n2 := 545) k ((win0_4.blk t).view.emb y 0) ((win0_4.blk t).view.emb y 1) := by
  blk_ext [at_parts, at_rows]

/-- The gradient a point computes is that of its block of the parts. -/
theorem pay_grad (x0 : Vec Ideal S8x256x545 .bf16) (x1 x2 x3 : Vec Ideal S256x545 .f32) (y : S256x545.Idx) :
    k0_pay5 x0 x1 x2 x3 y = grad (n := 8) (R := 256) (C := 545) x0 y :=
  grad_eight (R := 256) (C := 545) x0 shapeCasts_S1x256x545_S256x545 y

/-- What a point computes is its rows of the results. -/
theorem point (c : Dev nD) (t : Fin cfg0.N) (y : S256x545.Idx) :
    Agree (X m c) (W m c) (M m c) (V m c) ((win0_4.blk t).view.emb y)
      (k0_pay5 (iblk m c 0 t) (iblk m c 1 t) (iblk m c 2 t) (iblk m c 3 t) y) :=
  agree (R := 256) (same_rows t y) (pay_grad (iblk m c 0 t) _ _ _ y)

/-- The four arrays after the run. -/
theorem arrays (c : Dev nD) : Results (X m c) (W m c) (M m c) (V m c)
    ((dats m 0 c).arrAt 4 cfg0.N) ((dats m 0 c).arrAt 5 cfg0.N) ((dats m 0 c).arrAt 6 cfg0.N) ((dats m 0 c).arrAt 7 cfg0.N) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  · rw [after0_4, out0_4, View.canon_unit_zero whole_off]; exact (point m c t y).1
  · rw [after0_5, out0_5, View.canon_unit_zero whole_off, View.ld_unit_zero whole_off, View.ld_unit_zero whole_off, View.ld_unit_zero whole_off]; exact (point m c t y).2.1
  · rw [after0_6, out0_6, View.canon_unit_zero whole_off, View.ld_unit_zero whole_off]; exact (point m c t y).2.2.1
  · rw [after0_7, out0_7, View.canon_unit_zero whole_off, View.ld_unit_zero whole_off]; exact (point m c t y).2.2.2

theorem values : Cert.algebraic_UpdateInIdeal_UpdatedInIdeal (hUpdateInIdeal := Cert.UpdateInIdeal.Gen.facts)
    (hUpdatedInIdeal := Cert.UpdatedInIdeal.Gen.facts) := fun m g m' g' _ hagree => by
  refine ⟨fun c => grad (X m c), fun c => changes (X m c) (W m c) (M m c) (V m c), fun c => firsts (X m c) (M m c),
    fun c => seconds (X m c) (V m c),
    (θ_run defs _ _).mono (fun r h c => ⟨((h c).1 4).trans (arrays m c).1, ((h c).1 5).trans (arrays m c).2.1,
      ((h c).1 6).trans (arrays m c).2.2.1, ((h c).1 7).trans (arrays m c).2.2.2,
      ((h c).1 0).trans ((dats m 0 c).arrAt_in 0 rfl _), ((h c).1 1).trans ((dats m 0 c).arrAt_in 1 rfl _),
      ((h c).1 2).trans ((dats m 0 c).arrAt_in 2 rfl _), ((h c).1 3).trans ((dats m 0 c).arrAt_in 3 rfl _)⟩) (run_main m g),
    (θ_run Cert.UpdatedInIdeal.defs _ _).mono (fun r h c => ?_) (Cert.UpdatedInIdeal.Value.run (F := Ideal) m' g')⟩
  obtain ⟨h0, h1, h2, h3⟩ := hagree c
  obtain ⟨hg, hd, hp, hq, hargs⟩ := h c
  have hh := host (X m c) (W m c) (M m c) (V m c) Cert.UpdatedInIdeal.Facts₀.reducesTo_S8x1024x545_S1024x545_d0 rfl
  rw [h0] at hg
  rw [h0, h1, h2, h3] at hd
  rw [h0, h2] at hp
  rw [h0, h3] at hq
  exact ⟨hg.trans hh.1, hd.trans hh.2.1, hp.trans hh.2.2.1, hq.trans hh.2.2.2, hargs⟩

end Cert.Adam.In

end
-- ==== Proof.UpdateBranch.lean ====
/-
  The optimizer step of w_branch_a and w_branch_b: the kernel and the reference leave the same four arrays.
-/
module

public import proofs.«01_k».proof.Defs
public import proofs.«01_k».proof.Proof.Adam
public import proofs.«01_k».proof.Proof.Gen.UpdateBranchIdeal.Frame
public import proofs.«01_k».proof.Proof.Gen.UpdatedBranchIdeal.Run
public import Idealize.ShloMosaic.Lib.Pipeline.ValueKit
public import Idealize.ShloMosaic.Lib.Quiescent

@[expose] public section

noncomputable section

namespace Cert.Adam.Branch

open Idealize.ShloMosaic Idealize.ShloMosaic.TcCoe Idealize.SL.Sem
open Cert.UpdateBranchIdeal Cert.UpdateBranchIdeal.Gen

variable (m : (ℓ : Loc nD τ sig) → Buf (Elt Ideal) ℓ)

theorem at_parts : ∀ t : Fin cfg0.N, win0_0.index t = ![0, t.val, 0] := (by decide +kernel : ∀ t : Fin grid0.N, _)
theorem at_rows : ∀ t : Fin cfg0.N, win0_4.index t = ![t.val, 0] := (by decide +kernel : ∀ t : Fin grid0.N, _)

abbrev X (c : Dev nD) : (Slab 8 512 128).Idx → EReal := m ((c : Thread nD τ).loc main_arg0)
abbrev W (c : Dev nD) : (Face 512 128).Idx → EReal := m ((c : Thread nD τ).loc main_arg1)
abbrev M (c : Dev nD) : (Face 512 128).Idx → EReal := m ((c : Thread nD τ).loc main_arg2)
abbrev V (c : Dev nD) : (Face 512 128).Idx → EReal := m ((c : Thread nD τ).loc main_arg3)

/-- A point's block of the parts and its block of the weight lie at the same rows. -/
theorem same_rows (t : Fin cfg0.N) (y : S256x128.Idx) (k : Fin 8) :
    (win0_0.blk t).view.emb (ix3 (n0 := 8) (n1 := 256) (n2 := 128) k (y 0) (y 1))
      = ix3 (n0 := 8) (n1 := 512) (n2 := 128) k ((win0_4.blk t).view.emb y 0) ((win0_4.blk t).view.emb y 1) := by
  blk_ext [at_parts, at_rows]

/-- The gradient a point computes is that of its block of the parts. -/
theorem pay_grad (x0 : Vec Ideal S8x256x128 .bf16) (x1 x2 x3 : Vec Ideal S256x128 .f32) (y : S256x128.Idx) :
    k0_pay5 x0 x1 x2 x3 y = grad (n := 8) (R := 256) (C := 128) x0 y :=
  grad_eight (R := 256) (C := 128) x0 shapeCasts_S1x256x128_S256x128 y

/-- What a point computes is its rows of the results. -/
theorem point (c : Dev nD) (t : Fin cfg0.N) (y : S256x128.Idx) :
    Agree (X m c) (W m c) (M m c) (V m c) ((win0_4.blk t).view.emb y)
      (k0_pay5 (iblk m c 0 t) (iblk m c 1 t) (iblk m c 2 t) (iblk m c 3 t) y) :=
  agree (R := 256) (same_rows t y) (pay_grad (iblk m c 0 t) _ _ _ y)

/-- The four arrays after the run. -/
theorem arrays (c : Dev nD) : Results (X m c) (W m c) (M m c) (V m c)
    ((dats m 0 c).arrAt 4 cfg0.N) ((dats m 0 c).arrAt 5 cfg0.N) ((dats m 0 c).arrAt 6 cfg0.N) ((dats m 0 c).arrAt 7 cfg0.N) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  · rw [after0_4, out0_4, View.canon_unit_zero whole_off]; exact (point m c t y).1
  · rw [after0_5, out0_5, View.canon_unit_zero whole_off, View.ld_unit_zero whole_off, View.ld_unit_zero whole_off, View.ld_unit_zero whole_off]; exact (point m c t y).2.1
  · rw [after0_6, out0_6, View.canon_unit_zero whole_off, View.ld_unit_zero whole_off]; exact (point m c t y).2.2.1
  · rw [after0_7, out0_7, View.canon_unit_zero whole_off, View.ld_unit_zero whole_off]; exact (point m c t y).2.2.2

theorem values : Cert.algebraic_UpdateBranchIdeal_UpdatedBranchIdeal (hUpdateBranchIdeal := Cert.UpdateBranchIdeal.Gen.facts)
    (hUpdatedBranchIdeal := Cert.UpdatedBranchIdeal.Gen.facts) := fun m g m' g' _ hagree => by
  refine ⟨fun c => grad (X m c), fun c => changes (X m c) (W m c) (M m c) (V m c), fun c => firsts (X m c) (M m c),
    fun c => seconds (X m c) (V m c),
    (θ_run defs _ _).mono (fun r h c => ⟨((h c).1 4).trans (arrays m c).1, ((h c).1 5).trans (arrays m c).2.1,
      ((h c).1 6).trans (arrays m c).2.2.1, ((h c).1 7).trans (arrays m c).2.2.2,
      ((h c).1 0).trans ((dats m 0 c).arrAt_in 0 rfl _), ((h c).1 1).trans ((dats m 0 c).arrAt_in 1 rfl _),
      ((h c).1 2).trans ((dats m 0 c).arrAt_in 2 rfl _), ((h c).1 3).trans ((dats m 0 c).arrAt_in 3 rfl _)⟩) (run_main m g),
    (θ_run Cert.UpdatedBranchIdeal.defs _ _).mono (fun r h c => ?_) (Cert.UpdatedBranchIdeal.Value.run (F := Ideal) m' g')⟩
  obtain ⟨h0, h1, h2, h3⟩ := hagree c
  obtain ⟨hg, hd, hp, hq, hargs⟩ := h c
  have hh := host (X m c) (W m c) (M m c) (V m c) Cert.UpdatedBranchIdeal.Facts₀.reducesTo_S8x512x128_S512x128_d0 rfl
  rw [h0] at hg
  rw [h0, h1, h2, h3] at hd
  rw [h0, h2] at hp
  rw [h0, h3] at hq
  exact ⟨hg.trans hh.1, hd.trans hh.2.1, hp.trans hh.2.2.1, hq.trans hh.2.2.2, hargs⟩

end Cert.Adam.Branch

end
-- ==== Proof.UpdateOut.lean ====
/-
  The optimizer step of w_out: the kernel and the reference leave the same four arrays.
-/
module

public import proofs.«01_k».proof.Defs
public import proofs.«01_k».proof.Proof.Adam
public import proofs.«01_k».proof.Proof.Gen.UpdateOutIdeal.Frame
public import proofs.«01_k».proof.Proof.Gen.UpdatedOutIdeal.Run
public import Idealize.ShloMosaic.Lib.Pipeline.ValueKit
public import Idealize.ShloMosaic.Lib.Quiescent

@[expose] public section

noncomputable section

namespace Cert.Adam.Out

open Idealize.ShloMosaic Idealize.ShloMosaic.TcCoe Idealize.SL.Sem
open Cert.UpdateOutIdeal Cert.UpdateOutIdeal.Gen

variable (m : (ℓ : Loc nD τ sig) → Buf (Elt Ideal) ℓ)

theorem at_parts : ∀ t : Fin cfg0.N, win0_0.index t = ![0, t.val, 0] := (by decide +kernel : ∀ t : Fin grid0.N, _)
theorem at_rows : ∀ t : Fin cfg0.N, win0_4.index t = ![t.val, 0] := (by decide +kernel : ∀ t : Fin grid0.N, _)

abbrev X (c : Dev nD) : (Slab 8 128 1024).Idx → EReal := m ((c : Thread nD τ).loc main_arg0)
abbrev W (c : Dev nD) : (Face 128 1024).Idx → EReal := m ((c : Thread nD τ).loc main_arg1)
abbrev M (c : Dev nD) : (Face 128 1024).Idx → EReal := m ((c : Thread nD τ).loc main_arg2)
abbrev V (c : Dev nD) : (Face 128 1024).Idx → EReal := m ((c : Thread nD τ).loc main_arg3)

/-- A point's block of the parts and its block of the weight lie at the same rows. -/
theorem same_rows (t : Fin cfg0.N) (y : S128x1024.Idx) (k : Fin 8) :
    (win0_0.blk t).view.emb (ix3 (n0 := 8) (n1 := 128) (n2 := 1024) k (y 0) (y 1))
      = ix3 (n0 := 8) (n1 := 128) (n2 := 1024) k ((win0_4.blk t).view.emb y 0) ((win0_4.blk t).view.emb y 1) := by
  blk_ext [at_parts, at_rows]

/-- The gradient a point computes is that of its block of the parts. -/
theorem pay_grad (x0 : Vec Ideal S8x128x1024 .bf16) (x1 x2 x3 : Vec Ideal S128x1024 .f32) (y : S128x1024.Idx) :
    k0_pay5 x0 x1 x2 x3 y = grad (n := 8) (R := 128) (C := 1024) x0 y :=
  grad_eight (R := 128) (C := 1024) x0 shapeCasts_S1x128x1024_S128x1024 y

/-- What a point computes is its rows of the results. -/
theorem point (c : Dev nD) (t : Fin cfg0.N) (y : S128x1024.Idx) :
    Agree (X m c) (W m c) (M m c) (V m c) ((win0_4.blk t).view.emb y)
      (k0_pay5 (iblk m c 0 t) (iblk m c 1 t) (iblk m c 2 t) (iblk m c 3 t) y) :=
  agree (R := 128) (same_rows t y) (pay_grad (iblk m c 0 t) _ _ _ y)

/-- The four arrays after the run. -/
theorem arrays (c : Dev nD) : Results (X m c) (W m c) (M m c) (V m c)
    ((dats m 0 c).arrAt 4 cfg0.N) ((dats m 0 c).arrAt 5 cfg0.N) ((dats m 0 c).arrAt 6 cfg0.N) ((dats m 0 c).arrAt 7 cfg0.N) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  · rw [after0_4, out0_4, View.canon_unit_zero whole_off]; exact (point m c t y).1
  · rw [after0_5, out0_5, View.canon_unit_zero whole_off, View.ld_unit_zero whole_off, View.ld_unit_zero whole_off, View.ld_unit_zero whole_off]; exact (point m c t y).2.1
  · rw [after0_6, out0_6, View.canon_unit_zero whole_off, View.ld_unit_zero whole_off]; exact (point m c t y).2.2.1
  · rw [after0_7, out0_7, View.canon_unit_zero whole_off, View.ld_unit_zero whole_off]; exact (point m c t y).2.2.2

theorem values : Cert.algebraic_UpdateOutIdeal_UpdatedOutIdeal (hUpdateOutIdeal := Cert.UpdateOutIdeal.Gen.facts)
    (hUpdatedOutIdeal := Cert.UpdatedOutIdeal.Gen.facts) := fun m g m' g' _ hagree => by
  refine ⟨fun c => grad (X m c), fun c => changes (X m c) (W m c) (M m c) (V m c), fun c => firsts (X m c) (M m c),
    fun c => seconds (X m c) (V m c),
    (θ_run defs _ _).mono (fun r h c => ⟨((h c).1 4).trans (arrays m c).1, ((h c).1 5).trans (arrays m c).2.1,
      ((h c).1 6).trans (arrays m c).2.2.1, ((h c).1 7).trans (arrays m c).2.2.2,
      ((h c).1 0).trans ((dats m 0 c).arrAt_in 0 rfl _), ((h c).1 1).trans ((dats m 0 c).arrAt_in 1 rfl _),
      ((h c).1 2).trans ((dats m 0 c).arrAt_in 2 rfl _), ((h c).1 3).trans ((dats m 0 c).arrAt_in 3 rfl _)⟩) (run_main m g),
    (θ_run Cert.UpdatedOutIdeal.defs _ _).mono (fun r h c => ?_) (Cert.UpdatedOutIdeal.Value.run (F := Ideal) m' g')⟩
  obtain ⟨h0, h1, h2, h3⟩ := hagree c
  obtain ⟨hg, hd, hp, hq, hargs⟩ := h c
  have hh := host (X m c) (W m c) (M m c) (V m c) Cert.UpdatedOutIdeal.Facts₀.reducesTo_S8x128x1024_S128x1024_d0 rfl
  rw [h0] at hg
  rw [h0, h1, h2, h3] at hd
  rw [h0, h2] at hp
  rw [h0, h3] at hq
  exact ⟨hg.trans hh.1, hd.trans hh.2.1, hp.trans hh.2.2.1, hq.trans hh.2.2.2, hargs⟩

end Cert.Adam.Out

end
-- ==== Proof.UpdateFfnIn.lean ====
/-
  The optimizer step of w_ffn_in: the kernel and the reference leave the same four arrays.
-/
module

public import proofs.«01_k».proof.Defs
public import proofs.«01_k».proof.Proof.Adam
public import proofs.«01_k».proof.Proof.Gen.UpdateFfnInIdeal.Frame
public import proofs.«01_k».proof.Proof.Gen.UpdatedFfnInIdeal.Run
public import Idealize.ShloMosaic.Lib.Pipeline.ValueKit
public import Idealize.ShloMosaic.Lib.Quiescent

@[expose] public section

noncomputable section

namespace Cert.Adam.FfnIn

open Idealize.ShloMosaic Idealize.ShloMosaic.TcCoe Idealize.SL.Sem
open Cert.UpdateFfnInIdeal Cert.UpdateFfnInIdeal.Gen

variable (m : (ℓ : Loc nD τ sig) → Buf (Elt Ideal) ℓ)

theorem at_parts : ∀ t : Fin cfg0.N, win0_0.index t = ![0, t.val, 0] := (by decide +kernel : ∀ t : Fin grid0.N, _)
theorem at_rows : ∀ t : Fin cfg0.N, win0_4.index t = ![t.val, 0] := (by decide +kernel : ∀ t : Fin grid0.N, _)

abbrev X (c : Dev nD) : (Slab 8 1024 704).Idx → EReal := m ((c : Thread nD τ).loc main_arg0)
abbrev W (c : Dev nD) : (Face 1024 704).Idx → EReal := m ((c : Thread nD τ).loc main_arg1)
abbrev M (c : Dev nD) : (Face 1024 704).Idx → EReal := m ((c : Thread nD τ).loc main_arg2)
abbrev V (c : Dev nD) : (Face 1024 704).Idx → EReal := m ((c : Thread nD τ).loc main_arg3)

/-- A point's block of the parts and its block of the weight lie at the same rows. -/
theorem same_rows (t : Fin cfg0.N) (y : S256x704.Idx) (k : Fin 8) :
    (win0_0.blk t).view.emb (ix3 (n0 := 8) (n1 := 256) (n2 := 704) k (y 0) (y 1))
      = ix3 (n0 := 8) (n1 := 1024) (n2 := 704) k ((win0_4.blk t).view.emb y 0) ((win0_4.blk t).view.emb y 1) := by
  blk_ext [at_parts, at_rows]

/-- The gradient a point computes is that of its block of the parts. -/
theorem pay_grad (x0 : Vec Ideal S8x256x704 .bf16) (x1 x2 x3 : Vec Ideal S256x704 .f32) (y : S256x704.Idx) :
    k0_pay5 x0 x1 x2 x3 y = grad (n := 8) (R := 256) (C := 704) x0 y :=
  grad_eight (R := 256) (C := 704) x0 shapeCasts_S1x256x704_S256x704 y

/-- What a point computes is its rows of the results. -/
theorem point (c : Dev nD) (t : Fin cfg0.N) (y : S256x704.Idx) :
    Agree (X m c) (W m c) (M m c) (V m c) ((win0_4.blk t).view.emb y)
      (k0_pay5 (iblk m c 0 t) (iblk m c 1 t) (iblk m c 2 t) (iblk m c 3 t) y) :=
  agree (R := 256) (same_rows t y) (pay_grad (iblk m c 0 t) _ _ _ y)

/-- The four arrays after the run. -/
theorem arrays (c : Dev nD) : Results (X m c) (W m c) (M m c) (V m c)
    ((dats m 0 c).arrAt 4 cfg0.N) ((dats m 0 c).arrAt 5 cfg0.N) ((dats m 0 c).arrAt 6 cfg0.N) ((dats m 0 c).arrAt 7 cfg0.N) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  · rw [after0_4, out0_4, View.canon_unit_zero whole_off]; exact (point m c t y).1
  · rw [after0_5, out0_5, View.canon_unit_zero whole_off, View.ld_unit_zero whole_off, View.ld_unit_zero whole_off, View.ld_unit_zero whole_off]; exact (point m c t y).2.1
  · rw [after0_6, out0_6, View.canon_unit_zero whole_off, View.ld_unit_zero whole_off]; exact (point m c t y).2.2.1
  · rw [after0_7, out0_7, View.canon_unit_zero whole_off, View.ld_unit_zero whole_off]; exact (point m c t y).2.2.2

theorem values : Cert.algebraic_UpdateFfnInIdeal_UpdatedFfnInIdeal (hUpdateFfnInIdeal := Cert.UpdateFfnInIdeal.Gen.facts)
    (hUpdatedFfnInIdeal := Cert.UpdatedFfnInIdeal.Gen.facts) := fun m g m' g' _ hagree => by
  refine ⟨fun c => grad (X m c), fun c => changes (X m c) (W m c) (M m c) (V m c), fun c => firsts (X m c) (M m c),
    fun c => seconds (X m c) (V m c),
    (θ_run defs _ _).mono (fun r h c => ⟨((h c).1 4).trans (arrays m c).1, ((h c).1 5).trans (arrays m c).2.1,
      ((h c).1 6).trans (arrays m c).2.2.1, ((h c).1 7).trans (arrays m c).2.2.2,
      ((h c).1 0).trans ((dats m 0 c).arrAt_in 0 rfl _), ((h c).1 1).trans ((dats m 0 c).arrAt_in 1 rfl _),
      ((h c).1 2).trans ((dats m 0 c).arrAt_in 2 rfl _), ((h c).1 3).trans ((dats m 0 c).arrAt_in 3 rfl _)⟩) (run_main m g),
    (θ_run Cert.UpdatedFfnInIdeal.defs _ _).mono (fun r h c => ?_) (Cert.UpdatedFfnInIdeal.Value.run (F := Ideal) m' g')⟩
  obtain ⟨h0, h1, h2, h3⟩ := hagree c
  obtain ⟨hg, hd, hp, hq, hargs⟩ := h c
  have hh := host (X m c) (W m c) (M m c) (V m c) Cert.UpdatedFfnInIdeal.Facts₀.reducesTo_S8x1024x704_S1024x704_d0 rfl
  rw [h0] at hg
  rw [h0, h1, h2, h3] at hd
  rw [h0, h2] at hp
  rw [h0, h3] at hq
  exact ⟨hg.trans hh.1, hd.trans hh.2.1, hp.trans hh.2.2.1, hq.trans hh.2.2.2, hargs⟩

end Cert.Adam.FfnIn

end
-- ==== Proof.UpdateFfnOut.lean ====
/-
  The optimizer step of w_ffn_out: the kernel and the reference leave the same four arrays.
-/
module

public import proofs.«01_k».proof.Defs
public import proofs.«01_k».proof.Proof.Adam
public import proofs.«01_k».proof.Proof.Gen.UpdateFfnOutIdeal.Frame
public import proofs.«01_k».proof.Proof.Gen.UpdatedFfnOutIdeal.Run
public import Idealize.ShloMosaic.Lib.Pipeline.ValueKit
public import Idealize.ShloMosaic.Lib.Quiescent

@[expose] public section

noncomputable section

namespace Cert.Adam.FfnOut

open Idealize.ShloMosaic Idealize.ShloMosaic.TcCoe Idealize.SL.Sem
open Cert.UpdateFfnOutIdeal Cert.UpdateFfnOutIdeal.Gen

variable (m : (ℓ : Loc nD τ sig) → Buf (Elt Ideal) ℓ)

theorem at_parts : ∀ t : Fin cfg0.N, win0_0.index t = ![0, t.val, 0] := (by decide +kernel : ∀ t : Fin grid0.N, _)
theorem at_rows : ∀ t : Fin cfg0.N, win0_4.index t = ![t.val, 0] := (by decide +kernel : ∀ t : Fin grid0.N, _)

abbrev X (c : Dev nD) : (Slab 8 352 1024).Idx → EReal := m ((c : Thread nD τ).loc main_arg0)
abbrev W (c : Dev nD) : (Face 352 1024).Idx → EReal := m ((c : Thread nD τ).loc main_arg1)
abbrev M (c : Dev nD) : (Face 352 1024).Idx → EReal := m ((c : Thread nD τ).loc main_arg2)
abbrev V (c : Dev nD) : (Face 352 1024).Idx → EReal := m ((c : Thread nD τ).loc main_arg3)

/-- A point's block of the parts and its block of the weight lie at the same rows. -/
theorem same_rows (t : Fin cfg0.N) (y : S176x1024.Idx) (k : Fin 8) :
    (win0_0.blk t).view.emb (ix3 (n0 := 8) (n1 := 176) (n2 := 1024) k (y 0) (y 1))
      = ix3 (n0 := 8) (n1 := 352) (n2 := 1024) k ((win0_4.blk t).view.emb y 0) ((win0_4.blk t).view.emb y 1) := by
  blk_ext [at_parts, at_rows]

/-- The gradient a point computes is that of its block of the parts. -/
theorem pay_grad (x0 : Vec Ideal S8x176x1024 .bf16) (x1 x2 x3 : Vec Ideal S176x1024 .f32) (y : S176x1024.Idx) :
    k0_pay5 x0 x1 x2 x3 y = grad (n := 8) (R := 176) (C := 1024) x0 y :=
  grad_eight (R := 176) (C := 1024) x0 shapeCasts_S1x176x1024_S176x1024 y

/-- What a point computes is its rows of the results. -/
theorem point (c : Dev nD) (t : Fin cfg0.N) (y : S176x1024.Idx) :
    Agree (X m c) (W m c) (M m c) (V m c) ((win0_4.blk t).view.emb y)
      (k0_pay5 (iblk m c 0 t) (iblk m c 1 t) (iblk m c 2 t) (iblk m c 3 t) y) :=
  agree (R := 176) (same_rows t y) (pay_grad (iblk m c 0 t) _ _ _ y)

/-- The four arrays after the run. -/
theorem arrays (c : Dev nD) : Results (X m c) (W m c) (M m c) (V m c)
    ((dats m 0 c).arrAt 4 cfg0.N) ((dats m 0 c).arrAt 5 cfg0.N) ((dats m 0 c).arrAt 6 cfg0.N) ((dats m 0 c).arrAt 7 cfg0.N) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_⟩ <;> blk_simp
  · rw [after0_4, out0_4, View.canon_unit_zero whole_off]; exact (point m c t y).1
  · rw [after0_5, out0_5, View.canon_unit_zero whole_off, View.ld_unit_zero whole_off, View.ld_unit_zero whole_off, View.ld_unit_zero whole_off]; exact (point m c t y).2.1
  · rw [after0_6, out0_6, View.canon_unit_zero whole_off, View.ld_unit_zero whole_off]; exact (point m c t y).2.2.1
  · rw [after0_7, out0_7, View.canon_unit_zero whole_off, View.ld_unit_zero whole_off]; exact (point m c t y).2.2.2

theorem values : Cert.algebraic_UpdateFfnOutIdeal_UpdatedFfnOutIdeal (hUpdateFfnOutIdeal := Cert.UpdateFfnOutIdeal.Gen.facts)
    (hUpdatedFfnOutIdeal := Cert.UpdatedFfnOutIdeal.Gen.facts) := fun m g m' g' _ hagree => by
  refine ⟨fun c => grad (X m c), fun c => changes (X m c) (W m c) (M m c) (V m c), fun c => firsts (X m c) (M m c),
    fun c => seconds (X m c) (V m c),
    (θ_run defs _ _).mono (fun r h c => ⟨((h c).1 4).trans (arrays m c).1, ((h c).1 5).trans (arrays m c).2.1,
      ((h c).1 6).trans (arrays m c).2.2.1, ((h c).1 7).trans (arrays m c).2.2.2,
      ((h c).1 0).trans ((dats m 0 c).arrAt_in 0 rfl _), ((h c).1 1).trans ((dats m 0 c).arrAt_in 1 rfl _),
      ((h c).1 2).trans ((dats m 0 c).arrAt_in 2 rfl _), ((h c).1 3).trans ((dats m 0 c).arrAt_in 3 rfl _)⟩) (run_main m g),
    (θ_run Cert.UpdatedFfnOutIdeal.defs _ _).mono (fun r h c => ?_) (Cert.UpdatedFfnOutIdeal.Value.run (F := Ideal) m' g')⟩
  obtain ⟨h0, h1, h2, h3⟩ := hagree c
  obtain ⟨hg, hd, hp, hq, hargs⟩ := h c
  have hh := host (X m c) (W m c) (M m c) (V m c) Cert.UpdatedFfnOutIdeal.Facts₀.reducesTo_S8x352x1024_S352x1024_d0 rfl
  rw [h0] at hg
  rw [h0, h1, h2, h3] at hd
  rw [h0, h2] at hp
  rw [h0, h3] at hq
  exact ⟨hg.trans hh.1, hd.trans hh.2.1, hp.trans hh.2.2.1, hq.trans hh.2.2.2, hargs⟩

end Cert.Adam.FfnOut

end
-- ==== Proof.Prenorm.lean ====
/-
  The backward pass of the first normalisation: the gradient of the rows that enter the step, and the sums over the rows that
  are the gradients of the shift, of the scale and of the weight. The kernel takes the rows in blocks and adds the blocks'
  sums one after another; the reference is the forward pass differentiated.
-/
module

public import proofs.«01_k».proof.Defs
public import proofs.«01_k».proof.Proof.Adam
public import proofs.«01_k».proof.Proof.Gen.PrenormIdeal.Frame
public import proofs.«01_k».proof.Proof.Gen.PrenormIdeal.Value
public import proofs.«01_k».proof.Proof.Gen.PrenormedIdeal.Run
public import Idealize.ShloMosaic.Lib.Pipeline.ValueKit
public import Idealize.ShloMosaic.Lib.Pointwise
public import Idealize.ShloMosaic.Lib.WritesUnit

@[expose] public section

noncomputable section

namespace Cert.Norm
open Idealize.ShloMosaic Idealize.ShloMosaic.TcCoe Idealize.SL.Sem
open Cert.Adam (Face)

/-! ## Extended reals -/

theorem count_word : Ideal.ofBits .f32 0x44800000#32 = ((1024 : ℝ) : EReal) := by
  simp [Ideal.ofBits, Ideal.ieee, -EReal.coe_mul]; norm_num

theorem half_word : Ideal.ofBits .f32 0xBF000000#32 = ((-(1 / 2) : ℝ) : EReal) := by
  simp [Ideal.ofBits, Ideal.ieee, -EReal.coe_mul]; norm_num

theorem eps_word : ∃ e : ℝ, 0 < e ∧ Ideal.ofBits .f32 0x358637BD#32 = (e : EReal) := by
  refine ⟨_, ?_, by simp [Ideal.ofBits, Ideal.ieee, -EReal.coe_mul]; rfl⟩
  norm_num

/-- The number of columns and the constant under the root, as the programs' words. -/
abbrev K : EReal := Ideal.ofBits .f32 0x44800000#32
abbrev E : EReal := Ideal.ofBits .f32 0x358637BD#32

theorem div_count (a : EReal) : Ideal.div a K = a * ((1 / 1024 : ℝ) : EReal) := by
  rw [K, count_word, Ideal.div_coe (by norm_num)]

theorem square_nonneg (a : EReal) : 0 ≤ a * a := by
  induction a with
  | bot => simp
  | top => simp
  | coe r => exact_mod_cast mul_self_nonneg r

/-- The mean of squares, with the constant, is positive: a positive real or infinite. -/
theorem mean_pos {n : Nat} (x : Fin n → EReal) : 0 < Ideal.div (∑ k, x k * x k) K + E := by
  obtain ⟨e, he, hE⟩ := eps_word
  rw [div_count, E, hE]
  have h0 : 0 ≤ (∑ k, x k * x k) * ((1 / 1024 : ℝ) : EReal) :=
    mul_nonneg (Finset.sum_nonneg fun k _ => square_nonneg (x k)) (by exact_mod_cast (by norm_num : (0 : ℝ) ≤ 1 / 1024))
  exact lt_of_lt_of_le (by exact_mod_cast he) (le_add_of_nonneg_left h0)

/-- The cube of a reciprocal root is the root over the number. -/
theorem cube {v : EReal} (hv : 0 < v) : Ideal.div (Ideal.rsqrt v) v = Ideal.rsqrt v * Ideal.rsqrt v * Ideal.rsqrt v := by
  induction v with
  | bot => simp at hv
  | top => simp [Ideal.div]
  | coe r =>
    have hr : 0 < r := by exact_mod_cast hv
    rw [Ideal.div_coe hr.ne', Ideal.rsqrt_coe, if_neg hr.le.not_gt, if_neg hr.ne', ← EReal.coe_mul, ← EReal.coe_mul, ← EReal.coe_mul]
    congr 1
    rw [one_div, mul_assoc, ← mul_inv √r √r, Real.mul_self_sqrt hr.le]

/-- Two halves of a number, taken away. -/
theorem halves (w : EReal) : w * Ideal.ofBits .f32 0xBF000000#32 + w * Ideal.ofBits .f32 0xBF000000#32 = -w := by
  rw [half_word]
  induction w with
  | bot => rw [EReal.bot_mul_coe_of_neg (by norm_num)]; simp
  | top => rw [EReal.top_mul_coe_of_neg (by norm_num)]; simp
  | coe r => norm_cast; ring_nf

/-- The gradient of an element as the kernel and as the reference compute it. -/
theorem gradient (d u x r q S : EReal) :
    d + u * r + x * Ideal.div (S * (Ideal.ofBits .f32 0xBF000000#32 * q)) K
        + Ideal.div (S * (Ideal.ofBits .f32 0xBF000000#32 * q)) K * x
      = d + (r * u - x * q * Ideal.div S K) := by
  have h : x * Ideal.div (S * (Ideal.ofBits .f32 0xBF000000#32 * q)) K
      = x * q * Ideal.div S K * Ideal.ofBits .f32 0xBF000000#32 := by rw [div_count, div_count]; ac_rfl
  rw [mul_comm (Ideal.div _ _) x, h, add_assoc, halves, add_assoc, sub_eq_add_neg, mul_comm u]

/-! ## The formulas -/

variable {R : Nat}

/-- The reciprocal root of a row's mean of squares. -/
def rs (X : (Face R 1024).Idx → EReal) (r : Fin R) : EReal :=
  Ideal.rsqrt (Ideal.div (∑ k : Fin 1024, X (ix2 r k) * X (ix2 r k)) K + E)

/-- The gradient of an element of the rows, from the gradient `H` of the result, the rows `X`, the weight `G`, the scale
    `S` and the gradient `D` of the residual. -/
def rows (H X : (Face R 1024).Idx → EReal) (G S : (Face 1 1024).Idx → EReal) (D : (Face R 1024).Idx → EReal)
    (r : Fin R) (j : Fin 1024) : EReal :=
  D (ix2 r j) + (rs X r * (H (ix2 r j) * (1 + S (ix2 0 j)) * G (ix2 0 j))
    - X (ix2 r j) * (rs X r * rs X r * rs X r)
      * Ideal.div (∑ k : Fin 1024, H (ix2 r k) * (1 + S (ix2 0 k)) * G (ix2 0 k) * X (ix2 r k)) K)

/-- What row `r` adds to row `k` of the sums: the gradients of the shift, of the scale and of the weight, and zeros. -/
def term (H X : (Face R 1024).Idx → EReal) (G S : (Face 1 1024).Idx → EReal) (k : Nat) (j : Fin 1024) (r : Fin R) : EReal :=
  if k = 2 then H (ix2 r j) * (1 + S (ix2 0 j)) * (X (ix2 r j) * rs X r)
  else if k = 1 then H (ix2 r j) * (X (ix2 r j) * rs X r * G (ix2 0 j))
  else if k = 0 then H (ix2 r j)
  else 0

/-- The sums over the rows. -/
def sums (H X : (Face R 1024).Idx → EReal) (G S : (Face 1 1024).Idx → EReal) (k : Nat) (j : Fin 1024) : EReal :=
  ∑ r : Fin R, term H X G S k j r

/-- The other rows get zeros. -/
theorem add_rest (H X : (Face R 1024).Idx → EReal) (G S : (Face 1 1024).Idx → EReal) {k : Nat} (j : Fin 1024)
    (h2 : k ≠ 2) (h1 : k ≠ 1) (h0 : k ≠ 0) {a : EReal} : a = a + sums H X G S k j := by
  simp [sums, term, h2, h1, h0]

/-- The four pieces laid one after another along the first axis are the rows of the sums. -/
theorem ladder (H X : (Face R 1024).Idx → EReal) (G S : (Face 1 1024).Idx → EReal) (k : Nat) (j : Fin 1024) :
    (if k < 1 then ∑ r : Fin R, H (ix2 r j)
      else if k - 1 < 1 then ∑ r : Fin R, X (ix2 r j) * rs X r * G (ix2 0 j) * H (ix2 r j)
      else if k - 1 - 1 < 1 then ∑ r : Fin R, X (ix2 r j) * rs X r * (H (ix2 r j) * (1 + S (ix2 0 j)))
      else 0) = sums H X G S k j := by
  match k with
  | 0 => rfl
  | 1 =>
    show (∑ r : Fin R, X (ix2 r j) * rs X r * G (ix2 0 j) * H (ix2 r j))
      = ∑ r : Fin R, H (ix2 r j) * (X (ix2 r j) * rs X r * G (ix2 0 j))
    exact Finset.sum_congr (M := EReal) rfl fun r _ => mul_comm (X (ix2 r j) * rs X r * G (ix2 0 j)) (H (ix2 r j))
  | 2 =>
    show (∑ r : Fin R, X (ix2 r j) * rs X r * (H (ix2 r j) * (1 + S (ix2 0 j))))
      = ∑ r : Fin R, H (ix2 r j) * (1 + S (ix2 0 j)) * (X (ix2 r j) * rs X r)
    exact Finset.sum_congr (M := EReal) rfl fun r _ => mul_comm (X (ix2 r j) * rs X r) (H (ix2 r j) * (1 + S (ix2 0 j)))
  | n + 3 => exact (Finset.sum_eq_zero (M := EReal) fun r _ => rfl).symm

/-- The gradient of the rows as the reference computes it. -/
theorem gradients (H X : (Face R 1024).Idx → EReal) (G S : (Face 1 1024).Idx → EReal) (D : (Face R 1024).Idx → EReal)
    (r : Fin R) (j : Fin 1024) (q : EReal)
    (hq : q = Ideal.div ((∑ k : Fin 1024, X (ix2 r k) * (H (ix2 r k) * (1 + S (ix2 0 k)) * G (ix2 0 k)))
      * (Ideal.ofBits .f32 0xBF000000#32
        * Ideal.div (rs X r) (Ideal.div (∑ k : Fin 1024, X (ix2 r k) * X (ix2 r k)) K + E))) K) :
    D (ix2 r j) + H (ix2 r j) * (1 + S (ix2 0 j)) * G (ix2 0 j) * rs X r + X (ix2 r j) * q + q * X (ix2 r j)
      = rows H X G S D r j := by
  have hs : ∑ k : Fin 1024, X (ix2 r k) * (H (ix2 r k) * (1 + S (ix2 0 k)) * G (ix2 0 k))
      = ∑ k : Fin 1024, H (ix2 r k) * (1 + S (ix2 0 k)) * G (ix2 0 k) * X (ix2 r k) :=
    Finset.sum_congr rfl fun k _ => mul_comm _ _
  rw [hq, hs, rs, cube (mean_pos fun k : Fin 1024 => X (ix2 r k))]
  exact gradient _ _ _ _ _ _

/-- The row of the arrays under row `r` of point `t`'s block, for eight points of 512 rows. -/
def under {N : Nat} (hN : N = 8) (t : Fin N) (r : Fin 512) : Fin 4096 := ⟨t.val * 512 + r.val, by have := t.isLt; have := r.isLt; omega⟩

theorem under_val {N : Nat} (hN : N = 8) (t : Fin N) (r : Fin 512) : (under hN t r : Nat) = t.val * 512 + r.val := rfl

/-! ## The kernel's payloads -/

section Kernel
open Cert.PrenormIdeal Cert.PrenormIdeal.Gen

theorem pay_rows (x0 x1 x4 : Vec Ideal S512x1024 .f32) (x2 x3 : Vec Ideal S1x1024 .f32) (r : Fin 512) (j : Fin 1024) :
    k0_pay2 x1 (k0_pay4 x1) (k0_pay6 x0 x3) x4 x2 (ix2 (n0 := 512) (n1 := 1024) r j) = rows (R := 512) x0 x1 x2 x3 x4 r j := by
  pointwise [k0_pay2, k0_pay4, k0_pay6]; rfl

/-- A row of the sums after a point, from what it held before. -/
theorem pay_shift (x0 x1 : Vec Ideal S512x1024 .f32) (b x2 x3 : Vec Ideal S1x1024 .f32) (j : Fin 1024) {k : Nat} (hk : k = 0)
    {a : EReal} (ha : b (ix2 (n0 := 1) (n1 := 1024) 0 j) = a) :
    k0_pay7 x0 b (ix2 (n0 := 1) (n1 := 1024) 0 j) = a + sums (R := 512) x0 x1 x2 x3 k j := by
  subst hk ha
  pointwise [k0_pay7]; rfl

theorem pay_scale (x0 x1 : Vec Ideal S512x1024 .f32) (b x2 x3 : Vec Ideal S1x1024 .f32) (j : Fin 1024) {k : Nat} (hk : k = 1)
    {a : EReal} (ha : b (ix2 (n0 := 1) (n1 := 1024) 0 j) = a) :
    k0_pay8 x0 x1 b x2 (ix2 (n0 := 1) (n1 := 1024) 0 j) = a + sums (R := 512) x0 x1 x2 x3 k j := by
  subst hk ha
  pointwise [k0_pay8, k0_pay5, k0_pay4]; rfl

theorem pay_weight (x0 x1 : Vec Ideal S512x1024 .f32) (b x2 x3 : Vec Ideal S1x1024 .f32) (j : Fin 1024) {k : Nat} (hk : k = 2)
    {a : EReal} (ha : b (ix2 (n0 := 1) (n1 := 1024) 0 j) = a) :
    k0_pay1 (k0_pay5 x1) (k0_pay6 x0 x3) b (ix2 (n0 := 1) (n1 := 1024) 0 j) = a + sums (R := 512) x0 x1 x2 x3 k j := by
  subst hk ha
  pointwise [k0_pay1, k0_pay5, k0_pay6, k0_pay4]; rfl

theorem pay_zero (y : S8x1024.Idx) : k0_pay3 (F := Ideal) y = (0 : EReal) := by
  pointwise [k0_pay3]

end Kernel

/-! ## One row of the sums stored -/

section Stored
variable {sig : RefSig} {κ : Kind} {sp : Space} {e : EltTy} {Val : EltTy → Type}

theorem read_row (v : View sig κ sp (Face 8 1024) e) (f : v.ty.Contents Val) (k : Nat) (inb)
    (w : (Face 1 1024).Idx → Val e) (L : List (View.Piece Val (Face 8 1024) e)) (y : (Face 8 1024).Idx) :
    v.read Val (v.writes Val f ((⟨Rect.unit (s := Face 8 1024) ![k, 0] ![1, 1024] inb, w⟩ : View.Piece Val (Face 8 1024) e) :: L)) y
      = if (y 0).val = k then w (ix2 0 (y 1)) else v.read Val (v.writes Val f L) y := by
  split
  · next h => exact View.read_writes_cons_rows_of_mem v f inb w L y (ix2 0 (y 1)) rfl h rfl
  · next h => exact View.read_writes_cons_rows_of_not_mem (W := 1) v f inb w L y rfl rfl (by omega)

theorem canon_row [∀ e, Nonempty (Val e)] (v : View sig κ sp (Face 8 1024) e) (k : Nat) (inb)
    (w : (Face 1 1024).Idx → Val e) (L : List (View.Piece Val (Face 8 1024) e)) (y : (Face 8 1024).Idx) :
    View.canon ((⟨Rect.unit (s := Face 8 1024) ![k, 0] ![1, 1024] inb, w⟩ : View.Piece Val (Face 8 1024) e) :: L) y
      = if (y 0).val = k then w (ix2 0 (y 1)) else View.canon L y := by
  rw [← View.read_writes_junk_apply_eq_canon v, read_row, View.read_writes_junk_apply_eq_canon]

theorem ld_row (old : (Face 8 1024).Idx → Val e) (k : Nat) (inb) (y : (Face 8 1024).Idx) (h : (y 0).val = k) :
    View.ld old (Rect.unit (s := Face 8 1024) ![k, 0] ![1, 1024] inb) (ix2 (n0 := 1) (n1 := 1024) 0 (y 1)) = old y :=
  congrArg old (by idx_ext)

theorem load_row [∀ e, Nonempty (Val e)] (v : View sig κ sp (Face 8 1024) e) (k : Nat) (inb)
    (L : List (View.Piece Val (Face 8 1024) e)) (y : (Face 8 1024).Idx) (h : (y 0).val = k) :
    v.readCov L (Rect.unit (s := Face 8 1024) ![k, 0] ![1, 1024] inb).toLoadRect (ix2 (n0 := 1) (n1 := 1024) 0 (y 1))
      = View.canon L y := by
  rw [View.readCov_eq_canon']
  exact congrArg _ (by idx_ext)

end Stored

/-! ## The sums after a point -/

section Summed
variable {sig : RefSig} {κ : Kind} {sp : Space} (v : View sig κ sp (Face 8 1024) .f32) {R : Nat} {H X : (Face R 1024).Idx → EReal}
  {G S : (Face 1 1024).Idx → EReal} (p0 p1 p2 : Vec Ideal (Face 1 1024) .f32 → Vec Ideal (Face 1 1024) .f32)

/-- A row of the sums, as a place to load and store. -/
abbrev rowAt (k : Nat) (inb) := Rect.unit (s := Face 8 1024) ![k, 0] ![1, 1024] inb

/-- What is stored in row `n` adds the row of the sums to what was loaded. -/
def Adds (H X : (Face R 1024).Idx → EReal) (G S : (Face 1 1024).Idx → EReal) (n : Nat)
    (p : Vec Ideal (Face 1 1024) .f32 → Vec Ideal (Face 1 1024) .f32) : Prop :=
  ∀ (b : Vec Ideal (Face 1 1024) .f32) (j : Fin 1024) {k : Nat} (_ : k = n) {a : EReal} (_ : b (ix2 (n0 := 1) (n1 := 1024) 0 j) = a),
    p b (ix2 (n0 := 1) (n1 := 1024) 0 j) = a + sums H X G S k j

variable {p0 p1 p2} (h0 : Adds H X G S 0 p0) (h1 : Adds H X G S 1 p1) (h2 : Adds H X G S 2 p2) (y : (Face 8 1024).Idx)
include h0 h1 h2

/-- From zero: the three rows added to one after another, each loaded from what is stored so far. -/
theorem first_point {z : Vec Ideal (Face 8 1024) .f32} (hz : ∀ y, z y = (0 : EReal)) (i0 i1 i2 iz) :
    let Z : View.Piece (Elt Ideal) (Face 8 1024) .f32 := ⟨Rect.unit (s := Face 8 1024) ![0, 0] ![8, 1024] iz, z⟩
    let A : View.Piece (Elt Ideal) (Face 8 1024) .f32 := ⟨rowAt 0 i0, p0 (v.readCov [Z] (rowAt 0 i0).toLoadRect)⟩
    let B : View.Piece (Elt Ideal) (Face 8 1024) .f32 := ⟨rowAt 1 i1, p1 (v.readCov [A, Z] (rowAt 1 i1).toLoadRect)⟩
    let C : View.Piece (Elt Ideal) (Face 8 1024) .f32 := ⟨rowAt 2 i2, p2 (v.readCov [B, A, Z] (rowAt 2 i2).toLoadRect)⟩
    View.canon [C, B, A, Z] y = (0 : EReal) + sums H X G S (y 0).val (y 1) := by
  dsimp only
  refine (canon_row v 2 _ _ _ y).trans ?_
  rw [canon_row v, canon_row v]
  have hz : View.canon [(⟨Rect.unit (s := Face 8 1024) ![0, 0] ![8, 1024] iz, z⟩ :
      View.Piece (Elt Ideal) (Face 8 1024) .f32)] y = (0 : EReal) :=
    (congrFun (View.canon_cons_unit_zero (S := Face 8 1024) (Val := Elt Ideal) (e := .f32) Cert.Adam.whole_off iz z []) y).trans (hz y)
  split_ifs with e2 e1 e0
  · refine h2 _ _ e2 ((load_row _ _ _ _ y e2).trans ?_)
    refine (canon_row v 1 _ _ _ y).trans ((if_neg (by omega)).trans ?_)
    exact (canon_row v 0 _ _ _ y).trans ((if_neg (by omega)).trans hz)
  · refine h1 _ _ e1 ((load_row _ _ _ _ y e1).trans ?_)
    exact (canon_row v 0 _ _ _ y).trans ((if_neg (by omega)).trans hz)
  · exact h0 _ _ e0 ((load_row _ _ _ _ y e0).trans hz)
  · exact hz.trans (add_rest _ _ _ _ _ e2 e1 e0)

/-- From the sums so far. -/
theorem next_point {f : v.ty.Contents (Elt Ideal)} {old : Vec Ideal (Face 8 1024) .f32} (hf : v.read (Elt Ideal) f = old) (i0 i1 i2) :
    let A : View.Piece (Elt Ideal) (Face 8 1024) .f32 := ⟨rowAt 0 i0, p0 (View.ld old (rowAt 0 i0))⟩
    let B : View.Piece (Elt Ideal) (Face 8 1024) .f32 := ⟨rowAt 1 i1, p1 (View.ld old (rowAt 1 i1))⟩
    let C : View.Piece (Elt Ideal) (Face 8 1024) .f32 := ⟨rowAt 2 i2, p2 (View.ld old (rowAt 2 i2))⟩
    v.read (Elt Ideal) (v.writes (Elt Ideal) f [C, B, A]) y = old y + sums H X G S (y 0).val (y 1) := by
  dsimp only
  refine (read_row v _ 2 _ _ _ y).trans ?_
  rw [read_row, read_row, View.writes_nil, hf]
  split_ifs with e2 e1 e0
  · exact h2 _ _ e2 (ld_row _ _ _ y e2)
  · exact h1 _ _ e1 (ld_row _ _ _ y e1)
  · exact h0 _ _ e0 (ld_row _ _ _ y e0)
  · exact add_rest _ _ _ _ _ e2 e1 e0

end Summed

/-! ## The kernel's run -/

section Run
open Cert.PrenormIdeal Cert.PrenormIdeal.Gen

variable (m : (ℓ : Loc nD τ sig) → Buf (Elt Ideal) ℓ)

theorem at_rows : ∀ t : Fin cfg0.N, win0_0.index t = ![t.val, 0] := (by decide +kernel : ∀ t : Fin grid0.N, _)
theorem at_out : ∀ t : Fin cfg0.N, win0_5.index t = ![t.val, 0] := (by decide +kernel : ∀ t : Fin grid0.N, _)
theorem at_one : ∀ t : Fin cfg0.N, win0_2.index t = ![0, 0] := (by decide +kernel : ∀ t : Fin grid0.N, _)
theorem at_sums : ∀ t : Fin cfg0.N, win0_6.index t = ![0, 0] := (by decide +kernel : ∀ t : Fin grid0.N, _)

abbrev H (c : Dev nD) : (Face 4096 1024).Idx → EReal := m ((c : Thread nD τ).loc main_arg0)
abbrev X (c : Dev nD) : (Face 4096 1024).Idx → EReal := m ((c : Thread nD τ).loc main_arg1)
abbrev G (c : Dev nD) : (Face 1 1024).Idx → EReal := m ((c : Thread nD τ).loc main_arg2)
abbrev S (c : Dev nD) : (Face 1 1024).Idx → EReal := m ((c : Thread nD τ).loc main_arg3)
abbrev D (c : Dev nD) : (Face 4096 1024).Idx → EReal := m ((c : Thread nD τ).loc main_arg4)

theorem emb_rows (t : Fin cfg0.N) (r : Fin 512) (j : Fin 1024) :
    (win0_0.blk t).view.emb (ix2 (n0 := 512) (n1 := 1024) r j) = ix2 (n0 := 4096) (n1 := 1024) (under N_0 t r) j := by
  blk_ext [at_rows, under_val]

theorem emb_out (t : Fin cfg0.N) (r : Fin 512) (j : Fin 1024) :
    (win0_5.blk t).view.emb (ix2 (n0 := 512) (n1 := 1024) r j) = ix2 (n0 := 4096) (n1 := 1024) (under N_0 t r) j := by
  blk_ext [at_out, under_val]

theorem emb_one (t : Fin cfg0.N) (y : S1x1024.Idx) : (win0_2.blk t).view.emb y = y := by
  blk_ext [at_one]

theorem emb_sums (t : Fin cfg0.N) (y : S8x1024.Idx) : (win0_6.blk t).view.emb y = y := by
  blk_ext [at_sums]

theorem block_h (c : Dev nD) (t : Fin cfg0.N) (r : Fin 512) (j : Fin 1024) :
    iblk m c 0 t (ix2 (n0 := 512) (n1 := 1024) r j) = H m c (ix2 (under N_0 t r) j) := congrArg (H m c) (emb_rows t r j)
theorem block_x (c : Dev nD) (t : Fin cfg0.N) (r : Fin 512) (j : Fin 1024) :
    iblk m c 1 t (ix2 (n0 := 512) (n1 := 1024) r j) = X m c (ix2 (under N_0 t r) j) := congrArg (X m c) (emb_rows t r j)
theorem block_g (c : Dev nD) (t : Fin cfg0.N) : iblk m c 2 t = G m c := funext fun y => congrArg (G m c) (emb_one t y)
theorem block_s (c : Dev nD) (t : Fin cfg0.N) : iblk m c 3 t = S m c := funext fun y => congrArg (S m c) (emb_one t y)
theorem block_d (c : Dev nD) (t : Fin cfg0.N) (r : Fin 512) (j : Fin 1024) :
    iblk m c 4 t (ix2 (n0 := 512) (n1 := 1024) r j) = D m c (ix2 (under N_0 t r) j) := congrArg (D m c) (emb_rows t r j)

end Run

section Blocks
variable {T : Nat}

/-- The formulas on a block of the rows are the formulas on the rows under it. -/
theorem rs_under {X : (Face R 1024).Idx → EReal} {X' : (Face T 1024).Idx → EReal} (u : Fin T → Fin R)
    (hX : ∀ r j, X' (ix2 r j) = X (ix2 (u r) j)) (r : Fin T) : rs X' r = rs X (u r) := by
  simp only [rs, hX]

theorem rows_under {H X D : (Face R 1024).Idx → EReal} {H' X' D' : (Face T 1024).Idx → EReal} (G S : (Face 1 1024).Idx → EReal)
    (u : Fin T → Fin R) (hH : ∀ r j, H' (ix2 r j) = H (ix2 (u r) j)) (hX : ∀ r j, X' (ix2 r j) = X (ix2 (u r) j))
    (hD : ∀ r j, D' (ix2 r j) = D (ix2 (u r) j)) (r : Fin T) (j : Fin 1024) :
    rows H' X' G S D' r j = rows H X G S D (u r) j := by
  simp only [rows, rs_under u hX, hH, hX, hD]

theorem term_under {H X : (Face R 1024).Idx → EReal} {H' X' : (Face T 1024).Idx → EReal} (G S : (Face 1 1024).Idx → EReal)
    (u : Fin T → Fin R) (hH : ∀ r j, H' (ix2 r j) = H (ix2 (u r) j)) (hX : ∀ r j, X' (ix2 r j) = X (ix2 (u r) j))
    (k : Nat) (j : Fin 1024) (r : Fin T) : term H' X' G S k j r = term H X G S k j (u r) := by
  simp only [term, rs_under u hX, hH, hX]

end Blocks

section Points
open Cert.PrenormIdeal Cert.PrenormIdeal.Gen

variable (m : (ℓ : Loc nD τ sig) → Buf (Elt Ideal) ℓ)

/-- What a point leaves of the rows. -/
theorem point_rows (c : Dev nD) (t : Fin cfg0.N) (r : Fin 512) (j : Fin 1024) :
    (outsAt0 m c t.val t.isLt).1 (ix2 (n0 := 512) (n1 := 1024) r j)
      = rows (H m c) (X m c) (G m c) (S m c) (D m c) (under N_0 t r) j := by
  have h : (outsAt0 m c t.val t.isLt).1 (ix2 (n0 := 512) (n1 := 1024) r j)
      = rows (R := 512) (iblk m c 0 t) (iblk m c 1 t) (iblk m c 2 t) (iblk m c 3 t) (iblk m c 4 t) r j := by
    by_cases h0 : t.val % 8 = 0
    · rw [outsAt0_A m c t h0]; frame_out; exact pay_rows _ _ _ _ _ r j
    · rw [outsAt0_B m c t h0]; frame_out; exact pay_rows _ _ _ _ _ r j
  rw [h, block_g, block_s]
  exact rows_under _ _ (under N_0 t) (block_h m c t) (block_x m c t) (block_d m c t) r j

/-- What a point adds to the sums. -/
abbrev part (c : Dev nD) (t : Fin cfg0.N) : (Face 8 1024).Idx → EReal := fun y =>
  sums (R := 512) (iblk m c 0 t) (iblk m c 1 t) (iblk m c 2 t) (iblk m c 3 t) (y 0).val (y 1)

theorem first_sums (c : Dev nD) (t : Fin cfg0.N) (h0 : t.val % 8 = 0) (y : S8x1024.Idx) :
    (outsAt0 m c t.val t.isLt).2 y = (0 : EReal) + part m c t y := by
  rw [outsAt0_A m c t h0]; frame_out
  exact first_point (ms0_6 t).view
    (fun b => pay_shift (iblk m c 0 t) (iblk m c 1 t) b (iblk m c 2 t) (iblk m c 3 t))
    (fun b => pay_scale (iblk m c 0 t) (iblk m c 1 t) b (iblk m c 2 t) (iblk m c 3 t))
    (fun b => pay_weight (iblk m c 0 t) (iblk m c 1 t) b (iblk m c 2 t) (iblk m c 3 t)) y pay_zero _ _ _ _

theorem next_sums (c : Dev nD) (t : Fin cfg0.N) (h0 : ¬t.val % 8 = 0) (y : S8x1024.Idx) :
    (outsAt0 m c t.val t.isLt).2 y
      = (outsAt0 m c (t.val - 1) (Nat.lt_of_le_of_lt (Nat.sub_le _ _) t.isLt)).2 y + part m c t y := by
  rw [outsAt0_B m c t h0]; frame_out
  generalize (outsAt0 m c (t.val - 1) _).2 = old
  exact next_point (ms0_6 t).view
    (fun b => pay_shift (iblk m c 0 t) (iblk m c 1 t) b (iblk m c 2 t) (iblk m c 3 t))
    (fun b => pay_scale (iblk m c 0 t) (iblk m c 1 t) b (iblk m c 2 t) (iblk m c 3 t))
    (fun b => pay_weight (iblk m c 0 t) (iblk m c 1 t) b (iblk m c 2 t) (iblk m c 3 t)) y ((hs0_6 t).read_unread old) _ _ _

/-- The two arrays after the run. -/
theorem arrays (c : Dev nD) :
    ((dats m 0 c).arrAt 5 cfg0.N = fun i : S4096x1024.Idx => rows (H m c) (X m c) (G m c) (S m c) (D m c) (i 0) (i 1))
      ∧ ((dats m 0 c).arrAt 6 cfg0.N = fun i : S8x1024.Idx => sums (H m c) (X m c) (G m c) (S m c) (i 0).val (i 1)) := by
  refine ⟨(dats m 0 c).arrAt_eq_of_covers 5 _ (by decide +kernel) fun t _ y => ?_,
    (dats m 0 c).arrAt_eq_of_covers 6 _ (by decide +kernel) fun t hf y => ?_⟩ <;> blk_simp
  · rw [after0_5]
    obtain ⟨r, j, rfl⟩ : ∃ (r : Fin 512) (j : Fin 1024), y = ix2 r j := ⟨y 0, y 1, ValueIdx.eq_ix2 y⟩
    exact (point_rows m c t r j).trans (congrArg (fun i : (Face 4096 1024).Idx =>
      rows (H m c) (X m c) (G m c) (S m c) (D m c) (i 0) (i 1)) (emb_out t r j)).symm
  · have hl : t.val + 1 = cfg0.N := by
      have h7 := (flush0_6 t).mp hf
      have := lt_of_lt_of_eq t.isLt (show cfg0.N = 8 from N_0)
      rw [show cfg0.N = 8 from N_0]; omega
    rw [after0_6, Pipeline.eq_sum_fin_of_reset_step_apply_last (fun n h => (outsAt0 m c n h).2) 8 (fun _ => (0 : EReal)) (part m c)
      (first_sums m c) (next_sums m c) (le_of_eq N_0) t hl y, zero_add, at_sums, emb_sums]
    rw [show (![0, 0] : Fin 2 → Nat) 0 * 8 + (y 0).val = (y 0).val from by simp]
    refine Eq.trans ?_ (Fin.sum_univ_tiles 8 512 rfl fun r : Fin 4096 =>
      term (H m c) (X m c) (G m c) (S m c) (y 0).val (y 1) r).symm
    refine Finset.sum_congr (M := EReal) rfl fun p _ => Finset.sum_congr (M := EReal) rfl fun r _ => ?_
    rw [block_g, block_s]
    exact term_under _ _ (under N_0 p) (block_h m c p) (block_x m c p) _ _ r

end Points

section Host
open Cert.PrenormedIdeal Cert.PrenormedIdeal.Value

variable (m : (ℓ : Loc nD τ sig) → Buf (Elt Ideal) ℓ)

theorem host_rows (c : Dev nD) (r : Fin 4096) (j : Fin 1024) :
    res_main_v49 m c (ix2 (n0 := 4096) (n1 := 1024) r j)
      = rows (R := 4096) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) r j := by
  pointwise [res_main_v49]
  simp only [Fin.sum_univ_one]
  exact gradients (R := 4096) _ _ _ _ _ r j _ rfl

end Host

/-! ## The claim -/

theorem values : Cert.algebraic_PrenormIdeal_PrenormedIdeal (hPrenormIdeal := Cert.PrenormIdeal.Gen.facts)
    (hPrenormedIdeal := Cert.PrenormedIdeal.Gen.facts) := fun m g m' g' _ hagree => by
  refine ⟨fun c => fun i => rows (H m c) (X m c) (G m c) (S m c) (D m c) (i 0) (i 1),
    fun c => fun i => sums (H m c) (X m c) (G m c) (S m c) (i 0).val (i 1),
    (θ_run Cert.PrenormIdeal.defs _ _).mono (fun r h c => ⟨(h c).1.trans (arrays m c).1, (h c).2.1.trans (arrays m c).2, (h c).2.2⟩)
      (Cert.PrenormIdeal.Value.run_blocks m g),
    (θ_run Cert.PrenormedIdeal.defs _ _).mono (fun r h c => ?_) (Cert.PrenormedIdeal.Value.run (F := Ideal) m' g')⟩
  obtain ⟨h0, h1, h2, h3, h4⟩ := hagree c
  obtain ⟨hr, hs, hargs⟩ := h c
  refine ⟨hr.trans (funext fun i => ?_), hs.trans (funext fun i => ?_), hargs⟩
  · obtain ⟨r, j, rfl⟩ : ∃ (r : Fin 4096) (j : Fin 1024), i = ix2 r j := ⟨i 0, i 1, ValueIdx.eq_ix2 i⟩
    have hh := host_rows m' c r j
    rw [h0, h1, h2, h3, h4] at hh
    exact hh
  · rw [h0, h1, h2, h3]
    pointwise []
    exact ladder (H m c) (X m c) (G m c) (S m c) _ _

end Cert.Norm

end
-- ==== Proof.Norms.lean ====
/-
  The two normalisations of the forward pass: the rows scaled by their reciprocal root of the mean of squares, then mixed with
  the scale and the shift, or added to the residual through the gate. The kernel takes the rows in blocks.
-/
module

public import proofs.«01_k».proof.Proof.Prenorm
public import proofs.«01_k».proof.Proof.Gen.PrenormFwdIdeal.Frame
public import proofs.«01_k».proof.Proof.Gen.PrenormFwdIdeal.Value
public import proofs.«01_k».proof.Proof.Gen.PrenormedFwdIdeal.Run
public import proofs.«01_k».proof.Proof.Gen.PostnormIdeal.Frame
public import proofs.«01_k».proof.Proof.Gen.PostnormIdeal.Value
public import proofs.«01_k».proof.Proof.Gen.PostnormedIdeal.Run

@[expose] public section

noncomputable section

open Idealize.ShloMosaic Idealize.ShloMosaic.TcCoe Idealize.SL.Sem
open Cert.Adam (Face)

/-! ## Before the attention or the network -/

namespace Cert.Norm.Before
open Cert.PrenormFwdIdeal Cert.PrenormFwdIdeal.Gen

/-- An element of the result, from the rows `X`, the weight `G`, the scale `S` and the shift `B`. -/
def mixed {R : Nat} (X : (Face R 1024).Idx → EReal) (G S B : (Face 1 1024).Idx → EReal) (r : Fin R) (j : Fin 1024) : EReal :=
  X (ix2 r j) * rs X r * G (ix2 0 j) * (1 + S (ix2 0 j)) + B (ix2 0 j)

theorem pay (x0 : Vec Ideal S512x1024 .f32) (x1 x2 x3 : Vec Ideal S1x1024 .f32) (r : Fin 512) (j : Fin 1024) :
    k0_pay1 x0 x1 x2 x3 (ix2 (n0 := 512) (n1 := 1024) r j) = mixed (R := 512) x0 x1 x2 x3 r j := by
  pointwise [k0_pay1]; rfl

variable (m : (ℓ : Loc nD τ sig) → Buf (Elt Ideal) ℓ)

theorem at_rows : ∀ t : Fin cfg0.N, win0_0.index t = ![t.val, 0] := (by decide +kernel : ∀ t : Fin grid0.N, _)
theorem at_out : ∀ t : Fin cfg0.N, win0_4.index t = ![t.val, 0] := (by decide +kernel : ∀ t : Fin grid0.N, _)
theorem at_one : ∀ t : Fin cfg0.N, win0_1.index t = ![0, 0] := (by decide +kernel : ∀ t : Fin grid0.N, _)

abbrev X (c : Dev nD) : (Face 4096 1024).Idx → EReal := m ((c : Thread nD τ).loc main_arg0)
abbrev G (c : Dev nD) : (Face 1 1024).Idx → EReal := m ((c : Thread nD τ).loc main_arg1)
abbrev S (c : Dev nD) : (Face 1 1024).Idx → EReal := m ((c : Thread nD τ).loc main_arg2)
abbrev B (c : Dev nD) : (Face 1 1024).Idx → EReal := m ((c : Thread nD τ).loc main_arg3)

theorem emb_rows (t : Fin cfg0.N) (r : Fin 512) (j : Fin 1024) :
    (win0_0.blk t).view.emb (ix2 (n0 := 512) (n1 := 1024) r j) = ix2 (n0 := 4096) (n1 := 1024) (under N_0 t r) j := by
  blk_ext [at_rows, under_val]

theorem emb_out (t : Fin cfg0.N) (r : Fin 512) (j : Fin 1024) :
    (win0_4.blk t).view.emb (ix2 (n0 := 512) (n1 := 1024) r j) = ix2 (n0 := 4096) (n1 := 1024) (under N_0 t r) j := by
  blk_ext [at_out, under_val]

theorem emb_one (t : Fin cfg0.N) (y : S1x1024.Idx) : (win0_1.blk t).view.emb y = y := by
  blk_ext [at_one]

theorem block_x (c : Dev nD) (t : Fin cfg0.N) (r : Fin 512) (j : Fin 1024) :
    iblk m c 0 t (ix2 (n0 := 512) (n1 := 1024) r j) = X m c (ix2 (under N_0 t r) j) := congrArg (X m c) (emb_rows t r j)
theorem block_g (c : Dev nD) (t : Fin cfg0.N) : iblk m c 1 t = G m c := funext fun y => congrArg (G m c) (emb_one t y)
theorem block_s (c : Dev nD) (t : Fin cfg0.N) : iblk m c 2 t = S m c := funext fun y => congrArg (S m c) (emb_one t y)
theorem block_b (c : Dev nD) (t : Fin cfg0.N) : iblk m c 3 t = B m c := funext fun y => congrArg (B m c) (emb_one t y)

theorem array (c : Dev nD) :
    (dats m 0 c).arrAt 4 cfg0.N = fun i : S4096x1024.Idx => mixed (X m c) (G m c) (S m c) (B m c) (i 0) (i 1) := by
  refine (dats m 0 c).arrAt_eq_of_covers 4 _ (by decide +kernel) fun t _ y => ?_
  blk_simp
  rw [after0_4, out0_4, View.canon_unit_zero Cert.Adam.whole_off, View.ld_unit_zero Cert.Adam.whole_off, View.ld_unit_zero Cert.Adam.whole_off,
    View.ld_unit_zero Cert.Adam.whole_off, View.ld_unit_zero Cert.Adam.whole_off, block_g, block_s, block_b]
  obtain ⟨r, j, rfl⟩ : ∃ (r : Fin 512) (j : Fin 1024), y = ix2 r j := ⟨y 0, y 1, ValueIdx.eq_ix2 y⟩
  refine Eq.trans ?_ (congrArg (fun i : (Face 4096 1024).Idx => mixed (X m c) (G m c) (S m c) (B m c) (i 0) (i 1)) (emb_out t r j)).symm
  refine (pay _ _ _ _ r j).trans ?_
  simp only [mixed, rs_under (X := X m c) (under N_0 t) (block_x m c t)]
  exact congrArg (fun x : EReal => x * rs (X m c) (under N_0 t r) * G m c (ix2 0 j) * (1 + S m c (ix2 0 j)) + B m c (ix2 0 j))
    (block_x m c t r j)

theorem values : Cert.algebraic_PrenormFwdIdeal_PrenormedFwdIdeal (hPrenormFwdIdeal := Cert.PrenormFwdIdeal.Gen.facts)
    (hPrenormedFwdIdeal := Cert.PrenormedFwdIdeal.Gen.facts) := fun m g m' g' _ hagree => by
  refine ⟨fun c => fun i => mixed (X m c) (G m c) (S m c) (B m c) (i 0) (i 1),
    (θ_run Cert.PrenormFwdIdeal.defs _ _).mono (fun r h c => ⟨(h c).1.trans (array m c), (h c).2⟩)
      (Cert.PrenormFwdIdeal.Value.run_blocks m g),
    (θ_run Cert.PrenormedFwdIdeal.defs _ _).mono (fun r h c => ?_) (Cert.PrenormedFwdIdeal.Value.run (F := Ideal) m' g')⟩
  obtain ⟨h0, h1, h2, h3⟩ := hagree c
  obtain ⟨hr, hargs⟩ := h c
  refine ⟨hr.trans (funext fun i => ?_), hargs⟩
  rw [h0, h1, h2, h3]
  obtain ⟨r, j, rfl⟩ : ∃ (r : Fin 4096) (j : Fin 1024), i = ix2 r j := ⟨i 0, i 1, ValueIdx.eq_ix2 i⟩
  pointwise []
  rfl

end Cert.Norm.Before

/-! ## After it -/

namespace Cert.Norm.After
open Cert.PostnormIdeal Cert.PostnormIdeal.Gen

/-- An element of the result, from the residual `X`, the rows `Y`, the weight `G` and the gate `A`. -/
def gated {R : Nat} (X Y : (Face R 1024).Idx → EReal) (G A : (Face 1 1024).Idx → EReal) (r : Fin R) (j : Fin 1024) : EReal :=
  X (ix2 r j) + A (ix2 0 j) * (Y (ix2 r j) * rs Y r * G (ix2 0 j))

theorem pay (x0 x1 : Vec Ideal S512x1024 .f32) (x2 x3 : Vec Ideal S1x1024 .f32) (r : Fin 512) (j : Fin 1024) :
    k0_pay1 x1 x0 x3 x2 (ix2 (n0 := 512) (n1 := 1024) r j) = gated (R := 512) x0 x1 x2 x3 r j := by
  pointwise [k0_pay1]; rfl

variable (m : (ℓ : Loc nD τ sig) → Buf (Elt Ideal) ℓ)

theorem at_rows : ∀ t : Fin cfg0.N, win0_0.index t = ![t.val, 0] := (by decide +kernel : ∀ t : Fin grid0.N, _)
theorem at_out : ∀ t : Fin cfg0.N, win0_4.index t = ![t.val, 0] := (by decide +kernel : ∀ t : Fin grid0.N, _)
theorem at_one : ∀ t : Fin cfg0.N, win0_2.index t = ![0, 0] := (by decide +kernel : ∀ t : Fin grid0.N, _)

abbrev X (c : Dev nD) : (Face 4096 1024).Idx → EReal := m ((c : Thread nD τ).loc main_arg0)
abbrev Y (c : Dev nD) : (Face 4096 1024).Idx → EReal := m ((c : Thread nD τ).loc main_arg1)
abbrev G (c : Dev nD) : (Face 1 1024).Idx → EReal := m ((c : Thread nD τ).loc main_arg2)
abbrev A (c : Dev nD) : (Face 1 1024).Idx → EReal := m ((c : Thread nD τ).loc main_arg3)

theorem emb_rows (t : Fin cfg0.N) (r : Fin 512) (j : Fin 1024) :
    (win0_0.blk t).view.emb (ix2 (n0 := 512) (n1 := 1024) r j) = ix2 (n0 := 4096) (n1 := 1024) (under N_0 t r) j := by
  blk_ext [at_rows, under_val]

theorem emb_out (t : Fin cfg0.N) (r : Fin 512) (j : Fin 1024) :
    (win0_4.blk t).view.emb (ix2 (n0 := 512) (n1 := 1024) r j) = ix2 (n0 := 4096) (n1 := 1024) (under N_0 t r) j := by
  blk_ext [at_out, under_val]

theorem emb_one (t : Fin cfg0.N) (y : S1x1024.Idx) : (win0_2.blk t).view.emb y = y := by
  blk_ext [at_one]

theorem block_x (c : Dev nD) (t : Fin cfg0.N) (r : Fin 512) (j : Fin 1024) :
    iblk m c 0 t (ix2 (n0 := 512) (n1 := 1024) r j) = X m c (ix2 (under N_0 t r) j) := congrArg (X m c) (emb_rows t r j)
theorem block_y (c : Dev nD) (t : Fin cfg0.N) (r : Fin 512) (j : Fin 1024) :
    iblk m c 1 t (ix2 (n0 := 512) (n1 := 1024) r j) = Y m c (ix2 (under N_0 t r) j) := congrArg (Y m c) (emb_rows t r j)
theorem block_g (c : Dev nD) (t : Fin cfg0.N) : iblk m c 2 t = G m c := funext fun y => congrArg (G m c) (emb_one t y)
theorem block_a (c : Dev nD) (t : Fin cfg0.N) : iblk m c 3 t = A m c := funext fun y => congrArg (A m c) (emb_one t y)

theorem array (c : Dev nD) :
    (dats m 0 c).arrAt 4 cfg0.N = fun i : S4096x1024.Idx => gated (X m c) (Y m c) (G m c) (A m c) (i 0) (i 1) := by
  refine (dats m 0 c).arrAt_eq_of_covers 4 _ (by decide +kernel) fun t _ y => ?_
  blk_simp
  rw [after0_4, out0_4, View.canon_unit_zero Cert.Adam.whole_off, View.ld_unit_zero Cert.Adam.whole_off, View.ld_unit_zero Cert.Adam.whole_off,
    View.ld_unit_zero Cert.Adam.whole_off, View.ld_unit_zero Cert.Adam.whole_off, block_g, block_a]
  obtain ⟨r, j, rfl⟩ : ∃ (r : Fin 512) (j : Fin 1024), y = ix2 r j := ⟨y 0, y 1, ValueIdx.eq_ix2 y⟩
  refine Eq.trans ?_ (congrArg (fun i : (Face 4096 1024).Idx => gated (X m c) (Y m c) (G m c) (A m c) (i 0) (i 1)) (emb_out t r j)).symm
  refine (pay _ _ _ _ r j).trans ?_
  simp only [gated, rs_under (X := Y m c) (under N_0 t) (block_y m c t)]
  exact congrArg₂ (fun x y : EReal => x + A m c (ix2 0 j) * (y * rs (Y m c) (under N_0 t r) * G m c (ix2 0 j)))
    (block_x m c t r j) (block_y m c t r j)

theorem values : Cert.algebraic_PostnormIdeal_PostnormedIdeal (hPostnormIdeal := Cert.PostnormIdeal.Gen.facts)
    (hPostnormedIdeal := Cert.PostnormedIdeal.Gen.facts) := fun m g m' g' _ hagree => by
  refine ⟨fun c => fun i => gated (X m c) (Y m c) (G m c) (A m c) (i 0) (i 1),
    (θ_run Cert.PostnormIdeal.defs _ _).mono (fun r h c => ⟨(h c).1.trans (array m c), (h c).2⟩)
      (Cert.PostnormIdeal.Value.run_blocks m g),
    (θ_run Cert.PostnormedIdeal.defs _ _).mono (fun r h c => ?_) (Cert.PostnormedIdeal.Value.run (F := Ideal) m' g')⟩
  obtain ⟨h0, h1, h2, h3⟩ := hagree c
  obtain ⟨hr, hargs⟩ := h c
  refine ⟨hr.trans (funext fun i => ?_), hargs⟩
  rw [h0, h1, h2, h3]
  obtain ⟨r, j, rfl⟩ : ∃ (r : Fin 4096) (j : Fin 1024), i = ix2 r j := ⟨i 0, i 1, ValueIdx.eq_ix2 i⟩
  pointwise []
  rfl

end Cert.Norm.After

end
-- ==== Proof.Backward.lean ====
/-
  The backward pass of the second normalisation: the gradient of the rows that were normalised, and the sums over the rows that
  are the gradients of the gate and of the weight. As for the first one, the kernel adds the blocks' sums one after another.
-/
module

public import proofs.«01_k».proof.Proof.Prenorm
public import proofs.«01_k».proof.Proof.Gen.PostnormBwdIdeal.Frame
public import proofs.«01_k».proof.Proof.Gen.PostnormBwdIdeal.Value
public import proofs.«01_k».proof.Proof.Gen.PostnormedBwdIdeal.Run

@[expose] public section

noncomputable section

namespace Cert.Norm.Backward
open Idealize.ShloMosaic Idealize.ShloMosaic.TcCoe Idealize.SL.Sem
open Cert.Adam (Face)

/-! ## The formulas -/

variable {R : Nat}

/-- The gradient of an element of the rows, from the gradient `H` of the result, the rows `Y`, the weight `G` and the gate
    `A`. -/
def back (H Y : (Face R 1024).Idx → EReal) (G A : (Face 1 1024).Idx → EReal) (r : Fin R) (j : Fin 1024) : EReal :=
  rs Y r * (H (ix2 r j) * A (ix2 0 j) * G (ix2 0 j))
    - Y (ix2 r j) * (rs Y r * rs Y r * rs Y r)
      * Ideal.div (∑ k : Fin 1024, H (ix2 r k) * A (ix2 0 k) * G (ix2 0 k) * Y (ix2 r k)) K

/-- What row `r` adds to row `k` of the sums: the gradients of the gate and of the weight, and zeros. -/
def share (H Y : (Face R 1024).Idx → EReal) (G A : (Face 1 1024).Idx → EReal) (k : Nat) (j : Fin 1024) (r : Fin R) : EReal :=
  if k = 1 then H (ix2 r j) * A (ix2 0 j) * (Y (ix2 r j) * rs Y r)
  else if k = 0 then H (ix2 r j) * (Y (ix2 r j) * rs Y r * G (ix2 0 j))
  else 0

/-- The shares of all the rows. -/
def shares (H Y : (Face R 1024).Idx → EReal) (G A : (Face 1 1024).Idx → EReal) (k : Nat) (j : Fin 1024) : EReal :=
  ∑ r : Fin R, share H Y G A k j r

theorem add_none (H Y : (Face R 1024).Idx → EReal) (G A : (Face 1 1024).Idx → EReal) {k : Nat} (j : Fin 1024)
    (h1 : k ≠ 1) (h0 : k ≠ 0) {a : EReal} : a = a + shares H Y G A k j := by
  simp [shares, share, h1, h0]

theorem pieces (H Y : (Face R 1024).Idx → EReal) (G A : (Face 1 1024).Idx → EReal) (k : Nat) (j : Fin 1024) :
    (if k < 1 then ∑ r : Fin R, H (ix2 r j) * (Y (ix2 r j) * rs Y r * G (ix2 0 j))
      else if k - 1 < 1 then ∑ r : Fin R, Y (ix2 r j) * rs Y r * (A (ix2 0 j) * H (ix2 r j))
      else 0) = shares H Y G A k j := by
  match k with
  | 0 => rfl
  | 1 =>
    show (∑ r : Fin R, Y (ix2 r j) * rs Y r * (A (ix2 0 j) * H (ix2 r j)))
      = ∑ r : Fin R, H (ix2 r j) * A (ix2 0 j) * (Y (ix2 r j) * rs Y r)
    exact Finset.sum_congr (M := EReal) rfl fun r _ => by rw [mul_comm (A (ix2 0 j)), mul_comm]
  | n + 2 => exact (Finset.sum_eq_zero (M := EReal) fun r _ => rfl).symm

/-- The gradient of the rows as the reference computes it. -/
theorem backs (H Y : (Face R 1024).Idx → EReal) (G A : (Face 1 1024).Idx → EReal) (r : Fin R) (j : Fin 1024) (q : EReal)
    (hq : q = Ideal.div ((∑ k : Fin 1024, Y (ix2 r k) * (A (ix2 0 k) * H (ix2 r k) * G (ix2 0 k)))
      * (Ideal.ofBits .f32 0xBF000000#32
        * Ideal.div (rs Y r) (Ideal.div (∑ k : Fin 1024, Y (ix2 r k) * Y (ix2 r k)) K + E))) K) :
    A (ix2 0 j) * H (ix2 r j) * G (ix2 0 j) * rs Y r + Y (ix2 r j) * q + q * Y (ix2 r j) = back H Y G A r j := by
  have hs : ∑ k : Fin 1024, Y (ix2 r k) * (A (ix2 0 k) * H (ix2 r k) * G (ix2 0 k))
      = ∑ k : Fin 1024, H (ix2 r k) * A (ix2 0 k) * G (ix2 0 k) * Y (ix2 r k) :=
    Finset.sum_congr rfl fun k _ => by rw [mul_comm, mul_comm (A (ix2 0 k))]
  rw [hq, hs, rs, cube (mean_pos fun k : Fin 1024 => Y (ix2 r k)), mul_comm (A (ix2 0 j))]
  have h := gradient 0 (H (ix2 r j) * A (ix2 0 j) * G (ix2 0 j)) (Y (ix2 r j)) (rs Y r) (rs Y r * rs Y r * rs Y r)
    (∑ k : Fin 1024, H (ix2 r k) * A (ix2 0 k) * G (ix2 0 k) * Y (ix2 r k))
  rw [zero_add, zero_add] at h
  exact h

section Blocks
variable {T : Nat} {H Y : (Face R 1024).Idx → EReal} {H' Y' : (Face T 1024).Idx → EReal} (G A : (Face 1 1024).Idx → EReal)
  (u : Fin T → Fin R) (hH : ∀ r j, H' (ix2 r j) = H (ix2 (u r) j)) (hY : ∀ r j, Y' (ix2 r j) = Y (ix2 (u r) j))
include hH hY

theorem back_under (r : Fin T) (j : Fin 1024) : back H' Y' G A r j = back H Y G A (u r) j := by
  simp only [back, rs_under u hY, hH, hY]

theorem share_under (k : Nat) (j : Fin 1024) (r : Fin T) : share H' Y' G A k j r = share H Y G A k j (u r) := by
  simp only [share, rs_under u hY, hH, hY]

end Blocks

/-! ## The kernel's payloads -/

section Kernel
open Cert.PostnormBwdIdeal Cert.PostnormBwdIdeal.Gen

theorem pay_back (x0 x1 : Vec Ideal S512x1024 .f32) (x2 x3 : Vec Ideal S1x1024 .f32) (r : Fin 512) (j : Fin 1024) :
    k0_pay1 x1 (k0_pay3 x1) (k0_pay5 x0 x3) x2 (ix2 (n0 := 512) (n1 := 1024) r j) = back (R := 512) x0 x1 x2 x3 r j := by
  pointwise [k0_pay1, k0_pay3, k0_pay5]; rfl

theorem pay_gate (x0 x1 : Vec Ideal S512x1024 .f32) (b x2 x3 : Vec Ideal S1x1024 .f32) (j : Fin 1024) {k : Nat} (hk : k = 0)
    {a : EReal} (ha : b (ix2 (n0 := 1) (n1 := 1024) 0 j) = a) :
    k0_pay6 x0 x1 b x2 (ix2 (n0 := 1) (n1 := 1024) 0 j) = a + shares (R := 512) x0 x1 x2 x3 k j := by
  subst hk ha
  pointwise [k0_pay6, k0_pay4, k0_pay3]; rfl

theorem pay_wt (x0 x1 : Vec Ideal S512x1024 .f32) (b x2 x3 : Vec Ideal S1x1024 .f32) (j : Fin 1024) {k : Nat} (hk : k = 1)
    {a : EReal} (ha : b (ix2 (n0 := 1) (n1 := 1024) 0 j) = a) :
    k0_pay7 x0 x1 x3 b (ix2 (n0 := 1) (n1 := 1024) 0 j) = a + shares (R := 512) x0 x1 x2 x3 k j := by
  subst hk ha
  pointwise [k0_pay7, k0_pay5, k0_pay4, k0_pay3]; rfl

theorem pay_none (y : S8x1024.Idx) : k0_pay2 (F := Ideal) y = (0 : EReal) := by
  pointwise [k0_pay2]

end Kernel

/-! ## The kernel's run -/

section Run
open Cert.PostnormBwdIdeal Cert.PostnormBwdIdeal.Gen

variable (m : (ℓ : Loc nD τ sig) → Buf (Elt Ideal) ℓ)

theorem at_rows : ∀ t : Fin cfg0.N, win0_0.index t = ![t.val, 0] := (by decide +kernel : ∀ t : Fin grid0.N, _)
theorem at_out : ∀ t : Fin cfg0.N, win0_4.index t = ![t.val, 0] := (by decide +kernel : ∀ t : Fin grid0.N, _)
theorem at_one : ∀ t : Fin cfg0.N, win0_2.index t = ![0, 0] := (by decide +kernel : ∀ t : Fin grid0.N, _)
theorem at_sums : ∀ t : Fin cfg0.N, win0_5.index t = ![0, 0] := (by decide +kernel : ∀ t : Fin grid0.N, _)

abbrev H (c : Dev nD) : (Face 4096 1024).Idx → EReal := m ((c : Thread nD τ).loc main_arg0)
abbrev Y (c : Dev nD) : (Face 4096 1024).Idx → EReal := m ((c : Thread nD τ).loc main_arg1)
abbrev G (c : Dev nD) : (Face 1 1024).Idx → EReal := m ((c : Thread nD τ).loc main_arg2)
abbrev A (c : Dev nD) : (Face 1 1024).Idx → EReal := m ((c : Thread nD τ).loc main_arg3)

theorem emb_rows (t : Fin cfg0.N) (r : Fin 512) (j : Fin 1024) :
    (win0_0.blk t).view.emb (ix2 (n0 := 512) (n1 := 1024) r j) = ix2 (n0 := 4096) (n1 := 1024) (under N_0 t r) j := by
  blk_ext [at_rows, under_val]

theorem emb_out (t : Fin cfg0.N) (r : Fin 512) (j : Fin 1024) :
    (win0_4.blk t).view.emb (ix2 (n0 := 512) (n1 := 1024) r j) = ix2 (n0 := 4096) (n1 := 1024) (under N_0 t r) j := by
  blk_ext [at_out, under_val]

theorem emb_one (t : Fin cfg0.N) (y : S1x1024.Idx) : (win0_2.blk t).view.emb y = y := by
  blk_ext [at_one]

theorem emb_sums (t : Fin cfg0.N) (y : S8x1024.Idx) : (win0_5.blk t).view.emb y = y := by
  blk_ext [at_sums]

theorem block_h (c : Dev nD) (t : Fin cfg0.N) (r : Fin 512) (j : Fin 1024) :
    iblk m c 0 t (ix2 (n0 := 512) (n1 := 1024) r j) = H m c (ix2 (under N_0 t r) j) := congrArg (H m c) (emb_rows t r j)
theorem block_y (c : Dev nD) (t : Fin cfg0.N) (r : Fin 512) (j : Fin 1024) :
    iblk m c 1 t (ix2 (n0 := 512) (n1 := 1024) r j) = Y m c (ix2 (under N_0 t r) j) := congrArg (Y m c) (emb_rows t r j)
theorem block_g (c : Dev nD) (t : Fin cfg0.N) : iblk m c 2 t = G m c := funext fun y => congrArg (G m c) (emb_one t y)
theorem block_a (c : Dev nD) (t : Fin cfg0.N) : iblk m c 3 t = A m c := funext fun y => congrArg (A m c) (emb_one t y)

/-- What a point leaves of the rows. -/
theorem point_back (c : Dev nD) (t : Fin cfg0.N) (r : Fin 512) (j : Fin 1024) :
    (outsAt0 m c t.val t.isLt).1 (ix2 (n0 := 512) (n1 := 1024) r j)
      = back (H m c) (Y m c) (G m c) (A m c) (under N_0 t r) j := by
  have h : (outsAt0 m c t.val t.isLt).1 (ix2 (n0 := 512) (n1 := 1024) r j)
      = back (R := 512) (iblk m c 0 t) (iblk m c 1 t) (iblk m c 2 t) (iblk m c 3 t) r j := by
    by_cases h0 : t.val % 8 = 0
    · rw [outsAt0_A m c t h0]; frame_out; exact pay_back _ _ _ _ r j
    · rw [outsAt0_B m c t h0]; frame_out; exact pay_back _ _ _ _ r j
  rw [h, block_g, block_a]
  exact back_under _ _ (under N_0 t) (block_h m c t) (block_y m c t) r j

/-- What a point adds to the sums. -/
abbrev part (c : Dev nD) (t : Fin cfg0.N) : (Face 8 1024).Idx → EReal := fun y =>
  shares (R := 512) (iblk m c 0 t) (iblk m c 1 t) (iblk m c 2 t) (iblk m c 3 t) (y 0).val (y 1)

theorem first_sums (c : Dev nD) (t : Fin cfg0.N) (h0 : t.val % 8 = 0) (y : S8x1024.Idx) :
    (outsAt0 m c t.val t.isLt).2 y = (0 : EReal) + part m c t y := by
  rw [outsAt0_A m c t h0]; frame_out
  refine (canon_row (ms0_5 t).view 1 _ _ _ y).trans ?_
  rw [canon_row (ms0_5 t).view]
  have hz : View.canon [(⟨Rect.unit (s := S8x1024) ![0, 0] ![8, 1024] inb_S8x1024_S8x1024_0_0, k0_pay2 (F := Ideal)⟩ :
      View.Piece (Elt Ideal) S8x1024 .f32)] y = (0 : EReal) :=
    (congrFun (View.canon_cons_unit_zero (S := S8x1024) (Val := Elt Ideal) (e := .f32) Cert.Adam.whole_off
      inb_S8x1024_S8x1024_0_0 (k0_pay2 (F := Ideal)) []) y).trans (pay_none y)
  split_ifs with h1 h0
  · refine pay_wt _ _ _ _ _ _ h1 ((load_row _ _ _ _ y h1).trans ?_)
    exact (canon_row (ms0_5 t).view 0 _ _ _ y).trans ((if_neg (by omega)).trans hz)
  · exact pay_gate _ _ _ _ _ _ h0 ((load_row _ _ _ _ y h0).trans hz)
  · exact hz.trans (add_none _ _ _ _ _ h1 h0)

theorem next_sums (c : Dev nD) (t : Fin cfg0.N) (h0 : ¬t.val % 8 = 0) (y : S8x1024.Idx) :
    (outsAt0 m c t.val t.isLt).2 y
      = (outsAt0 m c (t.val - 1) (Nat.lt_of_le_of_lt (Nat.sub_le _ _) t.isLt)).2 y + part m c t y := by
  rw [outsAt0_B m c t h0]; frame_out
  generalize (outsAt0 m c (t.val - 1) _).2 = old
  refine (read_row (ms0_5 t).view _ 1 _ _ _ y).trans ?_
  rw [read_row, View.writes_nil, (hs0_5 t).read_unread]
  split_ifs with h1 hz
  · exact pay_wt _ _ _ _ _ _ h1 (ld_row _ _ _ y h1)
  · exact pay_gate _ _ _ _ _ _ hz (ld_row _ _ _ y hz)
  · exact add_none _ _ _ _ _ h1 hz

/-- The two arrays after the run. -/
theorem arrays (c : Dev nD) :
    ((dats m 0 c).arrAt 4 cfg0.N = fun i : S4096x1024.Idx => back (H m c) (Y m c) (G m c) (A m c) (i 0) (i 1))
      ∧ ((dats m 0 c).arrAt 5 cfg0.N = fun i : S8x1024.Idx => shares (H m c) (Y m c) (G m c) (A m c) (i 0).val (i 1)) := by
  refine ⟨(dats m 0 c).arrAt_eq_of_covers 4 _ (by decide +kernel) fun t _ y => ?_,
    (dats m 0 c).arrAt_eq_of_covers 5 _ (by decide +kernel) fun t hf y => ?_⟩ <;> blk_simp
  · rw [after0_4]
    obtain ⟨r, j, rfl⟩ : ∃ (r : Fin 512) (j : Fin 1024), y = ix2 r j := ⟨y 0, y 1, ValueIdx.eq_ix2 y⟩
    exact (point_back m c t r j).trans (congrArg (fun i : (Face 4096 1024).Idx =>
      back (H m c) (Y m c) (G m c) (A m c) (i 0) (i 1)) (emb_out t r j)).symm
  · have hl : t.val + 1 = cfg0.N := by
      have h7 := (flush0_5 t).mp hf
      have := lt_of_lt_of_eq t.isLt (show cfg0.N = 8 from N_0)
      rw [show cfg0.N = 8 from N_0]; omega
    rw [after0_5, Pipeline.eq_sum_fin_of_reset_step_apply_last (fun n h => (outsAt0 m c n h).2) 8 (fun _ => (0 : EReal)) (part m c)
      (first_sums m c) (next_sums m c) (le_of_eq N_0) t hl y, zero_add, at_sums, emb_sums]
    rw [show (![0, 0] : Fin 2 → Nat) 0 * 8 + (y 0).val = (y 0).val from by simp]
    refine Eq.trans ?_ (Fin.sum_univ_tiles 8 512 rfl fun r : Fin 4096 =>
      share (H m c) (Y m c) (G m c) (A m c) (y 0).val (y 1) r).symm
    refine Finset.sum_congr (M := EReal) rfl fun p _ => Finset.sum_congr (M := EReal) rfl fun r _ => ?_
    rw [block_g, block_a]
    exact share_under _ _ (under N_0 p) (block_h m c p) (block_y m c p) _ _ r

end Run

section Host
open Cert.PostnormedBwdIdeal Cert.PostnormedBwdIdeal.Value

variable (m : (ℓ : Loc nD τ sig) → Buf (Elt Ideal) ℓ)

theorem host_back (c : Dev nD) (r : Fin 4096) (j : Fin 1024) :
    res_main_v41 m c (ix2 (n0 := 4096) (n1 := 1024) r j)
      = back (R := 4096) (m ((c.tc : Thread nD τ).loc main_arg0)) (m ((c.tc : Thread nD τ).loc main_arg1)) (m ((c.tc : Thread nD τ).loc main_arg2))
        (m ((c.tc : Thread nD τ).loc main_arg3)) r j := by
  pointwise [res_main_v41]
  simp only [Fin.sum_univ_one]
  exact backs (R := 4096) _ _ _ _ r j _ rfl

end Host

/-! ## The claim -/

theorem values : Cert.algebraic_PostnormBwdIdeal_PostnormedBwdIdeal (hPostnormBwdIdeal := Cert.PostnormBwdIdeal.Gen.facts)
    (hPostnormedBwdIdeal := Cert.PostnormedBwdIdeal.Gen.facts) := fun m g m' g' _ hagree => by
  refine ⟨fun c => fun i => back (H m c) (Y m c) (G m c) (A m c) (i 0) (i 1),
    fun c => fun i => shares (H m c) (Y m c) (G m c) (A m c) (i 0).val (i 1),
    (θ_run Cert.PostnormBwdIdeal.defs _ _).mono (fun r h c => ⟨(h c).1.trans (arrays m c).1, (h c).2.1.trans (arrays m c).2, (h c).2.2⟩)
      (Cert.PostnormBwdIdeal.Value.run_blocks m g),
    (θ_run Cert.PostnormedBwdIdeal.defs _ _).mono (fun r h c => ?_) (Cert.PostnormedBwdIdeal.Value.run (F := Ideal) m' g')⟩
  obtain ⟨h0, h1, h2, h3⟩ := hagree c
  obtain ⟨hr, hs, hargs⟩ := h c
  refine ⟨hr.trans (funext fun i => ?_), hs.trans (funext fun i => ?_), hargs⟩
  · obtain ⟨r, j, rfl⟩ : ∃ (r : Fin 4096) (j : Fin 1024), i = ix2 r j := ⟨i 0, i 1, ValueIdx.eq_ix2 i⟩
    have hh := host_back m' c r j
    rw [h0, h1, h2, h3] at hh
    exact hh
  · rw [h0, h1, h2, h3]
    pointwise []
    exact pieces (H m c) (Y m c) (G m c) (A m c) _ _

end Cert.Norm.Backward

end
-- ==== Proof.Head.lean ====
/-
  The loss and its gradient: half the sum over the rows of each row's mean of squared differences, and the differences over the
  number of columns. The kernel takes the rows in blocks and halves each block's sum; the reference halves the sum once and
  differentiates.
-/
module

public import proofs.«01_k».proof.Proof.Prenorm
public import proofs.«01_k».proof.Proof.Gen.LossIdeal.Frame
public import proofs.«01_k».proof.Proof.Gen.LossIdeal.Value
public import proofs.«01_k».proof.Proof.Gen.LostIdeal.Run

@[expose] public section

noncomputable section

namespace Cert.Norm.Head
open Idealize.ShloMosaic Idealize.ShloMosaic.TcCoe Idealize.SL.Sem
open Cert.Adam (Face)

/-! ## The formulas -/

abbrev half : EReal := Ideal.ofBits .f32 0x3F000000#32

theorem half_real : half = ((1 / 2 : ℝ) : EReal) := by
  simp [half, Ideal.ofBits, Ideal.ieee, -EReal.coe_mul]; norm_num

theorem two_word : Ideal.ofBits .f32 0x40000000#32 = ((2 : ℝ) : EReal) := by
  simp [Ideal.ofBits, Ideal.ieee, -EReal.coe_mul]; norm_num

/-- A factor goes into a sum of numbers that are not negative. -/
theorem mul_sum {ι : Type} (a : EReal) (s : Finset ι) (f : ι → EReal) (hf : ∀ i, 0 ≤ f i) : a * ∑ i ∈ s, f i = ∑ i ∈ s, a * f i := by
  classical
  induction s using Finset.induction_on with
  | empty => simp
  | insert i s hi ih =>
    rw [Finset.sum_insert hi, Finset.sum_insert hi, EReal.left_distrib_of_nonneg (hf i) (Finset.sum_nonneg fun k _ => hf k), ih]

/-- The gradient of a square, halved. -/
theorem slope (e : EReal) : Ideal.div half K * (Ideal.ofBits .f32 0x40000000#32 * e) = Ideal.div e K := by
  rw [div_count, div_count, half_real, two_word, ← mul_assoc, ← EReal.coe_mul, ← EReal.coe_mul, mul_comm]
  norm_num

variable {R : Nat}

/-- The mean of a row's squared differences. -/
def miss (O T : (Face R 1024).Idx → EReal) (r : Fin R) : EReal :=
  Ideal.div (∑ k : Fin 1024, (O (ix2 r k) - T (ix2 r k)) * (O (ix2 r k) - T (ix2 r k))) K

theorem miss_nonneg (O T : (Face R 1024).Idx → EReal) (r : Fin R) : 0 ≤ miss O T r := by
  rw [miss, div_count]
  exact mul_nonneg (Finset.sum_nonneg fun k _ => square_nonneg _) (by exact_mod_cast (by norm_num : (0 : ℝ) ≤ 1 / 1024))

/-- Half the sum over the rows. -/
def total (O T : (Face R 1024).Idx → EReal) : EReal := half * ∑ r : Fin R, miss O T r

theorem miss_under {Q : Nat} {O T : (Face R 1024).Idx → EReal} {O' T' : (Face Q 1024).Idx → EReal} (u : Fin Q → Fin R)
    (hO : ∀ r j, O' (ix2 r j) = O (ix2 (u r) j)) (hT : ∀ r j, T' (ix2 r j) = T (ix2 (u r) j)) (r : Fin Q) :
    miss O' T' r = miss O T (u r) := by
  simp only [miss, hO, hT]

/-! ## The kernel's payloads and run -/

section Run
open Cert.LossIdeal Cert.LossIdeal.Gen

theorem pay_slope (x0 x1 : Vec Ideal S512x1024 .f32) (y : S512x1024.Idx) :
    k0_pay3 x0 x1 y = Ideal.div ((show EReal from x0 y) - x1 y) K := by
  pointwise [k0_pay3, k0_pay2]

theorem pay_total (x0 x1 : Vec Ideal S512x1024 .f32) (b : Vec Ideal S1x128 .f32) (y : S1x128.Idx) :
    k0_pay4 x0 x1 b y = (b y : EReal) + total (R := 512) x0 x1 := by
  obtain ⟨r, j, rfl⟩ : ∃ (r : Fin 1) (j : Fin 128), y = ix2 r j := ⟨y 0, y 1, ValueIdx.eq_ix2 y⟩
  pointwise [k0_pay4, k0_pay2]; rfl

theorem pay_zero (y : S1x128.Idx) : k0_pay1 (F := Ideal) y = (0 : EReal) := by
  pointwise [k0_pay1]

variable (m : (ℓ : Loc nD τ sig) → Buf (Elt Ideal) ℓ)

theorem at_rows : ∀ t : Fin cfg0.N, win0_0.index t = ![t.val, 0] := (by decide +kernel : ∀ t : Fin grid0.N, _)
theorem at_out : ∀ t : Fin cfg0.N, win0_3.index t = ![t.val, 0] := (by decide +kernel : ∀ t : Fin grid0.N, _)

abbrev O (c : Dev nD) : (Face 4096 1024).Idx → EReal := m ((c : Thread nD τ).loc main_arg0)
abbrev T (c : Dev nD) : (Face 4096 1024).Idx → EReal := m ((c : Thread nD τ).loc main_arg1)

theorem emb_rows (t : Fin cfg0.N) (r : Fin 512) (j : Fin 1024) :
    (win0_0.blk t).view.emb (ix2 (n0 := 512) (n1 := 1024) r j) = ix2 (n0 := 4096) (n1 := 1024) (under N_0 t r) j := by
  blk_ext [at_rows, under_val]

theorem same_rows (t : Fin cfg0.N) (y : S512x1024.Idx) : (win0_0.blk t).view.emb y = (win0_3.blk t).view.emb y := by
  blk_ext [at_rows, at_out]

theorem block_o (c : Dev nD) (t : Fin cfg0.N) (r : Fin 512) (j : Fin 1024) :
    iblk m c 0 t (ix2 (n0 := 512) (n1 := 1024) r j) = O m c (ix2 (under N_0 t r) j) := congrArg (O m c) (emb_rows t r j)
theorem block_t (c : Dev nD) (t : Fin cfg0.N) (r : Fin 512) (j : Fin 1024) :
    iblk m c 1 t (ix2 (n0 := 512) (n1 := 1024) r j) = T m c (ix2 (under N_0 t r) j) := congrArg (T m c) (emb_rows t r j)

/-- What a point leaves of the gradient. -/
theorem point_slope (c : Dev nD) (t : Fin cfg0.N) (y : S512x1024.Idx) :
    (outsAt0 m c t.val t.isLt).2 y
      = Ideal.div (O m c ((win0_3.blk t).view.emb y) - T m c ((win0_3.blk t).view.emb y)) K := by
  have h : (outsAt0 m c t.val t.isLt).2 y = Ideal.div ((show EReal from iblk m c 0 t y) - (show EReal from iblk m c 1 t y)) K := by
    by_cases h0 : t.val % 8 = 0
    · rw [outsAt0_A m c t h0]; frame_out; exact pay_slope _ _ y
    · rw [outsAt0_B m c t h0]; frame_out; exact pay_slope _ _ y
  exact h.trans (congrArg (fun i : (Face 4096 1024).Idx => Ideal.div (O m c i - T m c i) K) (same_rows t y))

/-- What a point adds to the loss. -/
abbrev part (c : Dev nD) (t : Fin cfg0.N) : (Face 1 128).Idx → EReal := fun _ =>
  total (R := 512) (iblk m c 0 t) (iblk m c 1 t)

theorem first_total (c : Dev nD) (t : Fin cfg0.N) (h0 : t.val % 8 = 0) (y : S1x128.Idx) :
    (outsAt0 m c t.val t.isLt).1 y = (0 : EReal) + part m c t y := by
  rw [outsAt0_A m c t h0]; frame_out
  exact (pay_total _ _ _ y).trans (congrArg (· + part m c t y) (pay_zero y))

theorem next_total (c : Dev nD) (t : Fin cfg0.N) (h0 : ¬t.val % 8 = 0) (y : S1x128.Idx) :
    (outsAt0 m c t.val t.isLt).1 y
      = (outsAt0 m c (t.val - 1) (Nat.lt_of_le_of_lt (Nat.sub_le _ _) t.isLt)).1 y + part m c t y := by
  rw [outsAt0_B m c t h0]; frame_out
  exact pay_total _ _ _ y

/-- The two arrays after the run. -/
theorem arrays (c : Dev nD) :
    ((dats m 0 c).arrAt 2 cfg0.N = fun _ : S1x128.Idx => total (O m c) (T m c))
      ∧ ((dats m 0 c).arrAt 3 cfg0.N = fun i : S4096x1024.Idx => Ideal.div (O m c i - T m c i) K) := by
  refine ⟨(dats m 0 c).arrAt_eq_of_covers 2 _ (by decide +kernel) fun t hf y => ?_,
    (dats m 0 c).arrAt_eq_of_covers 3 _ (by decide +kernel) fun t _ y => ?_⟩ <;> blk_simp
  · have hl : t.val + 1 = cfg0.N := by
      have h7 := (flush0_2 t).mp hf
      have := lt_of_lt_of_eq t.isLt (show cfg0.N = 8 from N_0)
      rw [show cfg0.N = 8 from N_0]; omega
    rw [after0_2, Pipeline.eq_sum_fin_of_reset_step_apply_last (fun n h => (outsAt0 m c n h).1) 8 (fun _ => (0 : EReal)) (part m c)
      (first_total m c) (next_total m c) (le_of_eq N_0) t hl y, zero_add]
    rw [total, Fin.sum_univ_tiles 8 512 rfl fun r : Fin 4096 => miss (O m c) (T m c) r,
      mul_sum _ _ _ fun p => Finset.sum_nonneg fun r _ => miss_nonneg _ _ _]
    refine Finset.sum_congr (M := EReal) rfl fun p _ => congrArg (half * ·) (Finset.sum_congr (M := EReal) rfl fun r _ => ?_)
    exact miss_under (under N_0 p) (block_o m c p) (block_t m c p) r
  · rw [after0_3]
    exact point_slope m c t y

end Run

/-! ## The claim -/

theorem values : Cert.algebraic_LossIdeal_LostIdeal (hLossIdeal := Cert.LossIdeal.Gen.facts)
    (hLostIdeal := Cert.LostIdeal.Gen.facts) := fun m g m' g' _ hagree => by
  refine ⟨fun c => fun _ => total (O m c) (T m c), fun c => fun i => Ideal.div (O m c i - T m c i) K,
    (θ_run Cert.LossIdeal.defs _ _).mono (fun r h c => ⟨(h c).1.trans (arrays m c).1, (h c).2.1.trans (arrays m c).2, (h c).2.2⟩)
      (Cert.LossIdeal.Value.run_blocks m g),
    (θ_run Cert.LostIdeal.defs _ _).mono (fun r h c => ?_) (Cert.LostIdeal.Value.run (F := Ideal) m' g')⟩
  obtain ⟨h0, h1⟩ := hagree c
  obtain ⟨hr, hs, hargs⟩ := h c
  refine ⟨hr.trans (funext fun i => ?_), hs.trans (funext fun i => ?_), hargs⟩
  · rw [h0, h1]
    pointwise []
    rfl
  · rw [h0, h1]
    pointwise []
    exact slope (O m c i - T m c i)

end Cert.Norm.Head

end
-- ==== Proof.Sublayer.lean ====
/-
  The gated network's sublayer, the loss and the first calls of the backward pass, as one program of nine calls. Here the six
  forward ones: the rows normalised and mixed, the product with the first weight, the gate, the product with the second weight,
  the result normalised and added to the rows, the loss with its gradient. Each call's array is a formula of the arrays it is
  given, whatever they hold.
-/
module

public import proofs.«01_k».proof.Proof.Norms
public import proofs.«01_k».proof.Proof.Head
public import proofs.«01_k».proof.Proof.Gen.FfnIdeal.Frame

@[expose] public section

noncomputable section

namespace Cert.Norm.Sublayer
open Idealize.ShloMosaic Idealize.ShloMosaic.TcCoe Idealize.SL.Sem
open Cert.Adam (Face)
open Cert.Norm.Before (mixed)
open Cert.Norm.After (gated)
open Cert.Norm.Head (total miss half mul_sum miss_nonneg miss_under)

/-! ## The formulas -/

/-- An element of a product. -/
def product {R n C : Nat} (A : (Face R n).Idx → EReal) (B : (Face n C).Idx → EReal) (r : Fin R) (j : Fin C) : EReal :=
  ∑ k : Fin n, A (ix2 r k) * B (ix2 k j)

/-- The columns of the first half and of the second. -/
def left (j : Fin 2816) : Fin 5632 := ⟨j.val, by have := j.isLt; omega⟩
def right (j : Fin 2816) : Fin 5632 := ⟨2816 + j.val, by have := j.isLt; omega⟩

/-- An element of the gate. -/
def gate {R : Nat} (U : (Face R 5632).Idx → EReal) (r : Fin R) (j : Fin 2816) : EReal :=
  U (ix2 r (left j)) * Ideal.logistic (U (ix2 r (left j))) * U (ix2 r (right j))

/-- The arrays of a chain of formulas. -/
abbrev face {R C : Nat} (f : Fin R → Fin C → EReal) : (Face R C).Idx → EReal := fun i => f (i 0) (i 1)

/-- The formulas on a block are the formulas on what lies under it. -/
theorem product_under {R n C Q D : Nat} {A : (Face R n).Idx → EReal} {B : (Face n C).Idx → EReal} {A' : (Face Q n).Idx → EReal}
    {B' : (Face n D).Idx → EReal} (u : Fin Q → Fin R) (w : Fin D → Fin C) (hA : ∀ r k, A' (ix2 r k) = A (ix2 (u r) k))
    (hB : ∀ k j, B' (ix2 k j) = B (ix2 k (w j))) (r : Fin Q) (j : Fin D) : product A' B' r j = product A B (u r) (w j) := by
  simp only [product, hA, hB]

theorem gate_under {R Q : Nat} {U : (Face R 5632).Idx → EReal} {U' : (Face Q 5632).Idx → EReal} (u : Fin Q → Fin R)
    (hU : ∀ r j, U' (ix2 r j) = U (ix2 (u r) j)) (r : Fin Q) (j : Fin 2816) : gate U' r j = gate U (u r) j := by
  simp only [gate, hU]

theorem mixed_under {R Q : Nat} {X : (Face R 1024).Idx → EReal} {X' : (Face Q 1024).Idx → EReal} (G S B : (Face 1 1024).Idx → EReal)
    (u : Fin Q → Fin R) (hX : ∀ r j, X' (ix2 r j) = X (ix2 (u r) j)) (r : Fin Q) (j : Fin 1024) :
    mixed X' G S B r j = mixed X G S B (u r) j := by
  simp only [mixed, rs_under u hX, hX]

theorem gated_under {R Q : Nat} {X Y : (Face R 1024).Idx → EReal} {X' Y' : (Face Q 1024).Idx → EReal} (G A : (Face 1 1024).Idx → EReal)
    (u : Fin Q → Fin R) (hX : ∀ r j, X' (ix2 r j) = X (ix2 (u r) j)) (hY : ∀ r j, Y' (ix2 r j) = Y (ix2 (u r) j)) (r : Fin Q)
    (j : Fin 1024) : gated X' Y' G A r j = gated X Y G A (u r) j := by
  simp only [gated, rs_under u hY, hX, hY]

section Kernel
open Cert.FfnIdeal Cert.FfnIdeal.Gen

/-! ## The payloads -/

theorem pay_mixed (x0 : Vec Ideal S512x1024 .f32) (x1 x2 x3 : Vec Ideal S1x1024 .f32) (r : Fin 512) (j : Fin 1024) :
    k0_pay1 x0 x1 x2 x3 (ix2 (n0 := 512) (n1 := 1024) r j) = mixed (R := 512) x0 x1 x2 x3 r j := by
  pointwise [k0_pay1]; rfl

theorem pay_in (x0 : Vec Ideal S1024x1024 .bf16) (x1 : Vec Ideal S1024x512 .bf16) (r : Fin 1024) (j : Fin 512) :
    k1_pay1 x0 x1 (ix2 (n0 := 1024) (n1 := 512) r j) = product (R := 1024) (n := 1024) (C := 512) x0 x1 r j := by
  pointwise [k1_pay1]; rfl

theorem pay_gate (x : Vec Ideal S256x5632 .f32) (r : Fin 256) (j : Fin 2816) :
    k2_pay1 (View.ld x r2_0) (View.ld x r2_1) (ix2 (n0 := 256) (n1 := 2816) r j) = gate (R := 256) x r j := by
  have hl : View.ld x r2_0 (ix2 (n0 := 256) (n1 := 2816) r j) = x (ix2 (n0 := 256) (n1 := 5632) r (left j)) :=
    congrArg x (Shape.idx_ext₂ (by simp) (by simp [left, right]))
  have hr : View.ld x r2_1 (ix2 (n0 := 256) (n1 := 2816) r j) = x (ix2 (n0 := 256) (n1 := 5632) r (right j)) :=
    congrArg x (Shape.idx_ext₂ (by simp) (by simp [left, right]))
  rw [gate, ← hl, ← hr]
  generalize View.ld x r2_0 = a
  generalize View.ld x r2_1 = b
  pointwise [k2_pay1]

theorem pay_out (x0 : Vec Ideal S1024x2816 .bf16) (x1 : Vec Ideal S2816x512 .bf16) (r : Fin 1024) (j : Fin 512) :
    k3_pay1 x0 x1 (ix2 (n0 := 1024) (n1 := 512) r j) = product (R := 1024) (n := 2816) (C := 512) x0 x1 r j := by
  pointwise [k3_pay1]; rfl

theorem pay_gated (x0 x1 : Vec Ideal S512x1024 .f32) (x2 x3 : Vec Ideal S1x1024 .f32) (r : Fin 512) (j : Fin 1024) :
    k4_pay1 x1 x0 x3 x2 (ix2 (n0 := 512) (n1 := 1024) r j) = gated (R := 512) x0 x1 x2 x3 r j := by
  pointwise [k4_pay1]; rfl

theorem pay_slope (x0 x1 : Vec Ideal S512x1024 .f32) (y : S512x1024.Idx) :
    k5_pay3 x0 x1 y = Ideal.div ((show EReal from x0 y) - x1 y) K := by
  pointwise [k5_pay3, k5_pay2]

theorem pay_total (x0 x1 : Vec Ideal S512x1024 .f32) (b : Vec Ideal S1x128 .f32) (y : S1x128.Idx) :
    k5_pay4 x0 x1 b y = (b y : EReal) + total (R := 512) x0 x1 := by
  obtain ⟨r, j, rfl⟩ : ∃ (r : Fin 1) (j : Fin 128), y = ix2 r j := ⟨y 0, y 1, ValueIdx.eq_ix2 y⟩
  pointwise [k5_pay4, k5_pay2]; rfl

theorem pay_zero (y : S1x128.Idx) : k5_pay1 (F := Ideal) y = (0 : EReal) := by
  pointwise [k5_pay1]

/-! ## The blocks -/

theorem at_rows : ∀ t : Fin cfg0.N, win0_0.index t = ![t.val, 0] := (by decide +kernel : ∀ t : Fin grid0.N, _)
theorem at_one : ∀ t : Fin cfg0.N, win0_1.index t = ![0, 0] := (by decide +kernel : ∀ t : Fin grid0.N, _)
theorem at_in : ∀ t : Fin cfg1.N, win1_0.index t = ![t.val / 11, 0] := (by decide +kernel : ∀ t : Fin grid1.N, _)
theorem at_in_weight : ∀ t : Fin cfg1.N, win1_1.index t = ![0, t.val % 11] := (by decide +kernel : ∀ t : Fin grid1.N, _)
theorem at_in_out : ∀ t : Fin cfg1.N, win1_2.index t = ![t.val / 11, t.val % 11] := (by decide +kernel : ∀ t : Fin grid1.N, _)
theorem at_gate : ∀ t : Fin cfg2.N, win2_0.index t = ![t.val, 0] := (by decide +kernel : ∀ t : Fin grid2.N, _)
theorem at_gate_out : ∀ t : Fin cfg2.N, win2_1.index t = ![t.val, 0] := (by decide +kernel : ∀ t : Fin grid2.N, _)
theorem at_out : ∀ t : Fin cfg3.N, win3_0.index t = ![t.val / 2, 0] := (by decide +kernel : ∀ t : Fin grid3.N, _)
theorem at_out_weight : ∀ t : Fin cfg3.N, win3_1.index t = ![0, t.val % 2] := (by decide +kernel : ∀ t : Fin grid3.N, _)
theorem at_out_out : ∀ t : Fin cfg3.N, win3_2.index t = ![t.val / 2, t.val % 2] := (by decide +kernel : ∀ t : Fin grid3.N, _)

/-- The row and the column of the arrays under row `r` and column `j` of point `t`'s block, in the calls whose blocks are not
    rows of 512. -/
def inRow (t : Fin cfg1.N) (r : Fin 1024) : Fin 4096 :=
  ⟨t.val / 11 * 1024 + r.val, by have := lt_of_lt_of_eq t.isLt N_1; have := r.isLt; omega⟩
def inCol (t : Fin cfg1.N) (j : Fin 512) : Fin 5632 :=
  ⟨t.val % 11 * 512 + j.val, by have := j.isLt; omega⟩
def gateRow (t : Fin cfg2.N) (r : Fin 256) : Fin 4096 :=
  ⟨t.val * 256 + r.val, by have := lt_of_lt_of_eq t.isLt N_2; have := r.isLt; omega⟩
def outRow (t : Fin cfg3.N) (r : Fin 1024) : Fin 4096 :=
  ⟨t.val / 2 * 1024 + r.val, by have := lt_of_lt_of_eq t.isLt N_3; have := r.isLt; omega⟩
def outCol (t : Fin cfg3.N) (j : Fin 512) : Fin 1024 :=
  ⟨t.val % 2 * 512 + j.val, by have := j.isLt; omega⟩

theorem emb_rows (t : Fin cfg0.N) (r : Fin 512) (j : Fin 1024) :
    (win0_0.blk t).view.emb (ix2 (n0 := 512) (n1 := 1024) r j) = ix2 (n0 := 4096) (n1 := 1024) (under N_0 t r) j := by
  blk_ext [at_rows, under_val]
theorem emb_one (t : Fin cfg0.N) (y : S1x1024.Idx) : (win0_1.blk t).view.emb y = y := by
  blk_ext [at_one]
theorem emb_in (t : Fin cfg1.N) (r : Fin 1024) (k : Fin 1024) :
    (win1_0.blk t).view.emb (ix2 (n0 := 1024) (n1 := 1024) r k) = ix2 (n0 := 4096) (n1 := 1024) (inRow t r) k := by
  blk_ext [at_in, inRow]
theorem emb_in_weight (t : Fin cfg1.N) (k : Fin 1024) (j : Fin 512) :
    (win1_1.blk t).view.emb (ix2 (n0 := 1024) (n1 := 512) k j) = ix2 (n0 := 1024) (n1 := 5632) k (inCol t j) := by
  blk_ext [at_in_weight, inCol]
theorem emb_in_out (t : Fin cfg1.N) (r : Fin 1024) (j : Fin 512) :
    (win1_2.blk t).view.emb (ix2 (n0 := 1024) (n1 := 512) r j) = ix2 (n0 := 4096) (n1 := 5632) (inRow t r) (inCol t j) := by
  blk_ext [at_in_out, inRow, inCol]
theorem emb_gate (t : Fin cfg2.N) (r : Fin 256) (k : Fin 5632) :
    (win2_0.blk t).view.emb (ix2 (n0 := 256) (n1 := 5632) r k) = ix2 (n0 := 4096) (n1 := 5632) (gateRow t r) k := by
  blk_ext [at_gate, gateRow]
theorem emb_gate_out (t : Fin cfg2.N) (r : Fin 256) (j : Fin 2816) :
    (win2_1.blk t).view.emb (ix2 (n0 := 256) (n1 := 2816) r j) = ix2 (n0 := 4096) (n1 := 2816) (gateRow t r) j := by
  blk_ext [at_gate_out, gateRow]
theorem emb_out (t : Fin cfg3.N) (r : Fin 1024) (k : Fin 2816) :
    (win3_0.blk t).view.emb (ix2 (n0 := 1024) (n1 := 2816) r k) = ix2 (n0 := 4096) (n1 := 2816) (outRow t r) k := by
  blk_ext [at_out, outRow]
theorem emb_out_weight (t : Fin cfg3.N) (k : Fin 2816) (j : Fin 512) :
    (win3_1.blk t).view.emb (ix2 (n0 := 2816) (n1 := 512) k j) = ix2 (n0 := 2816) (n1 := 1024) k (outCol t j) := by
  blk_ext [at_out_weight, outCol]
theorem emb_out_out (t : Fin cfg3.N) (r : Fin 1024) (j : Fin 512) :
    (win3_2.blk t).view.emb (ix2 (n0 := 1024) (n1 := 512) r j) = ix2 (n0 := 4096) (n1 := 1024) (outRow t r) (outCol t j) := by
  blk_ext [at_out_out, outRow, outCol]

/-! ## The arrays after each call, whatever the call is given -/

variable (V : (c : Dev nD) → (b : Ref sig .tc) → Buf (Elt Ideal) ((c : Thread nD τ).loc b)) (c : Dev nD)

/-- The call's operands, by the argument or the value they are. -/
abbrev X : (Face 4096 1024).Idx → EReal := V c main_arg0
abbrev G : (Face 1 1024).Idx → EReal := V c main_arg1
abbrev S : (Face 1 1024).Idx → EReal := V c main_arg2
abbrev B : (Face 1 1024).Idx → EReal := V c main_arg3
abbrev M : (Face 1024 5632).Idx → EReal := V c main_arg4
abbrev N : (Face 2816 1024).Idx → EReal := V c main_arg5
abbrev P : (Face 1 1024).Idx → EReal := V c main_arg6
abbrev A : (Face 1 1024).Idx → EReal := V c main_arg7
abbrev T : (Face 4096 1024).Idx → EReal := V c main_arg8
abbrev H : (Face 4096 1024).Idx → EReal := V c main_v0
abbrev U : (Face 4096 5632).Idx → EReal := V c main_v1
abbrev Z : (Face 4096 2816).Idx → EReal := V c main_v2
abbrev Y : (Face 4096 1024).Idx → EReal := V c main_v3
abbrev O : (Face 4096 1024).Idx → EReal := V c main_v4
abbrev D : (Face 4096 1024).Idx → EReal := V c main_v5_1
abbrev Q : (Face 4096 1024).Idx → EReal := V c main_v6_0

theorem array_h : (dat0 V c).arrAt 4 cfg0.N = face (mixed (X V c) (G V c) (S V c) (B V c)) := by
  refine (dat0 V c).arrAt_eq_of_covers 4 _ (by decide +kernel) fun t _ y => ?_
  blk_simp
  rw [after0_4, out0_4, View.canon_unit_zero Cert.Adam.whole_off, View.ld_unit_zero Cert.Adam.whole_off,
    View.ld_unit_zero Cert.Adam.whole_off, View.ld_unit_zero Cert.Adam.whole_off, View.ld_unit_zero Cert.Adam.whole_off]
  obtain ⟨r, j, rfl⟩ : ∃ (r : Fin 512) (j : Fin 1024), y = ix2 r j := ⟨y 0, y 1, ValueIdx.eq_ix2 y⟩
  refine Eq.trans ?_ (congrArg (face (mixed (X V c) (G V c) (S V c) (B V c))) (emb_rows t r j)).symm
  refine (pay_mixed _ _ _ _ r j).trans ?_
  have hx : ∀ r j, iblk0 V c 0 t (ix2 (n0 := 512) (n1 := 1024) r j) = X V c (ix2 (under N_0 t r) j) :=
    fun r j => congrArg (X V c) (emb_rows t r j)
  rw [show iblk0 V c 1 t = G V c from funext fun y => congrArg (G V c) (emb_one t y),
    show iblk0 V c 2 t = S V c from funext fun y => congrArg (S V c) (emb_one t y),
    show iblk0 V c 3 t = B V c from funext fun y => congrArg (B V c) (emb_one t y)]
  exact mixed_under _ _ _ (under N_0 t) hx r j

theorem array_u : (dat1 V c).arrAt 2 cfg1.N = face (product (H V c) (M V c)) := by
  refine (dat1 V c).arrAt_eq_of_covers 2 _ (by decide +kernel) fun t _ y => ?_
  blk_simp
  rw [after1_2, out1_2, View.canon_unit_zero Cert.Adam.whole_off, View.ld_unit_zero Cert.Adam.whole_off,
    View.ld_unit_zero Cert.Adam.whole_off]
  obtain ⟨r, j, rfl⟩ : ∃ (r : Fin 1024) (j : Fin 512), y = ix2 r j := ⟨y 0, y 1, ValueIdx.eq_ix2 y⟩
  refine Eq.trans ?_ (congrArg (face (product (H V c) (M V c))) (emb_in_out t r j)).symm
  exact (pay_in _ _ r j).trans (product_under (inRow t) (inCol t) (fun r k => congrArg (H V c) (emb_in t r k))
    (fun k j => congrArg (M V c) (emb_in_weight t k j)) r j)

theorem array_z : (dat2 V c).arrAt 1 cfg2.N = face (gate (U V c)) := by
  refine (dat2 V c).arrAt_eq_of_covers 1 _ (by decide +kernel) fun t _ y => ?_
  blk_simp
  rw [after2_1, out2_1, View.canon_unit_zero Cert.Adam.whole_off]
  obtain ⟨r, j, rfl⟩ : ∃ (r : Fin 256) (j : Fin 2816), y = ix2 r j := ⟨y 0, y 1, ValueIdx.eq_ix2 y⟩
  refine Eq.trans ?_ (congrArg (face (gate (U V c))) (emb_gate_out t r j)).symm
  exact (pay_gate _ r j).trans (gate_under (gateRow t) (fun r k => congrArg (U V c) (emb_gate t r k)) r j)

theorem array_y : (dat3 V c).arrAt 2 cfg3.N = face (product (Z V c) (N V c)) := by
  refine (dat3 V c).arrAt_eq_of_covers 2 _ (by decide +kernel) fun t _ y => ?_
  blk_simp
  rw [after3_2, out3_2, View.canon_unit_zero Cert.Adam.whole_off, View.ld_unit_zero Cert.Adam.whole_off,
    View.ld_unit_zero Cert.Adam.whole_off]
  obtain ⟨r, j, rfl⟩ : ∃ (r : Fin 1024) (j : Fin 512), y = ix2 r j := ⟨y 0, y 1, ValueIdx.eq_ix2 y⟩
  refine Eq.trans ?_ (congrArg (face (product (Z V c) (N V c))) (emb_out_out t r j)).symm
  exact (pay_out _ _ r j).trans (product_under (outRow t) (outCol t) (fun r k => congrArg (Z V c) (emb_out t r k))
    (fun k j => congrArg (N V c) (emb_out_weight t k j)) r j)

theorem array_o : (dat4 V c).arrAt 4 cfg4.N = face (gated (X V c) (Y V c) (P V c) (A V c)) := by
  refine (dat4 V c).arrAt_eq_of_covers 4 _ (by decide +kernel) fun t _ y => ?_
  blk_simp
  rw [after4_4, out4_4, View.canon_unit_zero Cert.Adam.whole_off, View.ld_unit_zero Cert.Adam.whole_off,
    View.ld_unit_zero Cert.Adam.whole_off, View.ld_unit_zero Cert.Adam.whole_off, View.ld_unit_zero Cert.Adam.whole_off]
  obtain ⟨r, j, rfl⟩ : ∃ (r : Fin 512) (j : Fin 1024), y = ix2 r j := ⟨y 0, y 1, ValueIdx.eq_ix2 y⟩
  refine Eq.trans ?_ (congrArg (face (gated (X V c) (Y V c) (P V c) (A V c))) (emb_rows t r j)).symm
  refine (pay_gated _ _ _ _ r j).trans ?_
  rw [show iblk4 V c 2 t = P V c from funext fun y => congrArg (P V c) (emb_one t y),
    show iblk4 V c 3 t = A V c from funext fun y => congrArg (A V c) (emb_one t y)]
  exact gated_under _ _ (under N_0 t) (fun r j => congrArg (X V c) (emb_rows t r j)) (fun r j => congrArg (Y V c) (emb_rows t r j)) r j

/-- What a point of the last call leaves of the gradient. -/
theorem point_slope (t : Fin cfg5.N) (r : Fin 512) (j : Fin 1024) :
    (outsAt5 V c t.val t.isLt).2 (ix2 (n0 := 512) (n1 := 1024) r j)
      = Ideal.div (O V c (ix2 (under N_0 t r) j) - T V c (ix2 (under N_0 t r) j)) K := by
  have h : ∀ y, (outsAt5 V c t.val t.isLt).2 y = Ideal.div ((show EReal from iblk5 V c 0 t y) - (show EReal from iblk5 V c 1 t y)) K := by
    intro y
    by_cases h0 : t.val % 8 = 0
    · rw [outsAt5_A V c t h0]; frame_out; exact pay_slope _ _ y
    · rw [outsAt5_B V c t h0]; frame_out; exact pay_slope _ _ y
  exact (h _).trans (congrArg (fun i : (Face 4096 1024).Idx => Ideal.div (O V c i - T V c i) K) (emb_rows t r j))

/-- What it adds to the loss. -/
abbrev part (t : Fin cfg5.N) : (Face 1 128).Idx → EReal := fun _ => total (R := 512) (iblk5 V c 0 t) (iblk5 V c 1 t)

theorem first_total (t : Fin cfg5.N) (h0 : t.val % 8 = 0) (y : S1x128.Idx) :
    (outsAt5 V c t.val t.isLt).1 y = (0 : EReal) + part V c t y := by
  rw [outsAt5_A V c t h0]; frame_out
  exact (pay_total _ _ _ y).trans (congrArg (· + part V c t y) (pay_zero y))

theorem next_total (t : Fin cfg5.N) (h0 : ¬t.val % 8 = 0) (y : S1x128.Idx) :
    (outsAt5 V c t.val t.isLt).1 y
      = (outsAt5 V c (t.val - 1) (Nat.lt_of_le_of_lt (Nat.sub_le _ _) t.isLt)).1 y + part V c t y := by
  rw [outsAt5_B V c t h0]; frame_out
  exact pay_total _ _ _ y

theorem array_loss : (dat5 V c).arrAt 2 cfg5.N = fun _ : S1x128.Idx => total (O V c) (T V c) := by
  refine (dat5 V c).arrAt_eq_of_covers 2 _ (by decide +kernel) fun t hf y => ?_
  blk_simp
  have hl : t.val + 1 = cfg5.N := by
    have h7 := (flush5_2 t).mp hf
    have := lt_of_lt_of_eq t.isLt (show cfg5.N = 8 from N_5)
    rw [show cfg5.N = 8 from N_5]; omega
  rw [after5_2, Pipeline.eq_sum_fin_of_reset_step_apply_last (fun n h => (outsAt5 V c n h).1) 8 (fun _ => (0 : EReal)) (part V c)
    (first_total V c) (next_total V c) (le_of_eq N_5) t hl y, zero_add]
  rw [total, Fin.sum_univ_tiles 8 512 rfl fun r : Fin 4096 => miss (O V c) (T V c) r,
    mul_sum _ _ _ fun p => Finset.sum_nonneg fun r _ => miss_nonneg _ _ _]
  refine Finset.sum_congr (M := EReal) rfl fun p _ => congrArg (half * ·) (Finset.sum_congr (M := EReal) rfl fun r _ => ?_)
  exact miss_under (under N_0 p) (fun r j => congrArg (O V c) (emb_rows p r j)) (fun r j => congrArg (T V c) (emb_rows p r j)) r

theorem array_slope : (dat5 V c).arrAt 3 cfg5.N = fun i : S4096x1024.Idx => Ideal.div (O V c i - T V c i) K := by
  refine (dat5 V c).arrAt_eq_of_covers 3 _ (by decide +kernel) fun t _ y => ?_
  blk_simp
  rw [after5_3]
  obtain ⟨r, j, rfl⟩ : ∃ (r : Fin 512) (j : Fin 1024), y = ix2 r j := ⟨y 0, y 1, ValueIdx.eq_ix2 y⟩
  exact (point_slope V c t r j).trans (congrArg (fun i : (Face 4096 1024).Idx => Ideal.div (O V c i - T V c i) K) (emb_rows t r j)).symm

end Kernel

end Cert.Norm.Sublayer

end
-- ==== Proof.SublayerBack.lean ====
/-
  The backward calls of the program of `Sublayer.lean`: the gradient of the rows that the second normalisation took, the sums that
  are the gradients of the gate and of the weight, and the two products with that gradient. Each call's array is again a formula
  of the arrays it is given, whatever they hold.
-/
module

public import proofs.«01_k».proof.Proof.Sublayer
public import proofs.«01_k».proof.Proof.Backward

@[expose] public section

noncomputable section

namespace Cert.Norm.Sublayer
open Idealize.ShloMosaic Idealize.ShloMosaic.TcCoe Idealize.SL.Sem
open Cert.Adam (Face)
open Cert.Norm.Backward (back share shares add_none back_under share_under)

/-! ## The formulas -/

/-- An element of a product over the rows of both, and of one over the columns of both. -/
def over {R n C : Nat} (A : (Face n R).Idx → EReal) (B : (Face n C).Idx → EReal) (r : Fin R) (j : Fin C) : EReal :=
  ∑ k : Fin n, A (ix2 k r) * B (ix2 k j)
def across {R n C : Nat} (A : (Face R n).Idx → EReal) (B : (Face C n).Idx → EReal) (r : Fin R) (j : Fin C) : EReal :=
  ∑ k : Fin n, A (ix2 r k) * B (ix2 j k)

theorem over_under {R n C Q D : Nat} {A : (Face n R).Idx → EReal} {B : (Face n C).Idx → EReal} {A' : (Face n Q).Idx → EReal}
    {B' : (Face n D).Idx → EReal} (u : Fin Q → Fin R) (w : Fin D → Fin C) (hA : ∀ k r, A' (ix2 k r) = A (ix2 k (u r)))
    (hB : ∀ k j, B' (ix2 k j) = B (ix2 k (w j))) (r : Fin Q) (j : Fin D) : over A' B' r j = over A B (u r) (w j) := by
  simp only [over, hA, hB]

theorem across_under {R n C Q D : Nat} {A : (Face R n).Idx → EReal} {B : (Face C n).Idx → EReal} {A' : (Face Q n).Idx → EReal}
    {B' : (Face D n).Idx → EReal} (u : Fin Q → Fin R) (w : Fin D → Fin C) (hA : ∀ r k, A' (ix2 r k) = A (ix2 (u r) k))
    (hB : ∀ j k, B' (ix2 j k) = B (ix2 (w j) k)) (r : Fin Q) (j : Fin D) : across A' B' r j = across A B (u r) (w j) := by
  simp only [across, hA, hB]

section Kernel
open Cert.FfnIdeal Cert.FfnIdeal.Gen

/-! ## The payloads -/

theorem pay_back (x0 x1 : Vec Ideal S512x1024 .f32) (x2 x3 : Vec Ideal S1x1024 .f32) (r : Fin 512) (j : Fin 1024) :
    k6_pay1 (k6_pay4 x1) (k6_pay5 x1) (k6_pay7 x0 x3) x2 (ix2 (n0 := 512) (n1 := 1024) r j) = back (R := 512) x0 x1 x2 x3 r j := by
  pointwise [k6_pay1, k6_pay3, k6_pay4, k6_pay5, k6_pay7]; rfl

theorem pay_gates (x0 x1 : Vec Ideal S512x1024 .f32) (b x2 x3 : Vec Ideal S1x1024 .f32) (j : Fin 1024) {k : Nat} (hk : k = 0)
    {a : EReal} (ha : b (ix2 (n0 := 1) (n1 := 1024) 0 j) = a) :
    k6_pay8 x0 x1 b x2 (ix2 (n0 := 1) (n1 := 1024) 0 j) = a + shares (R := 512) x0 x1 x2 x3 k j := by
  subst hk ha
  pointwise [k6_pay8, k6_pay3, k6_pay4, k6_pay5, k6_pay6]; rfl

theorem pay_weights (x0 x1 : Vec Ideal S512x1024 .f32) (b x2 x3 : Vec Ideal S1x1024 .f32) (j : Fin 1024) {k : Nat} (hk : k = 1)
    {a : EReal} (ha : b (ix2 (n0 := 1) (n1 := 1024) 0 j) = a) :
    k6_pay9 x0 x1 x3 b (ix2 (n0 := 1) (n1 := 1024) 0 j) = a + shares (R := 512) x0 x1 x2 x3 k j := by
  subst hk ha
  pointwise [k6_pay9, k6_pay7, k6_pay3, k6_pay4, k6_pay5, k6_pay6]; rfl

theorem pay_none (y : S8x1024.Idx) : k6_pay2 (F := Ideal) y = (0 : EReal) := by
  pointwise [k6_pay2]

theorem pay_over (x0 : Vec Ideal S4096x256 .bf16) (x1 : Vec Ideal S4096x512 .bf16) (r : Fin 256) (j : Fin 512) :
    k7_pay1 x0 x1 (ix2 (n0 := 256) (n1 := 512) r j) = over (R := 256) (n := 4096) (C := 512) x0 x1 r j := by
  pointwise [k7_pay1]; rfl

theorem pay_across (x0 : Vec Ideal S512x1024 .bf16) (x1 : Vec Ideal S256x1024 .bf16) (r : Fin 512) (j : Fin 256) :
    k8_pay1 x0 x1 (ix2 (n0 := 512) (n1 := 256) r j) = across (R := 512) (n := 1024) (C := 256) x0 x1 r j := by
  pointwise [k8_pay1]; rfl

/-! ## The blocks -/

theorem at_sums : ∀ t : Fin cfg6.N, win6_5.index t = ![0, 0] := (by decide +kernel : ∀ t : Fin grid6.N, _)
theorem at_wgrad : ∀ t : Fin cfg7.N, win7_0.index t = ![0, t.val / 2] := (by decide +kernel : ∀ t : Fin grid7.N, _)
theorem at_wgrad_back : ∀ t : Fin cfg7.N, win7_1.index t = ![0, t.val % 2] := (by decide +kernel : ∀ t : Fin grid7.N, _)
theorem at_wgrad_out : ∀ t : Fin cfg7.N, win7_2.index t = ![t.val / 2, t.val % 2] := (by decide +kernel : ∀ t : Fin grid7.N, _)
theorem at_dgrad : ∀ t : Fin cfg8.N, win8_0.index t = ![t.val / 11, 0] := (by decide +kernel : ∀ t : Fin grid8.N, _)
theorem at_dgrad_weight : ∀ t : Fin cfg8.N, win8_1.index t = ![t.val % 11, 0] := (by decide +kernel : ∀ t : Fin grid8.N, _)
theorem at_dgrad_out : ∀ t : Fin cfg8.N, win8_2.index t = ![t.val / 11, t.val % 11] := (by decide +kernel : ∀ t : Fin grid8.N, _)

def wRow (t : Fin cfg7.N) (r : Fin 256) : Fin 2816 :=
  ⟨t.val / 2 * 256 + r.val, by have := lt_of_lt_of_eq t.isLt N_7; have := r.isLt; omega⟩
def wCol (t : Fin cfg7.N) (j : Fin 512) : Fin 1024 :=
  ⟨t.val % 2 * 512 + j.val, by have := j.isLt; omega⟩
def dRow (t : Fin cfg8.N) (r : Fin 512) : Fin 4096 :=
  ⟨t.val / 11 * 512 + r.val, by have := lt_of_lt_of_eq t.isLt N_8; have := r.isLt; omega⟩
def dCol (t : Fin cfg8.N) (j : Fin 256) : Fin 2816 :=
  ⟨t.val % 11 * 256 + j.val, by have := j.isLt; omega⟩

theorem emb_sums (t : Fin cfg6.N) (y : S8x1024.Idx) : (win6_5.blk t).view.emb y = y := by
  blk_ext [at_sums]
theorem emb_wgrad (t : Fin cfg7.N) (k : Fin 4096) (r : Fin 256) :
    (win7_0.blk t).view.emb (ix2 (n0 := 4096) (n1 := 256) k r) = ix2 (n0 := 4096) (n1 := 2816) k (wRow t r) := by
  blk_ext [at_wgrad, wRow]
theorem emb_wgrad_back (t : Fin cfg7.N) (k : Fin 4096) (j : Fin 512) :
    (win7_1.blk t).view.emb (ix2 (n0 := 4096) (n1 := 512) k j) = ix2 (n0 := 4096) (n1 := 1024) k (wCol t j) := by
  blk_ext [at_wgrad_back, wCol]
theorem emb_wgrad_out (t : Fin cfg7.N) (r : Fin 256) (j : Fin 512) :
    (win7_2.blk t).view.emb (ix2 (n0 := 256) (n1 := 512) r j) = ix2 (n0 := 2816) (n1 := 1024) (wRow t r) (wCol t j) := by
  blk_ext [at_wgrad_out, wRow, wCol]
theorem emb_dgrad (t : Fin cfg8.N) (r : Fin 512) (k : Fin 1024) :
    (win8_0.blk t).view.emb (ix2 (n0 := 512) (n1 := 1024) r k) = ix2 (n0 := 4096) (n1 := 1024) (dRow t r) k := by
  blk_ext [at_dgrad, dRow]
theorem emb_dgrad_weight (t : Fin cfg8.N) (j : Fin 256) (k : Fin 1024) :
    (win8_1.blk t).view.emb (ix2 (n0 := 256) (n1 := 1024) j k) = ix2 (n0 := 2816) (n1 := 1024) (dCol t j) k := by
  blk_ext [at_dgrad_weight, dCol]
theorem emb_dgrad_out (t : Fin cfg8.N) (r : Fin 512) (j : Fin 256) :
    (win8_2.blk t).view.emb (ix2 (n0 := 512) (n1 := 256) r j) = ix2 (n0 := 4096) (n1 := 2816) (dRow t r) (dCol t j) := by
  blk_ext [at_dgrad_out, dRow, dCol]

/-! ## The arrays after each call, whatever the call is given -/

variable (V : (c : Dev nD) → (b : Ref sig .tc) → Buf (Elt Ideal) ((c : Thread nD τ).loc b)) (c : Dev nD)

theorem block_d (t : Fin cfg6.N) (r : Fin 512) (j : Fin 1024) :
    iblk6 V c 0 t (ix2 (n0 := 512) (n1 := 1024) r j) = D V c (ix2 (under N_6 t r) j) := congrArg (D V c) (emb_rows t r j)
theorem block_y (t : Fin cfg6.N) (r : Fin 512) (j : Fin 1024) :
    iblk6 V c 1 t (ix2 (n0 := 512) (n1 := 1024) r j) = Y V c (ix2 (under N_6 t r) j) := congrArg (Y V c) (emb_rows t r j)
theorem block_p (t : Fin cfg6.N) : iblk6 V c 2 t = P V c := funext fun y => congrArg (P V c) (emb_one t y)
theorem block_a (t : Fin cfg6.N) : iblk6 V c 3 t = A V c := funext fun y => congrArg (A V c) (emb_one t y)

/-- What a point of the normalisation's backward call leaves of the rows. -/
theorem point_back (t : Fin cfg6.N) (r : Fin 512) (j : Fin 1024) :
    (outsAt6 V c t.val t.isLt).1 (ix2 (n0 := 512) (n1 := 1024) r j)
      = back (D V c) (Y V c) (P V c) (A V c) (under N_6 t r) j := by
  have h : (outsAt6 V c t.val t.isLt).1 (ix2 (n0 := 512) (n1 := 1024) r j)
      = back (R := 512) (iblk6 V c 0 t) (iblk6 V c 1 t) (iblk6 V c 2 t) (iblk6 V c 3 t) r j := by
    by_cases h0 : t.val % 8 = 0
    · rw [outsAt6_A V c t h0]; frame_out; exact pay_back _ _ _ _ r j
    · rw [outsAt6_B V c t h0]; frame_out; exact pay_back _ _ _ _ r j
  rw [h, block_p, block_a]
  exact back_under _ _ (under N_6 t) (block_d V c t) (block_y V c t) r j

/-- What it adds to the sums. -/
abbrev piece (t : Fin cfg6.N) : (Face 8 1024).Idx → EReal := fun y =>
  shares (R := 512) (iblk6 V c 0 t) (iblk6 V c 1 t) (iblk6 V c 2 t) (iblk6 V c 3 t) (y 0).val (y 1)

theorem first_sums (t : Fin cfg6.N) (h0 : t.val % 8 = 0) (y : S8x1024.Idx) :
    (outsAt6 V c t.val t.isLt).2 y = (0 : EReal) + piece V c t y := by
  rw [outsAt6_A V c t h0]; frame_out
  refine (canon_row (ms6_5 t).view 1 _ _ _ y).trans ?_
  rw [canon_row (ms6_5 t).view]
  have hz : View.canon [(⟨Rect.unit (s := S8x1024) ![0, 0] ![8, 1024] inb_S8x1024_S8x1024_0_0, k6_pay2 (F := Ideal)⟩ :
      View.Piece (Elt Ideal) S8x1024 .f32)] y = (0 : EReal) :=
    (congrFun (View.canon_cons_unit_zero (S := S8x1024) (Val := Elt Ideal) (e := .f32) Cert.Adam.whole_off
      inb_S8x1024_S8x1024_0_0 (k6_pay2 (F := Ideal)) []) y).trans (pay_none y)
  split_ifs with h1 h0
  · refine pay_weights _ _ _ _ _ _ h1 ((load_row _ _ _ _ y h1).trans ?_)
    exact (canon_row (ms6_5 t).view 0 _ _ _ y).trans ((if_neg (by omega)).trans hz)
  · exact pay_gates _ _ _ _ _ _ h0 ((load_row _ _ _ _ y h0).trans hz)
  · exact hz.trans (add_none _ _ _ _ _ h1 h0)

theorem next_sums (t : Fin cfg6.N) (h0 : ¬t.val % 8 = 0) (y : S8x1024.Idx) :
    (outsAt6 V c t.val t.isLt).2 y
      = (outsAt6 V c (t.val - 1) (Nat.lt_of_le_of_lt (Nat.sub_le _ _) t.isLt)).2 y + piece V c t y := by
  rw [outsAt6_B V c t h0]; frame_out
  generalize (outsAt6 V c (t.val - 1) _).2 = old
  refine (read_row (ms6_5 t).view _ 1 _ _ _ y).trans ?_
  rw [read_row, View.writes_nil, (hs6_5 t).read_unread]
  split_ifs with h1 hz
  · exact pay_weights _ _ _ _ _ _ h1 (ld_row _ _ _ y h1)
  · exact pay_gates _ _ _ _ _ _ hz (ld_row _ _ _ y hz)
  · exact add_none _ _ _ _ _ h1 hz

theorem array_q : (dat6 V c).arrAt 4 cfg6.N = face (back (D V c) (Y V c) (P V c) (A V c)) := by
  refine (dat6 V c).arrAt_eq_of_covers 4 _ (by decide +kernel) fun t _ y => ?_
  blk_simp
  rw [after6_4]
  obtain ⟨r, j, rfl⟩ : ∃ (r : Fin 512) (j : Fin 1024), y = ix2 r j := ⟨y 0, y 1, ValueIdx.eq_ix2 y⟩
  exact (point_back V c t r j).trans (congrArg (face (back (D V c) (Y V c) (P V c) (A V c))) (emb_rows t r j)).symm

theorem array_sums : (dat6 V c).arrAt 5 cfg6.N
    = fun i : S8x1024.Idx => shares (D V c) (Y V c) (P V c) (A V c) (i 0).val (i 1) := by
  refine (dat6 V c).arrAt_eq_of_covers 5 _ (by decide +kernel) fun t hf y => ?_
  blk_simp
  have hl : t.val + 1 = cfg6.N := by
    have h7 := (flush6_5 t).mp hf
    have := lt_of_lt_of_eq t.isLt (show cfg6.N = 8 from N_6)
    rw [show cfg6.N = 8 from N_6]; omega
  rw [after6_5, Pipeline.eq_sum_fin_of_reset_step_apply_last (fun n h => (outsAt6 V c n h).2) 8 (fun _ => (0 : EReal)) (piece V c)
    (first_sums V c) (next_sums V c) (le_of_eq N_6) t hl y, zero_add, at_sums, emb_sums]
  rw [show (![0, 0] : Fin 2 → Nat) 0 * 8 + (y 0).val = (y 0).val from by simp]
  refine Eq.trans ?_ (Fin.sum_univ_tiles 8 512 rfl fun r : Fin 4096 =>
    share (D V c) (Y V c) (P V c) (A V c) (y 0).val (y 1) r).symm
  refine Finset.sum_congr (M := EReal) rfl fun p _ => Finset.sum_congr (M := EReal) rfl fun r _ => ?_
  rw [block_p, block_a]
  exact share_under _ _ (under N_6 p) (block_d V c p) (block_y V c p) _ _ r

theorem array_wgrad : (dat7 V c).arrAt 2 cfg7.N = face (over (Z V c) (Q V c)) := by
  refine (dat7 V c).arrAt_eq_of_covers 2 _ (by decide +kernel) fun t _ y => ?_
  blk_simp
  rw [after7_2, out7_2, View.canon_unit_zero Cert.Adam.whole_off, View.ld_unit_zero Cert.Adam.whole_off,
    View.ld_unit_zero Cert.Adam.whole_off]
  obtain ⟨r, j, rfl⟩ : ∃ (r : Fin 256) (j : Fin 512), y = ix2 r j := ⟨y 0, y 1, ValueIdx.eq_ix2 y⟩
  refine Eq.trans ?_ (congrArg (face (over (Z V c) (Q V c))) (emb_wgrad_out t r j)).symm
  exact (pay_over _ _ r j).trans (over_under (wRow t) (wCol t) (fun k r => congrArg (Z V c) (emb_wgrad t k r))
    (fun k j => congrArg (Q V c) (emb_wgrad_back t k j)) r j)

theorem array_dgrad : (dat8 V c).arrAt 2 cfg8.N = face (across (Q V c) (N V c)) := by
  refine (dat8 V c).arrAt_eq_of_covers 2 _ (by decide +kernel) fun t _ y => ?_
  blk_simp
  rw [after8_2, out8_2, View.canon_unit_zero Cert.Adam.whole_off, View.ld_unit_zero Cert.Adam.whole_off,
    View.ld_unit_zero Cert.Adam.whole_off]
  obtain ⟨r, j, rfl⟩ : ∃ (r : Fin 512) (j : Fin 256), y = ix2 r j := ⟨y 0, y 1, ValueIdx.eq_ix2 y⟩
  refine Eq.trans ?_ (congrArg (face (across (Q V c) (N V c))) (emb_dgrad_out t r j)).symm
  exact (pay_across _ _ r j).trans (across_under (dRow t) (dCol t) (fun r k => congrArg (Q V c) (emb_dgrad t r k))
    (fun j k => congrArg (N V c) (emb_dgrad_weight t j k)) r j)

end Kernel

end Cert.Norm.Sublayer

end
-- ==== Proof.SublayerRun.lean ====
/-
  The run of the program of `Sublayer.lean`: the formulas of its nine calls in a row, as functions of the arguments, and the same
  functions read off the reference, which differentiates the second normalisation instead of computing its gradient.
-/
module

public import proofs.«01_k».proof.Proof.SublayerBack
public import proofs.«01_k».proof.Proof.Gen.FfnedIdeal.Run

@[expose] public section

noncomputable section

namespace Cert.Norm.Sublayer
open Idealize.ShloMosaic Idealize.ShloMosaic.TcCoe Idealize.SL.Sem
open Cert.Adam (Face)
open Cert.Norm.Backward (back shares pieces backs)
open Cert.Norm.Before (mixed)
open Cert.Norm.After (gated)
open Cert.Norm.Head (total half)

/-! ## The results as functions of the arguments -/

/-- The rows `X`, the first normalisation's weight `G`, scale `S` and shift `B`, the network's weights `M` and `N`, the second
    normalisation's weight `P` and gate `A`, the target `T`. -/
structure Given where
  X : (Face 4096 1024).Idx → EReal
  G : (Face 1 1024).Idx → EReal
  S : (Face 1 1024).Idx → EReal
  B : (Face 1 1024).Idx → EReal
  M : (Face 1024 5632).Idx → EReal
  N : (Face 2816 1024).Idx → EReal
  P : (Face 1 1024).Idx → EReal
  A : (Face 1 1024).Idx → EReal
  T : (Face 4096 1024).Idx → EReal

variable (a : Given)

/-- The gated values, the product with the second weight, the rows after the network. -/
def Given.act : (Face 4096 2816).Idx → EReal := face (gate (face (product (face (mixed a.X a.G a.S a.B)) a.M)))
def Given.sent : (Face 4096 1024).Idx → EReal := face (product a.act a.N)
def Given.rows : (Face 4096 1024).Idx → EReal := face (gated a.X a.sent a.P a.A)

/-- The loss's gradient, by the rows and as the reference has it; the gradient of the product. -/
def Given.slope : (Face 4096 1024).Idx → EReal := fun i => Ideal.div (a.rows i - a.T i) K
def Given.twice : (Face 4096 1024).Idx → EReal := fun i =>
  Ideal.div half K * (Ideal.ofBits .f32 0x40000000#32 * (a.rows i - a.T i))
def Given.grad : (Face 4096 1024).Idx → EReal := face (back a.slope a.sent a.P a.A)

/-- The sums: the gradients of the gate and of the weight, and zeros. -/
def Given.vec : (Face 8 1024).Idx → EReal := fun i => shares a.slope a.sent a.P a.A (i 0).val (i 1)

theorem twice_slope : a.twice = a.slope := funext fun _ => Head.slope _

/-- The gradient of the rows that a normalisation took, as the reference computes it. -/
def pulled {R : Nat} (H Y : (Face R 1024).Idx → EReal) (G A : (Face 1 1024).Idx → EReal) (r : Fin R) (j : Fin 1024) : EReal :=
  A (ix2 0 j) * H (ix2 r j) * G (ix2 0 j) * rs Y r
    + (∑ _o : Fin 1, Ideal.div ((∑ k : Fin 1024, Y (ix2 r k) * (A (ix2 0 k) * H (ix2 r k) * G (ix2 0 k)))
      * (Ideal.ofBits .f32 0xBF000000#32
        * Ideal.div (rs Y r) (Ideal.div (∑ k : Fin 1024, Y (ix2 r k) * Y (ix2 r k)) K + E))) K)
      * (Ideal.ofBits .f32 0x40000000#32 * Y (ix2 r j))

theorem pulled_back {R : Nat} (H Y : (Face R 1024).Idx → EReal) (G A : (Face 1 1024).Idx → EReal) (r : Fin R) (j : Fin 1024) :
    pulled H Y G A r j = back H Y G A r j := by
  rw [pulled, Fin.sum_univ_one, ← backs H Y G A r j _ rfl, Head.two_word]
  generalize Ideal.div _ K = q
  have h2 : ((2 : ℝ) : EReal) = 1 + 1 := by rw [← EReal.coe_one, ← EReal.coe_add]; norm_num
  rw [add_assoc, mul_comm _ q, mul_left_comm, h2, EReal.right_distrib_of_nonneg zero_le_one zero_le_one, one_mul]

section Kernel
open Cert.FfnIdeal Cert.FfnIdeal.Gen

variable (m : (ℓ : Loc nD τ sig) → Buf (Elt Ideal) ℓ) (ρ : Dev nD → PrngReg) (c : Dev nD)

/-- The arguments as launched. -/
abbrev launch : (c : Dev nD) → (b : Ref sig .tc) → Buf (Elt Ideal) ((c : Thread nD τ).loc b) := fun c b => m ((c : Thread nD τ).loc b)

abbrev given : Given :=
  ⟨X (launch m) c, G (launch m) c, S (launch m) c, B (launch m) c, M (launch m) c, N (launch m) c, P (launch m) c, A (launch m) c,
    T (launch m) c⟩

theorem held_h : H (V1 m ρ) c = face (mixed (X (launch m) c) (G (launch m) c) (S (launch m) c) (B (launch m) c)) :=
  (W1_arr m ρ c 4).trans (array_h (V0 m ρ) c)

theorem held_u : U (V2 m ρ) c = face (product (H (V1 m ρ) c) (M (launch m) c)) :=
  ((W2_arr m ρ c 2).trans (array_u (V1 m ρ) c)).trans
    (congrArg (fun w => face (product (H (V1 m ρ) c) w)) (W1_args m ρ c main_arg4 (by decide)))

theorem held_z : Z (V3 m ρ) c = (given m c).act := by
  refine ((W3_arr m ρ c 1).trans (array_z (V2 m ρ) c)).trans ?_
  rw [held_u, held_h]
  rfl

theorem held_y : Y (V4 m ρ) c = (given m c).sent := by
  refine ((W4_arr m ρ c 2).trans (array_y (V3 m ρ) c)).trans ?_
  rw [show N (V3 m ρ) c = N (launch m) c from W3_args m ρ c main_arg5 (by decide), held_z]
  rfl

theorem held_o : O (V5 m ρ) c = (given m c).rows := by
  refine ((W5_arr m ρ c 4).trans (array_o (V4 m ρ) c)).trans ?_
  rw [show X (V4 m ρ) c = X (launch m) c from W4_args m ρ c main_arg0 (by decide),
    show P (V4 m ρ) c = P (launch m) c from W4_args m ρ c main_arg6 (by decide),
    show A (V4 m ρ) c = A (launch m) c from W4_args m ρ c main_arg7 (by decide), held_y]
  rfl

theorem held_t : T (V5 m ρ) c = T (launch m) c := W5_args m ρ c main_arg8 (by decide)

theorem held_d : D (V6 m ρ) c = (given m c).slope := by
  refine ((W6_arr m ρ c 3).trans (array_slope (V5 m ρ) c)).trans ?_
  rw [held_o, held_t]
  rfl

theorem later_y : Y (V6 m ρ) c = (given m c).sent :=
  ((W6_of m ρ c main_v3 (by decide)).trans (W5_of m ρ c main_v3 (by decide))).trans (held_y m ρ c)
theorem held_p : P (V6 m ρ) c = P (launch m) c := W6_args m ρ c main_arg6 (by decide)
theorem held_a : A (V6 m ρ) c = A (launch m) c := W6_args m ρ c main_arg7 (by decide)

theorem held_q : Q (V7 m ρ) c = (given m c).grad := by
  refine ((W7_arr m ρ c 4).trans (array_q (V6 m ρ) c)).trans ?_
  rw [held_d, later_y, held_p, held_a]
  rfl

theorem later_z : Z (V7 m ρ) c = (given m c).act :=
  ((((W7_of m ρ c main_v2 (by decide)).trans (W6_of m ρ c main_v2 (by decide))).trans (W5_of m ρ c main_v2 (by decide))).trans
    (W4_of m ρ c main_v2 (by decide))).trans (held_z m ρ c)

/-- The five results. -/
theorem held_loss : W9 m ρ c (Proc.devRef .tc main_v5_0) = fun _ : S1x128.Idx => total (given m c).rows (given m c).T := by
  refine ((((W9_of m ρ c main_v5_0 (by decide)).trans (W8_of m ρ c main_v5_0 (by decide))).trans
    (W7_of m ρ c main_v5_0 (by decide))).trans ((W6_arr m ρ c 2).trans (array_loss (V5 m ρ) c))).trans ?_
  rw [held_o, held_t]

theorem held_slope : W9 m ρ c (Proc.devRef .tc main_v5_1) = (given m c).slope :=
  (((W9_of m ρ c main_v5_1 (by decide)).trans (W8_of m ρ c main_v5_1 (by decide))).trans
    (W7_of m ρ c main_v5_1 (by decide))).trans (held_d m ρ c)

theorem held_sums : W9 m ρ c (Proc.devRef .tc main_v6_1) = (given m c).vec := by
  refine (((W9_of m ρ c main_v6_1 (by decide)).trans (W8_of m ρ c main_v6_1 (by decide))).trans
    ((W7_arr m ρ c 5).trans (array_sums (V6 m ρ) c))).trans ?_
  rw [held_d, later_y, held_p, held_a]
  rfl

theorem held_wgrad : W9 m ρ c (Proc.devRef .tc main_v7) = face (over (given m c).act (given m c).grad) := by
  refine ((W9_of m ρ c main_v7 (by decide)).trans ((W8_arr m ρ c 2).trans (array_wgrad (V7 m ρ) c))).trans ?_
  rw [later_z, held_q]

theorem held_dgrad : W9 m ρ c (Proc.devRef .tc main_v8) = face (across (given m c).grad (given m c).N) := by
  refine ((W9_arr m ρ c 2).trans (array_dgrad (V8 m ρ) c)).trans ?_
  rw [show N (V8 m ρ) c = N (launch m) c from W8_args m ρ c main_arg5 (by decide),
    show Q (V8 m ρ) c = (given m c).grad from (W8_of m ρ c main_v6_0 (by decide)).trans (held_q m ρ c)]

section
open Idealize.ShloMosaic.Tactic Idealize.ShloMosaic.Rounds Idealize.SL Idealize.SL.RA Idealize.SL.BI Idealize.SL.BI.BIBase Idealize.SL.BI.Laws Idealize.SL.ProofMode
open scoped Idealize.SL.BI

set_option backward.isDefEq.respectTransparency.types false in
/-- The run ends with every buffer of the program as the last call leaves it. -/
theorem contents : θ_run defs (onTc (τ := τ) (main (F := Ideal))) ⟨m, fun _ => 0, ρ⟩ (fun r => ∀ c : Dev nD,
    ∀ b ∈ Pipeline.ucRefs τ sig, r.2.mem ((c : Thread nD τ).1, b) = W9 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp _)
            ⊢ BI.own (emb₁ (initOf (Pipeline.cells cfgs cellOf_inj) (Pipeline.launchToks cfgs cellOf_inj))) from .rfl)
        iexact Hu
      iapply (show (BI.emp : sProp _) ⊢ bigSep Finset.univ (fun _ : Dev nD => (BI.emp : sProp _)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = W9 m ρ c b)
    (hfin := fun c s' => by
      iintro ⟨⟨Hh, -⟩, HSI⟩
      unfold StableHlo.held
      imodintro
      iapply (pointsTo_read_all (Pipeline.ucRefs τ sig) (fun b => ((c : Thread nD τ).1, b)) (W9 m ρ c) s')
      isplitl [Hh] <;> iassumption)
    (hQ := fun s h _ => h)

end

end Kernel

/-! ## The reference -/

section Host
open Cert.FfnedIdeal Cert.FfnedIdeal.Value

variable (m : (ℓ : Loc nD τ sig) → Buf (Elt Ideal) ℓ) (c : Dev nD)

abbrev taken : Given :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5),
    m ((c.tc : Thread nD τ).loc main_arg6), m ((c.tc : Thread nD τ).loc main_arg7), m ((c.tc : Thread nD τ).loc main_arg8)⟩

theorem host_loss : res_out0 m c = fun _ : S1x128.Idx => total (taken m c).rows (taken m c).T := by
  funext i
  obtain ⟨r, j, rfl⟩ : ∃ (r : Fin 1) (j : Fin 128), i = ix2 r j := ⟨i 0, i 1, ValueIdx.eq_ix2 i⟩
  pointwise [res_main_v53]
  rfl

theorem host_slope : res_out1 m c = (taken m c).slope := by
  funext i
  obtain ⟨r, j, rfl⟩ : ∃ (r : Fin 4096) (j : Fin 1024), i = ix2 r j := ⟨i 0, i 1, ValueIdx.eq_ix2 i⟩
  refine Eq.trans ?_ (Head.slope _)
  pointwise [res_main_v59]
  rfl

theorem host_sums : res_out2 m c = (taken m c).vec := by
  funext i
  rw [Given.vec, ← twice_slope]
  refine Eq.trans ?_ (pieces (taken m c).twice (taken m c).sent (taken m c).P (taken m c).A _ _)
  pointwise [res_main_v88]
  rfl

theorem host_grad : face (pulled (taken m c).twice (taken m c).sent (taken m c).P (taken m c).A) = (taken m c).grad := by
  funext i
  rw [twice_slope]
  exact pulled_back _ _ _ _ _ _

theorem host_wgrad : res_out3 m c = face (over (taken m c).act (taken m c).grad) := by
  funext i
  obtain ⟨r, j, rfl⟩ : ∃ (r : Fin 2816) (j : Fin 1024), i = ix2 r j := ⟨i 0, i 1, ValueIdx.eq_ix2 i⟩
  rw [← host_grad]
  pointwise [res_main_v84]
  rfl

theorem host_dgrad : res_out4 m c = face (across (taken m c).grad (taken m c).N) := by
  funext i
  obtain ⟨r, j, rfl⟩ : ∃ (r : Fin 4096) (j : Fin 2816), i = ix2 r j := ⟨i 0, i 1, ValueIdx.eq_ix2 i⟩
  rw [← host_grad]
  pointwise [res_main_v86]
  rfl

end Host

/-! ## The claim -/

theorem values : Cert.algebraic_FfnIdeal_FfnedIdeal (hFfnIdeal := Cert.FfnIdeal.Gen.facts)
    (hFfnedIdeal := Cert.FfnedIdeal.Gen.facts) := fun m g m' g' _ hagree => by
  refine ⟨fun c => fun _ => total (given m c).rows (given m c).T, fun c => (given m c).slope,
    fun c => (given m c).vec,
    fun c => face (over (given m c).act (given m c).grad), fun c => face (across (given m c).grad (given m c).N),
    (θ_run Cert.FfnIdeal.defs _ _).mono (fun r h c => ?_) (contents m g),
    (θ_run Cert.FfnedIdeal.defs _ _).mono (fun r h c => ?_) (Cert.FfnedIdeal.Value.run (F := Ideal) m' g')⟩
  · have hb : ∀ (b : Ref Cert.FfnIdeal.sig .tc) {x}, Cert.FfnIdeal.Gen.W9 m g c (Proc.devRef .tc b) = x →
        ¬(Proc.devRef .tc b : DevRef Cert.FfnIdeal.τ Cert.FfnIdeal.sig).isScoped →
        r.2.mem ((c.tc : Thread Cert.FfnIdeal.nD Cert.FfnIdeal.τ).loc b) = x :=
      fun b _ e hs => (h c _ (Cert.FfnIdeal.Gen.mem_uc b hs)).trans e
    exact ⟨hb _ (held_loss m g c) (by decide), hb _ (held_slope m g c) (by decide), hb _ (held_sums m g c) (by decide),
      hb _ (held_wgrad m g c) (by decide), hb _ (held_dgrad m g c) (by decide),
      hb _ (Cert.FfnIdeal.Gen.W9_main_arg0 m g c) (by decide), hb _ (Cert.FfnIdeal.Gen.W9_main_arg1 m g c) (by decide),
      hb _ (Cert.FfnIdeal.Gen.W9_main_arg2 m g c) (by decide), hb _ (Cert.FfnIdeal.Gen.W9_main_arg3 m g c) (by decide),
      hb _ (Cert.FfnIdeal.Gen.W9_main_arg4 m g c) (by decide), hb _ (Cert.FfnIdeal.Gen.W9_main_arg5 m g c) (by decide),
      hb _ (Cert.FfnIdeal.Gen.W9_main_arg6 m g c) (by decide), hb _ (Cert.FfnIdeal.Gen.W9_main_arg7 m g c) (by decide),
      hb _ (Cert.FfnIdeal.Gen.W9_main_arg8 m g c) (by decide)⟩
  · obtain ⟨h0, h1, h2, h3, h4, h5, h6, h7, h8⟩ := hagree c
    obtain ⟨hl, hs, hv, hw, hd, hargs⟩ := h c
    have hgiven : taken m' c = given m c := by
      rw [taken, h0, h1, h2, h3, h4, h5, h6, h7, h8]
    beta_reduce
    rw [← hgiven]
    exact ⟨hl.trans (host_loss m' c), hs.trans (host_slope m' c), hv.trans (host_sums m' c), hw.trans (host_wgrad m' c),
      hd.trans (host_dgrad m' c), hargs⟩

end Cert.Norm.Sublayer

end
-- ==== Proof.Gate.lean ====
/-
  The rest of the gated network's backward pass, as one program of four calls: the gradient through the gate, the two products with
  that gradient, and the backward call of the normalisation in front of the network. Each call's array is a formula of the arrays
  it is given, whatever they hold; the reference's derivative of the gate is the kernel's at every extended real.
-/
module

public import proofs.«01_k».proof.Proof.SublayerBack
public import proofs.«01_k».proof.Proof.Gen.FfnBwdIdeal.Frame
public import proofs.«01_k».proof.Proof.Gen.FfnedBwdIdeal.Run

@[expose] public section

noncomputable section

namespace Cert.Norm.Gate
open Idealize.ShloMosaic Idealize.ShloMosaic.TcCoe Idealize.SL.Sem
open Cert.Adam (Face)
open Cert.Norm.Sublayer (left right face over across over_under across_under)

/-! ## The formulas -/

/-- The derivative of a number times its logistic, as the kernel has it and as the reference has it. -/
def curve (a : EReal) : EReal := Ideal.logistic a * (1 + a * (1 - Ideal.logistic a))
def bend (a : EReal) : EReal := Ideal.logistic a + a * (Ideal.logistic a * (1 - Ideal.logistic a))

theorem bend_curve (a : EReal) : bend a = curve a := by
  rw [bend, curve]
  induction a with
  | bot => simp [Ideal.logistic_bot]
  | top => simp [Ideal.logistic_top]
  | coe r =>
    rw [Ideal.logistic_coe]
    norm_cast
    ring

/-- The column of a half under a column of the second half. -/
def fold (j : Fin 5632) (h : ¬j.val < 2816) : Fin 2816 := ⟨j.val - 2816, by have := j.isLt; omega⟩

/-- The gradient of the gate's arguments, from the gradient `D` of its result and the arguments `U`. -/
def spread {R : Nat} (D : (Face R 2816).Idx → EReal) (U : (Face R 5632).Idx → EReal) (r : Fin R) (j : Fin 5632) : EReal :=
  if h : j.val < 2816 then D (ix2 r ⟨j.val, h⟩) * U (ix2 r (right ⟨j.val, h⟩)) * curve (U (ix2 r (left ⟨j.val, h⟩)))
  else D (ix2 r (fold j h)) * (U (ix2 r (left (fold j h))) * Ideal.logistic (U (ix2 r (left (fold j h)))))

/-- The same with the reference's derivative. -/
def drawn {R : Nat} (D : (Face R 2816).Idx → EReal) (U : (Face R 5632).Idx → EReal) (r : Fin R) (j : Fin 5632) : EReal :=
  if h : j.val < 2816 then D (ix2 r ⟨j.val, h⟩) * U (ix2 r (right ⟨j.val, h⟩)) * bend (U (ix2 r (left ⟨j.val, h⟩)))
  else D (ix2 r (fold j h)) * (U (ix2 r (left (fold j h))) * Ideal.logistic (U (ix2 r (left (fold j h)))))

theorem drawn_spread {R : Nat} (D : (Face R 2816).Idx → EReal) (U : (Face R 5632).Idx → EReal) : drawn D U = spread D U := by
  funext r j
  simp only [drawn, spread, bend_curve]

theorem spread_under {R Q : Nat} {D : (Face R 2816).Idx → EReal} {U : (Face R 5632).Idx → EReal} {D' : (Face Q 2816).Idx → EReal}
    {U' : (Face Q 5632).Idx → EReal} (u : Fin Q → Fin R) (hD : ∀ r j, D' (ix2 r j) = D (ix2 (u r) j))
    (hU : ∀ r j, U' (ix2 r j) = U (ix2 (u r) j)) (r : Fin Q) (j : Fin 5632) : spread D' U' r j = spread D U (u r) j := by
  simp only [spread, hD, hU]

theorem drawn_left {R : Nat} (D : (Face R 2816).Idx → EReal) (U : (Face R 5632).Idx → EReal) (r : Fin R) (k : Fin 2816) :
    drawn D U r (left k) = D (ix2 r k) * U (ix2 r (right k)) * bend (U (ix2 r (left k))) := by
  rw [drawn, dif_pos (show (left k).val < 2816 from k.isLt)]; rfl

theorem drawn_right {R : Nat} (D : (Face R 2816).Idx → EReal) (U : (Face R 5632).Idx → EReal) (r : Fin R) (k : Fin 2816) :
    drawn D U r (right k) = D (ix2 r k) * (U (ix2 r (left k)) * Ideal.logistic (U (ix2 r (left k)))) := by
  have h : ¬(right k).val < 2816 := Nat.not_lt.mpr (Nat.le_add_right 2816 k.val)
  rw [drawn, dif_neg h, show fold (right k) h = k from Fin.ext (Nat.add_sub_cancel_left 2816 k.val)]

/-- The product with the gradient, the two halves of the columns apart. -/
def apart {R : Nat} (D : (Face R 2816).Idx → EReal) (U : (Face R 5632).Idx → EReal) (M : (Face 1024 5632).Idx → EReal) (r : Fin R)
    (j : Fin 1024) : EReal :=
  (∑ k : Fin 2816, D (ix2 r k) * U (ix2 r (right k)) * bend (U (ix2 r (left k))) * M (ix2 j (left k)))
    + ∑ k : Fin 2816, D (ix2 r k) * (U (ix2 r (left k)) * Ideal.logistic (U (ix2 r (left k)))) * M (ix2 j (right k))

theorem apart_across {R : Nat} (D : (Face R 2816).Idx → EReal) (U : (Face R 5632).Idx → EReal) (M : (Face 1024 5632).Idx → EReal) :
    apart D U M = across (face (drawn D U)) M := by
  funext r j
  refine Eq.trans ?_ (Fin.sum_univ_add (M := EReal) (a := 2816) (b := 2816) fun k : Fin 5632 => face (drawn D U) (ix2 r k) * M (ix2 j k)).symm
  refine congrArg₂ (· + ·) (Finset.sum_congr (M := EReal) rfl fun k _ => ?_) (Finset.sum_congr (M := EReal) rfl fun k _ => ?_)
  · exact congrArg (· * M (ix2 j (left k))) (drawn_left D U r k).symm
  · exact congrArg (· * M (ix2 j (right k))) (drawn_right D U r k).symm

/-! ## Two halves of the columns stored -/

theorem canon_halves {sig : RefSig} {κ : Kind} {sp : Space} {e : EltTy} {Val : EltTy → Type} [∀ e, Nonempty (Val e)] {R C D n : Nat}
    (hn : n = C + D) (v : View sig κ sp (Face R n) e) (inb inb') (w : (Face R C).Idx → Val e) (w' : (Face R D).Idx → Val e) (r : Fin R)
    (j : Fin n) :
    View.canon [(⟨Rect.unit (s := Face R n) ![0, C] ![R, D] inb', w'⟩ : View.Piece Val (Face R n) e),
        ⟨Rect.unit (s := Face R n) ![0, 0] ![R, C] inb, w⟩] (ix2 r j)
      = if h : j.val < C then w (ix2 r ⟨j.val, h⟩) else w' (ix2 r ⟨j.val - C, by have := j.isLt; omega⟩) := by
  rw [← View.read_writes_junk_apply_eq_canon v]
  split
  · next h =>
    refine (View.read_writes_cons_unit_of_not_mem v _ inb' w' _ _ rfl (1 : Fin 2) (.inl h)).trans ?_
    exact View.read_writes_cons_unit_of_mem v _ inb w _ _ (ix2 r ⟨j.val, h⟩) rfl
      (Fin.forall_fin_two.mpr ⟨(Nat.zero_add _).symm, (Nat.zero_add _).symm⟩)
  · next h =>
    exact View.read_writes_cons_unit_of_mem v _ inb' w' _ _ (ix2 r ⟨j.val - C, _⟩) rfl
      (Fin.forall_fin_two.mpr ⟨(Nat.zero_add _).symm, (Nat.add_sub_cancel' (Nat.le_of_not_lt h)).symm⟩)

section Kernel
open Cert.FfnBwdIdeal Cert.FfnBwdIdeal.Gen

/-! ## The payloads -/

theorem pay_left (x0 : Vec Ideal S256x2816 .f32) (x1 : Vec Ideal S256x5632 .f32) (r : Fin 256) (j : Fin 2816) :
    k0_pay2 x0 (View.ld x1 r0_1) (View.ld x1 r0_2) (ix2 (n0 := 256) (n1 := 2816) r j)
      = x0 (ix2 (n0 := 256) (n1 := 2816) r j) * x1 (ix2 (n0 := 256) (n1 := 5632) r (right j))
        * curve (x1 (ix2 (n0 := 256) (n1 := 5632) r (left j))) := by
  have hl : View.ld x1 r0_1 (ix2 (n0 := 256) (n1 := 2816) r j) = x1 (ix2 (n0 := 256) (n1 := 5632) r (left j)) :=
    congrArg x1 (Shape.idx_ext₂ (by simp) (by simp [left, right]))
  have hr : View.ld x1 r0_2 (ix2 (n0 := 256) (n1 := 2816) r j) = x1 (ix2 (n0 := 256) (n1 := 5632) r (right j)) :=
    congrArg x1 (Shape.idx_ext₂ (by simp) (by simp [left, right]))
  rw [curve, ← hl, ← hr]
  generalize View.ld x1 r0_1 = p
  generalize View.ld x1 r0_2 = q
  pointwise [k0_pay2, k0_pay1]

theorem pay_right (x0 : Vec Ideal S256x2816 .f32) (x1 : Vec Ideal S256x5632 .f32) (r : Fin 256) (j : Fin 2816) :
    k0_pay3 x0 (View.ld x1 r0_1) (ix2 (n0 := 256) (n1 := 2816) r j)
      = x0 (ix2 (n0 := 256) (n1 := 2816) r j) * (x1 (ix2 (n0 := 256) (n1 := 5632) r (left j))
        * Ideal.logistic (x1 (ix2 (n0 := 256) (n1 := 5632) r (left j)))) := by
  have hl : View.ld x1 r0_1 (ix2 (n0 := 256) (n1 := 2816) r j) = x1 (ix2 (n0 := 256) (n1 := 5632) r (left j)) :=
    congrArg x1 (Shape.idx_ext₂ (by simp) (by simp [left, right]))
  rw [← hl]
  generalize View.ld x1 r0_1 = p
  pointwise [k0_pay3, k0_pay1]

theorem pay_over (x0 : Vec Ideal S4096x256 .bf16) (x1 : Vec Ideal S4096x512 .bf16) (r : Fin 256) (j : Fin 512) :
    k1_pay1 x0 x1 (ix2 (n0 := 256) (n1 := 512) r j) = over (R := 256) (n := 4096) (C := 512) x0 x1 r j := by
  pointwise [k1_pay1]; rfl

theorem pay_across (x0 x1 : Vec Ideal S512x5632 .bf16) (r j : Fin 512) :
    k2_pay1 x0 x1 (ix2 (n0 := 512) (n1 := 512) r j) = across (R := 512) (n := 5632) (C := 512) x0 x1 r j := by
  pointwise [k2_pay1]; rfl

theorem pay_rows (x0 x1 x4 : Vec Ideal S512x1024 .f32) (x2 x3 : Vec Ideal S1x1024 .f32) (r : Fin 512) (j : Fin 1024) :
    k3_pay3 x1 (k3_pay6 x1) (k3_pay8 x0 x3) x4 x2 (ix2 (n0 := 512) (n1 := 1024) r j) = rows (R := 512) x0 x1 x2 x3 x4 r j := by
  pointwise [k3_pay3, k3_pay5, k3_pay6, k3_pay8]; rfl

theorem pay_shift (x0 x1 : Vec Ideal S512x1024 .f32) (b x2 x3 : Vec Ideal S1x1024 .f32) (j : Fin 1024) {k : Nat} (hk : k = 0)
    {a : EReal} (ha : b (ix2 (n0 := 1) (n1 := 1024) 0 j) = a) :
    k3_pay9 x0 b (ix2 (n0 := 1) (n1 := 1024) 0 j) = a + sums (R := 512) x0 x1 x2 x3 k j := by
  subst hk ha
  pointwise [k3_pay9, k3_pay5]; rfl

theorem pay_scale (x0 x1 : Vec Ideal S512x1024 .f32) (b x2 x3 : Vec Ideal S1x1024 .f32) (j : Fin 1024) {k : Nat} (hk : k = 1)
    {a : EReal} (ha : b (ix2 (n0 := 1) (n1 := 1024) 0 j) = a) :
    k3_pay1 (k3_pay10 b) (k3_pay11 x0 x1 x2) (ix2 (n0 := 1) (n1 := 1024) 0 j) = a + sums (R := 512) x0 x1 x2 x3 k j := by
  subst hk ha
  pointwise [k3_pay1, k3_pay10, k3_pay11, k3_pay7, k3_pay6, k3_pay5]; rfl

theorem pay_weight (x0 x1 : Vec Ideal S512x1024 .f32) (b x2 x3 : Vec Ideal S1x1024 .f32) (j : Fin 1024) {k : Nat} (hk : k = 2)
    {a : EReal} (ha : b (ix2 (n0 := 1) (n1 := 1024) 0 j) = a) :
    k3_pay2 (k3_pay7 x1) (k3_pay8 x0 x3) b (ix2 (n0 := 1) (n1 := 1024) 0 j) = a + sums (R := 512) x0 x1 x2 x3 k j := by
  subst hk ha
  pointwise [k3_pay2, k3_pay7, k3_pay8, k3_pay6, k3_pay5]; rfl

theorem pay_zero (y : S8x1024.Idx) : k3_pay4 (F := Ideal) y = (0 : EReal) := by
  pointwise [k3_pay4]

/-! ## The blocks -/

theorem at_gate : ∀ t : Fin cfg0.N, win0_0.index t = ![t.val, 0] := (by decide +kernel : ∀ t : Fin grid0.N, _)
theorem at_args : ∀ t : Fin cfg0.N, win0_1.index t = ![t.val, 0] := (by decide +kernel : ∀ t : Fin grid0.N, _)
theorem at_gate_out : ∀ t : Fin cfg0.N, win0_2.index t = ![t.val, 0] := (by decide +kernel : ∀ t : Fin grid0.N, _)
theorem at_wgrad : ∀ t : Fin cfg1.N, win1_0.index t = ![0, t.val / 11] := (by decide +kernel : ∀ t : Fin grid1.N, _)
theorem at_wgrad_back : ∀ t : Fin cfg1.N, win1_1.index t = ![0, t.val % 11] := (by decide +kernel : ∀ t : Fin grid1.N, _)
theorem at_wgrad_out : ∀ t : Fin cfg1.N, win1_2.index t = ![t.val / 11, t.val % 11] := (by decide +kernel : ∀ t : Fin grid1.N, _)
theorem at_dgrad : ∀ t : Fin cfg2.N, win2_0.index t = ![t.val / 2, 0] := (by decide +kernel : ∀ t : Fin grid2.N, _)
theorem at_dgrad_weight : ∀ t : Fin cfg2.N, win2_1.index t = ![t.val % 2, 0] := (by decide +kernel : ∀ t : Fin grid2.N, _)
theorem at_dgrad_out : ∀ t : Fin cfg2.N, win2_2.index t = ![t.val / 2, t.val % 2] := (by decide +kernel : ∀ t : Fin grid2.N, _)
theorem at_rows : ∀ t : Fin cfg3.N, win3_0.index t = ![t.val, 0] := (by decide +kernel : ∀ t : Fin grid3.N, _)
theorem at_one : ∀ t : Fin cfg3.N, win3_2.index t = ![0, 0] := (by decide +kernel : ∀ t : Fin grid3.N, _)
theorem at_rows_out : ∀ t : Fin cfg3.N, win3_5.index t = ![t.val, 0] := (by decide +kernel : ∀ t : Fin grid3.N, _)
theorem at_sums : ∀ t : Fin cfg3.N, win3_6.index t = ![0, 0] := (by decide +kernel : ∀ t : Fin grid3.N, _)

def gRow (t : Fin cfg0.N) (r : Fin 256) : Fin 4096 :=
  ⟨t.val * 256 + r.val, by have := lt_of_lt_of_eq t.isLt N_0; have := r.isLt; omega⟩
def wRow (t : Fin cfg1.N) (r : Fin 256) : Fin 1024 :=
  ⟨t.val / 11 * 256 + r.val, by have := lt_of_lt_of_eq t.isLt N_1; have := r.isLt; omega⟩
def wCol (t : Fin cfg1.N) (j : Fin 512) : Fin 5632 :=
  ⟨t.val % 11 * 512 + j.val, by have := j.isLt; omega⟩
def dRow (t : Fin cfg2.N) (r : Fin 512) : Fin 4096 :=
  ⟨t.val / 2 * 512 + r.val, by have := lt_of_lt_of_eq t.isLt N_2; have := r.isLt; omega⟩
def dCol (t : Fin cfg2.N) (j : Fin 512) : Fin 1024 :=
  ⟨t.val % 2 * 512 + j.val, by have := j.isLt; omega⟩

theorem emb_gate (t : Fin cfg0.N) (r : Fin 256) (j : Fin 2816) :
    (win0_0.blk t).view.emb (ix2 (n0 := 256) (n1 := 2816) r j) = ix2 (n0 := 4096) (n1 := 2816) (gRow t r) j := by
  blk_ext [at_gate, gRow]
theorem emb_args (t : Fin cfg0.N) (r : Fin 256) (j : Fin 5632) :
    (win0_1.blk t).view.emb (ix2 (n0 := 256) (n1 := 5632) r j) = ix2 (n0 := 4096) (n1 := 5632) (gRow t r) j := by
  blk_ext [at_args, gRow]
theorem emb_gate_out (t : Fin cfg0.N) (r : Fin 256) (j : Fin 5632) :
    (win0_2.blk t).view.emb (ix2 (n0 := 256) (n1 := 5632) r j) = ix2 (n0 := 4096) (n1 := 5632) (gRow t r) j := by
  blk_ext [at_gate_out, gRow]
theorem emb_wgrad (t : Fin cfg1.N) (k : Fin 4096) (r : Fin 256) :
    (win1_0.blk t).view.emb (ix2 (n0 := 4096) (n1 := 256) k r) = ix2 (n0 := 4096) (n1 := 1024) k (wRow t r) := by
  blk_ext [at_wgrad, wRow]
theorem emb_wgrad_back (t : Fin cfg1.N) (k : Fin 4096) (j : Fin 512) :
    (win1_1.blk t).view.emb (ix2 (n0 := 4096) (n1 := 512) k j) = ix2 (n0 := 4096) (n1 := 5632) k (wCol t j) := by
  blk_ext [at_wgrad_back, wCol]
theorem emb_wgrad_out (t : Fin cfg1.N) (r : Fin 256) (j : Fin 512) :
    (win1_2.blk t).view.emb (ix2 (n0 := 256) (n1 := 512) r j) = ix2 (n0 := 1024) (n1 := 5632) (wRow t r) (wCol t j) := by
  blk_ext [at_wgrad_out, wRow, wCol]
theorem emb_dgrad (t : Fin cfg2.N) (r : Fin 512) (k : Fin 5632) :
    (win2_0.blk t).view.emb (ix2 (n0 := 512) (n1 := 5632) r k) = ix2 (n0 := 4096) (n1 := 5632) (dRow t r) k := by
  blk_ext [at_dgrad, dRow]
theorem emb_dgrad_weight (t : Fin cfg2.N) (j : Fin 512) (k : Fin 5632) :
    (win2_1.blk t).view.emb (ix2 (n0 := 512) (n1 := 5632) j k) = ix2 (n0 := 1024) (n1 := 5632) (dCol t j) k := by
  blk_ext [at_dgrad_weight, dCol]
theorem emb_dgrad_out (t : Fin cfg2.N) (r j : Fin 512) :
    (win2_2.blk t).view.emb (ix2 (n0 := 512) (n1 := 512) r j) = ix2 (n0 := 4096) (n1 := 1024) (dRow t r) (dCol t j) := by
  blk_ext [at_dgrad_out, dRow, dCol]
theorem emb_rows (t : Fin cfg3.N) (r : Fin 512) (j : Fin 1024) :
    (win3_0.blk t).view.emb (ix2 (n0 := 512) (n1 := 1024) r j) = ix2 (n0 := 4096) (n1 := 1024) (under N_3 t r) j := by
  blk_ext [at_rows, under_val]
theorem emb_one (t : Fin cfg3.N) (y : S1x1024.Idx) : (win3_2.blk t).view.emb y = y := by
  blk_ext [at_one]
theorem emb_rows_out (t : Fin cfg3.N) (r : Fin 512) (j : Fin 1024) :
    (win3_5.blk t).view.emb (ix2 (n0 := 512) (n1 := 1024) r j) = ix2 (n0 := 4096) (n1 := 1024) (under N_3 t r) j := by
  blk_ext [at_rows_out, under_val]
theorem emb_sums (t : Fin cfg3.N) (y : S8x1024.Idx) : (win3_6.blk t).view.emb y = y := by
  blk_ext [at_sums]

/-! ## The arrays after each call, whatever the call is given -/

variable (V : (c : Dev nD) → (b : Ref sig .tc) → Buf (Elt Ideal) ((c : Thread nD τ).loc b)) (c : Dev nD)

/-- The gate's gradient and arguments, the rows that entered the network and its first weight; the rows, the weight, the scale and the
    residual's gradient of the normalisation; what the first and the third call leave. -/
abbrev O : (Face 4096 2816).Idx → EReal := V c main_arg0
abbrev U : (Face 4096 5632).Idx → EReal := V c main_arg1
abbrev Y : (Face 4096 1024).Idx → EReal := V c main_arg2
abbrev M : (Face 1024 5632).Idx → EReal := V c main_arg3
abbrev X : (Face 4096 1024).Idx → EReal := V c main_arg4
abbrev G : (Face 1 1024).Idx → EReal := V c main_arg5
abbrev S : (Face 1 1024).Idx → EReal := V c main_arg6
abbrev D : (Face 4096 1024).Idx → EReal := V c main_arg7
abbrev P : (Face 4096 5632).Idx → EReal := V c main_v0
abbrev H : (Face 4096 1024).Idx → EReal := V c main_v2

theorem array_gate : (dat0 V c).arrAt 2 cfg0.N = face (spread (O V c) (U V c)) := by
  refine (dat0 V c).arrAt_eq_of_covers 2 _ (by decide +kernel) fun t _ y => ?_
  blk_simp
  rw [after0_2, out0_2, View.ld_unit_zero Cert.Adam.whole_off]
  obtain ⟨r, j, rfl⟩ : ∃ (r : Fin 256) (j : Fin 5632), y = ix2 r j := ⟨y 0, y 1, ValueIdx.eq_ix2 y⟩
  refine Eq.trans ?_ (congrArg (face (spread (O V c) (U V c))) (emb_gate_out t r j)).symm
  refine Eq.trans ?_ (spread_under (D' := iblk0 V c 0 t) (U' := iblk0 V c 1 t) (gRow t)
    (fun r j => congrArg (O V c) (emb_gate t r j)) (fun r j => congrArg (U V c) (emb_args t r j)) r j)
  refine (canon_halves (C := 2816) (D := 2816) rfl (win0_2.blk t).view _ _ _ _ r j).trans ?_
  rw [spread]
  split
  · exact pay_left _ _ r _
  · exact pay_right _ _ r _

theorem array_wgrad : (dat1 V c).arrAt 2 cfg1.N = face (over (Y V c) (P V c)) := by
  refine (dat1 V c).arrAt_eq_of_covers 2 _ (by decide +kernel) fun t _ y => ?_
  blk_simp
  rw [after1_2, out1_2, View.canon_unit_zero Cert.Adam.whole_off, View.ld_unit_zero Cert.Adam.whole_off,
    View.ld_unit_zero Cert.Adam.whole_off]
  obtain ⟨r, j, rfl⟩ : ∃ (r : Fin 256) (j : Fin 512), y = ix2 r j := ⟨y 0, y 1, ValueIdx.eq_ix2 y⟩
  refine Eq.trans ?_ (congrArg (face (over (Y V c) (P V c))) (emb_wgrad_out t r j)).symm
  exact (pay_over _ _ r j).trans (over_under (wRow t) (wCol t) (fun k r => congrArg (Y V c) (emb_wgrad t k r))
    (fun k j => congrArg (P V c) (emb_wgrad_back t k j)) r j)

theorem array_dgrad : (dat2 V c).arrAt 2 cfg2.N = face (across (P V c) (M V c)) := by
  refine (dat2 V c).arrAt_eq_of_covers 2 _ (by decide +kernel) fun t _ y => ?_
  blk_simp
  rw [after2_2, out2_2, View.canon_unit_zero Cert.Adam.whole_off, View.ld_unit_zero Cert.Adam.whole_off,
    View.ld_unit_zero Cert.Adam.whole_off]
  obtain ⟨r, j, rfl⟩ : ∃ (r j : Fin 512), y = ix2 r j := ⟨y 0, y 1, ValueIdx.eq_ix2 y⟩
  refine Eq.trans ?_ (congrArg (face (across (P V c) (M V c))) (emb_dgrad_out t r j)).symm
  exact (pay_across _ _ r j).trans (across_under (dRow t) (dCol t) (fun r k => congrArg (P V c) (emb_dgrad t r k))
    (fun j k => congrArg (M V c) (emb_dgrad_weight t j k)) r j)

theorem block_h (t : Fin cfg3.N) (r : Fin 512) (j : Fin 1024) :
    iblk3 V c 0 t (ix2 (n0 := 512) (n1 := 1024) r j) = H V c (ix2 (under N_3 t r) j) := congrArg (H V c) (emb_rows t r j)
theorem block_x (t : Fin cfg3.N) (r : Fin 512) (j : Fin 1024) :
    iblk3 V c 1 t (ix2 (n0 := 512) (n1 := 1024) r j) = X V c (ix2 (under N_3 t r) j) := congrArg (X V c) (emb_rows t r j)
theorem block_g (t : Fin cfg3.N) : iblk3 V c 2 t = G V c := funext fun y => congrArg (G V c) (emb_one t y)
theorem block_s (t : Fin cfg3.N) : iblk3 V c 3 t = S V c := funext fun y => congrArg (S V c) (emb_one t y)
theorem block_d (t : Fin cfg3.N) (r : Fin 512) (j : Fin 1024) :
    iblk3 V c 4 t (ix2 (n0 := 512) (n1 := 1024) r j) = D V c (ix2 (under N_3 t r) j) := congrArg (D V c) (emb_rows t r j)

theorem point_rows (t : Fin cfg3.N) (r : Fin 512) (j : Fin 1024) :
    (outsAt3 V c t.val t.isLt).1 (ix2 (n0 := 512) (n1 := 1024) r j)
      = rows (H V c) (X V c) (G V c) (S V c) (D V c) (under N_3 t r) j := by
  have h : (outsAt3 V c t.val t.isLt).1 (ix2 (n0 := 512) (n1 := 1024) r j)
      = rows (R := 512) (iblk3 V c 0 t) (iblk3 V c 1 t) (iblk3 V c 2 t) (iblk3 V c 3 t) (iblk3 V c 4 t) r j := by
    by_cases h0 : t.val % 8 = 0
    · rw [outsAt3_A V c t h0]; frame_out; exact pay_rows _ _ _ _ _ r j
    · rw [outsAt3_B V c t h0]; frame_out; exact pay_rows _ _ _ _ _ r j
  rw [h, block_g, block_s]
  exact rows_under _ _ (under N_3 t) (block_h V c t) (block_x V c t) (block_d V c t) r j

/-- What a point of the normalisation's backward call adds to the sums. -/
abbrev part (t : Fin cfg3.N) : (Face 8 1024).Idx → EReal := fun y =>
  sums (R := 512) (iblk3 V c 0 t) (iblk3 V c 1 t) (iblk3 V c 2 t) (iblk3 V c 3 t) (y 0).val (y 1)

theorem first_sums (t : Fin cfg3.N) (h0 : t.val % 8 = 0) (y : S8x1024.Idx) :
    (outsAt3 V c t.val t.isLt).2 y = (0 : EReal) + part V c t y := by
  rw [outsAt3_A V c t h0]; frame_out
  exact first_point (ms3_6 t).view
    (fun b => pay_shift (iblk3 V c 0 t) (iblk3 V c 1 t) b (iblk3 V c 2 t) (iblk3 V c 3 t))
    (fun b => pay_scale (iblk3 V c 0 t) (iblk3 V c 1 t) b (iblk3 V c 2 t) (iblk3 V c 3 t))
    (fun b => pay_weight (iblk3 V c 0 t) (iblk3 V c 1 t) b (iblk3 V c 2 t) (iblk3 V c 3 t)) y pay_zero _ _ _ _

theorem next_sums (t : Fin cfg3.N) (h0 : ¬t.val % 8 = 0) (y : S8x1024.Idx) :
    (outsAt3 V c t.val t.isLt).2 y
      = (outsAt3 V c (t.val - 1) (Nat.lt_of_le_of_lt (Nat.sub_le _ _) t.isLt)).2 y + part V c t y := by
  rw [outsAt3_B V c t h0]; frame_out
  generalize (outsAt3 V c (t.val - 1) _).2 = old
  exact next_point (ms3_6 t).view
    (fun b => pay_shift (iblk3 V c 0 t) (iblk3 V c 1 t) b (iblk3 V c 2 t) (iblk3 V c 3 t))
    (fun b => pay_scale (iblk3 V c 0 t) (iblk3 V c 1 t) b (iblk3 V c 2 t) (iblk3 V c 3 t))
    (fun b => pay_weight (iblk3 V c 0 t) (iblk3 V c 1 t) b (iblk3 V c 2 t) (iblk3 V c 3 t)) y ((hs3_6 t).read_unread old) _ _ _

theorem array_rows : (dat3 V c).arrAt 5 cfg3.N = face (rows (H V c) (X V c) (G V c) (S V c) (D V c)) := by
  refine (dat3 V c).arrAt_eq_of_covers 5 _ (by decide +kernel) fun t _ y => ?_
  blk_simp
  rw [after3_5]
  obtain ⟨r, j, rfl⟩ : ∃ (r : Fin 512) (j : Fin 1024), y = ix2 r j := ⟨y 0, y 1, ValueIdx.eq_ix2 y⟩
  exact (point_rows V c t r j).trans (congrArg (face (rows (H V c) (X V c) (G V c) (S V c) (D V c))) (emb_rows_out t r j)).symm

theorem array_sums : (dat3 V c).arrAt 6 cfg3.N
    = fun i : S8x1024.Idx => sums (H V c) (X V c) (G V c) (S V c) (i 0).val (i 1) := by
  refine (dat3 V c).arrAt_eq_of_covers 6 _ (by decide +kernel) fun t hf y => ?_
  blk_simp
  have hl : t.val + 1 = cfg3.N := by
    have h7 := (flush3_6 t).mp hf
    have := lt_of_lt_of_eq t.isLt (show cfg3.N = 8 from N_3)
    rw [show cfg3.N = 8 from N_3]; omega
  rw [after3_6, Pipeline.eq_sum_fin_of_reset_step_apply_last (fun n h => (outsAt3 V c n h).2) 8 (fun _ => (0 : EReal)) (part V c)
    (first_sums V c) (next_sums V c) (le_of_eq N_3) t hl y, zero_add, at_sums, emb_sums]
  rw [show (![0, 0] : Fin 2 → Nat) 0 * 8 + (y 0).val = (y 0).val from by simp]
  refine Eq.trans ?_ (Fin.sum_univ_tiles 8 512 rfl fun r : Fin 4096 =>
    term (H V c) (X V c) (G V c) (S V c) (y 0).val (y 1) r).symm
  refine Finset.sum_congr (M := EReal) rfl fun p _ => Finset.sum_congr (M := EReal) rfl fun r _ => ?_
  rw [block_g, block_s]
  exact term_under _ _ (under N_3 p) (block_h V c p) (block_x V c p) _ _ r

end Kernel

/-! ## The results as functions of the arguments -/

/-- The arguments, and the gradients of the gate's arguments and of the normalisation's result. -/
structure Given where
  O : (Face 4096 2816).Idx → EReal
  U : (Face 4096 5632).Idx → EReal
  Y : (Face 4096 1024).Idx → EReal
  M : (Face 1024 5632).Idx → EReal
  X : (Face 4096 1024).Idx → EReal
  G : (Face 1 1024).Idx → EReal
  S : (Face 1 1024).Idx → EReal
  D : (Face 4096 1024).Idx → EReal

def Given.args (a : Given) : (Face 4096 5632).Idx → EReal := face (spread a.O a.U)
def Given.grad (a : Given) : (Face 4096 1024).Idx → EReal := face (across a.args a.M)
def Given.vec (a : Given) : (Face 8 1024).Idx → EReal := fun i => sums a.grad a.X a.G a.S (i 0).val (i 1)

theorem apart_grad (a : Given) : face (apart a.O a.U a.M) = a.grad := by rw [apart_across, drawn_spread]; rfl
theorem drawn_args (a : Given) : face (drawn a.O a.U) = a.args := by rw [drawn_spread]; rfl

section Run
open Cert.FfnBwdIdeal Cert.FfnBwdIdeal.Gen

variable (m : (ℓ : Loc nD τ sig) → Buf (Elt Ideal) ℓ) (ρ : Dev nD → PrngReg) (c : Dev nD)

/-- The arguments as launched. -/
abbrev launch : (c : Dev nD) → (b : Ref sig .tc) → Buf (Elt Ideal) ((c : Thread nD τ).loc b) := fun c b => m ((c : Thread nD τ).loc b)

abbrev given : Given :=
  ⟨O (launch m) c, U (launch m) c, Y (launch m) c, M (launch m) c, X (launch m) c, G (launch m) c, S (launch m) c, D (launch m) c⟩

theorem held_p : P (V1 m ρ) c = (given m c).args := (W1_arr m ρ c 2).trans (array_gate (V0 m ρ) c)

theorem later_p : P (V2 m ρ) c = (given m c).args := (W2_of m ρ c main_v0 (by decide)).trans (held_p m ρ c)

theorem held_h : H (V3 m ρ) c = (given m c).grad := by
  refine ((W3_arr m ρ c 2).trans (array_dgrad (V2 m ρ) c)).trans ?_
  rw [later_p, show M (V2 m ρ) c = M (launch m) c from W2_args m ρ c main_arg3 (by decide)]
  rfl

theorem held_x : X (V3 m ρ) c = X (launch m) c := W3_args m ρ c main_arg4 (by decide)
theorem held_g : G (V3 m ρ) c = G (launch m) c := W3_args m ρ c main_arg5 (by decide)
theorem held_s : S (V3 m ρ) c = S (launch m) c := W3_args m ρ c main_arg6 (by decide)
theorem held_d : D (V3 m ρ) c = D (launch m) c := W3_args m ρ c main_arg7 (by decide)

/-- The four results. -/
theorem held_args : W4 m ρ c (Proc.devRef .tc main_v0) = (given m c).args :=
  ((W4_of m ρ c main_v0 (by decide)).trans (W3_of m ρ c main_v0 (by decide))).trans (later_p m ρ c)

theorem held_wgrad : W4 m ρ c (Proc.devRef .tc main_v1) = face (over (given m c).Y (given m c).args) := by
  refine ((W4_of m ρ c main_v1 (by decide)).trans (W3_of m ρ c main_v1 (by decide))).trans
    (((W2_arr m ρ c 2).trans (array_wgrad (V1 m ρ) c)).trans ?_)
  rw [held_p, show Y (V1 m ρ) c = Y (launch m) c from W1_args m ρ c main_arg2 (by decide)]

theorem held_rows : W4 m ρ c (Proc.devRef .tc main_v3_0)
    = face (rows (given m c).grad (given m c).X (given m c).G (given m c).S (given m c).D) := by
  refine ((W4_arr m ρ c 5).trans (array_rows (V3 m ρ) c)).trans ?_
  rw [held_h, held_x, held_g, held_s, held_d]

theorem held_sums : W4 m ρ c (Proc.devRef .tc main_v3_1) = (given m c).vec := by
  refine ((W4_arr m ρ c 6).trans (array_sums (V3 m ρ) c)).trans ?_
  rw [held_h, held_x, held_g, held_s]
  rfl

section
open Idealize.ShloMosaic.Tactic Idealize.ShloMosaic.Rounds Idealize.SL Idealize.SL.RA Idealize.SL.BI Idealize.SL.BI.BIBase Idealize.SL.BI.Laws Idealize.SL.ProofMode
open scoped Idealize.SL.BI

set_option backward.isDefEq.respectTransparency.types false in
/-- The run ends with every buffer of the program as the last call leaves it. -/
theorem contents : θ_run defs (onTc (τ := τ) (main (F := Ideal))) ⟨m, fun _ => 0, ρ⟩ (fun r => ∀ c : Dev nD,
    ∀ b ∈ Pipeline.ucRefs τ sig, r.2.mem ((c : Thread nD τ).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp _)
            ⊢ BI.own (emb₁ (initOf (Pipeline.cells cfgs cellOf_inj) (Pipeline.launchToks cfgs cellOf_inj))) from .rfl)
        iexact Hu
      iapply (show (BI.emp : sProp _) ⊢ bigSep Finset.univ (fun _ : Dev nD => (BI.emp : sProp _)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = W4 m ρ c b)
    (hfin := fun c s' => by
      iintro ⟨⟨Hh, -⟩, HSI⟩
      unfold StableHlo.held
      imodintro
      iapply (pointsTo_read_all (Pipeline.ucRefs τ sig) (fun b => ((c : Thread nD τ).1, b)) (W4 m ρ c) s')
      isplitl [Hh] <;> iassumption)
    (hQ := fun s h _ => h)

end

end Run

/-! ## The reference -/

section Host
open Cert.FfnedBwdIdeal Cert.FfnedBwdIdeal.Value

variable (m : (ℓ : Loc nD τ sig) → Buf (Elt Ideal) ℓ) (c : Dev nD)

abbrev taken : Given :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5),
    m ((c.tc : Thread nD τ).loc main_arg6), m ((c.tc : Thread nD τ).loc main_arg7)⟩

theorem host_rows : res_main_v62 m c
    = face (rows (taken m c).grad (taken m c).X (taken m c).G (taken m c).S (taken m c).D) := by
  funext i
  obtain ⟨r, j, rfl⟩ : ∃ (r : Fin 4096) (j : Fin 1024), i = ix2 r j := ⟨i 0, i 1, ValueIdx.eq_ix2 i⟩
  rw [← apart_grad]
  pointwise [res_main_v62]
  simp only [Fin.sum_univ_one]
  exact gradients (R := 4096) (face (apart (taken m c).O (taken m c).U (taken m c).M)) _ _ _ _ r j _ rfl

theorem host_sums : res_main_v64 m c = (taken m c).vec := by
  funext i
  rw [Given.vec, ← apart_grad]
  refine Eq.trans ?_ (ladder (face (apart (taken m c).O (taken m c).U (taken m c).M)) (taken m c).X (taken m c).G
    (taken m c).S _ _)
  pointwise [res_main_v64]
  rfl

end Host

/-! ## The claim -/

theorem values : Cert.algebraic_FfnBwdIdeal_FfnedBwdIdeal (hFfnBwdIdeal := Cert.FfnBwdIdeal.Gen.facts)
    (hFfnedBwdIdeal := Cert.FfnedBwdIdeal.Gen.facts) := fun m g m' g' _ hagree => by
  refine ⟨fun c => (given m c).args, fun c => face (over (given m c).Y (given m c).args),
    fun c => face (rows (given m c).grad (given m c).X (given m c).G (given m c).S (given m c).D), fun c => (given m c).vec,
    (θ_run Cert.FfnBwdIdeal.defs _ _).mono (fun r h c => ?_) (contents m g),
    (θ_run Cert.FfnedBwdIdeal.defs _ _).mono (fun r h c => ?_) (Cert.FfnedBwdIdeal.Value.run (F := Ideal) m' g')⟩
  · have hb : ∀ (b : Ref Cert.FfnBwdIdeal.sig .tc) {x}, Cert.FfnBwdIdeal.Gen.W4 m g c (Proc.devRef .tc b) = x →
        ¬(Proc.devRef .tc b : DevRef Cert.FfnBwdIdeal.τ Cert.FfnBwdIdeal.sig).isScoped →
        r.2.mem ((c.tc : Thread Cert.FfnBwdIdeal.nD Cert.FfnBwdIdeal.τ).loc b) = x :=
      fun b _ e hs => (h c _ (Cert.FfnBwdIdeal.Gen.mem_uc b hs)).trans e
    exact ⟨hb _ (held_args m g c) (by decide), hb _ (held_wgrad m g c) (by decide), hb _ (held_rows m g c) (by decide),
      hb _ (held_sums m g c) (by decide),
      hb _ (Cert.FfnBwdIdeal.Gen.W4_main_arg0 m g c) (by decide), hb _ (Cert.FfnBwdIdeal.Gen.W4_main_arg1 m g c) (by decide),
      hb _ (Cert.FfnBwdIdeal.Gen.W4_main_arg2 m g c) (by decide), hb _ (Cert.FfnBwdIdeal.Gen.W4_main_arg3 m g c) (by decide),
      hb _ (Cert.FfnBwdIdeal.Gen.W4_main_arg4 m g c) (by decide), hb _ (Cert.FfnBwdIdeal.Gen.W4_main_arg5 m g c) (by decide),
      hb _ (Cert.FfnBwdIdeal.Gen.W4_main_arg6 m g c) (by decide), hb _ (Cert.FfnBwdIdeal.Gen.W4_main_arg7 m g c) (by decide)⟩
  · obtain ⟨h0, h1, h2, h3, h4, h5, h6, h7⟩ := hagree c
    obtain ⟨hu, hw, hr, hs, hargs⟩ := h c
    have hgiven : taken m' c = given m c := by
      rw [taken, h0, h1, h2, h3, h4, h5, h6, h7]
    beta_reduce
    rw [← hgiven]
    refine ⟨hu.trans (funext fun i => ?_), hw.trans (funext fun i => ?_), hr.trans (host_rows m' c), hs.trans (host_sums m' c), hargs⟩
    · obtain ⟨r, j, rfl⟩ : ∃ (r : Fin 4096) (j : Fin 5632), i = ix2 r j := ⟨i 0, i 1, ValueIdx.eq_ix2 i⟩
      rw [← drawn_args]
      pointwise []
      rfl
    · obtain ⟨r, j, rfl⟩ : ∃ (r : Fin 1024) (j : Fin 5632), i = ix2 r j := ⟨i 0, i 1, ValueIdx.eq_ix2 i⟩
      rw [← drawn_args]
      pointwise []
      rfl

end Cert.Norm.Gate

end
-- ==== Proof.Mix.lean ====
/-
  The mixing of the two branches of the attention sublayer and its backward pass, as one program of thirteen calls: each branch's
  product with its weight, their sum under the logistics of the gate's logits, the product with the output weight, the result
  normalised and added to the rows; then the normalisation's backward call, the two products with that gradient, the gradient through
  the sum, and for each branch the two products with its gradient. Each call's array is a formula of the arrays it is given, whatever
  they hold.
-/
module

public import proofs.«01_k».proof.Proof.Gate
public import proofs.«01_k».proof.Proof.Gen.MixIdeal.Frame

@[expose] public section

noncomputable section

namespace Cert.Norm.Mix
open Idealize.ShloMosaic Idealize.ShloMosaic.TcCoe Idealize.SL.Sem
open Cert.Adam (Face)
open Cert.Norm.Sublayer (face product over across product_under over_under across_under gated_under)
open Cert.Norm.Backward (back share shares add_none back_under share_under)
open Cert.Norm.After (gated)

/-! ## The formulas -/

/-- The columns of the first branch's logits and of the second's. -/
def low (j : Fin 1024) : Fin 2048 := ⟨j.val, by have := j.isLt; omega⟩
def high (j : Fin 1024) : Fin 2048 := ⟨1024 + j.val, by have := j.isLt; omega⟩

/-- The column of a branch under a column of the second branch's logits. -/
def fold (j : Fin 2048) (h : ¬j.val < 1024) : Fin 1024 := ⟨j.val - 1024, by have := j.isLt; omega⟩

section Formulas
variable {R Q : Nat}

/-- An element of the sum of the branches `A` and `B` under the logits `G`. -/
def merged (A B : (Face R 1024).Idx → EReal) (G : (Face R 2048).Idx → EReal) (r : Fin R) (j : Fin 1024) : EReal :=
  Ideal.logistic (G (ix2 r (low j))) * A (ix2 r j) + Ideal.logistic (G (ix2 r (high j))) * B (ix2 r j)

/-- The gradient of a branch, whose logits are the columns `u`, from the gradient `D` of the sum. -/
def branch (u : Fin 1024 → Fin 2048) (D : (Face R 1024).Idx → EReal) (G : (Face R 2048).Idx → EReal) (r : Fin R) (j : Fin 1024) :
    EReal :=
  D (ix2 r j) * Ideal.logistic (G (ix2 r (u j)))

/-- The derivative of the logistic. -/
def bell (a : EReal) : EReal := Ideal.logistic a * (1 - Ideal.logistic a)

/-- The gradient of the logits. -/
def logits (D A B : (Face R 1024).Idx → EReal) (G : (Face R 2048).Idx → EReal) (r : Fin R) (j : Fin 2048) : EReal :=
  if h : j.val < 1024 then D (ix2 r ⟨j.val, h⟩) * A (ix2 r ⟨j.val, h⟩) * bell (G (ix2 r (low ⟨j.val, h⟩)))
  else D (ix2 r (fold j h)) * B (ix2 r (fold j h)) * bell (G (ix2 r (high (fold j h))))

section Blocks
variable {D A B : (Face R 1024).Idx → EReal} {G : (Face R 2048).Idx → EReal} {D' A' B' : (Face Q 1024).Idx → EReal}
  {G' : (Face Q 2048).Idx → EReal} (u : Fin Q → Fin R)

theorem merged_under (hA : ∀ r j, A' (ix2 r j) = A (ix2 (u r) j)) (hB : ∀ r j, B' (ix2 r j) = B (ix2 (u r) j))
    (hG : ∀ r j, G' (ix2 r j) = G (ix2 (u r) j)) (r : Fin Q) (j : Fin 1024) : merged A' B' G' r j = merged A B G (u r) j := by
  simp only [merged, hA, hB, hG]

theorem branch_under (w : Fin 1024 → Fin 2048) (hD : ∀ r j, D' (ix2 r j) = D (ix2 (u r) j))
    (hG : ∀ r j, G' (ix2 r j) = G (ix2 (u r) j)) (r : Fin Q) (j : Fin 1024) : branch w D' G' r j = branch w D G (u r) j := by
  simp only [branch, hD, hG]

theorem logits_under (hD : ∀ r j, D' (ix2 r j) = D (ix2 (u r) j)) (hA : ∀ r j, A' (ix2 r j) = A (ix2 (u r) j))
    (hB : ∀ r j, B' (ix2 r j) = B (ix2 (u r) j)) (hG : ∀ r j, G' (ix2 r j) = G (ix2 (u r) j)) (r : Fin Q) (j : Fin 2048) :
    logits D' A' B' G' r j = logits D A B G (u r) j := by
  simp only [logits, hD, hA, hB, hG]

end Blocks
end Formulas

section Kernel
open Cert.MixIdeal Cert.MixIdeal.Gen

/-! ## The payloads -/

theorem ld_low (x : Vec Ideal S512x2048 .f32) (r : Fin 512) (j : Fin 1024) :
    View.ld x r8_1 (ix2 (n0 := 512) (n1 := 1024) r j) = x (ix2 (n0 := 512) (n1 := 2048) r (low j)) :=
  congrArg x (Shape.idx_ext₂ (by simp) (by simp [low]))

theorem ld_high (x : Vec Ideal S512x2048 .f32) (r : Fin 512) (j : Fin 1024) :
    View.ld x r8_2 (ix2 (n0 := 512) (n1 := 1024) r j) = x (ix2 (n0 := 512) (n1 := 2048) r (high j)) :=
  congrArg x (Shape.idx_ext₂ (by simp) (by simp [high]))

theorem pay_first (x0 : Vec Ideal S1024x512 .bf16) (x1 : Vec Ideal S512x512 .bf16) (r : Fin 1024) (j : Fin 512) :
    k0_pay1 x0 x1 (ix2 (n0 := 1024) (n1 := 512) r j) = product (R := 1024) (n := 512) (C := 512) x0 x1 r j := by
  pointwise [k0_pay1]; rfl

theorem pay_second (x0 : Vec Ideal S1024x512 .bf16) (x1 : Vec Ideal S512x512 .bf16) (r : Fin 1024) (j : Fin 512) :
    k1_pay1 x0 x1 (ix2 (n0 := 1024) (n1 := 512) r j) = product (R := 1024) (n := 512) (C := 512) x0 x1 r j := by
  pointwise [k1_pay1]; rfl

theorem pay_merged (x0 x1 : Vec Ideal S512x1024 .f32) (x2 : Vec Ideal S512x2048 .f32) (r : Fin 512) (j : Fin 1024) :
    k2_pay1 (View.ld x2 r2_0) x0 (View.ld x2 r2_2) x1 (ix2 (n0 := 512) (n1 := 1024) r j) = merged (R := 512) x0 x1 x2 r j := by
  rw [merged, ← ld_low x2, ← ld_high x2]
  generalize View.ld x2 r8_1 = p
  generalize View.ld x2 r8_2 = q
  pointwise [k2_pay1]

theorem pay_out (x0 : Vec Ideal S1024x1024 .bf16) (x1 : Vec Ideal S1024x512 .bf16) (r : Fin 1024) (j : Fin 512) :
    k3_pay1 x0 x1 (ix2 (n0 := 1024) (n1 := 512) r j) = product (R := 1024) (n := 1024) (C := 512) x0 x1 r j := by
  pointwise [k3_pay1]; rfl

theorem pay_gated (x0 x1 : Vec Ideal S512x1024 .f32) (x2 x3 : Vec Ideal S1x1024 .f32) (r : Fin 512) (j : Fin 1024) :
    k4_pay1 x1 x0 x3 x2 (ix2 (n0 := 512) (n1 := 1024) r j) = gated (R := 512) x0 x1 x2 x3 r j := by
  pointwise [k4_pay1]; rfl

theorem pay_back (x0 x1 : Vec Ideal S512x1024 .f32) (x2 x3 : Vec Ideal S1x1024 .f32) (r : Fin 512) (j : Fin 1024) :
    k5_pay1 (k5_pay3 x1) (k5_pay4 x1) (k5_pay6 x0 x3) x2 (ix2 (n0 := 512) (n1 := 1024) r j) = back (R := 512) x0 x1 x2 x3 r j := by
  pointwise [k5_pay1, k5_pay3, k5_pay4, k5_pay6]; rfl

theorem pay_gates (x0 x1 : Vec Ideal S512x1024 .f32) (b x2 x3 : Vec Ideal S1x1024 .f32) (j : Fin 1024) {k : Nat} (hk : k = 0)
    {a : EReal} (ha : b (ix2 (n0 := 1) (n1 := 1024) 0 j) = a) :
    k5_pay7 x0 x1 b x2 (ix2 (n0 := 1) (n1 := 1024) 0 j) = a + shares (R := 512) x0 x1 x2 x3 k j := by
  subst hk ha
  pointwise [k5_pay7, k5_pay5, k5_pay4, k5_pay3]; rfl

theorem pay_weights (x0 x1 : Vec Ideal S512x1024 .f32) (b x2 x3 : Vec Ideal S1x1024 .f32) (j : Fin 1024) {k : Nat} (hk : k = 1)
    {a : EReal} (ha : b (ix2 (n0 := 1) (n1 := 1024) 0 j) = a) :
    k5_pay8 x0 x1 x3 b (ix2 (n0 := 1) (n1 := 1024) 0 j) = a + shares (R := 512) x0 x1 x2 x3 k j := by
  subst hk ha
  pointwise [k5_pay8, k5_pay6, k5_pay5, k5_pay4, k5_pay3]; rfl

theorem pay_none (y : S8x1024.Idx) : k5_pay2 (F := Ideal) y = (0 : EReal) := by
  pointwise [k5_pay2]

theorem pay_over (x0 : Vec Ideal S4096x256 .bf16) (x1 : Vec Ideal S4096x512 .bf16) (r : Fin 256) (j : Fin 512) :
    k6_pay1 x0 x1 (ix2 (n0 := 256) (n1 := 512) r j) = over (R := 256) (n := 4096) (C := 512) x0 x1 r j := by
  pointwise [k6_pay1]; rfl

theorem pay_across (x0 x1 : Vec Ideal S512x1024 .bf16) (r j : Fin 512) :
    k7_pay1 x0 x1 (ix2 (n0 := 512) (n1 := 512) r j) = across (R := 512) (n := 1024) (C := 512) x0 x1 r j := by
  pointwise [k7_pay1]; rfl

theorem pay_low (x0 : Vec Ideal S512x1024 .f32) (x3 : Vec Ideal S512x2048 .f32) (r : Fin 512) (j : Fin 1024) :
    k8_pay4 x0 (View.ld x3 r8_1) (ix2 (n0 := 512) (n1 := 1024) r j) = branch (R := 512) low x0 x3 r j := by
  rw [branch, ← ld_low x3]
  generalize View.ld x3 r8_1 = p
  pointwise [k8_pay4, k8_pay1, k8_pay2]

theorem pay_high (x0 : Vec Ideal S512x1024 .f32) (x3 : Vec Ideal S512x2048 .f32) (r : Fin 512) (j : Fin 1024) :
    k8_pay5 x0 (View.ld x3 r8_2) (ix2 (n0 := 512) (n1 := 1024) r j) = branch (R := 512) high x0 x3 r j := by
  rw [branch, ← ld_high x3]
  generalize View.ld x3 r8_2 = p
  pointwise [k8_pay5, k8_pay1, k8_pay3]

theorem pay_logits_low (x0 x1 : Vec Ideal S512x1024 .f32) (x3 : Vec Ideal S512x2048 .f32) (r : Fin 512) (j : Fin 1024) :
    k8_pay6 x0 (View.ld x3 r8_1) x1 (ix2 (n0 := 512) (n1 := 1024) r j)
      = x0 (ix2 (n0 := 512) (n1 := 1024) r j) * x1 (ix2 (n0 := 512) (n1 := 1024) r j)
        * bell (x3 (ix2 (n0 := 512) (n1 := 2048) r (low j))) := by
  rw [bell, ← ld_low x3]
  generalize View.ld x3 r8_1 = p
  pointwise [k8_pay6, k8_pay1, k8_pay2]

theorem pay_logits_high (x0 x2 : Vec Ideal S512x1024 .f32) (x3 : Vec Ideal S512x2048 .f32) (r : Fin 512) (j : Fin 1024) :
    k8_pay7 x0 (View.ld x3 r8_2) x2 (ix2 (n0 := 512) (n1 := 1024) r j)
      = x0 (ix2 (n0 := 512) (n1 := 1024) r j) * x2 (ix2 (n0 := 512) (n1 := 1024) r j)
        * bell (x3 (ix2 (n0 := 512) (n1 := 2048) r (high j))) := by
  rw [bell, ← ld_high x3]
  generalize View.ld x3 r8_2 = p
  pointwise [k8_pay7, k8_pay1, k8_pay3]

theorem pay_over_first (x0 : Vec Ideal S4096x256 .bf16) (x1 : Vec Ideal S4096x512 .bf16) (r : Fin 256) (j : Fin 512) :
    k9_pay1 x0 x1 (ix2 (n0 := 256) (n1 := 512) r j) = over (R := 256) (n := 4096) (C := 512) x0 x1 r j := by
  pointwise [k9_pay1]; rfl

theorem pay_over_second (x0 : Vec Ideal S4096x256 .bf16) (x1 : Vec Ideal S4096x512 .bf16) (r : Fin 256) (j : Fin 512) :
    k10_pay1 x0 x1 (ix2 (n0 := 256) (n1 := 512) r j) = over (R := 256) (n := 4096) (C := 512) x0 x1 r j := by
  pointwise [k10_pay1]; rfl

theorem pay_across_first (x0 x1 : Vec Ideal S512x1024 .bf16) (r j : Fin 512) :
    k11_pay1 x0 x1 (ix2 (n0 := 512) (n1 := 512) r j) = across (R := 512) (n := 1024) (C := 512) x0 x1 r j := by
  pointwise [k11_pay1]; rfl

theorem pay_across_second (x0 x1 : Vec Ideal S512x1024 .bf16) (r j : Fin 512) :
    k12_pay1 x0 x1 (ix2 (n0 := 512) (n1 := 512) r j) = across (R := 512) (n := 1024) (C := 512) x0 x1 r j := by
  pointwise [k12_pay1]; rfl

/-! ## The blocks -/

theorem at_in : ∀ t : Fin cfg0.N, win0_0.index t = ![t.val / 2, 0] := (by decide +kernel : ∀ t : Fin grid0.N, _)
theorem at_in_weight : ∀ t : Fin cfg0.N, win0_1.index t = ![0, t.val % 2] := (by decide +kernel : ∀ t : Fin grid0.N, _)
theorem at_in_out : ∀ t : Fin cfg0.N, win0_2.index t = ![t.val / 2, t.val % 2] := (by decide +kernel : ∀ t : Fin grid0.N, _)
theorem at_rows : ∀ t : Fin cfg2.N, win2_0.index t = ![t.val, 0] := (by decide +kernel : ∀ t : Fin grid2.N, _)
theorem at_wide : ∀ t : Fin cfg2.N, win2_2.index t = ![t.val, 0] := (by decide +kernel : ∀ t : Fin grid2.N, _)
theorem at_out : ∀ t : Fin cfg3.N, win3_0.index t = ![t.val / 2, 0] := (by decide +kernel : ∀ t : Fin grid3.N, _)
theorem at_out_weight : ∀ t : Fin cfg3.N, win3_1.index t = ![0, t.val % 2] := (by decide +kernel : ∀ t : Fin grid3.N, _)
theorem at_one : ∀ t : Fin cfg4.N, win4_2.index t = ![0, 0] := (by decide +kernel : ∀ t : Fin grid4.N, _)
theorem at_sums : ∀ t : Fin cfg5.N, win5_5.index t = ![0, 0] := (by decide +kernel : ∀ t : Fin grid5.N, _)
theorem at_over : ∀ t : Fin cfg6.N, win6_0.index t = ![0, t.val / 2] := (by decide +kernel : ∀ t : Fin grid6.N, _)
theorem at_over_back : ∀ t : Fin cfg6.N, win6_1.index t = ![0, t.val % 2] := (by decide +kernel : ∀ t : Fin grid6.N, _)
theorem at_over_out : ∀ t : Fin cfg6.N, win6_2.index t = ![t.val / 2, t.val % 2] := (by decide +kernel : ∀ t : Fin grid6.N, _)
theorem at_across : ∀ t : Fin cfg7.N, win7_0.index t = ![t.val / 2, 0] := (by decide +kernel : ∀ t : Fin grid7.N, _)
theorem at_across_weight : ∀ t : Fin cfg7.N, win7_1.index t = ![t.val % 2, 0] := (by decide +kernel : ∀ t : Fin grid7.N, _)
theorem at_across_out : ∀ t : Fin cfg7.N, win7_2.index t = ![t.val / 2, t.val % 2] := (by decide +kernel : ∀ t : Fin grid7.N, _)
theorem at_wgrad : ∀ t : Fin cfg9.N, win9_0.index t = ![0, t.val / 2] := (by decide +kernel : ∀ t : Fin grid9.N, _)
theorem at_wgrad_back : ∀ t : Fin cfg9.N, win9_1.index t = ![0, t.val % 2] := (by decide +kernel : ∀ t : Fin grid9.N, _)
theorem at_wgrad_out : ∀ t : Fin cfg9.N, win9_2.index t = ![t.val / 2, t.val % 2] := (by decide +kernel : ∀ t : Fin grid9.N, _)
theorem at_dgrad : ∀ t : Fin cfg11.N, win11_0.index t = ![t.val, 0] := (by decide +kernel : ∀ t : Fin grid11.N, _)
theorem at_dgrad_weight : ∀ t : Fin cfg11.N, win11_1.index t = ![0, 0] := (by decide +kernel : ∀ t : Fin grid11.N, _)
theorem at_dgrad_out : ∀ t : Fin cfg11.N, win11_2.index t = ![t.val, 0] := (by decide +kernel : ∀ t : Fin grid11.N, _)

/-- The row and the column of the arrays under row `r` and column `j` of point `t`'s block, in the products. -/
def inRow (t : Fin cfg0.N) (r : Fin 1024) : Fin 4096 :=
  ⟨t.val / 2 * 1024 + r.val, by have := lt_of_lt_of_eq t.isLt N_0; have := r.isLt; omega⟩
def overRow (t : Fin cfg6.N) (r : Fin 256) : Fin 1024 :=
  ⟨t.val / 2 * 256 + r.val, by have := lt_of_lt_of_eq t.isLt N_6; have := r.isLt; omega⟩
def acrossRow (t : Fin cfg7.N) (r : Fin 512) : Fin 4096 :=
  ⟨t.val / 2 * 512 + r.val, by have := lt_of_lt_of_eq t.isLt N_7; have := r.isLt; omega⟩
def wgradRow (t : Fin cfg9.N) (r : Fin 256) : Fin 512 :=
  ⟨t.val / 2 * 256 + r.val, by have := lt_of_lt_of_eq t.isLt N_9; have := r.isLt; omega⟩
def col {n : Nat} (t : Fin n) (j : Fin 512) : Fin 1024 :=
  ⟨t.val % 2 * 512 + j.val, by have := j.isLt; omega⟩

theorem emb_in (t : Fin cfg0.N) (r : Fin 1024) (k : Fin 512) :
    (win0_0.blk t).view.emb (ix2 (n0 := 1024) (n1 := 512) r k) = ix2 (n0 := 4096) (n1 := 512) (inRow t r) k := by
  blk_ext [at_in, inRow]
theorem emb_in_weight (t : Fin cfg0.N) (k : Fin 512) (j : Fin 512) :
    (win0_1.blk t).view.emb (ix2 (n0 := 512) (n1 := 512) k j) = ix2 (n0 := 512) (n1 := 1024) k (col t j) := by
  blk_ext [at_in_weight, col]
theorem emb_in_out (t : Fin cfg0.N) (r : Fin 1024) (j : Fin 512) :
    (win0_2.blk t).view.emb (ix2 (n0 := 1024) (n1 := 512) r j) = ix2 (n0 := 4096) (n1 := 1024) (inRow t r) (col t j) := by
  blk_ext [at_in_out, inRow, col]
theorem emb_rows (t : Fin cfg2.N) (r : Fin 512) (j : Fin 1024) :
    (win2_0.blk t).view.emb (ix2 (n0 := 512) (n1 := 1024) r j) = ix2 (n0 := 4096) (n1 := 1024) (under N_2 t r) j := by
  blk_ext [at_rows, under_val]
theorem emb_wide (t : Fin cfg2.N) (r : Fin 512) (j : Fin 2048) :
    (win2_2.blk t).view.emb (ix2 (n0 := 512) (n1 := 2048) r j) = ix2 (n0 := 4096) (n1 := 2048) (under N_2 t r) j := by
  blk_ext [at_wide, under_val]
theorem emb_out (t : Fin cfg3.N) (r : Fin 1024) (k : Fin 1024) :
    (win3_0.blk t).view.emb (ix2 (n0 := 1024) (n1 := 1024) r k) = ix2 (n0 := 4096) (n1 := 1024) (inRow t r) k := by
  blk_ext [at_out, inRow]
theorem emb_out_weight (t : Fin cfg3.N) (k : Fin 1024) (j : Fin 512) :
    (win3_1.blk t).view.emb (ix2 (n0 := 1024) (n1 := 512) k j) = ix2 (n0 := 1024) (n1 := 1024) k (col t j) := by
  blk_ext [at_out_weight, col]
theorem emb_one (t : Fin cfg4.N) (y : S1x1024.Idx) : (win4_2.blk t).view.emb y = y := by
  blk_ext [at_one]
theorem emb_sums (t : Fin cfg5.N) (y : S8x1024.Idx) : (win5_5.blk t).view.emb y = y := by
  blk_ext [at_sums]
theorem emb_over (t : Fin cfg6.N) (k : Fin 4096) (r : Fin 256) :
    (win6_0.blk t).view.emb (ix2 (n0 := 4096) (n1 := 256) k r) = ix2 (n0 := 4096) (n1 := 1024) k (overRow t r) := by
  blk_ext [at_over, overRow]
theorem emb_over_back (t : Fin cfg6.N) (k : Fin 4096) (j : Fin 512) :
    (win6_1.blk t).view.emb (ix2 (n0 := 4096) (n1 := 512) k j) = ix2 (n0 := 4096) (n1 := 1024) k (col t j) := by
  blk_ext [at_over_back, col]
theorem emb_over_out (t : Fin cfg6.N) (r : Fin 256) (j : Fin 512) :
    (win6_2.blk t).view.emb (ix2 (n0 := 256) (n1 := 512) r j) = ix2 (n0 := 1024) (n1 := 1024) (overRow t r) (col t j) := by
  blk_ext [at_over_out, overRow, col]
theorem emb_across (t : Fin cfg7.N) (r : Fin 512) (k : Fin 1024) :
    (win7_0.blk t).view.emb (ix2 (n0 := 512) (n1 := 1024) r k) = ix2 (n0 := 4096) (n1 := 1024) (acrossRow t r) k := by
  blk_ext [at_across, acrossRow]
theorem emb_across_weight (t : Fin cfg7.N) (j : Fin 512) (k : Fin 1024) :
    (win7_1.blk t).view.emb (ix2 (n0 := 512) (n1 := 1024) j k) = ix2 (n0 := 1024) (n1 := 1024) (col t j) k := by
  blk_ext [at_across_weight, col]
theorem emb_across_out (t : Fin cfg7.N) (r : Fin 512) (j : Fin 512) :
    (win7_2.blk t).view.emb (ix2 (n0 := 512) (n1 := 512) r j) = ix2 (n0 := 4096) (n1 := 1024) (acrossRow t r) (col t j) := by
  blk_ext [at_across_out, acrossRow, col]
theorem emb_wgrad (t : Fin cfg9.N) (k : Fin 4096) (r : Fin 256) :
    (win9_0.blk t).view.emb (ix2 (n0 := 4096) (n1 := 256) k r) = ix2 (n0 := 4096) (n1 := 512) k (wgradRow t r) := by
  blk_ext [at_wgrad, wgradRow]
theorem emb_wgrad_back (t : Fin cfg9.N) (k : Fin 4096) (j : Fin 512) :
    (win9_1.blk t).view.emb (ix2 (n0 := 4096) (n1 := 512) k j) = ix2 (n0 := 4096) (n1 := 1024) k (col t j) := by
  blk_ext [at_wgrad_back, col]
theorem emb_wgrad_out (t : Fin cfg9.N) (r : Fin 256) (j : Fin 512) :
    (win9_2.blk t).view.emb (ix2 (n0 := 256) (n1 := 512) r j) = ix2 (n0 := 512) (n1 := 1024) (wgradRow t r) (col t j) := by
  blk_ext [at_wgrad_out, wgradRow, col]
theorem emb_dgrad (t : Fin cfg11.N) (r : Fin 512) (k : Fin 1024) :
    (win11_0.blk t).view.emb (ix2 (n0 := 512) (n1 := 1024) r k) = ix2 (n0 := 4096) (n1 := 1024) (under N_11 t r) k := by
  blk_ext [at_dgrad, under_val]
theorem emb_dgrad_weight (t : Fin cfg11.N) (j : Fin 512) (k : Fin 1024) :
    (win11_1.blk t).view.emb (ix2 (n0 := 512) (n1 := 1024) j k) = ix2 (n0 := 512) (n1 := 1024) j k := by
  blk_ext [at_dgrad_weight]
theorem emb_dgrad_out (t : Fin cfg11.N) (r : Fin 512) (j : Fin 512) :
    (win11_2.blk t).view.emb (ix2 (n0 := 512) (n1 := 512) r j) = ix2 (n0 := 4096) (n1 := 512) (under N_11 t r) j := by
  blk_ext [at_dgrad_out, under_val]

/-! ## The arrays after each call, whatever the call is given -/

variable (V : (c : Dev nD) → (b : Ref sig .tc) → Buf (Elt Ideal) ((c : Thread nD τ).loc b)) (c : Dev nD)

/-- The rows, the two branches' values, the logits, the two branches' weights, the output weight; the normalisation's weight and gate
    and the gradient of the rows; what the calls leave for the later ones. -/
abbrev X : (Face 4096 1024).Idx → EReal := V c main_arg0
abbrev I : (Face 4096 512).Idx → EReal := V c main_arg1
abbrev J : (Face 4096 512).Idx → EReal := V c main_arg2
abbrev G : (Face 4096 2048).Idx → EReal := V c main_arg3
abbrev M : (Face 512 1024).Idx → EReal := V c main_arg4
abbrev N : (Face 512 1024).Idx → EReal := V c main_arg5
abbrev W : (Face 1024 1024).Idx → EReal := V c main_arg6
abbrev P : (Face 1 1024).Idx → EReal := V c main_arg7
abbrev A : (Face 1 1024).Idx → EReal := V c main_arg8
abbrev D : (Face 4096 1024).Idx → EReal := V c main_arg9
abbrev U : (Face 4096 1024).Idx → EReal := V c main_v0
abbrev T : (Face 4096 1024).Idx → EReal := V c main_v1
abbrev Z : (Face 4096 1024).Idx → EReal := V c main_v2
abbrev Y : (Face 4096 1024).Idx → EReal := V c main_v3
abbrev Q : (Face 4096 1024).Idx → EReal := V c main_v5_0
abbrev H : (Face 4096 1024).Idx → EReal := V c main_v7
abbrev C : (Face 4096 1024).Idx → EReal := V c main_v8_0
abbrev B : (Face 4096 1024).Idx → EReal := V c main_v8_1

theorem array_u : (dat0 V c).arrAt 2 cfg0.N = face (product (I V c) (M V c)) := by
  refine (dat0 V c).arrAt_eq_of_covers 2 _ (by decide +kernel) fun t _ y => ?_
  blk_simp
  rw [after0_2, out0_2, View.canon_unit_zero Cert.Adam.whole_off, View.ld_unit_zero Cert.Adam.whole_off,
    View.ld_unit_zero Cert.Adam.whole_off]
  obtain ⟨r, j, rfl⟩ : ∃ (r : Fin 1024) (j : Fin 512), y = ix2 r j := ⟨y 0, y 1, ValueIdx.eq_ix2 y⟩
  refine Eq.trans ?_ (congrArg (face (product (I V c) (M V c))) (emb_in_out t r j)).symm
  exact (pay_first _ _ r j).trans (product_under (inRow t) (col t) (fun r k => congrArg (I V c) (emb_in t r k))
    (fun k j => congrArg (M V c) (emb_in_weight t k j)) r j)

theorem array_t : (dat1 V c).arrAt 2 cfg1.N = face (product (J V c) (N V c)) := by
  refine (dat1 V c).arrAt_eq_of_covers 2 _ (by decide +kernel) fun t _ y => ?_
  blk_simp
  rw [after1_2, out1_2, View.canon_unit_zero Cert.Adam.whole_off, View.ld_unit_zero Cert.Adam.whole_off,
    View.ld_unit_zero Cert.Adam.whole_off]
  obtain ⟨r, j, rfl⟩ : ∃ (r : Fin 1024) (j : Fin 512), y = ix2 r j := ⟨y 0, y 1, ValueIdx.eq_ix2 y⟩
  refine Eq.trans ?_ (congrArg (face (product (J V c) (N V c))) (emb_in_out t r j)).symm
  exact (pay_second _ _ r j).trans (product_under (inRow t) (col t) (fun r k => congrArg (J V c) (emb_in t r k))
    (fun k j => congrArg (N V c) (emb_in_weight t k j)) r j)

theorem array_z : (dat2 V c).arrAt 3 cfg2.N = face (merged (U V c) (T V c) (G V c)) := by
  refine (dat2 V c).arrAt_eq_of_covers 3 _ (by decide +kernel) fun t _ y => ?_
  blk_simp
  rw [after2_3, out2_3, View.canon_unit_zero Cert.Adam.whole_off, View.ld_unit_zero Cert.Adam.whole_off,
    View.ld_unit_zero Cert.Adam.whole_off]
  obtain ⟨r, j, rfl⟩ : ∃ (r : Fin 512) (j : Fin 1024), y = ix2 r j := ⟨y 0, y 1, ValueIdx.eq_ix2 y⟩
  refine Eq.trans ?_ (congrArg (face (merged (U V c) (T V c) (G V c))) (emb_rows t r j)).symm
  exact (pay_merged _ _ _ r j).trans (merged_under (under N_2 t) (fun r j => congrArg (U V c) (emb_rows t r j))
    (fun r j => congrArg (T V c) (emb_rows t r j)) (fun r j => congrArg (G V c) (emb_wide t r j)) r j)

theorem array_y : (dat3 V c).arrAt 2 cfg3.N = face (product (Z V c) (W V c)) := by
  refine (dat3 V c).arrAt_eq_of_covers 2 _ (by decide +kernel) fun t _ y => ?_
  blk_simp
  rw [after3_2, out3_2, View.canon_unit_zero Cert.Adam.whole_off, View.ld_unit_zero Cert.Adam.whole_off,
    View.ld_unit_zero Cert.Adam.whole_off]
  obtain ⟨r, j, rfl⟩ : ∃ (r : Fin 1024) (j : Fin 512), y = ix2 r j := ⟨y 0, y 1, ValueIdx.eq_ix2 y⟩
  refine Eq.trans ?_ (congrArg (face (product (Z V c) (W V c))) (emb_in_out t r j)).symm
  exact (pay_out _ _ r j).trans (product_under (inRow t) (col t) (fun r k => congrArg (Z V c) (emb_out t r k))
    (fun k j => congrArg (W V c) (emb_out_weight t k j)) r j)

theorem array_o : (dat4 V c).arrAt 4 cfg4.N = face (gated (X V c) (Y V c) (P V c) (A V c)) := by
  refine (dat4 V c).arrAt_eq_of_covers 4 _ (by decide +kernel) fun t _ y => ?_
  blk_simp
  rw [after4_4, out4_4, View.canon_unit_zero Cert.Adam.whole_off, View.ld_unit_zero Cert.Adam.whole_off,
    View.ld_unit_zero Cert.Adam.whole_off, View.ld_unit_zero Cert.Adam.whole_off, View.ld_unit_zero Cert.Adam.whole_off]
  obtain ⟨r, j, rfl⟩ : ∃ (r : Fin 512) (j : Fin 1024), y = ix2 r j := ⟨y 0, y 1, ValueIdx.eq_ix2 y⟩
  refine Eq.trans ?_ (congrArg (face (gated (X V c) (Y V c) (P V c) (A V c))) (emb_rows t r j)).symm
  refine (pay_gated _ _ _ _ r j).trans ?_
  rw [show iblk4 V c 2 t = P V c from funext fun y => congrArg (P V c) (emb_one t y),
    show iblk4 V c 3 t = A V c from funext fun y => congrArg (A V c) (emb_one t y)]
  exact gated_under _ _ (under N_0 t) (fun r j => congrArg (X V c) (emb_rows t r j)) (fun r j => congrArg (Y V c) (emb_rows t r j)) r j

theorem block_d (t : Fin cfg5.N) (r : Fin 512) (j : Fin 1024) :
    iblk5 V c 0 t (ix2 (n0 := 512) (n1 := 1024) r j) = D V c (ix2 (under N_5 t r) j) := congrArg (D V c) (emb_rows t r j)
theorem block_y (t : Fin cfg5.N) (r : Fin 512) (j : Fin 1024) :
    iblk5 V c 1 t (ix2 (n0 := 512) (n1 := 1024) r j) = Y V c (ix2 (under N_5 t r) j) := congrArg (Y V c) (emb_rows t r j)
theorem block_p (t : Fin cfg5.N) : iblk5 V c 2 t = P V c := funext fun y => congrArg (P V c) (emb_one t y)
theorem block_a (t : Fin cfg5.N) : iblk5 V c 3 t = A V c := funext fun y => congrArg (A V c) (emb_one t y)

/-- What a point of the normalisation's backward call leaves of the rows. -/
theorem point_back (t : Fin cfg5.N) (r : Fin 512) (j : Fin 1024) :
    (outsAt5 V c t.val t.isLt).1 (ix2 (n0 := 512) (n1 := 1024) r j)
      = back (D V c) (Y V c) (P V c) (A V c) (under N_5 t r) j := by
  have h : (outsAt5 V c t.val t.isLt).1 (ix2 (n0 := 512) (n1 := 1024) r j)
      = back (R := 512) (iblk5 V c 0 t) (iblk5 V c 1 t) (iblk5 V c 2 t) (iblk5 V c 3 t) r j := by
    by_cases h0 : t.val % 8 = 0
    · rw [outsAt5_A V c t h0]; frame_out; exact pay_back _ _ _ _ r j
    · rw [outsAt5_B V c t h0]; frame_out; exact pay_back _ _ _ _ r j
  rw [h, block_p, block_a]
  exact back_under _ _ (under N_5 t) (block_d V c t) (block_y V c t) r j

/-- What it adds to the sums. -/
abbrev piece (t : Fin cfg5.N) : (Face 8 1024).Idx → EReal := fun y =>
  shares (R := 512) (iblk5 V c 0 t) (iblk5 V c 1 t) (iblk5 V c 2 t) (iblk5 V c 3 t) (y 0).val (y 1)

theorem first_sums (t : Fin cfg5.N) (h0 : t.val % 8 = 0) (y : S8x1024.Idx) :
    (outsAt5 V c t.val t.isLt).2 y = (0 : EReal) + piece V c t y := by
  rw [outsAt5_A V c t h0]; frame_out
  refine (canon_row (ms5_5 t).view 1 _ _ _ y).trans ?_
  rw [canon_row (ms5_5 t).view]
  have hz : View.canon [(⟨Rect.unit (s := S8x1024) ![0, 0] ![8, 1024] inb_S8x1024_S8x1024_0_0, k5_pay2 (F := Ideal)⟩ :
      View.Piece (Elt Ideal) S8x1024 .f32)] y = (0 : EReal) :=
    (congrFun (View.canon_cons_unit_zero (S := S8x1024) (Val := Elt Ideal) (e := .f32) Cert.Adam.whole_off
      inb_S8x1024_S8x1024_0_0 (k5_pay2 (F := Ideal)) []) y).trans (pay_none y)
  split_ifs with h1 h0
  · refine pay_weights _ _ _ _ _ _ h1 ((load_row _ _ _ _ y h1).trans ?_)
    exact (canon_row (ms5_5 t).view 0 _ _ _ y).trans ((if_neg (by omega)).trans hz)
  · exact pay_gates _ _ _ _ _ _ h0 ((load_row _ _ _ _ y h0).trans hz)
  · exact hz.trans (add_none _ _ _ _ _ h1 h0)

theorem next_sums (t : Fin cfg5.N) (h0 : ¬t.val % 8 = 0) (y : S8x1024.Idx) :
    (outsAt5 V c t.val t.isLt).2 y
      = (outsAt5 V c (t.val - 1) (Nat.lt_of_le_of_lt (Nat.sub_le _ _) t.isLt)).2 y + piece V c t y := by
  rw [outsAt5_B V c t h0]; frame_out
  generalize (outsAt5 V c (t.val - 1) _).2 = old
  refine (read_row (ms5_5 t).view _ 1 _ _ _ y).trans ?_
  rw [read_row, View.writes_nil, (hs5_5 t).read_unread]
  split_ifs with h1 hz
  · exact pay_weights _ _ _ _ _ _ h1 (ld_row _ _ _ y h1)
  · exact pay_gates _ _ _ _ _ _ hz (ld_row _ _ _ y hz)
  · exact add_none _ _ _ _ _ h1 hz

theorem array_q : (dat5 V c).arrAt 4 cfg5.N = face (back (D V c) (Y V c) (P V c) (A V c)) := by
  refine (dat5 V c).arrAt_eq_of_covers 4 _ (by decide +kernel) fun t _ y => ?_
  blk_simp
  rw [after5_4]
  obtain ⟨r, j, rfl⟩ : ∃ (r : Fin 512) (j : Fin 1024), y = ix2 r j := ⟨y 0, y 1, ValueIdx.eq_ix2 y⟩
  exact (point_back V c t r j).trans (congrArg (face (back (D V c) (Y V c) (P V c) (A V c))) (emb_rows t r j)).symm

theorem array_sums : (dat5 V c).arrAt 5 cfg5.N
    = fun i : S8x1024.Idx => shares (D V c) (Y V c) (P V c) (A V c) (i 0).val (i 1) := by
  refine (dat5 V c).arrAt_eq_of_covers 5 _ (by decide +kernel) fun t hf y => ?_
  blk_simp
  have hl : t.val + 1 = cfg5.N := by
    have h7 := (flush5_5 t).mp hf
    have := lt_of_lt_of_eq t.isLt (show cfg5.N = 8 from N_5)
    rw [show cfg5.N = 8 from N_5]; omega
  rw [after5_5, Pipeline.eq_sum_fin_of_reset_step_apply_last (fun n h => (outsAt5 V c n h).2) 8 (fun _ => (0 : EReal)) (piece V c)
    (first_sums V c) (next_sums V c) (le_of_eq N_5) t hl y, zero_add, at_sums, emb_sums]
  rw [show (![0, 0] : Fin 2 → Nat) 0 * 8 + (y 0).val = (y 0).val from by simp]
  refine Eq.trans ?_ (Fin.sum_univ_tiles 8 512 rfl fun r : Fin 4096 =>
    share (D V c) (Y V c) (P V c) (A V c) (y 0).val (y 1) r).symm
  refine Finset.sum_congr (M := EReal) rfl fun p _ => Finset.sum_congr (M := EReal) rfl fun r _ => ?_
  rw [block_p, block_a]
  exact share_under _ _ (under N_5 p) (block_d V c p) (block_y V c p) _ _ r

theorem array_over : (dat6 V c).arrAt 2 cfg6.N = face (over (Z V c) (Q V c)) := by
  refine (dat6 V c).arrAt_eq_of_covers 2 _ (by decide +kernel) fun t _ y => ?_
  blk_simp
  rw [after6_2, out6_2, View.canon_unit_zero Cert.Adam.whole_off, View.ld_unit_zero Cert.Adam.whole_off,
    View.ld_unit_zero Cert.Adam.whole_off]
  obtain ⟨r, j, rfl⟩ : ∃ (r : Fin 256) (j : Fin 512), y = ix2 r j := ⟨y 0, y 1, ValueIdx.eq_ix2 y⟩
  refine Eq.trans ?_ (congrArg (face (over (Z V c) (Q V c))) (emb_over_out t r j)).symm
  exact (pay_over _ _ r j).trans (over_under (overRow t) (col t) (fun k r => congrArg (Z V c) (emb_over t k r))
    (fun k j => congrArg (Q V c) (emb_over_back t k j)) r j)

theorem array_across : (dat7 V c).arrAt 2 cfg7.N = face (across (Q V c) (W V c)) := by
  refine (dat7 V c).arrAt_eq_of_covers 2 _ (by decide +kernel) fun t _ y => ?_
  blk_simp
  rw [after7_2, out7_2, View.canon_unit_zero Cert.Adam.whole_off, View.ld_unit_zero Cert.Adam.whole_off,
    View.ld_unit_zero Cert.Adam.whole_off]
  obtain ⟨r, j, rfl⟩ : ∃ (r : Fin 512) (j : Fin 512), y = ix2 r j := ⟨y 0, y 1, ValueIdx.eq_ix2 y⟩
  refine Eq.trans ?_ (congrArg (face (across (Q V c) (W V c))) (emb_across_out t r j)).symm
  exact (pay_across _ _ r j).trans (across_under (acrossRow t) (col t) (fun r k => congrArg (Q V c) (emb_across t r k))
    (fun j k => congrArg (W V c) (emb_across_weight t j k)) r j)

theorem array_c : (dat8 V c).arrAt 4 cfg8.N = face (branch low (H V c) (G V c)) := by
  refine (dat8 V c).arrAt_eq_of_covers 4 _ (by decide +kernel) fun t _ y => ?_
  blk_simp
  rw [after8_4, out8_4, View.canon_unit_zero Cert.Adam.whole_off, View.ld_unit_zero Cert.Adam.whole_off]
  obtain ⟨r, j, rfl⟩ : ∃ (r : Fin 512) (j : Fin 1024), y = ix2 r j := ⟨y 0, y 1, ValueIdx.eq_ix2 y⟩
  refine Eq.trans ?_ (congrArg (face (branch low (H V c) (G V c))) (emb_rows t r j)).symm
  exact (pay_low _ _ r j).trans (branch_under (under N_8 t) low (fun r j => congrArg (H V c) (emb_rows t r j))
    (fun r j => congrArg (G V c) (emb_wide t r j)) r j)

theorem array_b : (dat8 V c).arrAt 5 cfg8.N = face (branch high (H V c) (G V c)) := by
  refine (dat8 V c).arrAt_eq_of_covers 5 _ (by decide +kernel) fun t _ y => ?_
  blk_simp
  rw [after8_5, out8_5, View.canon_unit_zero Cert.Adam.whole_off, View.ld_unit_zero Cert.Adam.whole_off]
  obtain ⟨r, j, rfl⟩ : ∃ (r : Fin 512) (j : Fin 1024), y = ix2 r j := ⟨y 0, y 1, ValueIdx.eq_ix2 y⟩
  refine Eq.trans ?_ (congrArg (face (branch high (H V c) (G V c))) (emb_rows t r j)).symm
  exact (pay_high _ _ r j).trans (branch_under (under N_8 t) high (fun r j => congrArg (H V c) (emb_rows t r j))
    (fun r j => congrArg (G V c) (emb_wide t r j)) r j)

theorem array_logits : (dat8 V c).arrAt 6 cfg8.N = face (logits (H V c) (U V c) (T V c) (G V c)) := by
  refine (dat8 V c).arrAt_eq_of_covers 6 _ (by decide +kernel) fun t _ y => ?_
  blk_simp
  rw [after8_6, out8_6, View.ld_unit_zero Cert.Adam.whole_off, View.ld_unit_zero Cert.Adam.whole_off,
    View.ld_unit_zero Cert.Adam.whole_off]
  obtain ⟨r, j, rfl⟩ : ∃ (r : Fin 512) (j : Fin 2048), y = ix2 r j := ⟨y 0, y 1, ValueIdx.eq_ix2 y⟩
  refine Eq.trans ?_ (congrArg (face (logits (H V c) (U V c) (T V c) (G V c))) (emb_wide t r j)).symm
  refine Eq.trans ?_ (logits_under (D' := iblk8 V c 0 t) (A' := iblk8 V c 1 t) (B' := iblk8 V c 2 t) (G' := iblk8 V c 3 t) (under N_8 t)
    (fun r j => congrArg (H V c) (emb_rows t r j)) (fun r j => congrArg (U V c) (emb_rows t r j))
    (fun r j => congrArg (T V c) (emb_rows t r j)) (fun r j => congrArg (G V c) (emb_wide t r j)) r j)
  refine (Gate.canon_halves (C := 1024) (D := 1024) rfl (win8_6.blk t).view _ _ _ _ r j).trans ?_
  rw [logits]
  split
  · exact pay_logits_low _ _ _ r _
  · exact pay_logits_high _ _ _ r _

theorem array_wgrad_first : (dat9 V c).arrAt 2 cfg9.N = face (over (I V c) (C V c)) := by
  refine (dat9 V c).arrAt_eq_of_covers 2 _ (by decide +kernel) fun t _ y => ?_
  blk_simp
  rw [after9_2, out9_2, View.canon_unit_zero Cert.Adam.whole_off, View.ld_unit_zero Cert.Adam.whole_off,
    View.ld_unit_zero Cert.Adam.whole_off]
  obtain ⟨r, j, rfl⟩ : ∃ (r : Fin 256) (j : Fin 512), y = ix2 r j := ⟨y 0, y 1, ValueIdx.eq_ix2 y⟩
  refine Eq.trans ?_ (congrArg (face (over (I V c) (C V c))) (emb_wgrad_out t r j)).symm
  exact (pay_over_first _ _ r j).trans (over_under (wgradRow t) (col t) (fun k r => congrArg (I V c) (emb_wgrad t k r))
    (fun k j => congrArg (C V c) (emb_wgrad_back t k j)) r j)

theorem array_wgrad_second : (dat10 V c).arrAt 2 cfg10.N = face (over (J V c) (B V c)) := by
  refine (dat10 V c).arrAt_eq_of_covers 2 _ (by decide +kernel) fun t _ y => ?_
  blk_simp
  rw [after10_2, out10_2, View.canon_unit_zero Cert.Adam.whole_off, View.ld_unit_zero Cert.Adam.whole_off,
    View.ld_unit_zero Cert.Adam.whole_off]
  obtain ⟨r, j, rfl⟩ : ∃ (r : Fin 256) (j : Fin 512), y = ix2 r j := ⟨y 0, y 1, ValueIdx.eq_ix2 y⟩
  refine Eq.trans ?_ (congrArg (face (over (J V c) (B V c))) (emb_wgrad_out t r j)).symm
  exact (pay_over_second _ _ r j).trans (over_under (wgradRow t) (col t) (fun k r => congrArg (J V c) (emb_wgrad t k r))
    (fun k j => congrArg (B V c) (emb_wgrad_back t k j)) r j)

theorem array_dgrad_first : (dat11 V c).arrAt 2 cfg11.N = face (across (C V c) (M V c)) := by
  refine (dat11 V c).arrAt_eq_of_covers 2 _ (by decide +kernel) fun t _ y => ?_
  blk_simp
  rw [after11_2, out11_2, View.canon_unit_zero Cert.Adam.whole_off, View.ld_unit_zero Cert.Adam.whole_off,
    View.ld_unit_zero Cert.Adam.whole_off]
  obtain ⟨r, j, rfl⟩ : ∃ (r : Fin 512) (j : Fin 512), y = ix2 r j := ⟨y 0, y 1, ValueIdx.eq_ix2 y⟩
  refine Eq.trans ?_ (congrArg (face (across (C V c) (M V c))) (emb_dgrad_out t r j)).symm
  exact (pay_across_first _ _ r j).trans (across_under (A' := iblk11 V c 0 t) (B' := iblk11 V c 1 t) (under N_11 t) (fun j => j)
    (fun r k => congrArg (C V c) (emb_dgrad t r k))
    (fun j k => congrArg (M V c) (emb_dgrad_weight t j k)) r j)

theorem array_dgrad_second : (dat12 V c).arrAt 2 cfg12.N = face (across (B V c) (N V c)) := by
  refine (dat12 V c).arrAt_eq_of_covers 2 _ (by decide +kernel) fun t _ y => ?_
  blk_simp
  rw [after12_2, out12_2, View.canon_unit_zero Cert.Adam.whole_off, View.ld_unit_zero Cert.Adam.whole_off,
    View.ld_unit_zero Cert.Adam.whole_off]
  obtain ⟨r, j, rfl⟩ : ∃ (r : Fin 512) (j : Fin 512), y = ix2 r j := ⟨y 0, y 1, ValueIdx.eq_ix2 y⟩
  refine Eq.trans ?_ (congrArg (face (across (B V c) (N V c))) (emb_dgrad_out t r j)).symm
  exact (pay_across_second _ _ r j).trans (across_under (A' := iblk12 V c 0 t) (B' := iblk12 V c 1 t) (under N_12 t) (fun j => j)
    (fun r k => congrArg (B V c) (emb_dgrad t r k))
    (fun j k => congrArg (N V c) (emb_dgrad_weight t j k)) r j)

end Kernel

end Cert.Norm.Mix

end
-- ==== Proof.MixRun.lean ====
/-
  The run of the program of `Mix.lean`: the formulas of its thirteen calls in a row, as functions of the arguments, and the same
  functions read off the reference, which differentiates the sum of the branches and the normalisation.
-/
module

public import proofs.«01_k».proof.Proof.Mix
public import proofs.«01_k».proof.Proof.SublayerRun
public import proofs.«01_k».proof.Proof.Gen.MixedIdeal.Run

@[expose] public section

noncomputable section

namespace Cert.Norm.Mix
open Idealize.ShloMosaic Idealize.ShloMosaic.TcCoe Idealize.SL.Sem
open Cert.Adam (Face)
open Cert.Norm.Sublayer (face product over across pulled pulled_back)
open Cert.Norm.Backward (back shares pieces)
open Cert.Norm.After (gated)

/-! ## The results as functions of the arguments -/

/-- The rows `X`, the branches' values `I` and `J`, the logits `G`, the branches' weights `M` and `N`, the output weight `W`, the
    normalisation's weight `P` and gate `A`, the gradient `D` of the rows after. -/
structure Given where
  X : (Face 4096 1024).Idx → EReal
  I : (Face 4096 512).Idx → EReal
  J : (Face 4096 512).Idx → EReal
  G : (Face 4096 2048).Idx → EReal
  M : (Face 512 1024).Idx → EReal
  N : (Face 512 1024).Idx → EReal
  W : (Face 1024 1024).Idx → EReal
  P : (Face 1 1024).Idx → EReal
  A : (Face 1 1024).Idx → EReal
  D : (Face 4096 1024).Idx → EReal

variable (a : Given)

/-- The two branches, their sum, its product, the rows after. -/
def Given.first : (Face 4096 1024).Idx → EReal := face (product a.I a.M)
def Given.second : (Face 4096 1024).Idx → EReal := face (product a.J a.N)
def Given.sum : (Face 4096 1024).Idx → EReal := face (merged a.first a.second a.G)
def Given.sent : (Face 4096 1024).Idx → EReal := face (product a.sum a.W)
def Given.rows : (Face 4096 1024).Idx → EReal := face (gated a.X a.sent a.P a.A)

/-- The gradients of the product, of the gate and the weight, of the sum, of the two branches and of the logits. -/
def Given.grad : (Face 4096 1024).Idx → EReal := face (back a.D a.sent a.P a.A)
def Given.vec : (Face 8 1024).Idx → EReal := fun i => shares a.D a.sent a.P a.A (i 0).val (i 1)
def Given.down : (Face 4096 1024).Idx → EReal := face (across a.grad a.W)
def Given.firstGrad : (Face 4096 1024).Idx → EReal := face (branch low a.down a.G)
def Given.secondGrad : (Face 4096 1024).Idx → EReal := face (branch high a.down a.G)
def Given.logitsGrad : (Face 4096 2048).Idx → EReal := face (logits a.down a.first a.second a.G)

/-- The gradients of the three weights and of the two branches' values. -/
def Given.outWeight : (Face 1024 1024).Idx → EReal := face (over a.sum a.grad)
def Given.firstWeight : (Face 512 1024).Idx → EReal := face (over a.I a.firstGrad)
def Given.secondWeight : (Face 512 1024).Idx → EReal := face (over a.J a.secondGrad)
def Given.firstDown : (Face 4096 512).Idx → EReal := face (across a.firstGrad a.M)
def Given.secondDown : (Face 4096 512).Idx → EReal := face (across a.secondGrad a.N)

section Kernel
open Cert.MixIdeal Cert.MixIdeal.Gen

variable (m : (ℓ : Loc nD τ sig) → Buf (Elt Ideal) ℓ) (ρ : Dev nD → PrngReg) (c : Dev nD)

/-- The arguments as launched. -/
abbrev launch : (c : Dev nD) → (b : Ref sig .tc) → Buf (Elt Ideal) ((c : Thread nD τ).loc b) := fun c b => m ((c : Thread nD τ).loc b)

abbrev given : Given :=
  ⟨X (launch m) c, I (launch m) c, J (launch m) c, G (launch m) c, M (launch m) c, N (launch m) c, W (launch m) c, P (launch m) c,
    A (launch m) c, D (launch m) c⟩

theorem held_u : U (V1 m ρ) c = (given m c).first := (W1_arr m ρ c 2).trans (array_u (V0 m ρ) c)

theorem held_t : T (V2 m ρ) c = (given m c).second := by
  refine ((W2_arr m ρ c 2).trans (array_t (V1 m ρ) c)).trans ?_
  rw [show J (V1 m ρ) c = J (launch m) c from W1_args m ρ c main_arg2 (by decide),
    show N (V1 m ρ) c = N (launch m) c from W1_args m ρ c main_arg5 (by decide)]
  rfl

theorem later_u : U (V2 m ρ) c = (given m c).first := by
  refine Eq.trans ?_ (held_u m ρ c)
  show W2 m ρ c (Proc.devRef .tc main_v0) = W1 m ρ c (Proc.devRef .tc main_v0)
  rw [W2_of m ρ c main_v0 (by decide)]

theorem held_z : Z (V3 m ρ) c = (given m c).sum := by
  refine ((W3_arr m ρ c 3).trans (array_z (V2 m ρ) c)).trans ?_
  rw [later_u, held_t,
    show G (V2 m ρ) c = G (launch m) c from W2_args m ρ c main_arg3 (by decide)]
  rfl

theorem held_y : Y (V4 m ρ) c = (given m c).sent := by
  refine ((W4_arr m ρ c 2).trans (array_y (V3 m ρ) c)).trans ?_
  rw [held_z,
    show W (V3 m ρ) c = W (launch m) c from W3_args m ρ c main_arg6 (by decide)]
  rfl

theorem later_y : Y (V5 m ρ) c = (given m c).sent := by
  refine Eq.trans ?_ (held_y m ρ c)
  show W5 m ρ c (Proc.devRef .tc main_v3) = W4 m ρ c (Proc.devRef .tc main_v3)
  rw [W5_of m ρ c main_v3 (by decide)]

theorem held_q : Q (V6 m ρ) c = (given m c).grad := by
  refine ((W6_arr m ρ c 4).trans (array_q (V5 m ρ) c)).trans ?_
  rw [later_y,
    show D (V5 m ρ) c = D (launch m) c from W5_args m ρ c main_arg9 (by decide),
    show P (V5 m ρ) c = P (launch m) c from W5_args m ρ c main_arg7 (by decide),
    show A (V5 m ρ) c = A (launch m) c from W5_args m ρ c main_arg8 (by decide)]
  rfl

theorem later_z : Z (V6 m ρ) c = (given m c).sum := by
  refine Eq.trans ?_ (held_z m ρ c)
  show W6 m ρ c (Proc.devRef .tc main_v2) = W3 m ρ c (Proc.devRef .tc main_v2)
  rw [W6_of m ρ c main_v2 (by decide), W5_of m ρ c main_v2 (by decide), W4_of m ρ c main_v2 (by decide)]

theorem later_q : Q (V7 m ρ) c = (given m c).grad := by
  refine Eq.trans ?_ (held_q m ρ c)
  show W7 m ρ c (Proc.devRef .tc main_v5_0) = W6 m ρ c (Proc.devRef .tc main_v5_0)
  rw [W7_of m ρ c main_v5_0 (by decide)]

theorem held_h : H (V8 m ρ) c = (given m c).down := by
  refine ((W8_arr m ρ c 2).trans (array_across (V7 m ρ) c)).trans ?_
  rw [later_q,
    show W (V7 m ρ) c = W (launch m) c from W7_args m ρ c main_arg6 (by decide)]
  rfl

theorem last_u : U (V8 m ρ) c = (given m c).first := by
  refine Eq.trans ?_ (held_u m ρ c)
  show W8 m ρ c (Proc.devRef .tc main_v0) = W1 m ρ c (Proc.devRef .tc main_v0)
  rw [W8_of m ρ c main_v0 (by decide), W7_of m ρ c main_v0 (by decide), W6_of m ρ c main_v0 (by decide),
    W5_of m ρ c main_v0 (by decide), W4_of m ρ c main_v0 (by decide), W3_of m ρ c main_v0 (by decide),
    W2_of m ρ c main_v0 (by decide)]

theorem last_t : T (V8 m ρ) c = (given m c).second := by
  refine Eq.trans ?_ (held_t m ρ c)
  show W8 m ρ c (Proc.devRef .tc main_v1) = W2 m ρ c (Proc.devRef .tc main_v1)
  rw [W8_of m ρ c main_v1 (by decide), W7_of m ρ c main_v1 (by decide), W6_of m ρ c main_v1 (by decide),
    W5_of m ρ c main_v1 (by decide), W4_of m ρ c main_v1 (by decide), W3_of m ρ c main_v1 (by decide)]

theorem held_c : C (V9 m ρ) c = (given m c).firstGrad := by
  refine ((W9_arr m ρ c 4).trans (array_c (V8 m ρ) c)).trans ?_
  rw [held_h,
    show G (V8 m ρ) c = G (launch m) c from W8_args m ρ c main_arg3 (by decide)]
  rfl

theorem held_b : B (V9 m ρ) c = (given m c).secondGrad := by
  refine ((W9_arr m ρ c 5).trans (array_b (V8 m ρ) c)).trans ?_
  rw [held_h,
    show G (V8 m ρ) c = G (launch m) c from W8_args m ρ c main_arg3 (by decide)]
  rfl

theorem later_b : B (V10 m ρ) c = (given m c).secondGrad := by
  refine Eq.trans ?_ (held_b m ρ c)
  show W10 m ρ c (Proc.devRef .tc main_v8_1) = W9 m ρ c (Proc.devRef .tc main_v8_1)
  rw [W10_of m ρ c main_v8_1 (by decide)]

theorem later_c : C (V11 m ρ) c = (given m c).firstGrad := by
  refine Eq.trans ?_ (held_c m ρ c)
  show W11 m ρ c (Proc.devRef .tc main_v8_0) = W9 m ρ c (Proc.devRef .tc main_v8_0)
  rw [W11_of m ρ c main_v8_0 (by decide), W10_of m ρ c main_v8_0 (by decide)]

theorem last_b : B (V12 m ρ) c = (given m c).secondGrad := by
  refine Eq.trans ?_ (held_b m ρ c)
  show W12 m ρ c (Proc.devRef .tc main_v8_1) = W9 m ρ c (Proc.devRef .tc main_v8_1)
  rw [W12_of m ρ c main_v8_1 (by decide), W11_of m ρ c main_v8_1 (by decide), W10_of m ρ c main_v8_1 (by decide)]

/-- The eight results. -/
theorem held_rows : W13 m ρ c (Proc.devRef .tc main_v4) = (given m c).rows := by
  rw [W13_of m ρ c main_v4 (by decide), W12_of m ρ c main_v4 (by decide), W11_of m ρ c main_v4 (by decide),
    W10_of m ρ c main_v4 (by decide), W9_of m ρ c main_v4 (by decide), W8_of m ρ c main_v4 (by decide),
    W7_of m ρ c main_v4 (by decide), W6_of m ρ c main_v4 (by decide)]
  refine ((W5_arr m ρ c 4).trans (array_o (V4 m ρ) c)).trans ?_
  rw [held_y,
    show X (V4 m ρ) c = X (launch m) c from W4_args m ρ c main_arg0 (by decide),
    show P (V4 m ρ) c = P (launch m) c from W4_args m ρ c main_arg7 (by decide),
    show A (V4 m ρ) c = A (launch m) c from W4_args m ρ c main_arg8 (by decide)]
  rfl

theorem held_sums : W13 m ρ c (Proc.devRef .tc main_v5_1) = (given m c).vec := by
  rw [W13_of m ρ c main_v5_1 (by decide), W12_of m ρ c main_v5_1 (by decide), W11_of m ρ c main_v5_1 (by decide),
    W10_of m ρ c main_v5_1 (by decide), W9_of m ρ c main_v5_1 (by decide), W8_of m ρ c main_v5_1 (by decide),
    W7_of m ρ c main_v5_1 (by decide)]
  refine ((W6_arr m ρ c 5).trans (array_sums (V5 m ρ) c)).trans ?_
  rw [later_y,
    show D (V5 m ρ) c = D (launch m) c from W5_args m ρ c main_arg9 (by decide),
    show P (V5 m ρ) c = P (launch m) c from W5_args m ρ c main_arg7 (by decide),
    show A (V5 m ρ) c = A (launch m) c from W5_args m ρ c main_arg8 (by decide)]
  rfl

theorem held_over : W13 m ρ c (Proc.devRef .tc main_v6) = (given m c).outWeight := by
  rw [W13_of m ρ c main_v6 (by decide), W12_of m ρ c main_v6 (by decide), W11_of m ρ c main_v6 (by decide),
    W10_of m ρ c main_v6 (by decide), W9_of m ρ c main_v6 (by decide), W8_of m ρ c main_v6 (by decide)]
  refine ((W7_arr m ρ c 2).trans (array_over (V6 m ρ) c)).trans ?_
  rw [later_z, held_q]
  rfl

theorem held_logits : W13 m ρ c (Proc.devRef .tc main_v8_2) = (given m c).logitsGrad := by
  rw [W13_of m ρ c main_v8_2 (by decide), W12_of m ρ c main_v8_2 (by decide), W11_of m ρ c main_v8_2 (by decide),
    W10_of m ρ c main_v8_2 (by decide)]
  refine ((W9_arr m ρ c 6).trans (array_logits (V8 m ρ) c)).trans ?_
  rw [held_h, last_u, last_t,
    show G (V8 m ρ) c = G (launch m) c from W8_args m ρ c main_arg3 (by decide)]
  rfl

theorem held_wgrad_first : W13 m ρ c (Proc.devRef .tc main_v9) = (given m c).firstWeight := by
  rw [W13_of m ρ c main_v9 (by decide), W12_of m ρ c main_v9 (by decide), W11_of m ρ c main_v9 (by decide)]
  refine ((W10_arr m ρ c 2).trans (array_wgrad_first (V9 m ρ) c)).trans ?_
  rw [held_c,
    show I (V9 m ρ) c = I (launch m) c from W9_args m ρ c main_arg1 (by decide)]
  rfl

theorem held_wgrad_second : W13 m ρ c (Proc.devRef .tc main_v10) = (given m c).secondWeight := by
  rw [W13_of m ρ c main_v10 (by decide), W12_of m ρ c main_v10 (by decide)]
  refine ((W11_arr m ρ c 2).trans (array_wgrad_second (V10 m ρ) c)).trans ?_
  rw [later_b,
    show J (V10 m ρ) c = J (launch m) c from W10_args m ρ c main_arg2 (by decide)]
  rfl

theorem held_dgrad_first : W13 m ρ c (Proc.devRef .tc main_v11) = (given m c).firstDown := by
  rw [W13_of m ρ c main_v11 (by decide)]
  refine ((W12_arr m ρ c 2).trans (array_dgrad_first (V11 m ρ) c)).trans ?_
  rw [later_c,
    show M (V11 m ρ) c = M (launch m) c from W11_args m ρ c main_arg4 (by decide)]
  rfl

theorem held_dgrad_second : W13 m ρ c (Proc.devRef .tc main_v12) = (given m c).secondDown := by
  refine ((W13_arr m ρ c 2).trans (array_dgrad_second (V12 m ρ) c)).trans ?_
  rw [last_b,
    show N (V12 m ρ) c = N (launch m) c from W12_args m ρ c main_arg5 (by decide)]
  rfl

section
open Idealize.ShloMosaic.Tactic Idealize.ShloMosaic.Rounds Idealize.SL Idealize.SL.RA Idealize.SL.BI Idealize.SL.BI.BIBase Idealize.SL.BI.Laws Idealize.SL.ProofMode
open scoped Idealize.SL.BI

set_option backward.isDefEq.respectTransparency.types false in
/-- The run ends with every buffer of the program as the last call leaves it. -/
theorem contents : θ_run defs (onTc (τ := τ) (main (F := Ideal))) ⟨m, fun _ => 0, ρ⟩ (fun r => ∀ c : Dev nD,
    ∀ b ∈ Pipeline.ucRefs τ sig, r.2.mem ((c : Thread nD τ).1, b) = W13 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp _)
            ⊢ BI.own (emb₁ (initOf (Pipeline.cells cfgs cellOf_inj) (Pipeline.launchToks cfgs cellOf_inj))) from .rfl)
        iexact Hu
      iapply (show (BI.emp : sProp _) ⊢ bigSep Finset.univ (fun _ : Dev nD => (BI.emp : sProp _)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = W13 m ρ c b)
    (hfin := fun c s' => by
      iintro ⟨⟨Hh, -⟩, HSI⟩
      unfold StableHlo.held
      imodintro
      iapply (pointsTo_read_all (Pipeline.ucRefs τ sig) (fun b => ((c : Thread nD τ).1, b)) (W13 m ρ c) s')
      isplitl [Hh] <;> iassumption)
    (hQ := fun s h _ => h)

end

end Kernel

/-! ## The reference -/

/-- The gradient of a branch, as the reference has it. -/
def turned {R : Nat} (u : Fin 1024 → Fin 2048) (D : (Face R 1024).Idx → EReal) (G : (Face R 2048).Idx → EReal) (r : Fin R)
    (j : Fin 1024) : EReal :=
  Ideal.logistic (G (ix2 r (u j))) * D (ix2 r j)

theorem turned_branch {R : Nat} (u : Fin 1024 → Fin 2048) (D : (Face R 1024).Idx → EReal) (G : (Face R 2048).Idx → EReal) :
    turned u D G = branch u D G := by
  funext r j
  exact mul_comm _ _

theorem pulled_grad : face (pulled a.D a.sent a.P a.A) = a.grad := funext fun _ => pulled_back _ _ _ _ _ _

/-- The gradients of the sum and of the branches with the reference's derivatives. -/
theorem pulled_down : face (across (face (pulled a.D a.sent a.P a.A)) a.W) = a.down := by rw [pulled_grad]; rfl

theorem turned_first : face (turned low (face (across (face (pulled a.D a.sent a.P a.A)) a.W)) a.G) = a.firstGrad := by
  rw [pulled_down, turned_branch]; rfl

theorem turned_second : face (turned high (face (across (face (pulled a.D a.sent a.P a.A)) a.W)) a.G) = a.secondGrad := by
  rw [pulled_down, turned_branch]; rfl

section Host
open Cert.MixedIdeal Cert.MixedIdeal.Value

variable (m : (ℓ : Loc nD τ sig) → Buf (Elt Ideal) ℓ) (c : Dev nD)

abbrev taken : Given :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5),
    m ((c.tc : Thread nD τ).loc main_arg6), m ((c.tc : Thread nD τ).loc main_arg7), m ((c.tc : Thread nD τ).loc main_arg8),
    m ((c.tc : Thread nD τ).loc main_arg9)⟩

theorem host_rows : res_out0 m c = (taken m c).rows := by
  funext i
  obtain ⟨r, j, rfl⟩ : ∃ (r : Fin 4096) (j : Fin 1024), i = ix2 r j := ⟨i 0, i 1, ValueIdx.eq_ix2 i⟩
  pointwise [res_main_v47]
  rfl

theorem host_sums : res_out1 m c = (taken m c).vec := by
  funext i
  refine Eq.trans ?_ (pieces (taken m c).D (taken m c).sent (taken m c).P (taken m c).A _ _)
  pointwise [res_main_v79]
  rfl

theorem host_over : res_out2 m c = (taken m c).outWeight := by
  funext i
  obtain ⟨r, j, rfl⟩ : ∃ (r j : Fin 1024), i = ix2 r j := ⟨i 0, i 1, ValueIdx.eq_ix2 i⟩
  rw [Given.outWeight, ← pulled_grad]
  pointwise [res_main_v91]
  rfl

theorem host_logits : res_out3 m c = (taken m c).logitsGrad := by
  funext i
  obtain ⟨r, j, rfl⟩ : ∃ (r : Fin 4096) (j : Fin 2048), i = ix2 r j := ⟨i 0, i 1, ValueIdx.eq_ix2 i⟩
  rw [Given.logitsGrad, ← pulled_down]
  pointwise [res_main_v92]
  rfl

theorem host_wgrad_first : res_out4 m c = (taken m c).firstWeight := by
  funext i
  obtain ⟨r, j, rfl⟩ : ∃ (r : Fin 512) (j : Fin 1024), i = ix2 r j := ⟨i 0, i 1, ValueIdx.eq_ix2 i⟩
  rw [Given.firstWeight, ← turned_first]
  pointwise [res_main_v93]
  rfl

theorem host_wgrad_second : res_out5 m c = (taken m c).secondWeight := by
  funext i
  obtain ⟨r, j, rfl⟩ : ∃ (r : Fin 512) (j : Fin 1024), i = ix2 r j := ⟨i 0, i 1, ValueIdx.eq_ix2 i⟩
  rw [Given.secondWeight, ← turned_second]
  pointwise [res_main_v94]
  rfl

theorem host_dgrad_first : res_out6 m c = (taken m c).firstDown := by
  funext i
  obtain ⟨r, j, rfl⟩ : ∃ (r : Fin 4096) (j : Fin 512), i = ix2 r j := ⟨i 0, i 1, ValueIdx.eq_ix2 i⟩
  rw [Given.firstDown, ← turned_first]
  pointwise [res_main_v95]
  rfl

theorem host_dgrad_second : res_out7 m c = (taken m c).secondDown := by
  funext i
  obtain ⟨r, j, rfl⟩ : ∃ (r : Fin 4096) (j : Fin 512), i = ix2 r j := ⟨i 0, i 1, ValueIdx.eq_ix2 i⟩
  rw [Given.secondDown, ← turned_second]
  pointwise [res_main_v96]
  rfl

end Host

/-! ## The claim -/

theorem values : Cert.algebraic_MixIdeal_MixedIdeal (hMixIdeal := Cert.MixIdeal.Gen.facts)
    (hMixedIdeal := Cert.MixedIdeal.Gen.facts) := fun m g m' g' _ hagree => by
  refine ⟨fun c => (given m c).rows, fun c => (given m c).vec, fun c => (given m c).outWeight, fun c => (given m c).logitsGrad,
    fun c => (given m c).firstWeight, fun c => (given m c).secondWeight, fun c => (given m c).firstDown,
    fun c => (given m c).secondDown,
    (θ_run Cert.MixIdeal.defs _ _).mono (fun r h c => ?_) (contents m g),
    (θ_run Cert.MixedIdeal.defs _ _).mono (fun r h c => ?_) (Cert.MixedIdeal.Value.run (F := Ideal) m' g')⟩
  · have hb : ∀ (b : Ref Cert.MixIdeal.sig .tc) {x}, Cert.MixIdeal.Gen.W13 m g c (Proc.devRef .tc b) = x →
        ¬(Proc.devRef .tc b : DevRef Cert.MixIdeal.τ Cert.MixIdeal.sig).isScoped →
        r.2.mem ((c.tc : Thread Cert.MixIdeal.nD Cert.MixIdeal.τ).loc b) = x :=
      fun b _ e hs => (h c _ (Cert.MixIdeal.Gen.mem_uc b hs)).trans e
    exact ⟨hb _ (held_rows m g c) (by decide), hb _ (held_sums m g c) (by decide), hb _ (held_over m g c) (by decide),
      hb _ (held_logits m g c) (by decide), hb _ (held_wgrad_first m g c) (by decide), hb _ (held_wgrad_second m g c) (by decide),
      hb _ (held_dgrad_first m g c) (by decide), hb _ (held_dgrad_second m g c) (by decide),
      hb _ (Cert.MixIdeal.Gen.W13_main_arg0 m g c) (by decide), hb _ (Cert.MixIdeal.Gen.W13_main_arg1 m g c) (by decide),
      hb _ (Cert.MixIdeal.Gen.W13_main_arg2 m g c) (by decide), hb _ (Cert.MixIdeal.Gen.W13_main_arg3 m g c) (by decide),
      hb _ (Cert.MixIdeal.Gen.W13_main_arg4 m g c) (by decide), hb _ (Cert.MixIdeal.Gen.W13_main_arg5 m g c) (by decide),
      hb _ (Cert.MixIdeal.Gen.W13_main_arg6 m g c) (by decide), hb _ (Cert.MixIdeal.Gen.W13_main_arg7 m g c) (by decide),
      hb _ (Cert.MixIdeal.Gen.W13_main_arg8 m g c) (by decide), hb _ (Cert.MixIdeal.Gen.W13_main_arg9 m g c) (by decide)⟩
  · obtain ⟨h0, h1, h2, h3, h4, h5, h6, h7, h8, h9⟩ := hagree c
    obtain ⟨hr, hs, ho, hl, hwa, hwb, hda, hdb, hargs⟩ := h c
    have hgiven : taken m' c = given m c := by
      rw [taken, h0, h1, h2, h3, h4, h5, h6, h7, h8, h9]
    beta_reduce
    rw [← hgiven]
    exact ⟨hr.trans (host_rows m' c), hs.trans (host_sums m' c), ho.trans (host_over m' c), hl.trans (host_logits m' c),
      hwa.trans (host_wgrad_first m' c), hwb.trans (host_wgrad_second m' c), hda.trans (host_dgrad_first m' c),
      hdb.trans (host_dgrad_second m' c), hargs⟩

end Cert.Norm.Mix

end
-- ==== Proof.Proj.lean ====
/-
  The first normalisation with the products around it, as one program of seven calls: the rows normalised and mixed, the three
  products that feed the attentions and the merge, and, of the backward pass, the two products with the gradient of these and the
  backward call of the normalisation. Each call's array is a formula of the arrays it is given, whatever they hold; then the run
  of the seven, and the reference.
-/
module

public import proofs.«01_k».proof.Proof.Gate
public import proofs.«01_k».proof.Proof.Gen.ProjIdeal.Frame
public import proofs.«01_k».proof.Proof.Gen.ProjectedIdeal.Run

@[expose] public section

noncomputable section

namespace Cert.Norm.Proj
open Idealize.ShloMosaic Idealize.ShloMosaic.TcCoe Idealize.SL.Sem
open Cert.Adam (Face)
open Cert.Norm.Before (mixed)
open Cert.Norm.Sublayer (face product over across product_under over_under across_under mixed_under)

/-- A block that holds one formula, laid where that formula is another's, holds that other. -/
theorem tiled {R C Q E : Nat} {f : Fin R → Fin C → EReal} {f' : Fin Q → Fin E → EReal} {w : (Face Q E).Idx → EReal}
    {e : (Face Q E).Idx → (Face R C).Idx} (row : Fin Q → Fin R) (col : Fin E → Fin C) (hw : ∀ r j, w (ix2 r j) = f' r j)
    (hf : ∀ r j, f' r j = f (row r) (col j)) (he : ∀ r j, e (ix2 r j) = ix2 (row r) (col j)) (y : (Face Q E).Idx) :
    w y = face f (e y) := by
  obtain ⟨r, j, rfl⟩ : ∃ (r : Fin Q) (j : Fin E), y = ix2 r j := ⟨y 0, y 1, ValueIdx.eq_ix2 y⟩
  rw [hw, hf, he]
  rfl

section Kernel
open Cert.ProjIdeal Cert.ProjIdeal.Gen

/-! ## The payloads -/

theorem pay_mixed (x0 : Vec Ideal S512x1024 .f32) (x1 x2 x3 : Vec Ideal S1x1024 .f32) (r : Fin 512) (j : Fin 1024) :
    k0_pay1 x0 x1 x2 x3 (ix2 (n0 := 512) (n1 := 1024) r j) = mixed (R := 512) x0 x1 x2 x3 r j := by
  pointwise [k0_pay1]; rfl

theorem pay_gate (x0 : Vec Ideal S1024x1024 .bf16) (x1 : Vec Ideal S1024x512 .bf16) (r : Fin 1024) (j : Fin 512) :
    k1_pay1 x0 x1 (ix2 (n0 := 1024) (n1 := 512) r j) = product (R := 1024) (n := 1024) (C := 512) x0 x1 r j := by
  pointwise [k1_pay1]; rfl

theorem pay_heads (x0 : Vec Ideal S1024x1024 .bf16) (x1 : Vec Ideal S1024x768 .bf16) (r : Fin 1024) (j : Fin 768) :
    k2_pay1 x0 x1 (ix2 (n0 := 1024) (n1 := 768) r j) = product (R := 1024) (n := 1024) (C := 768) x0 x1 r j := by
  pointwise [k2_pay1]; rfl

theorem pay_forget (x0 : Vec Ideal S1024x1024 .bf16) (x1 : Vec Ideal S1024x128 .bf16) (r : Fin 1024) (j : Fin 128) :
    k3_pay1 x0 x1 (ix2 (n0 := 1024) (n1 := 128) r j) = product (R := 1024) (n := 1024) (C := 128) x0 x1 r j := by
  pointwise [k3_pay1]; rfl

theorem pay_over (x0 : Vec Ideal S4096x256 .bf16) (x1 : Vec Ideal S4096x640 .bf16) (r : Fin 256) (j : Fin 640) :
    k4_pay1 x0 x1 (ix2 (n0 := 256) (n1 := 640) r j) = over (R := 256) (n := 4096) (C := 640) x0 x1 r j := by
  pointwise [k4_pay1]; rfl

theorem pay_across (x0 x1 : Vec Ideal S512x4480 .bf16) (r j : Fin 512) :
    k5_pay1 x0 x1 (ix2 (n0 := 512) (n1 := 512) r j) = across (R := 512) (n := 4480) (C := 512) x0 x1 r j := by
  pointwise [k5_pay1]; rfl

theorem pay_rows (x0 x1 x4 : Vec Ideal S512x1024 .f32) (x2 x3 : Vec Ideal S1x1024 .f32) (r : Fin 512) (j : Fin 1024) :
    k6_pay3 x1 (k6_pay6 x1) (k6_pay8 x0 x3) x4 x2 (ix2 (n0 := 512) (n1 := 1024) r j) = rows (R := 512) x0 x1 x2 x3 x4 r j :=
  Cert.Norm.Gate.pay_rows x0 x1 x4 x2 x3 r j

theorem pay_shift (x0 x1 : Vec Ideal S512x1024 .f32) (b x2 x3 : Vec Ideal S1x1024 .f32) (j : Fin 1024) {k : Nat} (hk : k = 0)
    {a : EReal} (ha : b (ix2 (n0 := 1) (n1 := 1024) 0 j) = a) :
    k6_pay9 x0 b (ix2 (n0 := 1) (n1 := 1024) 0 j) = a + sums (R := 512) x0 x1 x2 x3 k j :=
  Cert.Norm.Gate.pay_shift x0 x1 b x2 x3 j hk ha

theorem pay_scale (x0 x1 : Vec Ideal S512x1024 .f32) (b x2 x3 : Vec Ideal S1x1024 .f32) (j : Fin 1024) {k : Nat} (hk : k = 1)
    {a : EReal} (ha : b (ix2 (n0 := 1) (n1 := 1024) 0 j) = a) :
    k6_pay1 (k6_pay10 b) (k6_pay11 x0 x1 x2) (ix2 (n0 := 1) (n1 := 1024) 0 j) = a + sums (R := 512) x0 x1 x2 x3 k j :=
  Cert.Norm.Gate.pay_scale x0 x1 b x2 x3 j hk ha

theorem pay_weight (x0 x1 : Vec Ideal S512x1024 .f32) (b x2 x3 : Vec Ideal S1x1024 .f32) (j : Fin 1024) {k : Nat} (hk : k = 2)
    {a : EReal} (ha : b (ix2 (n0 := 1) (n1 := 1024) 0 j) = a) :
    k6_pay2 (k6_pay7 x1) (k6_pay8 x0 x3) b (ix2 (n0 := 1) (n1 := 1024) 0 j) = a + sums (R := 512) x0 x1 x2 x3 k j :=
  Cert.Norm.Gate.pay_weight x0 x1 b x2 x3 j hk ha

theorem pay_zero (y : S8x1024.Idx) : k6_pay4 (F := Ideal) y = (0 : EReal) :=
  Cert.Norm.Gate.pay_zero y

/-! ## The blocks -/

theorem at_rows : ∀ t : Fin cfg0.N, win0_0.index t = ![t.val, 0] := (by decide +kernel : ∀ t : Fin grid0.N, _)
theorem at_one : ∀ t : Fin cfg0.N, win0_1.index t = ![0, 0] := (by decide +kernel : ∀ t : Fin grid0.N, _)
theorem at_gate : ∀ t : Fin cfg1.N, win1_0.index t = ![t.val / 4, 0] := (by decide +kernel : ∀ t : Fin grid1.N, _)
theorem at_gate_weight : ∀ t : Fin cfg1.N, win1_1.index t = ![0, t.val % 4] := (by decide +kernel : ∀ t : Fin grid1.N, _)
theorem at_gate_out : ∀ t : Fin cfg1.N, win1_2.index t = ![t.val / 4, t.val % 4] := (by decide +kernel : ∀ t : Fin grid1.N, _)
theorem at_heads : ∀ t : Fin cfg2.N, win2_0.index t = ![t.val / 3, 0] := (by decide +kernel : ∀ t : Fin grid2.N, _)
theorem at_heads_weight : ∀ t : Fin cfg2.N, win2_1.index t = ![0, t.val % 3] := (by decide +kernel : ∀ t : Fin grid2.N, _)
theorem at_heads_out : ∀ t : Fin cfg2.N, win2_2.index t = ![t.val / 3, t.val % 3] := (by decide +kernel : ∀ t : Fin grid2.N, _)
theorem at_forget : ∀ t : Fin cfg3.N, win3_0.index t = ![t.val, 0] := (by decide +kernel : ∀ t : Fin grid3.N, _)
theorem at_forget_weight : ∀ t : Fin cfg3.N, win3_1.index t = ![0, 0] := (by decide +kernel : ∀ t : Fin grid3.N, _)
theorem at_forget_out : ∀ t : Fin cfg3.N, win3_2.index t = ![t.val, 0] := (by decide +kernel : ∀ t : Fin grid3.N, _)
theorem at_over : ∀ t : Fin cfg4.N, win4_0.index t = ![0, t.val / 7] := (by decide +kernel : ∀ t : Fin grid4.N, _)
theorem at_over_back : ∀ t : Fin cfg4.N, win4_1.index t = ![0, t.val % 7] := (by decide +kernel : ∀ t : Fin grid4.N, _)
theorem at_over_out : ∀ t : Fin cfg4.N, win4_2.index t = ![t.val / 7, t.val % 7] := (by decide +kernel : ∀ t : Fin grid4.N, _)
theorem at_across : ∀ t : Fin cfg5.N, win5_0.index t = ![t.val / 2, 0] := (by decide +kernel : ∀ t : Fin grid5.N, _)
theorem at_across_weight : ∀ t : Fin cfg5.N, win5_1.index t = ![t.val % 2, 0] := (by decide +kernel : ∀ t : Fin grid5.N, _)
theorem at_across_out : ∀ t : Fin cfg5.N, win5_2.index t = ![t.val / 2, t.val % 2] := (by decide +kernel : ∀ t : Fin grid5.N, _)
theorem at_last : ∀ t : Fin cfg6.N, win6_0.index t = ![t.val, 0] := (by decide +kernel : ∀ t : Fin grid6.N, _)
theorem at_vec : ∀ t : Fin cfg6.N, win6_2.index t = ![0, 0] := (by decide +kernel : ∀ t : Fin grid6.N, _)
theorem at_last_out : ∀ t : Fin cfg6.N, win6_5.index t = ![t.val, 0] := (by decide +kernel : ∀ t : Fin grid6.N, _)
theorem at_sums : ∀ t : Fin cfg6.N, win6_6.index t = ![0, 0] := (by decide +kernel : ∀ t : Fin grid6.N, _)

/-- The row and the column of the arrays under row `r` and column `j` of point `t`'s block, in the products. -/
def gateRow (t : Fin cfg1.N) (r : Fin 1024) : Fin 4096 :=
  ⟨t.val / 4 * 1024 + r.val, by have := lt_of_lt_of_eq t.isLt N_1; have := r.isLt; omega⟩
def gateCol (t : Fin cfg1.N) (j : Fin 512) : Fin 2048 :=
  ⟨t.val % 4 * 512 + j.val, by have := j.isLt; omega⟩
def headsRow (t : Fin cfg2.N) (r : Fin 1024) : Fin 4096 :=
  ⟨t.val / 3 * 1024 + r.val, by have := lt_of_lt_of_eq t.isLt N_2; have := r.isLt; omega⟩
def headsCol (t : Fin cfg2.N) (j : Fin 768) : Fin 2304 :=
  ⟨t.val % 3 * 768 + j.val, by have := j.isLt; omega⟩
def forgetRow (t : Fin cfg3.N) (r : Fin 1024) : Fin 4096 :=
  ⟨t.val * 1024 + r.val, by have := lt_of_lt_of_eq t.isLt N_3; have := r.isLt; omega⟩
def overRow (t : Fin cfg4.N) (r : Fin 256) : Fin 1024 :=
  ⟨t.val / 7 * 256 + r.val, by have := lt_of_lt_of_eq t.isLt N_4; have := r.isLt; omega⟩
def overCol (t : Fin cfg4.N) (j : Fin 640) : Fin 4480 :=
  ⟨t.val % 7 * 640 + j.val, by have := j.isLt; omega⟩
def acrossRow (t : Fin cfg5.N) (r : Fin 512) : Fin 4096 :=
  ⟨t.val / 2 * 512 + r.val, by have := lt_of_lt_of_eq t.isLt N_5; have := r.isLt; omega⟩
def acrossCol (t : Fin cfg5.N) (j : Fin 512) : Fin 1024 :=
  ⟨t.val % 2 * 512 + j.val, by have := j.isLt; omega⟩

theorem emb_rows (t : Fin cfg0.N) (r : Fin 512) (j : Fin 1024) :
    (win0_0.blk t).view.emb (ix2 (n0 := 512) (n1 := 1024) r j) = ix2 (n0 := 4096) (n1 := 1024) (under N_0 t r) j := by
  blk_ext [at_rows, under_val]
theorem emb_one (t : Fin cfg0.N) (y : S1x1024.Idx) : (win0_1.blk t).view.emb y = y := by
  blk_ext [at_one]
theorem emb_gate (t : Fin cfg1.N) (r : Fin 1024) (k : Fin 1024) :
    (win1_0.blk t).view.emb (ix2 (n0 := 1024) (n1 := 1024) r k) = ix2 (n0 := 4096) (n1 := 1024) (gateRow t r) k := by
  blk_ext [at_gate, gateRow]
theorem emb_gate_weight (t : Fin cfg1.N) (k : Fin 1024) (j : Fin 512) :
    (win1_1.blk t).view.emb (ix2 (n0 := 1024) (n1 := 512) k j) = ix2 (n0 := 1024) (n1 := 2048) k (gateCol t j) := by
  blk_ext [at_gate_weight, gateCol]
theorem emb_gate_out (t : Fin cfg1.N) (r : Fin 1024) (j : Fin 512) :
    (win1_2.blk t).view.emb (ix2 (n0 := 1024) (n1 := 512) r j) = ix2 (n0 := 4096) (n1 := 2048) (gateRow t r) (gateCol t j) := by
  blk_ext [at_gate_out, gateRow, gateCol]
theorem emb_heads (t : Fin cfg2.N) (r : Fin 1024) (k : Fin 1024) :
    (win2_0.blk t).view.emb (ix2 (n0 := 1024) (n1 := 1024) r k) = ix2 (n0 := 4096) (n1 := 1024) (headsRow t r) k := by
  blk_ext [at_heads, headsRow]
theorem emb_heads_weight (t : Fin cfg2.N) (k : Fin 1024) (j : Fin 768) :
    (win2_1.blk t).view.emb (ix2 (n0 := 1024) (n1 := 768) k j) = ix2 (n0 := 1024) (n1 := 2304) k (headsCol t j) := by
  blk_ext [at_heads_weight, headsCol]
theorem emb_heads_out (t : Fin cfg2.N) (r : Fin 1024) (j : Fin 768) :
    (win2_2.blk t).view.emb (ix2 (n0 := 1024) (n1 := 768) r j) = ix2 (n0 := 4096) (n1 := 2304) (headsRow t r) (headsCol t j) := by
  blk_ext [at_heads_out, headsRow, headsCol]
theorem emb_forget (t : Fin cfg3.N) (r : Fin 1024) (k : Fin 1024) :
    (win3_0.blk t).view.emb (ix2 (n0 := 1024) (n1 := 1024) r k) = ix2 (n0 := 4096) (n1 := 1024) (forgetRow t r) k := by
  blk_ext [at_forget, forgetRow]
theorem emb_forget_weight (t : Fin cfg3.N) (k : Fin 1024) (j : Fin 128) :
    (win3_1.blk t).view.emb (ix2 (n0 := 1024) (n1 := 128) k j) = ix2 (n0 := 1024) (n1 := 128) k j := by
  blk_ext [at_forget_weight]
theorem emb_forget_out (t : Fin cfg3.N) (r : Fin 1024) (j : Fin 128) :
    (win3_2.blk t).view.emb (ix2 (n0 := 1024) (n1 := 128) r j) = ix2 (n0 := 4096) (n1 := 128) (forgetRow t r) j := by
  blk_ext [at_forget_out, forgetRow]
theorem emb_over (t : Fin cfg4.N) (k : Fin 4096) (r : Fin 256) :
    (win4_0.blk t).view.emb (ix2 (n0 := 4096) (n1 := 256) k r) = ix2 (n0 := 4096) (n1 := 1024) k (overRow t r) := by
  blk_ext [at_over, overRow]
theorem emb_over_back (t : Fin cfg4.N) (k : Fin 4096) (j : Fin 640) :
    (win4_1.blk t).view.emb (ix2 (n0 := 4096) (n1 := 640) k j) = ix2 (n0 := 4096) (n1 := 4480) k (overCol t j) := by
  blk_ext [at_over_back, overCol]
theorem emb_over_out (t : Fin cfg4.N) (r : Fin 256) (j : Fin 640) :
    (win4_2.blk t).view.emb (ix2 (n0 := 256) (n1 := 640) r j) = ix2 (n0 := 1024) (n1 := 4480) (overRow t r) (overCol t j) := by
  blk_ext [at_over_out, overRow, overCol]
theorem emb_across (t : Fin cfg5.N) (r : Fin 512) (k : Fin 4480) :
    (win5_0.blk t).view.emb (ix2 (n0 := 512) (n1 := 4480) r k) = ix2 (n0 := 4096) (n1 := 4480) (acrossRow t r) k := by
  blk_ext [at_across, acrossRow]
theorem emb_across_weight (t : Fin cfg5.N) (j : Fin 512) (k : Fin 4480) :
    (win5_1.blk t).view.emb (ix2 (n0 := 512) (n1 := 4480) j k) = ix2 (n0 := 1024) (n1 := 4480) (acrossCol t j) k := by
  blk_ext [at_across_weight, acrossCol]
theorem emb_across_out (t : Fin cfg5.N) (r : Fin 512) (j : Fin 512) :
    (win5_2.blk t).view.emb (ix2 (n0 := 512) (n1 := 512) r j) = ix2 (n0 := 4096) (n1 := 1024) (acrossRow t r) (acrossCol t j) := by
  blk_ext [at_across_out, acrossRow, acrossCol]
theorem emb_last (t : Fin cfg6.N) (r : Fin 512) (j : Fin 1024) :
    (win6_0.blk t).view.emb (ix2 (n0 := 512) (n1 := 1024) r j) = ix2 (n0 := 4096) (n1 := 1024) (under N_6 t r) j := by
  blk_ext [at_last, under_val]
theorem emb_vec (t : Fin cfg6.N) (y : S1x1024.Idx) : (win6_2.blk t).view.emb y = y := by
  blk_ext [at_vec]
theorem emb_last_out (t : Fin cfg6.N) (r : Fin 512) (j : Fin 1024) :
    (win6_5.blk t).view.emb (ix2 (n0 := 512) (n1 := 1024) r j) = ix2 (n0 := 4096) (n1 := 1024) (under N_6 t r) j := by
  blk_ext [at_last_out, under_val]
theorem emb_sums (t : Fin cfg6.N) (y : S8x1024.Idx) : (win6_6.blk t).view.emb y = y := by
  blk_ext [at_sums]

/-! ## The arrays after each call, whatever the call is given -/

variable (V : (c : Dev nD) → (b : Ref sig .tc) → Buf (Elt Ideal) ((c : Thread nD τ).loc b)) (c : Dev nD)

/-- The rows, the normalisation's weight, scale and shift; the three weights of the products; the gradient of the products, the weights
    side by side, the gradient of the residual; the rows normalised and their gradient. -/
abbrev X : (Face 4096 1024).Idx → EReal := V c main_arg0
abbrev G : (Face 1 1024).Idx → EReal := V c main_arg1
abbrev S : (Face 1 1024).Idx → EReal := V c main_arg2
abbrev B : (Face 1 1024).Idx → EReal := V c main_arg3
abbrev M : (Face 1024 2048).Idx → EReal := V c main_arg4
abbrev N : (Face 1024 2304).Idx → EReal := V c main_arg5
abbrev O : (Face 1024 128).Idx → EReal := V c main_arg6
abbrev P : (Face 4096 4480).Idx → EReal := V c main_arg7
abbrev W : (Face 1024 4480).Idx → EReal := V c main_arg8
abbrev D : (Face 4096 1024).Idx → EReal := V c main_arg9
abbrev H : (Face 4096 1024).Idx → EReal := V c main_v0
abbrev T : (Face 4096 1024).Idx → EReal := V c main_v5

theorem array_h : (dat0 V c).arrAt 4 cfg0.N = face (mixed (X V c) (G V c) (S V c) (B V c)) := by
  refine (dat0 V c).arrAt_eq_of_covers 4 _ (by decide +kernel) fun t _ y => ?_
  blk_simp
  rw [after0_4, out0_4, View.canon_unit_zero Cert.Adam.whole_off, View.ld_unit_zero Cert.Adam.whole_off,
    View.ld_unit_zero Cert.Adam.whole_off, View.ld_unit_zero Cert.Adam.whole_off, View.ld_unit_zero Cert.Adam.whole_off]
  obtain ⟨r, j, rfl⟩ : ∃ (r : Fin 512) (j : Fin 1024), y = ix2 r j := ⟨y 0, y 1, ValueIdx.eq_ix2 y⟩
  refine Eq.trans ?_ (congrArg (face (mixed (X V c) (G V c) (S V c) (B V c))) (emb_rows t r j)).symm
  refine (pay_mixed _ _ _ _ r j).trans ?_
  have hx : ∀ r j, iblk0 V c 0 t (ix2 (n0 := 512) (n1 := 1024) r j) = X V c (ix2 (under N_0 t r) j) :=
    fun r j => congrArg (X V c) (emb_rows t r j)
  rw [show iblk0 V c 1 t = G V c from funext fun y => congrArg (G V c) (emb_one t y),
    show iblk0 V c 2 t = S V c from funext fun y => congrArg (S V c) (emb_one t y),
    show iblk0 V c 3 t = B V c from funext fun y => congrArg (B V c) (emb_one t y)]
  exact mixed_under _ _ _ (under N_0 t) hx r j

theorem array_gate : (dat1 V c).arrAt 2 cfg1.N = face (product (H V c) (M V c)) := by
  refine (dat1 V c).arrAt_eq_of_covers 2 _ (by decide +kernel) fun t _ y => ?_
  blk_simp
  rw [after1_2, out1_2, View.canon_unit_zero Cert.Adam.whole_off, View.ld_unit_zero Cert.Adam.whole_off,
    View.ld_unit_zero Cert.Adam.whole_off]
  exact tiled (gateRow t) (gateCol t) (pay_gate (iblk1 V c 0 t) (iblk1 V c 1 t))
    (product_under (gateRow t) (gateCol t) (fun r k => congrArg (H V c) (emb_gate t r k))
      (fun k j => congrArg (M V c) (emb_gate_weight t k j))) (emb_gate_out t) y

theorem array_heads : (dat2 V c).arrAt 2 cfg2.N = face (product (H V c) (N V c)) := by
  refine (dat2 V c).arrAt_eq_of_covers 2 _ (by decide +kernel) fun t _ y => ?_
  blk_simp
  rw [after2_2, out2_2, View.canon_unit_zero Cert.Adam.whole_off, View.ld_unit_zero Cert.Adam.whole_off,
    View.ld_unit_zero Cert.Adam.whole_off]
  exact tiled (headsRow t) (headsCol t) (pay_heads (iblk2 V c 0 t) (iblk2 V c 1 t))
    (product_under (headsRow t) (headsCol t) (fun r k => congrArg (H V c) (emb_heads t r k))
      (fun k j => congrArg (N V c) (emb_heads_weight t k j))) (emb_heads_out t) y

theorem array_forget : (dat3 V c).arrAt 2 cfg3.N = face (product (H V c) (O V c)) := by
  refine (dat3 V c).arrAt_eq_of_covers 2 _ (by decide +kernel) fun t _ y => ?_
  blk_simp
  rw [after3_2, out3_2, View.canon_unit_zero Cert.Adam.whole_off, View.ld_unit_zero Cert.Adam.whole_off,
    View.ld_unit_zero Cert.Adam.whole_off]
  exact tiled (forgetRow t) (fun j => j) (pay_forget (iblk3 V c 0 t) (iblk3 V c 1 t))
    (product_under (forgetRow t) (fun j => j) (fun r k => congrArg (H V c) (emb_forget t r k))
      (fun k j => congrArg (O V c) (emb_forget_weight t k j))) (emb_forget_out t) y

theorem array_over : (dat4 V c).arrAt 2 cfg4.N = face (over (H V c) (P V c)) := by
  refine (dat4 V c).arrAt_eq_of_covers 2 _ (by decide +kernel) fun t _ y => ?_
  blk_simp
  rw [after4_2, out4_2, View.canon_unit_zero Cert.Adam.whole_off, View.ld_unit_zero Cert.Adam.whole_off,
    View.ld_unit_zero Cert.Adam.whole_off]
  exact tiled (overRow t) (overCol t) (pay_over (iblk4 V c 0 t) (iblk4 V c 1 t))
    (over_under (overRow t) (overCol t) (fun k r => congrArg (H V c) (emb_over t k r))
      (fun k j => congrArg (P V c) (emb_over_back t k j))) (emb_over_out t) y

theorem array_across : (dat5 V c).arrAt 2 cfg5.N = face (across (P V c) (W V c)) := by
  refine (dat5 V c).arrAt_eq_of_covers 2 _ (by decide +kernel) fun t _ y => ?_
  blk_simp
  rw [after5_2, out5_2, View.canon_unit_zero Cert.Adam.whole_off, View.ld_unit_zero Cert.Adam.whole_off,
    View.ld_unit_zero Cert.Adam.whole_off]
  exact tiled (acrossRow t) (acrossCol t) (pay_across (iblk5 V c 0 t) (iblk5 V c 1 t))
    (across_under (acrossRow t) (acrossCol t) (fun r k => congrArg (P V c) (emb_across t r k))
      (fun j k => congrArg (W V c) (emb_across_weight t j k))) (emb_across_out t) y

theorem block_h (t : Fin cfg6.N) (r : Fin 512) (j : Fin 1024) :
    iblk6 V c 0 t (ix2 (n0 := 512) (n1 := 1024) r j) = T V c (ix2 (under N_6 t r) j) := congrArg (T V c) (emb_last t r j)
theorem block_x (t : Fin cfg6.N) (r : Fin 512) (j : Fin 1024) :
    iblk6 V c 1 t (ix2 (n0 := 512) (n1 := 1024) r j) = X V c (ix2 (under N_6 t r) j) := congrArg (X V c) (emb_last t r j)
theorem block_g (t : Fin cfg6.N) : iblk6 V c 2 t = G V c := funext fun y => congrArg (G V c) (emb_vec t y)
theorem block_s (t : Fin cfg6.N) : iblk6 V c 3 t = S V c := funext fun y => congrArg (S V c) (emb_vec t y)
theorem block_d (t : Fin cfg6.N) (r : Fin 512) (j : Fin 1024) :
    iblk6 V c 4 t (ix2 (n0 := 512) (n1 := 1024) r j) = D V c (ix2 (under N_6 t r) j) := congrArg (D V c) (emb_last t r j)

theorem point_rows (t : Fin cfg6.N) (r : Fin 512) (j : Fin 1024) :
    (outsAt6 V c t.val t.isLt).1 (ix2 (n0 := 512) (n1 := 1024) r j)
      = rows (T V c) (X V c) (G V c) (S V c) (D V c) (under N_6 t r) j := by
  have h : (outsAt6 V c t.val t.isLt).1 (ix2 (n0 := 512) (n1 := 1024) r j)
      = rows (R := 512) (iblk6 V c 0 t) (iblk6 V c 1 t) (iblk6 V c 2 t) (iblk6 V c 3 t) (iblk6 V c 4 t) r j := by
    by_cases h0 : t.val % 8 = 0
    · rw [outsAt6_A V c t h0]; frame_out; exact pay_rows _ _ _ _ _ r j
    · rw [outsAt6_B V c t h0]; frame_out; exact pay_rows _ _ _ _ _ r j
  rw [h, block_g, block_s]
  exact rows_under _ _ (under N_6 t) (block_h V c t) (block_x V c t) (block_d V c t) r j

/-- What a point of the normalisation's backward call adds to the sums. -/
abbrev part (t : Fin cfg6.N) : (Face 8 1024).Idx → EReal := fun y =>
  sums (R := 512) (iblk6 V c 0 t) (iblk6 V c 1 t) (iblk6 V c 2 t) (iblk6 V c 3 t) (y 0).val (y 1)

theorem first_sums (t : Fin cfg6.N) (h0 : t.val % 8 = 0) (y : S8x1024.Idx) :
    (outsAt6 V c t.val t.isLt).2 y = (0 : EReal) + part V c t y := by
  rw [outsAt6_A V c t h0]; frame_out
  exact first_point (ms6_6 t).view
    (fun b => pay_shift (iblk6 V c 0 t) (iblk6 V c 1 t) b (iblk6 V c 2 t) (iblk6 V c 3 t))
    (fun b => pay_scale (iblk6 V c 0 t) (iblk6 V c 1 t) b (iblk6 V c 2 t) (iblk6 V c 3 t))
    (fun b => pay_weight (iblk6 V c 0 t) (iblk6 V c 1 t) b (iblk6 V c 2 t) (iblk6 V c 3 t)) y pay_zero _ _ _ _

theorem next_sums (t : Fin cfg6.N) (h0 : ¬t.val % 8 = 0) (y : S8x1024.Idx) :
    (outsAt6 V c t.val t.isLt).2 y
      = (outsAt6 V c (t.val - 1) (Nat.lt_of_le_of_lt (Nat.sub_le _ _) t.isLt)).2 y + part V c t y := by
  rw [outsAt6_B V c t h0]; frame_out
  generalize (outsAt6 V c (t.val - 1) _).2 = old
  exact next_point (ms6_6 t).view
    (fun b => pay_shift (iblk6 V c 0 t) (iblk6 V c 1 t) b (iblk6 V c 2 t) (iblk6 V c 3 t))
    (fun b => pay_scale (iblk6 V c 0 t) (iblk6 V c 1 t) b (iblk6 V c 2 t) (iblk6 V c 3 t))
    (fun b => pay_weight (iblk6 V c 0 t) (iblk6 V c 1 t) b (iblk6 V c 2 t) (iblk6 V c 3 t)) y ((hs6_6 t).read_unread old) _ _ _

theorem array_rows : (dat6 V c).arrAt 5 cfg6.N = face (rows (T V c) (X V c) (G V c) (S V c) (D V c)) := by
  refine (dat6 V c).arrAt_eq_of_covers 5 _ (by decide +kernel) fun t _ y => ?_
  blk_simp
  rw [after6_5]
  obtain ⟨r, j, rfl⟩ : ∃ (r : Fin 512) (j : Fin 1024), y = ix2 r j := ⟨y 0, y 1, ValueIdx.eq_ix2 y⟩
  exact (point_rows V c t r j).trans (congrArg (face (rows (T V c) (X V c) (G V c) (S V c) (D V c))) (emb_last_out t r j)).symm

theorem array_sums : (dat6 V c).arrAt 6 cfg6.N
    = fun i : S8x1024.Idx => sums (T V c) (X V c) (G V c) (S V c) (i 0).val (i 1) := by
  refine (dat6 V c).arrAt_eq_of_covers 6 _ (by decide +kernel) fun t hf y => ?_
  blk_simp
  have hl : t.val + 1 = cfg6.N := by
    have h7 := (flush6_6 t).mp hf
    have := lt_of_lt_of_eq t.isLt (show cfg6.N = 8 from N_6)
    rw [show cfg6.N = 8 from N_6]; omega
  rw [after6_6, Pipeline.eq_sum_fin_of_reset_step_apply_last (fun n h => (outsAt6 V c n h).2) 8 (fun _ => (0 : EReal)) (part V c)
    (first_sums V c) (next_sums V c) (le_of_eq N_6) t hl y, zero_add, at_sums, emb_sums]
  rw [show (![0, 0] : Fin 2 → Nat) 0 * 8 + (y 0).val = (y 0).val from by simp]
  refine Eq.trans ?_ (Fin.sum_univ_tiles 8 512 rfl fun r : Fin 4096 =>
    term (T V c) (X V c) (G V c) (S V c) (y 0).val (y 1) r).symm
  refine Finset.sum_congr (M := EReal) rfl fun p _ => Finset.sum_congr (M := EReal) rfl fun r _ => ?_
  rw [block_g, block_s]
  exact term_under _ _ (under N_6 p) (block_h V c p) (block_x V c p) _ _ r

end Kernel

/-! ## The results as functions of the arguments -/

/-- The arguments; the rows normalised and their gradient, and the sums. -/
structure Given where
  X : (Face 4096 1024).Idx → EReal
  G : (Face 1 1024).Idx → EReal
  S : (Face 1 1024).Idx → EReal
  B : (Face 1 1024).Idx → EReal
  M : (Face 1024 2048).Idx → EReal
  N : (Face 1024 2304).Idx → EReal
  O : (Face 1024 128).Idx → EReal
  P : (Face 4096 4480).Idx → EReal
  W : (Face 1024 4480).Idx → EReal
  D : (Face 4096 1024).Idx → EReal

variable (a : Given)

def Given.norm : (Face 4096 1024).Idx → EReal := face (mixed a.X a.G a.S a.B)
def Given.grad : (Face 4096 1024).Idx → EReal := face (across a.P a.W)
def Given.vec : (Face 8 1024).Idx → EReal := fun i => sums a.grad a.X a.G a.S (i 0).val (i 1)

section Run
open Cert.ProjIdeal Cert.ProjIdeal.Gen

variable (m : (ℓ : Loc nD τ sig) → Buf (Elt Ideal) ℓ) (ρ : Dev nD → PrngReg) (c : Dev nD)

/-- The arguments as launched. -/
abbrev launch : (c : Dev nD) → (b : Ref sig .tc) → Buf (Elt Ideal) ((c : Thread nD τ).loc b) := fun c b => m ((c : Thread nD τ).loc b)

abbrev given : Given :=
  ⟨X (launch m) c, G (launch m) c, S (launch m) c, B (launch m) c, M (launch m) c, N (launch m) c, O (launch m) c, P (launch m) c,
    W (launch m) c, D (launch m) c⟩

theorem held_1 : H (V1 m ρ) c = (given m c).norm := (W1_arr m ρ c 4).trans (array_h (V0 m ρ) c)
theorem held_2 : H (V2 m ρ) c = (given m c).norm := (W2_of m ρ c main_v0 (by decide)).trans (held_1 m ρ c)
theorem held_3 : H (V3 m ρ) c = (given m c).norm := (W3_of m ρ c main_v0 (by decide)).trans (held_2 m ρ c)
theorem held_4 : H (V4 m ρ) c = (given m c).norm := (W4_of m ρ c main_v0 (by decide)).trans (held_3 m ρ c)

theorem held_t : T (V6 m ρ) c = (given m c).grad := by
  refine ((W6_arr m ρ c 2).trans (array_across (V5 m ρ) c)).trans ?_
  rw [show P (V5 m ρ) c = P (launch m) c from W5_args m ρ c main_arg7 (by decide),
    show W (V5 m ρ) c = W (launch m) c from W5_args m ρ c main_arg8 (by decide)]
  rfl

theorem held_x : X (V6 m ρ) c = X (launch m) c := W6_args m ρ c main_arg0 (by decide)
theorem held_g : G (V6 m ρ) c = G (launch m) c := W6_args m ρ c main_arg1 (by decide)
theorem held_s : S (V6 m ρ) c = S (launch m) c := W6_args m ρ c main_arg2 (by decide)
theorem held_d : D (V6 m ρ) c = D (launch m) c := W6_args m ρ c main_arg9 (by decide)

/-- The six results. -/
theorem held_gate : W7 m ρ c (Proc.devRef .tc main_v1) = face (product (given m c).norm (given m c).M) := by
  rw [W7_of m ρ c main_v1 (by decide), W6_of m ρ c main_v1 (by decide), W5_of m ρ c main_v1 (by decide),
    W4_of m ρ c main_v1 (by decide), W3_of m ρ c main_v1 (by decide)]
  refine ((W2_arr m ρ c 2).trans (array_gate (V1 m ρ) c)).trans ?_
  rw [held_1, show M (V1 m ρ) c = M (launch m) c from W1_args m ρ c main_arg4 (by decide)]

theorem held_heads : W7 m ρ c (Proc.devRef .tc main_v2) = face (product (given m c).norm (given m c).N) := by
  rw [W7_of m ρ c main_v2 (by decide), W6_of m ρ c main_v2 (by decide), W5_of m ρ c main_v2 (by decide),
    W4_of m ρ c main_v2 (by decide)]
  refine ((W3_arr m ρ c 2).trans (array_heads (V2 m ρ) c)).trans ?_
  rw [held_2, show N (V2 m ρ) c = N (launch m) c from W2_args m ρ c main_arg5 (by decide)]

theorem held_forget : W7 m ρ c (Proc.devRef .tc main_v3) = face (product (given m c).norm (given m c).O) := by
  rw [W7_of m ρ c main_v3 (by decide), W6_of m ρ c main_v3 (by decide), W5_of m ρ c main_v3 (by decide)]
  refine ((W4_arr m ρ c 2).trans (array_forget (V3 m ρ) c)).trans ?_
  rw [held_3, show O (V3 m ρ) c = O (launch m) c from W3_args m ρ c main_arg6 (by decide)]

theorem held_over : W7 m ρ c (Proc.devRef .tc main_v4) = face (over (given m c).norm (given m c).P) := by
  rw [W7_of m ρ c main_v4 (by decide), W6_of m ρ c main_v4 (by decide)]
  refine ((W5_arr m ρ c 2).trans (array_over (V4 m ρ) c)).trans ?_
  rw [held_4, show P (V4 m ρ) c = P (launch m) c from W4_args m ρ c main_arg7 (by decide)]

theorem held_rows : W7 m ρ c (Proc.devRef .tc main_v6_0)
    = face (rows (given m c).grad (given m c).X (given m c).G (given m c).S (given m c).D) := by
  refine ((W7_arr m ρ c 5).trans (array_rows (V6 m ρ) c)).trans ?_
  rw [held_t, held_x, held_g, held_s, held_d]

theorem held_sums : W7 m ρ c (Proc.devRef .tc main_v6_1) = (given m c).vec := by
  refine ((W7_arr m ρ c 6).trans (array_sums (V6 m ρ) c)).trans ?_
  rw [held_t, held_x, held_g, held_s]
  rfl

section
open Idealize.ShloMosaic.Tactic Idealize.ShloMosaic.Rounds Idealize.SL Idealize.SL.RA Idealize.SL.BI Idealize.SL.BI.BIBase Idealize.SL.BI.Laws Idealize.SL.ProofMode
open scoped Idealize.SL.BI

set_option backward.isDefEq.respectTransparency.types false in
/-- The run ends with every buffer of the program as the last call leaves it. -/
theorem contents : θ_run defs (onTc (τ := τ) (main (F := Ideal))) ⟨m, fun _ => 0, ρ⟩ (fun r => ∀ c : Dev nD,
    ∀ b ∈ Pipeline.ucRefs τ sig, r.2.mem ((c : Thread nD τ).1, b) = W7 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp _)
            ⊢ BI.own (emb₁ (initOf (Pipeline.cells cfgs cellOf_inj) (Pipeline.launchToks cfgs cellOf_inj))) from .rfl)
        iexact Hu
      iapply (show (BI.emp : sProp _) ⊢ bigSep Finset.univ (fun _ : Dev nD => (BI.emp : sProp _)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = W7 m ρ c b)
    (hfin := fun c s' => by
      iintro ⟨⟨Hh, -⟩, HSI⟩
      unfold StableHlo.held
      imodintro
      iapply (pointsTo_read_all (Pipeline.ucRefs τ sig) (fun b => ((c : Thread nD τ).1, b)) (W7 m ρ c) s')
      isplitl [Hh] <;> iassumption)
    (hQ := fun s h _ => h)

end

end Run

/-! ## The reference -/

section Host
open Cert.ProjectedIdeal Cert.ProjectedIdeal.Value

variable (m : (ℓ : Loc nD τ sig) → Buf (Elt Ideal) ℓ) (c : Dev nD)

abbrev taken : Given :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5),
    m ((c.tc : Thread nD τ).loc main_arg6), m ((c.tc : Thread nD τ).loc main_arg7), m ((c.tc : Thread nD τ).loc main_arg8),
    m ((c.tc : Thread nD τ).loc main_arg9)⟩

theorem host_rows : res_out4 m c = face (rows (taken m c).grad (taken m c).X (taken m c).G (taken m c).S (taken m c).D) := by
  funext i
  obtain ⟨r, j, rfl⟩ : ∃ (r : Fin 4096) (j : Fin 1024), i = ix2 r j := ⟨i 0, i 1, ValueIdx.eq_ix2 i⟩
  pointwise [res_main_v75]
  simp only [Fin.sum_univ_one]
  exact gradients (R := 4096) (taken m c).grad _ _ _ _ r j _ rfl

end Host

/-! ## The claim -/

theorem values : Cert.algebraic_ProjIdeal_ProjectedIdeal (hProjIdeal := Cert.ProjIdeal.Gen.facts)
    (hProjectedIdeal := Cert.ProjectedIdeal.Gen.facts) := fun m g m' g' _ hagree => by
  refine ⟨fun c => face (product (given m c).norm (given m c).M), fun c => face (product (given m c).norm (given m c).N),
    fun c => face (product (given m c).norm (given m c).O), fun c => face (over (given m c).norm (given m c).P),
    fun c => face (rows (given m c).grad (given m c).X (given m c).G (given m c).S (given m c).D), fun c => (given m c).vec,
    (θ_run Cert.ProjIdeal.defs _ _).mono (fun r h c => ?_) (contents m g),
    (θ_run Cert.ProjectedIdeal.defs _ _).mono (fun r h c => ?_) (Cert.ProjectedIdeal.Value.run (F := Ideal) m' g')⟩
  · have hb : ∀ (b : Ref Cert.ProjIdeal.sig .tc) {x}, Cert.ProjIdeal.Gen.W7 m g c (Proc.devRef .tc b) = x →
        ¬(Proc.devRef .tc b : DevRef Cert.ProjIdeal.τ Cert.ProjIdeal.sig).isScoped →
        r.2.mem ((c.tc : Thread Cert.ProjIdeal.nD Cert.ProjIdeal.τ).loc b) = x :=
      fun b _ e hs => (h c _ (Cert.ProjIdeal.Gen.mem_uc b hs)).trans e
    exact ⟨hb _ (held_gate m g c) (by decide), hb _ (held_heads m g c) (by decide), hb _ (held_forget m g c) (by decide),
      hb _ (held_over m g c) (by decide), hb _ (held_rows m g c) (by decide), hb _ (held_sums m g c) (by decide),
      hb _ (Cert.ProjIdeal.Gen.W7_main_arg0 m g c) (by decide), hb _ (Cert.ProjIdeal.Gen.W7_main_arg1 m g c) (by decide),
      hb _ (Cert.ProjIdeal.Gen.W7_main_arg2 m g c) (by decide), hb _ (Cert.ProjIdeal.Gen.W7_main_arg3 m g c) (by decide),
      hb _ (Cert.ProjIdeal.Gen.W7_main_arg4 m g c) (by decide), hb _ (Cert.ProjIdeal.Gen.W7_main_arg5 m g c) (by decide),
      hb _ (Cert.ProjIdeal.Gen.W7_main_arg6 m g c) (by decide), hb _ (Cert.ProjIdeal.Gen.W7_main_arg7 m g c) (by decide),
      hb _ (Cert.ProjIdeal.Gen.W7_main_arg8 m g c) (by decide), hb _ (Cert.ProjIdeal.Gen.W7_main_arg9 m g c) (by decide)⟩
  · obtain ⟨h0, h1, h2, h3, h4, h5, h6, h7, h8, h9⟩ := hagree c
    obtain ⟨hl, hk, hf, hw, hr, hs, hargs⟩ := h c
    have hgiven : taken m' c = given m c := by
      rw [taken, h0, h1, h2, h3, h4, h5, h6, h7, h8, h9]
    beta_reduce
    rw [← hgiven]
    refine ⟨hl.trans (funext fun i => ?_), hk.trans (funext fun i => ?_), hf.trans (funext fun i => ?_),
      hw.trans (funext fun i => ?_), hr.trans (host_rows m' c), hs.trans (funext fun i => ?_), hargs⟩
    · obtain ⟨r, j, rfl⟩ : ∃ (r : Fin 4096) (j : Fin 2048), i = ix2 r j := ⟨i 0, i 1, ValueIdx.eq_ix2 i⟩
      pointwise []
      rfl
    · obtain ⟨r, j, rfl⟩ : ∃ (r : Fin 4096) (j : Fin 2304), i = ix2 r j := ⟨i 0, i 1, ValueIdx.eq_ix2 i⟩
      pointwise []
      rfl
    · obtain ⟨r, j, rfl⟩ : ∃ (r : Fin 4096) (j : Fin 128), i = ix2 r j := ⟨i 0, i 1, ValueIdx.eq_ix2 i⟩
      pointwise []
      rfl
    · obtain ⟨r, j, rfl⟩ : ∃ (r : Fin 1024) (j : Fin 4480), i = ix2 r j := ⟨i 0, i 1, ValueIdx.eq_ix2 i⟩
      pointwise []
      rfl
    · refine Eq.trans ?_ (ladder (taken m' c).grad (taken m' c).X (taken m' c).G (taken m' c).S _ _)
      pointwise []
      rfl

end Cert.Norm.Proj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Gen.ReferenceIdeal.Run
public import proofs.«01_k».proof.Proof.Gen.Gather
public import proofs.«01_k».proof.Proof.Gen.Gather.Skeleton
public import proofs.«01_k».proof.Proof.Gen.Gather.Launch
public import proofs.«01_k».proof.Proof.Gen.Gather.Points
public import proofs.«01_k».proof.Proof.Gen.Gather.Frame
public import proofs.«01_k».proof.Proof.Gen.GatherIdeal
public import proofs.«01_k».proof.Proof.Gen.GatherIdeal.Skeleton
public import proofs.«01_k».proof.Proof.Gen.GatherIdeal.Launch
public import proofs.«01_k».proof.Proof.Gen.GatherIdeal.Points
public import proofs.«01_k».proof.Proof.Gen.GatherIdeal.Frame
public import proofs.«01_k».proof.Proof.Gen.GatherReferenceIdeal
public import proofs.«01_k».proof.Proof.Gen.GatherReference
public import proofs.«01_k».proof.Proof.Gen.GatherReferenceIdeal.Run
public import proofs.«01_k».proof.Proof.Gen.UpdateAda
public import proofs.«01_k».proof.Proof.Gen.UpdateAda.Frame
public import proofs.«01_k».proof.Proof.Gen.UpdateAdaIdeal
public import proofs.«01_k».proof.Proof.Gen.UpdateAdaIdeal.Frame
public import proofs.«01_k».proof.Proof.Gen.UpdatedAdaIdeal
public import proofs.«01_k».proof.Proof.Gen.UpdatedAdaIdeal.Run
public import proofs.«01_k».proof.Proof.Gen.UpdateSmall
public import proofs.«01_k».proof.Proof.Gen.UpdateSmall.Frame
public import proofs.«01_k».proof.Proof.Gen.UpdateSmallIdeal
public import proofs.«01_k».proof.Proof.Gen.UpdateSmallIdeal.Frame
public import proofs.«01_k».proof.Proof.Gen.UpdatedSmallIdeal
public import proofs.«01_k».proof.Proof.Gen.UpdatedSmallIdeal.Run
public import proofs.«01_k».proof.Proof.Gen.UpdateIn
public import proofs.«01_k».proof.Proof.Gen.UpdateIn.Frame
public import proofs.«01_k».proof.Proof.Gen.UpdateInIdeal
public import proofs.«01_k».proof.Proof.Gen.UpdateInIdeal.Frame
public import proofs.«01_k».proof.Proof.Gen.UpdatedInIdeal
public import proofs.«01_k».proof.Proof.Gen.UpdatedInIdeal.Run
public import proofs.«01_k».proof.Proof.Gen.UpdateBranch
public import proofs.«01_k».proof.Proof.Gen.UpdateBranch.Frame
public import proofs.«01_k».proof.Proof.Gen.UpdateBranchIdeal
public import proofs.«01_k».proof.Proof.Gen.UpdateBranchIdeal.Frame
public import proofs.«01_k».proof.Proof.Gen.UpdatedBranchIdeal
public import proofs.«01_k».proof.Proof.Gen.UpdatedBranchIdeal.Run
public import proofs.«01_k».proof.Proof.Gen.UpdateOut
public import proofs.«01_k».proof.Proof.Gen.UpdateOut.Frame
public import proofs.«01_k».proof.Proof.Gen.UpdateOutIdeal
public import proofs.«01_k».proof.Proof.Gen.UpdateOutIdeal.Frame
public import proofs.«01_k».proof.Proof.Gen.UpdatedOutIdeal
public import proofs.«01_k».proof.Proof.Gen.UpdatedOutIdeal.Run
public import proofs.«01_k».proof.Proof.Gen.UpdateFfnIn
public import proofs.«01_k».proof.Proof.Gen.UpdateFfnIn.Frame
public import proofs.«01_k».proof.Proof.Gen.UpdateFfnInIdeal
public import proofs.«01_k».proof.Proof.Gen.UpdateFfnInIdeal.Frame
public import proofs.«01_k».proof.Proof.Gen.UpdatedFfnInIdeal
public import proofs.«01_k».proof.Proof.Gen.UpdatedFfnInIdeal.Run
public import proofs.«01_k».proof.Proof.Gen.UpdateFfnOut
public import proofs.«01_k».proof.Proof.Gen.UpdateFfnOut.Frame
public import proofs.«01_k».proof.Proof.Gen.UpdateFfnOutIdeal
public import proofs.«01_k».proof.Proof.Gen.UpdateFfnOutIdeal.Frame
public import proofs.«01_k».proof.Proof.Gen.UpdatedFfnOutIdeal
public import proofs.«01_k».proof.Proof.Gen.UpdatedFfnOutIdeal.Run
public import proofs.«01_k».proof.Proof.Gen.Prenorm
public import proofs.«01_k».proof.Proof.Gen.Prenorm.Frame
public import proofs.«01_k».proof.Proof.Gen.PrenormIdeal
public import proofs.«01_k».proof.Proof.Gen.PrenormIdeal.Frame
public import proofs.«01_k».proof.Proof.Gen.PrenormedIdeal
public import proofs.«01_k».proof.Proof.Gen.PrenormedIdeal.Run
public import proofs.«01_k».proof.Proof.Gen.PrenormFwd
public import proofs.«01_k».proof.Proof.Gen.PrenormFwd.Frame
public import proofs.«01_k».proof.Proof.Gen.PrenormFwdIdeal
public import proofs.«01_k».proof.Proof.Gen.PrenormFwdIdeal.Frame
public import proofs.«01_k».proof.Proof.Gen.PrenormedFwdIdeal
public import proofs.«01_k».proof.Proof.Gen.PrenormedFwdIdeal.Run
public import proofs.«01_k».proof.Proof.Gen.Postnorm
public import proofs.«01_k».proof.Proof.Gen.Postnorm.Frame
public import proofs.«01_k».proof.Proof.Gen.PostnormIdeal
public import proofs.«01_k».proof.Proof.Gen.PostnormIdeal.Frame
public import proofs.«01_k».proof.Proof.Gen.PostnormedIdeal
public import proofs.«01_k».proof.Proof.Gen.PostnormedIdeal.Run
public import proofs.«01_k».proof.Proof.Gen.PostnormBwd
public import proofs.«01_k».proof.Proof.Gen.PostnormBwd.Frame
public import proofs.«01_k».proof.Proof.Gen.PostnormBwdIdeal
public import proofs.«01_k».proof.Proof.Gen.PostnormBwdIdeal.Frame
public import proofs.«01_k».proof.Proof.Gen.PostnormedBwdIdeal
public import proofs.«01_k».proof.Proof.Gen.PostnormedBwdIdeal.Run
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.LostIdeal
public import proofs.«01_k».proof.Proof.Gen.LostIdeal.Run
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnedIdeal
public import proofs.«01_k».proof.Proof.Gen.FfnedIdeal.Run
public import proofs.«01_k».proof.Proof.Gen.FfnBwd
public import proofs.«01_k».proof.Proof.Gen.FfnBwd.Frame
public import proofs.«01_k».proof.Proof.Gen.FfnBwdIdeal
public import proofs.«01_k».proof.Proof.Gen.FfnBwdIdeal.Frame
public import proofs.«01_k».proof.Proof.Gen.FfnedBwdIdeal
public import proofs.«01_k».proof.Proof.Gen.FfnedBwdIdeal.Run
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixedIdeal
public import proofs.«01_k».proof.Proof.Gen.MixedIdeal.Run
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjectedIdeal
public import proofs.«01_k».proof.Proof.Gen.ProjectedIdeal.Run
public import proofs.«01_k».proof.Proof.Value
public import proofs.«01_k».proof.Proof.GatherValue
public import proofs.«01_k».proof.Proof.UpdateAda
public import proofs.«01_k».proof.Proof.UpdateSmall
public import proofs.«01_k».proof.Proof.UpdateIn
public import proofs.«01_k».proof.Proof.UpdateBranch
public import proofs.«01_k».proof.Proof.UpdateOut
public import proofs.«01_k».proof.Proof.UpdateFfnIn
public import proofs.«01_k».proof.Proof.UpdateFfnOut
public import proofs.«01_k».proof.Proof.Prenorm
public import proofs.«01_k».proof.Proof.Norms
public import proofs.«01_k».proof.Proof.Backward
public import proofs.«01_k».proof.Proof.Head
public import proofs.«01_k».proof.Proof.SublayerRun
public import proofs.«01_k».proof.Proof.Gate
public import proofs.«01_k».proof.Proof.MixRun
public import proofs.«01_k».proof.Proof.Proj
public import Idealize.ShloMosaic.Adequacy
public import Idealize.ShloMosaic.Init

@[expose] public section

noncomputable section

namespace Cert.Proof

open Idealize.ShloMosaic Idealize.SL.Sem Cert.Kernel

theorem frame_kernelIdeal : Cert.quiescent_KernelIdeal (hKernelIdeal := Cert.KernelIdeal.Gen.facts) := fun m g _ =>
  (θ_run Cert.KernelIdeal.defs _ _).mono
    (fun _ ⟨h, hs⟩ => ⟨fun c => ⟨(h c 0).1, (h c 1).1, (h c 2).1, (h c 3).1, (h c 4).1, (h c 5).1⟩, hs⟩) (Cert.Exchange.run_main (F := Ideal) m g)

theorem frame_kernel : Cert.quiescent_Kernel (hKernel := Cert.Kernel.Gen.facts) := fun m g _ =>
  (θ_run Cert.KernelIdeal.defs _ _).mono
    (fun _ ⟨h, hs⟩ => ⟨fun c => ⟨(h c 0).1, (h c 1).1, (h c 2).1, (h c 3).1, (h c 4).1, (h c 5).1⟩, hs⟩) (Cert.Exchange.run_main (F := Bits) m g)

theorem frame_referenceIdeal : Cert.quiescent_ReferenceIdeal (hReferenceIdeal := Cert.ReferenceIdeal.Gen.facts) := fun m g _ =>
  (θ_run Cert.ReferenceIdeal.defs _ _).mono
    (fun r h => ⟨fun c => (h c).2.2.2.2.2.2, sem_eq_zero_of_no_sems rfl r.2⟩) (Cert.ReferenceIdeal.Value.run (F := Ideal) m g)

theorem frame_reference : Cert.quiescent_Reference (hReference := Cert.Reference.Gen.facts) := fun m g _ =>
  (θ_run Cert.ReferenceIdeal.defs _ _).mono
    (fun r h => ⟨fun c => (h c).2.2.2.2.2.2, sem_eq_zero_of_no_sems rfl r.2⟩) (Cert.ReferenceIdeal.Value.run (F := Bits) m g)

theorem frame_gatherIdeal : Cert.quiescent_GatherIdeal (hGatherIdeal := Cert.GatherIdeal.Gen.facts) := fun m g _ =>
  (θ_run Cert.GatherIdeal.defs _ _).mono
    (fun _ ⟨h, hs⟩ => ⟨fun c => ⟨(h c 0).1, (h c 1).1, (h c 2).1, (h c 3).1, (h c 4).1, (h c 5).1⟩, hs⟩) (Cert.Spread.run_main (F := Ideal) m g)

theorem frame_gather : Cert.quiescent_Gather (hGather := Cert.Gather.Gen.facts) := fun m g _ =>
  (θ_run Cert.GatherIdeal.defs _ _).mono
    (fun _ ⟨h, hs⟩ => ⟨fun c => ⟨(h c 0).1, (h c 1).1, (h c 2).1, (h c 3).1, (h c 4).1, (h c 5).1⟩, hs⟩) (Cert.Spread.run_main (F := Bits) m g)

theorem frame_gatherReferenceIdeal : Cert.quiescent_GatherReferenceIdeal (hGatherReferenceIdeal := Cert.GatherReferenceIdeal.Gen.facts) := fun m g _ =>
  (θ_run Cert.GatherReferenceIdeal.defs _ _).mono
    (fun r h => ⟨fun c => (h c).2.2.2.2.2.2, sem_eq_zero_of_no_sems rfl r.2⟩) (Cert.GatherReferenceIdeal.Value.run (F := Ideal) m g)

theorem frame_gatherReference : Cert.quiescent_GatherReference (hGatherReference := Cert.GatherReference.Gen.facts) := fun m g _ =>
  (θ_run Cert.GatherReferenceIdeal.defs _ _).mono
    (fun r h => ⟨fun c => (h c).2.2.2.2.2.2, sem_eq_zero_of_no_sems rfl r.2⟩) (Cert.GatherReferenceIdeal.Value.run (F := Bits) m g)

theorem frame_updatedAdaIdeal : Cert.quiescent_UpdatedAdaIdeal (hUpdatedAdaIdeal := Cert.UpdatedAdaIdeal.Gen.facts) := fun m g _ =>
  (θ_run Cert.UpdatedAdaIdeal.defs _ _).mono
    (fun r h => ⟨fun c => (h c).2.2.2.2, sem_eq_zero_of_no_sems rfl r.2⟩) (Cert.UpdatedAdaIdeal.Value.run (F := Ideal) m g)

theorem frame_updatedSmallIdeal : Cert.quiescent_UpdatedSmallIdeal (hUpdatedSmallIdeal := Cert.UpdatedSmallIdeal.Gen.facts) := fun m g _ =>
  (θ_run Cert.UpdatedSmallIdeal.defs _ _).mono
    (fun r h => ⟨fun c => (h c).2.2.2.2, sem_eq_zero_of_no_sems rfl r.2⟩) (Cert.UpdatedSmallIdeal.Value.run (F := Ideal) m g)

theorem frame_updatedInIdeal : Cert.quiescent_UpdatedInIdeal (hUpdatedInIdeal := Cert.UpdatedInIdeal.Gen.facts) := fun m g _ =>
  (θ_run Cert.UpdatedInIdeal.defs _ _).mono
    (fun r h => ⟨fun c => (h c).2.2.2.2, sem_eq_zero_of_no_sems rfl r.2⟩) (Cert.UpdatedInIdeal.Value.run (F := Ideal) m g)

theorem frame_updatedBranchIdeal : Cert.quiescent_UpdatedBranchIdeal (hUpdatedBranchIdeal := Cert.UpdatedBranchIdeal.Gen.facts) := fun m g _ =>
  (θ_run Cert.UpdatedBranchIdeal.defs _ _).mono
    (fun r h => ⟨fun c => (h c).2.2.2.2, sem_eq_zero_of_no_sems rfl r.2⟩) (Cert.UpdatedBranchIdeal.Value.run (F := Ideal) m g)

theorem frame_updatedOutIdeal : Cert.quiescent_UpdatedOutIdeal (hUpdatedOutIdeal := Cert.UpdatedOutIdeal.Gen.facts) := fun m g _ =>
  (θ_run Cert.UpdatedOutIdeal.defs _ _).mono
    (fun r h => ⟨fun c => (h c).2.2.2.2, sem_eq_zero_of_no_sems rfl r.2⟩) (Cert.UpdatedOutIdeal.Value.run (F := Ideal) m g)

theorem frame_updatedFfnInIdeal : Cert.quiescent_UpdatedFfnInIdeal (hUpdatedFfnInIdeal := Cert.UpdatedFfnInIdeal.Gen.facts) := fun m g _ =>
  (θ_run Cert.UpdatedFfnInIdeal.defs _ _).mono
    (fun r h => ⟨fun c => (h c).2.2.2.2, sem_eq_zero_of_no_sems rfl r.2⟩) (Cert.UpdatedFfnInIdeal.Value.run (F := Ideal) m g)

theorem frame_updatedFfnOutIdeal : Cert.quiescent_UpdatedFfnOutIdeal (hUpdatedFfnOutIdeal := Cert.UpdatedFfnOutIdeal.Gen.facts) := fun m g _ =>
  (θ_run Cert.UpdatedFfnOutIdeal.defs _ _).mono
    (fun r h => ⟨fun c => (h c).2.2.2.2, sem_eq_zero_of_no_sems rfl r.2⟩) (Cert.UpdatedFfnOutIdeal.Value.run (F := Ideal) m g)

theorem frame_prenormedIdeal : Cert.quiescent_PrenormedIdeal (hPrenormedIdeal := Cert.PrenormedIdeal.Gen.facts) := fun m g _ =>
  (θ_run Cert.PrenormedIdeal.defs _ _).mono
    (fun r h => ⟨fun c => (h c).2.2, sem_eq_zero_of_no_sems rfl r.2⟩) (Cert.PrenormedIdeal.Value.run (F := Ideal) m g)

theorem frame_prenormedFwdIdeal : Cert.quiescent_PrenormedFwdIdeal (hPrenormedFwdIdeal := Cert.PrenormedFwdIdeal.Gen.facts) := fun m g _ =>
  (θ_run Cert.PrenormedFwdIdeal.defs _ _).mono
    (fun r h => ⟨fun c => (h c).2, sem_eq_zero_of_no_sems rfl r.2⟩) (Cert.PrenormedFwdIdeal.Value.run (F := Ideal) m g)

theorem frame_postnormedIdeal : Cert.quiescent_PostnormedIdeal (hPostnormedIdeal := Cert.PostnormedIdeal.Gen.facts) := fun m g _ =>
  (θ_run Cert.PostnormedIdeal.defs _ _).mono
    (fun r h => ⟨fun c => (h c).2, sem_eq_zero_of_no_sems rfl r.2⟩) (Cert.PostnormedIdeal.Value.run (F := Ideal) m g)

theorem frame_postnormedBwdIdeal : Cert.quiescent_PostnormedBwdIdeal (hPostnormedBwdIdeal := Cert.PostnormedBwdIdeal.Gen.facts) := fun m g _ =>
  (θ_run Cert.PostnormedBwdIdeal.defs _ _).mono
    (fun r h => ⟨fun c => (h c).2.2, sem_eq_zero_of_no_sems rfl r.2⟩) (Cert.PostnormedBwdIdeal.Value.run (F := Ideal) m g)

theorem frame_lostIdeal : Cert.quiescent_LostIdeal (hLostIdeal := Cert.LostIdeal.Gen.facts) := fun m g _ =>
  (θ_run Cert.LostIdeal.defs _ _).mono
    (fun r h => ⟨fun c => (h c).2.2, sem_eq_zero_of_no_sems rfl r.2⟩) (Cert.LostIdeal.Value.run (F := Ideal) m g)

theorem frame_ffnedIdeal : Cert.quiescent_FfnedIdeal (hFfnedIdeal := Cert.FfnedIdeal.Gen.facts) := fun m g _ =>
  (θ_run Cert.FfnedIdeal.defs _ _).mono
    (fun r h => ⟨fun c => (h c).2.2.2.2.2, sem_eq_zero_of_no_sems rfl r.2⟩) (Cert.FfnedIdeal.Value.run (F := Ideal) m g)

theorem frame_ffnedBwdIdeal : Cert.quiescent_FfnedBwdIdeal (hFfnedBwdIdeal := Cert.FfnedBwdIdeal.Gen.facts) := fun m g _ =>
  (θ_run Cert.FfnedBwdIdeal.defs _ _).mono
    (fun r h => ⟨fun c => (h c).2.2.2.2, sem_eq_zero_of_no_sems rfl r.2⟩) (Cert.FfnedBwdIdeal.Value.run (F := Ideal) m g)

theorem frame_mixedIdeal : Cert.quiescent_MixedIdeal (hMixedIdeal := Cert.MixedIdeal.Gen.facts) := fun m g _ =>
  (θ_run Cert.MixedIdeal.defs _ _).mono
    (fun r h => ⟨fun c => (h c).2.2.2.2.2.2.2.2, sem_eq_zero_of_no_sems rfl r.2⟩) (Cert.MixedIdeal.Value.run (F := Ideal) m g)

theorem frame_projectedIdeal : Cert.quiescent_ProjectedIdeal (hProjectedIdeal := Cert.ProjectedIdeal.Gen.facts) := fun m g _ =>
  (θ_run Cert.ProjectedIdeal.defs _ _).mono
    (fun r h => ⟨fun c => (h c).2.2.2.2.2.2, sem_eq_zero_of_no_sems rfl r.2⟩) (Cert.ProjectedIdeal.Value.run (F := Ideal) m g)

theorem claim : Cert.Claim := ⟨Cert.Kernel.Gen.facts, Cert.KernelIdeal.Gen.facts, Cert.ReferenceIdeal.Gen.facts, Cert.Reference.Gen.facts,
  Cert.Gather.Gen.facts, Cert.GatherIdeal.Gen.facts, Cert.GatherReferenceIdeal.Gen.facts, Cert.GatherReference.Gen.facts,
  Cert.UpdateAda.Gen.facts, Cert.UpdateAdaIdeal.Gen.facts, Cert.UpdatedAdaIdeal.Gen.facts,
  Cert.UpdateSmall.Gen.facts, Cert.UpdateSmallIdeal.Gen.facts, Cert.UpdatedSmallIdeal.Gen.facts,
  Cert.UpdateIn.Gen.facts, Cert.UpdateInIdeal.Gen.facts, Cert.UpdatedInIdeal.Gen.facts,
  Cert.UpdateBranch.Gen.facts, Cert.UpdateBranchIdeal.Gen.facts, Cert.UpdatedBranchIdeal.Gen.facts,
  Cert.UpdateOut.Gen.facts, Cert.UpdateOutIdeal.Gen.facts, Cert.UpdatedOutIdeal.Gen.facts,
  Cert.UpdateFfnIn.Gen.facts, Cert.UpdateFfnInIdeal.Gen.facts, Cert.UpdatedFfnInIdeal.Gen.facts,
  Cert.UpdateFfnOut.Gen.facts, Cert.UpdateFfnOutIdeal.Gen.facts, Cert.UpdatedFfnOutIdeal.Gen.facts,
  Cert.Prenorm.Gen.facts, Cert.PrenormIdeal.Gen.facts, Cert.PrenormedIdeal.Gen.facts,
  Cert.PrenormFwd.Gen.facts, Cert.PrenormFwdIdeal.Gen.facts, Cert.PrenormedFwdIdeal.Gen.facts,
  Cert.Postnorm.Gen.facts, Cert.PostnormIdeal.Gen.facts, Cert.PostnormedIdeal.Gen.facts,
  Cert.PostnormBwd.Gen.facts, Cert.PostnormBwdIdeal.Gen.facts, Cert.PostnormedBwdIdeal.Gen.facts,
  Cert.Loss.Gen.facts, Cert.LossIdeal.Gen.facts, Cert.LostIdeal.Gen.facts,
  Cert.Ffn.Gen.facts, Cert.FfnIdeal.Gen.facts, Cert.FfnedIdeal.Gen.facts,
  Cert.FfnBwd.Gen.facts, Cert.FfnBwdIdeal.Gen.facts, Cert.FfnedBwdIdeal.Gen.facts,
  Cert.Mix.Gen.facts, Cert.MixIdeal.Gen.facts, Cert.MixedIdeal.Gen.facts,
  Cert.Proj.Gen.facts, Cert.ProjIdeal.Gen.facts, Cert.ProjectedIdeal.Gen.facts,
  frame_kernel, frame_kernelIdeal, frame_referenceIdeal, frame_reference,
  frame_gather, frame_gatherIdeal, frame_gatherReferenceIdeal, frame_gatherReference,
  fun m g _ => Cert.UpdateAda.Gen.frame m g, fun m g _ => Cert.UpdateAdaIdeal.Gen.frame m g, frame_updatedAdaIdeal,
  fun m g _ => Cert.UpdateSmall.Gen.frame m g, fun m g _ => Cert.UpdateSmallIdeal.Gen.frame m g, frame_updatedSmallIdeal,
  fun m g _ => Cert.UpdateIn.Gen.frame m g, fun m g _ => Cert.UpdateInIdeal.Gen.frame m g, frame_updatedInIdeal,
  fun m g _ => Cert.UpdateBranch.Gen.frame m g, fun m g _ => Cert.UpdateBranchIdeal.Gen.frame m g, frame_updatedBranchIdeal,
  fun m g _ => Cert.UpdateOut.Gen.frame m g, fun m g _ => Cert.UpdateOutIdeal.Gen.frame m g, frame_updatedOutIdeal,
  fun m g _ => Cert.UpdateFfnIn.Gen.frame m g, fun m g _ => Cert.UpdateFfnInIdeal.Gen.frame m g, frame_updatedFfnInIdeal,
  fun m g _ => Cert.UpdateFfnOut.Gen.frame m g, fun m g _ => Cert.UpdateFfnOutIdeal.Gen.frame m g, frame_updatedFfnOutIdeal,
  fun m g _ => Cert.Prenorm.Gen.frame m g, fun m g _ => Cert.PrenormIdeal.Gen.frame m g, frame_prenormedIdeal,
  fun m g _ => Cert.PrenormFwd.Gen.frame m g, fun m g _ => Cert.PrenormFwdIdeal.Gen.frame m g, frame_prenormedFwdIdeal,
  fun m g _ => Cert.Postnorm.Gen.frame m g, fun m g _ => Cert.PostnormIdeal.Gen.frame m g, frame_postnormedIdeal,
  fun m g _ => Cert.PostnormBwd.Gen.frame m g, fun m g _ => Cert.PostnormBwdIdeal.Gen.frame m g, frame_postnormedBwdIdeal,
  fun m g _ => Cert.Loss.Gen.frame m g, fun m g _ => Cert.LossIdeal.Gen.frame m g, frame_lostIdeal,
  fun m g _ => Cert.Ffn.Gen.frame m g, fun m g _ => Cert.FfnIdeal.Gen.frame m g, frame_ffnedIdeal,
  fun m g _ => Cert.FfnBwd.Gen.frame m g, fun m g _ => Cert.FfnBwdIdeal.Gen.frame m g, frame_ffnedBwdIdeal,
  fun m g _ => Cert.Mix.Gen.frame m g, fun m g _ => Cert.MixIdeal.Gen.frame m g, frame_mixedIdeal,
  fun m g _ => Cert.Proj.Gen.frame m g, fun m g _ => Cert.ProjIdeal.Gen.frame m g, frame_projectedIdeal, trivial,
  fun m g m' g' _ h => Cert.Exchange.values (F := Ideal) m g m' g' h,
  fun m g m' g' _ h => Cert.Exchange.values (F := Bits) m g m' g' h, trivial,
  fun m g m' g' _ h => Cert.Spread.values (F := Ideal) m g m' g' h,
  fun m g m' g' _ h => Cert.Spread.values (F := Bits) m g m' g' h,
  trivial, Cert.Adam.Ada.values,
  trivial, Cert.Adam.Small.values,
  trivial, Cert.Adam.In.values,
  trivial, Cert.Adam.Branch.values,
  trivial, Cert.Adam.Out.values,
  trivial, Cert.Adam.FfnIn.values,
  trivial, Cert.Adam.FfnOut.values,
  trivial, Cert.Norm.values,
  trivial, Cert.Norm.Before.values,
  trivial, Cert.Norm.After.values,
  trivial, Cert.Norm.Backward.values,
  trivial, Cert.Norm.Head.values,
  trivial, Cert.Norm.Sublayer.values,
  trivial, Cert.Norm.Gate.values,
  trivial, Cert.Norm.Mix.values, trivial, Cert.Norm.Proj.values⟩

end Cert.Proof

end
